-- ==== Defs.lean ====
def Pre_Kernel [hPre_tables_in_range : Cert.Pre_tables_in_range.Facts] (m : (ℓ : Loc Cert.Kernel.nD Cert.Kernel.τ Cert.Kernel.sig) → Buf (Elt Bits) ℓ) : Prop :=
  ∀ c : Dev Cert.Kernel.nD,
    (Cert.Pre_tables_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_tables_in_range : Cert.Pre_tables_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_tables_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_in_range [hPre_tables_in_range : Cert.Pre_tables_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Shrink [hPre_shrink_tables_in_range : Cert.Pre_shrink_tables_in_range.Facts] (m : (ℓ : Loc Cert.Shrink.nD Cert.Shrink.τ Cert.Shrink.sig) → Buf (Elt Bits) ℓ) : Prop :=
  ∀ c : Dev Cert.Shrink.nD,
    (Cert.Pre_shrink_tables_in_range.fn (F := Bits) (m ((c.tc : Thread Cert.Shrink.nD Cert.Shrink.τ).loc Cert.Shrink.main_arg0)) (m ((c.tc : Thread Cert.Shrink.nD Cert.Shrink.τ).loc Cert.Shrink.main_arg1)) (m ((c.tc : Thread Cert.Shrink.nD Cert.Shrink.τ).loc Cert.Shrink.main_arg2)) (m ((c.tc : Thread Cert.Shrink.nD Cert.Shrink.τ).loc Cert.Shrink.main_arg3)) (m ((c.tc : Thread Cert.Shrink.nD Cert.Shrink.τ).loc Cert.Shrink.main_arg4)) (m ((c.tc : Thread Cert.Shrink.nD Cert.Shrink.τ).loc Cert.Shrink.main_arg5)) (m ((c.tc : Thread Cert.Shrink.nD Cert.Shrink.τ).loc Cert.Shrink.main_arg6)) (m ((c.tc : Thread Cert.Shrink.nD Cert.Shrink.τ).loc Cert.Shrink.main_arg7))) = (fun _ => 1#1)

def Pre_ShrinkIdeal [hPre_shrink_tables_in_range : Cert.Pre_shrink_tables_in_range.Facts] (m : (ℓ : Loc Cert.ShrinkIdeal.nD Cert.ShrinkIdeal.τ Cert.ShrinkIdeal.sig) → Buf (Elt Ideal) ℓ) : Prop :=
  ∀ c : Dev Cert.ShrinkIdeal.nD,
    (Cert.Pre_shrink_tables_in_range.fn (F := Ideal) (m ((c.tc : Thread Cert.ShrinkIdeal.nD Cert.ShrinkIdeal.τ).loc Cert.ShrinkIdeal.main_arg0)) (m ((c.tc : Thread Cert.ShrinkIdeal.nD Cert.ShrinkIdeal.τ).loc Cert.ShrinkIdeal.main_arg1)) (m ((c.tc : Thread Cert.ShrinkIdeal.nD Cert.ShrinkIdeal.τ).loc Cert.ShrinkIdeal.main_arg2)) (m ((c.tc : Thread Cert.ShrinkIdeal.nD Cert.ShrinkIdeal.τ).loc Cert.ShrinkIdeal.main_arg3)) (m ((c.tc : Thread Cert.ShrinkIdeal.nD Cert.ShrinkIdeal.τ).loc Cert.ShrinkIdeal.main_arg4)) (m ((c.tc : Thread Cert.ShrinkIdeal.nD Cert.ShrinkIdeal.τ).loc Cert.ShrinkIdeal.main_arg5)) (m ((c.tc : Thread Cert.ShrinkIdeal.nD Cert.ShrinkIdeal.τ).loc Cert.ShrinkIdeal.main_arg6)) (m ((c.tc : Thread Cert.ShrinkIdeal.nD Cert.ShrinkIdeal.τ).loc Cert.ShrinkIdeal.main_arg7))) = (fun _ => 1#1)

def Pre_ShrinkReferenceIdeal (m : (ℓ : Loc Cert.ShrinkReferenceIdeal.nD Cert.ShrinkReferenceIdeal.τ Cert.ShrinkReferenceIdeal.sig) → Buf (Elt Ideal) ℓ) : Prop :=
  True

def Pre_ShrinkReferenceIdeal_shrink_tables_in_range [hPre_shrink_tables_in_range : Cert.Pre_shrink_tables_in_range.Facts] (m : (ℓ : Loc Cert.ShrinkReferenceIdeal.nD Cert.ShrinkReferenceIdeal.τ Cert.ShrinkReferenceIdeal.sig) → Buf (Elt Ideal) ℓ) : Prop :=
  ∀ c : Dev Cert.ShrinkReferenceIdeal.nD,
    (Cert.Pre_shrink_tables_in_range.fn (F := Ideal) (m ((c.tc : Thread Cert.ShrinkReferenceIdeal.nD Cert.ShrinkReferenceIdeal.τ).loc Cert.ShrinkReferenceIdeal.main_arg0)) (m ((c.tc : Thread Cert.ShrinkReferenceIdeal.nD Cert.ShrinkReferenceIdeal.τ).loc Cert.ShrinkReferenceIdeal.main_arg1)) (m ((c.tc : Thread Cert.ShrinkReferenceIdeal.nD Cert.ShrinkReferenceIdeal.τ).loc Cert.ShrinkReferenceIdeal.main_arg2)) (m ((c.tc : Thread Cert.ShrinkReferenceIdeal.nD Cert.ShrinkReferenceIdeal.τ).loc Cert.ShrinkReferenceIdeal.main_arg3)) (m ((c.tc : Thread Cert.ShrinkReferenceIdeal.nD Cert.ShrinkReferenceIdeal.τ).loc Cert.ShrinkReferenceIdeal.main_arg4)) (m ((c.tc : Thread Cert.ShrinkReferenceIdeal.nD Cert.ShrinkReferenceIdeal.τ).loc Cert.ShrinkReferenceIdeal.main_arg5)) (m ((c.tc : Thread Cert.ShrinkReferenceIdeal.nD Cert.ShrinkReferenceIdeal.τ).loc Cert.ShrinkReferenceIdeal.main_arg6)) (m ((c.tc : Thread Cert.ShrinkReferenceIdeal.nD Cert.ShrinkReferenceIdeal.τ).loc Cert.ShrinkReferenceIdeal.main_arg7))) = (fun _ => 1#1)

def quiescent_Kernel [hKernel : Cert.Kernel.Facts] [hPre_tables_in_range : Cert.Pre_tables_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tables_in_range [hReferenceIdeal : Cert.ReferenceIdeal.Facts] [hPre_tables_in_range : Cert.Pre_tables_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Shrink [hShrink : Cert.Shrink.Facts] [hPre_shrink_tables_in_range : Cert.Pre_shrink_tables_in_range.Facts] : Prop :=
  ∀ (m : (ℓ : Loc Cert.Shrink.nD Cert.Shrink.τ Cert.Shrink.sig) → Buf (Elt Bits) ℓ) (g : Dev Cert.Shrink.nD → PrngReg), Pre_Shrink m →
    θ_run (Cert.Shrink.defs (F := Bits)) (onTc (τ := Cert.Shrink.τ) (Cert.Shrink.main (F := Bits))) ⟨m, fun _ => 0, g⟩ (fun r => (∀ c : Dev Cert.Shrink.nD,
      r.2.mem ((c.tc : Thread Cert.Shrink.nD Cert.Shrink.τ).loc Cert.Shrink.main_arg0) = m ((c.tc : Thread Cert.Shrink.nD Cert.Shrink.τ).loc Cert.Shrink.main_arg0)
      ∧ r.2.mem ((c.tc : Thread Cert.Shrink.nD Cert.Shrink.τ).loc Cert.Shrink.main_arg1) = m ((c.tc : Thread Cert.Shrink.nD Cert.Shrink.τ).loc Cert.Shrink.main_arg1)
      ∧ r.2.mem ((c.tc : Thread Cert.Shrink.nD Cert.Shrink.τ).loc Cert.Shrink.main_arg2) = m ((c.tc : Thread Cert.Shrink.nD Cert.Shrink.τ).loc Cert.Shrink.main_arg2)
      ∧ r.2.mem ((c.tc : Thread Cert.Shrink.nD Cert.Shrink.τ).loc Cert.Shrink.main_arg3) = m ((c.tc : Thread Cert.Shrink.nD Cert.Shrink.τ).loc Cert.Shrink.main_arg3)
      ∧ r.2.mem ((c.tc : Thread Cert.Shrink.nD Cert.Shrink.τ).loc Cert.Shrink.main_arg4) = m ((c.tc : Thread Cert.Shrink.nD Cert.Shrink.τ).loc Cert.Shrink.main_arg4)
      ∧ r.2.mem ((c.tc : Thread Cert.Shrink.nD Cert.Shrink.τ).loc Cert.Shrink.main_arg5) = m ((c.tc : Thread Cert.Shrink.nD Cert.Shrink.τ).loc Cert.Shrink.main_arg5)
      ∧ r.2.mem ((c.tc : Thread Cert.Shrink.nD Cert.Shrink.τ).loc Cert.Shrink.main_arg6) = m ((c.tc : Thread Cert.Shrink.nD Cert.Shrink.τ).loc Cert.Shrink.main_arg6)
      ∧ r.2.mem ((c.tc : Thread Cert.Shrink.nD Cert.Shrink.τ).loc Cert.Shrink.main_arg7) = m ((c.tc : Thread Cert.Shrink.nD Cert.Shrink.τ).loc Cert.Shrink.main_arg7))
      ∧ r.2.sem = fun _ => 0)

def quiescent_ShrinkIdeal [hShrinkIdeal : Cert.ShrinkIdeal.Facts] [hPre_shrink_tables_in_range : Cert.Pre_shrink_tables_in_range.Facts] : Prop :=
  ∀ (m : (ℓ : Loc Cert.ShrinkIdeal.nD Cert.ShrinkIdeal.τ Cert.ShrinkIdeal.sig) → Buf (Elt Ideal) ℓ) (g : Dev Cert.ShrinkIdeal.nD → PrngReg), Pre_ShrinkIdeal m →
    θ_run (Cert.ShrinkIdeal.defs (F := Ideal)) (onTc (τ := Cert.ShrinkIdeal.τ) (Cert.ShrinkIdeal.main (F := Ideal))) ⟨m, fun _ => 0, g⟩ (fun r => (∀ c : Dev Cert.ShrinkIdeal.nD,
      r.2.mem ((c.tc : Thread Cert.ShrinkIdeal.nD Cert.ShrinkIdeal.τ).loc Cert.ShrinkIdeal.main_arg0) = m ((c.tc : Thread Cert.ShrinkIdeal.nD Cert.ShrinkIdeal.τ).loc Cert.ShrinkIdeal.main_arg0)
      ∧ r.2.mem ((c.tc : Thread Cert.ShrinkIdeal.nD Cert.ShrinkIdeal.τ).loc Cert.ShrinkIdeal.main_arg1) = m ((c.tc : Thread Cert.ShrinkIdeal.nD Cert.ShrinkIdeal.τ).loc Cert.ShrinkIdeal.main_arg1)
      ∧ r.2.mem ((c.tc : Thread Cert.ShrinkIdeal.nD Cert.ShrinkIdeal.τ).loc Cert.ShrinkIdeal.main_arg2) = m ((c.tc : Thread Cert.ShrinkIdeal.nD Cert.ShrinkIdeal.τ).loc Cert.ShrinkIdeal.main_arg2)
      ∧ r.2.mem ((c.tc : Thread Cert.ShrinkIdeal.nD Cert.ShrinkIdeal.τ).loc Cert.ShrinkIdeal.main_arg3) = m ((c.tc : Thread Cert.ShrinkIdeal.nD Cert.ShrinkIdeal.τ).loc Cert.ShrinkIdeal.main_arg3)
      ∧ r.2.mem ((c.tc : Thread Cert.ShrinkIdeal.nD Cert.ShrinkIdeal.τ).loc Cert.ShrinkIdeal.main_arg4) = m ((c.tc : Thread Cert.ShrinkIdeal.nD Cert.ShrinkIdeal.τ).loc Cert.ShrinkIdeal.main_arg4)
      ∧ r.2.mem ((c.tc : Thread Cert.ShrinkIdeal.nD Cert.ShrinkIdeal.τ).loc Cert.ShrinkIdeal.main_arg5) = m ((c.tc : Thread Cert.ShrinkIdeal.nD Cert.ShrinkIdeal.τ).loc Cert.ShrinkIdeal.main_arg5)
      ∧ r.2.mem ((c.tc : Thread Cert.ShrinkIdeal.nD Cert.ShrinkIdeal.τ).loc Cert.ShrinkIdeal.main_arg6) = m ((c.tc : Thread Cert.ShrinkIdeal.nD Cert.ShrinkIdeal.τ).loc Cert.ShrinkIdeal.main_arg6)
      ∧ r.2.mem ((c.tc : Thread Cert.ShrinkIdeal.nD Cert.ShrinkIdeal.τ).loc Cert.ShrinkIdeal.main_arg7) = m ((c.tc : Thread Cert.ShrinkIdeal.nD Cert.ShrinkIdeal.τ).loc Cert.ShrinkIdeal.main_arg7))
      ∧ r.2.sem = fun _ => 0)

def quiescent_ShrinkReferenceIdeal [hShrinkReferenceIdeal : Cert.ShrinkReferenceIdeal.Facts] : Prop :=
  ∀ (m : (ℓ : Loc Cert.ShrinkReferenceIdeal.nD Cert.ShrinkReferenceIdeal.τ Cert.ShrinkReferenceIdeal.sig) → Buf (Elt Ideal) ℓ) (g : Dev Cert.ShrinkReferenceIdeal.nD → PrngReg), Pre_ShrinkReferenceIdeal m →
    θ_run (Cert.ShrinkReferenceIdeal.defs (F := Ideal)) (onTc (τ := Cert.ShrinkReferenceIdeal.τ) (Cert.ShrinkReferenceIdeal.main (F := Ideal))) ⟨m, fun _ => 0, g⟩ (fun r => (∀ c : Dev Cert.ShrinkReferenceIdeal.nD,
      r.2.mem ((c.tc : Thread Cert.ShrinkReferenceIdeal.nD Cert.ShrinkReferenceIdeal.τ).loc Cert.ShrinkReferenceIdeal.main_arg0) = m ((c.tc : Thread Cert.ShrinkReferenceIdeal.nD Cert.ShrinkReferenceIdeal.τ).loc Cert.ShrinkReferenceIdeal.main_arg0)
      ∧ r.2.mem ((c.tc : Thread Cert.ShrinkReferenceIdeal.nD Cert.ShrinkReferenceIdeal.τ).loc Cert.ShrinkReferenceIdeal.main_arg1) = m ((c.tc : Thread Cert.ShrinkReferenceIdeal.nD Cert.ShrinkReferenceIdeal.τ).loc Cert.ShrinkReferenceIdeal.main_arg1)
      ∧ r.2.mem ((c.tc : Thread Cert.ShrinkReferenceIdeal.nD Cert.ShrinkReferenceIdeal.τ).loc Cert.ShrinkReferenceIdeal.main_arg2) = m ((c.tc : Thread Cert.ShrinkReferenceIdeal.nD Cert.ShrinkReferenceIdeal.τ).loc Cert.ShrinkReferenceIdeal.main_arg2)
      ∧ r.2.mem ((c.tc : Thread Cert.ShrinkReferenceIdeal.nD Cert.ShrinkReferenceIdeal.τ).loc Cert.ShrinkReferenceIdeal.main_arg3) = m ((c.tc : Thread Cert.ShrinkReferenceIdeal.nD Cert.ShrinkReferenceIdeal.τ).loc Cert.ShrinkReferenceIdeal.main_arg3)
      ∧ r.2.mem ((c.tc : Thread Cert.ShrinkReferenceIdeal.nD Cert.ShrinkReferenceIdeal.τ).loc Cert.ShrinkReferenceIdeal.main_arg4) = m ((c.tc : Thread Cert.ShrinkReferenceIdeal.nD Cert.ShrinkReferenceIdeal.τ).loc Cert.ShrinkReferenceIdeal.main_arg4)
      ∧ r.2.mem ((c.tc : Thread Cert.ShrinkReferenceIdeal.nD Cert.ShrinkReferenceIdeal.τ).loc Cert.ShrinkReferenceIdeal.main_arg5) = m ((c.tc : Thread Cert.ShrinkReferenceIdeal.nD Cert.ShrinkReferenceIdeal.τ).loc Cert.ShrinkReferenceIdeal.main_arg5)
      ∧ r.2.mem ((c.tc : Thread Cert.ShrinkReferenceIdeal.nD Cert.ShrinkReferenceIdeal.τ).loc Cert.ShrinkReferenceIdeal.main_arg6) = m ((c.tc : Thread Cert.ShrinkReferenceIdeal.nD Cert.ShrinkReferenceIdeal.τ).loc Cert.ShrinkReferenceIdeal.main_arg6)
      ∧ r.2.mem ((c.tc : Thread Cert.ShrinkReferenceIdeal.nD Cert.ShrinkReferenceIdeal.τ).loc Cert.ShrinkReferenceIdeal.main_arg7) = m ((c.tc : Thread Cert.ShrinkReferenceIdeal.nD Cert.ShrinkReferenceIdeal.τ).loc Cert.ShrinkReferenceIdeal.main_arg7))
      ∧ r.2.sem = fun _ => 0)

def quiescent_ShrinkReferenceIdeal_pre_shrink_tables_in_range [hShrinkReferenceIdeal : Cert.ShrinkReferenceIdeal.Facts] [hPre_shrink_tables_in_range : Cert.Pre_shrink_tables_in_range.Facts] : Prop :=
  ∀ (m : (ℓ : Loc Cert.ShrinkReferenceIdeal.nD Cert.ShrinkReferenceIdeal.τ Cert.ShrinkReferenceIdeal.sig) → Buf (Elt Ideal) ℓ) (g : Dev Cert.ShrinkReferenceIdeal.nD → PrngReg), Pre_ShrinkReferenceIdeal_shrink_tables_in_range m →
    θ_run (Cert.ShrinkReferenceIdeal.defs (F := Ideal)) (onTc (τ := Cert.ShrinkReferenceIdeal.τ) (Cert.ShrinkReferenceIdeal.main (F := Ideal))) ⟨m, fun _ => 0, g⟩ (fun r => (∀ c : Dev Cert.ShrinkReferenceIdeal.nD,
      r.2.mem ((c.tc : Thread Cert.ShrinkReferenceIdeal.nD Cert.ShrinkReferenceIdeal.τ).loc Cert.ShrinkReferenceIdeal.main_arg0) = m ((c.tc : Thread Cert.ShrinkReferenceIdeal.nD Cert.ShrinkReferenceIdeal.τ).loc Cert.ShrinkReferenceIdeal.main_arg0)
      ∧ r.2.mem ((c.tc : Thread Cert.ShrinkReferenceIdeal.nD Cert.ShrinkReferenceIdeal.τ).loc Cert.ShrinkReferenceIdeal.main_arg1) = m ((c.tc : Thread Cert.ShrinkReferenceIdeal.nD Cert.ShrinkReferenceIdeal.τ).loc Cert.ShrinkReferenceIdeal.main_arg1)
      ∧ r.2.mem ((c.tc : Thread Cert.ShrinkReferenceIdeal.nD Cert.ShrinkReferenceIdeal.τ).loc Cert.ShrinkReferenceIdeal.main_arg2) = m ((c.tc : Thread Cert.ShrinkReferenceIdeal.nD Cert.ShrinkReferenceIdeal.τ).loc Cert.ShrinkReferenceIdeal.main_arg2)
      ∧ r.2.mem ((c.tc : Thread Cert.ShrinkReferenceIdeal.nD Cert.ShrinkReferenceIdeal.τ).loc Cert.ShrinkReferenceIdeal.main_arg3) = m ((c.tc : Thread Cert.ShrinkReferenceIdeal.nD Cert.ShrinkReferenceIdeal.τ).loc Cert.ShrinkReferenceIdeal.main_arg3)
      ∧ r.2.mem ((c.tc : Thread Cert.ShrinkReferenceIdeal.nD Cert.ShrinkReferenceIdeal.τ).loc Cert.ShrinkReferenceIdeal.main_arg4) = m ((c.tc : Thread Cert.ShrinkReferenceIdeal.nD Cert.ShrinkReferenceIdeal.τ).loc Cert.ShrinkReferenceIdeal.main_arg4)
      ∧ r.2.mem ((c.tc : Thread Cert.ShrinkReferenceIdeal.nD Cert.ShrinkReferenceIdeal.τ).loc Cert.ShrinkReferenceIdeal.main_arg5) = m ((c.tc : Thread Cert.ShrinkReferenceIdeal.nD Cert.ShrinkReferenceIdeal.τ).loc Cert.ShrinkReferenceIdeal.main_arg5)
      ∧ r.2.mem ((c.tc : Thread Cert.ShrinkReferenceIdeal.nD Cert.ShrinkReferenceIdeal.τ).loc Cert.ShrinkReferenceIdeal.main_arg6) = m ((c.tc : Thread Cert.ShrinkReferenceIdeal.nD Cert.ShrinkReferenceIdeal.τ).loc Cert.ShrinkReferenceIdeal.main_arg6)
      ∧ r.2.mem ((c.tc : Thread Cert.ShrinkReferenceIdeal.nD Cert.ShrinkReferenceIdeal.τ).loc Cert.ShrinkReferenceIdeal.main_arg7) = m ((c.tc : Thread Cert.ShrinkReferenceIdeal.nD Cert.ShrinkReferenceIdeal.τ).loc Cert.ShrinkReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_in_range : Cert.Pre_tables_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Shrink_ShrinkIdeal : Prop :=
  True

def algebraic_ShrinkIdeal_ShrinkReferenceIdeal [hShrinkIdeal : Cert.ShrinkIdeal.Facts] [hShrinkReferenceIdeal : Cert.ShrinkReferenceIdeal.Facts] [hPre_shrink_tables_in_range : Cert.Pre_shrink_tables_in_range.Facts] : Prop :=
  ∀ (m : (ℓ : Loc Cert.ShrinkIdeal.nD Cert.ShrinkIdeal.τ Cert.ShrinkIdeal.sig) → Buf (Elt Ideal) ℓ) (g : Dev Cert.ShrinkIdeal.nD → PrngReg)
    (m' : (ℓ : Loc Cert.ShrinkReferenceIdeal.nD Cert.ShrinkReferenceIdeal.τ Cert.ShrinkReferenceIdeal.sig) → Buf (Elt Ideal) ℓ) (g' : Dev Cert.ShrinkReferenceIdeal.nD → PrngReg), Pre_ShrinkIdeal m →
    (∀ c : Dev Cert.ShrinkIdeal.nD,
      m' ((c.tc : Thread Cert.ShrinkReferenceIdeal.nD Cert.ShrinkReferenceIdeal.τ).loc Cert.ShrinkReferenceIdeal.main_arg0) = m ((c.tc : Thread Cert.ShrinkIdeal.nD Cert.ShrinkIdeal.τ).loc Cert.ShrinkIdeal.main_arg0)
      ∧ m' ((c.tc : Thread Cert.ShrinkReferenceIdeal.nD Cert.ShrinkReferenceIdeal.τ).loc Cert.ShrinkReferenceIdeal.main_arg1) = m ((c.tc : Thread Cert.ShrinkIdeal.nD Cert.ShrinkIdeal.τ).loc Cert.ShrinkIdeal.main_arg1)
      ∧ m' ((c.tc : Thread Cert.ShrinkReferenceIdeal.nD Cert.ShrinkReferenceIdeal.τ).loc Cert.ShrinkReferenceIdeal.main_arg2) = m ((c.tc : Thread Cert.ShrinkIdeal.nD Cert.ShrinkIdeal.τ).loc Cert.ShrinkIdeal.main_arg2)
      ∧ m' ((c.tc : Thread Cert.ShrinkReferenceIdeal.nD Cert.ShrinkReferenceIdeal.τ).loc Cert.ShrinkReferenceIdeal.main_arg3) = m ((c.tc : Thread Cert.ShrinkIdeal.nD Cert.ShrinkIdeal.τ).loc Cert.ShrinkIdeal.main_arg3)
      ∧ m' ((c.tc : Thread Cert.ShrinkReferenceIdeal.nD Cert.ShrinkReferenceIdeal.τ).loc Cert.ShrinkReferenceIdeal.main_arg4) = m ((c.tc : Thread Cert.ShrinkIdeal.nD Cert.ShrinkIdeal.τ).loc Cert.ShrinkIdeal.main_arg4)
      ∧ m' ((c.tc : Thread Cert.ShrinkReferenceIdeal.nD Cert.ShrinkReferenceIdeal.τ).loc Cert.ShrinkReferenceIdeal.main_arg5) = m ((c.tc : Thread Cert.ShrinkIdeal.nD Cert.ShrinkIdeal.τ).loc Cert.ShrinkIdeal.main_arg5)
      ∧ m' ((c.tc : Thread Cert.ShrinkReferenceIdeal.nD Cert.ShrinkReferenceIdeal.τ).loc Cert.ShrinkReferenceIdeal.main_arg6) = m ((c.tc : Thread Cert.ShrinkIdeal.nD Cert.ShrinkIdeal.τ).loc Cert.ShrinkIdeal.main_arg6)
      ∧ m' ((c.tc : Thread Cert.ShrinkReferenceIdeal.nD Cert.ShrinkReferenceIdeal.τ).loc Cert.ShrinkReferenceIdeal.main_arg7) = m ((c.tc : Thread Cert.ShrinkIdeal.nD Cert.ShrinkIdeal.τ).loc Cert.ShrinkIdeal.main_arg7)) →
    ∃ (v0 : (c : Dev Cert.ShrinkIdeal.nD) → Buf (Elt Ideal) ((c.tc : Thread Cert.ShrinkIdeal.nD Cert.ShrinkIdeal.τ).loc Cert.ShrinkIdeal.main_v1_0)) (v1 : (c : Dev Cert.ShrinkIdeal.nD) → Buf (Elt Ideal) ((c.tc : Thread Cert.ShrinkIdeal.nD Cert.ShrinkIdeal.τ).loc Cert.ShrinkIdeal.main_v1_1)),
      θ_run (Cert.ShrinkIdeal.defs (F := Ideal)) (onTc (τ := Cert.ShrinkIdeal.τ) (Cert.ShrinkIdeal.main (F := Ideal))) ⟨m, fun _ => 0, g⟩ (fun r => ∀ c : Dev Cert.ShrinkIdeal.nD,
          r.2.mem ((c.tc : Thread Cert.ShrinkIdeal.nD Cert.ShrinkIdeal.τ).loc Cert.ShrinkIdeal.main_v1_0) = v0 c
          ∧ r.2.mem ((c.tc : Thread Cert.ShrinkIdeal.nD Cert.ShrinkIdeal.τ).loc Cert.ShrinkIdeal.main_v1_1) = v1 c
          ∧ r.2.mem ((c.tc : Thread Cert.ShrinkIdeal.nD Cert.ShrinkIdeal.τ).loc Cert.ShrinkIdeal.main_arg0) = m ((c.tc : Thread Cert.ShrinkIdeal.nD Cert.ShrinkIdeal.τ).loc Cert.ShrinkIdeal.main_arg0)
          ∧ r.2.mem ((c.tc : Thread Cert.ShrinkIdeal.nD Cert.ShrinkIdeal.τ).loc Cert.ShrinkIdeal.main_arg1) = m ((c.tc : Thread Cert.ShrinkIdeal.nD Cert.ShrinkIdeal.τ).loc Cert.ShrinkIdeal.main_arg1)
          ∧ r.2.mem ((c.tc : Thread Cert.ShrinkIdeal.nD Cert.ShrinkIdeal.τ).loc Cert.ShrinkIdeal.main_arg2) = m ((c.tc : Thread Cert.ShrinkIdeal.nD Cert.ShrinkIdeal.τ).loc Cert.ShrinkIdeal.main_arg2)
          ∧ r.2.mem ((c.tc : Thread Cert.ShrinkIdeal.nD Cert.ShrinkIdeal.τ).loc Cert.ShrinkIdeal.main_arg3) = m ((c.tc : Thread Cert.ShrinkIdeal.nD Cert.ShrinkIdeal.τ).loc Cert.ShrinkIdeal.main_arg3)
          ∧ r.2.mem ((c.tc : Thread Cert.ShrinkIdeal.nD Cert.ShrinkIdeal.τ).loc Cert.ShrinkIdeal.main_arg4) = m ((c.tc : Thread Cert.ShrinkIdeal.nD Cert.ShrinkIdeal.τ).loc Cert.ShrinkIdeal.main_arg4)
          ∧ r.2.mem ((c.tc : Thread Cert.ShrinkIdeal.nD Cert.ShrinkIdeal.τ).loc Cert.ShrinkIdeal.main_arg5) = m ((c.tc : Thread Cert.ShrinkIdeal.nD Cert.ShrinkIdeal.τ).loc Cert.ShrinkIdeal.main_arg5)
          ∧ r.2.mem ((c.tc : Thread Cert.ShrinkIdeal.nD Cert.ShrinkIdeal.τ).loc Cert.ShrinkIdeal.main_arg6) = m ((c.tc : Thread Cert.ShrinkIdeal.nD Cert.ShrinkIdeal.τ).loc Cert.ShrinkIdeal.main_arg6)
          ∧ r.2.mem ((c.tc : Thread Cert.ShrinkIdeal.nD Cert.ShrinkIdeal.τ).loc Cert.ShrinkIdeal.main_arg7) = m ((c.tc : Thread Cert.ShrinkIdeal.nD Cert.ShrinkIdeal.τ).loc Cert.ShrinkIdeal.main_arg7))
      ∧ θ_run (Cert.ShrinkReferenceIdeal.defs (F := Ideal)) (onTc (τ := Cert.ShrinkReferenceIdeal.τ) (Cert.ShrinkReferenceIdeal.main (F := Ideal))) ⟨m', fun _ => 0, g'⟩ (fun r => ∀ c : Dev Cert.ShrinkReferenceIdeal.nD,
          r.2.mem ((c.tc : Thread Cert.ShrinkReferenceIdeal.nD Cert.ShrinkReferenceIdeal.τ).loc Cert.ShrinkReferenceIdeal.main_v144) = v0 c
          ∧ r.2.mem ((c.tc : Thread Cert.ShrinkReferenceIdeal.nD Cert.ShrinkReferenceIdeal.τ).loc Cert.ShrinkReferenceIdeal.main_v83) = v1 c
          ∧ r.2.mem ((c.tc : Thread Cert.ShrinkReferenceIdeal.nD Cert.ShrinkReferenceIdeal.τ).loc Cert.ShrinkReferenceIdeal.main_arg0) = m' ((c.tc : Thread Cert.ShrinkReferenceIdeal.nD Cert.ShrinkReferenceIdeal.τ).loc Cert.ShrinkReferenceIdeal.main_arg0)
          ∧ r.2.mem ((c.tc : Thread Cert.ShrinkReferenceIdeal.nD Cert.ShrinkReferenceIdeal.τ).loc Cert.ShrinkReferenceIdeal.main_arg1) = m' ((c.tc : Thread Cert.ShrinkReferenceIdeal.nD Cert.ShrinkReferenceIdeal.τ).loc Cert.ShrinkReferenceIdeal.main_arg1)
          ∧ r.2.mem ((c.tc : Thread Cert.ShrinkReferenceIdeal.nD Cert.ShrinkReferenceIdeal.τ).loc Cert.ShrinkReferenceIdeal.main_arg2) = m' ((c.tc : Thread Cert.ShrinkReferenceIdeal.nD Cert.ShrinkReferenceIdeal.τ).loc Cert.ShrinkReferenceIdeal.main_arg2)
          ∧ r.2.mem ((c.tc : Thread Cert.ShrinkReferenceIdeal.nD Cert.ShrinkReferenceIdeal.τ).loc Cert.ShrinkReferenceIdeal.main_arg3) = m' ((c.tc : Thread Cert.ShrinkReferenceIdeal.nD Cert.ShrinkReferenceIdeal.τ).loc Cert.ShrinkReferenceIdeal.main_arg3)
          ∧ r.2.mem ((c.tc : Thread Cert.ShrinkReferenceIdeal.nD Cert.ShrinkReferenceIdeal.τ).loc Cert.ShrinkReferenceIdeal.main_arg4) = m' ((c.tc : Thread Cert.ShrinkReferenceIdeal.nD Cert.ShrinkReferenceIdeal.τ).loc Cert.ShrinkReferenceIdeal.main_arg4)
          ∧ r.2.mem ((c.tc : Thread Cert.ShrinkReferenceIdeal.nD Cert.ShrinkReferenceIdeal.τ).loc Cert.ShrinkReferenceIdeal.main_arg5) = m' ((c.tc : Thread Cert.ShrinkReferenceIdeal.nD Cert.ShrinkReferenceIdeal.τ).loc Cert.ShrinkReferenceIdeal.main_arg5)
          ∧ r.2.mem ((c.tc : Thread Cert.ShrinkReferenceIdeal.nD Cert.ShrinkReferenceIdeal.τ).loc Cert.ShrinkReferenceIdeal.main_arg6) = m' ((c.tc : Thread Cert.ShrinkReferenceIdeal.nD Cert.ShrinkReferenceIdeal.τ).loc Cert.ShrinkReferenceIdeal.main_arg6)
          ∧ r.2.mem ((c.tc : Thread Cert.ShrinkReferenceIdeal.nD Cert.ShrinkReferenceIdeal.τ).loc Cert.ShrinkReferenceIdeal.main_arg7) = m' ((c.tc : Thread Cert.ShrinkReferenceIdeal.nD Cert.ShrinkReferenceIdeal.τ).loc Cert.ShrinkReferenceIdeal.main_arg7))

def Claim : Prop :=
  ∃ (hKernel : Cert.Kernel.Facts) (hKernelIdeal : Cert.KernelIdeal.Facts) (hReferenceIdeal : Cert.ReferenceIdeal.Facts) (hShrink : Cert.Shrink.Facts) (hShrinkIdeal : Cert.ShrinkIdeal.Facts) (hShrinkReferenceIdeal : Cert.ShrinkReferenceIdeal.Facts) (hPre_tables_in_range : Cert.Pre_tables_in_range.Facts) (hPre_shrink_tables_in_range : Cert.Pre_shrink_tables_in_range.Facts),
    quiescent_Kernel (hKernel := hKernel) (hPre_tables_in_range := hPre_tables_in_range)
    ∧ quiescent_KernelIdeal (hKernelIdeal := hKernelIdeal) (hPre_tables_in_range := hPre_tables_in_range)
    ∧ quiescent_ReferenceIdeal (hReferenceIdeal := hReferenceIdeal)
    ∧ quiescent_ReferenceIdeal_pre_tables_in_range (hReferenceIdeal := hReferenceIdeal) (hPre_tables_in_range := hPre_tables_in_range)
    ∧ quiescent_Shrink (hShrink := hShrink) (hPre_shrink_tables_in_range := hPre_shrink_tables_in_range)
    ∧ quiescent_ShrinkIdeal (hShrinkIdeal := hShrinkIdeal) (hPre_shrink_tables_in_range := hPre_shrink_tables_in_range)
    ∧ quiescent_ShrinkReferenceIdeal (hShrinkReferenceIdeal := hShrinkReferenceIdeal)
    ∧ quiescent_ShrinkReferenceIdeal_pre_shrink_tables_in_range (hShrinkReferenceIdeal := hShrinkReferenceIdeal) (hPre_shrink_tables_in_range := hPre_shrink_tables_in_range)
    ∧ preserves_Kernel_KernelIdeal
    ∧ algebraic_KernelIdeal_ReferenceIdeal (hKernelIdeal := hKernelIdeal) (hReferenceIdeal := hReferenceIdeal) (hPre_tables_in_range := hPre_tables_in_range)
    ∧ preserves_Shrink_ShrinkIdeal
    ∧ algebraic_ShrinkIdeal_ShrinkReferenceIdeal (hShrinkIdeal := hShrinkIdeal) (hShrinkReferenceIdeal := hShrinkReferenceIdeal) (hPre_shrink_tables_in_range := hPre_shrink_tables_in_range)
-- ==== Pre_shrink_tables_in_range.lean ====
abbrev S1280x7168 : Shape := ⟨2, ![1280, 7168]⟩
abbrev S2500x7168 : Shape := ⟨2, ![2500, 7168]⟩
abbrev S2500 : Shape := ⟨1, ![2500]⟩
abbrev S23 : Shape := ⟨1, ![23]⟩
abbrev S15 : Shape := ⟨1, ![15]⟩
abbrev S14 : Shape := ⟨1, ![14]⟩
abbrev S_ : Shape := ⟨0, ![]⟩
abbrev S1 : Shape := ⟨1, ![1]⟩

class Facts : Prop where
  bcast_S_S14 : S_.BroadcastsInDim S14 (![] : Fin 0 → Fin S14.rank)
  reducesTo_S14_S_d0 : S14.ReducesTo [0] S_
  h_S_ : 0 < S_.numel
  bcast_S_S23 : S_.BroadcastsInDim S23 (![] : Fin 0 → Fin S23.rank)
  reducesTo_S23_S_d0 : S23.ReducesTo [0] S_
  bcast_S_S15 : S_.BroadcastsInDim S15 (![] : Fin 0 → Fin S15.rank)
  reducesTo_S15_S_d0 : S15.ReducesTo [0] S_
  slices_S15_S14_0 : S15.Slices ![0] S14
  slices_S15_S14_1 : S15.Slices ![1] S14
  slices_S15_S1_0 : S15.Slices ![0] S1
  shapeCasts_S1_S_ : S1.ShapeCasts S_
  slices_S15_S1_14 : S15.Slices ![14] S1

variable [Facts]

def fn_part2 {F : FTy → Type} [FloatOps F] (main_v32 : IVec S_ 1) (main_v34 : IVec S_ 32) : IVec S_ 1 :=
  let main_c_12 : IVec S_ 32 := constantI S_ 32 1280#32
  let main_v35 : IVec S_ 1 := cmpi .eq main_v34 main_c_12
  let main_v36 : IVec S_ 1 := andi main_v32 main_v35
  main_v36

def fn_part1 {F : FTy → Type} [FloatOps F] (main_arg6 : IVec S15 32) (main_v12 : IVec S_ 1) (main_v15 : IVec S_ 1) : IVec S_ 1 :=
  let main_v16 : IVec S_ 1 := andi main_v12 main_v15
  let main_c_7 : IVec S_ 32 := constantI S_ 32 0#32
  let main_v17 : IVec S15 32 := broadcastInDim S15 ![] bcast_S_S15 main_c_7
  let main_v18 : IVec S15 1 := cmpi .sge main_arg6 main_v17
  let main_c_8 : IVec S_ 32 := constantI S_ 32 1280#32
  let main_v19 : IVec S15 32 := broadcastInDim S15 ![] bcast_S_S15 main_c_8
  let main_v20 : IVec S15 1 := cmpi .sle main_arg6 main_v19
  let main_v21 : IVec S15 1 := andi main_v18 main_v20
  let main_c_9 : IVec S_ 1 := constantI S_ 1 1#1
  let main_v22 : IVec S_ 1 := (fun x v => Host.reduce IntOp.andi x v reducesTo_S15_S_d0 h_S_) main_v21 main_c_9
  let main_v23 : IVec S_ 1 := andi main_v16 main_v22
  let main_v24 : IVec S14 32 := (extractStridedSlice S14 ![0] · slices_S15_S14_0) main_arg6
  let main_v25 : IVec S14 32 := (extractStridedSlice S14 ![1] · slices_S15_S14_1) main_arg6
  let main_v26 : IVec S14 1 := cmpi .sle main_v24 main_v25
  let main_c_10 : IVec S_ 1 := constantI S_ 1 1#1
  let main_v27 : IVec S_ 1 := (fun x v => Host.reduce IntOp.andi x v reducesTo_S14_S_d0 h_S_) main_v26 main_c_10
  let main_v28 : IVec S_ 1 := andi main_v23 main_v27
  let main_v29 : IVec S1 32 := (extractStridedSlice S1 ![0] · slices_S15_S1_0) main_arg6
  let main_v30 : IVec S_ 32 := shapeCast S_ main_v29 shapeCasts_S1_S_
  let main_c_11 : IVec S_ 32 := constantI S_ 32 0#32
  let main_v31 : IVec S_ 1 := cmpi .eq main_v30 main_c_11
  let main_v32 : IVec S_ 1 := andi main_v28 main_v31
  let main_v33 : IVec S1 32 := (extractStridedSlice S1 ![14] · slices_S15_S1_14) main_arg6
  let main_v34 : IVec S_ 32 := shapeCast S_ main_v33 shapeCasts_S1_S_
  fn_part2 (F := F) main_v32 main_v34

def fn {F : FTy → Type} [FloatOps F] (main_arg0 : FVec F S1280x7168 .bf16) (main_arg1 : IVec S2500x7168 8) (main_arg2 : FVec F S2500 .f32) (main_arg3 : IVec S23 32) (main_arg4 : IVec S23 32) (main_arg5 : FVec F S23 .f32) (main_arg6 : IVec S15 32) (main_arg7 : IVec S14 32) : IVec S_ 1 :=
  let main_c : IVec S_ 32 := constantI S_ 32 0#32
  let main_v0 : IVec S14 32 := broadcastInDim S14 ![] bcast_S_S14 main_c
  let main_v1 : IVec S14 1 := cmpi .sge main_arg7 main_v0
  let main_c_0 : IVec S_ 32 := constantI S_ 32 23#32
  let main_v2 : IVec S14 32 := broadcastInDim S14 ![] bcast_S_S14 main_c_0
  let main_v3 : IVec S14 1 := cmpi .slt main_arg7 main_v2
  let main_v4 : IVec S14 1 := andi main_v1 main_v3
  let main_c_1 : IVec S_ 1 := constantI S_ 1 1#1
  let main_v5 : IVec S_ 1 := (fun x v => Host.reduce IntOp.andi x v reducesTo_S14_S_d0 h_S_) main_v4 main_c_1
  let main_c_2 : IVec S_ 32 := constantI S_ 32 0#32
  let main_v6 : IVec S23 32 := broadcastInDim S23 ![] bcast_S_S23 main_c_2
  let main_v7 : IVec S23 1 := cmpi .sge main_arg3 main_v6
  let main_c_3 : IVec S_ 32 := constantI S_ 32 2304#32
  let main_v8 : IVec S23 32 := broadcastInDim S23 ![] bcast_S_S23 main_c_3
  let main_v9 : IVec S23 1 := cmpi .slt main_arg3 main_v8
  let main_v10 : IVec S23 1 := andi main_v7 main_v9
  let main_c_4 : IVec S_ 1 := constantI S_ 1 1#1
  let main_v11 : IVec S_ 1 := (fun x v => Host.reduce IntOp.andi x v reducesTo_S23_S_d0 h_S_) main_v10 main_c_4
  let main_v12 : IVec S_ 1 := andi main_v5 main_v11
  let main_c_5 : IVec S_ 32 := constantI S_ 32 2147483616#32
  let main_v13 : IVec S23 32 := broadcastInDim S23 ![] bcast_S_S23 main_c_5
  let main_v14 : IVec S23 1 := cmpi .sle main_arg4 main_v13
  let main_c_6 : IVec S_ 1 := constantI S_ 1 1#1
  let main_v15 : IVec S_ 1 := (fun x v => Host.reduce IntOp.andi x v reducesTo_S23_S_d0 h_S_) main_v14 main_c_6
  fn_part1 (F := F) main_arg6 main_v12 main_v15
-- ==== Pre_tables_in_range.lean ====
abbrev S1280x7168 : Shape := ⟨2, ![1280, 7168]⟩
abbrev S896x2048 : Shape := ⟨2, ![896, 2048]⟩
abbrev S56x2048 : Shape := ⟨2, ![56, 2048]⟩
abbrev S1280x128 : Shape := ⟨2, ![1280, 128]⟩
abbrev S2500x2048 : Shape := ⟨2, ![2500, 2048]⟩
abbrev S2500 : Shape := ⟨1, ![2500]⟩
abbrev S23 : Shape := ⟨1, ![23]⟩
abbrev S15 : Shape := ⟨1, ![15]⟩
abbrev S14 : Shape := ⟨1, ![14]⟩
abbrev S_ : Shape := ⟨0, ![]⟩
abbrev S1 : Shape := ⟨1, ![1]⟩

class Facts : Prop where
  bcast_S_S14 : S_.BroadcastsInDim S14 (![] : Fin 0 → Fin S14.rank)
  reducesTo_S14_S_d0 : S14.ReducesTo [0] S_
  h_S_ : 0 < S_.numel
  bcast_S_S23 : S_.BroadcastsInDim S23 (![] : Fin 0 → Fin S23.rank)
  reducesTo_S23_S_d0 : S23.ReducesTo [0] S_
  bcast_S_S15 : S_.BroadcastsInDim S15 (![] : Fin 0 → Fin S15.rank)
  reducesTo_S15_S_d0 : S15.ReducesTo [0] S_
  slices_S15_S14_0 : S15.Slices ![0] S14
  slices_S15_S14_1 : S15.Slices ![1] S14
  slices_S15_S1_0 : S15.Slices ![0] S1
  shapeCasts_S1_S_ : S1.ShapeCasts S_
  slices_S15_S1_14 : S15.Slices ![14] S1

variable [Facts]

def fn_part1 {F : FTy → Type} [FloatOps F] (main_arg8 : IVec S15 32) (main_v12 : IVec S_ 1) (main_v14 : IVec S15 1) (main_v15 : IVec S15 32) : IVec S_ 1 :=
  let main_v16 : IVec S15 1 := cmpi .sle main_arg8 main_v15
  let main_v17 : IVec S15 1 := andi main_v14 main_v16
  let main_c_7 : IVec S_ 1 := constantI S_ 1 1#1
  let main_v18 : IVec S_ 1 := (fun x v => Host.reduce IntOp.andi x v reducesTo_S15_S_d0 h_S_) main_v17 main_c_7
  let main_v19 : IVec S_ 1 := andi main_v12 main_v18
  let main_v20 : IVec S14 32 := (extractStridedSlice S14 ![0] · slices_S15_S14_0) main_arg8
  let main_v21 : IVec S14 32 := (extractStridedSlice S14 ![1] · slices_S15_S14_1) main_arg8
  let main_v22 : IVec S14 1 := cmpi .sle main_v20 main_v21
  let main_c_8 : IVec S_ 1 := constantI S_ 1 1#1
  let main_v23 : IVec S_ 1 := (fun x v => Host.reduce IntOp.andi x v reducesTo_S14_S_d0 h_S_) main_v22 main_c_8
  let main_v24 : IVec S_ 1 := andi main_v19 main_v23
  let main_v25 : IVec S1 32 := (extractStridedSlice S1 ![0] · slices_S15_S1_0) main_arg8
  let main_v26 : IVec S_ 32 := shapeCast S_ main_v25 shapeCasts_S1_S_
  let main_c_9 : IVec S_ 32 := constantI S_ 32 0#32
  let main_v27 : IVec S_ 1 := cmpi .eq main_v26 main_c_9
  let main_v28 : IVec S_ 1 := andi main_v24 main_v27
  let main_v29 : IVec S1 32 := (extractStridedSlice S1 ![14] · slices_S15_S1_14) main_arg8
  let main_v30 : IVec S_ 32 := shapeCast S_ main_v29 shapeCasts_S1_S_
  let main_c_10 : IVec S_ 32 := constantI S_ 32 1280#32
  let main_v31 : IVec S_ 1 := cmpi .eq main_v30 main_c_10
  let main_v32 : IVec S_ 1 := andi main_v28 main_v31
  main_v32

def fn {F : FTy → Type} [FloatOps F] (main_arg0 : FVec F S1280x7168 .bf16) (main_arg1 : IVec S896x2048 32) (main_arg2 : FVec F S56x2048 .bf16) (main_arg3 : FVec F S1280x128 .bf16) (main_arg4 : IVec S2500x2048 8) (main_arg5 : FVec F S2500 .f32) (main_arg6 : IVec S23 32) (main_arg7 : IVec S23 32) (main_arg8 : IVec S15 32) (main_arg9 : IVec S14 32) : IVec S_ 1 :=
  let main_c : IVec S_ 32 := constantI S_ 32 0#32
  let main_v0 : IVec S14 32 := broadcastInDim S14 ![] bcast_S_S14 main_c
  let main_v1 : IVec S14 1 := cmpi .sge main_arg9 main_v0
  let main_c_0 : IVec S_ 32 := constantI S_ 32 23#32
  let main_v2 : IVec S14 32 := broadcastInDim S14 ![] bcast_S_S14 main_c_0
  let main_v3 : IVec S14 1 := cmpi .slt main_arg9 main_v2
  let main_v4 : IVec S14 1 := andi main_v1 main_v3
  let main_c_1 : IVec S_ 1 := constantI S_ 1 1#1
  let main_v5 : IVec S_ 1 := (fun x v => Host.reduce IntOp.andi x v reducesTo_S14_S_d0 h_S_) main_v4 main_c_1
  let main_c_2 : IVec S_ 32 := constantI S_ 32 0#32
  let main_v6 : IVec S23 32 := broadcastInDim S23 ![] bcast_S_S23 main_c_2
  let main_v7 : IVec S23 1 := cmpi .sge main_arg6 main_v6
  let main_c_3 : IVec S_ 32 := constantI S_ 32 2304#32
  let main_v8 : IVec S23 32 := broadcastInDim S23 ![] bcast_S_S23 main_c_3
  let main_v9 : IVec S23 1 := cmpi .slt main_arg6 main_v8
  let main_v10 : IVec S23 1 := andi main_v7 main_v9
  let main_c_4 : IVec S_ 1 := constantI S_ 1 1#1
  let main_v11 : IVec S_ 1 := (fun x v => Host.reduce IntOp.andi x v reducesTo_S23_S_d0 h_S_) main_v10 main_c_4
  let main_v12 : IVec S_ 1 := andi main_v5 main_v11
  let main_c_5 : IVec S_ 32 := constantI S_ 32 0#32
  let main_v13 : IVec S15 32 := broadcastInDim S15 ![] bcast_S_S15 main_c_5
  let main_v14 : IVec S15 1 := cmpi .sge main_arg8 main_v13
  let main_c_6 : IVec S_ 32 := constantI S_ 32 1280#32
  let main_v15 : IVec S15 32 := broadcastInDim S15 ![] bcast_S_S15 main_c_6
  fn_part1 (F := F) main_arg8 main_v12 main_v14 main_v15
-- ==== Kernel.lean ====
abbrev S1280x7168 : Shape := ⟨2, ![1280, 7168]⟩
abbrev S896x2048 : Shape := ⟨2, ![896, 2048]⟩
abbrev S56x2048 : Shape := ⟨2, ![56, 2048]⟩
abbrev S1280x128 : Shape := ⟨2, ![1280, 128]⟩
abbrev S2500x2048 : Shape := ⟨2, ![2500, 2048]⟩
abbrev S2500 : Shape := ⟨1, ![2500]⟩
abbrev S23 : Shape := ⟨1, ![23]⟩
abbrev S15 : Shape := ⟨1, ![15]⟩
abbrev S14 : Shape := ⟨1, ![14]⟩
abbrev S1x2500 : Shape := ⟨2, ![1, 2500]⟩
abbrev S1280x2048 : Shape := ⟨2, ![1280, 2048]⟩
abbrev S896x256 : Shape := ⟨2, ![896, 256]⟩
abbrev S56x256 : Shape := ⟨2, ![56, 256]⟩
abbrev S1280x256 : Shape := ⟨2, ![1280, 256]⟩
abbrev S7168x256 : Shape := ⟨2, ![7168, 256]⟩
abbrev S14x128x256 : Shape := ⟨3, ![14, 128, 256]⟩
abbrev S1 : Shape := ⟨1, ![1]⟩
abbrev S_ : Shape := ⟨0, ![]⟩
abbrev S1x128x256 : Shape := ⟨3, ![1, 128, 256]⟩
abbrev S128x256 : Shape := ⟨2, ![128, 256]⟩
abbrev S896x1x256 : Shape := ⟨3, ![896, 1, 256]⟩
abbrev S896x8x256 : Shape := ⟨3, ![896, 8, 256]⟩
abbrev S1x256 : Shape := ⟨2, ![1, 256]⟩
abbrev S128x128 : Shape := ⟨2, ![128, 128]⟩
abbrev S8x256 : Shape := ⟨2, ![8, 256]⟩
abbrev S1x128 : Shape := ⟨2, ![1, 128]⟩
abbrev S128 : Shape := ⟨1, ![128]⟩
abbrev S128x1 : Shape := ⟨2, ![128, 1]⟩

abbrev nBuf : Space → Nat
  | .hbm => 12
  | .vmem => 12
  | .smem => 4
  | _ => 0

abbrev bufTy : (tb : Table) → Fin (tcTables nBuf tb) → BufTy
  | .hbm, ⟨0, _⟩ => ⟨S1280x7168, .bf16⟩
  | .hbm, ⟨1, _⟩ => ⟨S896x2048, .i32⟩
  | .hbm, ⟨2, _⟩ => ⟨S56x2048, .bf16⟩
  | .hbm, ⟨3, _⟩ => ⟨S1280x128, .bf16⟩
  | .hbm, ⟨4, _⟩ => ⟨S2500x2048, .i8⟩
  | .hbm, ⟨5, _⟩ => ⟨S2500, .f32⟩
  | .hbm, ⟨6, _⟩ => ⟨S23, .i32⟩
  | .hbm, ⟨7, _⟩ => ⟨S23, .i32⟩
  | .hbm, ⟨8, _⟩ => ⟨S15, .i32⟩
  | .hbm, ⟨9, _⟩ => ⟨S14, .i32⟩
  | .hbm, ⟨10, _⟩ => ⟨S1x2500, .f32⟩
  | .hbm, ⟨11, _⟩ => ⟨S1280x2048, .bf16⟩
  | .local _ .vmem, ⟨0, _⟩ => ⟨S1280x7168, .bf16⟩
  | .local _ .vmem, ⟨1, _⟩ => ⟨S896x256, .i32⟩
  | .local _ .vmem, ⟨2, _⟩ => ⟨S896x256, .i32⟩
  | .local _ .vmem, ⟨3, _⟩ => ⟨S56x256, .bf16⟩
  | .local _ .vmem, ⟨4, _⟩ => ⟨S56x256, .bf16⟩
  | .local _ .vmem, ⟨5, _⟩ => ⟨S1280x128, .bf16⟩
  | .local _ .vmem, ⟨6, _⟩ => ⟨S1x2500, .f32⟩
  | .local _ .vmem, ⟨7, _⟩ => ⟨S1280x256, .bf16⟩
  | .local _ .vmem, ⟨8, _⟩ => ⟨S1280x256, .bf16⟩
  | .local _ .vmem, ⟨9, _⟩ => ⟨S7168x256, .bf16⟩
  | .local _ .vmem, ⟨10, _⟩ => ⟨S1280x256, .f32⟩
  | .local _ .vmem, ⟨11, _⟩ => ⟨S14x128x256, .i8⟩
  | .local _ .smem, ⟨0, _⟩ => ⟨S23, .i32⟩
  | .local _ .smem, ⟨1, _⟩ => ⟨S23, .i32⟩
  | .local _ .smem, ⟨2, _⟩ => ⟨S15, .i32⟩
  | .local _ .smem, ⟨3, _⟩ => ⟨S14, .i32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg4_0 : Ref sig .tc := ⟨.vmem, 0, rfl⟩
abbrev cc0_stg5_0 : Ref sig .tc := ⟨.vmem, 1, rfl⟩
abbrev cc0_stg5_1 : Ref sig .tc := ⟨.vmem, 2, rfl⟩
abbrev cc0_stg6_0 : Ref sig .tc := ⟨.vmem, 3, rfl⟩
abbrev cc0_stg6_1 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def k0_off1 (v0 : BitVec 32) : Fin 1 → Nat :=
  let v1 : Index := Scalar.indexCast v0
  ![v1.toNat]

def k0_chk1 (v0 : BitVec 32) : Prop :=
  (∀ a, (k0_off1 v0) a + S1.size a ≤ S23.size a)
theorem k0_off1_inb : ∀ (v0 : BitVec 32) (k0_hw1 : k0_chk1 v0), ∀ a, (k0_off1 v0) a + S1.size a ≤ S23.size a := fun v0 k0_hw1 => k0_hw1

def k0_mult1 (v2 : BitVec 32) : BitVec 32 :=
  let c_m32_i32 : BitVec 32 := 4294967264#32
  let v3 : BitVec 32 := Scalar.andi v2 c_m32_i32
  v3

def k0_mult2 (i : grid0.Coords) : BitVec 32 :=
  let arg0 : BitVec 32 := BitVec.ofNat 32 (i 0).val
  let c256_i32 : BitVec 32 := 256#32
  let v5 : BitVec 32 := Scalar.muli arg0 c256_i32
  v5
def k0_off2 (i : grid0.Coords) (v2 : BitVec 32) : Fin 2 → Nat :=
  let c_m32_i32 : BitVec 32 := 4294967264#32
  let v3 : BitVec 32 := Scalar.andi v2 c_m32_i32
  let v4 : BitVec 32 := v3
  let arg0 : BitVec 32 := BitVec.ofNat 32 (i 0).val
  let c256_i32 : BitVec 32 := 256#32
  let v5 : BitVec 32 := Scalar.muli arg0 c256_i32
  let v6 : BitVec 32 := v5
  ![v4.toNat, v6.toNat]

def k0_chk2 (i : grid0.Coords) (v2 : BitVec 32) : Prop :=
  (32 ∣ (k0_mult1 v2).toNat) ∧
  (∀ a, (k0_off2 i v2) a + S128x256.size a ≤ S2500x2048.size a) ∧
  (∀ (hinb : ∀ a, (k0_off2 i v2) a + S128x256.size a ≤ S2500x2048.size a), (Rect.unit (s := S2500x2048) (k0_off2 i v2) S128x256.size hinb).WholeWords (EltTy.packing .i8))
theorem k0_mult1_dvd : ∀ (i : grid0.Coords) (v2 : BitVec 32) (k0_hw2 : k0_chk2 i v2), 32 ∣ (k0_mult1 v2).toNat := fun i v2 k0_hw2 => k0_hw2.1
theorem k0_off2_inb : ∀ (i : grid0.Coords) (v2 : BitVec 32) (k0_hw2 : k0_chk2 i v2), ∀ a, (k0_off2 i v2) a + S128x256.size a ≤ S2500x2048.size a := fun i v2 k0_hw2 => k0_hw2.2.1
theorem k0_off2_wordsi8 : ∀ (i : grid0.Coords) (v2 : BitVec 32) (k0_hw2 : k0_chk2 i v2), (Rect.unit (s := S2500x2048) (k0_off2 i v2) S128x256.size (k0_off2_inb i v2 k0_hw2)).WholeWords (EltTy.packing .i8) := fun i v2 k0_hw2 => k0_hw2.2.2 (k0_off2_inb i v2 k0_hw2)

def k0_off3 (v12 : BitVec 32) : Fin 1 → Nat :=
  let v13 : Index := Scalar.indexCast v12
  ![v13.toNat]

def k0_chk3 (v12 : BitVec 32) : Prop :=
  (∀ a, (k0_off3 v12) a + S1.size a ≤ S23.size a)
theorem k0_off3_inb : ∀ (v12 : BitVec 32) (k0_hw3 : k0_chk3 v12), ∀ a, (k0_off3 v12) a + S1.size a ≤ S23.size a := fun v12 k0_hw3 => k0_hw3

def k0_mult3 (v14 : BitVec 32) : BitVec 32 :=
  let c_m32_i32_3 : BitVec 32 := 4294967264#32
  let v15 : BitVec 32 := Scalar.andi v14 c_m32_i32_3
  v15

def k0_mult4 (i : grid0.Coords) : BitVec 32 :=
  let arg0 : BitVec 32 := BitVec.ofNat 32 (i 0).val
  let c256_i32_4 : BitVec 32 := 256#32
  let v17 : BitVec 32 := Scalar.muli arg0 c256_i32_4
  v17
def k0_off4 (i : grid0.Coords) (v14 : BitVec 32) : Fin 2 → Nat :=
  let c_m32_i32_3 : BitVec 32 := 4294967264#32
  let v15 : BitVec 32 := Scalar.andi v14 c_m32_i32_3
  let v16 : BitVec 32 := v15
  let arg0 : BitVec 32 := BitVec.ofNat 32 (i 0).val
  let c256_i32_4 : BitVec 32 := 256#32
  let v17 : BitVec 32 := Scalar.muli arg0 c256_i32_4
  let v18 : BitVec 32 := v17
  ![v16.toNat, v18.toNat]

def k0_chk4 (i : grid0.Coords) (v14 : BitVec 32) : Prop :=
  (32 ∣ (k0_mult3 v14).toNat) ∧
  (∀ a, (k0_off4 i v14) a + S128x256.size a ≤ S2500x2048.size a) ∧
  (∀ (hinb : ∀ a, (k0_off4 i v14) a + S128x256.size a ≤ S2500x2048.size a), (Rect.unit (s := S2500x2048) (k0_off4 i v14) S128x256.size hinb).WholeWords (EltTy.packing .i8))
theorem k0_mult3_dvd : ∀ (i : grid0.Coords) (v14 : BitVec 32) (k0_hw4 : k0_chk4 i v14), 32 ∣ (k0_mult3 v14).toNat := fun i v14 k0_hw4 => k0_hw4.1
theorem k0_off4_inb : ∀ (i : grid0.Coords) (v14 : BitVec 32) (k0_hw4 : k0_chk4 i v14), ∀ a, (k0_off4 i v14) a + S128x256.size a ≤ S2500x2048.size a := fun i v14 k0_hw4 => k0_hw4.2.1
theorem k0_off4_wordsi8 : ∀ (i : grid0.Coords) (v14 : BitVec 32) (k0_hw4 : k0_chk4 i v14), (Rect.unit (s := S2500x2048) (k0_off4 i v14) S128x256.size (k0_off4_inb i v14 k0_hw4)).WholeWords (EltTy.packing .i8) := fun i v14 k0_hw4 => k0_hw4.2.2 (k0_off4_inb i v14 k0_hw4)

def k0_off5 (v24 : BitVec 32) : Fin 1 → Nat :=
  let v25 : Index := Scalar.indexCast v24
  ![v25.toNat]

def k0_chk5 (v24 : BitVec 32) : Prop :=
  (∀ a, (k0_off5 v24) a + S1.size a ≤ S23.size a)
theorem k0_off5_inb : ∀ (v24 : BitVec 32) (k0_hw5 : k0_chk5 v24), ∀ a, (k0_off5 v24) a + S1.size a ≤ S23.size a := fun v24 k0_hw5 => k0_hw5

def k0_mult5 (v26 : BitVec 32) : BitVec 32 :=
  let c_m32_i32_8 : BitVec 32 := 4294967264#32
  let v27 : BitVec 32 := Scalar.andi v26 c_m32_i32_8
  v27

def k0_mult6 (i : grid0.Coords) : BitVec 32 :=
  let arg0 : BitVec 32 := BitVec.ofNat 32 (i 0).val
  let c256_i32_9 : BitVec 32 := 256#32
  let v29 : BitVec 32 := Scalar.muli arg0 c256_i32_9
  v29
def k0_off6 (i : grid0.Coords) (v26 : BitVec 32) : Fin 2 → Nat :=
  let c_m32_i32_8 : BitVec 32 := 4294967264#32
  let v27 : BitVec 32 := Scalar.andi v26 c_m32_i32_8
  let v28 : BitVec 32 := v27
  let arg0 : BitVec 32 := BitVec.ofNat 32 (i 0).val
  let c256_i32_9 : BitVec 32 := 256#32
  let v29 : BitVec 32 := Scalar.muli arg0 c256_i32_9
  let v30 : BitVec 32 := v29
  ![v28.toNat, v30.toNat]

def k0_chk6 (i : grid0.Coords) (v26 : BitVec 32) : Prop :=
  (32 ∣ (k0_mult5 v26).toNat) ∧
  (∀ a, (k0_off6 i v26) a + S128x256.size a ≤ S2500x2048.size a) ∧
  (∀ (hinb : ∀ a, (k0_off6 i v26) a + S128x256.size a ≤ S2500x2048.size a), (Rect.unit (s := S2500x2048) (k0_off6 i v26) S128x256.size hinb).WholeWords (EltTy.packing .i8))
theorem k0_mult5_dvd : ∀ (i : grid0.Coords) (v26 : BitVec 32) (k0_hw6 : k0_chk6 i v26), 32 ∣ (k0_mult5 v26).toNat := fun i v26 k0_hw6 => k0_hw6.1
theorem k0_off6_inb : ∀ (i : grid0.Coords) (v26 : BitVec 32) (k0_hw6 : k0_chk6 i v26), ∀ a, (k0_off6 i v26) a + S128x256.size a ≤ S2500x2048.size a := fun i v26 k0_hw6 => k0_hw6.2.1
theorem k0_off6_wordsi8 : ∀ (i : grid0.Coords) (v26 : BitVec 32) (k0_hw6 : k0_chk6 i v26), (Rect.unit (s := S2500x2048) (k0_off6 i v26) S128x256.size (k0_off6_inb i v26 k0_hw6)).WholeWords (EltTy.packing .i8) := fun i v26 k0_hw6 => k0_hw6.2.2 (k0_off6_inb i v26 k0_hw6)

def k0_off7 (v36 : BitVec 32) : Fin 1 → Nat :=
  let v37 : Index := Scalar.indexCast v36
  ![v37.toNat]

def k0_chk7 (v36 : BitVec 32) : Prop :=
  (∀ a, (k0_off7 v36) a + S1.size a ≤ S23.size a)
theorem k0_off7_inb : ∀ (v36 : BitVec 32) (k0_hw7 : k0_chk7 v36), ∀ a, (k0_off7 v36) a + S1.size a ≤ S23.size a := fun v36 k0_hw7 => k0_hw7

def k0_mult7 (v38 : BitVec 32) : BitVec 32 :=
  let c_m32_i32_13 : BitVec 32 := 4294967264#32
  let v39 : BitVec 32 := Scalar.andi v38 c_m32_i32_13
  v39

def k0_mult8 (i : grid0.Coords) : BitVec 32 :=
  let arg0 : BitVec 32 := BitVec.ofNat 32 (i 0).val
  let c256_i32_14 : BitVec 32 := 256#32
  let v41 : BitVec 32 := Scalar.muli arg0 c256_i32_14
  v41
def k0_off8 (i : grid0.Coords) (v38 : BitVec 32) : Fin 2 → Nat :=
  let c_m32_i32_13 : BitVec 32 := 4294967264#32
  let v39 : BitVec 32 := Scalar.andi v38 c_m32_i32_13
  let v40 : BitVec 32 := v39
  let arg0 : BitVec 32 := BitVec.ofNat 32 (i 0).val
  let c256_i32_14 : BitVec 32 := 256#32
  let v41 : BitVec 32 := Scalar.muli arg0 c256_i32_14
  let v42 : BitVec 32 := v41
  ![v40.toNat, v42.toNat]

def k0_chk8 (i : grid0.Coords) (v38 : BitVec 32) : Prop :=
  (32 ∣ (k0_mult7 v38).toNat) ∧
  (∀ a, (k0_off8 i v38) a + S128x256.size a ≤ S2500x2048.size a) ∧
  (∀ (hinb : ∀ a, (k0_off8 i v38) a + S128x256.size a ≤ S2500x2048.size a), (Rect.unit (s := S2500x2048) (k0_off8 i v38) S128x256.size hinb).WholeWords (EltTy.packing .i8))
theorem k0_mult7_dvd : ∀ (i : grid0.Coords) (v38 : BitVec 32) (k0_hw8 : k0_chk8 i v38), 32 ∣ (k0_mult7 v38).toNat := fun i v38 k0_hw8 => k0_hw8.1
theorem k0_off8_inb : ∀ (i : grid0.Coords) (v38 : BitVec 32) (k0_hw8 : k0_chk8 i v38), ∀ a, (k0_off8 i v38) a + S128x256.size a ≤ S2500x2048.size a := fun i v38 k0_hw8 => k0_hw8.2.1
theorem k0_off8_wordsi8 : ∀ (i : grid0.Coords) (v38 : BitVec 32) (k0_hw8 : k0_chk8 i v38), (Rect.unit (s := S2500x2048) (k0_off8 i v38) S128x256.size (k0_off8_inb i v38 k0_hw8)).WholeWords (EltTy.packing .i8) := fun i v38 k0_hw8 => k0_hw8.2.2 (k0_off8_inb i v38 k0_hw8)

def k0_off9 (v48 : BitVec 32) : Fin 1 → Nat :=
  let v49 : Index := Scalar.indexCast v48
  ![v49.toNat]

def k0_chk9 (v48 : BitVec 32) : Prop :=
  (∀ a, (k0_off9 v48) a + S1.size a ≤ S23.size a)
theorem k0_off9_inb : ∀ (v48 : BitVec 32) (k0_hw9 : k0_chk9 v48), ∀ a, (k0_off9 v48) a + S1.size a ≤ S23.size a := fun v48 k0_hw9 => k0_hw9

def k0_mult9 (v50 : BitVec 32) : BitVec 32 :=
  let c_m32_i32_18 : BitVec 32 := 4294967264#32
  let v51 : BitVec 32 := Scalar.andi v50 c_m32_i32_18
  v51

def k0_mult10 (i : grid0.Coords) : BitVec 32 :=
  let arg0 : BitVec 32 := BitVec.ofNat 32 (i 0).val
  let c256_i32_19 : BitVec 32 := 256#32
  let v53 : BitVec 32 := Scalar.muli arg0 c256_i32_19
  v53
def k0_off10 (i : grid0.Coords) (v50 : BitVec 32) : Fin 2 → Nat :=
  let c_m32_i32_18 : BitVec 32 := 4294967264#32
  let v51 : BitVec 32 := Scalar.andi v50 c_m32_i32_18
  let v52 : BitVec 32 := v51
  let arg0 : BitVec 32 := BitVec.ofNat 32 (i 0).val
  let c256_i32_19 : BitVec 32 := 256#32
  let v53 : BitVec 32 := Scalar.muli arg0 c256_i32_19
  let v54 : BitVec 32 := v53
  ![v52.toNat, v54.toNat]

def k0_chk10 (i : grid0.Coords) (v50 : BitVec 32) : Prop :=
  (32 ∣ (k0_mult9 v50).toNat) ∧
  (∀ a, (k0_off10 i v50) a + S128x256.size a ≤ S2500x2048.size a) ∧
  (∀ (hinb : ∀ a, (k0_off10 i v50) a + S128x256.size a ≤ S2500x2048.size a), (Rect.unit (s := S2500x2048) (k0_off10 i v50) S128x256.size hinb).WholeWords (EltTy.packing .i8))
theorem k0_mult9_dvd : ∀ (i : grid0.Coords) (v50 : BitVec 32) (k0_hw10 : k0_chk10 i v50), 32 ∣ (k0_mult9 v50).toNat := fun i v50 k0_hw10 => k0_hw10.1
theorem k0_off10_inb : ∀ (i : grid0.Coords) (v50 : BitVec 32) (k0_hw10 : k0_chk10 i v50), ∀ a, (k0_off10 i v50) a + S128x256.size a ≤ S2500x2048.size a := fun i v50 k0_hw10 => k0_hw10.2.1
theorem k0_off10_wordsi8 : ∀ (i : grid0.Coords) (v50 : BitVec 32) (k0_hw10 : k0_chk10 i v50), (Rect.unit (s := S2500x2048) (k0_off10 i v50) S128x256.size (k0_off10_inb i v50 k0_hw10)).WholeWords (EltTy.packing .i8) := fun i v50 k0_hw10 => k0_hw10.2.2 (k0_off10_inb i v50 k0_hw10)

def k0_off11 (v60 : BitVec 32) : Fin 1 → Nat :=
  let v61 : Index := Scalar.indexCast v60
  ![v61.toNat]

def k0_chk11 (v60 : BitVec 32) : Prop :=
  (∀ a, (k0_off11 v60) a + S1.size a ≤ S23.size a)
theorem k0_off11_inb : ∀ (v60 : BitVec 32) (k0_hw11 : k0_chk11 v60), ∀ a, (k0_off11 v60) a + S1.size a ≤ S23.size a := fun v60 k0_hw11 => k0_hw11

def k0_mult11 (v62 : BitVec 32) : BitVec 32 :=
  let c_m32_i32_23 : BitVec 32 := 4294967264#32
  let v63 : BitVec 32 := Scalar.andi v62 c_m32_i32_23
  v63

def k0_mult12 (i : grid0.Coords) : BitVec 32 :=
  let arg0 : BitVec 32 := BitVec.ofNat 32 (i 0).val
  let c256_i32_24 : BitVec 32 := 256#32
  let v65 : BitVec 32 := Scalar.muli arg0 c256_i32_24
  v65
def k0_off12 (i : grid0.Coords) (v62 : BitVec 32) : Fin 2 → Nat :=
  let c_m32_i32_23 : BitVec 32 := 4294967264#32
  let v63 : BitVec 32 := Scalar.andi v62 c_m32_i32_23
  let v64 : BitVec 32 := v63
  let arg0 : BitVec 32 := BitVec.ofNat 32 (i 0).val
  let c256_i32_24 : BitVec 32 := 256#32
  let v65 : BitVec 32 := Scalar.muli arg0 c256_i32_24
  let v66 : BitVec 32 := v65
  ![v64.toNat, v66.toNat]

def k0_chk12 (i : grid0.Coords) (v62 : BitVec 32) : Prop :=
  (32 ∣ (k0_mult11 v62).toNat) ∧
  (∀ a, (k0_off12 i v62) a + S128x256.size a ≤ S2500x2048.size a) ∧
  (∀ (hinb : ∀ a, (k0_off12 i v62) a + S128x256.size a ≤ S2500x2048.size a), (Rect.unit (s := S2500x2048) (k0_off12 i v62) S128x256.size hinb).WholeWords (EltTy.packing .i8))
theorem k0_mult11_dvd : ∀ (i : grid0.Coords) (v62 : BitVec 32) (k0_hw12 : k0_chk12 i v62), 32 ∣ (k0_mult11 v62).toNat := fun i v62 k0_hw12 => k0_hw12.1
theorem k0_off12_inb : ∀ (i : grid0.Coords) (v62 : BitVec 32) (k0_hw12 : k0_chk12 i v62), ∀ a, (k0_off12 i v62) a + S128x256.size a ≤ S2500x2048.size a := fun i v62 k0_hw12 => k0_hw12.2.1
theorem k0_off12_wordsi8 : ∀ (i : grid0.Coords) (v62 : BitVec 32) (k0_hw12 : k0_chk12 i v62), (Rect.unit (s := S2500x2048) (k0_off12 i v62) S128x256.size (k0_off12_inb i v62 k0_hw12)).WholeWords (EltTy.packing .i8) := fun i v62 k0_hw12 => k0_hw12.2.2 (k0_off12_inb i v62 k0_hw12)

def k0_off13 (v72 : BitVec 32) : Fin 1 → Nat :=
  let v73 : Index := Scalar.indexCast v72
  ![v73.toNat]

def k0_chk13 (v72 : BitVec 32) : Prop :=
  (∀ a, (k0_off13 v72) a + S1.size a ≤ S23.size a)
theorem k0_off13_inb : ∀ (v72 : BitVec 32) (k0_hw13 : k0_chk13 v72), ∀ a, (k0_off13 v72) a + S1.size a ≤ S23.size a := fun v72 k0_hw13 => k0_hw13

def k0_mult13 (v74 : BitVec 32) : BitVec 32 :=
  let c_m32_i32_28 : BitVec 32 := 4294967264#32
  let v75 : BitVec 32 := Scalar.andi v74 c_m32_i32_28
  v75

def k0_mult14 (i : grid0.Coords) : BitVec 32 :=
  let arg0 : BitVec 32 := BitVec.ofNat 32 (i 0).val
  let c256_i32_29 : BitVec 32 := 256#32
  let v77 : BitVec 32 := Scalar.muli arg0 c256_i32_29
  v77
def k0_off14 (i : grid0.Coords) (v74 : BitVec 32) : Fin 2 → Nat :=
  let c_m32_i32_28 : BitVec 32 := 4294967264#32
  let v75 : BitVec 32 := Scalar.andi v74 c_m32_i32_28
  let v76 : BitVec 32 := v75
  let arg0 : BitVec 32 := BitVec.ofNat 32 (i 0).val
  let c256_i32_29 : BitVec 32 := 256#32
  let v77 : BitVec 32 := Scalar.muli arg0 c256_i32_29
  let v78 : BitVec 32 := v77
  ![v76.toNat, v78.toNat]

def k0_chk14 (i : grid0.Coords) (v74 : BitVec 32) : Prop :=
  (32 ∣ (k0_mult13 v74).toNat) ∧
  (∀ a, (k0_off14 i v74) a + S128x256.size a ≤ S2500x2048.size a) ∧
  (∀ (hinb : ∀ a, (k0_off14 i v74) a + S128x256.size a ≤ S2500x2048.size a), (Rect.unit (s := S2500x2048) (k0_off14 i v74) S128x256.size hinb).WholeWords (EltTy.packing .i8))
theorem k0_mult13_dvd : ∀ (i : grid0.Coords) (v74 : BitVec 32) (k0_hw14 : k0_chk14 i v74), 32 ∣ (k0_mult13 v74).toNat := fun i v74 k0_hw14 => k0_hw14.1
theorem k0_off14_inb : ∀ (i : grid0.Coords) (v74 : BitVec 32) (k0_hw14 : k0_chk14 i v74), ∀ a, (k0_off14 i v74) a + S128x256.size a ≤ S2500x2048.size a := fun i v74 k0_hw14 => k0_hw14.2.1
theorem k0_off14_wordsi8 : ∀ (i : grid0.Coords) (v74 : BitVec 32) (k0_hw14 : k0_chk14 i v74), (Rect.unit (s := S2500x2048) (k0_off14 i v74) S128x256.size (k0_off14_inb i v74 k0_hw14)).WholeWords (EltTy.packing .i8) := fun i v74 k0_hw14 => k0_hw14.2.2 (k0_off14_inb i v74 k0_hw14)

def k0_off15 (v84 : BitVec 32) : Fin 1 → Nat :=
  let v85 : Index := Scalar.indexCast v84
  ![v85.toNat]

def k0_chk15 (v84 : BitVec 32) : Prop :=
  (∀ a, (k0_off15 v84) a + S1.size a ≤ S23.size a)
theorem k0_off15_inb : ∀ (v84 : BitVec 32) (k0_hw15 : k0_chk15 v84), ∀ a, (k0_off15 v84) a + S1.size a ≤ S23.size a := fun v84 k0_hw15 => k0_hw15

def k0_mult15 (v86 : BitVec 32) : BitVec 32 :=
  let c_m32_i32_33 : BitVec 32 := 4294967264#32
  let v87 : BitVec 32 := Scalar.andi v86 c_m32_i32_33
  v87

def k0_mult16 (i : grid0.Coords) : BitVec 32 :=
  let arg0 : BitVec 32 := BitVec.ofNat 32 (i 0).val
  let c256_i32_34 : BitVec 32 := 256#32
  let v89 : BitVec 32 := Scalar.muli arg0 c256_i32_34
  v89
def k0_off16 (i : grid0.Coords) (v86 : BitVec 32) : Fin 2 → Nat :=
  let c_m32_i32_33 : BitVec 32 := 4294967264#32
  let v87 : BitVec 32 := Scalar.andi v86 c_m32_i32_33
  let v88 : BitVec 32 := v87
  let arg0 : BitVec 32 := BitVec.ofNat 32 (i 0).val
  let c256_i32_34 : BitVec 32 := 256#32
  let v89 : BitVec 32 := Scalar.muli arg0 c256_i32_34
  let v90 : BitVec 32 := v89
  ![v88.toNat, v90.toNat]

def k0_chk16 (i : grid0.Coords) (v86 : BitVec 32) : Prop :=
  (32 ∣ (k0_mult15 v86).toNat) ∧
  (∀ a, (k0_off16 i v86) a + S128x256.size a ≤ S2500x2048.size a) ∧
  (∀ (hinb : ∀ a, (k0_off16 i v86) a + S128x256.size a ≤ S2500x2048.size a), (Rect.unit (s := S2500x2048) (k0_off16 i v86) S128x256.size hinb).WholeWords (EltTy.packing .i8))
theorem k0_mult15_dvd : ∀ (i : grid0.Coords) (v86 : BitVec 32) (k0_hw16 : k0_chk16 i v86), 32 ∣ (k0_mult15 v86).toNat := fun i v86 k0_hw16 => k0_hw16.1
theorem k0_off16_inb : ∀ (i : grid0.Coords) (v86 : BitVec 32) (k0_hw16 : k0_chk16 i v86), ∀ a, (k0_off16 i v86) a + S128x256.size a ≤ S2500x2048.size a := fun i v86 k0_hw16 => k0_hw16.2.1
theorem k0_off16_wordsi8 : ∀ (i : grid0.Coords) (v86 : BitVec 32) (k0_hw16 : k0_chk16 i v86), (Rect.unit (s := S2500x2048) (k0_off16 i v86) S128x256.size (k0_off16_inb i v86 k0_hw16)).WholeWords (EltTy.packing .i8) := fun i v86 k0_hw16 => k0_hw16.2.2 (k0_off16_inb i v86 k0_hw16)

def k0_off17 (v96 : BitVec 32) : Fin 1 → Nat :=
  let v97 : Index := Scalar.indexCast v96
  ![v97.toNat]

def k0_chk17 (v96 : BitVec 32) : Prop :=
  (∀ a, (k0_off17 v96) a + S1.size a ≤ S23.size a)
theorem k0_off17_inb : ∀ (v96 : BitVec 32) (k0_hw17 : k0_chk17 v96), ∀ a, (k0_off17 v96) a + S1.size a ≤ S23.size a := fun v96 k0_hw17 => k0_hw17

def k0_mult17 (v98 : BitVec 32) : BitVec 32 :=
  let c_m32_i32_38 : BitVec 32 := 4294967264#32
  let v99 : BitVec 32 := Scalar.andi v98 c_m32_i32_38
  v99

def k0_mult18 (i : grid0.Coords) : BitVec 32 :=
  let arg0 : BitVec 32 := BitVec.ofNat 32 (i 0).val
  let c256_i32_39 : BitVec 32 := 256#32
  let v101 : BitVec 32 := Scalar.muli arg0 c256_i32_39
  v101
def k0_off18 (i : grid0.Coords) (v98 : BitVec 32) : Fin 2 → Nat :=
  let c_m32_i32_38 : BitVec 32 := 4294967264#32
  let v99 : BitVec 32 := Scalar.andi v98 c_m32_i32_38
  let v100 : BitVec 32 := v99
  let arg0 : BitVec 32 := BitVec.ofNat 32 (i 0).val
  let c256_i32_39 : BitVec 32 := 256#32
  let v101 : BitVec 32 := Scalar.muli arg0 c256_i32_39
  let v102 : BitVec 32 := v101
  ![v100.toNat, v102.toNat]

def k0_chk18 (i : grid0.Coords) (v98 : BitVec 32) : Prop :=
  (32 ∣ (k0_mult17 v98).toNat) ∧
  (∀ a, (k0_off18 i v98) a + S128x256.size a ≤ S2500x2048.size a) ∧
  (∀ (hinb : ∀ a, (k0_off18 i v98) a + S128x256.size a ≤ S2500x2048.size a), (Rect.unit (s := S2500x2048) (k0_off18 i v98) S128x256.size hinb).WholeWords (EltTy.packing .i8))
theorem k0_mult17_dvd : ∀ (i : grid0.Coords) (v98 : BitVec 32) (k0_hw18 : k0_chk18 i v98), 32 ∣ (k0_mult17 v98).toNat := fun i v98 k0_hw18 => k0_hw18.1
theorem k0_off18_inb : ∀ (i : grid0.Coords) (v98 : BitVec 32) (k0_hw18 : k0_chk18 i v98), ∀ a, (k0_off18 i v98) a + S128x256.size a ≤ S2500x2048.size a := fun i v98 k0_hw18 => k0_hw18.2.1
theorem k0_off18_wordsi8 : ∀ (i : grid0.Coords) (v98 : BitVec 32) (k0_hw18 : k0_chk18 i v98), (Rect.unit (s := S2500x2048) (k0_off18 i v98) S128x256.size (k0_off18_inb i v98 k0_hw18)).WholeWords (EltTy.packing .i8) := fun i v98 k0_hw18 => k0_hw18.2.2 (k0_off18_inb i v98 k0_hw18)

def k0_off19 (v108 : BitVec 32) : Fin 1 → Nat :=
  let v109 : Index := Scalar.indexCast v108
  ![v109.toNat]

def k0_chk19 (v108 : BitVec 32) : Prop :=
  (∀ a, (k0_off19 v108) a + S1.size a ≤ S23.size a)
theorem k0_off19_inb : ∀ (v108 : BitVec 32) (k0_hw19 : k0_chk19 v108), ∀ a, (k0_off19 v108) a + S1.size a ≤ S23.size a := fun v108 k0_hw19 => k0_hw19

def k0_mult19 (v110 : BitVec 32) : BitVec 32 :=
  let c_m32_i32_43 : BitVec 32 := 4294967264#32
  let v111 : BitVec 32 := Scalar.andi v110 c_m32_i32_43
  v111

def k0_mult20 (i : grid0.Coords) : BitVec 32 :=
  let arg0 : BitVec 32 := BitVec.ofNat 32 (i 0).val
  let c256_i32_44 : BitVec 32 := 256#32
  let v113 : BitVec 32 := Scalar.muli arg0 c256_i32_44
  v113
def k0_off20 (i : grid0.Coords) (v110 : BitVec 32) : Fin 2 → Nat :=
  let c_m32_i32_43 : BitVec 32 := 4294967264#32
  let v111 : BitVec 32 := Scalar.andi v110 c_m32_i32_43
  let v112 : BitVec 32 := v111
  let arg0 : BitVec 32 := BitVec.ofNat 32 (i 0).val
  let c256_i32_44 : BitVec 32 := 256#32
  let v113 : BitVec 32 := Scalar.muli arg0 c256_i32_44
  let v114 : BitVec 32 := v113
  ![v112.toNat, v114.toNat]

def k0_chk20 (i : grid0.Coords) (v110 : BitVec 32) : Prop :=
  (32 ∣ (k0_mult19 v110).toNat) ∧
  (∀ a, (k0_off20 i v110) a + S128x256.size a ≤ S2500x2048.size a) ∧
  (∀ (hinb : ∀ a, (k0_off20 i v110) a + S128x256.size a ≤ S2500x2048.size a), (Rect.unit (s := S2500x2048) (k0_off20 i v110) S128x256.size hinb).WholeWords (EltTy.packing .i8))
theorem k0_mult19_dvd : ∀ (i : grid0.Coords) (v110 : BitVec 32) (k0_hw20 : k0_chk20 i v110), 32 ∣ (k0_mult19 v110).toNat := fun i v110 k0_hw20 => k0_hw20.1
theorem k0_off20_inb : ∀ (i : grid0.Coords) (v110 : BitVec 32) (k0_hw20 : k0_chk20 i v110), ∀ a, (k0_off20 i v110) a + S128x256.size a ≤ S2500x2048.size a := fun i v110 k0_hw20 => k0_hw20.2.1
theorem k0_off20_wordsi8 : ∀ (i : grid0.Coords) (v110 : BitVec 32) (k0_hw20 : k0_chk20 i v110), (Rect.unit (s := S2500x2048) (k0_off20 i v110) S128x256.size (k0_off20_inb i v110 k0_hw20)).WholeWords (EltTy.packing .i8) := fun i v110 k0_hw20 => k0_hw20.2.2 (k0_off20_inb i v110 k0_hw20)

def k0_off21 (v120 : BitVec 32) : Fin 1 → Nat :=
  let v121 : Index := Scalar.indexCast v120
  ![v121.toNat]

def k0_chk21 (v120 : BitVec 32) : Prop :=
  (∀ a, (k0_off21 v120) a + S1.size a ≤ S23.size a)
theorem k0_off21_inb : ∀ (v120 : BitVec 32) (k0_hw21 : k0_chk21 v120), ∀ a, (k0_off21 v120) a + S1.size a ≤ S23.size a := fun v120 k0_hw21 => k0_hw21

def k0_mult21 (v122 : BitVec 32) : BitVec 32 :=
  let c_m32_i32_48 : BitVec 32 := 4294967264#32
  let v123 : BitVec 32 := Scalar.andi v122 c_m32_i32_48
  v123

def k0_mult22 (i : grid0.Coords) : BitVec 32 :=
  let arg0 : BitVec 32 := BitVec.ofNat 32 (i 0).val
  let c256_i32_49 : BitVec 32 := 256#32
  let v125 : BitVec 32 := Scalar.muli arg0 c256_i32_49
  v125
def k0_off22 (i : grid0.Coords) (v122 : BitVec 32) : Fin 2 → Nat :=
  let c_m32_i32_48 : BitVec 32 := 4294967264#32
  let v123 : BitVec 32 := Scalar.andi v122 c_m32_i32_48
  let v124 : BitVec 32 := v123
  let arg0 : BitVec 32 := BitVec.ofNat 32 (i 0).val
  let c256_i32_49 : BitVec 32 := 256#32
  let v125 : BitVec 32 := Scalar.muli arg0 c256_i32_49
  let v126 : BitVec 32 := v125
  ![v124.toNat, v126.toNat]

def k0_chk22 (i : grid0.Coords) (v122 : BitVec 32) : Prop :=
  (32 ∣ (k0_mult21 v122).toNat) ∧
  (∀ a, (k0_off22 i v122) a + S128x256.size a ≤ S2500x2048.size a) ∧
  (∀ (hinb : ∀ a, (k0_off22 i v122) a + S128x256.size a ≤ S2500x2048.size a), (Rect.unit (s := S2500x2048) (k0_off22 i v122) S128x256.size hinb).WholeWords (EltTy.packing .i8))
theorem k0_mult21_dvd : ∀ (i : grid0.Coords) (v122 : BitVec 32) (k0_hw22 : k0_chk22 i v122), 32 ∣ (k0_mult21 v122).toNat := fun i v122 k0_hw22 => k0_hw22.1
theorem k0_off22_inb : ∀ (i : grid0.Coords) (v122 : BitVec 32) (k0_hw22 : k0_chk22 i v122), ∀ a, (k0_off22 i v122) a + S128x256.size a ≤ S2500x2048.size a := fun i v122 k0_hw22 => k0_hw22.2.1
theorem k0_off22_wordsi8 : ∀ (i : grid0.Coords) (v122 : BitVec 32) (k0_hw22 : k0_chk22 i v122), (Rect.unit (s := S2500x2048) (k0_off22 i v122) S128x256.size (k0_off22_inb i v122 k0_hw22)).WholeWords (EltTy.packing .i8) := fun i v122 k0_hw22 => k0_hw22.2.2 (k0_off22_inb i v122 k0_hw22)

def k0_off23 (v132 : BitVec 32) : Fin 1 → Nat :=
  let v133 : Index := Scalar.indexCast v132
  ![v133.toNat]

def k0_chk23 (v132 : BitVec 32) : Prop :=
  (∀ a, (k0_off23 v132) a + S1.size a ≤ S23.size a)
theorem k0_off23_inb : ∀ (v132 : BitVec 32) (k0_hw23 : k0_chk23 v132), ∀ a, (k0_off23 v132) a + S1.size a ≤ S23.size a := fun v132 k0_hw23 => k0_hw23

def k0_mult23 (v134 : BitVec 32) : BitVec 32 :=
  let c_m32_i32_53 : BitVec 32 := 4294967264#32
  let v135 : BitVec 32 := Scalar.andi v134 c_m32_i32_53
  v135

def k0_mult24 (i : grid0.Coords) : BitVec 32 :=
  let arg0 : BitVec 32 := BitVec.ofNat 32 (i 0).val
  let c256_i32_54 : BitVec 32 := 256#32
  let v137 : BitVec 32 := Scalar.muli arg0 c256_i32_54
  v137
def k0_off24 (i : grid0.Coords) (v134 : BitVec 32) : Fin 2 → Nat :=
  let c_m32_i32_53 : BitVec 32 := 4294967264#32
  let v135 : BitVec 32 := Scalar.andi v134 c_m32_i32_53
  let v136 : BitVec 32 := v135
  let arg0 : BitVec 32 := BitVec.ofNat 32 (i 0).val
  let c256_i32_54 : BitVec 32 := 256#32
  let v137 : BitVec 32 := Scalar.muli arg0 c256_i32_54
  let v138 : BitVec 32 := v137
  ![v136.toNat, v138.toNat]

def k0_chk24 (i : grid0.Coords) (v134 : BitVec 32) : Prop :=
  (32 ∣ (k0_mult23 v134).toNat) ∧
  (∀ a, (k0_off24 i v134) a + S128x256.size a ≤ S2500x2048.size a) ∧
  (∀ (hinb : ∀ a, (k0_off24 i v134) a + S128x256.size a ≤ S2500x2048.size a), (Rect.unit (s := S2500x2048) (k0_off24 i v134) S128x256.size hinb).WholeWords (EltTy.packing .i8))
theorem k0_mult23_dvd : ∀ (i : grid0.Coords) (v134 : BitVec 32) (k0_hw24 : k0_chk24 i v134), 32 ∣ (k0_mult23 v134).toNat := fun i v134 k0_hw24 => k0_hw24.1
theorem k0_off24_inb : ∀ (i : grid0.Coords) (v134 : BitVec 32) (k0_hw24 : k0_chk24 i v134), ∀ a, (k0_off24 i v134) a + S128x256.size a ≤ S2500x2048.size a := fun i v134 k0_hw24 => k0_hw24.2.1
theorem k0_off24_wordsi8 : ∀ (i : grid0.Coords) (v134 : BitVec 32) (k0_hw24 : k0_chk24 i v134), (Rect.unit (s := S2500x2048) (k0_off24 i v134) S128x256.size (k0_off24_inb i v134 k0_hw24)).WholeWords (EltTy.packing .i8) := fun i v134 k0_hw24 => k0_hw24.2.2 (k0_off24_inb i v134 k0_hw24)

def k0_off25 (v144 : BitVec 32) : Fin 1 → Nat :=
  let v145 : Index := Scalar.indexCast v144
  ![v145.toNat]

def k0_chk25 (v144 : BitVec 32) : Prop :=
  (∀ a, (k0_off25 v144) a + S1.size a ≤ S23.size a)
theorem k0_off25_inb : ∀ (v144 : BitVec 32) (k0_hw25 : k0_chk25 v144), ∀ a, (k0_off25 v144) a + S1.size a ≤ S23.size a := fun v144 k0_hw25 => k0_hw25

def k0_mult25 (v146 : BitVec 32) : BitVec 32 :=
  let c_m32_i32_58 : BitVec 32 := 4294967264#32
  let v147 : BitVec 32 := Scalar.andi v146 c_m32_i32_58
  v147

def k0_mult26 (i : grid0.Coords) : BitVec 32 :=
  let arg0 : BitVec 32 := BitVec.ofNat 32 (i 0).val
  let c256_i32_59 : BitVec 32 := 256#32
  let v149 : BitVec 32 := Scalar.muli arg0 c256_i32_59
  v149
def k0_off26 (i : grid0.Coords) (v146 : BitVec 32) : Fin 2 → Nat :=
  let c_m32_i32_58 : BitVec 32 := 4294967264#32
  let v147 : BitVec 32 := Scalar.andi v146 c_m32_i32_58
  let v148 : BitVec 32 := v147
  let arg0 : BitVec 32 := BitVec.ofNat 32 (i 0).val
  let c256_i32_59 : BitVec 32 := 256#32
  let v149 : BitVec 32 := Scalar.muli arg0 c256_i32_59
  let v150 : BitVec 32 := v149
  ![v148.toNat, v150.toNat]

def k0_chk26 (i : grid0.Coords) (v146 : BitVec 32) : Prop :=
  (32 ∣ (k0_mult25 v146).toNat) ∧
  (∀ a, (k0_off26 i v146) a + S128x256.size a ≤ S2500x2048.size a) ∧
  (∀ (hinb : ∀ a, (k0_off26 i v146) a + S128x256.size a ≤ S2500x2048.size a), (Rect.unit (s := S2500x2048) (k0_off26 i v146) S128x256.size hinb).WholeWords (EltTy.packing .i8))
theorem k0_mult25_dvd : ∀ (i : grid0.Coords) (v146 : BitVec 32) (k0_hw26 : k0_chk26 i v146), 32 ∣ (k0_mult25 v146).toNat := fun i v146 k0_hw26 => k0_hw26.1
theorem k0_off26_inb : ∀ (i : grid0.Coords) (v146 : BitVec 32) (k0_hw26 : k0_chk26 i v146), ∀ a, (k0_off26 i v146) a + S128x256.size a ≤ S2500x2048.size a := fun i v146 k0_hw26 => k0_hw26.2.1
theorem k0_off26_wordsi8 : ∀ (i : grid0.Coords) (v146 : BitVec 32) (k0_hw26 : k0_chk26 i v146), (Rect.unit (s := S2500x2048) (k0_off26 i v146) S128x256.size (k0_off26_inb i v146 k0_hw26)).WholeWords (EltTy.packing .i8) := fun i v146 k0_hw26 => k0_hw26.2.2 (k0_off26_inb i v146 k0_hw26)

def k0_off27 (v156 : BitVec 32) : Fin 1 → Nat :=
  let v157 : Index := Scalar.indexCast v156
  ![v157.toNat]

def k0_chk27 (v156 : BitVec 32) : Prop :=
  (∀ a, (k0_off27 v156) a + S1.size a ≤ S23.size a)
theorem k0_off27_inb : ∀ (v156 : BitVec 32) (k0_hw27 : k0_chk27 v156), ∀ a, (k0_off27 v156) a + S1.size a ≤ S23.size a := fun v156 k0_hw27 => k0_hw27

def k0_mult27 (v158 : BitVec 32) : BitVec 32 :=
  let c_m32_i32_63 : BitVec 32 := 4294967264#32
  let v159 : BitVec 32 := Scalar.andi v158 c_m32_i32_63
  v159

def k0_mult28 (i : grid0.Coords) : BitVec 32 :=
  let arg0 : BitVec 32 := BitVec.ofNat 32 (i 0).val
  let c256_i32_64 : BitVec 32 := 256#32
  let v161 : BitVec 32 := Scalar.muli arg0 c256_i32_64
  v161
def k0_off28 (i : grid0.Coords) (v158 : BitVec 32) : Fin 2 → Nat :=
  let c_m32_i32_63 : BitVec 32 := 4294967264#32
  let v159 : BitVec 32 := Scalar.andi v158 c_m32_i32_63
  let v160 : BitVec 32 := v159
  let arg0 : BitVec 32 := BitVec.ofNat 32 (i 0).val
  let c256_i32_64 : BitVec 32 := 256#32
  let v161 : BitVec 32 := Scalar.muli arg0 c256_i32_64
  let v162 : BitVec 32 := v161
  ![v160.toNat, v162.toNat]

def k0_chk28 (i : grid0.Coords) (v158 : BitVec 32) : Prop :=
  (32 ∣ (k0_mult27 v158).toNat) ∧
  (∀ a, (k0_off28 i v158) a + S128x256.size a ≤ S2500x2048.size a) ∧
  (∀ (hinb : ∀ a, (k0_off28 i v158) a + S128x256.size a ≤ S2500x2048.size a), (Rect.unit (s := S2500x2048) (k0_off28 i v158) S128x256.size hinb).WholeWords (EltTy.packing .i8))
theorem k0_mult27_dvd : ∀ (i : grid0.Coords) (v158 : BitVec 32) (k0_hw28 : k0_chk28 i v158), 32 ∣ (k0_mult27 v158).toNat := fun i v158 k0_hw28 => k0_hw28.1
theorem k0_off28_inb : ∀ (i : grid0.Coords) (v158 : BitVec 32) (k0_hw28 : k0_chk28 i v158), ∀ a, (k0_off28 i v158) a + S128x256.size a ≤ S2500x2048.size a := fun i v158 k0_hw28 => k0_hw28.2.1
theorem k0_off28_wordsi8 : ∀ (i : grid0.Coords) (v158 : BitVec 32) (k0_hw28 : k0_chk28 i v158), (Rect.unit (s := S2500x2048) (k0_off28 i v158) S128x256.size (k0_off28_inb i v158 k0_hw28)).WholeWords (EltTy.packing .i8) := fun i v158 k0_hw28 => k0_hw28.2.2 (k0_off28_inb i v158 k0_hw28)

def k0_off29 (v580 : BitVec 32) : Fin 1 → Nat :=
  let v581 : Index := Scalar.indexCast v580
  ![v581.toNat]

def k0_chk29 (v580 : BitVec 32) : Prop :=
  (∀ a, (k0_off29 v580) a + S1.size a ≤ S23.size a)
theorem k0_off29_inb : ∀ (v580 : BitVec 32) (k0_hw29 : k0_chk29 v580), ∀ a, (k0_off29 v580) a + S1.size a ≤ S23.size a := fun v580 k0_hw29 => k0_hw29

def k0_mult29 (v582 : BitVec 32) : BitVec 32 :=
  let c_m32_i32_206 : BitVec 32 := 4294967264#32
  let v583 : BitVec 32 := Scalar.andi v582 c_m32_i32_206
  v583

def k0_mult30 (i : grid0.Coords) : BitVec 32 :=
  let arg0 : BitVec 32 := BitVec.ofNat 32 (i 0).val
  let c256_i32_207 : BitVec 32 := 256#32
  let v585 : BitVec 32 := Scalar.muli arg0 c256_i32_207
  v585
def k0_off30 (i : grid0.Coords) (v582 : BitVec 32) : Fin 2 → Nat :=
  let c_m32_i32_206 : BitVec 32 := 4294967264#32
  let v583 : BitVec 32 := Scalar.andi v582 c_m32_i32_206
  let v584 : BitVec 32 := v583
  let arg0 : BitVec 32 := BitVec.ofNat 32 (i 0).val
  let c256_i32_207 : BitVec 32 := 256#32
  let v585 : BitVec 32 := Scalar.muli arg0 c256_i32_207
  let v586 : BitVec 32 := v585
  ![v584.toNat, v586.toNat]

def k0_chk30 (i : grid0.Coords) (v582 : BitVec 32) : Prop :=
  (32 ∣ (k0_mult29 v582).toNat) ∧
  (∀ a, (k0_off30 i v582) a + S128x256.size a ≤ S2500x2048.size a) ∧
  (∀ (hinb : ∀ a, (k0_off30 i v582) a + S128x256.size a ≤ S2500x2048.size a), (Rect.unit (s := S2500x2048) (k0_off30 i v582) S128x256.size hinb).WholeWords (EltTy.packing .i8))
theorem k0_mult29_dvd : ∀ (i : grid0.Coords) (v582 : BitVec 32) (k0_hw30 : k0_chk30 i v582), 32 ∣ (k0_mult29 v582).toNat := fun i v582 k0_hw30 => k0_hw30.1
theorem k0_off30_inb : ∀ (i : grid0.Coords) (v582 : BitVec 32) (k0_hw30 : k0_chk30 i v582), ∀ a, (k0_off30 i v582) a + S128x256.size a ≤ S2500x2048.size a := fun i v582 k0_hw30 => k0_hw30.2.1
theorem k0_off30_wordsi8 : ∀ (i : grid0.Coords) (v582 : BitVec 32) (k0_hw30 : k0_chk30 i v582), (Rect.unit (s := S2500x2048) (k0_off30 i v582) S128x256.size (k0_off30_inb i v582 k0_hw30)).WholeWords (EltTy.packing .i8) := fun i v582 k0_hw30 => k0_hw30.2.2 (k0_off30_inb i v582 k0_hw30)

def k0_off31 (v592 : BitVec 32) : Fin 1 → Nat :=
  let v593 : Index := Scalar.indexCast v592
  ![v593.toNat]

def k0_chk31 (v592 : BitVec 32) : Prop :=
  (∀ a, (k0_off31 v592) a + S1.size a ≤ S23.size a)
theorem k0_off31_inb : ∀ (v592 : BitVec 32) (k0_hw31 : k0_chk31 v592), ∀ a, (k0_off31 v592) a + S1.size a ≤ S23.size a := fun v592 k0_hw31 => k0_hw31

def k0_mult31 (v594 : BitVec 32) : BitVec 32 :=
  let c_m32_i32_213 : BitVec 32 := 4294967264#32
  let v595 : BitVec 32 := Scalar.andi v594 c_m32_i32_213
  v595

def k0_mult32 (i : grid0.Coords) : BitVec 32 :=
  let arg0 : BitVec 32 := BitVec.ofNat 32 (i 0).val
  let c256_i32_214 : BitVec 32 := 256#32
  let v597 : BitVec 32 := Scalar.muli arg0 c256_i32_214
  v597
def k0_off32 (i : grid0.Coords) (v594 : BitVec 32) : Fin 2 → Nat :=
  let c_m32_i32_213 : BitVec 32 := 4294967264#32
  let v595 : BitVec 32 := Scalar.andi v594 c_m32_i32_213
  let v596 : BitVec 32 := v595
  let arg0 : BitVec 32 := BitVec.ofNat 32 (i 0).val
  let c256_i32_214 : BitVec 32 := 256#32
  let v597 : BitVec 32 := Scalar.muli arg0 c256_i32_214
  let v598 : BitVec 32 := v597
  ![v596.toNat, v598.toNat]

def k0_chk32 (i : grid0.Coords) (v594 : BitVec 32) : Prop :=
  (32 ∣ (k0_mult31 v594).toNat) ∧
  (∀ a, (k0_off32 i v594) a + S128x256.size a ≤ S2500x2048.size a) ∧
  (∀ (hinb : ∀ a, (k0_off32 i v594) a + S128x256.size a ≤ S2500x2048.size a), (Rect.unit (s := S2500x2048) (k0_off32 i v594) S128x256.size hinb).WholeWords (EltTy.packing .i8))
theorem k0_mult31_dvd : ∀ (i : grid0.Coords) (v594 : BitVec 32) (k0_hw32 : k0_chk32 i v594), 32 ∣ (k0_mult31 v594).toNat := fun i v594 k0_hw32 => k0_hw32.1
theorem k0_off32_inb : ∀ (i : grid0.Coords) (v594 : BitVec 32) (k0_hw32 : k0_chk32 i v594), ∀ a, (k0_off32 i v594) a + S128x256.size a ≤ S2500x2048.size a := fun i v594 k0_hw32 => k0_hw32.2.1
theorem k0_off32_wordsi8 : ∀ (i : grid0.Coords) (v594 : BitVec 32) (k0_hw32 : k0_chk32 i v594), (Rect.unit (s := S2500x2048) (k0_off32 i v594) S128x256.size (k0_off32_inb i v594 k0_hw32)).WholeWords (EltTy.packing .i8) := fun i v594 k0_hw32 => k0_hw32.2.2 (k0_off32_inb i v594 k0_hw32)

def k0_off33 (v604 : BitVec 32) : Fin 1 → Nat :=
  let v605 : Index := Scalar.indexCast v604
  ![v605.toNat]

def k0_chk33 (v604 : BitVec 32) : Prop :=
  (∀ a, (k0_off33 v604) a + S1.size a ≤ S23.size a)
theorem k0_off33_inb : ∀ (v604 : BitVec 32) (k0_hw33 : k0_chk33 v604), ∀ a, (k0_off33 v604) a + S1.size a ≤ S23.size a := fun v604 k0_hw33 => k0_hw33

def k0_mult33 (v606 : BitVec 32) : BitVec 32 :=
  let c_m32_i32_220 : BitVec 32 := 4294967264#32
  let v607 : BitVec 32 := Scalar.andi v606 c_m32_i32_220
  v607

def k0_mult34 (i : grid0.Coords) : BitVec 32 :=
  let arg0 : BitVec 32 := BitVec.ofNat 32 (i 0).val
  let c256_i32_221 : BitVec 32 := 256#32
  let v609 : BitVec 32 := Scalar.muli arg0 c256_i32_221
  v609
def k0_off34 (i : grid0.Coords) (v606 : BitVec 32) : Fin 2 → Nat :=
  let c_m32_i32_220 : BitVec 32 := 4294967264#32
  let v607 : BitVec 32 := Scalar.andi v606 c_m32_i32_220
  let v608 : BitVec 32 := v607
  let arg0 : BitVec 32 := BitVec.ofNat 32 (i 0).val
  let c256_i32_221 : BitVec 32 := 256#32
  let v609 : BitVec 32 := Scalar.muli arg0 c256_i32_221
  let v610 : BitVec 32 := v609
  ![v608.toNat, v610.toNat]

def k0_chk34 (i : grid0.Coords) (v606 : BitVec 32) : Prop :=
  (32 ∣ (k0_mult33 v606).toNat) ∧
  (∀ a, (k0_off34 i v606) a + S128x256.size a ≤ S2500x2048.size a) ∧
  (∀ (hinb : ∀ a, (k0_off34 i v606) a + S128x256.size a ≤ S2500x2048.size a), (Rect.unit (s := S2500x2048) (k0_off34 i v606) S128x256.size hinb).WholeWords (EltTy.packing .i8))
theorem k0_mult33_dvd : ∀ (i : grid0.Coords) (v606 : BitVec 32) (k0_hw34 : k0_chk34 i v606), 32 ∣ (k0_mult33 v606).toNat := fun i v606 k0_hw34 => k0_hw34.1
theorem k0_off34_inb : ∀ (i : grid0.Coords) (v606 : BitVec 32) (k0_hw34 : k0_chk34 i v606), ∀ a, (k0_off34 i v606) a + S128x256.size a ≤ S2500x2048.size a := fun i v606 k0_hw34 => k0_hw34.2.1
theorem k0_off34_wordsi8 : ∀ (i : grid0.Coords) (v606 : BitVec 32) (k0_hw34 : k0_chk34 i v606), (Rect.unit (s := S2500x2048) (k0_off34 i v606) S128x256.size (k0_off34_inb i v606 k0_hw34)).WholeWords (EltTy.packing .i8) := fun i v606 k0_hw34 => k0_hw34.2.2 (k0_off34_inb i v606 k0_hw34)

def k0_off35 (v616 : BitVec 32) : Fin 1 → Nat :=
  let v617 : Index := Scalar.indexCast v616
  ![v617.toNat]

def k0_chk35 (v616 : BitVec 32) : Prop :=
  (∀ a, (k0_off35 v616) a + S1.size a ≤ S23.size a)
theorem k0_off35_inb : ∀ (v616 : BitVec 32) (k0_hw35 : k0_chk35 v616), ∀ a, (k0_off35 v616) a + S1.size a ≤ S23.size a := fun v616 k0_hw35 => k0_hw35

def k0_mult35 (v618 : BitVec 32) : BitVec 32 :=
  let c_m32_i32_227 : BitVec 32 := 4294967264#32
  let v619 : BitVec 32 := Scalar.andi v618 c_m32_i32_227
  v619

def k0_mult36 (i : grid0.Coords) : BitVec 32 :=
  let arg0 : BitVec 32 := BitVec.ofNat 32 (i 0).val
  let c256_i32_228 : BitVec 32 := 256#32
  let v621 : BitVec 32 := Scalar.muli arg0 c256_i32_228
  v621
def k0_off36 (i : grid0.Coords) (v618 : BitVec 32) : Fin 2 → Nat :=
  let c_m32_i32_227 : BitVec 32 := 4294967264#32
  let v619 : BitVec 32 := Scalar.andi v618 c_m32_i32_227
  let v620 : BitVec 32 := v619
  let arg0 : BitVec 32 := BitVec.ofNat 32 (i 0).val
  let c256_i32_228 : BitVec 32 := 256#32
  let v621 : BitVec 32 := Scalar.muli arg0 c256_i32_228
  let v622 : BitVec 32 := v621
  ![v620.toNat, v622.toNat]

def k0_chk36 (i : grid0.Coords) (v618 : BitVec 32) : Prop :=
  (32 ∣ (k0_mult35 v618).toNat) ∧
  (∀ a, (k0_off36 i v618) a + S128x256.size a ≤ S2500x2048.size a) ∧
  (∀ (hinb : ∀ a, (k0_off36 i v618) a + S128x256.size a ≤ S2500x2048.size a), (Rect.unit (s := S2500x2048) (k0_off36 i v618) S128x256.size hinb).WholeWords (EltTy.packing .i8))
theorem k0_mult35_dvd : ∀ (i : grid0.Coords) (v618 : BitVec 32) (k0_hw36 : k0_chk36 i v618), 32 ∣ (k0_mult35 v618).toNat := fun i v618 k0_hw36 => k0_hw36.1
theorem k0_off36_inb : ∀ (i : grid0.Coords) (v618 : BitVec 32) (k0_hw36 : k0_chk36 i v618), ∀ a, (k0_off36 i v618) a + S128x256.size a ≤ S2500x2048.size a := fun i v618 k0_hw36 => k0_hw36.2.1
theorem k0_off36_wordsi8 : ∀ (i : grid0.Coords) (v618 : BitVec 32) (k0_hw36 : k0_chk36 i v618), (Rect.unit (s := S2500x2048) (k0_off36 i v618) S128x256.size (k0_off36_inb i v618 k0_hw36)).WholeWords (EltTy.packing .i8) := fun i v618 k0_hw36 => k0_hw36.2.2 (k0_off36_inb i v618 k0_hw36)

def k0_off37 (v628 : BitVec 32) : Fin 1 → Nat :=
  let v629 : Index := Scalar.indexCast v628
  ![v629.toNat]

def k0_chk37 (v628 : BitVec 32) : Prop :=
  (∀ a, (k0_off37 v628) a + S1.size a ≤ S23.size a)
theorem k0_off37_inb : ∀ (v628 : BitVec 32) (k0_hw37 : k0_chk37 v628), ∀ a, (k0_off37 v628) a + S1.size a ≤ S23.size a := fun v628 k0_hw37 => k0_hw37

def k0_mult37 (v630 : BitVec 32) : BitVec 32 :=
  let c_m32_i32_234 : BitVec 32 := 4294967264#32
  let v631 : BitVec 32 := Scalar.andi v630 c_m32_i32_234
  v631

def k0_mult38 (i : grid0.Coords) : BitVec 32 :=
  let arg0 : BitVec 32 := BitVec.ofNat 32 (i 0).val
  let c256_i32_235 : BitVec 32 := 256#32
  let v633 : BitVec 32 := Scalar.muli arg0 c256_i32_235
  v633
def k0_off38 (i : grid0.Coords) (v630 : BitVec 32) : Fin 2 → Nat :=
  let c_m32_i32_234 : BitVec 32 := 4294967264#32
  let v631 : BitVec 32 := Scalar.andi v630 c_m32_i32_234
  let v632 : BitVec 32 := v631
  let arg0 : BitVec 32 := BitVec.ofNat 32 (i 0).val
  let c256_i32_235 : BitVec 32 := 256#32
  let v633 : BitVec 32 := Scalar.muli arg0 c256_i32_235
  let v634 : BitVec 32 := v633
  ![v632.toNat, v634.toNat]

def k0_chk38 (i : grid0.Coords) (v630 : BitVec 32) : Prop :=
  (32 ∣ (k0_mult37 v630).toNat) ∧
  (∀ a, (k0_off38 i v630) a + S128x256.size a ≤ S2500x2048.size a) ∧
  (∀ (hinb : ∀ a, (k0_off38 i v630) a + S128x256.size a ≤ S2500x2048.size a), (Rect.unit (s := S2500x2048) (k0_off38 i v630) S128x256.size hinb).WholeWords (EltTy.packing .i8))
theorem k0_mult37_dvd : ∀ (i : grid0.Coords) (v630 : BitVec 32) (k0_hw38 : k0_chk38 i v630), 32 ∣ (k0_mult37 v630).toNat := fun i v630 k0_hw38 => k0_hw38.1
theorem k0_off38_inb : ∀ (i : grid0.Coords) (v630 : BitVec 32) (k0_hw38 : k0_chk38 i v630), ∀ a, (k0_off38 i v630) a + S128x256.size a ≤ S2500x2048.size a := fun i v630 k0_hw38 => k0_hw38.2.1
theorem k0_off38_wordsi8 : ∀ (i : grid0.Coords) (v630 : BitVec 32) (k0_hw38 : k0_chk38 i v630), (Rect.unit (s := S2500x2048) (k0_off38 i v630) S128x256.size (k0_off38_inb i v630 k0_hw38)).WholeWords (EltTy.packing .i8) := fun i v630 k0_hw38 => k0_hw38.2.2 (k0_off38_inb i v630 k0_hw38)

def k0_off39 (v640 : BitVec 32) : Fin 1 → Nat :=
  let v641 : Index := Scalar.indexCast v640
  ![v641.toNat]

def k0_chk39 (v640 : BitVec 32) : Prop :=
  (∀ a, (k0_off39 v640) a + S1.size a ≤ S23.size a)
theorem k0_off39_inb : ∀ (v640 : BitVec 32) (k0_hw39 : k0_chk39 v640), ∀ a, (k0_off39 v640) a + S1.size a ≤ S23.size a := fun v640 k0_hw39 => k0_hw39

def k0_mult39 (v642 : BitVec 32) : BitVec 32 :=
  let c_m32_i32_241 : BitVec 32 := 4294967264#32
  let v643 : BitVec 32 := Scalar.andi v642 c_m32_i32_241
  v643

def k0_mult40 (i : grid0.Coords) : BitVec 32 :=
  let arg0 : BitVec 32 := BitVec.ofNat 32 (i 0).val
  let c256_i32_242 : BitVec 32 := 256#32
  let v645 : BitVec 32 := Scalar.muli arg0 c256_i32_242
  v645
def k0_off40 (i : grid0.Coords) (v642 : BitVec 32) : Fin 2 → Nat :=
  let c_m32_i32_241 : BitVec 32 := 4294967264#32
  let v643 : BitVec 32 := Scalar.andi v642 c_m32_i32_241
  let v644 : BitVec 32 := v643
  let arg0 : BitVec 32 := BitVec.ofNat 32 (i 0).val
  let c256_i32_242 : BitVec 32 := 256#32
  let v645 : BitVec 32 := Scalar.muli arg0 c256_i32_242
  let v646 : BitVec 32 := v645
  ![v644.toNat, v646.toNat]

def k0_chk40 (i : grid0.Coords) (v642 : BitVec 32) : Prop :=
  (32 ∣ (k0_mult39 v642).toNat) ∧
  (∀ a, (k0_off40 i v642) a + S128x256.size a ≤ S2500x2048.size a) ∧
  (∀ (hinb : ∀ a, (k0_off40 i v642) a + S128x256.size a ≤ S2500x2048.size a), (Rect.unit (s := S2500x2048) (k0_off40 i v642) S128x256.size hinb).WholeWords (EltTy.packing .i8))
theorem k0_mult39_dvd : ∀ (i : grid0.Coords) (v642 : BitVec 32) (k0_hw40 : k0_chk40 i v642), 32 ∣ (k0_mult39 v642).toNat := fun i v642 k0_hw40 => k0_hw40.1
theorem k0_off40_inb : ∀ (i : grid0.Coords) (v642 : BitVec 32) (k0_hw40 : k0_chk40 i v642), ∀ a, (k0_off40 i v642) a + S128x256.size a ≤ S2500x2048.size a := fun i v642 k0_hw40 => k0_hw40.2.1
theorem k0_off40_wordsi8 : ∀ (i : grid0.Coords) (v642 : BitVec 32) (k0_hw40 : k0_chk40 i v642), (Rect.unit (s := S2500x2048) (k0_off40 i v642) S128x256.size (k0_off40_inb i v642 k0_hw40)).WholeWords (EltTy.packing .i8) := fun i v642 k0_hw40 => k0_hw40.2.2 (k0_off40_inb i v642 k0_hw40)

def k0_off41 (v652 : BitVec 32) : Fin 1 → Nat :=
  let v653 : Index := Scalar.indexCast v652
  ![v653.toNat]

def k0_chk41 (v652 : BitVec 32) : Prop :=
  (∀ a, (k0_off41 v652) a + S1.size a ≤ S23.size a)
theorem k0_off41_inb : ∀ (v652 : BitVec 32) (k0_hw41 : k0_chk41 v652), ∀ a, (k0_off41 v652) a + S1.size a ≤ S23.size a := fun v652 k0_hw41 => k0_hw41

def k0_mult41 (v654 : BitVec 32) : BitVec 32 :=
  let c_m32_i32_248 : BitVec 32 := 4294967264#32
  let v655 : BitVec 32 := Scalar.andi v654 c_m32_i32_248
  v655

def k0_mult42 (i : grid0.Coords) : BitVec 32 :=
  let arg0 : BitVec 32 := BitVec.ofNat 32 (i 0).val
  let c256_i32_249 : BitVec 32 := 256#32
  let v657 : BitVec 32 := Scalar.muli arg0 c256_i32_249
  v657
def k0_off42 (i : grid0.Coords) (v654 : BitVec 32) : Fin 2 → Nat :=
  let c_m32_i32_248 : BitVec 32 := 4294967264#32
  let v655 : BitVec 32 := Scalar.andi v654 c_m32_i32_248
  let v656 : BitVec 32 := v655
  let arg0 : BitVec 32 := BitVec.ofNat 32 (i 0).val
  let c256_i32_249 : BitVec 32 := 256#32
  let v657 : BitVec 32 := Scalar.muli arg0 c256_i32_249
  let v658 : BitVec 32 := v657
  ![v656.toNat, v658.toNat]

def k0_chk42 (i : grid0.Coords) (v654 : BitVec 32) : Prop :=
  (32 ∣ (k0_mult41 v654).toNat) ∧
  (∀ a, (k0_off42 i v654) a + S128x256.size a ≤ S2500x2048.size a) ∧
  (∀ (hinb : ∀ a, (k0_off42 i v654) a + S128x256.size a ≤ S2500x2048.size a), (Rect.unit (s := S2500x2048) (k0_off42 i v654) S128x256.size hinb).WholeWords (EltTy.packing .i8))
theorem k0_mult41_dvd : ∀ (i : grid0.Coords) (v654 : BitVec 32) (k0_hw42 : k0_chk42 i v654), 32 ∣ (k0_mult41 v654).toNat := fun i v654 k0_hw42 => k0_hw42.1
theorem k0_off42_inb : ∀ (i : grid0.Coords) (v654 : BitVec 32) (k0_hw42 : k0_chk42 i v654), ∀ a, (k0_off42 i v654) a + S128x256.size a ≤ S2500x2048.size a := fun i v654 k0_hw42 => k0_hw42.2.1
theorem k0_off42_wordsi8 : ∀ (i : grid0.Coords) (v654 : BitVec 32) (k0_hw42 : k0_chk42 i v654), (Rect.unit (s := S2500x2048) (k0_off42 i v654) S128x256.size (k0_off42_inb i v654 k0_hw42)).WholeWords (EltTy.packing .i8) := fun i v654 k0_hw42 => k0_hw42.2.2 (k0_off42_inb i v654 k0_hw42)

def k0_off43 (v664 : BitVec 32) : Fin 1 → Nat :=
  let v665 : Index := Scalar.indexCast v664
  ![v665.toNat]

def k0_chk43 (v664 : BitVec 32) : Prop :=
  (∀ a, (k0_off43 v664) a + S1.size a ≤ S23.size a)
theorem k0_off43_inb : ∀ (v664 : BitVec 32) (k0_hw43 : k0_chk43 v664), ∀ a, (k0_off43 v664) a + S1.size a ≤ S23.size a := fun v664 k0_hw43 => k0_hw43

def k0_mult43 (v666 : BitVec 32) : BitVec 32 :=
  let c_m32_i32_255 : BitVec 32 := 4294967264#32
  let v667 : BitVec 32 := Scalar.andi v666 c_m32_i32_255
  v667

def k0_mult44 (i : grid0.Coords) : BitVec 32 :=
  let arg0 : BitVec 32 := BitVec.ofNat 32 (i 0).val
  let c256_i32_256 : BitVec 32 := 256#32
  let v669 : BitVec 32 := Scalar.muli arg0 c256_i32_256
  v669
def k0_off44 (i : grid0.Coords) (v666 : BitVec 32) : Fin 2 → Nat :=
  let c_m32_i32_255 : BitVec 32 := 4294967264#32
  let v667 : BitVec 32 := Scalar.andi v666 c_m32_i32_255
  let v668 : BitVec 32 := v667
  let arg0 : BitVec 32 := BitVec.ofNat 32 (i 0).val
  let c256_i32_256 : BitVec 32 := 256#32
  let v669 : BitVec 32 := Scalar.muli arg0 c256_i32_256
  let v670 : BitVec 32 := v669
  ![v668.toNat, v670.toNat]

def k0_chk44 (i : grid0.Coords) (v666 : BitVec 32) : Prop :=
  (32 ∣ (k0_mult43 v666).toNat) ∧
  (∀ a, (k0_off44 i v666) a + S128x256.size a ≤ S2500x2048.size a) ∧
  (∀ (hinb : ∀ a, (k0_off44 i v666) a + S128x256.size a ≤ S2500x2048.size a), (Rect.unit (s := S2500x2048) (k0_off44 i v666) S128x256.size hinb).WholeWords (EltTy.packing .i8))
theorem k0_mult43_dvd : ∀ (i : grid0.Coords) (v666 : BitVec 32) (k0_hw44 : k0_chk44 i v666), 32 ∣ (k0_mult43 v666).toNat := fun i v666 k0_hw44 => k0_hw44.1
theorem k0_off44_inb : ∀ (i : grid0.Coords) (v666 : BitVec 32) (k0_hw44 : k0_chk44 i v666), ∀ a, (k0_off44 i v666) a + S128x256.size a ≤ S2500x2048.size a := fun i v666 k0_hw44 => k0_hw44.2.1
theorem k0_off44_wordsi8 : ∀ (i : grid0.Coords) (v666 : BitVec 32) (k0_hw44 : k0_chk44 i v666), (Rect.unit (s := S2500x2048) (k0_off44 i v666) S128x256.size (k0_off44_inb i v666 k0_hw44)).WholeWords (EltTy.packing .i8) := fun i v666 k0_hw44 => k0_hw44.2.2 (k0_off44_inb i v666 k0_hw44)

def k0_off45 (v676 : BitVec 32) : Fin 1 → Nat :=
  let v677 : Index := Scalar.indexCast v676
  ![v677.toNat]

def k0_chk45 (v676 : BitVec 32) : Prop :=
  (∀ a, (k0_off45 v676) a + S1.size a ≤ S23.size a)
theorem k0_off45_inb : ∀ (v676 : BitVec 32) (k0_hw45 : k0_chk45 v676), ∀ a, (k0_off45 v676) a + S1.size a ≤ S23.size a := fun v676 k0_hw45 => k0_hw45

def k0_mult45 (v678 : BitVec 32) : BitVec 32 :=
  let c_m32_i32_262 : BitVec 32 := 4294967264#32
  let v679 : BitVec 32 := Scalar.andi v678 c_m32_i32_262
  v679

def k0_mult46 (i : grid0.Coords) : BitVec 32 :=
  let arg0 : BitVec 32 := BitVec.ofNat 32 (i 0).val
  let c256_i32_263 : BitVec 32 := 256#32
  let v681 : BitVec 32 := Scalar.muli arg0 c256_i32_263
  v681
def k0_off46 (i : grid0.Coords) (v678 : BitVec 32) : Fin 2 → Nat :=
  let c_m32_i32_262 : BitVec 32 := 4294967264#32
  let v679 : BitVec 32 := Scalar.andi v678 c_m32_i32_262
  let v680 : BitVec 32 := v679
  let arg0 : BitVec 32 := BitVec.ofNat 32 (i 0).val
  let c256_i32_263 : BitVec 32 := 256#32
  let v681 : BitVec 32 := Scalar.muli arg0 c256_i32_263
  let v682 : BitVec 32 := v681
  ![v680.toNat, v682.toNat]

def k0_chk46 (i : grid0.Coords) (v678 : BitVec 32) : Prop :=
  (32 ∣ (k0_mult45 v678).toNat) ∧
  (∀ a, (k0_off46 i v678) a + S128x256.size a ≤ S2500x2048.size a) ∧
  (∀ (hinb : ∀ a, (k0_off46 i v678) a + S128x256.size a ≤ S2500x2048.size a), (Rect.unit (s := S2500x2048) (k0_off46 i v678) S128x256.size hinb).WholeWords (EltTy.packing .i8))
theorem k0_mult45_dvd : ∀ (i : grid0.Coords) (v678 : BitVec 32) (k0_hw46 : k0_chk46 i v678), 32 ∣ (k0_mult45 v678).toNat := fun i v678 k0_hw46 => k0_hw46.1
theorem k0_off46_inb : ∀ (i : grid0.Coords) (v678 : BitVec 32) (k0_hw46 : k0_chk46 i v678), ∀ a, (k0_off46 i v678) a + S128x256.size a ≤ S2500x2048.size a := fun i v678 k0_hw46 => k0_hw46.2.1
theorem k0_off46_wordsi8 : ∀ (i : grid0.Coords) (v678 : BitVec 32) (k0_hw46 : k0_chk46 i v678), (Rect.unit (s := S2500x2048) (k0_off46 i v678) S128x256.size (k0_off46_inb i v678 k0_hw46)).WholeWords (EltTy.packing .i8) := fun i v678 k0_hw46 => k0_hw46.2.2 (k0_off46_inb i v678 k0_hw46)

def k0_off47 (v688 : BitVec 32) : Fin 1 → Nat :=
  let v689 : Index := Scalar.indexCast v688
  ![v689.toNat]

def k0_chk47 (v688 : BitVec 32) : Prop :=
  (∀ a, (k0_off47 v688) a + S1.size a ≤ S23.size a)
theorem k0_off47_inb : ∀ (v688 : BitVec 32) (k0_hw47 : k0_chk47 v688), ∀ a, (k0_off47 v688) a + S1.size a ≤ S23.size a := fun v688 k0_hw47 => k0_hw47

def k0_mult47 (v690 : BitVec 32) : BitVec 32 :=
  let c_m32_i32_269 : BitVec 32 := 4294967264#32
  let v691 : BitVec 32 := Scalar.andi v690 c_m32_i32_269
  v691

def k0_mult48 (i : grid0.Coords) : BitVec 32 :=
  let arg0 : BitVec 32 := BitVec.ofNat 32 (i 0).val
  let c256_i32_270 : BitVec 32 := 256#32
  let v693 : BitVec 32 := Scalar.muli arg0 c256_i32_270
  v693
def k0_off48 (i : grid0.Coords) (v690 : BitVec 32) : Fin 2 → Nat :=
  let c_m32_i32_269 : BitVec 32 := 4294967264#32
  let v691 : BitVec 32 := Scalar.andi v690 c_m32_i32_269
  let v692 : BitVec 32 := v691
  let arg0 : BitVec 32 := BitVec.ofNat 32 (i 0).val
  let c256_i32_270 : BitVec 32 := 256#32
  let v693 : BitVec 32 := Scalar.muli arg0 c256_i32_270
  let v694 : BitVec 32 := v693
  ![v692.toNat, v694.toNat]

def k0_chk48 (i : grid0.Coords) (v690 : BitVec 32) : Prop :=
  (32 ∣ (k0_mult47 v690).toNat) ∧
  (∀ a, (k0_off48 i v690) a + S128x256.size a ≤ S2500x2048.size a) ∧
  (∀ (hinb : ∀ a, (k0_off48 i v690) a + S128x256.size a ≤ S2500x2048.size a), (Rect.unit (s := S2500x2048) (k0_off48 i v690) S128x256.size hinb).WholeWords (EltTy.packing .i8))
theorem k0_mult47_dvd : ∀ (i : grid0.Coords) (v690 : BitVec 32) (k0_hw48 : k0_chk48 i v690), 32 ∣ (k0_mult47 v690).toNat := fun i v690 k0_hw48 => k0_hw48.1
theorem k0_off48_inb : ∀ (i : grid0.Coords) (v690 : BitVec 32) (k0_hw48 : k0_chk48 i v690), ∀ a, (k0_off48 i v690) a + S128x256.size a ≤ S2500x2048.size a := fun i v690 k0_hw48 => k0_hw48.2.1
theorem k0_off48_wordsi8 : ∀ (i : grid0.Coords) (v690 : BitVec 32) (k0_hw48 : k0_chk48 i v690), (Rect.unit (s := S2500x2048) (k0_off48 i v690) S128x256.size (k0_off48_inb i v690 k0_hw48)).WholeWords (EltTy.packing .i8) := fun i v690 k0_hw48 => k0_hw48.2.2 (k0_off48_inb i v690 k0_hw48)

def k0_off49 (v700 : BitVec 32) : Fin 1 → Nat :=
  let v701 : Index := Scalar.indexCast v700
  ![v701.toNat]

def k0_chk49 (v700 : BitVec 32) : Prop :=
  (∀ a, (k0_off49 v700) a + S1.size a ≤ S23.size a)
theorem k0_off49_inb : ∀ (v700 : BitVec 32) (k0_hw49 : k0_chk49 v700), ∀ a, (k0_off49 v700) a + S1.size a ≤ S23.size a := fun v700 k0_hw49 => k0_hw49

def k0_mult49 (v702 : BitVec 32) : BitVec 32 :=
  let c_m32_i32_276 : BitVec 32 := 4294967264#32
  let v703 : BitVec 32 := Scalar.andi v702 c_m32_i32_276
  v703

def k0_mult50 (i : grid0.Coords) : BitVec 32 :=
  let arg0 : BitVec 32 := BitVec.ofNat 32 (i 0).val
  let c256_i32_277 : BitVec 32 := 256#32
  let v705 : BitVec 32 := Scalar.muli arg0 c256_i32_277
  v705
def k0_off50 (i : grid0.Coords) (v702 : BitVec 32) : Fin 2 → Nat :=
  let c_m32_i32_276 : BitVec 32 := 4294967264#32
  let v703 : BitVec 32 := Scalar.andi v702 c_m32_i32_276
  let v704 : BitVec 32 := v703
  let arg0 : BitVec 32 := BitVec.ofNat 32 (i 0).val
  let c256_i32_277 : BitVec 32 := 256#32
  let v705 : BitVec 32 := Scalar.muli arg0 c256_i32_277
  let v706 : BitVec 32 := v705
  ![v704.toNat, v706.toNat]

def k0_chk50 (i : grid0.Coords) (v702 : BitVec 32) : Prop :=
  (32 ∣ (k0_mult49 v702).toNat) ∧
  (∀ a, (k0_off50 i v702) a + S128x256.size a ≤ S2500x2048.size a) ∧
  (∀ (hinb : ∀ a, (k0_off50 i v702) a + S128x256.size a ≤ S2500x2048.size a), (Rect.unit (s := S2500x2048) (k0_off50 i v702) S128x256.size hinb).WholeWords (EltTy.packing .i8))
theorem k0_mult49_dvd : ∀ (i : grid0.Coords) (v702 : BitVec 32) (k0_hw50 : k0_chk50 i v702), 32 ∣ (k0_mult49 v702).toNat := fun i v702 k0_hw50 => k0_hw50.1
theorem k0_off50_inb : ∀ (i : grid0.Coords) (v702 : BitVec 32) (k0_hw50 : k0_chk50 i v702), ∀ a, (k0_off50 i v702) a + S128x256.size a ≤ S2500x2048.size a := fun i v702 k0_hw50 => k0_hw50.2.1
theorem k0_off50_wordsi8 : ∀ (i : grid0.Coords) (v702 : BitVec 32) (k0_hw50 : k0_chk50 i v702), (Rect.unit (s := S2500x2048) (k0_off50 i v702) S128x256.size (k0_off50_inb i v702 k0_hw50)).WholeWords (EltTy.packing .i8) := fun i v702 k0_hw50 => k0_hw50.2.2 (k0_off50_inb i v702 k0_hw50)

def k0_off51 (v712 : BitVec 32) : Fin 1 → Nat :=
  let v713 : Index := Scalar.indexCast v712
  ![v713.toNat]

def k0_chk51 (v712 : BitVec 32) : Prop :=
  (∀ a, (k0_off51 v712) a + S1.size a ≤ S23.size a)
theorem k0_off51_inb : ∀ (v712 : BitVec 32) (k0_hw51 : k0_chk51 v712), ∀ a, (k0_off51 v712) a + S1.size a ≤ S23.size a := fun v712 k0_hw51 => k0_hw51

def k0_mult51 (v714 : BitVec 32) : BitVec 32 :=
  let c_m32_i32_283 : BitVec 32 := 4294967264#32
  let v715 : BitVec 32 := Scalar.andi v714 c_m32_i32_283
  v715

def k0_mult52 (i : grid0.Coords) : BitVec 32 :=
  let arg0 : BitVec 32 := BitVec.ofNat 32 (i 0).val
  let c256_i32_284 : BitVec 32 := 256#32
  let v717 : BitVec 32 := Scalar.muli arg0 c256_i32_284
  v717
def k0_off52 (i : grid0.Coords) (v714 : BitVec 32) : Fin 2 → Nat :=
  let c_m32_i32_283 : BitVec 32 := 4294967264#32
  let v715 : BitVec 32 := Scalar.andi v714 c_m32_i32_283
  let v716 : BitVec 32 := v715
  let arg0 : BitVec 32 := BitVec.ofNat 32 (i 0).val
  let c256_i32_284 : BitVec 32 := 256#32
  let v717 : BitVec 32 := Scalar.muli arg0 c256_i32_284
  let v718 : BitVec 32 := v717
  ![v716.toNat, v718.toNat]

def k0_chk52 (i : grid0.Coords) (v714 : BitVec 32) : Prop :=
  (32 ∣ (k0_mult51 v714).toNat) ∧
  (∀ a, (k0_off52 i v714) a + S128x256.size a ≤ S2500x2048.size a) ∧
  (∀ (hinb : ∀ a, (k0_off52 i v714) a + S128x256.size a ≤ S2500x2048.size a), (Rect.unit (s := S2500x2048) (k0_off52 i v714) S128x256.size hinb).WholeWords (EltTy.packing .i8))
theorem k0_mult51_dvd : ∀ (i : grid0.Coords) (v714 : BitVec 32) (k0_hw52 : k0_chk52 i v714), 32 ∣ (k0_mult51 v714).toNat := fun i v714 k0_hw52 => k0_hw52.1
theorem k0_off52_inb : ∀ (i : grid0.Coords) (v714 : BitVec 32) (k0_hw52 : k0_chk52 i v714), ∀ a, (k0_off52 i v714) a + S128x256.size a ≤ S2500x2048.size a := fun i v714 k0_hw52 => k0_hw52.2.1
theorem k0_off52_wordsi8 : ∀ (i : grid0.Coords) (v714 : BitVec 32) (k0_hw52 : k0_chk52 i v714), (Rect.unit (s := S2500x2048) (k0_off52 i v714) S128x256.size (k0_off52_inb i v714 k0_hw52)).WholeWords (EltTy.packing .i8) := fun i v714 k0_hw52 => k0_hw52.2.2 (k0_off52_inb i v714 k0_hw52)

def k0_off53 (v724 : BitVec 32) : Fin 1 → Nat :=
  let v725 : Index := Scalar.indexCast v724
  ![v725.toNat]

def k0_chk53 (v724 : BitVec 32) : Prop :=
  (∀ a, (k0_off53 v724) a + S1.size a ≤ S23.size a)
theorem k0_off53_inb : ∀ (v724 : BitVec 32) (k0_hw53 : k0_chk53 v724), ∀ a, (k0_off53 v724) a + S1.size a ≤ S23.size a := fun v724 k0_hw53 => k0_hw53

def k0_mult53 (v726 : BitVec 32) : BitVec 32 :=
  let c_m32_i32_290 : BitVec 32 := 4294967264#32
  let v727 : BitVec 32 := Scalar.andi v726 c_m32_i32_290
  v727

def k0_mult54 (i : grid0.Coords) : BitVec 32 :=
  let arg0 : BitVec 32 := BitVec.ofNat 32 (i 0).val
  let c256_i32_291 : BitVec 32 := 256#32
  let v729 : BitVec 32 := Scalar.muli arg0 c256_i32_291
  v729
def k0_off54 (i : grid0.Coords) (v726 : BitVec 32) : Fin 2 → Nat :=
  let c_m32_i32_290 : BitVec 32 := 4294967264#32
  let v727 : BitVec 32 := Scalar.andi v726 c_m32_i32_290
  let v728 : BitVec 32 := v727
  let arg0 : BitVec 32 := BitVec.ofNat 32 (i 0).val
  let c256_i32_291 : BitVec 32 := 256#32
  let v729 : BitVec 32 := Scalar.muli arg0 c256_i32_291
  let v730 : BitVec 32 := v729
  ![v728.toNat, v730.toNat]

def k0_chk54 (i : grid0.Coords) (v726 : BitVec 32) : Prop :=
  (32 ∣ (k0_mult53 v726).toNat) ∧
  (∀ a, (k0_off54 i v726) a + S128x256.size a ≤ S2500x2048.size a) ∧
  (∀ (hinb : ∀ a, (k0_off54 i v726) a + S128x256.size a ≤ S2500x2048.size a), (Rect.unit (s := S2500x2048) (k0_off54 i v726) S128x256.size hinb).WholeWords (EltTy.packing .i8))
theorem k0_mult53_dvd : ∀ (i : grid0.Coords) (v726 : BitVec 32) (k0_hw54 : k0_chk54 i v726), 32 ∣ (k0_mult53 v726).toNat := fun i v726 k0_hw54 => k0_hw54.1
theorem k0_off54_inb : ∀ (i : grid0.Coords) (v726 : BitVec 32) (k0_hw54 : k0_chk54 i v726), ∀ a, (k0_off54 i v726) a + S128x256.size a ≤ S2500x2048.size a := fun i v726 k0_hw54 => k0_hw54.2.1
theorem k0_off54_wordsi8 : ∀ (i : grid0.Coords) (v726 : BitVec 32) (k0_hw54 : k0_chk54 i v726), (Rect.unit (s := S2500x2048) (k0_off54 i v726) S128x256.size (k0_off54_inb i v726 k0_hw54)).WholeWords (EltTy.packing .i8) := fun i v726 k0_hw54 => k0_hw54.2.2 (k0_off54_inb i v726 k0_hw54)

def k0_off55 (v736 : BitVec 32) : Fin 1 → Nat :=
  let v737 : Index := Scalar.indexCast v736
  ![v737.toNat]

def k0_chk55 (v736 : BitVec 32) : Prop :=
  (∀ a, (k0_off55 v736) a + S1.size a ≤ S23.size a)
theorem k0_off55_inb : ∀ (v736 : BitVec 32) (k0_hw55 : k0_chk55 v736), ∀ a, (k0_off55 v736) a + S1.size a ≤ S23.size a := fun v736 k0_hw55 => k0_hw55

def k0_mult55 (v738 : BitVec 32) : BitVec 32 :=
  let c_m32_i32_297 : BitVec 32 := 4294967264#32
  let v739 : BitVec 32 := Scalar.andi v738 c_m32_i32_297
  v739

def k0_mult56 (i : grid0.Coords) : BitVec 32 :=
  let arg0 : BitVec 32 := BitVec.ofNat 32 (i 0).val
  let c256_i32_298 : BitVec 32 := 256#32
  let v741 : BitVec 32 := Scalar.muli arg0 c256_i32_298
  v741
def k0_off56 (i : grid0.Coords) (v738 : BitVec 32) : Fin 2 → Nat :=
  let c_m32_i32_297 : BitVec 32 := 4294967264#32
  let v739 : BitVec 32 := Scalar.andi v738 c_m32_i32_297
  let v740 : BitVec 32 := v739
  let arg0 : BitVec 32 := BitVec.ofNat 32 (i 0).val
  let c256_i32_298 : BitVec 32 := 256#32
  let v741 : BitVec 32 := Scalar.muli arg0 c256_i32_298
  let v742 : BitVec 32 := v741
  ![v740.toNat, v742.toNat]

def k0_chk56 (i : grid0.Coords) (v738 : BitVec 32) : Prop :=
  (32 ∣ (k0_mult55 v738).toNat) ∧
  (∀ a, (k0_off56 i v738) a + S128x256.size a ≤ S2500x2048.size a) ∧
  (∀ (hinb : ∀ a, (k0_off56 i v738) a + S128x256.size a ≤ S2500x2048.size a), (Rect.unit (s := S2500x2048) (k0_off56 i v738) S128x256.size hinb).WholeWords (EltTy.packing .i8))
theorem k0_mult55_dvd : ∀ (i : grid0.Coords) (v738 : BitVec 32) (k0_hw56 : k0_chk56 i v738), 32 ∣ (k0_mult55 v738).toNat := fun i v738 k0_hw56 => k0_hw56.1
theorem k0_off56_inb : ∀ (i : grid0.Coords) (v738 : BitVec 32) (k0_hw56 : k0_chk56 i v738), ∀ a, (k0_off56 i v738) a + S128x256.size a ≤ S2500x2048.size a := fun i v738 k0_hw56 => k0_hw56.2.1
theorem k0_off56_wordsi8 : ∀ (i : grid0.Coords) (v738 : BitVec 32) (k0_hw56 : k0_chk56 i v738), (Rect.unit (s := S2500x2048) (k0_off56 i v738) S128x256.size (k0_off56_inb i v738 k0_hw56)).WholeWords (EltTy.packing .i8) := fun i v738 k0_hw56 => k0_hw56.2.2 (k0_off56_inb i v738 k0_hw56)

def k0_off57 (v825 : BitVec 32) : Fin 1 → Nat :=
  let v826 : Index := Scalar.indexCast v825
  ![v826.toNat]
def k0_cond1 (v752 : BitVec 32) (v753 : BitVec 32) : BitVec 1 :=
  let v754 : BitVec 1 := Scalar.cmpi .sgt v753 v752
  let v755 : BitVec 32 := Scalar.extui v754
  let c0_i32_305 : BitVec 32 := 0#32
  let v756 : BitVec 1 := Scalar.cmpi .ne v755 c0_i32_305
  v756

def k0_chk57 (v752 : BitVec 32) (v753 : BitVec 32) (v825 : BitVec 32) : Prop :=
  (∀ (k0_h1 : k0_cond1 v752 v753 = 1#1), ∀ a, (k0_off57 v825) a + S1.size a ≤ S23.size a)
theorem k0_off57_inb : ∀ (v752 : BitVec 32) (v753 : BitVec 32) (v825 : BitVec 32) (k0_hw57 : k0_chk57 v752 v753 v825), ∀ (k0_h1 : k0_cond1 v752 v753 = 1#1), ∀ a, (k0_off57 v825) a + S1.size a ≤ S23.size a := fun v752 v753 v825 k0_hw57 k0_h1 => k0_hw57 k0_h1

def k0_mult57 (v827 : BitVec 32) : BitVec 32 :=
  let c_m32_i32_350 : BitVec 32 := 4294967264#32
  let v828 : BitVec 32 := Scalar.andi v827 c_m32_i32_350
  v828

def k0_mult58 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off58 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk58 (v752 : BitVec 32) (v753 : BitVec 32) (v827 : BitVec 32) : Prop :=
  (∀ (k0_h1 : k0_cond1 v752 v753 = 1#1), 32 ∣ (k0_mult57 v827).toNat) ∧
  (∀ (k0_h1 : k0_cond1 v752 v753 = 1#1), 128 ∣ (k0_mult58 v827).toNat) ∧
  (∀ (k0_h1 : k0_cond1 v752 v753 = 1#1), ∀ a, (k0_off58 v827) a + S1x256.size a ≤ S1x2500.size a)
theorem k0_mult57_dvd : ∀ (v752 : BitVec 32) (v753 : BitVec 32) (v827 : BitVec 32) (k0_hw58 : k0_chk58 v752 v753 v827), ∀ (k0_h1 : k0_cond1 v752 v753 = 1#1), 32 ∣ (k0_mult57 v827).toNat := fun v752 v753 v827 k0_hw58 k0_h1 => k0_hw58.1 k0_h1
theorem k0_mult58_dvd : ∀ (v752 : BitVec 32) (v753 : BitVec 32) (v827 : BitVec 32) (k0_hw58 : k0_chk58 v752 v753 v827), ∀ (k0_h1 : k0_cond1 v752 v753 = 1#1), 128 ∣ (k0_mult58 v827).toNat := fun v752 v753 v827 k0_hw58 k0_h1 => k0_hw58.2.1 k0_h1
theorem k0_off58_inb : ∀ (v752 : BitVec 32) (v753 : BitVec 32) (v827 : BitVec 32) (k0_hw58 : k0_chk58 v752 v753 v827), ∀ (k0_h1 : k0_cond1 v752 v753 = 1#1), ∀ a, (k0_off58 v827) a + S1x256.size a ≤ S1x2500.size a := fun v752 v753 v827 k0_hw58 k0_h1 => k0_hw58.2.2 k0_h1

@[reducible] def k0_t1_loop (v752 : BitVec 32) (v753 : BitVec 32) : Scf.Loop 32 :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v753 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult59 (v752 : BitVec 32) (v753 : BitVec 32) (k0_t1 : Fin (k0_t1_loop v752 v753).trips) : BitVec 32 :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t1
  let c128_i32_379 : BitVec 32 := 128#32
  let v898 : BitVec 32 := Scalar.muli arg16 c128_i32_379
  v898
def k0_off59 (v752 : BitVec 32) (v753 : BitVec 32) (k0_t1 : Fin (k0_t1_loop v752 v753).trips) : Fin 2 → Nat :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t1
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off60 (v752 : BitVec 32) (v753 : BitVec 32) (k0_t1 : Fin (k0_t1_loop v752 v753).trips) : Fin 2 → Nat :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t1
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t2_loop (v752 : BitVec 32) (v753 : BitVec 32) : Scf.Loop 32 :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v753 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult60 (v752 : BitVec 32) (v753 : BitVec 32) (k0_t2 : Fin (k0_t2_loop v752 v753).trips) : BitVec 32 :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v753 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t2
  let c128_i32_379 : BitVec 32 := 128#32
  let v898 : BitVec 32 := Scalar.muli arg16 c128_i32_379
  v898
def k0_off61 (v752 : BitVec 32) (v753 : BitVec 32) (k0_t2 : Fin (k0_t2_loop v752 v753).trips) : Fin 2 → Nat :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v753 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t2
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off62 (v752 : BitVec 32) (v753 : BitVec 32) (k0_t2 : Fin (k0_t2_loop v752 v753).trips) : Fin 2 → Nat :=
  let c0_i32_360 : BitVec 32 := 0#32
  let v856 : BitVec 1 := Scalar.cmpi .sgt v752 c0_i32_360
  let v857 : BitVec 32 := Scalar.extui v856
  let c0_i32_361 : BitVec 32 := 0#32
  let v858 : BitVec 1 := Scalar.cmpi .slt v752 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v752 c128_i32
  let c0_i32_364 : BitVec 32 := 0#32
  let v868 : BitVec 1 := Scalar.cmpi .ne v867 c0_i32_364
  let v869 : BitVec 1 := Scalar.andi v866 v868
  let v855 : BitVec 32 := Scalar.divsi v752 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v753 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t2
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk59 (v752 : BitVec 32) (v753 : BitVec 32) : Prop :=
  (∀ (k0_h1 : k0_cond1 v752 v753 = 1#1), (k0_t1_loop v752 v753).OK) ∧
  (∀ k0_t1 : Fin (k0_t1_loop v752 v753).trips, ∀ (k0_h1 : k0_cond1 v752 v753 = 1#1), 128 ∣ (k0_mult59 v752 v753 k0_t1).toNat) ∧
  (∀ k0_t1 : Fin (k0_t1_loop v752 v753).trips, ∀ (k0_h1 : k0_cond1 v752 v753 = 1#1), ∀ a, (k0_off59 v752 v753 k0_t1) a + S128x128.size a ≤ S1280x128.size a) ∧
  (∀ k0_t1 : Fin (k0_t1_loop v752 v753).trips, ∀ (k0_h1 : k0_cond1 v752 v753 = 1#1), ∀ a, (k0_off60 v752 v753 k0_t1) a + S128x256.size a ≤ S1280x256.size a) ∧
  (∀ (k0_h1 : k0_cond1 v752 v753 = 1#1), (k0_t2_loop v752 v753).OK) ∧
  (∀ k0_t2 : Fin (k0_t2_loop v752 v753).trips, ∀ (k0_h1 : k0_cond1 v752 v753 = 1#1), 128 ∣ (k0_mult60 v752 v753 k0_t2).toNat) ∧
  (∀ k0_t2 : Fin (k0_t2_loop v752 v753).trips, ∀ (k0_h1 : k0_cond1 v752 v753 = 1#1), ∀ a, (k0_off61 v752 v753 k0_t2) a + S128x128.size a ≤ S1280x128.size a) ∧
  (∀ k0_t2 : Fin (k0_t2_loop v752 v753).trips, ∀ (k0_h1 : k0_cond1 v752 v753 = 1#1), ∀ a, (k0_off62 v752 v753 k0_t2) a + S128x256.size a ≤ S1280x256.size a)
theorem k0_t1_ok : ∀ (v752 : BitVec 32) (v753 : BitVec 32) (k0_hw59 : k0_chk59 v752 v753), ∀ (k0_h1 : k0_cond1 v752 v753 = 1#1), (k0_t1_loop v752 v753).OK := fun v752 v753 k0_hw59 k0_h1 => k0_hw59.1 k0_h1
theorem k0_mult59_dvd : ∀ (v752 : BitVec 32) (v753 : BitVec 32) (k0_hw59 : k0_chk59 v752 v753) (k0_t1 : Fin (k0_t1_loop v752 v753).trips), ∀ (k0_h1 : k0_cond1 v752 v753 = 1#1), 128 ∣ (k0_mult59 v752 v753 k0_t1).toNat := fun v752 v753 k0_hw59 k0_t1 k0_h1 => k0_hw59.2.1 k0_t1 k0_h1
theorem k0_off59_inb : ∀ (v752 : BitVec 32) (v753 : BitVec 32) (k0_hw59 : k0_chk59 v752 v753) (k0_t1 : Fin (k0_t1_loop v752 v753).trips), ∀ (k0_h1 : k0_cond1 v752 v753 = 1#1), ∀ a, (k0_off59 v752 v753 k0_t1) a + S128x128.size a ≤ S1280x128.size a := fun v752 v753 k0_hw59 k0_t1 k0_h1 => k0_hw59.2.2.1 k0_t1 k0_h1
theorem k0_off60_inb : ∀ (v752 : BitVec 32) (v753 : BitVec 32) (k0_hw59 : k0_chk59 v752 v753) (k0_t1 : Fin (k0_t1_loop v752 v753).trips), ∀ (k0_h1 : k0_cond1 v752 v753 = 1#1), ∀ a, (k0_off60 v752 v753 k0_t1) a + S128x256.size a ≤ S1280x256.size a := fun v752 v753 k0_hw59 k0_t1 k0_h1 => k0_hw59.2.2.2.1 k0_t1 k0_h1
theorem k0_t2_ok : ∀ (v752 : BitVec 32) (v753 : BitVec 32) (k0_hw59 : k0_chk59 v752 v753), ∀ (k0_h1 : k0_cond1 v752 v753 = 1#1), (k0_t2_loop v752 v753).OK := fun v752 v753 k0_hw59 k0_h1 => k0_hw59.2.2.2.2.1 k0_h1
theorem k0_mult60_dvd : ∀ (v752 : BitVec 32) (v753 : BitVec 32) (k0_hw59 : k0_chk59 v752 v753) (k0_t2 : Fin (k0_t2_loop v752 v753).trips), ∀ (k0_h1 : k0_cond1 v752 v753 = 1#1), 128 ∣ (k0_mult60 v752 v753 k0_t2).toNat := fun v752 v753 k0_hw59 k0_t2 k0_h1 => k0_hw59.2.2.2.2.2.1 k0_t2 k0_h1
theorem k0_off61_inb : ∀ (v752 : BitVec 32) (v753 : BitVec 32) (k0_hw59 : k0_chk59 v752 v753) (k0_t2 : Fin (k0_t2_loop v752 v753).trips), ∀ (k0_h1 : k0_cond1 v752 v753 = 1#1), ∀ a, (k0_off61 v752 v753 k0_t2) a + S128x128.size a ≤ S1280x128.size a := fun v752 v753 k0_hw59 k0_t2 k0_h1 => k0_hw59.2.2.2.2.2.2.1 k0_t2 k0_h1
theorem k0_off62_inb : ∀ (v752 : BitVec 32) (v753 : BitVec 32) (k0_hw59 : k0_chk59 v752 v753) (k0_t2 : Fin (k0_t2_loop v752 v753).trips), ∀ (k0_h1 : k0_cond1 v752 v753 = 1#1), ∀ a, (k0_off62 v752 v753 k0_t2) a + S128x256.size a ≤ S1280x256.size a := fun v752 v753 k0_hw59 k0_t2 k0_h1 => k0_hw59.2.2.2.2.2.2.2 k0_t2 k0_h1

def k0_off63 (v825 : BitVec 32) : Fin 1 → Nat :=
  let v826 : Index := Scalar.indexCast v825
  ![v826.toNat]
def k0_cond2 (v757 : BitVec 32) (v758 : BitVec 32) : BitVec 1 :=
  let v759 : BitVec 1 := Scalar.cmpi .sgt v758 v757
  let v760 : BitVec 32 := Scalar.extui v759
  let c0_i32_308 : BitVec 32 := 0#32
  let v761 : BitVec 1 := Scalar.cmpi .ne v760 c0_i32_308
  v761

def k0_chk60 (v757 : BitVec 32) (v758 : BitVec 32) (v825 : BitVec 32) : Prop :=
  (∀ (k0_h2 : k0_cond2 v757 v758 = 1#1), ∀ a, (k0_off63 v825) a + S1.size a ≤ S23.size a)
theorem k0_off63_inb : ∀ (v757 : BitVec 32) (v758 : BitVec 32) (v825 : BitVec 32) (k0_hw60 : k0_chk60 v757 v758 v825), ∀ (k0_h2 : k0_cond2 v757 v758 = 1#1), ∀ a, (k0_off63 v825) a + S1.size a ≤ S23.size a := fun v757 v758 v825 k0_hw60 k0_h2 => k0_hw60 k0_h2

def k0_mult61 (v827 : BitVec 32) : BitVec 32 :=
  let c_m32_i32_350 : BitVec 32 := 4294967264#32
  let v828 : BitVec 32 := Scalar.andi v827 c_m32_i32_350
  v828

def k0_mult62 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off64 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk61 (v757 : BitVec 32) (v758 : BitVec 32) (v827 : BitVec 32) : Prop :=
  (∀ (k0_h2 : k0_cond2 v757 v758 = 1#1), 32 ∣ (k0_mult61 v827).toNat) ∧
  (∀ (k0_h2 : k0_cond2 v757 v758 = 1#1), 128 ∣ (k0_mult62 v827).toNat) ∧
  (∀ (k0_h2 : k0_cond2 v757 v758 = 1#1), ∀ a, (k0_off64 v827) a + S1x256.size a ≤ S1x2500.size a)
theorem k0_mult61_dvd : ∀ (v757 : BitVec 32) (v758 : BitVec 32) (v827 : BitVec 32) (k0_hw61 : k0_chk61 v757 v758 v827), ∀ (k0_h2 : k0_cond2 v757 v758 = 1#1), 32 ∣ (k0_mult61 v827).toNat := fun v757 v758 v827 k0_hw61 k0_h2 => k0_hw61.1 k0_h2
theorem k0_mult62_dvd : ∀ (v757 : BitVec 32) (v758 : BitVec 32) (v827 : BitVec 32) (k0_hw61 : k0_chk61 v757 v758 v827), ∀ (k0_h2 : k0_cond2 v757 v758 = 1#1), 128 ∣ (k0_mult62 v827).toNat := fun v757 v758 v827 k0_hw61 k0_h2 => k0_hw61.2.1 k0_h2
theorem k0_off64_inb : ∀ (v757 : BitVec 32) (v758 : BitVec 32) (v827 : BitVec 32) (k0_hw61 : k0_chk61 v757 v758 v827), ∀ (k0_h2 : k0_cond2 v757 v758 = 1#1), ∀ a, (k0_off64 v827) a + S1x256.size a ≤ S1x2500.size a := fun v757 v758 v827 k0_hw61 k0_h2 => k0_hw61.2.2 k0_h2

@[reducible] def k0_t3_loop (v757 : BitVec 32) (v758 : BitVec 32) : Scf.Loop 32 :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v758 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult63 (v757 : BitVec 32) (v758 : BitVec 32) (k0_t3 : Fin (k0_t3_loop v757 v758).trips) : BitVec 32 :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t3
  let c128_i32_379 : BitVec 32 := 128#32
  let v898 : BitVec 32 := Scalar.muli arg16 c128_i32_379
  v898
def k0_off65 (v757 : BitVec 32) (v758 : BitVec 32) (k0_t3 : Fin (k0_t3_loop v757 v758).trips) : Fin 2 → Nat :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t3
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off66 (v757 : BitVec 32) (v758 : BitVec 32) (k0_t3 : Fin (k0_t3_loop v757 v758).trips) : Fin 2 → Nat :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t3
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t4_loop (v757 : BitVec 32) (v758 : BitVec 32) : Scf.Loop 32 :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v758 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult64 (v757 : BitVec 32) (v758 : BitVec 32) (k0_t4 : Fin (k0_t4_loop v757 v758).trips) : BitVec 32 :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v758 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t4
  let c128_i32_379 : BitVec 32 := 128#32
  let v898 : BitVec 32 := Scalar.muli arg16 c128_i32_379
  v898
def k0_off67 (v757 : BitVec 32) (v758 : BitVec 32) (k0_t4 : Fin (k0_t4_loop v757 v758).trips) : Fin 2 → Nat :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v758 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t4
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off68 (v757 : BitVec 32) (v758 : BitVec 32) (k0_t4 : Fin (k0_t4_loop v757 v758).trips) : Fin 2 → Nat :=
  let c0_i32_360 : BitVec 32 := 0#32
  let v856 : BitVec 1 := Scalar.cmpi .sgt v757 c0_i32_360
  let v857 : BitVec 32 := Scalar.extui v856
  let c0_i32_361 : BitVec 32 := 0#32
  let v858 : BitVec 1 := Scalar.cmpi .slt v757 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v757 c128_i32
  let c0_i32_364 : BitVec 32 := 0#32
  let v868 : BitVec 1 := Scalar.cmpi .ne v867 c0_i32_364
  let v869 : BitVec 1 := Scalar.andi v866 v868
  let v855 : BitVec 32 := Scalar.divsi v757 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v758 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t4
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk62 (v757 : BitVec 32) (v758 : BitVec 32) : Prop :=
  (∀ (k0_h2 : k0_cond2 v757 v758 = 1#1), (k0_t3_loop v757 v758).OK) ∧
  (∀ k0_t3 : Fin (k0_t3_loop v757 v758).trips, ∀ (k0_h2 : k0_cond2 v757 v758 = 1#1), 128 ∣ (k0_mult63 v757 v758 k0_t3).toNat) ∧
  (∀ k0_t3 : Fin (k0_t3_loop v757 v758).trips, ∀ (k0_h2 : k0_cond2 v757 v758 = 1#1), ∀ a, (k0_off65 v757 v758 k0_t3) a + S128x128.size a ≤ S1280x128.size a) ∧
  (∀ k0_t3 : Fin (k0_t3_loop v757 v758).trips, ∀ (k0_h2 : k0_cond2 v757 v758 = 1#1), ∀ a, (k0_off66 v757 v758 k0_t3) a + S128x256.size a ≤ S1280x256.size a) ∧
  (∀ (k0_h2 : k0_cond2 v757 v758 = 1#1), (k0_t4_loop v757 v758).OK) ∧
  (∀ k0_t4 : Fin (k0_t4_loop v757 v758).trips, ∀ (k0_h2 : k0_cond2 v757 v758 = 1#1), 128 ∣ (k0_mult64 v757 v758 k0_t4).toNat) ∧
  (∀ k0_t4 : Fin (k0_t4_loop v757 v758).trips, ∀ (k0_h2 : k0_cond2 v757 v758 = 1#1), ∀ a, (k0_off67 v757 v758 k0_t4) a + S128x128.size a ≤ S1280x128.size a) ∧
  (∀ k0_t4 : Fin (k0_t4_loop v757 v758).trips, ∀ (k0_h2 : k0_cond2 v757 v758 = 1#1), ∀ a, (k0_off68 v757 v758 k0_t4) a + S128x256.size a ≤ S1280x256.size a)
theorem k0_t3_ok : ∀ (v757 : BitVec 32) (v758 : BitVec 32) (k0_hw62 : k0_chk62 v757 v758), ∀ (k0_h2 : k0_cond2 v757 v758 = 1#1), (k0_t3_loop v757 v758).OK := fun v757 v758 k0_hw62 k0_h2 => k0_hw62.1 k0_h2
theorem k0_mult63_dvd : ∀ (v757 : BitVec 32) (v758 : BitVec 32) (k0_hw62 : k0_chk62 v757 v758) (k0_t3 : Fin (k0_t3_loop v757 v758).trips), ∀ (k0_h2 : k0_cond2 v757 v758 = 1#1), 128 ∣ (k0_mult63 v757 v758 k0_t3).toNat := fun v757 v758 k0_hw62 k0_t3 k0_h2 => k0_hw62.2.1 k0_t3 k0_h2
theorem k0_off65_inb : ∀ (v757 : BitVec 32) (v758 : BitVec 32) (k0_hw62 : k0_chk62 v757 v758) (k0_t3 : Fin (k0_t3_loop v757 v758).trips), ∀ (k0_h2 : k0_cond2 v757 v758 = 1#1), ∀ a, (k0_off65 v757 v758 k0_t3) a + S128x128.size a ≤ S1280x128.size a := fun v757 v758 k0_hw62 k0_t3 k0_h2 => k0_hw62.2.2.1 k0_t3 k0_h2
theorem k0_off66_inb : ∀ (v757 : BitVec 32) (v758 : BitVec 32) (k0_hw62 : k0_chk62 v757 v758) (k0_t3 : Fin (k0_t3_loop v757 v758).trips), ∀ (k0_h2 : k0_cond2 v757 v758 = 1#1), ∀ a, (k0_off66 v757 v758 k0_t3) a + S128x256.size a ≤ S1280x256.size a := fun v757 v758 k0_hw62 k0_t3 k0_h2 => k0_hw62.2.2.2.1 k0_t3 k0_h2
theorem k0_t4_ok : ∀ (v757 : BitVec 32) (v758 : BitVec 32) (k0_hw62 : k0_chk62 v757 v758), ∀ (k0_h2 : k0_cond2 v757 v758 = 1#1), (k0_t4_loop v757 v758).OK := fun v757 v758 k0_hw62 k0_h2 => k0_hw62.2.2.2.2.1 k0_h2
theorem k0_mult64_dvd : ∀ (v757 : BitVec 32) (v758 : BitVec 32) (k0_hw62 : k0_chk62 v757 v758) (k0_t4 : Fin (k0_t4_loop v757 v758).trips), ∀ (k0_h2 : k0_cond2 v757 v758 = 1#1), 128 ∣ (k0_mult64 v757 v758 k0_t4).toNat := fun v757 v758 k0_hw62 k0_t4 k0_h2 => k0_hw62.2.2.2.2.2.1 k0_t4 k0_h2
theorem k0_off67_inb : ∀ (v757 : BitVec 32) (v758 : BitVec 32) (k0_hw62 : k0_chk62 v757 v758) (k0_t4 : Fin (k0_t4_loop v757 v758).trips), ∀ (k0_h2 : k0_cond2 v757 v758 = 1#1), ∀ a, (k0_off67 v757 v758 k0_t4) a + S128x128.size a ≤ S1280x128.size a := fun v757 v758 k0_hw62 k0_t4 k0_h2 => k0_hw62.2.2.2.2.2.2.1 k0_t4 k0_h2
theorem k0_off68_inb : ∀ (v757 : BitVec 32) (v758 : BitVec 32) (k0_hw62 : k0_chk62 v757 v758) (k0_t4 : Fin (k0_t4_loop v757 v758).trips), ∀ (k0_h2 : k0_cond2 v757 v758 = 1#1), ∀ a, (k0_off68 v757 v758 k0_t4) a + S128x256.size a ≤ S1280x256.size a := fun v757 v758 k0_hw62 k0_t4 k0_h2 => k0_hw62.2.2.2.2.2.2.2 k0_t4 k0_h2

def k0_off69 (v825 : BitVec 32) : Fin 1 → Nat :=
  let v826 : Index := Scalar.indexCast v825
  ![v826.toNat]
def k0_cond3 (v762 : BitVec 32) (v763 : BitVec 32) : BitVec 1 :=
  let v764 : BitVec 1 := Scalar.cmpi .sgt v763 v762
  let v765 : BitVec 32 := Scalar.extui v764
  let c0_i32_311 : BitVec 32 := 0#32
  let v766 : BitVec 1 := Scalar.cmpi .ne v765 c0_i32_311
  v766

def k0_chk63 (v762 : BitVec 32) (v763 : BitVec 32) (v825 : BitVec 32) : Prop :=
  (∀ (k0_h3 : k0_cond3 v762 v763 = 1#1), ∀ a, (k0_off69 v825) a + S1.size a ≤ S23.size a)
theorem k0_off69_inb : ∀ (v762 : BitVec 32) (v763 : BitVec 32) (v825 : BitVec 32) (k0_hw63 : k0_chk63 v762 v763 v825), ∀ (k0_h3 : k0_cond3 v762 v763 = 1#1), ∀ a, (k0_off69 v825) a + S1.size a ≤ S23.size a := fun v762 v763 v825 k0_hw63 k0_h3 => k0_hw63 k0_h3

def k0_mult65 (v827 : BitVec 32) : BitVec 32 :=
  let c_m32_i32_350 : BitVec 32 := 4294967264#32
  let v828 : BitVec 32 := Scalar.andi v827 c_m32_i32_350
  v828

def k0_mult66 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off70 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk64 (v762 : BitVec 32) (v763 : BitVec 32) (v827 : BitVec 32) : Prop :=
  (∀ (k0_h3 : k0_cond3 v762 v763 = 1#1), 32 ∣ (k0_mult65 v827).toNat) ∧
  (∀ (k0_h3 : k0_cond3 v762 v763 = 1#1), 128 ∣ (k0_mult66 v827).toNat) ∧
  (∀ (k0_h3 : k0_cond3 v762 v763 = 1#1), ∀ a, (k0_off70 v827) a + S1x256.size a ≤ S1x2500.size a)
theorem k0_mult65_dvd : ∀ (v762 : BitVec 32) (v763 : BitVec 32) (v827 : BitVec 32) (k0_hw64 : k0_chk64 v762 v763 v827), ∀ (k0_h3 : k0_cond3 v762 v763 = 1#1), 32 ∣ (k0_mult65 v827).toNat := fun v762 v763 v827 k0_hw64 k0_h3 => k0_hw64.1 k0_h3
theorem k0_mult66_dvd : ∀ (v762 : BitVec 32) (v763 : BitVec 32) (v827 : BitVec 32) (k0_hw64 : k0_chk64 v762 v763 v827), ∀ (k0_h3 : k0_cond3 v762 v763 = 1#1), 128 ∣ (k0_mult66 v827).toNat := fun v762 v763 v827 k0_hw64 k0_h3 => k0_hw64.2.1 k0_h3
theorem k0_off70_inb : ∀ (v762 : BitVec 32) (v763 : BitVec 32) (v827 : BitVec 32) (k0_hw64 : k0_chk64 v762 v763 v827), ∀ (k0_h3 : k0_cond3 v762 v763 = 1#1), ∀ a, (k0_off70 v827) a + S1x256.size a ≤ S1x2500.size a := fun v762 v763 v827 k0_hw64 k0_h3 => k0_hw64.2.2 k0_h3

@[reducible] def k0_t5_loop (v762 : BitVec 32) (v763 : BitVec 32) : Scf.Loop 32 :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v763 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult67 (v762 : BitVec 32) (v763 : BitVec 32) (k0_t5 : Fin (k0_t5_loop v762 v763).trips) : BitVec 32 :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t5
  let c128_i32_379 : BitVec 32 := 128#32
  let v898 : BitVec 32 := Scalar.muli arg16 c128_i32_379
  v898
def k0_off71 (v762 : BitVec 32) (v763 : BitVec 32) (k0_t5 : Fin (k0_t5_loop v762 v763).trips) : Fin 2 → Nat :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t5
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off72 (v762 : BitVec 32) (v763 : BitVec 32) (k0_t5 : Fin (k0_t5_loop v762 v763).trips) : Fin 2 → Nat :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t5
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t6_loop (v762 : BitVec 32) (v763 : BitVec 32) : Scf.Loop 32 :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v763 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult68 (v762 : BitVec 32) (v763 : BitVec 32) (k0_t6 : Fin (k0_t6_loop v762 v763).trips) : BitVec 32 :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v763 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t6
  let c128_i32_379 : BitVec 32 := 128#32
  let v898 : BitVec 32 := Scalar.muli arg16 c128_i32_379
  v898
def k0_off73 (v762 : BitVec 32) (v763 : BitVec 32) (k0_t6 : Fin (k0_t6_loop v762 v763).trips) : Fin 2 → Nat :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v763 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t6
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off74 (v762 : BitVec 32) (v763 : BitVec 32) (k0_t6 : Fin (k0_t6_loop v762 v763).trips) : Fin 2 → Nat :=
  let c0_i32_360 : BitVec 32 := 0#32
  let v856 : BitVec 1 := Scalar.cmpi .sgt v762 c0_i32_360
  let v857 : BitVec 32 := Scalar.extui v856
  let c0_i32_361 : BitVec 32 := 0#32
  let v858 : BitVec 1 := Scalar.cmpi .slt v762 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v762 c128_i32
  let c0_i32_364 : BitVec 32 := 0#32
  let v868 : BitVec 1 := Scalar.cmpi .ne v867 c0_i32_364
  let v869 : BitVec 1 := Scalar.andi v866 v868
  let v855 : BitVec 32 := Scalar.divsi v762 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v763 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t6
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk65 (v762 : BitVec 32) (v763 : BitVec 32) : Prop :=
  (∀ (k0_h3 : k0_cond3 v762 v763 = 1#1), (k0_t5_loop v762 v763).OK) ∧
  (∀ k0_t5 : Fin (k0_t5_loop v762 v763).trips, ∀ (k0_h3 : k0_cond3 v762 v763 = 1#1), 128 ∣ (k0_mult67 v762 v763 k0_t5).toNat) ∧
  (∀ k0_t5 : Fin (k0_t5_loop v762 v763).trips, ∀ (k0_h3 : k0_cond3 v762 v763 = 1#1), ∀ a, (k0_off71 v762 v763 k0_t5) a + S128x128.size a ≤ S1280x128.size a) ∧
  (∀ k0_t5 : Fin (k0_t5_loop v762 v763).trips, ∀ (k0_h3 : k0_cond3 v762 v763 = 1#1), ∀ a, (k0_off72 v762 v763 k0_t5) a + S128x256.size a ≤ S1280x256.size a) ∧
  (∀ (k0_h3 : k0_cond3 v762 v763 = 1#1), (k0_t6_loop v762 v763).OK) ∧
  (∀ k0_t6 : Fin (k0_t6_loop v762 v763).trips, ∀ (k0_h3 : k0_cond3 v762 v763 = 1#1), 128 ∣ (k0_mult68 v762 v763 k0_t6).toNat) ∧
  (∀ k0_t6 : Fin (k0_t6_loop v762 v763).trips, ∀ (k0_h3 : k0_cond3 v762 v763 = 1#1), ∀ a, (k0_off73 v762 v763 k0_t6) a + S128x128.size a ≤ S1280x128.size a) ∧
  (∀ k0_t6 : Fin (k0_t6_loop v762 v763).trips, ∀ (k0_h3 : k0_cond3 v762 v763 = 1#1), ∀ a, (k0_off74 v762 v763 k0_t6) a + S128x256.size a ≤ S1280x256.size a)
theorem k0_t5_ok : ∀ (v762 : BitVec 32) (v763 : BitVec 32) (k0_hw65 : k0_chk65 v762 v763), ∀ (k0_h3 : k0_cond3 v762 v763 = 1#1), (k0_t5_loop v762 v763).OK := fun v762 v763 k0_hw65 k0_h3 => k0_hw65.1 k0_h3
theorem k0_mult67_dvd : ∀ (v762 : BitVec 32) (v763 : BitVec 32) (k0_hw65 : k0_chk65 v762 v763) (k0_t5 : Fin (k0_t5_loop v762 v763).trips), ∀ (k0_h3 : k0_cond3 v762 v763 = 1#1), 128 ∣ (k0_mult67 v762 v763 k0_t5).toNat := fun v762 v763 k0_hw65 k0_t5 k0_h3 => k0_hw65.2.1 k0_t5 k0_h3
theorem k0_off71_inb : ∀ (v762 : BitVec 32) (v763 : BitVec 32) (k0_hw65 : k0_chk65 v762 v763) (k0_t5 : Fin (k0_t5_loop v762 v763).trips), ∀ (k0_h3 : k0_cond3 v762 v763 = 1#1), ∀ a, (k0_off71 v762 v763 k0_t5) a + S128x128.size a ≤ S1280x128.size a := fun v762 v763 k0_hw65 k0_t5 k0_h3 => k0_hw65.2.2.1 k0_t5 k0_h3
theorem k0_off72_inb : ∀ (v762 : BitVec 32) (v763 : BitVec 32) (k0_hw65 : k0_chk65 v762 v763) (k0_t5 : Fin (k0_t5_loop v762 v763).trips), ∀ (k0_h3 : k0_cond3 v762 v763 = 1#1), ∀ a, (k0_off72 v762 v763 k0_t5) a + S128x256.size a ≤ S1280x256.size a := fun v762 v763 k0_hw65 k0_t5 k0_h3 => k0_hw65.2.2.2.1 k0_t5 k0_h3
theorem k0_t6_ok : ∀ (v762 : BitVec 32) (v763 : BitVec 32) (k0_hw65 : k0_chk65 v762 v763), ∀ (k0_h3 : k0_cond3 v762 v763 = 1#1), (k0_t6_loop v762 v763).OK := fun v762 v763 k0_hw65 k0_h3 => k0_hw65.2.2.2.2.1 k0_h3
theorem k0_mult68_dvd : ∀ (v762 : BitVec 32) (v763 : BitVec 32) (k0_hw65 : k0_chk65 v762 v763) (k0_t6 : Fin (k0_t6_loop v762 v763).trips), ∀ (k0_h3 : k0_cond3 v762 v763 = 1#1), 128 ∣ (k0_mult68 v762 v763 k0_t6).toNat := fun v762 v763 k0_hw65 k0_t6 k0_h3 => k0_hw65.2.2.2.2.2.1 k0_t6 k0_h3
theorem k0_off73_inb : ∀ (v762 : BitVec 32) (v763 : BitVec 32) (k0_hw65 : k0_chk65 v762 v763) (k0_t6 : Fin (k0_t6_loop v762 v763).trips), ∀ (k0_h3 : k0_cond3 v762 v763 = 1#1), ∀ a, (k0_off73 v762 v763 k0_t6) a + S128x128.size a ≤ S1280x128.size a := fun v762 v763 k0_hw65 k0_t6 k0_h3 => k0_hw65.2.2.2.2.2.2.1 k0_t6 k0_h3
theorem k0_off74_inb : ∀ (v762 : BitVec 32) (v763 : BitVec 32) (k0_hw65 : k0_chk65 v762 v763) (k0_t6 : Fin (k0_t6_loop v762 v763).trips), ∀ (k0_h3 : k0_cond3 v762 v763 = 1#1), ∀ a, (k0_off74 v762 v763 k0_t6) a + S128x256.size a ≤ S1280x256.size a := fun v762 v763 k0_hw65 k0_t6 k0_h3 => k0_hw65.2.2.2.2.2.2.2 k0_t6 k0_h3

def k0_off75 (v825 : BitVec 32) : Fin 1 → Nat :=
  let v826 : Index := Scalar.indexCast v825
  ![v826.toNat]
def k0_cond4 (v767 : BitVec 32) (v768 : BitVec 32) : BitVec 1 :=
  let v769 : BitVec 1 := Scalar.cmpi .sgt v768 v767
  let v770 : BitVec 32 := Scalar.extui v769
  let c0_i32_314 : BitVec 32 := 0#32
  let v771 : BitVec 1 := Scalar.cmpi .ne v770 c0_i32_314
  v771

def k0_chk66 (v767 : BitVec 32) (v768 : BitVec 32) (v825 : BitVec 32) : Prop :=
  (∀ (k0_h4 : k0_cond4 v767 v768 = 1#1), ∀ a, (k0_off75 v825) a + S1.size a ≤ S23.size a)
theorem k0_off75_inb : ∀ (v767 : BitVec 32) (v768 : BitVec 32) (v825 : BitVec 32) (k0_hw66 : k0_chk66 v767 v768 v825), ∀ (k0_h4 : k0_cond4 v767 v768 = 1#1), ∀ a, (k0_off75 v825) a + S1.size a ≤ S23.size a := fun v767 v768 v825 k0_hw66 k0_h4 => k0_hw66 k0_h4

def k0_mult69 (v827 : BitVec 32) : BitVec 32 :=
  let c_m32_i32_350 : BitVec 32 := 4294967264#32
  let v828 : BitVec 32 := Scalar.andi v827 c_m32_i32_350
  v828

def k0_mult70 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off76 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk67 (v767 : BitVec 32) (v768 : BitVec 32) (v827 : BitVec 32) : Prop :=
  (∀ (k0_h4 : k0_cond4 v767 v768 = 1#1), 32 ∣ (k0_mult69 v827).toNat) ∧
  (∀ (k0_h4 : k0_cond4 v767 v768 = 1#1), 128 ∣ (k0_mult70 v827).toNat) ∧
  (∀ (k0_h4 : k0_cond4 v767 v768 = 1#1), ∀ a, (k0_off76 v827) a + S1x256.size a ≤ S1x2500.size a)
theorem k0_mult69_dvd : ∀ (v767 : BitVec 32) (v768 : BitVec 32) (v827 : BitVec 32) (k0_hw67 : k0_chk67 v767 v768 v827), ∀ (k0_h4 : k0_cond4 v767 v768 = 1#1), 32 ∣ (k0_mult69 v827).toNat := fun v767 v768 v827 k0_hw67 k0_h4 => k0_hw67.1 k0_h4
theorem k0_mult70_dvd : ∀ (v767 : BitVec 32) (v768 : BitVec 32) (v827 : BitVec 32) (k0_hw67 : k0_chk67 v767 v768 v827), ∀ (k0_h4 : k0_cond4 v767 v768 = 1#1), 128 ∣ (k0_mult70 v827).toNat := fun v767 v768 v827 k0_hw67 k0_h4 => k0_hw67.2.1 k0_h4
theorem k0_off76_inb : ∀ (v767 : BitVec 32) (v768 : BitVec 32) (v827 : BitVec 32) (k0_hw67 : k0_chk67 v767 v768 v827), ∀ (k0_h4 : k0_cond4 v767 v768 = 1#1), ∀ a, (k0_off76 v827) a + S1x256.size a ≤ S1x2500.size a := fun v767 v768 v827 k0_hw67 k0_h4 => k0_hw67.2.2 k0_h4

@[reducible] def k0_t7_loop (v767 : BitVec 32) (v768 : BitVec 32) : Scf.Loop 32 :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v768 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult71 (v767 : BitVec 32) (v768 : BitVec 32) (k0_t7 : Fin (k0_t7_loop v767 v768).trips) : BitVec 32 :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t7
  let c128_i32_379 : BitVec 32 := 128#32
  let v898 : BitVec 32 := Scalar.muli arg16 c128_i32_379
  v898
def k0_off77 (v767 : BitVec 32) (v768 : BitVec 32) (k0_t7 : Fin (k0_t7_loop v767 v768).trips) : Fin 2 → Nat :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t7
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off78 (v767 : BitVec 32) (v768 : BitVec 32) (k0_t7 : Fin (k0_t7_loop v767 v768).trips) : Fin 2 → Nat :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t7
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t8_loop (v767 : BitVec 32) (v768 : BitVec 32) : Scf.Loop 32 :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v768 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult72 (v767 : BitVec 32) (v768 : BitVec 32) (k0_t8 : Fin (k0_t8_loop v767 v768).trips) : BitVec 32 :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v768 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t8
  let c128_i32_379 : BitVec 32 := 128#32
  let v898 : BitVec 32 := Scalar.muli arg16 c128_i32_379
  v898
def k0_off79 (v767 : BitVec 32) (v768 : BitVec 32) (k0_t8 : Fin (k0_t8_loop v767 v768).trips) : Fin 2 → Nat :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v768 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t8
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off80 (v767 : BitVec 32) (v768 : BitVec 32) (k0_t8 : Fin (k0_t8_loop v767 v768).trips) : Fin 2 → Nat :=
  let c0_i32_360 : BitVec 32 := 0#32
  let v856 : BitVec 1 := Scalar.cmpi .sgt v767 c0_i32_360
  let v857 : BitVec 32 := Scalar.extui v856
  let c0_i32_361 : BitVec 32 := 0#32
  let v858 : BitVec 1 := Scalar.cmpi .slt v767 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v767 c128_i32
  let c0_i32_364 : BitVec 32 := 0#32
  let v868 : BitVec 1 := Scalar.cmpi .ne v867 c0_i32_364
  let v869 : BitVec 1 := Scalar.andi v866 v868
  let v855 : BitVec 32 := Scalar.divsi v767 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v768 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t8
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk68 (v767 : BitVec 32) (v768 : BitVec 32) : Prop :=
  (∀ (k0_h4 : k0_cond4 v767 v768 = 1#1), (k0_t7_loop v767 v768).OK) ∧
  (∀ k0_t7 : Fin (k0_t7_loop v767 v768).trips, ∀ (k0_h4 : k0_cond4 v767 v768 = 1#1), 128 ∣ (k0_mult71 v767 v768 k0_t7).toNat) ∧
  (∀ k0_t7 : Fin (k0_t7_loop v767 v768).trips, ∀ (k0_h4 : k0_cond4 v767 v768 = 1#1), ∀ a, (k0_off77 v767 v768 k0_t7) a + S128x128.size a ≤ S1280x128.size a) ∧
  (∀ k0_t7 : Fin (k0_t7_loop v767 v768).trips, ∀ (k0_h4 : k0_cond4 v767 v768 = 1#1), ∀ a, (k0_off78 v767 v768 k0_t7) a + S128x256.size a ≤ S1280x256.size a) ∧
  (∀ (k0_h4 : k0_cond4 v767 v768 = 1#1), (k0_t8_loop v767 v768).OK) ∧
  (∀ k0_t8 : Fin (k0_t8_loop v767 v768).trips, ∀ (k0_h4 : k0_cond4 v767 v768 = 1#1), 128 ∣ (k0_mult72 v767 v768 k0_t8).toNat) ∧
  (∀ k0_t8 : Fin (k0_t8_loop v767 v768).trips, ∀ (k0_h4 : k0_cond4 v767 v768 = 1#1), ∀ a, (k0_off79 v767 v768 k0_t8) a + S128x128.size a ≤ S1280x128.size a) ∧
  (∀ k0_t8 : Fin (k0_t8_loop v767 v768).trips, ∀ (k0_h4 : k0_cond4 v767 v768 = 1#1), ∀ a, (k0_off80 v767 v768 k0_t8) a + S128x256.size a ≤ S1280x256.size a)
theorem k0_t7_ok : ∀ (v767 : BitVec 32) (v768 : BitVec 32) (k0_hw68 : k0_chk68 v767 v768), ∀ (k0_h4 : k0_cond4 v767 v768 = 1#1), (k0_t7_loop v767 v768).OK := fun v767 v768 k0_hw68 k0_h4 => k0_hw68.1 k0_h4
theorem k0_mult71_dvd : ∀ (v767 : BitVec 32) (v768 : BitVec 32) (k0_hw68 : k0_chk68 v767 v768) (k0_t7 : Fin (k0_t7_loop v767 v768).trips), ∀ (k0_h4 : k0_cond4 v767 v768 = 1#1), 128 ∣ (k0_mult71 v767 v768 k0_t7).toNat := fun v767 v768 k0_hw68 k0_t7 k0_h4 => k0_hw68.2.1 k0_t7 k0_h4
theorem k0_off77_inb : ∀ (v767 : BitVec 32) (v768 : BitVec 32) (k0_hw68 : k0_chk68 v767 v768) (k0_t7 : Fin (k0_t7_loop v767 v768).trips), ∀ (k0_h4 : k0_cond4 v767 v768 = 1#1), ∀ a, (k0_off77 v767 v768 k0_t7) a + S128x128.size a ≤ S1280x128.size a := fun v767 v768 k0_hw68 k0_t7 k0_h4 => k0_hw68.2.2.1 k0_t7 k0_h4
theorem k0_off78_inb : ∀ (v767 : BitVec 32) (v768 : BitVec 32) (k0_hw68 : k0_chk68 v767 v768) (k0_t7 : Fin (k0_t7_loop v767 v768).trips), ∀ (k0_h4 : k0_cond4 v767 v768 = 1#1), ∀ a, (k0_off78 v767 v768 k0_t7) a + S128x256.size a ≤ S1280x256.size a := fun v767 v768 k0_hw68 k0_t7 k0_h4 => k0_hw68.2.2.2.1 k0_t7 k0_h4
theorem k0_t8_ok : ∀ (v767 : BitVec 32) (v768 : BitVec 32) (k0_hw68 : k0_chk68 v767 v768), ∀ (k0_h4 : k0_cond4 v767 v768 = 1#1), (k0_t8_loop v767 v768).OK := fun v767 v768 k0_hw68 k0_h4 => k0_hw68.2.2.2.2.1 k0_h4
theorem k0_mult72_dvd : ∀ (v767 : BitVec 32) (v768 : BitVec 32) (k0_hw68 : k0_chk68 v767 v768) (k0_t8 : Fin (k0_t8_loop v767 v768).trips), ∀ (k0_h4 : k0_cond4 v767 v768 = 1#1), 128 ∣ (k0_mult72 v767 v768 k0_t8).toNat := fun v767 v768 k0_hw68 k0_t8 k0_h4 => k0_hw68.2.2.2.2.2.1 k0_t8 k0_h4
theorem k0_off79_inb : ∀ (v767 : BitVec 32) (v768 : BitVec 32) (k0_hw68 : k0_chk68 v767 v768) (k0_t8 : Fin (k0_t8_loop v767 v768).trips), ∀ (k0_h4 : k0_cond4 v767 v768 = 1#1), ∀ a, (k0_off79 v767 v768 k0_t8) a + S128x128.size a ≤ S1280x128.size a := fun v767 v768 k0_hw68 k0_t8 k0_h4 => k0_hw68.2.2.2.2.2.2.1 k0_t8 k0_h4
theorem k0_off80_inb : ∀ (v767 : BitVec 32) (v768 : BitVec 32) (k0_hw68 : k0_chk68 v767 v768) (k0_t8 : Fin (k0_t8_loop v767 v768).trips), ∀ (k0_h4 : k0_cond4 v767 v768 = 1#1), ∀ a, (k0_off80 v767 v768 k0_t8) a + S128x256.size a ≤ S1280x256.size a := fun v767 v768 k0_hw68 k0_t8 k0_h4 => k0_hw68.2.2.2.2.2.2.2 k0_t8 k0_h4

def k0_off81 (v825 : BitVec 32) : Fin 1 → Nat :=
  let v826 : Index := Scalar.indexCast v825
  ![v826.toNat]
def k0_cond5 (v772 : BitVec 32) (v773 : BitVec 32) : BitVec 1 :=
  let v774 : BitVec 1 := Scalar.cmpi .sgt v773 v772
  let v775 : BitVec 32 := Scalar.extui v774
  let c0_i32_317 : BitVec 32 := 0#32
  let v776 : BitVec 1 := Scalar.cmpi .ne v775 c0_i32_317
  v776

def k0_chk69 (v772 : BitVec 32) (v773 : BitVec 32) (v825 : BitVec 32) : Prop :=
  (∀ (k0_h5 : k0_cond5 v772 v773 = 1#1), ∀ a, (k0_off81 v825) a + S1.size a ≤ S23.size a)
theorem k0_off81_inb : ∀ (v772 : BitVec 32) (v773 : BitVec 32) (v825 : BitVec 32) (k0_hw69 : k0_chk69 v772 v773 v825), ∀ (k0_h5 : k0_cond5 v772 v773 = 1#1), ∀ a, (k0_off81 v825) a + S1.size a ≤ S23.size a := fun v772 v773 v825 k0_hw69 k0_h5 => k0_hw69 k0_h5

def k0_mult73 (v827 : BitVec 32) : BitVec 32 :=
  let c_m32_i32_350 : BitVec 32 := 4294967264#32
  let v828 : BitVec 32 := Scalar.andi v827 c_m32_i32_350
  v828

def k0_mult74 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off82 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk70 (v772 : BitVec 32) (v773 : BitVec 32) (v827 : BitVec 32) : Prop :=
  (∀ (k0_h5 : k0_cond5 v772 v773 = 1#1), 32 ∣ (k0_mult73 v827).toNat) ∧
  (∀ (k0_h5 : k0_cond5 v772 v773 = 1#1), 128 ∣ (k0_mult74 v827).toNat) ∧
  (∀ (k0_h5 : k0_cond5 v772 v773 = 1#1), ∀ a, (k0_off82 v827) a + S1x256.size a ≤ S1x2500.size a)
theorem k0_mult73_dvd : ∀ (v772 : BitVec 32) (v773 : BitVec 32) (v827 : BitVec 32) (k0_hw70 : k0_chk70 v772 v773 v827), ∀ (k0_h5 : k0_cond5 v772 v773 = 1#1), 32 ∣ (k0_mult73 v827).toNat := fun v772 v773 v827 k0_hw70 k0_h5 => k0_hw70.1 k0_h5
theorem k0_mult74_dvd : ∀ (v772 : BitVec 32) (v773 : BitVec 32) (v827 : BitVec 32) (k0_hw70 : k0_chk70 v772 v773 v827), ∀ (k0_h5 : k0_cond5 v772 v773 = 1#1), 128 ∣ (k0_mult74 v827).toNat := fun v772 v773 v827 k0_hw70 k0_h5 => k0_hw70.2.1 k0_h5
theorem k0_off82_inb : ∀ (v772 : BitVec 32) (v773 : BitVec 32) (v827 : BitVec 32) (k0_hw70 : k0_chk70 v772 v773 v827), ∀ (k0_h5 : k0_cond5 v772 v773 = 1#1), ∀ a, (k0_off82 v827) a + S1x256.size a ≤ S1x2500.size a := fun v772 v773 v827 k0_hw70 k0_h5 => k0_hw70.2.2 k0_h5

@[reducible] def k0_t9_loop (v772 : BitVec 32) (v773 : BitVec 32) : Scf.Loop 32 :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v773 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult75 (v772 : BitVec 32) (v773 : BitVec 32) (k0_t9 : Fin (k0_t9_loop v772 v773).trips) : BitVec 32 :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t9
  let c128_i32_379 : BitVec 32 := 128#32
  let v898 : BitVec 32 := Scalar.muli arg16 c128_i32_379
  v898
def k0_off83 (v772 : BitVec 32) (v773 : BitVec 32) (k0_t9 : Fin (k0_t9_loop v772 v773).trips) : Fin 2 → Nat :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t9
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off84 (v772 : BitVec 32) (v773 : BitVec 32) (k0_t9 : Fin (k0_t9_loop v772 v773).trips) : Fin 2 → Nat :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t9
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t10_loop (v772 : BitVec 32) (v773 : BitVec 32) : Scf.Loop 32 :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v773 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult76 (v772 : BitVec 32) (v773 : BitVec 32) (k0_t10 : Fin (k0_t10_loop v772 v773).trips) : BitVec 32 :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v773 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t10
  let c128_i32_379 : BitVec 32 := 128#32
  let v898 : BitVec 32 := Scalar.muli arg16 c128_i32_379
  v898
def k0_off85 (v772 : BitVec 32) (v773 : BitVec 32) (k0_t10 : Fin (k0_t10_loop v772 v773).trips) : Fin 2 → Nat :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v773 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t10
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off86 (v772 : BitVec 32) (v773 : BitVec 32) (k0_t10 : Fin (k0_t10_loop v772 v773).trips) : Fin 2 → Nat :=
  let c0_i32_360 : BitVec 32 := 0#32
  let v856 : BitVec 1 := Scalar.cmpi .sgt v772 c0_i32_360
  let v857 : BitVec 32 := Scalar.extui v856
  let c0_i32_361 : BitVec 32 := 0#32
  let v858 : BitVec 1 := Scalar.cmpi .slt v772 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v772 c128_i32
  let c0_i32_364 : BitVec 32 := 0#32
  let v868 : BitVec 1 := Scalar.cmpi .ne v867 c0_i32_364
  let v869 : BitVec 1 := Scalar.andi v866 v868
  let v855 : BitVec 32 := Scalar.divsi v772 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v773 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t10
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk71 (v772 : BitVec 32) (v773 : BitVec 32) : Prop :=
  (∀ (k0_h5 : k0_cond5 v772 v773 = 1#1), (k0_t9_loop v772 v773).OK) ∧
  (∀ k0_t9 : Fin (k0_t9_loop v772 v773).trips, ∀ (k0_h5 : k0_cond5 v772 v773 = 1#1), 128 ∣ (k0_mult75 v772 v773 k0_t9).toNat) ∧
  (∀ k0_t9 : Fin (k0_t9_loop v772 v773).trips, ∀ (k0_h5 : k0_cond5 v772 v773 = 1#1), ∀ a, (k0_off83 v772 v773 k0_t9) a + S128x128.size a ≤ S1280x128.size a) ∧
  (∀ k0_t9 : Fin (k0_t9_loop v772 v773).trips, ∀ (k0_h5 : k0_cond5 v772 v773 = 1#1), ∀ a, (k0_off84 v772 v773 k0_t9) a + S128x256.size a ≤ S1280x256.size a) ∧
  (∀ (k0_h5 : k0_cond5 v772 v773 = 1#1), (k0_t10_loop v772 v773).OK) ∧
  (∀ k0_t10 : Fin (k0_t10_loop v772 v773).trips, ∀ (k0_h5 : k0_cond5 v772 v773 = 1#1), 128 ∣ (k0_mult76 v772 v773 k0_t10).toNat) ∧
  (∀ k0_t10 : Fin (k0_t10_loop v772 v773).trips, ∀ (k0_h5 : k0_cond5 v772 v773 = 1#1), ∀ a, (k0_off85 v772 v773 k0_t10) a + S128x128.size a ≤ S1280x128.size a) ∧
  (∀ k0_t10 : Fin (k0_t10_loop v772 v773).trips, ∀ (k0_h5 : k0_cond5 v772 v773 = 1#1), ∀ a, (k0_off86 v772 v773 k0_t10) a + S128x256.size a ≤ S1280x256.size a)
theorem k0_t9_ok : ∀ (v772 : BitVec 32) (v773 : BitVec 32) (k0_hw71 : k0_chk71 v772 v773), ∀ (k0_h5 : k0_cond5 v772 v773 = 1#1), (k0_t9_loop v772 v773).OK := fun v772 v773 k0_hw71 k0_h5 => k0_hw71.1 k0_h5
theorem k0_mult75_dvd : ∀ (v772 : BitVec 32) (v773 : BitVec 32) (k0_hw71 : k0_chk71 v772 v773) (k0_t9 : Fin (k0_t9_loop v772 v773).trips), ∀ (k0_h5 : k0_cond5 v772 v773 = 1#1), 128 ∣ (k0_mult75 v772 v773 k0_t9).toNat := fun v772 v773 k0_hw71 k0_t9 k0_h5 => k0_hw71.2.1 k0_t9 k0_h5
theorem k0_off83_inb : ∀ (v772 : BitVec 32) (v773 : BitVec 32) (k0_hw71 : k0_chk71 v772 v773) (k0_t9 : Fin (k0_t9_loop v772 v773).trips), ∀ (k0_h5 : k0_cond5 v772 v773 = 1#1), ∀ a, (k0_off83 v772 v773 k0_t9) a + S128x128.size a ≤ S1280x128.size a := fun v772 v773 k0_hw71 k0_t9 k0_h5 => k0_hw71.2.2.1 k0_t9 k0_h5
theorem k0_off84_inb : ∀ (v772 : BitVec 32) (v773 : BitVec 32) (k0_hw71 : k0_chk71 v772 v773) (k0_t9 : Fin (k0_t9_loop v772 v773).trips), ∀ (k0_h5 : k0_cond5 v772 v773 = 1#1), ∀ a, (k0_off84 v772 v773 k0_t9) a + S128x256.size a ≤ S1280x256.size a := fun v772 v773 k0_hw71 k0_t9 k0_h5 => k0_hw71.2.2.2.1 k0_t9 k0_h5
theorem k0_t10_ok : ∀ (v772 : BitVec 32) (v773 : BitVec 32) (k0_hw71 : k0_chk71 v772 v773), ∀ (k0_h5 : k0_cond5 v772 v773 = 1#1), (k0_t10_loop v772 v773).OK := fun v772 v773 k0_hw71 k0_h5 => k0_hw71.2.2.2.2.1 k0_h5
theorem k0_mult76_dvd : ∀ (v772 : BitVec 32) (v773 : BitVec 32) (k0_hw71 : k0_chk71 v772 v773) (k0_t10 : Fin (k0_t10_loop v772 v773).trips), ∀ (k0_h5 : k0_cond5 v772 v773 = 1#1), 128 ∣ (k0_mult76 v772 v773 k0_t10).toNat := fun v772 v773 k0_hw71 k0_t10 k0_h5 => k0_hw71.2.2.2.2.2.1 k0_t10 k0_h5
theorem k0_off85_inb : ∀ (v772 : BitVec 32) (v773 : BitVec 32) (k0_hw71 : k0_chk71 v772 v773) (k0_t10 : Fin (k0_t10_loop v772 v773).trips), ∀ (k0_h5 : k0_cond5 v772 v773 = 1#1), ∀ a, (k0_off85 v772 v773 k0_t10) a + S128x128.size a ≤ S1280x128.size a := fun v772 v773 k0_hw71 k0_t10 k0_h5 => k0_hw71.2.2.2.2.2.2.1 k0_t10 k0_h5
theorem k0_off86_inb : ∀ (v772 : BitVec 32) (v773 : BitVec 32) (k0_hw71 : k0_chk71 v772 v773) (k0_t10 : Fin (k0_t10_loop v772 v773).trips), ∀ (k0_h5 : k0_cond5 v772 v773 = 1#1), ∀ a, (k0_off86 v772 v773 k0_t10) a + S128x256.size a ≤ S1280x256.size a := fun v772 v773 k0_hw71 k0_t10 k0_h5 => k0_hw71.2.2.2.2.2.2.2 k0_t10 k0_h5

def k0_off87 (v825 : BitVec 32) : Fin 1 → Nat :=
  let v826 : Index := Scalar.indexCast v825
  ![v826.toNat]
def k0_cond6 (v777 : BitVec 32) (v778 : BitVec 32) : BitVec 1 :=
  let v779 : BitVec 1 := Scalar.cmpi .sgt v778 v777
  let v780 : BitVec 32 := Scalar.extui v779
  let c0_i32_320 : BitVec 32 := 0#32
  let v781 : BitVec 1 := Scalar.cmpi .ne v780 c0_i32_320
  v781

def k0_chk72 (v777 : BitVec 32) (v778 : BitVec 32) (v825 : BitVec 32) : Prop :=
  (∀ (k0_h6 : k0_cond6 v777 v778 = 1#1), ∀ a, (k0_off87 v825) a + S1.size a ≤ S23.size a)
theorem k0_off87_inb : ∀ (v777 : BitVec 32) (v778 : BitVec 32) (v825 : BitVec 32) (k0_hw72 : k0_chk72 v777 v778 v825), ∀ (k0_h6 : k0_cond6 v777 v778 = 1#1), ∀ a, (k0_off87 v825) a + S1.size a ≤ S23.size a := fun v777 v778 v825 k0_hw72 k0_h6 => k0_hw72 k0_h6

def k0_mult77 (v827 : BitVec 32) : BitVec 32 :=
  let c_m32_i32_350 : BitVec 32 := 4294967264#32
  let v828 : BitVec 32 := Scalar.andi v827 c_m32_i32_350
  v828

def k0_mult78 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off88 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk73 (v777 : BitVec 32) (v778 : BitVec 32) (v827 : BitVec 32) : Prop :=
  (∀ (k0_h6 : k0_cond6 v777 v778 = 1#1), 32 ∣ (k0_mult77 v827).toNat) ∧
  (∀ (k0_h6 : k0_cond6 v777 v778 = 1#1), 128 ∣ (k0_mult78 v827).toNat) ∧
  (∀ (k0_h6 : k0_cond6 v777 v778 = 1#1), ∀ a, (k0_off88 v827) a + S1x256.size a ≤ S1x2500.size a)
theorem k0_mult77_dvd : ∀ (v777 : BitVec 32) (v778 : BitVec 32) (v827 : BitVec 32) (k0_hw73 : k0_chk73 v777 v778 v827), ∀ (k0_h6 : k0_cond6 v777 v778 = 1#1), 32 ∣ (k0_mult77 v827).toNat := fun v777 v778 v827 k0_hw73 k0_h6 => k0_hw73.1 k0_h6
theorem k0_mult78_dvd : ∀ (v777 : BitVec 32) (v778 : BitVec 32) (v827 : BitVec 32) (k0_hw73 : k0_chk73 v777 v778 v827), ∀ (k0_h6 : k0_cond6 v777 v778 = 1#1), 128 ∣ (k0_mult78 v827).toNat := fun v777 v778 v827 k0_hw73 k0_h6 => k0_hw73.2.1 k0_h6
theorem k0_off88_inb : ∀ (v777 : BitVec 32) (v778 : BitVec 32) (v827 : BitVec 32) (k0_hw73 : k0_chk73 v777 v778 v827), ∀ (k0_h6 : k0_cond6 v777 v778 = 1#1), ∀ a, (k0_off88 v827) a + S1x256.size a ≤ S1x2500.size a := fun v777 v778 v827 k0_hw73 k0_h6 => k0_hw73.2.2 k0_h6

@[reducible] def k0_t11_loop (v777 : BitVec 32) (v778 : BitVec 32) : Scf.Loop 32 :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v778 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult79 (v777 : BitVec 32) (v778 : BitVec 32) (k0_t11 : Fin (k0_t11_loop v777 v778).trips) : BitVec 32 :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t11
  let c128_i32_379 : BitVec 32 := 128#32
  let v898 : BitVec 32 := Scalar.muli arg16 c128_i32_379
  v898
def k0_off89 (v777 : BitVec 32) (v778 : BitVec 32) (k0_t11 : Fin (k0_t11_loop v777 v778).trips) : Fin 2 → Nat :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t11
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off90 (v777 : BitVec 32) (v778 : BitVec 32) (k0_t11 : Fin (k0_t11_loop v777 v778).trips) : Fin 2 → Nat :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t11
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t12_loop (v777 : BitVec 32) (v778 : BitVec 32) : Scf.Loop 32 :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v778 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult80 (v777 : BitVec 32) (v778 : BitVec 32) (k0_t12 : Fin (k0_t12_loop v777 v778).trips) : BitVec 32 :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v778 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t12
  let c128_i32_379 : BitVec 32 := 128#32
  let v898 : BitVec 32 := Scalar.muli arg16 c128_i32_379
  v898
def k0_off91 (v777 : BitVec 32) (v778 : BitVec 32) (k0_t12 : Fin (k0_t12_loop v777 v778).trips) : Fin 2 → Nat :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v778 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t12
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off92 (v777 : BitVec 32) (v778 : BitVec 32) (k0_t12 : Fin (k0_t12_loop v777 v778).trips) : Fin 2 → Nat :=
  let c0_i32_360 : BitVec 32 := 0#32
  let v856 : BitVec 1 := Scalar.cmpi .sgt v777 c0_i32_360
  let v857 : BitVec 32 := Scalar.extui v856
  let c0_i32_361 : BitVec 32 := 0#32
  let v858 : BitVec 1 := Scalar.cmpi .slt v777 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v777 c128_i32
  let c0_i32_364 : BitVec 32 := 0#32
  let v868 : BitVec 1 := Scalar.cmpi .ne v867 c0_i32_364
  let v869 : BitVec 1 := Scalar.andi v866 v868
  let v855 : BitVec 32 := Scalar.divsi v777 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v778 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t12
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk74 (v777 : BitVec 32) (v778 : BitVec 32) : Prop :=
  (∀ (k0_h6 : k0_cond6 v777 v778 = 1#1), (k0_t11_loop v777 v778).OK) ∧
  (∀ k0_t11 : Fin (k0_t11_loop v777 v778).trips, ∀ (k0_h6 : k0_cond6 v777 v778 = 1#1), 128 ∣ (k0_mult79 v777 v778 k0_t11).toNat) ∧
  (∀ k0_t11 : Fin (k0_t11_loop v777 v778).trips, ∀ (k0_h6 : k0_cond6 v777 v778 = 1#1), ∀ a, (k0_off89 v777 v778 k0_t11) a + S128x128.size a ≤ S1280x128.size a) ∧
  (∀ k0_t11 : Fin (k0_t11_loop v777 v778).trips, ∀ (k0_h6 : k0_cond6 v777 v778 = 1#1), ∀ a, (k0_off90 v777 v778 k0_t11) a + S128x256.size a ≤ S1280x256.size a) ∧
  (∀ (k0_h6 : k0_cond6 v777 v778 = 1#1), (k0_t12_loop v777 v778).OK) ∧
  (∀ k0_t12 : Fin (k0_t12_loop v777 v778).trips, ∀ (k0_h6 : k0_cond6 v777 v778 = 1#1), 128 ∣ (k0_mult80 v777 v778 k0_t12).toNat) ∧
  (∀ k0_t12 : Fin (k0_t12_loop v777 v778).trips, ∀ (k0_h6 : k0_cond6 v777 v778 = 1#1), ∀ a, (k0_off91 v777 v778 k0_t12) a + S128x128.size a ≤ S1280x128.size a) ∧
  (∀ k0_t12 : Fin (k0_t12_loop v777 v778).trips, ∀ (k0_h6 : k0_cond6 v777 v778 = 1#1), ∀ a, (k0_off92 v777 v778 k0_t12) a + S128x256.size a ≤ S1280x256.size a)
theorem k0_t11_ok : ∀ (v777 : BitVec 32) (v778 : BitVec 32) (k0_hw74 : k0_chk74 v777 v778), ∀ (k0_h6 : k0_cond6 v777 v778 = 1#1), (k0_t11_loop v777 v778).OK := fun v777 v778 k0_hw74 k0_h6 => k0_hw74.1 k0_h6
theorem k0_mult79_dvd : ∀ (v777 : BitVec 32) (v778 : BitVec 32) (k0_hw74 : k0_chk74 v777 v778) (k0_t11 : Fin (k0_t11_loop v777 v778).trips), ∀ (k0_h6 : k0_cond6 v777 v778 = 1#1), 128 ∣ (k0_mult79 v777 v778 k0_t11).toNat := fun v777 v778 k0_hw74 k0_t11 k0_h6 => k0_hw74.2.1 k0_t11 k0_h6
theorem k0_off89_inb : ∀ (v777 : BitVec 32) (v778 : BitVec 32) (k0_hw74 : k0_chk74 v777 v778) (k0_t11 : Fin (k0_t11_loop v777 v778).trips), ∀ (k0_h6 : k0_cond6 v777 v778 = 1#1), ∀ a, (k0_off89 v777 v778 k0_t11) a + S128x128.size a ≤ S1280x128.size a := fun v777 v778 k0_hw74 k0_t11 k0_h6 => k0_hw74.2.2.1 k0_t11 k0_h6
theorem k0_off90_inb : ∀ (v777 : BitVec 32) (v778 : BitVec 32) (k0_hw74 : k0_chk74 v777 v778) (k0_t11 : Fin (k0_t11_loop v777 v778).trips), ∀ (k0_h6 : k0_cond6 v777 v778 = 1#1), ∀ a, (k0_off90 v777 v778 k0_t11) a + S128x256.size a ≤ S1280x256.size a := fun v777 v778 k0_hw74 k0_t11 k0_h6 => k0_hw74.2.2.2.1 k0_t11 k0_h6
theorem k0_t12_ok : ∀ (v777 : BitVec 32) (v778 : BitVec 32) (k0_hw74 : k0_chk74 v777 v778), ∀ (k0_h6 : k0_cond6 v777 v778 = 1#1), (k0_t12_loop v777 v778).OK := fun v777 v778 k0_hw74 k0_h6 => k0_hw74.2.2.2.2.1 k0_h6
theorem k0_mult80_dvd : ∀ (v777 : BitVec 32) (v778 : BitVec 32) (k0_hw74 : k0_chk74 v777 v778) (k0_t12 : Fin (k0_t12_loop v777 v778).trips), ∀ (k0_h6 : k0_cond6 v777 v778 = 1#1), 128 ∣ (k0_mult80 v777 v778 k0_t12).toNat := fun v777 v778 k0_hw74 k0_t12 k0_h6 => k0_hw74.2.2.2.2.2.1 k0_t12 k0_h6
theorem k0_off91_inb : ∀ (v777 : BitVec 32) (v778 : BitVec 32) (k0_hw74 : k0_chk74 v777 v778) (k0_t12 : Fin (k0_t12_loop v777 v778).trips), ∀ (k0_h6 : k0_cond6 v777 v778 = 1#1), ∀ a, (k0_off91 v777 v778 k0_t12) a + S128x128.size a ≤ S1280x128.size a := fun v777 v778 k0_hw74 k0_t12 k0_h6 => k0_hw74.2.2.2.2.2.2.1 k0_t12 k0_h6
theorem k0_off92_inb : ∀ (v777 : BitVec 32) (v778 : BitVec 32) (k0_hw74 : k0_chk74 v777 v778) (k0_t12 : Fin (k0_t12_loop v777 v778).trips), ∀ (k0_h6 : k0_cond6 v777 v778 = 1#1), ∀ a, (k0_off92 v777 v778 k0_t12) a + S128x256.size a ≤ S1280x256.size a := fun v777 v778 k0_hw74 k0_t12 k0_h6 => k0_hw74.2.2.2.2.2.2.2 k0_t12 k0_h6

def k0_off93 (v825 : BitVec 32) : Fin 1 → Nat :=
  let v826 : Index := Scalar.indexCast v825
  ![v826.toNat]
def k0_cond7 (v782 : BitVec 32) (v783 : BitVec 32) : BitVec 1 :=
  let v784 : BitVec 1 := Scalar.cmpi .sgt v783 v782
  let v785 : BitVec 32 := Scalar.extui v784
  let c0_i32_323 : BitVec 32 := 0#32
  let v786 : BitVec 1 := Scalar.cmpi .ne v785 c0_i32_323
  v786

def k0_chk75 (v782 : BitVec 32) (v783 : BitVec 32) (v825 : BitVec 32) : Prop :=
  (∀ (k0_h7 : k0_cond7 v782 v783 = 1#1), ∀ a, (k0_off93 v825) a + S1.size a ≤ S23.size a)
theorem k0_off93_inb : ∀ (v782 : BitVec 32) (v783 : BitVec 32) (v825 : BitVec 32) (k0_hw75 : k0_chk75 v782 v783 v825), ∀ (k0_h7 : k0_cond7 v782 v783 = 1#1), ∀ a, (k0_off93 v825) a + S1.size a ≤ S23.size a := fun v782 v783 v825 k0_hw75 k0_h7 => k0_hw75 k0_h7

def k0_mult81 (v827 : BitVec 32) : BitVec 32 :=
  let c_m32_i32_350 : BitVec 32 := 4294967264#32
  let v828 : BitVec 32 := Scalar.andi v827 c_m32_i32_350
  v828

def k0_mult82 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off94 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk76 (v782 : BitVec 32) (v783 : BitVec 32) (v827 : BitVec 32) : Prop :=
  (∀ (k0_h7 : k0_cond7 v782 v783 = 1#1), 32 ∣ (k0_mult81 v827).toNat) ∧
  (∀ (k0_h7 : k0_cond7 v782 v783 = 1#1), 128 ∣ (k0_mult82 v827).toNat) ∧
  (∀ (k0_h7 : k0_cond7 v782 v783 = 1#1), ∀ a, (k0_off94 v827) a + S1x256.size a ≤ S1x2500.size a)
theorem k0_mult81_dvd : ∀ (v782 : BitVec 32) (v783 : BitVec 32) (v827 : BitVec 32) (k0_hw76 : k0_chk76 v782 v783 v827), ∀ (k0_h7 : k0_cond7 v782 v783 = 1#1), 32 ∣ (k0_mult81 v827).toNat := fun v782 v783 v827 k0_hw76 k0_h7 => k0_hw76.1 k0_h7
theorem k0_mult82_dvd : ∀ (v782 : BitVec 32) (v783 : BitVec 32) (v827 : BitVec 32) (k0_hw76 : k0_chk76 v782 v783 v827), ∀ (k0_h7 : k0_cond7 v782 v783 = 1#1), 128 ∣ (k0_mult82 v827).toNat := fun v782 v783 v827 k0_hw76 k0_h7 => k0_hw76.2.1 k0_h7
theorem k0_off94_inb : ∀ (v782 : BitVec 32) (v783 : BitVec 32) (v827 : BitVec 32) (k0_hw76 : k0_chk76 v782 v783 v827), ∀ (k0_h7 : k0_cond7 v782 v783 = 1#1), ∀ a, (k0_off94 v827) a + S1x256.size a ≤ S1x2500.size a := fun v782 v783 v827 k0_hw76 k0_h7 => k0_hw76.2.2 k0_h7

@[reducible] def k0_t13_loop (v782 : BitVec 32) (v783 : BitVec 32) : Scf.Loop 32 :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v783 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult83 (v782 : BitVec 32) (v783 : BitVec 32) (k0_t13 : Fin (k0_t13_loop v782 v783).trips) : BitVec 32 :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t13
  let c128_i32_379 : BitVec 32 := 128#32
  let v898 : BitVec 32 := Scalar.muli arg16 c128_i32_379
  v898
def k0_off95 (v782 : BitVec 32) (v783 : BitVec 32) (k0_t13 : Fin (k0_t13_loop v782 v783).trips) : Fin 2 → Nat :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t13
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off96 (v782 : BitVec 32) (v783 : BitVec 32) (k0_t13 : Fin (k0_t13_loop v782 v783).trips) : Fin 2 → Nat :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t13
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t14_loop (v782 : BitVec 32) (v783 : BitVec 32) : Scf.Loop 32 :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v783 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult84 (v782 : BitVec 32) (v783 : BitVec 32) (k0_t14 : Fin (k0_t14_loop v782 v783).trips) : BitVec 32 :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v783 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t14
  let c128_i32_379 : BitVec 32 := 128#32
  let v898 : BitVec 32 := Scalar.muli arg16 c128_i32_379
  v898
def k0_off97 (v782 : BitVec 32) (v783 : BitVec 32) (k0_t14 : Fin (k0_t14_loop v782 v783).trips) : Fin 2 → Nat :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v783 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t14
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off98 (v782 : BitVec 32) (v783 : BitVec 32) (k0_t14 : Fin (k0_t14_loop v782 v783).trips) : Fin 2 → Nat :=
  let c0_i32_360 : BitVec 32 := 0#32
  let v856 : BitVec 1 := Scalar.cmpi .sgt v782 c0_i32_360
  let v857 : BitVec 32 := Scalar.extui v856
  let c0_i32_361 : BitVec 32 := 0#32
  let v858 : BitVec 1 := Scalar.cmpi .slt v782 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v782 c128_i32
  let c0_i32_364 : BitVec 32 := 0#32
  let v868 : BitVec 1 := Scalar.cmpi .ne v867 c0_i32_364
  let v869 : BitVec 1 := Scalar.andi v866 v868
  let v855 : BitVec 32 := Scalar.divsi v782 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v783 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t14
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk77 (v782 : BitVec 32) (v783 : BitVec 32) : Prop :=
  (∀ (k0_h7 : k0_cond7 v782 v783 = 1#1), (k0_t13_loop v782 v783).OK) ∧
  (∀ k0_t13 : Fin (k0_t13_loop v782 v783).trips, ∀ (k0_h7 : k0_cond7 v782 v783 = 1#1), 128 ∣ (k0_mult83 v782 v783 k0_t13).toNat) ∧
  (∀ k0_t13 : Fin (k0_t13_loop v782 v783).trips, ∀ (k0_h7 : k0_cond7 v782 v783 = 1#1), ∀ a, (k0_off95 v782 v783 k0_t13) a + S128x128.size a ≤ S1280x128.size a) ∧
  (∀ k0_t13 : Fin (k0_t13_loop v782 v783).trips, ∀ (k0_h7 : k0_cond7 v782 v783 = 1#1), ∀ a, (k0_off96 v782 v783 k0_t13) a + S128x256.size a ≤ S1280x256.size a) ∧
  (∀ (k0_h7 : k0_cond7 v782 v783 = 1#1), (k0_t14_loop v782 v783).OK) ∧
  (∀ k0_t14 : Fin (k0_t14_loop v782 v783).trips, ∀ (k0_h7 : k0_cond7 v782 v783 = 1#1), 128 ∣ (k0_mult84 v782 v783 k0_t14).toNat) ∧
  (∀ k0_t14 : Fin (k0_t14_loop v782 v783).trips, ∀ (k0_h7 : k0_cond7 v782 v783 = 1#1), ∀ a, (k0_off97 v782 v783 k0_t14) a + S128x128.size a ≤ S1280x128.size a) ∧
  (∀ k0_t14 : Fin (k0_t14_loop v782 v783).trips, ∀ (k0_h7 : k0_cond7 v782 v783 = 1#1), ∀ a, (k0_off98 v782 v783 k0_t14) a + S128x256.size a ≤ S1280x256.size a)
theorem k0_t13_ok : ∀ (v782 : BitVec 32) (v783 : BitVec 32) (k0_hw77 : k0_chk77 v782 v783), ∀ (k0_h7 : k0_cond7 v782 v783 = 1#1), (k0_t13_loop v782 v783).OK := fun v782 v783 k0_hw77 k0_h7 => k0_hw77.1 k0_h7
theorem k0_mult83_dvd : ∀ (v782 : BitVec 32) (v783 : BitVec 32) (k0_hw77 : k0_chk77 v782 v783) (k0_t13 : Fin (k0_t13_loop v782 v783).trips), ∀ (k0_h7 : k0_cond7 v782 v783 = 1#1), 128 ∣ (k0_mult83 v782 v783 k0_t13).toNat := fun v782 v783 k0_hw77 k0_t13 k0_h7 => k0_hw77.2.1 k0_t13 k0_h7
theorem k0_off95_inb : ∀ (v782 : BitVec 32) (v783 : BitVec 32) (k0_hw77 : k0_chk77 v782 v783) (k0_t13 : Fin (k0_t13_loop v782 v783).trips), ∀ (k0_h7 : k0_cond7 v782 v783 = 1#1), ∀ a, (k0_off95 v782 v783 k0_t13) a + S128x128.size a ≤ S1280x128.size a := fun v782 v783 k0_hw77 k0_t13 k0_h7 => k0_hw77.2.2.1 k0_t13 k0_h7
theorem k0_off96_inb : ∀ (v782 : BitVec 32) (v783 : BitVec 32) (k0_hw77 : k0_chk77 v782 v783) (k0_t13 : Fin (k0_t13_loop v782 v783).trips), ∀ (k0_h7 : k0_cond7 v782 v783 = 1#1), ∀ a, (k0_off96 v782 v783 k0_t13) a + S128x256.size a ≤ S1280x256.size a := fun v782 v783 k0_hw77 k0_t13 k0_h7 => k0_hw77.2.2.2.1 k0_t13 k0_h7
theorem k0_t14_ok : ∀ (v782 : BitVec 32) (v783 : BitVec 32) (k0_hw77 : k0_chk77 v782 v783), ∀ (k0_h7 : k0_cond7 v782 v783 = 1#1), (k0_t14_loop v782 v783).OK := fun v782 v783 k0_hw77 k0_h7 => k0_hw77.2.2.2.2.1 k0_h7
theorem k0_mult84_dvd : ∀ (v782 : BitVec 32) (v783 : BitVec 32) (k0_hw77 : k0_chk77 v782 v783) (k0_t14 : Fin (k0_t14_loop v782 v783).trips), ∀ (k0_h7 : k0_cond7 v782 v783 = 1#1), 128 ∣ (k0_mult84 v782 v783 k0_t14).toNat := fun v782 v783 k0_hw77 k0_t14 k0_h7 => k0_hw77.2.2.2.2.2.1 k0_t14 k0_h7
theorem k0_off97_inb : ∀ (v782 : BitVec 32) (v783 : BitVec 32) (k0_hw77 : k0_chk77 v782 v783) (k0_t14 : Fin (k0_t14_loop v782 v783).trips), ∀ (k0_h7 : k0_cond7 v782 v783 = 1#1), ∀ a, (k0_off97 v782 v783 k0_t14) a + S128x128.size a ≤ S1280x128.size a := fun v782 v783 k0_hw77 k0_t14 k0_h7 => k0_hw77.2.2.2.2.2.2.1 k0_t14 k0_h7
theorem k0_off98_inb : ∀ (v782 : BitVec 32) (v783 : BitVec 32) (k0_hw77 : k0_chk77 v782 v783) (k0_t14 : Fin (k0_t14_loop v782 v783).trips), ∀ (k0_h7 : k0_cond7 v782 v783 = 1#1), ∀ a, (k0_off98 v782 v783 k0_t14) a + S128x256.size a ≤ S1280x256.size a := fun v782 v783 k0_hw77 k0_t14 k0_h7 => k0_hw77.2.2.2.2.2.2.2 k0_t14 k0_h7

def k0_off99 (v825 : BitVec 32) : Fin 1 → Nat :=
  let v826 : Index := Scalar.indexCast v825
  ![v826.toNat]
def k0_cond8 (v787 : BitVec 32) (v788 : BitVec 32) : BitVec 1 :=
  let v789 : BitVec 1 := Scalar.cmpi .sgt v788 v787
  let v790 : BitVec 32 := Scalar.extui v789
  let c0_i32_326 : BitVec 32 := 0#32
  let v791 : BitVec 1 := Scalar.cmpi .ne v790 c0_i32_326
  v791

def k0_chk78 (v787 : BitVec 32) (v788 : BitVec 32) (v825 : BitVec 32) : Prop :=
  (∀ (k0_h8 : k0_cond8 v787 v788 = 1#1), ∀ a, (k0_off99 v825) a + S1.size a ≤ S23.size a)
theorem k0_off99_inb : ∀ (v787 : BitVec 32) (v788 : BitVec 32) (v825 : BitVec 32) (k0_hw78 : k0_chk78 v787 v788 v825), ∀ (k0_h8 : k0_cond8 v787 v788 = 1#1), ∀ a, (k0_off99 v825) a + S1.size a ≤ S23.size a := fun v787 v788 v825 k0_hw78 k0_h8 => k0_hw78 k0_h8

def k0_mult85 (v827 : BitVec 32) : BitVec 32 :=
  let c_m32_i32_350 : BitVec 32 := 4294967264#32
  let v828 : BitVec 32 := Scalar.andi v827 c_m32_i32_350
  v828

def k0_mult86 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off100 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk79 (v787 : BitVec 32) (v788 : BitVec 32) (v827 : BitVec 32) : Prop :=
  (∀ (k0_h8 : k0_cond8 v787 v788 = 1#1), 32 ∣ (k0_mult85 v827).toNat) ∧
  (∀ (k0_h8 : k0_cond8 v787 v788 = 1#1), 128 ∣ (k0_mult86 v827).toNat) ∧
  (∀ (k0_h8 : k0_cond8 v787 v788 = 1#1), ∀ a, (k0_off100 v827) a + S1x256.size a ≤ S1x2500.size a)
theorem k0_mult85_dvd : ∀ (v787 : BitVec 32) (v788 : BitVec 32) (v827 : BitVec 32) (k0_hw79 : k0_chk79 v787 v788 v827), ∀ (k0_h8 : k0_cond8 v787 v788 = 1#1), 32 ∣ (k0_mult85 v827).toNat := fun v787 v788 v827 k0_hw79 k0_h8 => k0_hw79.1 k0_h8
theorem k0_mult86_dvd : ∀ (v787 : BitVec 32) (v788 : BitVec 32) (v827 : BitVec 32) (k0_hw79 : k0_chk79 v787 v788 v827), ∀ (k0_h8 : k0_cond8 v787 v788 = 1#1), 128 ∣ (k0_mult86 v827).toNat := fun v787 v788 v827 k0_hw79 k0_h8 => k0_hw79.2.1 k0_h8
theorem k0_off100_inb : ∀ (v787 : BitVec 32) (v788 : BitVec 32) (v827 : BitVec 32) (k0_hw79 : k0_chk79 v787 v788 v827), ∀ (k0_h8 : k0_cond8 v787 v788 = 1#1), ∀ a, (k0_off100 v827) a + S1x256.size a ≤ S1x2500.size a := fun v787 v788 v827 k0_hw79 k0_h8 => k0_hw79.2.2 k0_h8

@[reducible] def k0_t15_loop (v787 : BitVec 32) (v788 : BitVec 32) : Scf.Loop 32 :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v788 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult87 (v787 : BitVec 32) (v788 : BitVec 32) (k0_t15 : Fin (k0_t15_loop v787 v788).trips) : BitVec 32 :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t15
  let c128_i32_379 : BitVec 32 := 128#32
  let v898 : BitVec 32 := Scalar.muli arg16 c128_i32_379
  v898
def k0_off101 (v787 : BitVec 32) (v788 : BitVec 32) (k0_t15 : Fin (k0_t15_loop v787 v788).trips) : Fin 2 → Nat :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t15
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off102 (v787 : BitVec 32) (v788 : BitVec 32) (k0_t15 : Fin (k0_t15_loop v787 v788).trips) : Fin 2 → Nat :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t15
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t16_loop (v787 : BitVec 32) (v788 : BitVec 32) : Scf.Loop 32 :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v788 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult88 (v787 : BitVec 32) (v788 : BitVec 32) (k0_t16 : Fin (k0_t16_loop v787 v788).trips) : BitVec 32 :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v788 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t16
  let c128_i32_379 : BitVec 32 := 128#32
  let v898 : BitVec 32 := Scalar.muli arg16 c128_i32_379
  v898
def k0_off103 (v787 : BitVec 32) (v788 : BitVec 32) (k0_t16 : Fin (k0_t16_loop v787 v788).trips) : Fin 2 → Nat :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v788 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t16
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off104 (v787 : BitVec 32) (v788 : BitVec 32) (k0_t16 : Fin (k0_t16_loop v787 v788).trips) : Fin 2 → Nat :=
  let c0_i32_360 : BitVec 32 := 0#32
  let v856 : BitVec 1 := Scalar.cmpi .sgt v787 c0_i32_360
  let v857 : BitVec 32 := Scalar.extui v856
  let c0_i32_361 : BitVec 32 := 0#32
  let v858 : BitVec 1 := Scalar.cmpi .slt v787 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v787 c128_i32
  let c0_i32_364 : BitVec 32 := 0#32
  let v868 : BitVec 1 := Scalar.cmpi .ne v867 c0_i32_364
  let v869 : BitVec 1 := Scalar.andi v866 v868
  let v855 : BitVec 32 := Scalar.divsi v787 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v788 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t16
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk80 (v787 : BitVec 32) (v788 : BitVec 32) : Prop :=
  (∀ (k0_h8 : k0_cond8 v787 v788 = 1#1), (k0_t15_loop v787 v788).OK) ∧
  (∀ k0_t15 : Fin (k0_t15_loop v787 v788).trips, ∀ (k0_h8 : k0_cond8 v787 v788 = 1#1), 128 ∣ (k0_mult87 v787 v788 k0_t15).toNat) ∧
  (∀ k0_t15 : Fin (k0_t15_loop v787 v788).trips, ∀ (k0_h8 : k0_cond8 v787 v788 = 1#1), ∀ a, (k0_off101 v787 v788 k0_t15) a + S128x128.size a ≤ S1280x128.size a) ∧
  (∀ k0_t15 : Fin (k0_t15_loop v787 v788).trips, ∀ (k0_h8 : k0_cond8 v787 v788 = 1#1), ∀ a, (k0_off102 v787 v788 k0_t15) a + S128x256.size a ≤ S1280x256.size a) ∧
  (∀ (k0_h8 : k0_cond8 v787 v788 = 1#1), (k0_t16_loop v787 v788).OK) ∧
  (∀ k0_t16 : Fin (k0_t16_loop v787 v788).trips, ∀ (k0_h8 : k0_cond8 v787 v788 = 1#1), 128 ∣ (k0_mult88 v787 v788 k0_t16).toNat) ∧
  (∀ k0_t16 : Fin (k0_t16_loop v787 v788).trips, ∀ (k0_h8 : k0_cond8 v787 v788 = 1#1), ∀ a, (k0_off103 v787 v788 k0_t16) a + S128x128.size a ≤ S1280x128.size a) ∧
  (∀ k0_t16 : Fin (k0_t16_loop v787 v788).trips, ∀ (k0_h8 : k0_cond8 v787 v788 = 1#1), ∀ a, (k0_off104 v787 v788 k0_t16) a + S128x256.size a ≤ S1280x256.size a)
theorem k0_t15_ok : ∀ (v787 : BitVec 32) (v788 : BitVec 32) (k0_hw80 : k0_chk80 v787 v788), ∀ (k0_h8 : k0_cond8 v787 v788 = 1#1), (k0_t15_loop v787 v788).OK := fun v787 v788 k0_hw80 k0_h8 => k0_hw80.1 k0_h8
theorem k0_mult87_dvd : ∀ (v787 : BitVec 32) (v788 : BitVec 32) (k0_hw80 : k0_chk80 v787 v788) (k0_t15 : Fin (k0_t15_loop v787 v788).trips), ∀ (k0_h8 : k0_cond8 v787 v788 = 1#1), 128 ∣ (k0_mult87 v787 v788 k0_t15).toNat := fun v787 v788 k0_hw80 k0_t15 k0_h8 => k0_hw80.2.1 k0_t15 k0_h8
theorem k0_off101_inb : ∀ (v787 : BitVec 32) (v788 : BitVec 32) (k0_hw80 : k0_chk80 v787 v788) (k0_t15 : Fin (k0_t15_loop v787 v788).trips), ∀ (k0_h8 : k0_cond8 v787 v788 = 1#1), ∀ a, (k0_off101 v787 v788 k0_t15) a + S128x128.size a ≤ S1280x128.size a := fun v787 v788 k0_hw80 k0_t15 k0_h8 => k0_hw80.2.2.1 k0_t15 k0_h8
theorem k0_off102_inb : ∀ (v787 : BitVec 32) (v788 : BitVec 32) (k0_hw80 : k0_chk80 v787 v788) (k0_t15 : Fin (k0_t15_loop v787 v788).trips), ∀ (k0_h8 : k0_cond8 v787 v788 = 1#1), ∀ a, (k0_off102 v787 v788 k0_t15) a + S128x256.size a ≤ S1280x256.size a := fun v787 v788 k0_hw80 k0_t15 k0_h8 => k0_hw80.2.2.2.1 k0_t15 k0_h8
theorem k0_t16_ok : ∀ (v787 : BitVec 32) (v788 : BitVec 32) (k0_hw80 : k0_chk80 v787 v788), ∀ (k0_h8 : k0_cond8 v787 v788 = 1#1), (k0_t16_loop v787 v788).OK := fun v787 v788 k0_hw80 k0_h8 => k0_hw80.2.2.2.2.1 k0_h8
theorem k0_mult88_dvd : ∀ (v787 : BitVec 32) (v788 : BitVec 32) (k0_hw80 : k0_chk80 v787 v788) (k0_t16 : Fin (k0_t16_loop v787 v788).trips), ∀ (k0_h8 : k0_cond8 v787 v788 = 1#1), 128 ∣ (k0_mult88 v787 v788 k0_t16).toNat := fun v787 v788 k0_hw80 k0_t16 k0_h8 => k0_hw80.2.2.2.2.2.1 k0_t16 k0_h8
theorem k0_off103_inb : ∀ (v787 : BitVec 32) (v788 : BitVec 32) (k0_hw80 : k0_chk80 v787 v788) (k0_t16 : Fin (k0_t16_loop v787 v788).trips), ∀ (k0_h8 : k0_cond8 v787 v788 = 1#1), ∀ a, (k0_off103 v787 v788 k0_t16) a + S128x128.size a ≤ S1280x128.size a := fun v787 v788 k0_hw80 k0_t16 k0_h8 => k0_hw80.2.2.2.2.2.2.1 k0_t16 k0_h8
theorem k0_off104_inb : ∀ (v787 : BitVec 32) (v788 : BitVec 32) (k0_hw80 : k0_chk80 v787 v788) (k0_t16 : Fin (k0_t16_loop v787 v788).trips), ∀ (k0_h8 : k0_cond8 v787 v788 = 1#1), ∀ a, (k0_off104 v787 v788 k0_t16) a + S128x256.size a ≤ S1280x256.size a := fun v787 v788 k0_hw80 k0_t16 k0_h8 => k0_hw80.2.2.2.2.2.2.2 k0_t16 k0_h8

def k0_off105 (v825 : BitVec 32) : Fin 1 → Nat :=
  let v826 : Index := Scalar.indexCast v825
  ![v826.toNat]
def k0_cond9 (v792 : BitVec 32) (v793 : BitVec 32) : BitVec 1 :=
  let v794 : BitVec 1 := Scalar.cmpi .sgt v793 v792
  let v795 : BitVec 32 := Scalar.extui v794
  let c0_i32_329 : BitVec 32 := 0#32
  let v796 : BitVec 1 := Scalar.cmpi .ne v795 c0_i32_329
  v796

def k0_chk81 (v792 : BitVec 32) (v793 : BitVec 32) (v825 : BitVec 32) : Prop :=
  (∀ (k0_h9 : k0_cond9 v792 v793 = 1#1), ∀ a, (k0_off105 v825) a + S1.size a ≤ S23.size a)
theorem k0_off105_inb : ∀ (v792 : BitVec 32) (v793 : BitVec 32) (v825 : BitVec 32) (k0_hw81 : k0_chk81 v792 v793 v825), ∀ (k0_h9 : k0_cond9 v792 v793 = 1#1), ∀ a, (k0_off105 v825) a + S1.size a ≤ S23.size a := fun v792 v793 v825 k0_hw81 k0_h9 => k0_hw81 k0_h9

def k0_mult89 (v827 : BitVec 32) : BitVec 32 :=
  let c_m32_i32_350 : BitVec 32 := 4294967264#32
  let v828 : BitVec 32 := Scalar.andi v827 c_m32_i32_350
  v828

def k0_mult90 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off106 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk82 (v792 : BitVec 32) (v793 : BitVec 32) (v827 : BitVec 32) : Prop :=
  (∀ (k0_h9 : k0_cond9 v792 v793 = 1#1), 32 ∣ (k0_mult89 v827).toNat) ∧
  (∀ (k0_h9 : k0_cond9 v792 v793 = 1#1), 128 ∣ (k0_mult90 v827).toNat) ∧
  (∀ (k0_h9 : k0_cond9 v792 v793 = 1#1), ∀ a, (k0_off106 v827) a + S1x256.size a ≤ S1x2500.size a)
theorem k0_mult89_dvd : ∀ (v792 : BitVec 32) (v793 : BitVec 32) (v827 : BitVec 32) (k0_hw82 : k0_chk82 v792 v793 v827), ∀ (k0_h9 : k0_cond9 v792 v793 = 1#1), 32 ∣ (k0_mult89 v827).toNat := fun v792 v793 v827 k0_hw82 k0_h9 => k0_hw82.1 k0_h9
theorem k0_mult90_dvd : ∀ (v792 : BitVec 32) (v793 : BitVec 32) (v827 : BitVec 32) (k0_hw82 : k0_chk82 v792 v793 v827), ∀ (k0_h9 : k0_cond9 v792 v793 = 1#1), 128 ∣ (k0_mult90 v827).toNat := fun v792 v793 v827 k0_hw82 k0_h9 => k0_hw82.2.1 k0_h9
theorem k0_off106_inb : ∀ (v792 : BitVec 32) (v793 : BitVec 32) (v827 : BitVec 32) (k0_hw82 : k0_chk82 v792 v793 v827), ∀ (k0_h9 : k0_cond9 v792 v793 = 1#1), ∀ a, (k0_off106 v827) a + S1x256.size a ≤ S1x2500.size a := fun v792 v793 v827 k0_hw82 k0_h9 => k0_hw82.2.2 k0_h9

@[reducible] def k0_t17_loop (v792 : BitVec 32) (v793 : BitVec 32) : Scf.Loop 32 :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v793 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult91 (v792 : BitVec 32) (v793 : BitVec 32) (k0_t17 : Fin (k0_t17_loop v792 v793).trips) : BitVec 32 :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t17
  let c128_i32_379 : BitVec 32 := 128#32
  let v898 : BitVec 32 := Scalar.muli arg16 c128_i32_379
  v898
def k0_off107 (v792 : BitVec 32) (v793 : BitVec 32) (k0_t17 : Fin (k0_t17_loop v792 v793).trips) : Fin 2 → Nat :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t17
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off108 (v792 : BitVec 32) (v793 : BitVec 32) (k0_t17 : Fin (k0_t17_loop v792 v793).trips) : Fin 2 → Nat :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t17
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t18_loop (v792 : BitVec 32) (v793 : BitVec 32) : Scf.Loop 32 :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v793 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult92 (v792 : BitVec 32) (v793 : BitVec 32) (k0_t18 : Fin (k0_t18_loop v792 v793).trips) : BitVec 32 :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v793 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t18
  let c128_i32_379 : BitVec 32 := 128#32
  let v898 : BitVec 32 := Scalar.muli arg16 c128_i32_379
  v898
def k0_off109 (v792 : BitVec 32) (v793 : BitVec 32) (k0_t18 : Fin (k0_t18_loop v792 v793).trips) : Fin 2 → Nat :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v793 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t18
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off110 (v792 : BitVec 32) (v793 : BitVec 32) (k0_t18 : Fin (k0_t18_loop v792 v793).trips) : Fin 2 → Nat :=
  let c0_i32_360 : BitVec 32 := 0#32
  let v856 : BitVec 1 := Scalar.cmpi .sgt v792 c0_i32_360
  let v857 : BitVec 32 := Scalar.extui v856
  let c0_i32_361 : BitVec 32 := 0#32
  let v858 : BitVec 1 := Scalar.cmpi .slt v792 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v792 c128_i32
  let c0_i32_364 : BitVec 32 := 0#32
  let v868 : BitVec 1 := Scalar.cmpi .ne v867 c0_i32_364
  let v869 : BitVec 1 := Scalar.andi v866 v868
  let v855 : BitVec 32 := Scalar.divsi v792 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v793 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t18
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk83 (v792 : BitVec 32) (v793 : BitVec 32) : Prop :=
  (∀ (k0_h9 : k0_cond9 v792 v793 = 1#1), (k0_t17_loop v792 v793).OK) ∧
  (∀ k0_t17 : Fin (k0_t17_loop v792 v793).trips, ∀ (k0_h9 : k0_cond9 v792 v793 = 1#1), 128 ∣ (k0_mult91 v792 v793 k0_t17).toNat) ∧
  (∀ k0_t17 : Fin (k0_t17_loop v792 v793).trips, ∀ (k0_h9 : k0_cond9 v792 v793 = 1#1), ∀ a, (k0_off107 v792 v793 k0_t17) a + S128x128.size a ≤ S1280x128.size a) ∧
  (∀ k0_t17 : Fin (k0_t17_loop v792 v793).trips, ∀ (k0_h9 : k0_cond9 v792 v793 = 1#1), ∀ a, (k0_off108 v792 v793 k0_t17) a + S128x256.size a ≤ S1280x256.size a) ∧
  (∀ (k0_h9 : k0_cond9 v792 v793 = 1#1), (k0_t18_loop v792 v793).OK) ∧
  (∀ k0_t18 : Fin (k0_t18_loop v792 v793).trips, ∀ (k0_h9 : k0_cond9 v792 v793 = 1#1), 128 ∣ (k0_mult92 v792 v793 k0_t18).toNat) ∧
  (∀ k0_t18 : Fin (k0_t18_loop v792 v793).trips, ∀ (k0_h9 : k0_cond9 v792 v793 = 1#1), ∀ a, (k0_off109 v792 v793 k0_t18) a + S128x128.size a ≤ S1280x128.size a) ∧
  (∀ k0_t18 : Fin (k0_t18_loop v792 v793).trips, ∀ (k0_h9 : k0_cond9 v792 v793 = 1#1), ∀ a, (k0_off110 v792 v793 k0_t18) a + S128x256.size a ≤ S1280x256.size a)
theorem k0_t17_ok : ∀ (v792 : BitVec 32) (v793 : BitVec 32) (k0_hw83 : k0_chk83 v792 v793), ∀ (k0_h9 : k0_cond9 v792 v793 = 1#1), (k0_t17_loop v792 v793).OK := fun v792 v793 k0_hw83 k0_h9 => k0_hw83.1 k0_h9
theorem k0_mult91_dvd : ∀ (v792 : BitVec 32) (v793 : BitVec 32) (k0_hw83 : k0_chk83 v792 v793) (k0_t17 : Fin (k0_t17_loop v792 v793).trips), ∀ (k0_h9 : k0_cond9 v792 v793 = 1#1), 128 ∣ (k0_mult91 v792 v793 k0_t17).toNat := fun v792 v793 k0_hw83 k0_t17 k0_h9 => k0_hw83.2.1 k0_t17 k0_h9
theorem k0_off107_inb : ∀ (v792 : BitVec 32) (v793 : BitVec 32) (k0_hw83 : k0_chk83 v792 v793) (k0_t17 : Fin (k0_t17_loop v792 v793).trips), ∀ (k0_h9 : k0_cond9 v792 v793 = 1#1), ∀ a, (k0_off107 v792 v793 k0_t17) a + S128x128.size a ≤ S1280x128.size a := fun v792 v793 k0_hw83 k0_t17 k0_h9 => k0_hw83.2.2.1 k0_t17 k0_h9
theorem k0_off108_inb : ∀ (v792 : BitVec 32) (v793 : BitVec 32) (k0_hw83 : k0_chk83 v792 v793) (k0_t17 : Fin (k0_t17_loop v792 v793).trips), ∀ (k0_h9 : k0_cond9 v792 v793 = 1#1), ∀ a, (k0_off108 v792 v793 k0_t17) a + S128x256.size a ≤ S1280x256.size a := fun v792 v793 k0_hw83 k0_t17 k0_h9 => k0_hw83.2.2.2.1 k0_t17 k0_h9
theorem k0_t18_ok : ∀ (v792 : BitVec 32) (v793 : BitVec 32) (k0_hw83 : k0_chk83 v792 v793), ∀ (k0_h9 : k0_cond9 v792 v793 = 1#1), (k0_t18_loop v792 v793).OK := fun v792 v793 k0_hw83 k0_h9 => k0_hw83.2.2.2.2.1 k0_h9
theorem k0_mult92_dvd : ∀ (v792 : BitVec 32) (v793 : BitVec 32) (k0_hw83 : k0_chk83 v792 v793) (k0_t18 : Fin (k0_t18_loop v792 v793).trips), ∀ (k0_h9 : k0_cond9 v792 v793 = 1#1), 128 ∣ (k0_mult92 v792 v793 k0_t18).toNat := fun v792 v793 k0_hw83 k0_t18 k0_h9 => k0_hw83.2.2.2.2.2.1 k0_t18 k0_h9
theorem k0_off109_inb : ∀ (v792 : BitVec 32) (v793 : BitVec 32) (k0_hw83 : k0_chk83 v792 v793) (k0_t18 : Fin (k0_t18_loop v792 v793).trips), ∀ (k0_h9 : k0_cond9 v792 v793 = 1#1), ∀ a, (k0_off109 v792 v793 k0_t18) a + S128x128.size a ≤ S1280x128.size a := fun v792 v793 k0_hw83 k0_t18 k0_h9 => k0_hw83.2.2.2.2.2.2.1 k0_t18 k0_h9
theorem k0_off110_inb : ∀ (v792 : BitVec 32) (v793 : BitVec 32) (k0_hw83 : k0_chk83 v792 v793) (k0_t18 : Fin (k0_t18_loop v792 v793).trips), ∀ (k0_h9 : k0_cond9 v792 v793 = 1#1), ∀ a, (k0_off110 v792 v793 k0_t18) a + S128x256.size a ≤ S1280x256.size a := fun v792 v793 k0_hw83 k0_t18 k0_h9 => k0_hw83.2.2.2.2.2.2.2 k0_t18 k0_h9

def k0_off111 (v825 : BitVec 32) : Fin 1 → Nat :=
  let v826 : Index := Scalar.indexCast v825
  ![v826.toNat]
def k0_cond10 (v797 : BitVec 32) (v798 : BitVec 32) : BitVec 1 :=
  let v799 : BitVec 1 := Scalar.cmpi .sgt v798 v797
  let v800 : BitVec 32 := Scalar.extui v799
  let c0_i32_332 : BitVec 32 := 0#32
  let v801 : BitVec 1 := Scalar.cmpi .ne v800 c0_i32_332
  v801

def k0_chk84 (v797 : BitVec 32) (v798 : BitVec 32) (v825 : BitVec 32) : Prop :=
  (∀ (k0_h10 : k0_cond10 v797 v798 = 1#1), ∀ a, (k0_off111 v825) a + S1.size a ≤ S23.size a)
theorem k0_off111_inb : ∀ (v797 : BitVec 32) (v798 : BitVec 32) (v825 : BitVec 32) (k0_hw84 : k0_chk84 v797 v798 v825), ∀ (k0_h10 : k0_cond10 v797 v798 = 1#1), ∀ a, (k0_off111 v825) a + S1.size a ≤ S23.size a := fun v797 v798 v825 k0_hw84 k0_h10 => k0_hw84 k0_h10

def k0_mult93 (v827 : BitVec 32) : BitVec 32 :=
  let c_m32_i32_350 : BitVec 32 := 4294967264#32
  let v828 : BitVec 32 := Scalar.andi v827 c_m32_i32_350
  v828

def k0_mult94 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off112 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk85 (v797 : BitVec 32) (v798 : BitVec 32) (v827 : BitVec 32) : Prop :=
  (∀ (k0_h10 : k0_cond10 v797 v798 = 1#1), 32 ∣ (k0_mult93 v827).toNat) ∧
  (∀ (k0_h10 : k0_cond10 v797 v798 = 1#1), 128 ∣ (k0_mult94 v827).toNat) ∧
  (∀ (k0_h10 : k0_cond10 v797 v798 = 1#1), ∀ a, (k0_off112 v827) a + S1x256.size a ≤ S1x2500.size a)
theorem k0_mult93_dvd : ∀ (v797 : BitVec 32) (v798 : BitVec 32) (v827 : BitVec 32) (k0_hw85 : k0_chk85 v797 v798 v827), ∀ (k0_h10 : k0_cond10 v797 v798 = 1#1), 32 ∣ (k0_mult93 v827).toNat := fun v797 v798 v827 k0_hw85 k0_h10 => k0_hw85.1 k0_h10
theorem k0_mult94_dvd : ∀ (v797 : BitVec 32) (v798 : BitVec 32) (v827 : BitVec 32) (k0_hw85 : k0_chk85 v797 v798 v827), ∀ (k0_h10 : k0_cond10 v797 v798 = 1#1), 128 ∣ (k0_mult94 v827).toNat := fun v797 v798 v827 k0_hw85 k0_h10 => k0_hw85.2.1 k0_h10
theorem k0_off112_inb : ∀ (v797 : BitVec 32) (v798 : BitVec 32) (v827 : BitVec 32) (k0_hw85 : k0_chk85 v797 v798 v827), ∀ (k0_h10 : k0_cond10 v797 v798 = 1#1), ∀ a, (k0_off112 v827) a + S1x256.size a ≤ S1x2500.size a := fun v797 v798 v827 k0_hw85 k0_h10 => k0_hw85.2.2 k0_h10

@[reducible] def k0_t19_loop (v797 : BitVec 32) (v798 : BitVec 32) : Scf.Loop 32 :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v798 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult95 (v797 : BitVec 32) (v798 : BitVec 32) (k0_t19 : Fin (k0_t19_loop v797 v798).trips) : BitVec 32 :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t19
  let c128_i32_379 : BitVec 32 := 128#32
  let v898 : BitVec 32 := Scalar.muli arg16 c128_i32_379
  v898
def k0_off113 (v797 : BitVec 32) (v798 : BitVec 32) (k0_t19 : Fin (k0_t19_loop v797 v798).trips) : Fin 2 → Nat :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t19
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off114 (v797 : BitVec 32) (v798 : BitVec 32) (k0_t19 : Fin (k0_t19_loop v797 v798).trips) : Fin 2 → Nat :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t19
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t20_loop (v797 : BitVec 32) (v798 : BitVec 32) : Scf.Loop 32 :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v798 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult96 (v797 : BitVec 32) (v798 : BitVec 32) (k0_t20 : Fin (k0_t20_loop v797 v798).trips) : BitVec 32 :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v798 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t20
  let c128_i32_379 : BitVec 32 := 128#32
  let v898 : BitVec 32 := Scalar.muli arg16 c128_i32_379
  v898
def k0_off115 (v797 : BitVec 32) (v798 : BitVec 32) (k0_t20 : Fin (k0_t20_loop v797 v798).trips) : Fin 2 → Nat :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v798 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t20
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off116 (v797 : BitVec 32) (v798 : BitVec 32) (k0_t20 : Fin (k0_t20_loop v797 v798).trips) : Fin 2 → Nat :=
  let c0_i32_360 : BitVec 32 := 0#32
  let v856 : BitVec 1 := Scalar.cmpi .sgt v797 c0_i32_360
  let v857 : BitVec 32 := Scalar.extui v856
  let c0_i32_361 : BitVec 32 := 0#32
  let v858 : BitVec 1 := Scalar.cmpi .slt v797 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v797 c128_i32
  let c0_i32_364 : BitVec 32 := 0#32
  let v868 : BitVec 1 := Scalar.cmpi .ne v867 c0_i32_364
  let v869 : BitVec 1 := Scalar.andi v866 v868
  let v855 : BitVec 32 := Scalar.divsi v797 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v798 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t20
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk86 (v797 : BitVec 32) (v798 : BitVec 32) : Prop :=
  (∀ (k0_h10 : k0_cond10 v797 v798 = 1#1), (k0_t19_loop v797 v798).OK) ∧
  (∀ k0_t19 : Fin (k0_t19_loop v797 v798).trips, ∀ (k0_h10 : k0_cond10 v797 v798 = 1#1), 128 ∣ (k0_mult95 v797 v798 k0_t19).toNat) ∧
  (∀ k0_t19 : Fin (k0_t19_loop v797 v798).trips, ∀ (k0_h10 : k0_cond10 v797 v798 = 1#1), ∀ a, (k0_off113 v797 v798 k0_t19) a + S128x128.size a ≤ S1280x128.size a) ∧
  (∀ k0_t19 : Fin (k0_t19_loop v797 v798).trips, ∀ (k0_h10 : k0_cond10 v797 v798 = 1#1), ∀ a, (k0_off114 v797 v798 k0_t19) a + S128x256.size a ≤ S1280x256.size a) ∧
  (∀ (k0_h10 : k0_cond10 v797 v798 = 1#1), (k0_t20_loop v797 v798).OK) ∧
  (∀ k0_t20 : Fin (k0_t20_loop v797 v798).trips, ∀ (k0_h10 : k0_cond10 v797 v798 = 1#1), 128 ∣ (k0_mult96 v797 v798 k0_t20).toNat) ∧
  (∀ k0_t20 : Fin (k0_t20_loop v797 v798).trips, ∀ (k0_h10 : k0_cond10 v797 v798 = 1#1), ∀ a, (k0_off115 v797 v798 k0_t20) a + S128x128.size a ≤ S1280x128.size a) ∧
  (∀ k0_t20 : Fin (k0_t20_loop v797 v798).trips, ∀ (k0_h10 : k0_cond10 v797 v798 = 1#1), ∀ a, (k0_off116 v797 v798 k0_t20) a + S128x256.size a ≤ S1280x256.size a)
theorem k0_t19_ok : ∀ (v797 : BitVec 32) (v798 : BitVec 32) (k0_hw86 : k0_chk86 v797 v798), ∀ (k0_h10 : k0_cond10 v797 v798 = 1#1), (k0_t19_loop v797 v798).OK := fun v797 v798 k0_hw86 k0_h10 => k0_hw86.1 k0_h10
theorem k0_mult95_dvd : ∀ (v797 : BitVec 32) (v798 : BitVec 32) (k0_hw86 : k0_chk86 v797 v798) (k0_t19 : Fin (k0_t19_loop v797 v798).trips), ∀ (k0_h10 : k0_cond10 v797 v798 = 1#1), 128 ∣ (k0_mult95 v797 v798 k0_t19).toNat := fun v797 v798 k0_hw86 k0_t19 k0_h10 => k0_hw86.2.1 k0_t19 k0_h10
theorem k0_off113_inb : ∀ (v797 : BitVec 32) (v798 : BitVec 32) (k0_hw86 : k0_chk86 v797 v798) (k0_t19 : Fin (k0_t19_loop v797 v798).trips), ∀ (k0_h10 : k0_cond10 v797 v798 = 1#1), ∀ a, (k0_off113 v797 v798 k0_t19) a + S128x128.size a ≤ S1280x128.size a := fun v797 v798 k0_hw86 k0_t19 k0_h10 => k0_hw86.2.2.1 k0_t19 k0_h10
theorem k0_off114_inb : ∀ (v797 : BitVec 32) (v798 : BitVec 32) (k0_hw86 : k0_chk86 v797 v798) (k0_t19 : Fin (k0_t19_loop v797 v798).trips), ∀ (k0_h10 : k0_cond10 v797 v798 = 1#1), ∀ a, (k0_off114 v797 v798 k0_t19) a + S128x256.size a ≤ S1280x256.size a := fun v797 v798 k0_hw86 k0_t19 k0_h10 => k0_hw86.2.2.2.1 k0_t19 k0_h10
theorem k0_t20_ok : ∀ (v797 : BitVec 32) (v798 : BitVec 32) (k0_hw86 : k0_chk86 v797 v798), ∀ (k0_h10 : k0_cond10 v797 v798 = 1#1), (k0_t20_loop v797 v798).OK := fun v797 v798 k0_hw86 k0_h10 => k0_hw86.2.2.2.2.1 k0_h10
theorem k0_mult96_dvd : ∀ (v797 : BitVec 32) (v798 : BitVec 32) (k0_hw86 : k0_chk86 v797 v798) (k0_t20 : Fin (k0_t20_loop v797 v798).trips), ∀ (k0_h10 : k0_cond10 v797 v798 = 1#1), 128 ∣ (k0_mult96 v797 v798 k0_t20).toNat := fun v797 v798 k0_hw86 k0_t20 k0_h10 => k0_hw86.2.2.2.2.2.1 k0_t20 k0_h10
theorem k0_off115_inb : ∀ (v797 : BitVec 32) (v798 : BitVec 32) (k0_hw86 : k0_chk86 v797 v798) (k0_t20 : Fin (k0_t20_loop v797 v798).trips), ∀ (k0_h10 : k0_cond10 v797 v798 = 1#1), ∀ a, (k0_off115 v797 v798 k0_t20) a + S128x128.size a ≤ S1280x128.size a := fun v797 v798 k0_hw86 k0_t20 k0_h10 => k0_hw86.2.2.2.2.2.2.1 k0_t20 k0_h10
theorem k0_off116_inb : ∀ (v797 : BitVec 32) (v798 : BitVec 32) (k0_hw86 : k0_chk86 v797 v798) (k0_t20 : Fin (k0_t20_loop v797 v798).trips), ∀ (k0_h10 : k0_cond10 v797 v798 = 1#1), ∀ a, (k0_off116 v797 v798 k0_t20) a + S128x256.size a ≤ S1280x256.size a := fun v797 v798 k0_hw86 k0_t20 k0_h10 => k0_hw86.2.2.2.2.2.2.2 k0_t20 k0_h10

def k0_off117 (v825 : BitVec 32) : Fin 1 → Nat :=
  let v826 : Index := Scalar.indexCast v825
  ![v826.toNat]
def k0_cond11 (v802 : BitVec 32) (v803 : BitVec 32) : BitVec 1 :=
  let v804 : BitVec 1 := Scalar.cmpi .sgt v803 v802
  let v805 : BitVec 32 := Scalar.extui v804
  let c0_i32_335 : BitVec 32 := 0#32
  let v806 : BitVec 1 := Scalar.cmpi .ne v805 c0_i32_335
  v806

def k0_chk87 (v802 : BitVec 32) (v803 : BitVec 32) (v825 : BitVec 32) : Prop :=
  (∀ (k0_h11 : k0_cond11 v802 v803 = 1#1), ∀ a, (k0_off117 v825) a + S1.size a ≤ S23.size a)
theorem k0_off117_inb : ∀ (v802 : BitVec 32) (v803 : BitVec 32) (v825 : BitVec 32) (k0_hw87 : k0_chk87 v802 v803 v825), ∀ (k0_h11 : k0_cond11 v802 v803 = 1#1), ∀ a, (k0_off117 v825) a + S1.size a ≤ S23.size a := fun v802 v803 v825 k0_hw87 k0_h11 => k0_hw87 k0_h11

def k0_mult97 (v827 : BitVec 32) : BitVec 32 :=
  let c_m32_i32_350 : BitVec 32 := 4294967264#32
  let v828 : BitVec 32 := Scalar.andi v827 c_m32_i32_350
  v828

def k0_mult98 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off118 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk88 (v802 : BitVec 32) (v803 : BitVec 32) (v827 : BitVec 32) : Prop :=
  (∀ (k0_h11 : k0_cond11 v802 v803 = 1#1), 32 ∣ (k0_mult97 v827).toNat) ∧
  (∀ (k0_h11 : k0_cond11 v802 v803 = 1#1), 128 ∣ (k0_mult98 v827).toNat) ∧
  (∀ (k0_h11 : k0_cond11 v802 v803 = 1#1), ∀ a, (k0_off118 v827) a + S1x256.size a ≤ S1x2500.size a)
theorem k0_mult97_dvd : ∀ (v802 : BitVec 32) (v803 : BitVec 32) (v827 : BitVec 32) (k0_hw88 : k0_chk88 v802 v803 v827), ∀ (k0_h11 : k0_cond11 v802 v803 = 1#1), 32 ∣ (k0_mult97 v827).toNat := fun v802 v803 v827 k0_hw88 k0_h11 => k0_hw88.1 k0_h11
theorem k0_mult98_dvd : ∀ (v802 : BitVec 32) (v803 : BitVec 32) (v827 : BitVec 32) (k0_hw88 : k0_chk88 v802 v803 v827), ∀ (k0_h11 : k0_cond11 v802 v803 = 1#1), 128 ∣ (k0_mult98 v827).toNat := fun v802 v803 v827 k0_hw88 k0_h11 => k0_hw88.2.1 k0_h11
theorem k0_off118_inb : ∀ (v802 : BitVec 32) (v803 : BitVec 32) (v827 : BitVec 32) (k0_hw88 : k0_chk88 v802 v803 v827), ∀ (k0_h11 : k0_cond11 v802 v803 = 1#1), ∀ a, (k0_off118 v827) a + S1x256.size a ≤ S1x2500.size a := fun v802 v803 v827 k0_hw88 k0_h11 => k0_hw88.2.2 k0_h11

@[reducible] def k0_t21_loop (v802 : BitVec 32) (v803 : BitVec 32) : Scf.Loop 32 :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v803 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult99 (v802 : BitVec 32) (v803 : BitVec 32) (k0_t21 : Fin (k0_t21_loop v802 v803).trips) : BitVec 32 :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t21
  let c128_i32_379 : BitVec 32 := 128#32
  let v898 : BitVec 32 := Scalar.muli arg16 c128_i32_379
  v898
def k0_off119 (v802 : BitVec 32) (v803 : BitVec 32) (k0_t21 : Fin (k0_t21_loop v802 v803).trips) : Fin 2 → Nat :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t21
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off120 (v802 : BitVec 32) (v803 : BitVec 32) (k0_t21 : Fin (k0_t21_loop v802 v803).trips) : Fin 2 → Nat :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t21
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t22_loop (v802 : BitVec 32) (v803 : BitVec 32) : Scf.Loop 32 :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v803 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult100 (v802 : BitVec 32) (v803 : BitVec 32) (k0_t22 : Fin (k0_t22_loop v802 v803).trips) : BitVec 32 :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v803 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t22
  let c128_i32_379 : BitVec 32 := 128#32
  let v898 : BitVec 32 := Scalar.muli arg16 c128_i32_379
  v898
def k0_off121 (v802 : BitVec 32) (v803 : BitVec 32) (k0_t22 : Fin (k0_t22_loop v802 v803).trips) : Fin 2 → Nat :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v803 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t22
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off122 (v802 : BitVec 32) (v803 : BitVec 32) (k0_t22 : Fin (k0_t22_loop v802 v803).trips) : Fin 2 → Nat :=
  let c0_i32_360 : BitVec 32 := 0#32
  let v856 : BitVec 1 := Scalar.cmpi .sgt v802 c0_i32_360
  let v857 : BitVec 32 := Scalar.extui v856
  let c0_i32_361 : BitVec 32 := 0#32
  let v858 : BitVec 1 := Scalar.cmpi .slt v802 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v802 c128_i32
  let c0_i32_364 : BitVec 32 := 0#32
  let v868 : BitVec 1 := Scalar.cmpi .ne v867 c0_i32_364
  let v869 : BitVec 1 := Scalar.andi v866 v868
  let v855 : BitVec 32 := Scalar.divsi v802 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v803 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t22
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk89 (v802 : BitVec 32) (v803 : BitVec 32) : Prop :=
  (∀ (k0_h11 : k0_cond11 v802 v803 = 1#1), (k0_t21_loop v802 v803).OK) ∧
  (∀ k0_t21 : Fin (k0_t21_loop v802 v803).trips, ∀ (k0_h11 : k0_cond11 v802 v803 = 1#1), 128 ∣ (k0_mult99 v802 v803 k0_t21).toNat) ∧
  (∀ k0_t21 : Fin (k0_t21_loop v802 v803).trips, ∀ (k0_h11 : k0_cond11 v802 v803 = 1#1), ∀ a, (k0_off119 v802 v803 k0_t21) a + S128x128.size a ≤ S1280x128.size a) ∧
  (∀ k0_t21 : Fin (k0_t21_loop v802 v803).trips, ∀ (k0_h11 : k0_cond11 v802 v803 = 1#1), ∀ a, (k0_off120 v802 v803 k0_t21) a + S128x256.size a ≤ S1280x256.size a) ∧
  (∀ (k0_h11 : k0_cond11 v802 v803 = 1#1), (k0_t22_loop v802 v803).OK) ∧
  (∀ k0_t22 : Fin (k0_t22_loop v802 v803).trips, ∀ (k0_h11 : k0_cond11 v802 v803 = 1#1), 128 ∣ (k0_mult100 v802 v803 k0_t22).toNat) ∧
  (∀ k0_t22 : Fin (k0_t22_loop v802 v803).trips, ∀ (k0_h11 : k0_cond11 v802 v803 = 1#1), ∀ a, (k0_off121 v802 v803 k0_t22) a + S128x128.size a ≤ S1280x128.size a) ∧
  (∀ k0_t22 : Fin (k0_t22_loop v802 v803).trips, ∀ (k0_h11 : k0_cond11 v802 v803 = 1#1), ∀ a, (k0_off122 v802 v803 k0_t22) a + S128x256.size a ≤ S1280x256.size a)
theorem k0_t21_ok : ∀ (v802 : BitVec 32) (v803 : BitVec 32) (k0_hw89 : k0_chk89 v802 v803), ∀ (k0_h11 : k0_cond11 v802 v803 = 1#1), (k0_t21_loop v802 v803).OK := fun v802 v803 k0_hw89 k0_h11 => k0_hw89.1 k0_h11
theorem k0_mult99_dvd : ∀ (v802 : BitVec 32) (v803 : BitVec 32) (k0_hw89 : k0_chk89 v802 v803) (k0_t21 : Fin (k0_t21_loop v802 v803).trips), ∀ (k0_h11 : k0_cond11 v802 v803 = 1#1), 128 ∣ (k0_mult99 v802 v803 k0_t21).toNat := fun v802 v803 k0_hw89 k0_t21 k0_h11 => k0_hw89.2.1 k0_t21 k0_h11
theorem k0_off119_inb : ∀ (v802 : BitVec 32) (v803 : BitVec 32) (k0_hw89 : k0_chk89 v802 v803) (k0_t21 : Fin (k0_t21_loop v802 v803).trips), ∀ (k0_h11 : k0_cond11 v802 v803 = 1#1), ∀ a, (k0_off119 v802 v803 k0_t21) a + S128x128.size a ≤ S1280x128.size a := fun v802 v803 k0_hw89 k0_t21 k0_h11 => k0_hw89.2.2.1 k0_t21 k0_h11
theorem k0_off120_inb : ∀ (v802 : BitVec 32) (v803 : BitVec 32) (k0_hw89 : k0_chk89 v802 v803) (k0_t21 : Fin (k0_t21_loop v802 v803).trips), ∀ (k0_h11 : k0_cond11 v802 v803 = 1#1), ∀ a, (k0_off120 v802 v803 k0_t21) a + S128x256.size a ≤ S1280x256.size a := fun v802 v803 k0_hw89 k0_t21 k0_h11 => k0_hw89.2.2.2.1 k0_t21 k0_h11
theorem k0_t22_ok : ∀ (v802 : BitVec 32) (v803 : BitVec 32) (k0_hw89 : k0_chk89 v802 v803), ∀ (k0_h11 : k0_cond11 v802 v803 = 1#1), (k0_t22_loop v802 v803).OK := fun v802 v803 k0_hw89 k0_h11 => k0_hw89.2.2.2.2.1 k0_h11
theorem k0_mult100_dvd : ∀ (v802 : BitVec 32) (v803 : BitVec 32) (k0_hw89 : k0_chk89 v802 v803) (k0_t22 : Fin (k0_t22_loop v802 v803).trips), ∀ (k0_h11 : k0_cond11 v802 v803 = 1#1), 128 ∣ (k0_mult100 v802 v803 k0_t22).toNat := fun v802 v803 k0_hw89 k0_t22 k0_h11 => k0_hw89.2.2.2.2.2.1 k0_t22 k0_h11
theorem k0_off121_inb : ∀ (v802 : BitVec 32) (v803 : BitVec 32) (k0_hw89 : k0_chk89 v802 v803) (k0_t22 : Fin (k0_t22_loop v802 v803).trips), ∀ (k0_h11 : k0_cond11 v802 v803 = 1#1), ∀ a, (k0_off121 v802 v803 k0_t22) a + S128x128.size a ≤ S1280x128.size a := fun v802 v803 k0_hw89 k0_t22 k0_h11 => k0_hw89.2.2.2.2.2.2.1 k0_t22 k0_h11
theorem k0_off122_inb : ∀ (v802 : BitVec 32) (v803 : BitVec 32) (k0_hw89 : k0_chk89 v802 v803) (k0_t22 : Fin (k0_t22_loop v802 v803).trips), ∀ (k0_h11 : k0_cond11 v802 v803 = 1#1), ∀ a, (k0_off122 v802 v803 k0_t22) a + S128x256.size a ≤ S1280x256.size a := fun v802 v803 k0_hw89 k0_t22 k0_h11 => k0_hw89.2.2.2.2.2.2.2 k0_t22 k0_h11

def k0_off123 (v825 : BitVec 32) : Fin 1 → Nat :=
  let v826 : Index := Scalar.indexCast v825
  ![v826.toNat]
def k0_cond12 (v807 : BitVec 32) (v808 : BitVec 32) : BitVec 1 :=
  let v809 : BitVec 1 := Scalar.cmpi .sgt v808 v807
  let v810 : BitVec 32 := Scalar.extui v809
  let c0_i32_338 : BitVec 32 := 0#32
  let v811 : BitVec 1 := Scalar.cmpi .ne v810 c0_i32_338
  v811

def k0_chk90 (v807 : BitVec 32) (v808 : BitVec 32) (v825 : BitVec 32) : Prop :=
  (∀ (k0_h12 : k0_cond12 v807 v808 = 1#1), ∀ a, (k0_off123 v825) a + S1.size a ≤ S23.size a)
theorem k0_off123_inb : ∀ (v807 : BitVec 32) (v808 : BitVec 32) (v825 : BitVec 32) (k0_hw90 : k0_chk90 v807 v808 v825), ∀ (k0_h12 : k0_cond12 v807 v808 = 1#1), ∀ a, (k0_off123 v825) a + S1.size a ≤ S23.size a := fun v807 v808 v825 k0_hw90 k0_h12 => k0_hw90 k0_h12

def k0_mult101 (v827 : BitVec 32) : BitVec 32 :=
  let c_m32_i32_350 : BitVec 32 := 4294967264#32
  let v828 : BitVec 32 := Scalar.andi v827 c_m32_i32_350
  v828

def k0_mult102 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off124 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk91 (v807 : BitVec 32) (v808 : BitVec 32) (v827 : BitVec 32) : Prop :=
  (∀ (k0_h12 : k0_cond12 v807 v808 = 1#1), 32 ∣ (k0_mult101 v827).toNat) ∧
  (∀ (k0_h12 : k0_cond12 v807 v808 = 1#1), 128 ∣ (k0_mult102 v827).toNat) ∧
  (∀ (k0_h12 : k0_cond12 v807 v808 = 1#1), ∀ a, (k0_off124 v827) a + S1x256.size a ≤ S1x2500.size a)
theorem k0_mult101_dvd : ∀ (v807 : BitVec 32) (v808 : BitVec 32) (v827 : BitVec 32) (k0_hw91 : k0_chk91 v807 v808 v827), ∀ (k0_h12 : k0_cond12 v807 v808 = 1#1), 32 ∣ (k0_mult101 v827).toNat := fun v807 v808 v827 k0_hw91 k0_h12 => k0_hw91.1 k0_h12
theorem k0_mult102_dvd : ∀ (v807 : BitVec 32) (v808 : BitVec 32) (v827 : BitVec 32) (k0_hw91 : k0_chk91 v807 v808 v827), ∀ (k0_h12 : k0_cond12 v807 v808 = 1#1), 128 ∣ (k0_mult102 v827).toNat := fun v807 v808 v827 k0_hw91 k0_h12 => k0_hw91.2.1 k0_h12
theorem k0_off124_inb : ∀ (v807 : BitVec 32) (v808 : BitVec 32) (v827 : BitVec 32) (k0_hw91 : k0_chk91 v807 v808 v827), ∀ (k0_h12 : k0_cond12 v807 v808 = 1#1), ∀ a, (k0_off124 v827) a + S1x256.size a ≤ S1x2500.size a := fun v807 v808 v827 k0_hw91 k0_h12 => k0_hw91.2.2 k0_h12

@[reducible] def k0_t23_loop (v807 : BitVec 32) (v808 : BitVec 32) : Scf.Loop 32 :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v808 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult103 (v807 : BitVec 32) (v808 : BitVec 32) (k0_t23 : Fin (k0_t23_loop v807 v808).trips) : BitVec 32 :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t23
  let c128_i32_379 : BitVec 32 := 128#32
  let v898 : BitVec 32 := Scalar.muli arg16 c128_i32_379
  v898
def k0_off125 (v807 : BitVec 32) (v808 : BitVec 32) (k0_t23 : Fin (k0_t23_loop v807 v808).trips) : Fin 2 → Nat :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t23
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off126 (v807 : BitVec 32) (v808 : BitVec 32) (k0_t23 : Fin (k0_t23_loop v807 v808).trips) : Fin 2 → Nat :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t23
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t24_loop (v807 : BitVec 32) (v808 : BitVec 32) : Scf.Loop 32 :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v808 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult104 (v807 : BitVec 32) (v808 : BitVec 32) (k0_t24 : Fin (k0_t24_loop v807 v808).trips) : BitVec 32 :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v808 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t24
  let c128_i32_379 : BitVec 32 := 128#32
  let v898 : BitVec 32 := Scalar.muli arg16 c128_i32_379
  v898
def k0_off127 (v807 : BitVec 32) (v808 : BitVec 32) (k0_t24 : Fin (k0_t24_loop v807 v808).trips) : Fin 2 → Nat :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v808 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t24
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off128 (v807 : BitVec 32) (v808 : BitVec 32) (k0_t24 : Fin (k0_t24_loop v807 v808).trips) : Fin 2 → Nat :=
  let c0_i32_360 : BitVec 32 := 0#32
  let v856 : BitVec 1 := Scalar.cmpi .sgt v807 c0_i32_360
  let v857 : BitVec 32 := Scalar.extui v856
  let c0_i32_361 : BitVec 32 := 0#32
  let v858 : BitVec 1 := Scalar.cmpi .slt v807 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v807 c128_i32
  let c0_i32_364 : BitVec 32 := 0#32
  let v868 : BitVec 1 := Scalar.cmpi .ne v867 c0_i32_364
  let v869 : BitVec 1 := Scalar.andi v866 v868
  let v855 : BitVec 32 := Scalar.divsi v807 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v808 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t24
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk92 (v807 : BitVec 32) (v808 : BitVec 32) : Prop :=
  (∀ (k0_h12 : k0_cond12 v807 v808 = 1#1), (k0_t23_loop v807 v808).OK) ∧
  (∀ k0_t23 : Fin (k0_t23_loop v807 v808).trips, ∀ (k0_h12 : k0_cond12 v807 v808 = 1#1), 128 ∣ (k0_mult103 v807 v808 k0_t23).toNat) ∧
  (∀ k0_t23 : Fin (k0_t23_loop v807 v808).trips, ∀ (k0_h12 : k0_cond12 v807 v808 = 1#1), ∀ a, (k0_off125 v807 v808 k0_t23) a + S128x128.size a ≤ S1280x128.size a) ∧
  (∀ k0_t23 : Fin (k0_t23_loop v807 v808).trips, ∀ (k0_h12 : k0_cond12 v807 v808 = 1#1), ∀ a, (k0_off126 v807 v808 k0_t23) a + S128x256.size a ≤ S1280x256.size a) ∧
  (∀ (k0_h12 : k0_cond12 v807 v808 = 1#1), (k0_t24_loop v807 v808).OK) ∧
  (∀ k0_t24 : Fin (k0_t24_loop v807 v808).trips, ∀ (k0_h12 : k0_cond12 v807 v808 = 1#1), 128 ∣ (k0_mult104 v807 v808 k0_t24).toNat) ∧
  (∀ k0_t24 : Fin (k0_t24_loop v807 v808).trips, ∀ (k0_h12 : k0_cond12 v807 v808 = 1#1), ∀ a, (k0_off127 v807 v808 k0_t24) a + S128x128.size a ≤ S1280x128.size a) ∧
  (∀ k0_t24 : Fin (k0_t24_loop v807 v808).trips, ∀ (k0_h12 : k0_cond12 v807 v808 = 1#1), ∀ a, (k0_off128 v807 v808 k0_t24) a + S128x256.size a ≤ S1280x256.size a)
theorem k0_t23_ok : ∀ (v807 : BitVec 32) (v808 : BitVec 32) (k0_hw92 : k0_chk92 v807 v808), ∀ (k0_h12 : k0_cond12 v807 v808 = 1#1), (k0_t23_loop v807 v808).OK := fun v807 v808 k0_hw92 k0_h12 => k0_hw92.1 k0_h12
theorem k0_mult103_dvd : ∀ (v807 : BitVec 32) (v808 : BitVec 32) (k0_hw92 : k0_chk92 v807 v808) (k0_t23 : Fin (k0_t23_loop v807 v808).trips), ∀ (k0_h12 : k0_cond12 v807 v808 = 1#1), 128 ∣ (k0_mult103 v807 v808 k0_t23).toNat := fun v807 v808 k0_hw92 k0_t23 k0_h12 => k0_hw92.2.1 k0_t23 k0_h12
theorem k0_off125_inb : ∀ (v807 : BitVec 32) (v808 : BitVec 32) (k0_hw92 : k0_chk92 v807 v808) (k0_t23 : Fin (k0_t23_loop v807 v808).trips), ∀ (k0_h12 : k0_cond12 v807 v808 = 1#1), ∀ a, (k0_off125 v807 v808 k0_t23) a + S128x128.size a ≤ S1280x128.size a := fun v807 v808 k0_hw92 k0_t23 k0_h12 => k0_hw92.2.2.1 k0_t23 k0_h12
theorem k0_off126_inb : ∀ (v807 : BitVec 32) (v808 : BitVec 32) (k0_hw92 : k0_chk92 v807 v808) (k0_t23 : Fin (k0_t23_loop v807 v808).trips), ∀ (k0_h12 : k0_cond12 v807 v808 = 1#1), ∀ a, (k0_off126 v807 v808 k0_t23) a + S128x256.size a ≤ S1280x256.size a := fun v807 v808 k0_hw92 k0_t23 k0_h12 => k0_hw92.2.2.2.1 k0_t23 k0_h12
theorem k0_t24_ok : ∀ (v807 : BitVec 32) (v808 : BitVec 32) (k0_hw92 : k0_chk92 v807 v808), ∀ (k0_h12 : k0_cond12 v807 v808 = 1#1), (k0_t24_loop v807 v808).OK := fun v807 v808 k0_hw92 k0_h12 => k0_hw92.2.2.2.2.1 k0_h12
theorem k0_mult104_dvd : ∀ (v807 : BitVec 32) (v808 : BitVec 32) (k0_hw92 : k0_chk92 v807 v808) (k0_t24 : Fin (k0_t24_loop v807 v808).trips), ∀ (k0_h12 : k0_cond12 v807 v808 = 1#1), 128 ∣ (k0_mult104 v807 v808 k0_t24).toNat := fun v807 v808 k0_hw92 k0_t24 k0_h12 => k0_hw92.2.2.2.2.2.1 k0_t24 k0_h12
theorem k0_off127_inb : ∀ (v807 : BitVec 32) (v808 : BitVec 32) (k0_hw92 : k0_chk92 v807 v808) (k0_t24 : Fin (k0_t24_loop v807 v808).trips), ∀ (k0_h12 : k0_cond12 v807 v808 = 1#1), ∀ a, (k0_off127 v807 v808 k0_t24) a + S128x128.size a ≤ S1280x128.size a := fun v807 v808 k0_hw92 k0_t24 k0_h12 => k0_hw92.2.2.2.2.2.2.1 k0_t24 k0_h12
theorem k0_off128_inb : ∀ (v807 : BitVec 32) (v808 : BitVec 32) (k0_hw92 : k0_chk92 v807 v808) (k0_t24 : Fin (k0_t24_loop v807 v808).trips), ∀ (k0_h12 : k0_cond12 v807 v808 = 1#1), ∀ a, (k0_off128 v807 v808 k0_t24) a + S128x256.size a ≤ S1280x256.size a := fun v807 v808 k0_hw92 k0_t24 k0_h12 => k0_hw92.2.2.2.2.2.2.2 k0_t24 k0_h12

def k0_off129 (v825 : BitVec 32) : Fin 1 → Nat :=
  let v826 : Index := Scalar.indexCast v825
  ![v826.toNat]
def k0_cond13 (v812 : BitVec 32) (v813 : BitVec 32) : BitVec 1 :=
  let v814 : BitVec 1 := Scalar.cmpi .sgt v813 v812
  let v815 : BitVec 32 := Scalar.extui v814
  let c0_i32_341 : BitVec 32 := 0#32
  let v816 : BitVec 1 := Scalar.cmpi .ne v815 c0_i32_341
  v816

def k0_chk93 (v812 : BitVec 32) (v813 : BitVec 32) (v825 : BitVec 32) : Prop :=
  (∀ (k0_h13 : k0_cond13 v812 v813 = 1#1), ∀ a, (k0_off129 v825) a + S1.size a ≤ S23.size a)
theorem k0_off129_inb : ∀ (v812 : BitVec 32) (v813 : BitVec 32) (v825 : BitVec 32) (k0_hw93 : k0_chk93 v812 v813 v825), ∀ (k0_h13 : k0_cond13 v812 v813 = 1#1), ∀ a, (k0_off129 v825) a + S1.size a ≤ S23.size a := fun v812 v813 v825 k0_hw93 k0_h13 => k0_hw93 k0_h13

def k0_mult105 (v827 : BitVec 32) : BitVec 32 :=
  let c_m32_i32_350 : BitVec 32 := 4294967264#32
  let v828 : BitVec 32 := Scalar.andi v827 c_m32_i32_350
  v828

def k0_mult106 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off130 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk94 (v812 : BitVec 32) (v813 : BitVec 32) (v827 : BitVec 32) : Prop :=
  (∀ (k0_h13 : k0_cond13 v812 v813 = 1#1), 32 ∣ (k0_mult105 v827).toNat) ∧
  (∀ (k0_h13 : k0_cond13 v812 v813 = 1#1), 128 ∣ (k0_mult106 v827).toNat) ∧
  (∀ (k0_h13 : k0_cond13 v812 v813 = 1#1), ∀ a, (k0_off130 v827) a + S1x256.size a ≤ S1x2500.size a)
theorem k0_mult105_dvd : ∀ (v812 : BitVec 32) (v813 : BitVec 32) (v827 : BitVec 32) (k0_hw94 : k0_chk94 v812 v813 v827), ∀ (k0_h13 : k0_cond13 v812 v813 = 1#1), 32 ∣ (k0_mult105 v827).toNat := fun v812 v813 v827 k0_hw94 k0_h13 => k0_hw94.1 k0_h13
theorem k0_mult106_dvd : ∀ (v812 : BitVec 32) (v813 : BitVec 32) (v827 : BitVec 32) (k0_hw94 : k0_chk94 v812 v813 v827), ∀ (k0_h13 : k0_cond13 v812 v813 = 1#1), 128 ∣ (k0_mult106 v827).toNat := fun v812 v813 v827 k0_hw94 k0_h13 => k0_hw94.2.1 k0_h13
theorem k0_off130_inb : ∀ (v812 : BitVec 32) (v813 : BitVec 32) (v827 : BitVec 32) (k0_hw94 : k0_chk94 v812 v813 v827), ∀ (k0_h13 : k0_cond13 v812 v813 = 1#1), ∀ a, (k0_off130 v827) a + S1x256.size a ≤ S1x2500.size a := fun v812 v813 v827 k0_hw94 k0_h13 => k0_hw94.2.2 k0_h13

@[reducible] def k0_t25_loop (v812 : BitVec 32) (v813 : BitVec 32) : Scf.Loop 32 :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v813 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult107 (v812 : BitVec 32) (v813 : BitVec 32) (k0_t25 : Fin (k0_t25_loop v812 v813).trips) : BitVec 32 :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t25
  let c128_i32_379 : BitVec 32 := 128#32
  let v898 : BitVec 32 := Scalar.muli arg16 c128_i32_379
  v898
def k0_off131 (v812 : BitVec 32) (v813 : BitVec 32) (k0_t25 : Fin (k0_t25_loop v812 v813).trips) : Fin 2 → Nat :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t25
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off132 (v812 : BitVec 32) (v813 : BitVec 32) (k0_t25 : Fin (k0_t25_loop v812 v813).trips) : Fin 2 → Nat :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t25
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t26_loop (v812 : BitVec 32) (v813 : BitVec 32) : Scf.Loop 32 :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v813 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult108 (v812 : BitVec 32) (v813 : BitVec 32) (k0_t26 : Fin (k0_t26_loop v812 v813).trips) : BitVec 32 :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v813 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t26
  let c128_i32_379 : BitVec 32 := 128#32
  let v898 : BitVec 32 := Scalar.muli arg16 c128_i32_379
  v898
def k0_off133 (v812 : BitVec 32) (v813 : BitVec 32) (k0_t26 : Fin (k0_t26_loop v812 v813).trips) : Fin 2 → Nat :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v813 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t26
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off134 (v812 : BitVec 32) (v813 : BitVec 32) (k0_t26 : Fin (k0_t26_loop v812 v813).trips) : Fin 2 → Nat :=
  let c0_i32_360 : BitVec 32 := 0#32
  let v856 : BitVec 1 := Scalar.cmpi .sgt v812 c0_i32_360
  let v857 : BitVec 32 := Scalar.extui v856
  let c0_i32_361 : BitVec 32 := 0#32
  let v858 : BitVec 1 := Scalar.cmpi .slt v812 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v812 c128_i32
  let c0_i32_364 : BitVec 32 := 0#32
  let v868 : BitVec 1 := Scalar.cmpi .ne v867 c0_i32_364
  let v869 : BitVec 1 := Scalar.andi v866 v868
  let v855 : BitVec 32 := Scalar.divsi v812 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v813 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t26
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk95 (v812 : BitVec 32) (v813 : BitVec 32) : Prop :=
  (∀ (k0_h13 : k0_cond13 v812 v813 = 1#1), (k0_t25_loop v812 v813).OK) ∧
  (∀ k0_t25 : Fin (k0_t25_loop v812 v813).trips, ∀ (k0_h13 : k0_cond13 v812 v813 = 1#1), 128 ∣ (k0_mult107 v812 v813 k0_t25).toNat) ∧
  (∀ k0_t25 : Fin (k0_t25_loop v812 v813).trips, ∀ (k0_h13 : k0_cond13 v812 v813 = 1#1), ∀ a, (k0_off131 v812 v813 k0_t25) a + S128x128.size a ≤ S1280x128.size a) ∧
  (∀ k0_t25 : Fin (k0_t25_loop v812 v813).trips, ∀ (k0_h13 : k0_cond13 v812 v813 = 1#1), ∀ a, (k0_off132 v812 v813 k0_t25) a + S128x256.size a ≤ S1280x256.size a) ∧
  (∀ (k0_h13 : k0_cond13 v812 v813 = 1#1), (k0_t26_loop v812 v813).OK) ∧
  (∀ k0_t26 : Fin (k0_t26_loop v812 v813).trips, ∀ (k0_h13 : k0_cond13 v812 v813 = 1#1), 128 ∣ (k0_mult108 v812 v813 k0_t26).toNat) ∧
  (∀ k0_t26 : Fin (k0_t26_loop v812 v813).trips, ∀ (k0_h13 : k0_cond13 v812 v813 = 1#1), ∀ a, (k0_off133 v812 v813 k0_t26) a + S128x128.size a ≤ S1280x128.size a) ∧
  (∀ k0_t26 : Fin (k0_t26_loop v812 v813).trips, ∀ (k0_h13 : k0_cond13 v812 v813 = 1#1), ∀ a, (k0_off134 v812 v813 k0_t26) a + S128x256.size a ≤ S1280x256.size a)
theorem k0_t25_ok : ∀ (v812 : BitVec 32) (v813 : BitVec 32) (k0_hw95 : k0_chk95 v812 v813), ∀ (k0_h13 : k0_cond13 v812 v813 = 1#1), (k0_t25_loop v812 v813).OK := fun v812 v813 k0_hw95 k0_h13 => k0_hw95.1 k0_h13
theorem k0_mult107_dvd : ∀ (v812 : BitVec 32) (v813 : BitVec 32) (k0_hw95 : k0_chk95 v812 v813) (k0_t25 : Fin (k0_t25_loop v812 v813).trips), ∀ (k0_h13 : k0_cond13 v812 v813 = 1#1), 128 ∣ (k0_mult107 v812 v813 k0_t25).toNat := fun v812 v813 k0_hw95 k0_t25 k0_h13 => k0_hw95.2.1 k0_t25 k0_h13
theorem k0_off131_inb : ∀ (v812 : BitVec 32) (v813 : BitVec 32) (k0_hw95 : k0_chk95 v812 v813) (k0_t25 : Fin (k0_t25_loop v812 v813).trips), ∀ (k0_h13 : k0_cond13 v812 v813 = 1#1), ∀ a, (k0_off131 v812 v813 k0_t25) a + S128x128.size a ≤ S1280x128.size a := fun v812 v813 k0_hw95 k0_t25 k0_h13 => k0_hw95.2.2.1 k0_t25 k0_h13
theorem k0_off132_inb : ∀ (v812 : BitVec 32) (v813 : BitVec 32) (k0_hw95 : k0_chk95 v812 v813) (k0_t25 : Fin (k0_t25_loop v812 v813).trips), ∀ (k0_h13 : k0_cond13 v812 v813 = 1#1), ∀ a, (k0_off132 v812 v813 k0_t25) a + S128x256.size a ≤ S1280x256.size a := fun v812 v813 k0_hw95 k0_t25 k0_h13 => k0_hw95.2.2.2.1 k0_t25 k0_h13
theorem k0_t26_ok : ∀ (v812 : BitVec 32) (v813 : BitVec 32) (k0_hw95 : k0_chk95 v812 v813), ∀ (k0_h13 : k0_cond13 v812 v813 = 1#1), (k0_t26_loop v812 v813).OK := fun v812 v813 k0_hw95 k0_h13 => k0_hw95.2.2.2.2.1 k0_h13
theorem k0_mult108_dvd : ∀ (v812 : BitVec 32) (v813 : BitVec 32) (k0_hw95 : k0_chk95 v812 v813) (k0_t26 : Fin (k0_t26_loop v812 v813).trips), ∀ (k0_h13 : k0_cond13 v812 v813 = 1#1), 128 ∣ (k0_mult108 v812 v813 k0_t26).toNat := fun v812 v813 k0_hw95 k0_t26 k0_h13 => k0_hw95.2.2.2.2.2.1 k0_t26 k0_h13
theorem k0_off133_inb : ∀ (v812 : BitVec 32) (v813 : BitVec 32) (k0_hw95 : k0_chk95 v812 v813) (k0_t26 : Fin (k0_t26_loop v812 v813).trips), ∀ (k0_h13 : k0_cond13 v812 v813 = 1#1), ∀ a, (k0_off133 v812 v813 k0_t26) a + S128x128.size a ≤ S1280x128.size a := fun v812 v813 k0_hw95 k0_t26 k0_h13 => k0_hw95.2.2.2.2.2.2.1 k0_t26 k0_h13
theorem k0_off134_inb : ∀ (v812 : BitVec 32) (v813 : BitVec 32) (k0_hw95 : k0_chk95 v812 v813) (k0_t26 : Fin (k0_t26_loop v812 v813).trips), ∀ (k0_h13 : k0_cond13 v812 v813 = 1#1), ∀ a, (k0_off134 v812 v813 k0_t26) a + S128x256.size a ≤ S1280x256.size a := fun v812 v813 k0_hw95 k0_t26 k0_h13 => k0_hw95.2.2.2.2.2.2.2 k0_t26 k0_h13

def k0_off135 (v825 : BitVec 32) : Fin 1 → Nat :=
  let v826 : Index := Scalar.indexCast v825
  ![v826.toNat]
def k0_cond14 (v817 : BitVec 32) (v818 : BitVec 32) : BitVec 1 :=
  let v819 : BitVec 1 := Scalar.cmpi .sgt v818 v817
  let v820 : BitVec 32 := Scalar.extui v819
  let c0_i32_344 : BitVec 32 := 0#32
  let v821 : BitVec 1 := Scalar.cmpi .ne v820 c0_i32_344
  v821

def k0_chk96 (v817 : BitVec 32) (v818 : BitVec 32) (v825 : BitVec 32) : Prop :=
  (∀ (k0_h14 : k0_cond14 v817 v818 = 1#1), ∀ a, (k0_off135 v825) a + S1.size a ≤ S23.size a)
theorem k0_off135_inb : ∀ (v817 : BitVec 32) (v818 : BitVec 32) (v825 : BitVec 32) (k0_hw96 : k0_chk96 v817 v818 v825), ∀ (k0_h14 : k0_cond14 v817 v818 = 1#1), ∀ a, (k0_off135 v825) a + S1.size a ≤ S23.size a := fun v817 v818 v825 k0_hw96 k0_h14 => k0_hw96 k0_h14

def k0_mult109 (v827 : BitVec 32) : BitVec 32 :=
  let c_m32_i32_350 : BitVec 32 := 4294967264#32
  let v828 : BitVec 32 := Scalar.andi v827 c_m32_i32_350
  v828

def k0_mult110 (v827 : BitVec 32) : BitVec 32 :=
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  v830
def k0_off136 (v827 : BitVec 32) : Fin 2 → Nat :=
  let c0_351 : Index := 0#32
  let c_m32_i32_350 : BitVec 32 := 4294967264#32
  let v828 : BitVec 32 := Scalar.andi v827 c_m32_i32_350
  let v829 : BitVec 32 := v828
  let c_m128_i32 : BitVec 32 := 4294967168#32
  let v830 : BitVec 32 := Scalar.andi v829 c_m128_i32
  let v831 : BitVec 32 := v830
  let v832 : Index := Scalar.indexCast v831
  ![0, v832.toNat]

def k0_chk97 (v817 : BitVec 32) (v818 : BitVec 32) (v827 : BitVec 32) : Prop :=
  (∀ (k0_h14 : k0_cond14 v817 v818 = 1#1), 32 ∣ (k0_mult109 v827).toNat) ∧
  (∀ (k0_h14 : k0_cond14 v817 v818 = 1#1), 128 ∣ (k0_mult110 v827).toNat) ∧
  (∀ (k0_h14 : k0_cond14 v817 v818 = 1#1), ∀ a, (k0_off136 v827) a + S1x256.size a ≤ S1x2500.size a)
theorem k0_mult109_dvd : ∀ (v817 : BitVec 32) (v818 : BitVec 32) (v827 : BitVec 32) (k0_hw97 : k0_chk97 v817 v818 v827), ∀ (k0_h14 : k0_cond14 v817 v818 = 1#1), 32 ∣ (k0_mult109 v827).toNat := fun v817 v818 v827 k0_hw97 k0_h14 => k0_hw97.1 k0_h14
theorem k0_mult110_dvd : ∀ (v817 : BitVec 32) (v818 : BitVec 32) (v827 : BitVec 32) (k0_hw97 : k0_chk97 v817 v818 v827), ∀ (k0_h14 : k0_cond14 v817 v818 = 1#1), 128 ∣ (k0_mult110 v827).toNat := fun v817 v818 v827 k0_hw97 k0_h14 => k0_hw97.2.1 k0_h14
theorem k0_off136_inb : ∀ (v817 : BitVec 32) (v818 : BitVec 32) (v827 : BitVec 32) (k0_hw97 : k0_chk97 v817 v818 v827), ∀ (k0_h14 : k0_cond14 v817 v818 = 1#1), ∀ a, (k0_off136 v827) a + S1x256.size a ≤ S1x2500.size a := fun v817 v818 v827 k0_hw97 k0_h14 => k0_hw97.2.2 k0_h14

@[reducible] def k0_t27_loop (v817 : BitVec 32) (v818 : BitVec 32) : Scf.Loop 32 :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v818 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_377 : BitVec 32 := 1#32
  ⟨v871, v895, c1_i32_377⟩

def k0_mult111 (v817 : BitVec 32) (v818 : BitVec 32) (k0_t27 : Fin (k0_t27_loop v817 v818).trips) : BitVec 32 :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t27
  let c128_i32_379 : BitVec 32 := 128#32
  let v898 : BitVec 32 := Scalar.muli arg16 c128_i32_379
  v898
def k0_off137 (v817 : BitVec 32) (v818 : BitVec 32) (k0_t27 : Fin (k0_t27_loop v817 v818).trips) : Fin 2 → Nat :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t27
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off138 (v817 : BitVec 32) (v818 : BitVec 32) (k0_t27 : Fin (k0_t27_loop v817 v818).trips) : Fin 2 → Nat :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c1_i32_377 : BitVec 32 := 1#32
  let arg16 : BitVec 32 := Scf.iv v871 c1_i32_377 k0_t27
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]
@[reducible] def k0_t28_loop (v817 : BitVec 32) (v818 : BitVec 32) : Scf.Loop 32 :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v818 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let v892 : BitVec 32 := Scalar.addi v871 v891
  let c1_i32_378 : BitVec 32 := 1#32
  ⟨v895, v892, c1_i32_378⟩
def k0_mult112 (v817 : BitVec 32) (v818 : BitVec 32) (k0_t28 : Fin (k0_t28_loop v817 v818).trips) : BitVec 32 :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v818 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t28
  let c128_i32_379 : BitVec 32 := 128#32
  let v898 : BitVec 32 := Scalar.muli arg16 c128_i32_379
  v898
def k0_off139 (v817 : BitVec 32) (v818 : BitVec 32) (k0_t28 : Fin (k0_t28_loop v817 v818).trips) : Fin 2 → Nat :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v818 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t28
  let c128_i32_379 : BitVec 32 := 128#32
  let v898 : BitVec 32 := Scalar.muli arg16 c128_i32_379
  let v899 : BitVec 32 := v898
  let v909 : Index := Scalar.indexCast v899
  let c0_380 : Index := 0#32
  ![v909.toNat, 0]
def k0_off140 (v817 : BitVec 32) (v818 : BitVec 32) (k0_t28 : Fin (k0_t28_loop v817 v818).trips) : Fin 2 → Nat :=
  let c0_i32_360 : BitVec 32 := 0#32
  let v856 : BitVec 1 := Scalar.cmpi .sgt v817 c0_i32_360
  let v857 : BitVec 32 := Scalar.extui v856
  let c0_i32_361 : BitVec 32 := 0#32
  let v858 : BitVec 1 := Scalar.cmpi .slt v817 c0_i32_361
  let v859 : BitVec 32 := Scalar.extui v858
  let v860 : BitVec 32 := Scalar.subi v857 v859
  let c128_i32 : BitVec 32 := 128#32
  let c0_i32_362 : BitVec 32 := 0#32
  let v861 : BitVec 1 := Scalar.cmpi .sgt c128_i32 c0_i32_362
  let v862 : BitVec 32 := Scalar.extui v861
  let c0_i32_363 : BitVec 32 := 0#32
  let v863 : BitVec 1 := Scalar.cmpi .slt c128_i32 c0_i32_363
  let v864 : BitVec 32 := Scalar.extui v863
  let v865 : BitVec 32 := Scalar.subi v862 v864
  let v866 : BitVec 1 := Scalar.cmpi .ne v860 v865
  let v867 : BitVec 32 := Scalar.remsi v817 c128_i32
  let c0_i32_364 : BitVec 32 := 0#32
  let v868 : BitVec 1 := Scalar.cmpi .ne v867 c0_i32_364
  let v869 : BitVec 1 := Scalar.andi v866 v868
  let v855 : BitVec 32 := Scalar.divsi v817 c128_i32
  let c1_i32_365 : BitVec 32 := 1#32
  let v870 : BitVec 32 := Scalar.subi v855 c1_i32_365
  let v871 : BitVec 32 := Scalar.select v869 v870 v855
  let c128_i32_366 : BitVec 32 := 128#32
  let v872 : BitVec 32 := Scalar.addi v818 c128_i32_366
  let c1_i32_367 : BitVec 32 := 1#32
  let v873 : BitVec 32 := Scalar.subi v872 c1_i32_367
  let c0_i32_369 : BitVec 32 := 0#32
  let v875 : BitVec 1 := Scalar.cmpi .sgt v873 c0_i32_369
  let v876 : BitVec 32 := Scalar.extui v875
  let c0_i32_370 : BitVec 32 := 0#32
  let v877 : BitVec 1 := Scalar.cmpi .slt v873 c0_i32_370
  let v878 : BitVec 32 := Scalar.extui v877
  let v879 : BitVec 32 := Scalar.subi v876 v878
  let c128_i32_368 : BitVec 32 := 128#32
  let c0_i32_371 : BitVec 32 := 0#32
  let v880 : BitVec 1 := Scalar.cmpi .sgt c128_i32_368 c0_i32_371
  let v881 : BitVec 32 := Scalar.extui v880
  let c0_i32_372 : BitVec 32 := 0#32
  let v882 : BitVec 1 := Scalar.cmpi .slt c128_i32_368 c0_i32_372
  let v883 : BitVec 32 := Scalar.extui v882
  let v884 : BitVec 32 := Scalar.subi v881 v883
  let v885 : BitVec 1 := Scalar.cmpi .ne v879 v884
  let v886 : BitVec 32 := Scalar.remsi v873 c128_i32_368
  let c0_i32_373 : BitVec 32 := 0#32
  let v887 : BitVec 1 := Scalar.cmpi .ne v886 c0_i32_373
  let v888 : BitVec 1 := Scalar.andi v885 v887
  let v874 : BitVec 32 := Scalar.divsi v873 c128_i32_368
  let c1_i32_374 : BitVec 32 := 1#32
  let v889 : BitVec 32 := Scalar.subi v874 c1_i32_374
  let v890 : BitVec 32 := Scalar.select v888 v889 v874
  let v891 : BitVec 32 := Scalar.subi v890 v871
  let c1_i32_376 : BitVec 32 := 1#32
  let v893 : BitVec 32 := Scalar.divsi v891 c1_i32_376
  let v894 : BitVec 32 := Scalar.muli v893 c1_i32_376
  let v895 : BitVec 32 := Scalar.addi v871 v894
  let c1_i32_378 : BitVec 32 := 1#32
  let arg16 : BitVec 32 := Scf.iv v895 c1_i32_378 k0_t28
  let c128_i32_379 : BitVec 32 := 128#32
  let v898 : BitVec 32 := Scalar.muli arg16 c128_i32_379
  let v899 : BitVec 32 := v898
  let v914 : Index := Scalar.indexCast v899
  let c0_382 : Index := 0#32
  ![v914.toNat, 0]

def k0_chk98 (v817 : BitVec 32) (v818 : BitVec 32) : Prop :=
  (∀ (k0_h14 : k0_cond14 v817 v818 = 1#1), (k0_t27_loop v817 v818).OK) ∧
  (∀ k0_t27 : Fin (k0_t27_loop v817 v818).trips, ∀ (k0_h14 : k0_cond14 v817 v818 = 1#1), 128 ∣ (k0_mult111 v817 v818 k0_t27).toNat) ∧
  (∀ k0_t27 : Fin (k0_t27_loop v817 v818).trips, ∀ (k0_h14 : k0_cond14 v817 v818 = 1#1), ∀ a, (k0_off137 v817 v818 k0_t27) a + S128x128.size a ≤ S1280x128.size a) ∧
  (∀ k0_t27 : Fin (k0_t27_loop v817 v818).trips, ∀ (k0_h14 : k0_cond14 v817 v818 = 1#1), ∀ a, (k0_off138 v817 v818 k0_t27) a + S128x256.size a ≤ S1280x256.size a) ∧
  (∀ (k0_h14 : k0_cond14 v817 v818 = 1#1), (k0_t28_loop v817 v818).OK) ∧
  (∀ k0_t28 : Fin (k0_t28_loop v817 v818).trips, ∀ (k0_h14 : k0_cond14 v817 v818 = 1#1), 128 ∣ (k0_mult112 v817 v818 k0_t28).toNat) ∧
  (∀ k0_t28 : Fin (k0_t28_loop v817 v818).trips, ∀ (k0_h14 : k0_cond14 v817 v818 = 1#1), ∀ a, (k0_off139 v817 v818 k0_t28) a + S128x128.size a ≤ S1280x128.size a) ∧
  (∀ k0_t28 : Fin (k0_t28_loop v817 v818).trips, ∀ (k0_h14 : k0_cond14 v817 v818 = 1#1), ∀ a, (k0_off140 v817 v818 k0_t28) a + S128x256.size a ≤ S1280x256.size a)
theorem k0_t27_ok : ∀ (v817 : BitVec 32) (v818 : BitVec 32) (k0_hw98 : k0_chk98 v817 v818), ∀ (k0_h14 : k0_cond14 v817 v818 = 1#1), (k0_t27_loop v817 v818).OK := fun v817 v818 k0_hw98 k0_h14 => k0_hw98.1 k0_h14
theorem k0_mult111_dvd : ∀ (v817 : BitVec 32) (v818 : BitVec 32) (k0_hw98 : k0_chk98 v817 v818) (k0_t27 : Fin (k0_t27_loop v817 v818).trips), ∀ (k0_h14 : k0_cond14 v817 v818 = 1#1), 128 ∣ (k0_mult111 v817 v818 k0_t27).toNat := fun v817 v818 k0_hw98 k0_t27 k0_h14 => k0_hw98.2.1 k0_t27 k0_h14
theorem k0_off137_inb : ∀ (v817 : BitVec 32) (v818 : BitVec 32) (k0_hw98 : k0_chk98 v817 v818) (k0_t27 : Fin (k0_t27_loop v817 v818).trips), ∀ (k0_h14 : k0_cond14 v817 v818 = 1#1), ∀ a, (k0_off137 v817 v818 k0_t27) a + S128x128.size a ≤ S1280x128.size a := fun v817 v818 k0_hw98 k0_t27 k0_h14 => k0_hw98.2.2.1 k0_t27 k0_h14
theorem k0_off138_inb : ∀ (v817 : BitVec 32) (v818 : BitVec 32) (k0_hw98 : k0_chk98 v817 v818) (k0_t27 : Fin (k0_t27_loop v817 v818).trips), ∀ (k0_h14 : k0_cond14 v817 v818 = 1#1), ∀ a, (k0_off138 v817 v818 k0_t27) a + S128x256.size a ≤ S1280x256.size a := fun v817 v818 k0_hw98 k0_t27 k0_h14 => k0_hw98.2.2.2.1 k0_t27 k0_h14
theorem k0_t28_ok : ∀ (v817 : BitVec 32) (v818 : BitVec 32) (k0_hw98 : k0_chk98 v817 v818), ∀ (k0_h14 : k0_cond14 v817 v818 = 1#1), (k0_t28_loop v817 v818).OK := fun v817 v818 k0_hw98 k0_h14 => k0_hw98.2.2.2.2.1 k0_h14
theorem k0_mult112_dvd : ∀ (v817 : BitVec 32) (v818 : BitVec 32) (k0_hw98 : k0_chk98 v817 v818) (k0_t28 : Fin (k0_t28_loop v817 v818).trips), ∀ (k0_h14 : k0_cond14 v817 v818 = 1#1), 128 ∣ (k0_mult112 v817 v818 k0_t28).toNat := fun v817 v818 k0_hw98 k0_t28 k0_h14 => k0_hw98.2.2.2.2.2.1 k0_t28 k0_h14
theorem k0_off139_inb : ∀ (v817 : BitVec 32) (v818 : BitVec 32) (k0_hw98 : k0_chk98 v817 v818) (k0_t28 : Fin (k0_t28_loop v817 v818).trips), ∀ (k0_h14 : k0_cond14 v817 v818 = 1#1), ∀ a, (k0_off139 v817 v818 k0_t28) a + S128x128.size a ≤ S1280x128.size a := fun v817 v818 k0_hw98 k0_t28 k0_h14 => k0_hw98.2.2.2.2.2.2.1 k0_t28 k0_h14
theorem k0_off140_inb : ∀ (v817 : BitVec 32) (v818 : BitVec 32) (k0_hw98 : k0_chk98 v817 v818) (k0_t28 : Fin (k0_t28_loop v817 v818).trips), ∀ (k0_h14 : k0_cond14 v817 v818 = 1#1), ∀ a, (k0_off140 v817 v818 k0_t28) a + S128x256.size a ≤ S1280x256.size a := fun v817 v818 k0_hw98 k0_t28 k0_h14 => k0_hw98.2.2.2.2.2.2.2 k0_t28 k0_h14

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S23 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S23 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S15 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S14 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S896x256 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S56x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1280x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1280x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S1280x7168 : Shape := ⟨2, ![1280, 7168]⟩
abbrev S896x2048 : Shape := ⟨2, ![896, 2048]⟩
abbrev S56x2048 : Shape := ⟨2, ![56, 2048]⟩
abbrev S1280x128 : Shape := ⟨2, ![1280, 128]⟩
abbrev S2500x2048 : Shape := ⟨2, ![2500, 2048]⟩
abbrev S2500 : Shape := ⟨1, ![2500]⟩
abbrev S23 : Shape := ⟨1, ![23]⟩
abbrev S15 : Shape := ⟨1, ![15]⟩
abbrev S14 : Shape := ⟨1, ![14]⟩
abbrev S56x1x2048 : Shape := ⟨3, ![56, 1, 2048]⟩
abbrev S56x16x2048 : Shape := ⟨3, ![56, 16, 2048]⟩
abbrev S_ : Shape := ⟨0, ![]⟩
abbrev S1280x896 : Shape := ⟨2, ![1280, 896]⟩
abbrev S1280x2048 : Shape := ⟨2, ![1280, 2048]⟩
abbrev S14x1 : Shape := ⟨2, ![14, 1]⟩
abbrev S128 : Shape := ⟨1, ![128]⟩
abbrev S1x128 : Shape := ⟨2, ![1, 128]⟩
abbrev S14x128 : Shape := ⟨2, ![14, 128]⟩
abbrev S14x128x1 : Shape := ⟨3, ![14, 128, 1]⟩
abbrev S14x128x2048 : Shape := ⟨3, ![14, 128, 2048]⟩
abbrev S1280 : Shape := ⟨1, ![1280]⟩
abbrev S1280x1 : Shape := ⟨2, ![1280, 1]⟩
abbrev S1x14 : Shape := ⟨2, ![1, 14]⟩
abbrev S1280x14 : Shape := ⟨2, ![1280, 14]⟩
abbrev S1280x128x2048 : Shape := ⟨3, ![1280, 128, 2048]⟩

abbrev nBuf : Space → Nat
  | .hbm => 164
  | .vmem => 0
  | .smem => 0
  | _ => 0

abbrev hbmTy0_0 (i : Nat) : BufTy := match i % 128 with
  | 0 => ⟨S1280x7168, .bf16⟩
  | 1 => ⟨S896x2048, .i32⟩
  | 2 => ⟨S56x2048, .bf16⟩
  | 3 => ⟨S1280x128, .bf16⟩
  | 4 => ⟨S2500x2048, .i8⟩
  | 5 => ⟨S2500, .f32⟩
  | 6 => ⟨S23, .i32⟩
  | 7 => ⟨S23, .i32⟩
  | 8 => ⟨S15, .i32⟩
  | 9 => ⟨S14, .i32⟩
  | 10 => ⟨S56x1x2048, .bf16⟩
  | 11 => ⟨S56x16x2048, .bf16⟩
  | 12 => ⟨S896x2048, .bf16⟩
  | 13 => ⟨S_, .i32⟩
  | 14 => ⟨S896x2048, .i32⟩
  | 15 => ⟨S896x2048, .i32⟩
  | 16 => ⟨S_, .i32⟩
  | 17 => ⟨S896x2048, .i32⟩
  | 18 => ⟨S896x2048, .i32⟩
  | 19 => ⟨S1280x896, .bf16⟩
  | 20 => ⟨S896x2048, .bf16⟩
  | 21 => ⟨S896x2048, .bf16⟩
  | 22 => ⟨S1280x2048, .f32⟩
  | 23 => ⟨S_, .i32⟩
  | 24 => ⟨S896x2048, .i32⟩
  | 25 => ⟨S896x2048, .i32⟩
  | 26 => ⟨S_, .i32⟩
  | 27 => ⟨S896x2048, .i32⟩
  | 28 => ⟨S896x2048, .i32⟩
  | 29 => ⟨S1280x896, .bf16⟩
  | 30 => ⟨S896x2048, .bf16⟩
  | 31 => ⟨S896x2048, .bf16⟩
  | 32 => ⟨S1280x2048, .f32⟩
  | 33 => ⟨S1280x2048, .f32⟩
  | 34 => ⟨S_, .i32⟩
  | 35 => ⟨S896x2048, .i32⟩
  | 36 => ⟨S896x2048, .i32⟩
  | 37 => ⟨S_, .i32⟩
  | 38 => ⟨S896x2048, .i32⟩
  | 39 => ⟨S896x2048, .i32⟩
  | 40 => ⟨S1280x896, .bf16⟩
  | 41 => ⟨S896x2048, .bf16⟩
  | 42 => ⟨S896x2048, .bf16⟩
  | 43 => ⟨S1280x2048, .f32⟩
  | 44 => ⟨S1280x2048, .f32⟩
  | 45 => ⟨S_, .i32⟩
  | 46 => ⟨S896x2048, .i32⟩
  | 47 => ⟨S896x2048, .i32⟩
  | 48 => ⟨S_, .i32⟩
  | 49 => ⟨S896x2048, .i32⟩
  | 50 => ⟨S896x2048, .i32⟩
  | 51 => ⟨S1280x896, .bf16⟩
  | 52 => ⟨S896x2048, .bf16⟩
  | 53 => ⟨S896x2048, .bf16⟩
  | 54 => ⟨S1280x2048, .f32⟩
  | 55 => ⟨S1280x2048, .f32⟩
  | 56 => ⟨S_, .i32⟩
  | 57 => ⟨S896x2048, .i32⟩
  | 58 => ⟨S896x2048, .i32⟩
  | 59 => ⟨S_, .i32⟩
  | 60 => ⟨S896x2048, .i32⟩
  | 61 => ⟨S896x2048, .i32⟩
  | 62 => ⟨S1280x896, .bf16⟩
  | 63 => ⟨S896x2048, .bf16⟩
  | 64 => ⟨S896x2048, .bf16⟩
  | 65 => ⟨S1280x2048, .f32⟩
  | 66 => ⟨S1280x2048, .f32⟩
  | 67 => ⟨S_, .i32⟩
  | 68 => ⟨S896x2048, .i32⟩
  | 69 => ⟨S896x2048, .i32⟩
  | 70 => ⟨S_, .i32⟩
  | 71 => ⟨S896x2048, .i32⟩
  | 72 => ⟨S896x2048, .i32⟩
  | 73 => ⟨S1280x896, .bf16⟩
  | 74 => ⟨S896x2048, .bf16⟩
  | 75 => ⟨S896x2048, .bf16⟩
  | 76 => ⟨S1280x2048, .f32⟩
  | 77 => ⟨S1280x2048, .f32⟩
  | 78 => ⟨S_, .i32⟩
  | 79 => ⟨S896x2048, .i32⟩
  | 80 => ⟨S896x2048, .i32⟩
  | 81 => ⟨S_, .i32⟩
  | 82 => ⟨S896x2048, .i32⟩
  | 83 => ⟨S896x2048, .i32⟩
  | 84 => ⟨S1280x896, .bf16⟩
  | 85 => ⟨S896x2048, .bf16⟩
  | 86 => ⟨S896x2048, .bf16⟩
  | 87 => ⟨S1280x2048, .f32⟩
  | 88 => ⟨S1280x2048, .f32⟩
  | 89 => ⟨S_, .i32⟩
  | 90 => ⟨S896x2048, .i32⟩
  | 91 => ⟨S896x2048, .i32⟩
  | 92 => ⟨S_, .i32⟩
  | 93 => ⟨S896x2048, .i32⟩
  | 94 => ⟨S896x2048, .i32⟩
  | 95 => ⟨S1280x896, .bf16⟩
  | 96 => ⟨S896x2048, .bf16⟩
  | 97 => ⟨S896x2048, .bf16⟩
  | 98 => ⟨S1280x2048, .f32⟩
  | 99 => ⟨S1280x2048, .f32⟩
  | 100 => ⟨S_, .i32⟩
  | 101 => ⟨S14, .i32⟩
  | 102 => ⟨S14, .i1⟩
  | 103 => ⟨S_, .i32⟩
  | 104 => ⟨S14, .i32⟩
  | 105 => ⟨S14, .i32⟩
  | 106 => ⟨S14, .i32⟩
  | 107 => ⟨S14x1, .i32⟩
  | 108 => ⟨S14, .i32⟩
  | 109 => ⟨S_, .i32⟩
  | 110 => ⟨S14, .i32⟩
  | 111 => ⟨S14, .i32⟩
  | 112 => ⟨S14x1, .i32⟩
  | 113 => ⟨S128, .i32⟩
  | 114 => ⟨S1x128, .i32⟩
  | 115 => ⟨S14x128, .i32⟩
  | 116 => ⟨S14x128, .i32⟩
  | 117 => ⟨S14x128, .i32⟩
  | 118 => ⟨S_, .i32⟩
  | 119 => ⟨S14x128, .i32⟩
  | 120 => ⟨S14x128, .i1⟩
  | 121 => ⟨S_, .i32⟩
  | 122 => ⟨S14x128, .i32⟩
  | 123 => ⟨S14x128, .i32⟩
  | 124 => ⟨S14x128, .i32⟩
  | 125 => ⟨S14x128x1, .i32⟩
  | 126 => ⟨S14x128x2048, .i8⟩
  | 127 => ⟨S14x128x2048, .i32⟩
  | _ => ⟨S1280x7168, .bf16⟩

abbrev hbmTy0_1 (i : Nat) : BufTy := match i % 128 with
  | 0 => ⟨S14x128x2048, .bf16⟩
  | 1 => ⟨S_, .i32⟩
  | 2 => ⟨S14x128, .i32⟩
  | 3 => ⟨S14x128, .i1⟩
  | 4 => ⟨S_, .i32⟩
  | 5 => ⟨S14x128, .i32⟩
  | 6 => ⟨S14x128, .i32⟩
  | 7 => ⟨S14x128, .i32⟩
  | 8 => ⟨S14x128x1, .i32⟩
  | 9 => ⟨S14x128, .f32⟩
  | 10 => ⟨S14x128x1, .f32⟩
  | 11 => ⟨S14x128x1, .bf16⟩
  | 12 => ⟨S14x128x2048, .bf16⟩
  | 13 => ⟨S14x128x2048, .bf16⟩
  | 14 => ⟨S1280, .i32⟩
  | 15 => ⟨S1280x1, .i32⟩
  | 16 => ⟨S14, .i32⟩
  | 17 => ⟨S1x14, .i32⟩
  | 18 => ⟨S1280x14, .i32⟩
  | 19 => ⟨S1280x14, .i32⟩
  | 20 => ⟨S1280x14, .i1⟩
  | 21 => ⟨S1280x14, .i32⟩
  | 22 => ⟨S_, .i32⟩
  | 23 => ⟨S1280, .i32⟩
  | 24 => ⟨S_, .i32⟩
  | 25 => ⟨S1280, .i32⟩
  | 26 => ⟨S1280, .i1⟩
  | 27 => ⟨S_, .i32⟩
  | 28 => ⟨S1280, .i32⟩
  | 29 => ⟨S1280, .i32⟩
  | 30 => ⟨S1280, .i32⟩
  | 31 => ⟨S1280x1, .i32⟩
  | 32 => ⟨S1280x128x2048, .bf16⟩
  | 33 => ⟨S1280x2048, .f32⟩
  | 34 => ⟨S1280x2048, .f32⟩
  | 35 => ⟨S1280x2048, .bf16⟩
  | _ => ⟨S1280x7168, .bf16⟩

abbrev hbmTy (i : Nat) : BufTy := match i / 128 with
  | 0 => hbmTy0_0 i
  | 1 => hbmTy0_1 i
  | _ => ⟨S1280x7168, .bf16⟩

abbrev bufTy : (tb : Table) → Fin (tcTables nBuf tb) → BufTy
  | .hbm, ⟨i, _⟩ => hbmTy i
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_c_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_11 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_15 : Ref sig .tc := ⟨.hbm, 100, rfl⟩
abbrev main_v74 : Ref sig .tc := ⟨.hbm, 101, rfl⟩
abbrev main_v75 : Ref sig .tc := ⟨.hbm, 102, rfl⟩
abbrev main_c_16 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_c_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_c_18 : Ref sig .tc := ⟨.hbm, 118, rfl⟩
abbrev main_v89 : Ref sig .tc := ⟨.hbm, 119, rfl⟩
abbrev main_v90 : Ref sig .tc := ⟨.hbm, 120, rfl⟩
abbrev main_c_19 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_20 : Ref sig .tc := ⟨.hbm, 129, rfl⟩
abbrev main_v98 : Ref sig .tc := ⟨.hbm, 130, rfl⟩
abbrev main_v99 : Ref sig .tc := ⟨.hbm, 131, rfl⟩
abbrev main_c_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_c_22 : Ref sig .tc := ⟨.hbm, 150, rfl⟩
abbrev main_v117 : Ref sig .tc := ⟨.hbm, 151, rfl⟩
abbrev main_c_23 : Ref sig .tc := ⟨.hbm, 152, rfl⟩
abbrev main_v118 : Ref sig .tc := ⟨.hbm, 153, rfl⟩
abbrev main_v119 : Ref sig .tc := ⟨.hbm, 154, rfl⟩
abbrev main_c_24 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩

abbrev nD : Nat := 1
abbrev τ : Topo := Topo.v7x

variable {F : FTy → Type} [FloatOps F]
-- ==== Shrink.lean ====
abbrev S1280x7168 : Shape := ⟨2, ![1280, 7168]⟩
abbrev S2500x7168 : Shape := ⟨2, ![2500, 7168]⟩
abbrev S2500 : Shape := ⟨1, ![2500]⟩
abbrev S23 : Shape := ⟨1, ![23]⟩
abbrev S15 : Shape := ⟨1, ![15]⟩
abbrev S14 : Shape := ⟨1, ![14]⟩
abbrev S1x2500 : Shape := ⟨2, ![1, 2500]⟩
abbrev S1280x128 : Shape := ⟨2, ![1280, 128]⟩
abbrev S1280x96 : Shape := ⟨2, ![1280, 96]⟩
abbrev S128x7168 : Shape := ⟨2, ![128, 7168]⟩
abbrev S128x128 : Shape := ⟨2, ![128, 128]⟩
abbrev S128x96 : Shape := ⟨2, ![128, 96]⟩
abbrev S14x128x7168 : Shape := ⟨3, ![14, 128, 7168]⟩
abbrev S1 : Shape := ⟨1, ![1]⟩
abbrev S_ : Shape := ⟨0, ![]⟩
abbrev S1x128x7168 : Shape := ⟨3, ![1, 128, 7168]⟩
abbrev S1x256 : Shape := ⟨2, ![1, 256]⟩
abbrev S8x256 : Shape := ⟨2, ![8, 256]⟩
abbrev S1x128 : Shape := ⟨2, ![1, 128]⟩

abbrev nBuf : Space → Nat
  | .hbm => 11
  | .vmem => 8
  | .smem => 5
  | _ => 0

abbrev bufTy : (tb : Table) → Fin (tcTables nBuf tb) → BufTy
  | .hbm, ⟨0, _⟩ => ⟨S1280x7168, .bf16⟩
  | .hbm, ⟨1, _⟩ => ⟨S2500x7168, .i8⟩
  | .hbm, ⟨2, _⟩ => ⟨S2500, .f32⟩
  | .hbm, ⟨3, _⟩ => ⟨S23, .i32⟩
  | .hbm, ⟨4, _⟩ => ⟨S23, .i32⟩
  | .hbm, ⟨5, _⟩ => ⟨S23, .f32⟩
  | .hbm, ⟨6, _⟩ => ⟨S15, .i32⟩
  | .hbm, ⟨7, _⟩ => ⟨S14, .i32⟩
  | .hbm, ⟨8, _⟩ => ⟨S1x2500, .f32⟩
  | .hbm, ⟨9, _⟩ => ⟨S1280x128, .bf16⟩
  | .hbm, ⟨10, _⟩ => ⟨S1280x96, .bf16⟩
  | .local _ .vmem, ⟨0, _⟩ => ⟨S128x7168, .bf16⟩
  | .local _ .vmem, ⟨1, _⟩ => ⟨S128x7168, .bf16⟩
  | .local _ .vmem, ⟨2, _⟩ => ⟨S1x2500, .f32⟩
  | .local _ .vmem, ⟨3, _⟩ => ⟨S128x128, .bf16⟩
  | .local _ .vmem, ⟨4, _⟩ => ⟨S128x128, .bf16⟩
  | .local _ .vmem, ⟨5, _⟩ => ⟨S128x96, .bf16⟩
  | .local _ .vmem, ⟨6, _⟩ => ⟨S128x96, .bf16⟩
  | .local _ .vmem, ⟨7, _⟩ => ⟨S14x128x7168, .i8⟩
  | .local _ .smem, ⟨0, _⟩ => ⟨S23, .i32⟩
  | .local _ .smem, ⟨1, _⟩ => ⟨S23, .i32⟩
  | .local _ .smem, ⟨2, _⟩ => ⟨S23, .f32⟩
  | .local _ .smem, ⟨3, _⟩ => ⟨S15, .i32⟩
  | .local _ .smem, ⟨4, _⟩ => ⟨S14, .i32⟩
  | _, _ => ⟨S1280x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg7_0 : Ref sig .tc := ⟨.vmem, 3, rfl⟩
abbrev cc0_stg7_1 : Ref sig .tc := ⟨.vmem, 4, rfl⟩
abbrev cc0_stg8_0 : Ref sig .tc := ⟨.vmem, 5, rfl⟩
abbrev cc0_stg8_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v180 : BitVec 32) : Fin 1 → Nat :=
  let v181 : Index := Scalar.indexCast v180
  ![v181.toNat]

def k0_chk1 (i : grid0.Coords) (v180 : BitVec 32) : Prop :=
  (∀ (k0_h1 : k0_cond1 i = 1#1), ∀ a, (k0_off1 v180) a + S1.size a ≤ S23.size a)
theorem k0_off1_inb : ∀ (i : grid0.Coords) (v180 : BitVec 32) (k0_hw1 : k0_chk1 i v180), ∀ (k0_h1 : k0_cond1 i = 1#1), ∀ a, (k0_off1 v180) a + S1.size a ≤ S23.size a := fun i v180 k0_hw1 k0_h1 => k0_hw1 k0_h1

def k0_mult1 (v182 : BitVec 32) : BitVec 32 :=
  let c_m32_i32 : BitVec 32 := 4294967264#32
  let v183 : BitVec 32 := Scalar.andi v182 c_m32_i32
  v183

def k0_off2 (v182 : BitVec 32) : Fin 2 → Nat :=
  let c_m32_i32 : BitVec 32 := 4294967264#32
  let v183 : BitVec 32 := Scalar.andi v182 c_m32_i32
  let v184 : BitVec 32 := v183
  let c0_i32_79 : BitVec 32 := 0#32
  ![v184.toNat, 0]

def k0_chk2 (i : grid0.Coords) (v182 : BitVec 32) : Prop :=
  (∀ (k0_h1 : k0_cond1 i = 1#1), 32 ∣ (k0_mult1 v182).toNat) ∧
  (∀ (k0_h1 : k0_cond1 i = 1#1), ∀ a, (k0_off2 v182) a + S128x7168.size a ≤ S2500x7168.size a) ∧
  (∀ (k0_h1 : k0_cond1 i = 1#1), ∀ (hinb : ∀ a, (k0_off2 v182) a + S128x7168.size a ≤ S2500x7168.size a), (Rect.unit (s := S2500x7168) (k0_off2 v182) S128x7168.size hinb).WholeWords (EltTy.packing .i8))
theorem k0_mult1_dvd : ∀ (i : grid0.Coords) (v182 : BitVec 32) (k0_hw2 : k0_chk2 i v182), ∀ (k0_h1 : k0_cond1 i = 1#1), 32 ∣ (k0_mult1 v182).toNat := fun i v182 k0_hw2 k0_h1 => k0_hw2.1 k0_h1
theorem k0_off2_inb : ∀ (i : grid0.Coords) (v182 : BitVec 32) (k0_hw2 : k0_chk2 i v182), ∀ (k0_h1 : k0_cond1 i = 1#1), ∀ a, (k0_off2 v182) a + S128x7168.size a ≤ S2500x7168.size a := fun i v182 k0_hw2 k0_h1 => k0_hw2.2.1 k0_h1
theorem k0_off2_wordsi8 : ∀ (i : grid0.Coords) (v182 : BitVec 32) (k0_hw2 : k0_chk2 i v182), ∀ (k0_h1 : k0_cond1 i = 1#1), (Rect.unit (s := S2500x7168) (k0_off2 v182) S128x7168.size (k0_off2_inb i v182 k0_hw2 k0_h1)).WholeWords (EltTy.packing .i8) := fun i v182 k0_hw2 k0_h1 => k0_hw2.2.2 k0_h1 (k0_off2_inb i v182 k0_hw2 k0_h1)

def k0_off3 (v190 : BitVec 32) : Fin 1 → Nat :=
  let v191 : Index := Scalar.indexCast v190
  ![v191.toNat]

def k0_chk3 (i : grid0.Coords) (v190 : BitVec 32) : Prop :=
  (∀ (k0_h1 : k0_cond1 i = 1#1), ∀ a, (k0_off3 v190) a + S1.size a ≤ S23.size a)
theorem k0_off3_inb : ∀ (i : grid0.Coords) (v190 : BitVec 32) (k0_hw3 : k0_chk3 i v190), ∀ (k0_h1 : k0_cond1 i = 1#1), ∀ a, (k0_off3 v190) a + S1.size a ≤ S23.size a := fun i v190 k0_hw3 k0_h1 => k0_hw3 k0_h1

def k0_mult2 (v192 : BitVec 32) : BitVec 32 :=
  let c_m32_i32_81 : BitVec 32 := 4294967264#32
  let v193 : BitVec 32 := Scalar.andi v192 c_m32_i32_81
  v193

def k0_off4 (v192 : BitVec 32) : Fin 2 → Nat :=
  let c_m32_i32_81 : BitVec 32 := 4294967264#32
  let v193 : BitVec 32 := Scalar.andi v192 c_m32_i32_81
  let v194 : BitVec 32 := v193
  let c0_i32_86 : BitVec 32 := 0#32
  ![v194.toNat, 0]

def k0_chk4 (i : grid0.Coords) (v192 : BitVec 32) : Prop :=
  (∀ (k0_h1 : k0_cond1 i = 1#1), 32 ∣ (k0_mult2 v192).toNat) ∧
  (∀ (k0_h1 : k0_cond1 i = 1#1), ∀ a, (k0_off4 v192) a + S128x7168.size a ≤ S2500x7168.size a) ∧
  (∀ (k0_h1 : k0_cond1 i = 1#1), ∀ (hinb : ∀ a, (k0_off4 v192) a + S128x7168.size a ≤ S2500x7168.size a), (Rect.unit (s := S2500x7168) (k0_off4 v192) S128x7168.size hinb).WholeWords (EltTy.packing .i8))
theorem k0_mult2_dvd : ∀ (i : grid0.Coords) (v192 : BitVec 32) (k0_hw4 : k0_chk4 i v192), ∀ (k0_h1 : k0_cond1 i = 1#1), 32 ∣ (k0_mult2 v192).toNat := fun i v192 k0_hw4 k0_h1 => k0_hw4.1 k0_h1
theorem k0_off4_inb : ∀ (i : grid0.Coords) (v192 : BitVec 32) (k0_hw4 : k0_chk4 i v192), ∀ (k0_h1 : k0_cond1 i = 1#1), ∀ a, (k0_off4 v192) a + S128x7168.size a ≤ S2500x7168.size a := fun i v192 k0_hw4 k0_h1 => k0_hw4.2.1 k0_h1
theorem k0_off4_wordsi8 : ∀ (i : grid0.Coords) (v192 : BitVec 32) (k0_hw4 : k0_chk4 i v192), ∀ (k0_h1 : k0_cond1 i = 1#1), (Rect.unit (s := S2500x7168) (k0_off4 v192) S128x7168.size (k0_off4_inb i v192 k0_hw4 k0_h1)).WholeWords (EltTy.packing .i8) := fun i v192 k0_hw4 k0_h1 => k0_hw4.2.2 k0_h1 (k0_off4_inb i v192 k0_hw4 k0_h1)

def k0_off5 (v200 : BitVec 32) : Fin 1 → Nat :=
  let v201 : Index := Scalar.indexCast v200
  ![v201.toNat]

def k0_chk5 (i : grid0.Coords) (v200 : BitVec 32) : Prop :=
  (∀ (k0_h1 : k0_cond1 i = 1#1), ∀ a, (k0_off5 v200) a + S1.size a ≤ S23.size a)
theorem k0_off5_inb : ∀ (i : grid0.Coords) (v200 : BitVec 32) (k0_hw5 : k0_chk5 i v200), ∀ (k0_h1 : k0_cond1 i = 1#1), ∀ a, (k0_off5 v200) a + S1.size a ≤ S23.size a := fun i v200 k0_hw5 k0_h1 => k0_hw5 k0_h1

def k0_mult3 (v202 : BitVec 32) : BitVec 32 :=
  let c_m32_i32_88 : BitVec 32 := 4294967264#32
  let v203 : BitVec 32 := Scalar.andi v202 c_m32_i32_88
  v203

def k0_off6 (v202 : BitVec 32) : Fin 2 → Nat :=
  let c_m32_i32_88 : BitVec 32 := 4294967264#32
  let v203 : BitVec 32 := Scalar.andi v202 c_m32_i32_88
  let v204 : BitVec 32 := v203
  let c0_i32_92 : BitVec 32 := 0#32
  ![v204.toNat, 0]

def k0_chk6 (i : grid0.Coords) (v202 : BitVec 32) : Prop :=
  (∀ (k0_h1 : k0_cond1 i = 1#1), 32 ∣ (k0_mult3 v202).toNat) ∧
  (∀ (k0_h1 : k0_cond1 i = 1#1), ∀ a, (k0_off6 v202) a + S128x7168.size a ≤ S2500x7168.size a) ∧
  (∀ (k0_h1 : k0_cond1 i = 1#1), ∀ (hinb : ∀ a, (k0_off6 v202) a + S128x7168.size a ≤ S2500x7168.size a), (Rect.unit (s := S2500x7168) (k0_off6 v202) S128x7168.size hinb).WholeWords (EltTy.packing .i8))
theorem k0_mult3_dvd : ∀ (i : grid0.Coords) (v202 : BitVec 32) (k0_hw6 : k0_chk6 i v202), ∀ (k0_h1 : k0_cond1 i = 1#1), 32 ∣ (k0_mult3 v202).toNat := fun i v202 k0_hw6 k0_h1 => k0_hw6.1 k0_h1
theorem k0_off6_inb : ∀ (i : grid0.Coords) (v202 : BitVec 32) (k0_hw6 : k0_chk6 i v202), ∀ (k0_h1 : k0_cond1 i = 1#1), ∀ a, (k0_off6 v202) a + S128x7168.size a ≤ S2500x7168.size a := fun i v202 k0_hw6 k0_h1 => k0_hw6.2.1 k0_h1
theorem k0_off6_wordsi8 : ∀ (i : grid0.Coords) (v202 : BitVec 32) (k0_hw6 : k0_chk6 i v202), ∀ (k0_h1 : k0_cond1 i = 1#1), (Rect.unit (s := S2500x7168) (k0_off6 v202) S128x7168.size (k0_off6_inb i v202 k0_hw6 k0_h1)).WholeWords (EltTy.packing .i8) := fun i v202 k0_hw6 k0_h1 => k0_hw6.2.2 k0_h1 (k0_off6_inb i v202 k0_hw6 k0_h1)

def k0_off7 (v210 : BitVec 32) : Fin 1 → Nat :=
  let v211 : Index := Scalar.indexCast v210
  ![v211.toNat]

def k0_chk7 (i : grid0.Coords) (v210 : BitVec 32) : Prop :=
  (∀ (k0_h1 : k0_cond1 i = 1#1), ∀ a, (k0_off7 v210) a + S1.size a ≤ S23.size a)
theorem k0_off7_inb : ∀ (i : grid0.Coords) (v210 : BitVec 32) (k0_hw7 : k0_chk7 i v210), ∀ (k0_h1 : k0_cond1 i = 1#1), ∀ a, (k0_off7 v210) a + S1.size a ≤ S23.size a := fun i v210 k0_hw7 k0_h1 => k0_hw7 k0_h1

def k0_mult4 (v212 : BitVec 32) : BitVec 32 :=
  let c_m32_i32_94 : BitVec 32 := 4294967264#32
  let v213 : BitVec 32 := Scalar.andi v212 c_m32_i32_94
  v213

def k0_off8 (v212 : BitVec 32) : Fin 2 → Nat :=
  let c_m32_i32_94 : BitVec 32 := 4294967264#32
  let v213 : BitVec 32 := Scalar.andi v212 c_m32_i32_94
  let v214 : BitVec 32 := v213
  let c0_i32_98 : BitVec 32 := 0#32
  ![v214.toNat, 0]

def k0_chk8 (i : grid0.Coords) (v212 : BitVec 32) : Prop :=
  (∀ (k0_h1 : k0_cond1 i = 1#1), 32 ∣ (k0_mult4 v212).toNat) ∧
  (∀ (k0_h1 : k0_cond1 i = 1#1), ∀ a, (k0_off8 v212) a + S128x7168.size a ≤ S2500x7168.size a) ∧
  (∀ (k0_h1 : k0_cond1 i = 1#1), ∀ (hinb : ∀ a, (k0_off8 v212) a + S128x7168.size a ≤ S2500x7168.size a), (Rect.unit (s := S2500x7168) (k0_off8 v212) S128x7168.size hinb).WholeWords (EltTy.packing .i8))
theorem k0_mult4_dvd : ∀ (i : grid0.Coords) (v212 : BitVec 32) (k0_hw8 : k0_chk8 i v212), ∀ (k0_h1 : k0_cond1 i = 1#1), 32 ∣ (k0_mult4 v212).toNat := fun i v212 k0_hw8 k0_h1 => k0_hw8.1 k0_h1
theorem k0_off8_inb : ∀ (i : grid0.Coords) (v212 : BitVec 32) (k0_hw8 : k0_chk8 i v212), ∀ (k0_h1 : k0_cond1 i = 1#1), ∀ a, (k0_off8 v212) a + S128x7168.size a ≤ S2500x7168.size a := fun i v212 k0_hw8 k0_h1 => k0_hw8.2.1 k0_h1
theorem k0_off8_wordsi8 : ∀ (i : grid0.Coords) (v212 : BitVec 32) (k0_hw8 : k0_chk8 i v212), ∀ (k0_h1 : k0_cond1 i = 1#1), (Rect.unit (s := S2500x7168) (k0_off8 v212) S128x7168.size (k0_off8_inb i v212 k0_hw8 k0_h1)).WholeWords (EltTy.packing .i8) := fun i v212 k0_hw8 k0_h1 => k0_hw8.2.2 k0_h1 (k0_off8_inb i v212 k0_hw8 k0_h1)

def k0_off9 (v220 : BitVec 32) : Fin 1 → Nat :=
  let v221 : Index := Scalar.indexCast v220
  ![v221.toNat]

def k0_chk9 (i : grid0.Coords) (v220 : BitVec 32) : Prop :=
  (∀ (k0_h1 : k0_cond1 i = 1#1), ∀ a, (k0_off9 v220) a + S1.size a ≤ S23.size a)
theorem k0_off9_inb : ∀ (i : grid0.Coords) (v220 : BitVec 32) (k0_hw9 : k0_chk9 i v220), ∀ (k0_h1 : k0_cond1 i = 1#1), ∀ a, (k0_off9 v220) a + S1.size a ≤ S23.size a := fun i v220 k0_hw9 k0_h1 => k0_hw9 k0_h1

def k0_mult5 (v222 : BitVec 32) : BitVec 32 :=
  let c_m32_i32_100 : BitVec 32 := 4294967264#32
  let v223 : BitVec 32 := Scalar.andi v222 c_m32_i32_100
  v223

def k0_off10 (v222 : BitVec 32) : Fin 2 → Nat :=
  let c_m32_i32_100 : BitVec 32 := 4294967264#32
  let v223 : BitVec 32 := Scalar.andi v222 c_m32_i32_100
  let v224 : BitVec 32 := v223
  let c0_i32_104 : BitVec 32 := 0#32
  ![v224.toNat, 0]

def k0_chk10 (i : grid0.Coords) (v222 : BitVec 32) : Prop :=
  (∀ (k0_h1 : k0_cond1 i = 1#1), 32 ∣ (k0_mult5 v222).toNat) ∧
  (∀ (k0_h1 : k0_cond1 i = 1#1), ∀ a, (k0_off10 v222) a + S128x7168.size a ≤ S2500x7168.size a) ∧
  (∀ (k0_h1 : k0_cond1 i = 1#1), ∀ (hinb : ∀ a, (k0_off10 v222) a + S128x7168.size a ≤ S2500x7168.size a), (Rect.unit (s := S2500x7168) (k0_off10 v222) S128x7168.size hinb).WholeWords (EltTy.packing .i8))
theorem k0_mult5_dvd : ∀ (i : grid0.Coords) (v222 : BitVec 32) (k0_hw10 : k0_chk10 i v222), ∀ (k0_h1 : k0_cond1 i = 1#1), 32 ∣ (k0_mult5 v222).toNat := fun i v222 k0_hw10 k0_h1 => k0_hw10.1 k0_h1
theorem k0_off10_inb : ∀ (i : grid0.Coords) (v222 : BitVec 32) (k0_hw10 : k0_chk10 i v222), ∀ (k0_h1 : k0_cond1 i = 1#1), ∀ a, (k0_off10 v222) a + S128x7168.size a ≤ S2500x7168.size a := fun i v222 k0_hw10 k0_h1 => k0_hw10.2.1 k0_h1
theorem k0_off10_wordsi8 : ∀ (i : grid0.Coords) (v222 : BitVec 32) (k0_hw10 : k0_chk10 i v222), ∀ (k0_h1 : k0_cond1 i = 1#1), (Rect.unit (s := S2500x7168) (k0_off10 v222) S128x7168.size (k0_off10_inb i v222 k0_hw10 k0_h1)).WholeWords (EltTy.packing .i8) := fun i v222 k0_hw10 k0_h1 => k0_hw10.2.2 k0_h1 (k0_off10_inb i v222 k0_hw10 k0_h1)

def k0_off11 (v230 : BitVec 32) : Fin 1 → Nat :=
  let v231 : Index := Scalar.indexCast v230
  ![v231.toNat]

def k0_chk11 (i : grid0.Coords) (v230 : BitVec 32) : Prop :=
  (∀ (k0_h1 : k0_cond1 i = 1#1), ∀ a, (k0_off11 v230) a + S1.size a ≤ S23.size a)
theorem k0_off11_inb : ∀ (i : grid0.Coords) (v230 : BitVec 32) (k0_hw11 : k0_chk11 i v230), ∀ (k0_h1 : k0_cond1 i = 1#1), ∀ a, (k0_off11 v230) a + S1.size a ≤ S23.size a := fun i v230 k0_hw11 k0_h1 => k0_hw11 k0_h1

def k0_mult6 (v232 : BitVec 32) : BitVec 32 :=
  let c_m32_i32_106 : BitVec 32 := 4294967264#32
  let v233 : BitVec 32 := Scalar.andi v232 c_m32_i32_106
  v233

def k0_off12 (v232 : BitVec 32) : Fin 2 → Nat :=
  let c_m32_i32_106 : BitVec 32 := 4294967264#32
  let v233 : BitVec 32 := Scalar.andi v232 c_m32_i32_106
  let v234 : BitVec 32 := v233
  let c0_i32_110 : BitVec 32 := 0#32
  ![v234.toNat, 0]

def k0_chk12 (i : grid0.Coords) (v232 : BitVec 32) : Prop :=
  (∀ (k0_h1 : k0_cond1 i = 1#1), 32 ∣ (k0_mult6 v232).toNat) ∧
  (∀ (k0_h1 : k0_cond1 i = 1#1), ∀ a, (k0_off12 v232) a + S128x7168.size a ≤ S2500x7168.size a) ∧
  (∀ (k0_h1 : k0_cond1 i = 1#1), ∀ (hinb : ∀ a, (k0_off12 v232) a + S128x7168.size a ≤ S2500x7168.size a), (Rect.unit (s := S2500x7168) (k0_off12 v232) S128x7168.size hinb).WholeWords (EltTy.packing .i8))
theorem k0_mult6_dvd : ∀ (i : grid0.Coords) (v232 : BitVec 32) (k0_hw12 : k0_chk12 i v232), ∀ (k0_h1 : k0_cond1 i = 1#1), 32 ∣ (k0_mult6 v232).toNat := fun i v232 k0_hw12 k0_h1 => k0_hw12.1 k0_h1
theorem k0_off12_inb : ∀ (i : grid0.Coords) (v232 : BitVec 32) (k0_hw12 : k0_chk12 i v232), ∀ (k0_h1 : k0_cond1 i = 1#1), ∀ a, (k0_off12 v232) a + S128x7168.size a ≤ S2500x7168.size a := fun i v232 k0_hw12 k0_h1 => k0_hw12.2.1 k0_h1
theorem k0_off12_wordsi8 : ∀ (i : grid0.Coords) (v232 : BitVec 32) (k0_hw12 : k0_chk12 i v232), ∀ (k0_h1 : k0_cond1 i = 1#1), (Rect.unit (s := S2500x7168) (k0_off12 v232) S128x7168.size (k0_off12_inb i v232 k0_hw12 k0_h1)).WholeWords (EltTy.packing .i8) := fun i v232 k0_hw12 k0_h1 => k0_hw12.2.2 k0_h1 (k0_off12_inb i v232 k0_hw12 k0_h1)

def k0_off13 (v240 : BitVec 32) : Fin 1 → Nat :=
  let v241 : Index := Scalar.indexCast v240
  ![v241.toNat]

def k0_chk13 (i : grid0.Coords) (v240 : BitVec 32) : Prop :=
  (∀ (k0_h1 : k0_cond1 i = 1#1), ∀ a, (k0_off13 v240) a + S1.size a ≤ S23.size a)
theorem k0_off13_inb : ∀ (i : grid0.Coords) (v240 : BitVec 32) (k0_hw13 : k0_chk13 i v240), ∀ (k0_h1 : k0_cond1 i = 1#1), ∀ a, (k0_off13 v240) a + S1.size a ≤ S23.size a := fun i v240 k0_hw13 k0_h1 => k0_hw13 k0_h1

def k0_mult7 (v242 : BitVec 32) : BitVec 32 :=
  let c_m32_i32_112 : BitVec 32 := 4294967264#32
  let v243 : BitVec 32 := Scalar.andi v242 c_m32_i32_112
  v243

def k0_off14 (v242 : BitVec 32) : Fin 2 → Nat :=
  let c_m32_i32_112 : BitVec 32 := 4294967264#32
  let v243 : BitVec 32 := Scalar.andi v242 c_m32_i32_112
  let v244 : BitVec 32 := v243
  let c0_i32_116 : BitVec 32 := 0#32
  ![v244.toNat, 0]

def k0_chk14 (i : grid0.Coords) (v242 : BitVec 32) : Prop :=
  (∀ (k0_h1 : k0_cond1 i = 1#1), 32 ∣ (k0_mult7 v242).toNat) ∧
  (∀ (k0_h1 : k0_cond1 i = 1#1), ∀ a, (k0_off14 v242) a + S128x7168.size a ≤ S2500x7168.size a) ∧
  (∀ (k0_h1 : k0_cond1 i = 1#1), ∀ (hinb : ∀ a, (k0_off14 v242) a + S128x7168.size a ≤ S2500x7168.size a), (Rect.unit (s := S2500x7168) (k0_off14 v242) S128x7168.size hinb).WholeWords (EltTy.packing .i8))
theorem k0_mult7_dvd : ∀ (i : grid0.Coords) (v242 : BitVec 32) (k0_hw14 : k0_chk14 i v242), ∀ (k0_h1 : k0_cond1 i = 1#1), 32 ∣ (k0_mult7 v242).toNat := fun i v242 k0_hw14 k0_h1 => k0_hw14.1 k0_h1
theorem k0_off14_inb : ∀ (i : grid0.Coords) (v242 : BitVec 32) (k0_hw14 : k0_chk14 i v242), ∀ (k0_h1 : k0_cond1 i = 1#1), ∀ a, (k0_off14 v242) a + S128x7168.size a ≤ S2500x7168.size a := fun i v242 k0_hw14 k0_h1 => k0_hw14.2.1 k0_h1
theorem k0_off14_wordsi8 : ∀ (i : grid0.Coords) (v242 : BitVec 32) (k0_hw14 : k0_chk14 i v242), ∀ (k0_h1 : k0_cond1 i = 1#1), (Rect.unit (s := S2500x7168) (k0_off14 v242) S128x7168.size (k0_off14_inb i v242 k0_hw14 k0_h1)).WholeWords (EltTy.packing .i8) := fun i v242 k0_hw14 k0_h1 => k0_hw14.2.2 k0_h1 (k0_off14_inb i v242 k0_hw14 k0_h1)

def k0_off15 (v250 : BitVec 32) : Fin 1 → Nat :=
  let v251 : Index := Scalar.indexCast v250
  ![v251.toNat]

def k0_chk15 (i : grid0.Coords) (v250 : BitVec 32) : Prop :=
  (∀ (k0_h1 : k0_cond1 i = 1#1), ∀ a, (k0_off15 v250) a + S1.size a ≤ S23.size a)
theorem k0_off15_inb : ∀ (i : grid0.Coords) (v250 : BitVec 32) (k0_hw15 : k0_chk15 i v250), ∀ (k0_h1 : k0_cond1 i = 1#1), ∀ a, (k0_off15 v250) a + S1.size a ≤ S23.size a := fun i v250 k0_hw15 k0_h1 => k0_hw15 k0_h1

def k0_mult8 (v252 : BitVec 32) : BitVec 32 :=
  let c_m32_i32_118 : BitVec 32 := 4294967264#32
  let v253 : BitVec 32 := Scalar.andi v252 c_m32_i32_118
  v253

def k0_off16 (v252 : BitVec 32) : Fin 2 → Nat :=
  let c_m32_i32_118 : BitVec 32 := 4294967264#32
  let v253 : BitVec 32 := Scalar.andi v252 c_m32_i32_118
  let v254 : BitVec 32 := v253
  let c0_i32_122 : BitVec 32 := 0#32
  ![v254.toNat, 0]

def k0_chk16 (i : grid0.Coords) (v252 : BitVec 32) : Prop :=
  (∀ (k0_h1 : k0_cond1 i = 1#1), 32 ∣ (k0_mult8 v252).toNat) ∧
  (∀ (k0_h1 : k0_cond1 i = 1#1), ∀ a, (k0_off16 v252) a + S128x7168.size a ≤ S2500x7168.size a) ∧
  (∀ (k0_h1 : k0_cond1 i = 1#1), ∀ (hinb : ∀ a, (k0_off16 v252) a + S128x7168.size a ≤ S2500x7168.size a), (Rect.unit (s := S2500x7168) (k0_off16 v252) S128x7168.size hinb).WholeWords (EltTy.packing .i8))
theorem k0_mult8_dvd : ∀ (i : grid0.Coords) (v252 : BitVec 32) (k0_hw16 : k0_chk16 i v252), ∀ (k0_h1 : k0_cond1 i = 1#1), 32 ∣ (k0_mult8 v252).toNat := fun i v252 k0_hw16 k0_h1 => k0_hw16.1 k0_h1
theorem k0_off16_inb : ∀ (i : grid0.Coords) (v252 : BitVec 32) (k0_hw16 : k0_chk16 i v252), ∀ (k0_h1 : k0_cond1 i = 1#1), ∀ a, (k0_off16 v252) a + S128x7168.size a ≤ S2500x7168.size a := fun i v252 k0_hw16 k0_h1 => k0_hw16.2.1 k0_h1
theorem k0_off16_wordsi8 : ∀ (i : grid0.Coords) (v252 : BitVec 32) (k0_hw16 : k0_chk16 i v252), ∀ (k0_h1 : k0_cond1 i = 1#1), (Rect.unit (s := S2500x7168) (k0_off16 v252) S128x7168.size (k0_off16_inb i v252 k0_hw16 k0_h1)).WholeWords (EltTy.packing .i8) := fun i v252 k0_hw16 k0_h1 => k0_hw16.2.2 k0_h1 (k0_off16_inb i v252 k0_hw16 k0_h1)

def k0_off17 (v260 : BitVec 32) : Fin 1 → Nat :=
  let v261 : Index := Scalar.indexCast v260
  ![v261.toNat]

def k0_chk17 (i : grid0.Coords) (v260 : BitVec 32) : Prop :=
  (∀ (k0_h1 : k0_cond1 i = 1#1), ∀ a, (k0_off17 v260) a + S1.size a ≤ S23.size a)
theorem k0_off17_inb : ∀ (i : grid0.Coords) (v260 : BitVec 32) (k0_hw17 : k0_chk17 i v260), ∀ (k0_h1 : k0_cond1 i = 1#1), ∀ a, (k0_off17 v260) a + S1.size a ≤ S23.size a := fun i v260 k0_hw17 k0_h1 => k0_hw17 k0_h1

def k0_mult9 (v262 : BitVec 32) : BitVec 32 :=
  let c_m32_i32_124 : BitVec 32 := 4294967264#32
  let v263 : BitVec 32 := Scalar.andi v262 c_m32_i32_124
  v263

def k0_off18 (v262 : BitVec 32) : Fin 2 → Nat :=
  let c_m32_i32_124 : BitVec 32 := 4294967264#32
  let v263 : BitVec 32 := Scalar.andi v262 c_m32_i32_124
  let v264 : BitVec 32 := v263
  let c0_i32_128 : BitVec 32 := 0#32
  ![v264.toNat, 0]

def k0_chk18 (i : grid0.Coords) (v262 : BitVec 32) : Prop :=
  (∀ (k0_h1 : k0_cond1 i = 1#1), 32 ∣ (k0_mult9 v262).toNat) ∧
  (∀ (k0_h1 : k0_cond1 i = 1#1), ∀ a, (k0_off18 v262) a + S128x7168.size a ≤ S2500x7168.size a) ∧
  (∀ (k0_h1 : k0_cond1 i = 1#1), ∀ (hinb : ∀ a, (k0_off18 v262) a + S128x7168.size a ≤ S2500x7168.size a), (Rect.unit (s := S2500x7168) (k0_off18 v262) S128x7168.size hinb).WholeWords (EltTy.packing .i8))
theorem k0_mult9_dvd : ∀ (i : grid0.Coords) (v262 : BitVec 32) (k0_hw18 : k0_chk18 i v262), ∀ (k0_h1 : k0_cond1 i = 1#1), 32 ∣ (k0_mult9 v262).toNat := fun i v262 k0_hw18 k0_h1 => k0_hw18.1 k0_h1
theorem k0_off18_inb : ∀ (i : grid0.Coords) (v262 : BitVec 32) (k0_hw18 : k0_chk18 i v262), ∀ (k0_h1 : k0_cond1 i = 1#1), ∀ a, (k0_off18 v262) a + S128x7168.size a ≤ S2500x7168.size a := fun i v262 k0_hw18 k0_h1 => k0_hw18.2.1 k0_h1
theorem k0_off18_wordsi8 : ∀ (i : grid0.Coords) (v262 : BitVec 32) (k0_hw18 : k0_chk18 i v262), ∀ (k0_h1 : k0_cond1 i = 1#1), (Rect.unit (s := S2500x7168) (k0_off18 v262) S128x7168.size (k0_off18_inb i v262 k0_hw18 k0_h1)).WholeWords (EltTy.packing .i8) := fun i v262 k0_hw18 k0_h1 => k0_hw18.2.2 k0_h1 (k0_off18_inb i v262 k0_hw18 k0_h1)

def k0_off19 (v270 : BitVec 32) : Fin 1 → Nat :=
  let v271 : Index := Scalar.indexCast v270
  ![v271.toNat]

def k0_chk19 (i : grid0.Coords) (v270 : BitVec 32) : Prop :=
  (∀ (k0_h1 : k0_cond1 i = 1#1), ∀ a, (k0_off19 v270) a + S1.size a ≤ S23.size a)
theorem k0_off19_inb : ∀ (i : grid0.Coords) (v270 : BitVec 32) (k0_hw19 : k0_chk19 i v270), ∀ (k0_h1 : k0_cond1 i = 1#1), ∀ a, (k0_off19 v270) a + S1.size a ≤ S23.size a := fun i v270 k0_hw19 k0_h1 => k0_hw19 k0_h1

def k0_mult10 (v272 : BitVec 32) : BitVec 32 :=
  let c_m32_i32_130 : BitVec 32 := 4294967264#32
  let v273 : BitVec 32 := Scalar.andi v272 c_m32_i32_130
  v273

def k0_off20 (v272 : BitVec 32) : Fin 2 → Nat :=
  let c_m32_i32_130 : BitVec 32 := 4294967264#32
  let v273 : BitVec 32 := Scalar.andi v272 c_m32_i32_130
  let v274 : BitVec 32 := v273
  let c0_i32_134 : BitVec 32 := 0#32
  ![v274.toNat, 0]

def k0_chk20 (i : grid0.Coords) (v272 : BitVec 32) : Prop :=
  (∀ (k0_h1 : k0_cond1 i = 1#1), 32 ∣ (k0_mult10 v272).toNat) ∧
  (∀ (k0_h1 : k0_cond1 i = 1#1), ∀ a, (k0_off20 v272) a + S128x7168.size a ≤ S2500x7168.size a) ∧
  (∀ (k0_h1 : k0_cond1 i = 1#1), ∀ (hinb : ∀ a, (k0_off20 v272) a + S128x7168.size a ≤ S2500x7168.size a), (Rect.unit (s := S2500x7168) (k0_off20 v272) S128x7168.size hinb).WholeWords (EltTy.packing .i8))
theorem k0_mult10_dvd : ∀ (i : grid0.Coords) (v272 : BitVec 32) (k0_hw20 : k0_chk20 i v272), ∀ (k0_h1 : k0_cond1 i = 1#1), 32 ∣ (k0_mult10 v272).toNat := fun i v272 k0_hw20 k0_h1 => k0_hw20.1 k0_h1
theorem k0_off20_inb : ∀ (i : grid0.Coords) (v272 : BitVec 32) (k0_hw20 : k0_chk20 i v272), ∀ (k0_h1 : k0_cond1 i = 1#1), ∀ a, (k0_off20 v272) a + S128x7168.size a ≤ S2500x7168.size a := fun i v272 k0_hw20 k0_h1 => k0_hw20.2.1 k0_h1
theorem k0_off20_wordsi8 : ∀ (i : grid0.Coords) (v272 : BitVec 32) (k0_hw20 : k0_chk20 i v272), ∀ (k0_h1 : k0_cond1 i = 1#1), (Rect.unit (s := S2500x7168) (k0_off20 v272) S128x7168.size (k0_off20_inb i v272 k0_hw20 k0_h1)).WholeWords (EltTy.packing .i8) := fun i v272 k0_hw20 k0_h1 => k0_hw20.2.2 k0_h1 (k0_off20_inb i v272 k0_hw20 k0_h1)

def k0_off21 (v280 : BitVec 32) : Fin 1 → Nat :=
  let v281 : Index := Scalar.indexCast v280
  ![v281.toNat]

def k0_chk21 (i : grid0.Coords) (v280 : BitVec 32) : Prop :=
  (∀ (k0_h1 : k0_cond1 i = 1#1), ∀ a, (k0_off21 v280) a + S1.size a ≤ S23.size a)
theorem k0_off21_inb : ∀ (i : grid0.Coords) (v280 : BitVec 32) (k0_hw21 : k0_chk21 i v280), ∀ (k0_h1 : k0_cond1 i = 1#1), ∀ a, (k0_off21 v280) a + S1.size a ≤ S23.size a := fun i v280 k0_hw21 k0_h1 => k0_hw21 k0_h1

def k0_mult11 (v282 : BitVec 32) : BitVec 32 :=
  let c_m32_i32_136 : BitVec 32 := 4294967264#32
  let v283 : BitVec 32 := Scalar.andi v282 c_m32_i32_136
  v283

def k0_off22 (v282 : BitVec 32) : Fin 2 → Nat :=
  let c_m32_i32_136 : BitVec 32 := 4294967264#32
  let v283 : BitVec 32 := Scalar.andi v282 c_m32_i32_136
  let v284 : BitVec 32 := v283
  let c0_i32_140 : BitVec 32 := 0#32
  ![v284.toNat, 0]

def k0_chk22 (i : grid0.Coords) (v282 : BitVec 32) : Prop :=
  (∀ (k0_h1 : k0_cond1 i = 1#1), 32 ∣ (k0_mult11 v282).toNat) ∧
  (∀ (k0_h1 : k0_cond1 i = 1#1), ∀ a, (k0_off22 v282) a + S128x7168.size a ≤ S2500x7168.size a) ∧
  (∀ (k0_h1 : k0_cond1 i = 1#1), ∀ (hinb : ∀ a, (k0_off22 v282) a + S128x7168.size a ≤ S2500x7168.size a), (Rect.unit (s := S2500x7168) (k0_off22 v282) S128x7168.size hinb).WholeWords (EltTy.packing .i8))
theorem k0_mult11_dvd : ∀ (i : grid0.Coords) (v282 : BitVec 32) (k0_hw22 : k0_chk22 i v282), ∀ (k0_h1 : k0_cond1 i = 1#1), 32 ∣ (k0_mult11 v282).toNat := fun i v282 k0_hw22 k0_h1 => k0_hw22.1 k0_h1
theorem k0_off22_inb : ∀ (i : grid0.Coords) (v282 : BitVec 32) (k0_hw22 : k0_chk22 i v282), ∀ (k0_h1 : k0_cond1 i = 1#1), ∀ a, (k0_off22 v282) a + S128x7168.size a ≤ S2500x7168.size a := fun i v282 k0_hw22 k0_h1 => k0_hw22.2.1 k0_h1
theorem k0_off22_wordsi8 : ∀ (i : grid0.Coords) (v282 : BitVec 32) (k0_hw22 : k0_chk22 i v282), ∀ (k0_h1 : k0_cond1 i = 1#1), (Rect.unit (s := S2500x7168) (k0_off22 v282) S128x7168.size (k0_off22_inb i v282 k0_hw22 k0_h1)).WholeWords (EltTy.packing .i8) := fun i v282 k0_hw22 k0_h1 => k0_hw22.2.2 k0_h1 (k0_off22_inb i v282 k0_hw22 k0_h1)

def k0_off23 (v290 : BitVec 32) : Fin 1 → Nat :=
  let v291 : Index := Scalar.indexCast v290
  ![v291.toNat]

def k0_chk23 (i : grid0.Coords) (v290 : BitVec 32) : Prop :=
  (∀ (k0_h1 : k0_cond1 i = 1#1), ∀ a, (k0_off23 v290) a + S1.size a ≤ S23.size a)
theorem k0_off23_inb : ∀ (i : grid0.Coords) (v290 : BitVec 32) (k0_hw23 : k0_chk23 i v290), ∀ (k0_h1 : k0_cond1 i = 1#1), ∀ a, (k0_off23 v290) a + S1.size a ≤ S23.size a := fun i v290 k0_hw23 k0_h1 => k0_hw23 k0_h1

def k0_mult12 (v292 : BitVec 32) : BitVec 32 :=
  let c_m32_i32_142 : BitVec 32 := 4294967264#32
  let v293 : BitVec 32 := Scalar.andi v292 c_m32_i32_142
  v293

def k0_off24 (v292 : BitVec 32) : Fin 2 → Nat :=
  let c_m32_i32_142 : BitVec 32 := 4294967264#32
  let v293 : BitVec 32 := Scalar.andi v292 c_m32_i32_142
  let v294 : BitVec 32 := v293
  let c0_i32_146 : BitVec 32 := 0#32
  ![v294.toNat, 0]

def k0_chk24 (i : grid0.Coords) (v292 : BitVec 32) : Prop :=
  (∀ (k0_h1 : k0_cond1 i = 1#1), 32 ∣ (k0_mult12 v292).toNat) ∧
  (∀ (k0_h1 : k0_cond1 i = 1#1), ∀ a, (k0_off24 v292) a + S128x7168.size a ≤ S2500x7168.size a) ∧
  (∀ (k0_h1 : k0_cond1 i = 1#1), ∀ (hinb : ∀ a, (k0_off24 v292) a + S128x7168.size a ≤ S2500x7168.size a), (Rect.unit (s := S2500x7168) (k0_off24 v292) S128x7168.size hinb).WholeWords (EltTy.packing .i8))
theorem k0_mult12_dvd : ∀ (i : grid0.Coords) (v292 : BitVec 32) (k0_hw24 : k0_chk24 i v292), ∀ (k0_h1 : k0_cond1 i = 1#1), 32 ∣ (k0_mult12 v292).toNat := fun i v292 k0_hw24 k0_h1 => k0_hw24.1 k0_h1
theorem k0_off24_inb : ∀ (i : grid0.Coords) (v292 : BitVec 32) (k0_hw24 : k0_chk24 i v292), ∀ (k0_h1 : k0_cond1 i = 1#1), ∀ a, (k0_off24 v292) a + S128x7168.size a ≤ S2500x7168.size a := fun i v292 k0_hw24 k0_h1 => k0_hw24.2.1 k0_h1
theorem k0_off24_wordsi8 : ∀ (i : grid0.Coords) (v292 : BitVec 32) (k0_hw24 : k0_chk24 i v292), ∀ (k0_h1 : k0_cond1 i = 1#1), (Rect.unit (s := S2500x7168) (k0_off24 v292) S128x7168.size (k0_off24_inb i v292 k0_hw24 k0_h1)).WholeWords (EltTy.packing .i8) := fun i v292 k0_hw24 k0_h1 => k0_hw24.2.2 k0_h1 (k0_off24_inb i v292 k0_hw24 k0_h1)

def k0_off25 (v300 : BitVec 32) : Fin 1 → Nat :=
  let v301 : Index := Scalar.indexCast v300
  ![v301.toNat]

def k0_chk25 (i : grid0.Coords) (v300 : BitVec 32) : Prop :=
  (∀ (k0_h1 : k0_cond1 i = 1#1), ∀ a, (k0_off25 v300) a + S1.size a ≤ S23.size a)
theorem k0_off25_inb : ∀ (i : grid0.Coords) (v300 : BitVec 32) (k0_hw25 : k0_chk25 i v300), ∀ (k0_h1 : k0_cond1 i = 1#1), ∀ a, (k0_off25 v300) a + S1.size a ≤ S23.size a := fun i v300 k0_hw25 k0_h1 => k0_hw25 k0_h1

def k0_mult13 (v302 : BitVec 32) : BitVec 32 :=
  let c_m32_i32_148 : BitVec 32 := 4294967264#32
  let v303 : BitVec 32 := Scalar.andi v302 c_m32_i32_148
  v303

def k0_off26 (v302 : BitVec 32) : Fin 2 → Nat :=
  let c_m32_i32_148 : BitVec 32 := 4294967264#32
  let v303 : BitVec 32 := Scalar.andi v302 c_m32_i32_148
  let v304 : BitVec 32 := v303
  let c0_i32_152 : BitVec 32 := 0#32
  ![v304.toNat, 0]

def k0_chk26 (i : grid0.Coords) (v302 : BitVec 32) : Prop :=
  (∀ (k0_h1 : k0_cond1 i = 1#1), 32 ∣ (k0_mult13 v302).toNat) ∧
  (∀ (k0_h1 : k0_cond1 i = 1#1), ∀ a, (k0_off26 v302) a + S128x7168.size a ≤ S2500x7168.size a) ∧
  (∀ (k0_h1 : k0_cond1 i = 1#1), ∀ (hinb : ∀ a, (k0_off26 v302) a + S128x7168.size a ≤ S2500x7168.size a), (Rect.unit (s := S2500x7168) (k0_off26 v302) S128x7168.size hinb).WholeWords (EltTy.packing .i8))
theorem k0_mult13_dvd : ∀ (i : grid0.Coords) (v302 : BitVec 32) (k0_hw26 : k0_chk26 i v302), ∀ (k0_h1 : k0_cond1 i = 1#1), 32 ∣ (k0_mult13 v302).toNat := fun i v302 k0_hw26 k0_h1 => k0_hw26.1 k0_h1
theorem k0_off26_inb : ∀ (i : grid0.Coords) (v302 : BitVec 32) (k0_hw26 : k0_chk26 i v302), ∀ (k0_h1 : k0_cond1 i = 1#1), ∀ a, (k0_off26 v302) a + S128x7168.size a ≤ S2500x7168.size a := fun i v302 k0_hw26 k0_h1 => k0_hw26.2.1 k0_h1
theorem k0_off26_wordsi8 : ∀ (i : grid0.Coords) (v302 : BitVec 32) (k0_hw26 : k0_chk26 i v302), ∀ (k0_h1 : k0_cond1 i = 1#1), (Rect.unit (s := S2500x7168) (k0_off26 v302) S128x7168.size (k0_off26_inb i v302 k0_hw26 k0_h1)).WholeWords (EltTy.packing .i8) := fun i v302 k0_hw26 k0_h1 => k0_hw26.2.2 k0_h1 (k0_off26_inb i v302 k0_hw26 k0_h1)

def k0_off27 (v310 : BitVec 32) : Fin 1 → Nat :=
  let v311 : Index := Scalar.indexCast v310
  ![v311.toNat]

def k0_chk27 (i : grid0.Coords) (v310 : BitVec 32) : Prop :=
  (∀ (k0_h1 : k0_cond1 i = 1#1), ∀ a, (k0_off27 v310) a + S1.size a ≤ S23.size a)
theorem k0_off27_inb : ∀ (i : grid0.Coords) (v310 : BitVec 32) (k0_hw27 : k0_chk27 i v310), ∀ (k0_h1 : k0_cond1 i = 1#1), ∀ a, (k0_off27 v310) a + S1.size a ≤ S23.size a := fun i v310 k0_hw27 k0_h1 => k0_hw27 k0_h1

def k0_mult14 (v312 : BitVec 32) : BitVec 32 :=
  let c_m32_i32_154 : BitVec 32 := 4294967264#32
  let v313 : BitVec 32 := Scalar.andi v312 c_m32_i32_154
  v313

def k0_off28 (v312 : BitVec 32) : Fin 2 → Nat :=
  let c_m32_i32_154 : BitVec 32 := 4294967264#32
  let v313 : BitVec 32 := Scalar.andi v312 c_m32_i32_154
  let v314 : BitVec 32 := v313
  let c0_i32_158 : BitVec 32 := 0#32
  ![v314.toNat, 0]

def k0_chk28 (i : grid0.Coords) (v312 : BitVec 32) : Prop :=
  (∀ (k0_h1 : k0_cond1 i = 1#1), 32 ∣ (k0_mult14 v312).toNat) ∧
  (∀ (k0_h1 : k0_cond1 i = 1#1), ∀ a, (k0_off28 v312) a + S128x7168.size a ≤ S2500x7168.size a) ∧
  (∀ (k0_h1 : k0_cond1 i = 1#1), ∀ (hinb : ∀ a, (k0_off28 v312) a + S128x7168.size a ≤ S2500x7168.size a), (Rect.unit (s := S2500x7168) (k0_off28 v312) S128x7168.size hinb).WholeWords (EltTy.packing .i8))
theorem k0_mult14_dvd : ∀ (i : grid0.Coords) (v312 : BitVec 32) (k0_hw28 : k0_chk28 i v312), ∀ (k0_h1 : k0_cond1 i = 1#1), 32 ∣ (k0_mult14 v312).toNat := fun i v312 k0_hw28 k0_h1 => k0_hw28.1 k0_h1
theorem k0_off28_inb : ∀ (i : grid0.Coords) (v312 : BitVec 32) (k0_hw28 : k0_chk28 i v312), ∀ (k0_h1 : k0_cond1 i = 1#1), ∀ a, (k0_off28 v312) a + S128x7168.size a ≤ S2500x7168.size a := fun i v312 k0_hw28 k0_h1 => k0_hw28.2.1 k0_h1
theorem k0_off28_wordsi8 : ∀ (i : grid0.Coords) (v312 : BitVec 32) (k0_hw28 : k0_chk28 i v312), ∀ (k0_h1 : k0_cond1 i = 1#1), (Rect.unit (s := S2500x7168) (k0_off28 v312) S128x7168.size (k0_off28_inb i v312 k0_hw28 k0_h1)).WholeWords (EltTy.packing .i8) := fun i v312 k0_hw28 k0_h1 => k0_hw28.2.2 k0_h1 (k0_off28_inb i v312 k0_hw28 k0_h1)

def k0_off29 (v320 : BitVec 32) : Fin 1 → Nat :=
  let v321 : Index := Scalar.indexCast v320
  ![v321.toNat]

def k0_chk29 (i : grid0.Coords) (v320 : BitVec 32) : Prop :=
  (∀ (k0_h1 : k0_cond1 i = 1#1), ∀ a, (k0_off29 v320) a + S1.size a ≤ S23.size a)
theorem k0_off29_inb : ∀ (i : grid0.Coords) (v320 : BitVec 32) (k0_hw29 : k0_chk29 i v320), ∀ (k0_h1 : k0_cond1 i = 1#1), ∀ a, (k0_off29 v320) a + S1.size a ≤ S23.size a := fun i v320 k0_hw29 k0_h1 => k0_hw29 k0_h1

def k0_mult15 (v322 : BitVec 32) : BitVec 32 :=
  let c_m32_i32_160 : BitVec 32 := 4294967264#32
  let v323 : BitVec 32 := Scalar.andi v322 c_m32_i32_160
  v323

def k0_off30 (v322 : BitVec 32) : Fin 2 → Nat :=
  let c_m32_i32_160 : BitVec 32 := 4294967264#32
  let v323 : BitVec 32 := Scalar.andi v322 c_m32_i32_160
  let v324 : BitVec 32 := v323
  let c0_i32_165 : BitVec 32 := 0#32
  ![v324.toNat, 0]

def k0_chk30 (i : grid0.Coords) (v322 : BitVec 32) : Prop :=
  (∀ (k0_h1 : k0_cond1 i = 1#1), 32 ∣ (k0_mult15 v322).toNat) ∧
  (∀ (k0_h1 : k0_cond1 i = 1#1), ∀ a, (k0_off30 v322) a + S128x7168.size a ≤ S2500x7168.size a) ∧
  (∀ (k0_h1 : k0_cond1 i = 1#1), ∀ (hinb : ∀ a, (k0_off30 v322) a + S128x7168.size a ≤ S2500x7168.size a), (Rect.unit (s := S2500x7168) (k0_off30 v322) S128x7168.size hinb).WholeWords (EltTy.packing .i8))
theorem k0_mult15_dvd : ∀ (i : grid0.Coords) (v322 : BitVec 32) (k0_hw30 : k0_chk30 i v322), ∀ (k0_h1 : k0_cond1 i = 1#1), 32 ∣ (k0_mult15 v322).toNat := fun i v322 k0_hw30 k0_h1 => k0_hw30.1 k0_h1
theorem k0_off30_inb : ∀ (i : grid0.Coords) (v322 : BitVec 32) (k0_hw30 : k0_chk30 i v322), ∀ (k0_h1 : k0_cond1 i = 1#1), ∀ a, (k0_off30 v322) a + S128x7168.size a ≤ S2500x7168.size a := fun i v322 k0_hw30 k0_h1 => k0_hw30.2.1 k0_h1
theorem k0_off30_wordsi8 : ∀ (i : grid0.Coords) (v322 : BitVec 32) (k0_hw30 : k0_chk30 i v322), ∀ (k0_h1 : k0_cond1 i = 1#1), (Rect.unit (s := S2500x7168) (k0_off30 v322) S128x7168.size (k0_off30_inb i v322 k0_hw30 k0_h1)).WholeWords (EltTy.packing .i8) := fun i v322 k0_hw30 k0_h1 => k0_hw30.2.2 k0_h1 (k0_off30_inb i v322 k0_hw30 k0_h1)

def k0_off31 (v330 : BitVec 32) : Fin 1 → Nat :=
  let v331 : Index := Scalar.indexCast v330
  ![v331.toNat]

def k0_chk31 (i : grid0.Coords) (v330 : BitVec 32) : Prop :=
  (∀ (k0_h1 : k0_cond1 i = 1#1), ∀ a, (k0_off31 v330) a + S1.size a ≤ S23.size a)
theorem k0_off31_inb : ∀ (i : grid0.Coords) (v330 : BitVec 32) (k0_hw31 : k0_chk31 i v330), ∀ (k0_h1 : k0_cond1 i = 1#1), ∀ a, (k0_off31 v330) a + S1.size a ≤ S23.size a := fun i v330 k0_hw31 k0_h1 => k0_hw31 k0_h1

def k0_mult16 (v332 : BitVec 32) : BitVec 32 :=
  let c_m32_i32_167 : BitVec 32 := 4294967264#32
  let v333 : BitVec 32 := Scalar.andi v332 c_m32_i32_167
  v333

def k0_off32 (v332 : BitVec 32) : Fin 2 → Nat :=
  let c_m32_i32_167 : BitVec 32 := 4294967264#32
  let v333 : BitVec 32 := Scalar.andi v332 c_m32_i32_167
  let v334 : BitVec 32 := v333
  let c0_i32_172 : BitVec 32 := 0#32
  ![v334.toNat, 0]

def k0_chk32 (i : grid0.Coords) (v332 : BitVec 32) : Prop :=
  (∀ (k0_h1 : k0_cond1 i = 1#1), 32 ∣ (k0_mult16 v332).toNat) ∧
  (∀ (k0_h1 : k0_cond1 i = 1#1), ∀ a, (k0_off32 v332) a + S128x7168.size a ≤ S2500x7168.size a) ∧
  (∀ (k0_h1 : k0_cond1 i = 1#1), ∀ (hinb : ∀ a, (k0_off32 v332) a + S128x7168.size a ≤ S2500x7168.size a), (Rect.unit (s := S2500x7168) (k0_off32 v332) S128x7168.size hinb).WholeWords (EltTy.packing .i8))
theorem k0_mult16_dvd : ∀ (i : grid0.Coords) (v332 : BitVec 32) (k0_hw32 : k0_chk32 i v332), ∀ (k0_h1 : k0_cond1 i = 1#1), 32 ∣ (k0_mult16 v332).toNat := fun i v332 k0_hw32 k0_h1 => k0_hw32.1 k0_h1
theorem k0_off32_inb : ∀ (i : grid0.Coords) (v332 : BitVec 32) (k0_hw32 : k0_chk32 i v332), ∀ (k0_h1 : k0_cond1 i = 1#1), ∀ a, (k0_off32 v332) a + S128x7168.size a ≤ S2500x7168.size a := fun i v332 k0_hw32 k0_h1 => k0_hw32.2.1 k0_h1
theorem k0_off32_wordsi8 : ∀ (i : grid0.Coords) (v332 : BitVec 32) (k0_hw32 : k0_chk32 i v332), ∀ (k0_h1 : k0_cond1 i = 1#1), (Rect.unit (s := S2500x7168) (k0_off32 v332) S128x7168.size (k0_off32_inb i v332 k0_hw32 k0_h1)).WholeWords (EltTy.packing .i8) := fun i v332 k0_hw32 k0_h1 => k0_hw32.2.2 k0_h1 (k0_off32_inb i v332 k0_hw32 k0_h1)

def k0_off33 (v340 : BitVec 32) : Fin 1 → Nat :=
  let v341 : Index := Scalar.indexCast v340
  ![v341.toNat]

def k0_chk33 (i : grid0.Coords) (v340 : BitVec 32) : Prop :=
  (∀ (k0_h1 : k0_cond1 i = 1#1), ∀ a, (k0_off33 v340) a + S1.size a ≤ S23.size a)
theorem k0_off33_inb : ∀ (i : grid0.Coords) (v340 : BitVec 32) (k0_hw33 : k0_chk33 i v340), ∀ (k0_h1 : k0_cond1 i = 1#1), ∀ a, (k0_off33 v340) a + S1.size a ≤ S23.size a := fun i v340 k0_hw33 k0_h1 => k0_hw33 k0_h1

def k0_mult17 (v342 : BitVec 32) : BitVec 32 :=
  let c_m32_i32_174 : BitVec 32 := 4294967264#32
  let v343 : BitVec 32 := Scalar.andi v342 c_m32_i32_174
  v343

def k0_off34 (v342 : BitVec 32) : Fin 2 → Nat :=
  let c_m32_i32_174 : BitVec 32 := 4294967264#32
  let v343 : BitVec 32 := Scalar.andi v342 c_m32_i32_174
  let v344 : BitVec 32 := v343
  let c0_i32_179 : BitVec 32 := 0#32
  ![v344.toNat, 0]

def k0_chk34 (i : grid0.Coords) (v342 : BitVec 32) : Prop :=
  (∀ (k0_h1 : k0_cond1 i = 1#1), 32 ∣ (k0_mult17 v342).toNat) ∧
  (∀ (k0_h1 : k0_cond1 i = 1#1), ∀ a, (k0_off34 v342) a + S128x7168.size a ≤ S2500x7168.size a) ∧
  (∀ (k0_h1 : k0_cond1 i = 1#1), ∀ (hinb : ∀ a, (k0_off34 v342) a + S128x7168.size a ≤ S2500x7168.size a), (Rect.unit (s := S2500x7168) (k0_off34 v342) S128x7168.size hinb).WholeWords (EltTy.packing .i8))
theorem k0_mult17_dvd : ∀ (i : grid0.Coords) (v342 : BitVec 32) (k0_hw34 : k0_chk34 i v342), ∀ (k0_h1 : k0_cond1 i = 1#1), 32 ∣ (k0_mult17 v342).toNat := fun i v342 k0_hw34 k0_h1 => k0_hw34.1 k0_h1
theorem k0_off34_inb : ∀ (i : grid0.Coords) (v342 : BitVec 32) (k0_hw34 : k0_chk34 i v342), ∀ (k0_h1 : k0_cond1 i = 1#1), ∀ a, (k0_off34 v342) a + S128x7168.size a ≤ S2500x7168.size a := fun i v342 k0_hw34 k0_h1 => k0_hw34.2.1 k0_h1
theorem k0_off34_wordsi8 : ∀ (i : grid0.Coords) (v342 : BitVec 32) (k0_hw34 : k0_chk34 i v342), ∀ (k0_h1 : k0_cond1 i = 1#1), (Rect.unit (s := S2500x7168) (k0_off34 v342) S128x7168.size (k0_off34_inb i v342 k0_hw34 k0_h1)).WholeWords (EltTy.packing .i8) := fun i v342 k0_hw34 k0_h1 => k0_hw34.2.2 k0_h1 (k0_off34_inb i v342 k0_hw34 k0_h1)

def k0_off35 (v350 : BitVec 32) : Fin 1 → Nat :=
  let v351 : Index := Scalar.indexCast v350
  ![v351.toNat]

def k0_chk35 (i : grid0.Coords) (v350 : BitVec 32) : Prop :=
  (∀ (k0_h1 : k0_cond1 i = 1#1), ∀ a, (k0_off35 v350) a + S1.size a ≤ S23.size a)
theorem k0_off35_inb : ∀ (i : grid0.Coords) (v350 : BitVec 32) (k0_hw35 : k0_chk35 i v350), ∀ (k0_h1 : k0_cond1 i = 1#1), ∀ a, (k0_off35 v350) a + S1.size a ≤ S23.size a := fun i v350 k0_hw35 k0_h1 => k0_hw35 k0_h1

def k0_mult18 (v352 : BitVec 32) : BitVec 32 :=
  let c_m32_i32_181 : BitVec 32 := 4294967264#32
  let v353 : BitVec 32 := Scalar.andi v352 c_m32_i32_181
  v353

def k0_off36 (v352 : BitVec 32) : Fin 2 → Nat :=
  let c_m32_i32_181 : BitVec 32 := 4294967264#32
  let v353 : BitVec 32 := Scalar.andi v352 c_m32_i32_181
  let v354 : BitVec 32 := v353
  let c0_i32_186 : BitVec 32 := 0#32
  ![v354.toNat, 0]

def k0_chk36 (i : grid0.Coords) (v352 : BitVec 32) : Prop :=
  (∀ (k0_h1 : k0_cond1 i = 1#1), 32 ∣ (k0_mult18 v352).toNat) ∧
  (∀ (k0_h1 : k0_cond1 i = 1#1), ∀ a, (k0_off36 v352) a + S128x7168.size a ≤ S2500x7168.size a) ∧
  (∀ (k0_h1 : k0_cond1 i = 1#1), ∀ (hinb : ∀ a, (k0_off36 v352) a + S128x7168.size a ≤ S2500x7168.size a), (Rect.unit (s := S2500x7168) (k0_off36 v352) S128x7168.size hinb).WholeWords (EltTy.packing .i8))
theorem k0_mult18_dvd : ∀ (i : grid0.Coords) (v352 : BitVec 32) (k0_hw36 : k0_chk36 i v352), ∀ (k0_h1 : k0_cond1 i = 1#1), 32 ∣ (k0_mult18 v352).toNat := fun i v352 k0_hw36 k0_h1 => k0_hw36.1 k0_h1
theorem k0_off36_inb : ∀ (i : grid0.Coords) (v352 : BitVec 32) (k0_hw36 : k0_chk36 i v352), ∀ (k0_h1 : k0_cond1 i = 1#1), ∀ a, (k0_off36 v352) a + S128x7168.size a ≤ S2500x7168.size a := fun i v352 k0_hw36 k0_h1 => k0_hw36.2.1 k0_h1
theorem k0_off36_wordsi8 : ∀ (i : grid0.Coords) (v352 : BitVec 32) (k0_hw36 : k0_chk36 i v352), ∀ (k0_h1 : k0_cond1 i = 1#1), (Rect.unit (s := S2500x7168) (k0_off36 v352) S128x7168.size (k0_off36_inb i v352 k0_hw36 k0_h1)).WholeWords (EltTy.packing .i8) := fun i v352 k0_hw36 k0_h1 => k0_hw36.2.2 k0_h1 (k0_off36_inb i v352 k0_hw36 k0_h1)

def k0_off37 (v360 : BitVec 32) : Fin 1 → Nat :=
  let v361 : Index := Scalar.indexCast v360
  ![v361.toNat]

def k0_chk37 (i : grid0.Coords) (v360 : BitVec 32) : Prop :=
  (∀ (k0_h1 : k0_cond1 i = 1#1), ∀ a, (k0_off37 v360) a + S1.size a ≤ S23.size a)
theorem k0_off37_inb : ∀ (i : grid0.Coords) (v360 : BitVec 32) (k0_hw37 : k0_chk37 i v360), ∀ (k0_h1 : k0_cond1 i = 1#1), ∀ a, (k0_off37 v360) a + S1.size a ≤ S23.size a := fun i v360 k0_hw37 k0_h1 => k0_hw37 k0_h1

def k0_mult19 (v362 : BitVec 32) : BitVec 32 :=
  let c_m32_i32_188 : BitVec 32 := 4294967264#32
  let v363 : BitVec 32 := Scalar.andi v362 c_m32_i32_188
  v363

def k0_off38 (v362 : BitVec 32) : Fin 2 → Nat :=
  let c_m32_i32_188 : BitVec 32 := 4294967264#32
  let v363 : BitVec 32 := Scalar.andi v362 c_m32_i32_188
  let v364 : BitVec 32 := v363
  let c0_i32_193 : BitVec 32 := 0#32
  ![v364.toNat, 0]

def k0_chk38 (i : grid0.Coords) (v362 : BitVec 32) : Prop :=
  (∀ (k0_h1 : k0_cond1 i = 1#1), 32 ∣ (k0_mult19 v362).toNat) ∧
  (∀ (k0_h1 : k0_cond1 i = 1#1), ∀ a, (k0_off38 v362) a + S128x7168.size a ≤ S2500x7168.size a) ∧
  (∀ (k0_h1 : k0_cond1 i = 1#1), ∀ (hinb : ∀ a, (k0_off38 v362) a + S128x7168.size a ≤ S2500x7168.size a), (Rect.unit (s := S2500x7168) (k0_off38 v362) S128x7168.size hinb).WholeWords (EltTy.packing .i8))
theorem k0_mult19_dvd : ∀ (i : grid0.Coords) (v362 : BitVec 32) (k0_hw38 : k0_chk38 i v362), ∀ (k0_h1 : k0_cond1 i = 1#1), 32 ∣ (k0_mult19 v362).toNat := fun i v362 k0_hw38 k0_h1 => k0_hw38.1 k0_h1
theorem k0_off38_inb : ∀ (i : grid0.Coords) (v362 : BitVec 32) (k0_hw38 : k0_chk38 i v362), ∀ (k0_h1 : k0_cond1 i = 1#1), ∀ a, (k0_off38 v362) a + S128x7168.size a ≤ S2500x7168.size a := fun i v362 k0_hw38 k0_h1 => k0_hw38.2.1 k0_h1
theorem k0_off38_wordsi8 : ∀ (i : grid0.Coords) (v362 : BitVec 32) (k0_hw38 : k0_chk38 i v362), ∀ (k0_h1 : k0_cond1 i = 1#1), (Rect.unit (s := S2500x7168) (k0_off38 v362) S128x7168.size (k0_off38_inb i v362 k0_hw38 k0_h1)).WholeWords (EltTy.packing .i8) := fun i v362 k0_hw38 k0_h1 => k0_hw38.2.2 k0_h1 (k0_off38_inb i v362 k0_hw38 k0_h1)

def k0_off39 (v370 : BitVec 32) : Fin 1 → Nat :=
  let v371 : Index := Scalar.indexCast v370
  ![v371.toNat]

def k0_chk39 (i : grid0.Coords) (v370 : BitVec 32) : Prop :=
  (∀ (k0_h1 : k0_cond1 i = 1#1), ∀ a, (k0_off39 v370) a + S1.size a ≤ S23.size a)
theorem k0_off39_inb : ∀ (i : grid0.Coords) (v370 : BitVec 32) (k0_hw39 : k0_chk39 i v370), ∀ (k0_h1 : k0_cond1 i = 1#1), ∀ a, (k0_off39 v370) a + S1.size a ≤ S23.size a := fun i v370 k0_hw39 k0_h1 => k0_hw39 k0_h1

def k0_mult20 (v372 : BitVec 32) : BitVec 32 :=
  let c_m32_i32_195 : BitVec 32 := 4294967264#32
  let v373 : BitVec 32 := Scalar.andi v372 c_m32_i32_195
  v373

def k0_off40 (v372 : BitVec 32) : Fin 2 → Nat :=
  let c_m32_i32_195 : BitVec 32 := 4294967264#32
  let v373 : BitVec 32 := Scalar.andi v372 c_m32_i32_195
  let v374 : BitVec 32 := v373
  let c0_i32_200 : BitVec 32 := 0#32
  ![v374.toNat, 0]

def k0_chk40 (i : grid0.Coords) (v372 : BitVec 32) : Prop :=
  (∀ (k0_h1 : k0_cond1 i = 1#1), 32 ∣ (k0_mult20 v372).toNat) ∧
  (∀ (k0_h1 : k0_cond1 i = 1#1), ∀ a, (k0_off40 v372) a + S128x7168.size a ≤ S2500x7168.size a) ∧
  (∀ (k0_h1 : k0_cond1 i = 1#1), ∀ (hinb : ∀ a, (k0_off40 v372) a + S128x7168.size a ≤ S2500x7168.size a), (Rect.unit (s := S2500x7168) (k0_off40 v372) S128x7168.size hinb).WholeWords (EltTy.packing .i8))
theorem k0_mult20_dvd : ∀ (i : grid0.Coords) (v372 : BitVec 32) (k0_hw40 : k0_chk40 i v372), ∀ (k0_h1 : k0_cond1 i = 1#1), 32 ∣ (k0_mult20 v372).toNat := fun i v372 k0_hw40 k0_h1 => k0_hw40.1 k0_h1
theorem k0_off40_inb : ∀ (i : grid0.Coords) (v372 : BitVec 32) (k0_hw40 : k0_chk40 i v372), ∀ (k0_h1 : k0_cond1 i = 1#1), ∀ a, (k0_off40 v372) a + S128x7168.size a ≤ S2500x7168.size a := fun i v372 k0_hw40 k0_h1 => k0_hw40.2.1 k0_h1
theorem k0_off40_wordsi8 : ∀ (i : grid0.Coords) (v372 : BitVec 32) (k0_hw40 : k0_chk40 i v372), ∀ (k0_h1 : k0_cond1 i = 1#1), (Rect.unit (s := S2500x7168) (k0_off40 v372) S128x7168.size (k0_off40_inb i v372 k0_hw40 k0_h1)).WholeWords (EltTy.packing .i8) := fun i v372 k0_hw40 k0_h1 => k0_hw40.2.2 k0_h1 (k0_off40_inb i v372 k0_hw40 k0_h1)

def k0_off41 (v380 : BitVec 32) : Fin 1 → Nat :=
  let v381 : Index := Scalar.indexCast v380
  ![v381.toNat]

def k0_chk41 (i : grid0.Coords) (v380 : BitVec 32) : Prop :=
  (∀ (k0_h1 : k0_cond1 i = 1#1), ∀ a, (k0_off41 v380) a + S1.size a ≤ S23.size a)
theorem k0_off41_inb : ∀ (i : grid0.Coords) (v380 : BitVec 32) (k0_hw41 : k0_chk41 i v380), ∀ (k0_h1 : k0_cond1 i = 1#1), ∀ a, (k0_off41 v380) a + S1.size a ≤ S23.size a := fun i v380 k0_hw41 k0_h1 => k0_hw41 k0_h1

def k0_mult21 (v382 : BitVec 32) : BitVec 32 :=
  let c_m32_i32_202 : BitVec 32 := 4294967264#32
  let v383 : BitVec 32 := Scalar.andi v382 c_m32_i32_202
  v383

def k0_off42 (v382 : BitVec 32) : Fin 2 → Nat :=
  let c_m32_i32_202 : BitVec 32 := 4294967264#32
  let v383 : BitVec 32 := Scalar.andi v382 c_m32_i32_202
  let v384 : BitVec 32 := v383
  let c0_i32_207 : BitVec 32 := 0#32
  ![v384.toNat, 0]

def k0_chk42 (i : grid0.Coords) (v382 : BitVec 32) : Prop :=
  (∀ (k0_h1 : k0_cond1 i = 1#1), 32 ∣ (k0_mult21 v382).toNat) ∧
  (∀ (k0_h1 : k0_cond1 i = 1#1), ∀ a, (k0_off42 v382) a + S128x7168.size a ≤ S2500x7168.size a) ∧
  (∀ (k0_h1 : k0_cond1 i = 1#1), ∀ (hinb : ∀ a, (k0_off42 v382) a + S128x7168.size a ≤ S2500x7168.size a), (Rect.unit (s := S2500x7168) (k0_off42 v382) S128x7168.size hinb).WholeWords (EltTy.packing .i8))
theorem k0_mult21_dvd : ∀ (i : grid0.Coords) (v382 : BitVec 32) (k0_hw42 : k0_chk42 i v382), ∀ (k0_h1 : k0_cond1 i = 1#1), 32 ∣ (k0_mult21 v382).toNat := fun i v382 k0_hw42 k0_h1 => k0_hw42.1 k0_h1
theorem k0_off42_inb : ∀ (i : grid0.Coords) (v382 : BitVec 32) (k0_hw42 : k0_chk42 i v382), ∀ (k0_h1 : k0_cond1 i = 1#1), ∀ a, (k0_off42 v382) a + S128x7168.size a ≤ S2500x7168.size a := fun i v382 k0_hw42 k0_h1 => k0_hw42.2.1 k0_h1
theorem k0_off42_wordsi8 : ∀ (i : grid0.Coords) (v382 : BitVec 32) (k0_hw42 : k0_chk42 i v382), ∀ (k0_h1 : k0_cond1 i = 1#1), (Rect.unit (s := S2500x7168) (k0_off42 v382) S128x7168.size (k0_off42_inb i v382 k0_hw42 k0_h1)).WholeWords (EltTy.packing .i8) := fun i v382 k0_hw42 k0_h1 => k0_hw42.2.2 k0_h1 (k0_off42_inb i v382 k0_hw42 k0_h1)

def k0_off43 (v390 : BitVec 32) : Fin 1 → Nat :=
  let v391 : Index := Scalar.indexCast v390
  ![v391.toNat]

def k0_chk43 (i : grid0.Coords) (v390 : BitVec 32) : Prop :=
  (∀ (k0_h1 : k0_cond1 i = 1#1), ∀ a, (k0_off43 v390) a + S1.size a ≤ S23.size a)
theorem k0_off43_inb : ∀ (i : grid0.Coords) (v390 : BitVec 32) (k0_hw43 : k0_chk43 i v390), ∀ (k0_h1 : k0_cond1 i = 1#1), ∀ a, (k0_off43 v390) a + S1.size a ≤ S23.size a := fun i v390 k0_hw43 k0_h1 => k0_hw43 k0_h1

def k0_mult22 (v392 : BitVec 32) : BitVec 32 :=
  let c_m32_i32_209 : BitVec 32 := 4294967264#32
  let v393 : BitVec 32 := Scalar.andi v392 c_m32_i32_209
  v393

def k0_off44 (v392 : BitVec 32) : Fin 2 → Nat :=
  let c_m32_i32_209 : BitVec 32 := 4294967264#32
  let v393 : BitVec 32 := Scalar.andi v392 c_m32_i32_209
  let v394 : BitVec 32 := v393
  let c0_i32_214 : BitVec 32 := 0#32
  ![v394.toNat, 0]

def k0_chk44 (i : grid0.Coords) (v392 : BitVec 32) : Prop :=
  (∀ (k0_h1 : k0_cond1 i = 1#1), 32 ∣ (k0_mult22 v392).toNat) ∧
  (∀ (k0_h1 : k0_cond1 i = 1#1), ∀ a, (k0_off44 v392) a + S128x7168.size a ≤ S2500x7168.size a) ∧
  (∀ (k0_h1 : k0_cond1 i = 1#1), ∀ (hinb : ∀ a, (k0_off44 v392) a + S128x7168.size a ≤ S2500x7168.size a), (Rect.unit (s := S2500x7168) (k0_off44 v392) S128x7168.size hinb).WholeWords (EltTy.packing .i8))
theorem k0_mult22_dvd : ∀ (i : grid0.Coords) (v392 : BitVec 32) (k0_hw44 : k0_chk44 i v392), ∀ (k0_h1 : k0_cond1 i = 1#1), 32 ∣ (k0_mult22 v392).toNat := fun i v392 k0_hw44 k0_h1 => k0_hw44.1 k0_h1
theorem k0_off44_inb : ∀ (i : grid0.Coords) (v392 : BitVec 32) (k0_hw44 : k0_chk44 i v392), ∀ (k0_h1 : k0_cond1 i = 1#1), ∀ a, (k0_off44 v392) a + S128x7168.size a ≤ S2500x7168.size a := fun i v392 k0_hw44 k0_h1 => k0_hw44.2.1 k0_h1
theorem k0_off44_wordsi8 : ∀ (i : grid0.Coords) (v392 : BitVec 32) (k0_hw44 : k0_chk44 i v392), ∀ (k0_h1 : k0_cond1 i = 1#1), (Rect.unit (s := S2500x7168) (k0_off44 v392) S128x7168.size (k0_off44_inb i v392 k0_hw44 k0_h1)).WholeWords (EltTy.packing .i8) := fun i v392 k0_hw44 k0_h1 => k0_hw44.2.2 k0_h1 (k0_off44_inb i v392 k0_hw44 k0_h1)

def k0_off45 (v400 : BitVec 32) : Fin 1 → Nat :=
  let v401 : Index := Scalar.indexCast v400
  ![v401.toNat]

def k0_chk45 (i : grid0.Coords) (v400 : BitVec 32) : Prop :=
  (∀ (k0_h1 : k0_cond1 i = 1#1), ∀ a, (k0_off45 v400) a + S1.size a ≤ S23.size a)
theorem k0_off45_inb : ∀ (i : grid0.Coords) (v400 : BitVec 32) (k0_hw45 : k0_chk45 i v400), ∀ (k0_h1 : k0_cond1 i = 1#1), ∀ a, (k0_off45 v400) a + S1.size a ≤ S23.size a := fun i v400 k0_hw45 k0_h1 => k0_hw45 k0_h1

def k0_mult23 (v402 : BitVec 32) : BitVec 32 :=
  let c_m32_i32_216 : BitVec 32 := 4294967264#32
  let v403 : BitVec 32 := Scalar.andi v402 c_m32_i32_216
  v403

def k0_off46 (v402 : BitVec 32) : Fin 2 → Nat :=
  let c_m32_i32_216 : BitVec 32 := 4294967264#32
  let v403 : BitVec 32 := Scalar.andi v402 c_m32_i32_216
  let v404 : BitVec 32 := v403
  let c0_i32_221 : BitVec 32 := 0#32
  ![v404.toNat, 0]

def k0_chk46 (i : grid0.Coords) (v402 : BitVec 32) : Prop :=
  (∀ (k0_h1 : k0_cond1 i = 1#1), 32 ∣ (k0_mult23 v402).toNat) ∧
  (∀ (k0_h1 : k0_cond1 i = 1#1), ∀ a, (k0_off46 v402) a + S128x7168.size a ≤ S2500x7168.size a) ∧
  (∀ (k0_h1 : k0_cond1 i = 1#1), ∀ (hinb : ∀ a, (k0_off46 v402) a + S128x7168.size a ≤ S2500x7168.size a), (Rect.unit (s := S2500x7168) (k0_off46 v402) S128x7168.size hinb).WholeWords (EltTy.packing .i8))
theorem k0_mult23_dvd : ∀ (i : grid0.Coords) (v402 : BitVec 32) (k0_hw46 : k0_chk46 i v402), ∀ (k0_h1 : k0_cond1 i = 1#1), 32 ∣ (k0_mult23 v402).toNat := fun i v402 k0_hw46 k0_h1 => k0_hw46.1 k0_h1
theorem k0_off46_inb : ∀ (i : grid0.Coords) (v402 : BitVec 32) (k0_hw46 : k0_chk46 i v402), ∀ (k0_h1 : k0_cond1 i = 1#1), ∀ a, (k0_off46 v402) a + S128x7168.size a ≤ S2500x7168.size a := fun i v402 k0_hw46 k0_h1 => k0_hw46.2.1 k0_h1
theorem k0_off46_wordsi8 : ∀ (i : grid0.Coords) (v402 : BitVec 32) (k0_hw46 : k0_chk46 i v402), ∀ (k0_h1 : k0_cond1 i = 1#1), (Rect.unit (s := S2500x7168) (k0_off46 v402) S128x7168.size (k0_off46_inb i v402 k0_hw46 k0_h1)).WholeWords (EltTy.packing .i8) := fun i v402 k0_hw46 k0_h1 => k0_hw46.2.2 k0_h1 (k0_off46_inb i v402 k0_hw46 k0_h1)

def k0_off47 (v410 : BitVec 32) : Fin 1 → Nat :=
  let v411 : Index := Scalar.indexCast v410
  ![v411.toNat]

def k0_chk47 (i : grid0.Coords) (v410 : BitVec 32) : Prop :=
  (∀ (k0_h1 : k0_cond1 i = 1#1), ∀ a, (k0_off47 v410) a + S1.size a ≤ S23.size a)
theorem k0_off47_inb : ∀ (i : grid0.Coords) (v410 : BitVec 32) (k0_hw47 : k0_chk47 i v410), ∀ (k0_h1 : k0_cond1 i = 1#1), ∀ a, (k0_off47 v410) a + S1.size a ≤ S23.size a := fun i v410 k0_hw47 k0_h1 => k0_hw47 k0_h1

def k0_mult24 (v412 : BitVec 32) : BitVec 32 :=
  let c_m32_i32_223 : BitVec 32 := 4294967264#32
  let v413 : BitVec 32 := Scalar.andi v412 c_m32_i32_223
  v413

def k0_off48 (v412 : BitVec 32) : Fin 2 → Nat :=
  let c_m32_i32_223 : BitVec 32 := 4294967264#32
  let v413 : BitVec 32 := Scalar.andi v412 c_m32_i32_223
  let v414 : BitVec 32 := v413
  let c0_i32_228 : BitVec 32 := 0#32
  ![v414.toNat, 0]

def k0_chk48 (i : grid0.Coords) (v412 : BitVec 32) : Prop :=
  (∀ (k0_h1 : k0_cond1 i = 1#1), 32 ∣ (k0_mult24 v412).toNat) ∧
  (∀ (k0_h1 : k0_cond1 i = 1#1), ∀ a, (k0_off48 v412) a + S128x7168.size a ≤ S2500x7168.size a) ∧
  (∀ (k0_h1 : k0_cond1 i = 1#1), ∀ (hinb : ∀ a, (k0_off48 v412) a + S128x7168.size a ≤ S2500x7168.size a), (Rect.unit (s := S2500x7168) (k0_off48 v412) S128x7168.size hinb).WholeWords (EltTy.packing .i8))
theorem k0_mult24_dvd : ∀ (i : grid0.Coords) (v412 : BitVec 32) (k0_hw48 : k0_chk48 i v412), ∀ (k0_h1 : k0_cond1 i = 1#1), 32 ∣ (k0_mult24 v412).toNat := fun i v412 k0_hw48 k0_h1 => k0_hw48.1 k0_h1
theorem k0_off48_inb : ∀ (i : grid0.Coords) (v412 : BitVec 32) (k0_hw48 : k0_chk48 i v412), ∀ (k0_h1 : k0_cond1 i = 1#1), ∀ a, (k0_off48 v412) a + S128x7168.size a ≤ S2500x7168.size a := fun i v412 k0_hw48 k0_h1 => k0_hw48.2.1 k0_h1
theorem k0_off48_wordsi8 : ∀ (i : grid0.Coords) (v412 : BitVec 32) (k0_hw48 : k0_chk48 i v412), ∀ (k0_h1 : k0_cond1 i = 1#1), (Rect.unit (s := S2500x7168) (k0_off48 v412) S128x7168.size (k0_off48_inb i v412 k0_hw48 k0_h1)).WholeWords (EltTy.packing .i8) := fun i v412 k0_hw48 k0_h1 => k0_hw48.2.2 k0_h1 (k0_off48_inb i v412 k0_hw48 k0_h1)

def k0_off49 (v420 : BitVec 32) : Fin 1 → Nat :=
  let v421 : Index := Scalar.indexCast v420
  ![v421.toNat]

def k0_chk49 (i : grid0.Coords) (v420 : BitVec 32) : Prop :=
  (∀ (k0_h1 : k0_cond1 i = 1#1), ∀ a, (k0_off49 v420) a + S1.size a ≤ S23.size a)
theorem k0_off49_inb : ∀ (i : grid0.Coords) (v420 : BitVec 32) (k0_hw49 : k0_chk49 i v420), ∀ (k0_h1 : k0_cond1 i = 1#1), ∀ a, (k0_off49 v420) a + S1.size a ≤ S23.size a := fun i v420 k0_hw49 k0_h1 => k0_hw49 k0_h1

def k0_mult25 (v422 : BitVec 32) : BitVec 32 :=
  let c_m32_i32_230 : BitVec 32 := 4294967264#32
  let v423 : BitVec 32 := Scalar.andi v422 c_m32_i32_230
  v423

def k0_off50 (v422 : BitVec 32) : Fin 2 → Nat :=
  let c_m32_i32_230 : BitVec 32 := 4294967264#32
  let v423 : BitVec 32 := Scalar.andi v422 c_m32_i32_230
  let v424 : BitVec 32 := v423
  let c0_i32_235 : BitVec 32 := 0#32
  ![v424.toNat, 0]

def k0_chk50 (i : grid0.Coords) (v422 : BitVec 32) : Prop :=
  (∀ (k0_h1 : k0_cond1 i = 1#1), 32 ∣ (k0_mult25 v422).toNat) ∧
  (∀ (k0_h1 : k0_cond1 i = 1#1), ∀ a, (k0_off50 v422) a + S128x7168.size a ≤ S2500x7168.size a) ∧
  (∀ (k0_h1 : k0_cond1 i = 1#1), ∀ (hinb : ∀ a, (k0_off50 v422) a + S128x7168.size a ≤ S2500x7168.size a), (Rect.unit (s := S2500x7168) (k0_off50 v422) S128x7168.size hinb).WholeWords (EltTy.packing .i8))
theorem k0_mult25_dvd : ∀ (i : grid0.Coords) (v422 : BitVec 32) (k0_hw50 : k0_chk50 i v422), ∀ (k0_h1 : k0_cond1 i = 1#1), 32 ∣ (k0_mult25 v422).toNat := fun i v422 k0_hw50 k0_h1 => k0_hw50.1 k0_h1
theorem k0_off50_inb : ∀ (i : grid0.Coords) (v422 : BitVec 32) (k0_hw50 : k0_chk50 i v422), ∀ (k0_h1 : k0_cond1 i = 1#1), ∀ a, (k0_off50 v422) a + S128x7168.size a ≤ S2500x7168.size a := fun i v422 k0_hw50 k0_h1 => k0_hw50.2.1 k0_h1
theorem k0_off50_wordsi8 : ∀ (i : grid0.Coords) (v422 : BitVec 32) (k0_hw50 : k0_chk50 i v422), ∀ (k0_h1 : k0_cond1 i = 1#1), (Rect.unit (s := S2500x7168) (k0_off50 v422) S128x7168.size (k0_off50_inb i v422 k0_hw50 k0_h1)).WholeWords (EltTy.packing .i8) := fun i v422 k0_hw50 k0_h1 => k0_hw50.2.2 k0_h1 (k0_off50_inb i v422 k0_hw50 k0_h1)

def k0_off51 (v430 : BitVec 32) : Fin 1 → Nat :=
  let v431 : Index := Scalar.indexCast v430
  ![v431.toNat]

def k0_chk51 (i : grid0.Coords) (v430 : BitVec 32) : Prop :=
  (∀ (k0_h1 : k0_cond1 i = 1#1), ∀ a, (k0_off51 v430) a + S1.size a ≤ S23.size a)
theorem k0_off51_inb : ∀ (i : grid0.Coords) (v430 : BitVec 32) (k0_hw51 : k0_chk51 i v430), ∀ (k0_h1 : k0_cond1 i = 1#1), ∀ a, (k0_off51 v430) a + S1.size a ≤ S23.size a := fun i v430 k0_hw51 k0_h1 => k0_hw51 k0_h1

def k0_mult26 (v432 : BitVec 32) : BitVec 32 :=
  let c_m32_i32_237 : BitVec 32 := 4294967264#32
  let v433 : BitVec 32 := Scalar.andi v432 c_m32_i32_237
  v433

def k0_off52 (v432 : BitVec 32) : Fin 2 → Nat :=
  let c_m32_i32_237 : BitVec 32 := 4294967264#32
  let v433 : BitVec 32 := Scalar.andi v432 c_m32_i32_237
  let v434 : BitVec 32 := v433
  let c0_i32_242 : BitVec 32 := 0#32
  ![v434.toNat, 0]

def k0_chk52 (i : grid0.Coords) (v432 : BitVec 32) : Prop :=
  (∀ (k0_h1 : k0_cond1 i = 1#1), 32 ∣ (k0_mult26 v432).toNat) ∧
  (∀ (k0_h1 : k0_cond1 i = 1#1), ∀ a, (k0_off52 v432) a + S128x7168.size a ≤ S2500x7168.size a) ∧
  (∀ (k0_h1 : k0_cond1 i = 1#1), ∀ (hinb : ∀ a, (k0_off52 v432) a + S128x7168.size a ≤ S2500x7168.size a), (Rect.unit (s := S2500x7168) (k0_off52 v432) S128x7168.size hinb).WholeWords (EltTy.packing .i8))
theorem k0_mult26_dvd : ∀ (i : grid0.Coords) (v432 : BitVec 32) (k0_hw52 : k0_chk52 i v432), ∀ (k0_h1 : k0_cond1 i = 1#1), 32 ∣ (k0_mult26 v432).toNat := fun i v432 k0_hw52 k0_h1 => k0_hw52.1 k0_h1
theorem k0_off52_inb : ∀ (i : grid0.Coords) (v432 : BitVec 32) (k0_hw52 : k0_chk52 i v432), ∀ (k0_h1 : k0_cond1 i = 1#1), ∀ a, (k0_off52 v432) a + S128x7168.size a ≤ S2500x7168.size a := fun i v432 k0_hw52 k0_h1 => k0_hw52.2.1 k0_h1
theorem k0_off52_wordsi8 : ∀ (i : grid0.Coords) (v432 : BitVec 32) (k0_hw52 : k0_chk52 i v432), ∀ (k0_h1 : k0_cond1 i = 1#1), (Rect.unit (s := S2500x7168) (k0_off52 v432) S128x7168.size (k0_off52_inb i v432 k0_hw52 k0_h1)).WholeWords (EltTy.packing .i8) := fun i v432 k0_hw52 k0_h1 => k0_hw52.2.2 k0_h1 (k0_off52_inb i v432 k0_hw52 k0_h1)

def k0_off53 (v440 : BitVec 32) : Fin 1 → Nat :=
  let v441 : Index := Scalar.indexCast v440
  ![v441.toNat]

def k0_chk53 (i : grid0.Coords) (v440 : BitVec 32) : Prop :=
  (∀ (k0_h1 : k0_cond1 i = 1#1), ∀ a, (k0_off53 v440) a + S1.size a ≤ S23.size a)
theorem k0_off53_inb : ∀ (i : grid0.Coords) (v440 : BitVec 32) (k0_hw53 : k0_chk53 i v440), ∀ (k0_h1 : k0_cond1 i = 1#1), ∀ a, (k0_off53 v440) a + S1.size a ≤ S23.size a := fun i v440 k0_hw53 k0_h1 => k0_hw53 k0_h1

def k0_mult27 (v442 : BitVec 32) : BitVec 32 :=
  let c_m32_i32_244 : BitVec 32 := 4294967264#32
  let v443 : BitVec 32 := Scalar.andi v442 c_m32_i32_244
  v443

def k0_off54 (v442 : BitVec 32) : Fin 2 → Nat :=
  let c_m32_i32_244 : BitVec 32 := 4294967264#32
  let v443 : BitVec 32 := Scalar.andi v442 c_m32_i32_244
  let v444 : BitVec 32 := v443
  let c0_i32_249 : BitVec 32 := 0#32
  ![v444.toNat, 0]

def k0_chk54 (i : grid0.Coords) (v442 : BitVec 32) : Prop :=
  (∀ (k0_h1 : k0_cond1 i = 1#1), 32 ∣ (k0_mult27 v442).toNat) ∧
  (∀ (k0_h1 : k0_cond1 i = 1#1), ∀ a, (k0_off54 v442) a + S128x7168.size a ≤ S2500x7168.size a) ∧
  (∀ (k0_h1 : k0_cond1 i = 1#1), ∀ (hinb : ∀ a, (k0_off54 v442) a + S128x7168.size a ≤ S2500x7168.size a), (Rect.unit (s := S2500x7168) (k0_off54 v442) S128x7168.size hinb).WholeWords (EltTy.packing .i8))
theorem k0_mult27_dvd : ∀ (i : grid0.Coords) (v442 : BitVec 32) (k0_hw54 : k0_chk54 i v442), ∀ (k0_h1 : k0_cond1 i = 1#1), 32 ∣ (k0_mult27 v442).toNat := fun i v442 k0_hw54 k0_h1 => k0_hw54.1 k0_h1
theorem k0_off54_inb : ∀ (i : grid0.Coords) (v442 : BitVec 32) (k0_hw54 : k0_chk54 i v442), ∀ (k0_h1 : k0_cond1 i = 1#1), ∀ a, (k0_off54 v442) a + S128x7168.size a ≤ S2500x7168.size a := fun i v442 k0_hw54 k0_h1 => k0_hw54.2.1 k0_h1
theorem k0_off54_wordsi8 : ∀ (i : grid0.Coords) (v442 : BitVec 32) (k0_hw54 : k0_chk54 i v442), ∀ (k0_h1 : k0_cond1 i = 1#1), (Rect.unit (s := S2500x7168) (k0_off54 v442) S128x7168.size (k0_off54_inb i v442 k0_hw54 k0_h1)).WholeWords (EltTy.packing .i8) := fun i v442 k0_hw54 k0_h1 => k0_hw54.2.2 k0_h1 (k0_off54_inb i v442 k0_hw54 k0_h1)

def k0_off55 (v450 : BitVec 32) : Fin 1 → Nat :=
  let v451 : Index := Scalar.indexCast v450
  ![v451.toNat]

def k0_chk55 (i : grid0.Coords) (v450 : BitVec 32) : Prop :=
  (∀ (k0_h1 : k0_cond1 i = 1#1), ∀ a, (k0_off55 v450) a + S1.size a ≤ S23.size a)
theorem k0_off55_inb : ∀ (i : grid0.Coords) (v450 : BitVec 32) (k0_hw55 : k0_chk55 i v450), ∀ (k0_h1 : k0_cond1 i = 1#1), ∀ a, (k0_off55 v450) a + S1.size a ≤ S23.size a := fun i v450 k0_hw55 k0_h1 => k0_hw55 k0_h1

def k0_mult28 (v452 : BitVec 32) : BitVec 32 :=
  let c_m32_i32_251 : BitVec 32 := 4294967264#32
  let v453 : BitVec 32 := Scalar.andi v452 c_m32_i32_251
  v453

def k0_off56 (v452 : BitVec 32) : Fin 2 → Nat :=
  let c_m32_i32_251 : BitVec 32 := 4294967264#32
  let v453 : BitVec 32 := Scalar.andi v452 c_m32_i32_251
  let v454 : BitVec 32 := v453
  let c0_i32_256 : BitVec 32 := 0#32
  ![v454.toNat, 0]

def k0_chk56 (i : grid0.Coords) (v452 : BitVec 32) : Prop :=
  (∀ (k0_h1 : k0_cond1 i = 1#1), 32 ∣ (k0_mult28 v452).toNat) ∧
  (∀ (k0_h1 : k0_cond1 i = 1#1), ∀ a, (k0_off56 v452) a + S128x7168.size a ≤ S2500x7168.size a) ∧
  (∀ (k0_h1 : k0_cond1 i = 1#1), ∀ (hinb : ∀ a, (k0_off56 v452) a + S128x7168.size a ≤ S2500x7168.size a), (Rect.unit (s := S2500x7168) (k0_off56 v452) S128x7168.size hinb).WholeWords (EltTy.packing .i8))
theorem k0_mult28_dvd : ∀ (i : grid0.Coords) (v452 : BitVec 32) (k0_hw56 : k0_chk56 i v452), ∀ (k0_h1 : k0_cond1 i = 1#1), 32 ∣ (k0_mult28 v452).toNat := fun i v452 k0_hw56 k0_h1 => k0_hw56.1 k0_h1
theorem k0_off56_inb : ∀ (i : grid0.Coords) (v452 : BitVec 32) (k0_hw56 : k0_chk56 i v452), ∀ (k0_h1 : k0_cond1 i = 1#1), ∀ a, (k0_off56 v452) a + S128x7168.size a ≤ S2500x7168.size a := fun i v452 k0_hw56 k0_h1 => k0_hw56.2.1 k0_h1
theorem k0_off56_wordsi8 : ∀ (i : grid0.Coords) (v452 : BitVec 32) (k0_hw56 : k0_chk56 i v452), ∀ (k0_h1 : k0_cond1 i = 1#1), (Rect.unit (s := S2500x7168) (k0_off56 v452) S128x7168.size (k0_off56_inb i v452 k0_hw56 k0_h1)).WholeWords (EltTy.packing .i8) := fun i v452 k0_hw56 k0_h1 => k0_hw56.2.2 k0_h1 (k0_off56_inb i v452 k0_hw56 k0_h1)

def k0_off57 (v180 : BitVec 32) : Fin 1 → Nat :=
  let v181 : Index := Scalar.indexCast v180
  ![v181.toNat]
def k0_cond2 (i : grid0.Coords) (v12 : BitVec 32) (v13 : BitVec 32) : BitVec 1 :=
  let arg0 : BitVec 32 := BitVec.ofNat 32 (i 0).val
  let c1_i32 : BitVec 32 := 1#32
  let v14 : BitVec 32 := Scalar.addi arg0 c1_i32
  let c128_i32_6 : BitVec 32 := 128#32
  let v15 : BitVec 32 := Scalar.muli v14 c128_i32_6
  let v16 : BitVec 1 := Scalar.cmpi .slt v12 v15
  let c128_i32_7 : BitVec 32 := 128#32
  let v17 : BitVec 32 := Scalar.muli arg0 c128_i32_7
  let v18 : BitVec 1 := Scalar.cmpi .sgt v13 v17
  let v19 : BitVec 1 := Scalar.andi v16 v18
  let v20 : BitVec 1 := Scalar.cmpi .sgt v13 v12
  let v21 : BitVec 1 := Scalar.andi v19 v20
  let v22 : BitVec 32 := Scalar.extui v21
  let c0_i32_8 : BitVec 32 := 0#32
  let v23 : BitVec 1 := Scalar.cmpi .ne v22 c0_i32_8
  v23

def k0_mult29 (v182 : BitVec 32) : BitVec 32 :=
  let c_m32_i32 : BitVec 32 := 4294967264#32
  let v183 : BitVec 32 := Scalar.andi v182 c_m32_i32
  v183

def k0_mult30 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off58 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk58 (i : grid0.Coords) (v12 : BitVec 32) (v13 : BitVec 32) (v182 : BitVec 32) : Prop :=
  (∀ (k0_h2 : k0_cond2 i v12 v13 = 1#1), 32 ∣ (k0_mult29 v182).toNat) ∧
  (∀ (k0_h2 : k0_cond2 i v12 v13 = 1#1), 128 ∣ (k0_mult30 v182).toNat) ∧
  (∀ (k0_h2 : k0_cond2 i v12 v13 = 1#1), ∀ a, (k0_off58 v182) a + S1x256.size a ≤ S1x2500.size a)
theorem k0_mult29_dvd : ∀ (i : grid0.Coords) (v12 : BitVec 32) (v13 : BitVec 32) (v182 : BitVec 32) (k0_hw58 : k0_chk58 i v12 v13 v182), ∀ (k0_h2 : k0_cond2 i v12 v13 = 1#1), 32 ∣ (k0_mult29 v182).toNat := fun i v12 v13 v182 k0_hw58 k0_h2 => k0_hw58.1 k0_h2
theorem k0_mult30_dvd : ∀ (i : grid0.Coords) (v12 : BitVec 32) (v13 : BitVec 32) (v182 : BitVec 32) (k0_hw58 : k0_chk58 i v12 v13 v182), ∀ (k0_h2 : k0_cond2 i v12 v13 = 1#1), 128 ∣ (k0_mult30 v182).toNat := fun i v12 v13 v182 k0_hw58 k0_h2 => k0_hw58.2.1 k0_h2
theorem k0_off58_inb : ∀ (i : grid0.Coords) (v12 : BitVec 32) (v13 : BitVec 32) (v182 : BitVec 32) (k0_hw58 : k0_chk58 i v12 v13 v182), ∀ (k0_h2 : k0_cond2 i v12 v13 = 1#1), ∀ a, (k0_off58 v182) a + S1x256.size a ≤ S1x2500.size a := fun i v12 v13 v182 k0_hw58 k0_h2 => k0_hw58.2.2 k0_h2

def k0_off59 (v180 : BitVec 32) : Fin 1 → Nat :=
  let v206 : Index := Scalar.indexCast v180
  ![v206.toNat]

def k0_chk57 (i : grid0.Coords) (v12 : BitVec 32) (v13 : BitVec 32) (v180 : BitVec 32) : Prop :=
  (∀ (k0_h2 : k0_cond2 i v12 v13 = 1#1), ∀ a, (k0_off57 v180) a + S1.size a ≤ S23.size a) ∧
  (∀ (k0_h2 : k0_cond2 i v12 v13 = 1#1), ∀ a, (k0_off59 v180) a + S1.size a ≤ S23.size a)
theorem k0_off57_inb : ∀ (i : grid0.Coords) (v12 : BitVec 32) (v13 : BitVec 32) (v180 : BitVec 32) (k0_hw57 : k0_chk57 i v12 v13 v180), ∀ (k0_h2 : k0_cond2 i v12 v13 = 1#1), ∀ a, (k0_off57 v180) a + S1.size a ≤ S23.size a := fun i v12 v13 v180 k0_hw57 k0_h2 => k0_hw57.1 k0_h2
theorem k0_off59_inb : ∀ (i : grid0.Coords) (v12 : BitVec 32) (v13 : BitVec 32) (v180 : BitVec 32) (k0_hw57 : k0_chk57 i v12 v13 v180), ∀ (k0_h2 : k0_cond2 i v12 v13 = 1#1), ∀ a, (k0_off59 v180) a + S1.size a ≤ S23.size a := fun i v12 v13 v180 k0_hw57 k0_h2 => k0_hw57.2 k0_h2

def k0_off60 (v180 : BitVec 32) : Fin 1 → Nat :=
  let v181 : Index := Scalar.indexCast v180
  ![v181.toNat]
def k0_cond3 (i : grid0.Coords) (v24 : BitVec 32) (v25 : BitVec 32) : BitVec 1 :=
  let arg0 : BitVec 32 := BitVec.ofNat 32 (i 0).val
  let c1_i32_10 : BitVec 32 := 1#32
  let v26 : BitVec 32 := Scalar.addi arg0 c1_i32_10
  let c128_i32_11 : BitVec 32 := 128#32
  let v27 : BitVec 32 := Scalar.muli v26 c128_i32_11
  let v28 : BitVec 1 := Scalar.cmpi .slt v24 v27
  let c128_i32_12 : BitVec 32 := 128#32
  let v29 : BitVec 32 := Scalar.muli arg0 c128_i32_12
  let v30 : BitVec 1 := Scalar.cmpi .sgt v25 v29
  let v31 : BitVec 1 := Scalar.andi v28 v30
  let v32 : BitVec 1 := Scalar.cmpi .sgt v25 v24
  let v33 : BitVec 1 := Scalar.andi v31 v32
  let v34 : BitVec 32 := Scalar.extui v33
  let c0_i32_13 : BitVec 32 := 0#32
  let v35 : BitVec 1 := Scalar.cmpi .ne v34 c0_i32_13
  v35

def k0_mult31 (v182 : BitVec 32) : BitVec 32 :=
  let c_m32_i32 : BitVec 32 := 4294967264#32
  let v183 : BitVec 32 := Scalar.andi v182 c_m32_i32
  v183

def k0_mult32 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off61 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk60 (i : grid0.Coords) (v24 : BitVec 32) (v25 : BitVec 32) (v182 : BitVec 32) : Prop :=
  (∀ (k0_h3 : k0_cond3 i v24 v25 = 1#1), 32 ∣ (k0_mult31 v182).toNat) ∧
  (∀ (k0_h3 : k0_cond3 i v24 v25 = 1#1), 128 ∣ (k0_mult32 v182).toNat) ∧
  (∀ (k0_h3 : k0_cond3 i v24 v25 = 1#1), ∀ a, (k0_off61 v182) a + S1x256.size a ≤ S1x2500.size a)
theorem k0_mult31_dvd : ∀ (i : grid0.Coords) (v24 : BitVec 32) (v25 : BitVec 32) (v182 : BitVec 32) (k0_hw60 : k0_chk60 i v24 v25 v182), ∀ (k0_h3 : k0_cond3 i v24 v25 = 1#1), 32 ∣ (k0_mult31 v182).toNat := fun i v24 v25 v182 k0_hw60 k0_h3 => k0_hw60.1 k0_h3
theorem k0_mult32_dvd : ∀ (i : grid0.Coords) (v24 : BitVec 32) (v25 : BitVec 32) (v182 : BitVec 32) (k0_hw60 : k0_chk60 i v24 v25 v182), ∀ (k0_h3 : k0_cond3 i v24 v25 = 1#1), 128 ∣ (k0_mult32 v182).toNat := fun i v24 v25 v182 k0_hw60 k0_h3 => k0_hw60.2.1 k0_h3
theorem k0_off61_inb : ∀ (i : grid0.Coords) (v24 : BitVec 32) (v25 : BitVec 32) (v182 : BitVec 32) (k0_hw60 : k0_chk60 i v24 v25 v182), ∀ (k0_h3 : k0_cond3 i v24 v25 = 1#1), ∀ a, (k0_off61 v182) a + S1x256.size a ≤ S1x2500.size a := fun i v24 v25 v182 k0_hw60 k0_h3 => k0_hw60.2.2 k0_h3

def k0_off62 (v180 : BitVec 32) : Fin 1 → Nat :=
  let v206 : Index := Scalar.indexCast v180
  ![v206.toNat]

def k0_chk59 (i : grid0.Coords) (v24 : BitVec 32) (v25 : BitVec 32) (v180 : BitVec 32) : Prop :=
  (∀ (k0_h3 : k0_cond3 i v24 v25 = 1#1), ∀ a, (k0_off60 v180) a + S1.size a ≤ S23.size a) ∧
  (∀ (k0_h3 : k0_cond3 i v24 v25 = 1#1), ∀ a, (k0_off62 v180) a + S1.size a ≤ S23.size a)
theorem k0_off60_inb : ∀ (i : grid0.Coords) (v24 : BitVec 32) (v25 : BitVec 32) (v180 : BitVec 32) (k0_hw59 : k0_chk59 i v24 v25 v180), ∀ (k0_h3 : k0_cond3 i v24 v25 = 1#1), ∀ a, (k0_off60 v180) a + S1.size a ≤ S23.size a := fun i v24 v25 v180 k0_hw59 k0_h3 => k0_hw59.1 k0_h3
theorem k0_off62_inb : ∀ (i : grid0.Coords) (v24 : BitVec 32) (v25 : BitVec 32) (v180 : BitVec 32) (k0_hw59 : k0_chk59 i v24 v25 v180), ∀ (k0_h3 : k0_cond3 i v24 v25 = 1#1), ∀ a, (k0_off62 v180) a + S1.size a ≤ S23.size a := fun i v24 v25 v180 k0_hw59 k0_h3 => k0_hw59.2 k0_h3

def k0_off63 (v180 : BitVec 32) : Fin 1 → Nat :=
  let v181 : Index := Scalar.indexCast v180
  ![v181.toNat]
def k0_cond4 (i : grid0.Coords) (v36 : BitVec 32) (v37 : BitVec 32) : BitVec 1 :=
  let arg0 : BitVec 32 := BitVec.ofNat 32 (i 0).val
  let c1_i32_15 : BitVec 32 := 1#32
  let v38 : BitVec 32 := Scalar.addi arg0 c1_i32_15
  let c128_i32_16 : BitVec 32 := 128#32
  let v39 : BitVec 32 := Scalar.muli v38 c128_i32_16
  let v40 : BitVec 1 := Scalar.cmpi .slt v36 v39
  let c128_i32_17 : BitVec 32 := 128#32
  let v41 : BitVec 32 := Scalar.muli arg0 c128_i32_17
  let v42 : BitVec 1 := Scalar.cmpi .sgt v37 v41
  let v43 : BitVec 1 := Scalar.andi v40 v42
  let v44 : BitVec 1 := Scalar.cmpi .sgt v37 v36
  let v45 : BitVec 1 := Scalar.andi v43 v44
  let v46 : BitVec 32 := Scalar.extui v45
  let c0_i32_18 : BitVec 32 := 0#32
  let v47 : BitVec 1 := Scalar.cmpi .ne v46 c0_i32_18
  v47

def k0_mult33 (v182 : BitVec 32) : BitVec 32 :=
  let c_m32_i32 : BitVec 32 := 4294967264#32
  let v183 : BitVec 32 := Scalar.andi v182 c_m32_i32
  v183

def k0_mult34 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off64 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk62 (i : grid0.Coords) (v36 : BitVec 32) (v37 : BitVec 32) (v182 : BitVec 32) : Prop :=
  (∀ (k0_h4 : k0_cond4 i v36 v37 = 1#1), 32 ∣ (k0_mult33 v182).toNat) ∧
  (∀ (k0_h4 : k0_cond4 i v36 v37 = 1#1), 128 ∣ (k0_mult34 v182).toNat) ∧
  (∀ (k0_h4 : k0_cond4 i v36 v37 = 1#1), ∀ a, (k0_off64 v182) a + S1x256.size a ≤ S1x2500.size a)
theorem k0_mult33_dvd : ∀ (i : grid0.Coords) (v36 : BitVec 32) (v37 : BitVec 32) (v182 : BitVec 32) (k0_hw62 : k0_chk62 i v36 v37 v182), ∀ (k0_h4 : k0_cond4 i v36 v37 = 1#1), 32 ∣ (k0_mult33 v182).toNat := fun i v36 v37 v182 k0_hw62 k0_h4 => k0_hw62.1 k0_h4
theorem k0_mult34_dvd : ∀ (i : grid0.Coords) (v36 : BitVec 32) (v37 : BitVec 32) (v182 : BitVec 32) (k0_hw62 : k0_chk62 i v36 v37 v182), ∀ (k0_h4 : k0_cond4 i v36 v37 = 1#1), 128 ∣ (k0_mult34 v182).toNat := fun i v36 v37 v182 k0_hw62 k0_h4 => k0_hw62.2.1 k0_h4
theorem k0_off64_inb : ∀ (i : grid0.Coords) (v36 : BitVec 32) (v37 : BitVec 32) (v182 : BitVec 32) (k0_hw62 : k0_chk62 i v36 v37 v182), ∀ (k0_h4 : k0_cond4 i v36 v37 = 1#1), ∀ a, (k0_off64 v182) a + S1x256.size a ≤ S1x2500.size a := fun i v36 v37 v182 k0_hw62 k0_h4 => k0_hw62.2.2 k0_h4

def k0_off65 (v180 : BitVec 32) : Fin 1 → Nat :=
  let v206 : Index := Scalar.indexCast v180
  ![v206.toNat]

def k0_chk61 (i : grid0.Coords) (v36 : BitVec 32) (v37 : BitVec 32) (v180 : BitVec 32) : Prop :=
  (∀ (k0_h4 : k0_cond4 i v36 v37 = 1#1), ∀ a, (k0_off63 v180) a + S1.size a ≤ S23.size a) ∧
  (∀ (k0_h4 : k0_cond4 i v36 v37 = 1#1), ∀ a, (k0_off65 v180) a + S1.size a ≤ S23.size a)
theorem k0_off63_inb : ∀ (i : grid0.Coords) (v36 : BitVec 32) (v37 : BitVec 32) (v180 : BitVec 32) (k0_hw61 : k0_chk61 i v36 v37 v180), ∀ (k0_h4 : k0_cond4 i v36 v37 = 1#1), ∀ a, (k0_off63 v180) a + S1.size a ≤ S23.size a := fun i v36 v37 v180 k0_hw61 k0_h4 => k0_hw61.1 k0_h4
theorem k0_off65_inb : ∀ (i : grid0.Coords) (v36 : BitVec 32) (v37 : BitVec 32) (v180 : BitVec 32) (k0_hw61 : k0_chk61 i v36 v37 v180), ∀ (k0_h4 : k0_cond4 i v36 v37 = 1#1), ∀ a, (k0_off65 v180) a + S1.size a ≤ S23.size a := fun i v36 v37 v180 k0_hw61 k0_h4 => k0_hw61.2 k0_h4

def k0_off66 (v180 : BitVec 32) : Fin 1 → Nat :=
  let v181 : Index := Scalar.indexCast v180
  ![v181.toNat]
def k0_cond5 (i : grid0.Coords) (v48 : BitVec 32) (v49 : BitVec 32) : BitVec 1 :=
  let arg0 : BitVec 32 := BitVec.ofNat 32 (i 0).val
  let c1_i32_20 : BitVec 32 := 1#32
  let v50 : BitVec 32 := Scalar.addi arg0 c1_i32_20
  let c128_i32_21 : BitVec 32 := 128#32
  let v51 : BitVec 32 := Scalar.muli v50 c128_i32_21
  let v52 : BitVec 1 := Scalar.cmpi .slt v48 v51
  let c128_i32_22 : BitVec 32 := 128#32
  let v53 : BitVec 32 := Scalar.muli arg0 c128_i32_22
  let v54 : BitVec 1 := Scalar.cmpi .sgt v49 v53
  let v55 : BitVec 1 := Scalar.andi v52 v54
  let v56 : BitVec 1 := Scalar.cmpi .sgt v49 v48
  let v57 : BitVec 1 := Scalar.andi v55 v56
  let v58 : BitVec 32 := Scalar.extui v57
  let c0_i32_23 : BitVec 32 := 0#32
  let v59 : BitVec 1 := Scalar.cmpi .ne v58 c0_i32_23
  v59

def k0_mult35 (v182 : BitVec 32) : BitVec 32 :=
  let c_m32_i32 : BitVec 32 := 4294967264#32
  let v183 : BitVec 32 := Scalar.andi v182 c_m32_i32
  v183

def k0_mult36 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off67 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk64 (i : grid0.Coords) (v48 : BitVec 32) (v49 : BitVec 32) (v182 : BitVec 32) : Prop :=
  (∀ (k0_h5 : k0_cond5 i v48 v49 = 1#1), 32 ∣ (k0_mult35 v182).toNat) ∧
  (∀ (k0_h5 : k0_cond5 i v48 v49 = 1#1), 128 ∣ (k0_mult36 v182).toNat) ∧
  (∀ (k0_h5 : k0_cond5 i v48 v49 = 1#1), ∀ a, (k0_off67 v182) a + S1x256.size a ≤ S1x2500.size a)
theorem k0_mult35_dvd : ∀ (i : grid0.Coords) (v48 : BitVec 32) (v49 : BitVec 32) (v182 : BitVec 32) (k0_hw64 : k0_chk64 i v48 v49 v182), ∀ (k0_h5 : k0_cond5 i v48 v49 = 1#1), 32 ∣ (k0_mult35 v182).toNat := fun i v48 v49 v182 k0_hw64 k0_h5 => k0_hw64.1 k0_h5
theorem k0_mult36_dvd : ∀ (i : grid0.Coords) (v48 : BitVec 32) (v49 : BitVec 32) (v182 : BitVec 32) (k0_hw64 : k0_chk64 i v48 v49 v182), ∀ (k0_h5 : k0_cond5 i v48 v49 = 1#1), 128 ∣ (k0_mult36 v182).toNat := fun i v48 v49 v182 k0_hw64 k0_h5 => k0_hw64.2.1 k0_h5
theorem k0_off67_inb : ∀ (i : grid0.Coords) (v48 : BitVec 32) (v49 : BitVec 32) (v182 : BitVec 32) (k0_hw64 : k0_chk64 i v48 v49 v182), ∀ (k0_h5 : k0_cond5 i v48 v49 = 1#1), ∀ a, (k0_off67 v182) a + S1x256.size a ≤ S1x2500.size a := fun i v48 v49 v182 k0_hw64 k0_h5 => k0_hw64.2.2 k0_h5

def k0_off68 (v180 : BitVec 32) : Fin 1 → Nat :=
  let v206 : Index := Scalar.indexCast v180
  ![v206.toNat]

def k0_chk63 (i : grid0.Coords) (v48 : BitVec 32) (v49 : BitVec 32) (v180 : BitVec 32) : Prop :=
  (∀ (k0_h5 : k0_cond5 i v48 v49 = 1#1), ∀ a, (k0_off66 v180) a + S1.size a ≤ S23.size a) ∧
  (∀ (k0_h5 : k0_cond5 i v48 v49 = 1#1), ∀ a, (k0_off68 v180) a + S1.size a ≤ S23.size a)
theorem k0_off66_inb : ∀ (i : grid0.Coords) (v48 : BitVec 32) (v49 : BitVec 32) (v180 : BitVec 32) (k0_hw63 : k0_chk63 i v48 v49 v180), ∀ (k0_h5 : k0_cond5 i v48 v49 = 1#1), ∀ a, (k0_off66 v180) a + S1.size a ≤ S23.size a := fun i v48 v49 v180 k0_hw63 k0_h5 => k0_hw63.1 k0_h5
theorem k0_off68_inb : ∀ (i : grid0.Coords) (v48 : BitVec 32) (v49 : BitVec 32) (v180 : BitVec 32) (k0_hw63 : k0_chk63 i v48 v49 v180), ∀ (k0_h5 : k0_cond5 i v48 v49 = 1#1), ∀ a, (k0_off68 v180) a + S1.size a ≤ S23.size a := fun i v48 v49 v180 k0_hw63 k0_h5 => k0_hw63.2 k0_h5

def k0_off69 (v180 : BitVec 32) : Fin 1 → Nat :=
  let v181 : Index := Scalar.indexCast v180
  ![v181.toNat]
def k0_cond6 (i : grid0.Coords) (v60 : BitVec 32) (v61 : BitVec 32) : BitVec 1 :=
  let arg0 : BitVec 32 := BitVec.ofNat 32 (i 0).val
  let c1_i32_25 : BitVec 32 := 1#32
  let v62 : BitVec 32 := Scalar.addi arg0 c1_i32_25
  let c128_i32_26 : BitVec 32 := 128#32
  let v63 : BitVec 32 := Scalar.muli v62 c128_i32_26
  let v64 : BitVec 1 := Scalar.cmpi .slt v60 v63
  let c128_i32_27 : BitVec 32 := 128#32
  let v65 : BitVec 32 := Scalar.muli arg0 c128_i32_27
  let v66 : BitVec 1 := Scalar.cmpi .sgt v61 v65
  let v67 : BitVec 1 := Scalar.andi v64 v66
  let v68 : BitVec 1 := Scalar.cmpi .sgt v61 v60
  let v69 : BitVec 1 := Scalar.andi v67 v68
  let v70 : BitVec 32 := Scalar.extui v69
  let c0_i32_28 : BitVec 32 := 0#32
  let v71 : BitVec 1 := Scalar.cmpi .ne v70 c0_i32_28
  v71

def k0_mult37 (v182 : BitVec 32) : BitVec 32 :=
  let c_m32_i32 : BitVec 32 := 4294967264#32
  let v183 : BitVec 32 := Scalar.andi v182 c_m32_i32
  v183

def k0_mult38 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off70 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk66 (i : grid0.Coords) (v60 : BitVec 32) (v61 : BitVec 32) (v182 : BitVec 32) : Prop :=
  (∀ (k0_h6 : k0_cond6 i v60 v61 = 1#1), 32 ∣ (k0_mult37 v182).toNat) ∧
  (∀ (k0_h6 : k0_cond6 i v60 v61 = 1#1), 128 ∣ (k0_mult38 v182).toNat) ∧
  (∀ (k0_h6 : k0_cond6 i v60 v61 = 1#1), ∀ a, (k0_off70 v182) a + S1x256.size a ≤ S1x2500.size a)
theorem k0_mult37_dvd : ∀ (i : grid0.Coords) (v60 : BitVec 32) (v61 : BitVec 32) (v182 : BitVec 32) (k0_hw66 : k0_chk66 i v60 v61 v182), ∀ (k0_h6 : k0_cond6 i v60 v61 = 1#1), 32 ∣ (k0_mult37 v182).toNat := fun i v60 v61 v182 k0_hw66 k0_h6 => k0_hw66.1 k0_h6
theorem k0_mult38_dvd : ∀ (i : grid0.Coords) (v60 : BitVec 32) (v61 : BitVec 32) (v182 : BitVec 32) (k0_hw66 : k0_chk66 i v60 v61 v182), ∀ (k0_h6 : k0_cond6 i v60 v61 = 1#1), 128 ∣ (k0_mult38 v182).toNat := fun i v60 v61 v182 k0_hw66 k0_h6 => k0_hw66.2.1 k0_h6
theorem k0_off70_inb : ∀ (i : grid0.Coords) (v60 : BitVec 32) (v61 : BitVec 32) (v182 : BitVec 32) (k0_hw66 : k0_chk66 i v60 v61 v182), ∀ (k0_h6 : k0_cond6 i v60 v61 = 1#1), ∀ a, (k0_off70 v182) a + S1x256.size a ≤ S1x2500.size a := fun i v60 v61 v182 k0_hw66 k0_h6 => k0_hw66.2.2 k0_h6

def k0_off71 (v180 : BitVec 32) : Fin 1 → Nat :=
  let v206 : Index := Scalar.indexCast v180
  ![v206.toNat]

def k0_chk65 (i : grid0.Coords) (v60 : BitVec 32) (v61 : BitVec 32) (v180 : BitVec 32) : Prop :=
  (∀ (k0_h6 : k0_cond6 i v60 v61 = 1#1), ∀ a, (k0_off69 v180) a + S1.size a ≤ S23.size a) ∧
  (∀ (k0_h6 : k0_cond6 i v60 v61 = 1#1), ∀ a, (k0_off71 v180) a + S1.size a ≤ S23.size a)
theorem k0_off69_inb : ∀ (i : grid0.Coords) (v60 : BitVec 32) (v61 : BitVec 32) (v180 : BitVec 32) (k0_hw65 : k0_chk65 i v60 v61 v180), ∀ (k0_h6 : k0_cond6 i v60 v61 = 1#1), ∀ a, (k0_off69 v180) a + S1.size a ≤ S23.size a := fun i v60 v61 v180 k0_hw65 k0_h6 => k0_hw65.1 k0_h6
theorem k0_off71_inb : ∀ (i : grid0.Coords) (v60 : BitVec 32) (v61 : BitVec 32) (v180 : BitVec 32) (k0_hw65 : k0_chk65 i v60 v61 v180), ∀ (k0_h6 : k0_cond6 i v60 v61 = 1#1), ∀ a, (k0_off71 v180) a + S1.size a ≤ S23.size a := fun i v60 v61 v180 k0_hw65 k0_h6 => k0_hw65.2 k0_h6

def k0_off72 (v180 : BitVec 32) : Fin 1 → Nat :=
  let v181 : Index := Scalar.indexCast v180
  ![v181.toNat]
def k0_cond7 (i : grid0.Coords) (v72 : BitVec 32) (v73 : BitVec 32) : BitVec 1 :=
  let arg0 : BitVec 32 := BitVec.ofNat 32 (i 0).val
  let c1_i32_30 : BitVec 32 := 1#32
  let v74 : BitVec 32 := Scalar.addi arg0 c1_i32_30
  let c128_i32_31 : BitVec 32 := 128#32
  let v75 : BitVec 32 := Scalar.muli v74 c128_i32_31
  let v76 : BitVec 1 := Scalar.cmpi .slt v72 v75
  let c128_i32_32 : BitVec 32 := 128#32
  let v77 : BitVec 32 := Scalar.muli arg0 c128_i32_32
  let v78 : BitVec 1 := Scalar.cmpi .sgt v73 v77
  let v79 : BitVec 1 := Scalar.andi v76 v78
  let v80 : BitVec 1 := Scalar.cmpi .sgt v73 v72
  let v81 : BitVec 1 := Scalar.andi v79 v80
  let v82 : BitVec 32 := Scalar.extui v81
  let c0_i32_33 : BitVec 32 := 0#32
  let v83 : BitVec 1 := Scalar.cmpi .ne v82 c0_i32_33
  v83

def k0_mult39 (v182 : BitVec 32) : BitVec 32 :=
  let c_m32_i32 : BitVec 32 := 4294967264#32
  let v183 : BitVec 32 := Scalar.andi v182 c_m32_i32
  v183

def k0_mult40 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off73 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk68 (i : grid0.Coords) (v72 : BitVec 32) (v73 : BitVec 32) (v182 : BitVec 32) : Prop :=
  (∀ (k0_h7 : k0_cond7 i v72 v73 = 1#1), 32 ∣ (k0_mult39 v182).toNat) ∧
  (∀ (k0_h7 : k0_cond7 i v72 v73 = 1#1), 128 ∣ (k0_mult40 v182).toNat) ∧
  (∀ (k0_h7 : k0_cond7 i v72 v73 = 1#1), ∀ a, (k0_off73 v182) a + S1x256.size a ≤ S1x2500.size a)
theorem k0_mult39_dvd : ∀ (i : grid0.Coords) (v72 : BitVec 32) (v73 : BitVec 32) (v182 : BitVec 32) (k0_hw68 : k0_chk68 i v72 v73 v182), ∀ (k0_h7 : k0_cond7 i v72 v73 = 1#1), 32 ∣ (k0_mult39 v182).toNat := fun i v72 v73 v182 k0_hw68 k0_h7 => k0_hw68.1 k0_h7
theorem k0_mult40_dvd : ∀ (i : grid0.Coords) (v72 : BitVec 32) (v73 : BitVec 32) (v182 : BitVec 32) (k0_hw68 : k0_chk68 i v72 v73 v182), ∀ (k0_h7 : k0_cond7 i v72 v73 = 1#1), 128 ∣ (k0_mult40 v182).toNat := fun i v72 v73 v182 k0_hw68 k0_h7 => k0_hw68.2.1 k0_h7
theorem k0_off73_inb : ∀ (i : grid0.Coords) (v72 : BitVec 32) (v73 : BitVec 32) (v182 : BitVec 32) (k0_hw68 : k0_chk68 i v72 v73 v182), ∀ (k0_h7 : k0_cond7 i v72 v73 = 1#1), ∀ a, (k0_off73 v182) a + S1x256.size a ≤ S1x2500.size a := fun i v72 v73 v182 k0_hw68 k0_h7 => k0_hw68.2.2 k0_h7

def k0_off74 (v180 : BitVec 32) : Fin 1 → Nat :=
  let v206 : Index := Scalar.indexCast v180
  ![v206.toNat]

def k0_chk67 (i : grid0.Coords) (v72 : BitVec 32) (v73 : BitVec 32) (v180 : BitVec 32) : Prop :=
  (∀ (k0_h7 : k0_cond7 i v72 v73 = 1#1), ∀ a, (k0_off72 v180) a + S1.size a ≤ S23.size a) ∧
  (∀ (k0_h7 : k0_cond7 i v72 v73 = 1#1), ∀ a, (k0_off74 v180) a + S1.size a ≤ S23.size a)
theorem k0_off72_inb : ∀ (i : grid0.Coords) (v72 : BitVec 32) (v73 : BitVec 32) (v180 : BitVec 32) (k0_hw67 : k0_chk67 i v72 v73 v180), ∀ (k0_h7 : k0_cond7 i v72 v73 = 1#1), ∀ a, (k0_off72 v180) a + S1.size a ≤ S23.size a := fun i v72 v73 v180 k0_hw67 k0_h7 => k0_hw67.1 k0_h7
theorem k0_off74_inb : ∀ (i : grid0.Coords) (v72 : BitVec 32) (v73 : BitVec 32) (v180 : BitVec 32) (k0_hw67 : k0_chk67 i v72 v73 v180), ∀ (k0_h7 : k0_cond7 i v72 v73 = 1#1), ∀ a, (k0_off74 v180) a + S1.size a ≤ S23.size a := fun i v72 v73 v180 k0_hw67 k0_h7 => k0_hw67.2 k0_h7

def k0_off75 (v180 : BitVec 32) : Fin 1 → Nat :=
  let v181 : Index := Scalar.indexCast v180
  ![v181.toNat]
def k0_cond8 (i : grid0.Coords) (v84 : BitVec 32) (v85 : BitVec 32) : BitVec 1 :=
  let arg0 : BitVec 32 := BitVec.ofNat 32 (i 0).val
  let c1_i32_35 : BitVec 32 := 1#32
  let v86 : BitVec 32 := Scalar.addi arg0 c1_i32_35
  let c128_i32_36 : BitVec 32 := 128#32
  let v87 : BitVec 32 := Scalar.muli v86 c128_i32_36
  let v88 : BitVec 1 := Scalar.cmpi .slt v84 v87
  let c128_i32_37 : BitVec 32 := 128#32
  let v89 : BitVec 32 := Scalar.muli arg0 c128_i32_37
  let v90 : BitVec 1 := Scalar.cmpi .sgt v85 v89
  let v91 : BitVec 1 := Scalar.andi v88 v90
  let v92 : BitVec 1 := Scalar.cmpi .sgt v85 v84
  let v93 : BitVec 1 := Scalar.andi v91 v92
  let v94 : BitVec 32 := Scalar.extui v93
  let c0_i32_38 : BitVec 32 := 0#32
  let v95 : BitVec 1 := Scalar.cmpi .ne v94 c0_i32_38
  v95

def k0_mult41 (v182 : BitVec 32) : BitVec 32 :=
  let c_m32_i32 : BitVec 32 := 4294967264#32
  let v183 : BitVec 32 := Scalar.andi v182 c_m32_i32
  v183

def k0_mult42 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off76 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk70 (i : grid0.Coords) (v84 : BitVec 32) (v85 : BitVec 32) (v182 : BitVec 32) : Prop :=
  (∀ (k0_h8 : k0_cond8 i v84 v85 = 1#1), 32 ∣ (k0_mult41 v182).toNat) ∧
  (∀ (k0_h8 : k0_cond8 i v84 v85 = 1#1), 128 ∣ (k0_mult42 v182).toNat) ∧
  (∀ (k0_h8 : k0_cond8 i v84 v85 = 1#1), ∀ a, (k0_off76 v182) a + S1x256.size a ≤ S1x2500.size a)
theorem k0_mult41_dvd : ∀ (i : grid0.Coords) (v84 : BitVec 32) (v85 : BitVec 32) (v182 : BitVec 32) (k0_hw70 : k0_chk70 i v84 v85 v182), ∀ (k0_h8 : k0_cond8 i v84 v85 = 1#1), 32 ∣ (k0_mult41 v182).toNat := fun i v84 v85 v182 k0_hw70 k0_h8 => k0_hw70.1 k0_h8
theorem k0_mult42_dvd : ∀ (i : grid0.Coords) (v84 : BitVec 32) (v85 : BitVec 32) (v182 : BitVec 32) (k0_hw70 : k0_chk70 i v84 v85 v182), ∀ (k0_h8 : k0_cond8 i v84 v85 = 1#1), 128 ∣ (k0_mult42 v182).toNat := fun i v84 v85 v182 k0_hw70 k0_h8 => k0_hw70.2.1 k0_h8
theorem k0_off76_inb : ∀ (i : grid0.Coords) (v84 : BitVec 32) (v85 : BitVec 32) (v182 : BitVec 32) (k0_hw70 : k0_chk70 i v84 v85 v182), ∀ (k0_h8 : k0_cond8 i v84 v85 = 1#1), ∀ a, (k0_off76 v182) a + S1x256.size a ≤ S1x2500.size a := fun i v84 v85 v182 k0_hw70 k0_h8 => k0_hw70.2.2 k0_h8

def k0_off77 (v180 : BitVec 32) : Fin 1 → Nat :=
  let v206 : Index := Scalar.indexCast v180
  ![v206.toNat]

def k0_chk69 (i : grid0.Coords) (v84 : BitVec 32) (v85 : BitVec 32) (v180 : BitVec 32) : Prop :=
  (∀ (k0_h8 : k0_cond8 i v84 v85 = 1#1), ∀ a, (k0_off75 v180) a + S1.size a ≤ S23.size a) ∧
  (∀ (k0_h8 : k0_cond8 i v84 v85 = 1#1), ∀ a, (k0_off77 v180) a + S1.size a ≤ S23.size a)
theorem k0_off75_inb : ∀ (i : grid0.Coords) (v84 : BitVec 32) (v85 : BitVec 32) (v180 : BitVec 32) (k0_hw69 : k0_chk69 i v84 v85 v180), ∀ (k0_h8 : k0_cond8 i v84 v85 = 1#1), ∀ a, (k0_off75 v180) a + S1.size a ≤ S23.size a := fun i v84 v85 v180 k0_hw69 k0_h8 => k0_hw69.1 k0_h8
theorem k0_off77_inb : ∀ (i : grid0.Coords) (v84 : BitVec 32) (v85 : BitVec 32) (v180 : BitVec 32) (k0_hw69 : k0_chk69 i v84 v85 v180), ∀ (k0_h8 : k0_cond8 i v84 v85 = 1#1), ∀ a, (k0_off77 v180) a + S1.size a ≤ S23.size a := fun i v84 v85 v180 k0_hw69 k0_h8 => k0_hw69.2 k0_h8

def k0_off78 (v180 : BitVec 32) : Fin 1 → Nat :=
  let v181 : Index := Scalar.indexCast v180
  ![v181.toNat]
def k0_cond9 (i : grid0.Coords) (v96 : BitVec 32) (v97 : BitVec 32) : BitVec 1 :=
  let arg0 : BitVec 32 := BitVec.ofNat 32 (i 0).val
  let c1_i32_40 : BitVec 32 := 1#32
  let v98 : BitVec 32 := Scalar.addi arg0 c1_i32_40
  let c128_i32_41 : BitVec 32 := 128#32
  let v99 : BitVec 32 := Scalar.muli v98 c128_i32_41
  let v100 : BitVec 1 := Scalar.cmpi .slt v96 v99
  let c128_i32_42 : BitVec 32 := 128#32
  let v101 : BitVec 32 := Scalar.muli arg0 c128_i32_42
  let v102 : BitVec 1 := Scalar.cmpi .sgt v97 v101
  let v103 : BitVec 1 := Scalar.andi v100 v102
  let v104 : BitVec 1 := Scalar.cmpi .sgt v97 v96
  let v105 : BitVec 1 := Scalar.andi v103 v104
  let v106 : BitVec 32 := Scalar.extui v105
  let c0_i32_43 : BitVec 32 := 0#32
  let v107 : BitVec 1 := Scalar.cmpi .ne v106 c0_i32_43
  v107

def k0_mult43 (v182 : BitVec 32) : BitVec 32 :=
  let c_m32_i32 : BitVec 32 := 4294967264#32
  let v183 : BitVec 32 := Scalar.andi v182 c_m32_i32
  v183

def k0_mult44 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off79 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk72 (i : grid0.Coords) (v96 : BitVec 32) (v97 : BitVec 32) (v182 : BitVec 32) : Prop :=
  (∀ (k0_h9 : k0_cond9 i v96 v97 = 1#1), 32 ∣ (k0_mult43 v182).toNat) ∧
  (∀ (k0_h9 : k0_cond9 i v96 v97 = 1#1), 128 ∣ (k0_mult44 v182).toNat) ∧
  (∀ (k0_h9 : k0_cond9 i v96 v97 = 1#1), ∀ a, (k0_off79 v182) a + S1x256.size a ≤ S1x2500.size a)
theorem k0_mult43_dvd : ∀ (i : grid0.Coords) (v96 : BitVec 32) (v97 : BitVec 32) (v182 : BitVec 32) (k0_hw72 : k0_chk72 i v96 v97 v182), ∀ (k0_h9 : k0_cond9 i v96 v97 = 1#1), 32 ∣ (k0_mult43 v182).toNat := fun i v96 v97 v182 k0_hw72 k0_h9 => k0_hw72.1 k0_h9
theorem k0_mult44_dvd : ∀ (i : grid0.Coords) (v96 : BitVec 32) (v97 : BitVec 32) (v182 : BitVec 32) (k0_hw72 : k0_chk72 i v96 v97 v182), ∀ (k0_h9 : k0_cond9 i v96 v97 = 1#1), 128 ∣ (k0_mult44 v182).toNat := fun i v96 v97 v182 k0_hw72 k0_h9 => k0_hw72.2.1 k0_h9
theorem k0_off79_inb : ∀ (i : grid0.Coords) (v96 : BitVec 32) (v97 : BitVec 32) (v182 : BitVec 32) (k0_hw72 : k0_chk72 i v96 v97 v182), ∀ (k0_h9 : k0_cond9 i v96 v97 = 1#1), ∀ a, (k0_off79 v182) a + S1x256.size a ≤ S1x2500.size a := fun i v96 v97 v182 k0_hw72 k0_h9 => k0_hw72.2.2 k0_h9

def k0_off80 (v180 : BitVec 32) : Fin 1 → Nat :=
  let v206 : Index := Scalar.indexCast v180
  ![v206.toNat]

def k0_chk71 (i : grid0.Coords) (v96 : BitVec 32) (v97 : BitVec 32) (v180 : BitVec 32) : Prop :=
  (∀ (k0_h9 : k0_cond9 i v96 v97 = 1#1), ∀ a, (k0_off78 v180) a + S1.size a ≤ S23.size a) ∧
  (∀ (k0_h9 : k0_cond9 i v96 v97 = 1#1), ∀ a, (k0_off80 v180) a + S1.size a ≤ S23.size a)
theorem k0_off78_inb : ∀ (i : grid0.Coords) (v96 : BitVec 32) (v97 : BitVec 32) (v180 : BitVec 32) (k0_hw71 : k0_chk71 i v96 v97 v180), ∀ (k0_h9 : k0_cond9 i v96 v97 = 1#1), ∀ a, (k0_off78 v180) a + S1.size a ≤ S23.size a := fun i v96 v97 v180 k0_hw71 k0_h9 => k0_hw71.1 k0_h9
theorem k0_off80_inb : ∀ (i : grid0.Coords) (v96 : BitVec 32) (v97 : BitVec 32) (v180 : BitVec 32) (k0_hw71 : k0_chk71 i v96 v97 v180), ∀ (k0_h9 : k0_cond9 i v96 v97 = 1#1), ∀ a, (k0_off80 v180) a + S1.size a ≤ S23.size a := fun i v96 v97 v180 k0_hw71 k0_h9 => k0_hw71.2 k0_h9

def k0_off81 (v180 : BitVec 32) : Fin 1 → Nat :=
  let v181 : Index := Scalar.indexCast v180
  ![v181.toNat]
def k0_cond10 (i : grid0.Coords) (v108 : BitVec 32) (v109 : BitVec 32) : BitVec 1 :=
  let arg0 : BitVec 32 := BitVec.ofNat 32 (i 0).val
  let c1_i32_45 : BitVec 32 := 1#32
  let v110 : BitVec 32 := Scalar.addi arg0 c1_i32_45
  let c128_i32_46 : BitVec 32 := 128#32
  let v111 : BitVec 32 := Scalar.muli v110 c128_i32_46
  let v112 : BitVec 1 := Scalar.cmpi .slt v108 v111
  let c128_i32_47 : BitVec 32 := 128#32
  let v113 : BitVec 32 := Scalar.muli arg0 c128_i32_47
  let v114 : BitVec 1 := Scalar.cmpi .sgt v109 v113
  let v115 : BitVec 1 := Scalar.andi v112 v114
  let v116 : BitVec 1 := Scalar.cmpi .sgt v109 v108
  let v117 : BitVec 1 := Scalar.andi v115 v116
  let v118 : BitVec 32 := Scalar.extui v117
  let c0_i32_48 : BitVec 32 := 0#32
  let v119 : BitVec 1 := Scalar.cmpi .ne v118 c0_i32_48
  v119

def k0_mult45 (v182 : BitVec 32) : BitVec 32 :=
  let c_m32_i32 : BitVec 32 := 4294967264#32
  let v183 : BitVec 32 := Scalar.andi v182 c_m32_i32
  v183

def k0_mult46 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off82 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk74 (i : grid0.Coords) (v108 : BitVec 32) (v109 : BitVec 32) (v182 : BitVec 32) : Prop :=
  (∀ (k0_h10 : k0_cond10 i v108 v109 = 1#1), 32 ∣ (k0_mult45 v182).toNat) ∧
  (∀ (k0_h10 : k0_cond10 i v108 v109 = 1#1), 128 ∣ (k0_mult46 v182).toNat) ∧
  (∀ (k0_h10 : k0_cond10 i v108 v109 = 1#1), ∀ a, (k0_off82 v182) a + S1x256.size a ≤ S1x2500.size a)
theorem k0_mult45_dvd : ∀ (i : grid0.Coords) (v108 : BitVec 32) (v109 : BitVec 32) (v182 : BitVec 32) (k0_hw74 : k0_chk74 i v108 v109 v182), ∀ (k0_h10 : k0_cond10 i v108 v109 = 1#1), 32 ∣ (k0_mult45 v182).toNat := fun i v108 v109 v182 k0_hw74 k0_h10 => k0_hw74.1 k0_h10
theorem k0_mult46_dvd : ∀ (i : grid0.Coords) (v108 : BitVec 32) (v109 : BitVec 32) (v182 : BitVec 32) (k0_hw74 : k0_chk74 i v108 v109 v182), ∀ (k0_h10 : k0_cond10 i v108 v109 = 1#1), 128 ∣ (k0_mult46 v182).toNat := fun i v108 v109 v182 k0_hw74 k0_h10 => k0_hw74.2.1 k0_h10
theorem k0_off82_inb : ∀ (i : grid0.Coords) (v108 : BitVec 32) (v109 : BitVec 32) (v182 : BitVec 32) (k0_hw74 : k0_chk74 i v108 v109 v182), ∀ (k0_h10 : k0_cond10 i v108 v109 = 1#1), ∀ a, (k0_off82 v182) a + S1x256.size a ≤ S1x2500.size a := fun i v108 v109 v182 k0_hw74 k0_h10 => k0_hw74.2.2 k0_h10

def k0_off83 (v180 : BitVec 32) : Fin 1 → Nat :=
  let v206 : Index := Scalar.indexCast v180
  ![v206.toNat]

def k0_chk73 (i : grid0.Coords) (v108 : BitVec 32) (v109 : BitVec 32) (v180 : BitVec 32) : Prop :=
  (∀ (k0_h10 : k0_cond10 i v108 v109 = 1#1), ∀ a, (k0_off81 v180) a + S1.size a ≤ S23.size a) ∧
  (∀ (k0_h10 : k0_cond10 i v108 v109 = 1#1), ∀ a, (k0_off83 v180) a + S1.size a ≤ S23.size a)
theorem k0_off81_inb : ∀ (i : grid0.Coords) (v108 : BitVec 32) (v109 : BitVec 32) (v180 : BitVec 32) (k0_hw73 : k0_chk73 i v108 v109 v180), ∀ (k0_h10 : k0_cond10 i v108 v109 = 1#1), ∀ a, (k0_off81 v180) a + S1.size a ≤ S23.size a := fun i v108 v109 v180 k0_hw73 k0_h10 => k0_hw73.1 k0_h10
theorem k0_off83_inb : ∀ (i : grid0.Coords) (v108 : BitVec 32) (v109 : BitVec 32) (v180 : BitVec 32) (k0_hw73 : k0_chk73 i v108 v109 v180), ∀ (k0_h10 : k0_cond10 i v108 v109 = 1#1), ∀ a, (k0_off83 v180) a + S1.size a ≤ S23.size a := fun i v108 v109 v180 k0_hw73 k0_h10 => k0_hw73.2 k0_h10

def k0_off84 (v180 : BitVec 32) : Fin 1 → Nat :=
  let v181 : Index := Scalar.indexCast v180
  ![v181.toNat]
def k0_cond11 (i : grid0.Coords) (v120 : BitVec 32) (v121 : BitVec 32) : BitVec 1 :=
  let arg0 : BitVec 32 := BitVec.ofNat 32 (i 0).val
  let c1_i32_50 : BitVec 32 := 1#32
  let v122 : BitVec 32 := Scalar.addi arg0 c1_i32_50
  let c128_i32_51 : BitVec 32 := 128#32
  let v123 : BitVec 32 := Scalar.muli v122 c128_i32_51
  let v124 : BitVec 1 := Scalar.cmpi .slt v120 v123
  let c128_i32_52 : BitVec 32 := 128#32
  let v125 : BitVec 32 := Scalar.muli arg0 c128_i32_52
  let v126 : BitVec 1 := Scalar.cmpi .sgt v121 v125
  let v127 : BitVec 1 := Scalar.andi v124 v126
  let v128 : BitVec 1 := Scalar.cmpi .sgt v121 v120
  let v129 : BitVec 1 := Scalar.andi v127 v128
  let v130 : BitVec 32 := Scalar.extui v129
  let c0_i32_53 : BitVec 32 := 0#32
  let v131 : BitVec 1 := Scalar.cmpi .ne v130 c0_i32_53
  v131

def k0_mult47 (v182 : BitVec 32) : BitVec 32 :=
  let c_m32_i32 : BitVec 32 := 4294967264#32
  let v183 : BitVec 32 := Scalar.andi v182 c_m32_i32
  v183

def k0_mult48 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off85 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk76 (i : grid0.Coords) (v120 : BitVec 32) (v121 : BitVec 32) (v182 : BitVec 32) : Prop :=
  (∀ (k0_h11 : k0_cond11 i v120 v121 = 1#1), 32 ∣ (k0_mult47 v182).toNat) ∧
  (∀ (k0_h11 : k0_cond11 i v120 v121 = 1#1), 128 ∣ (k0_mult48 v182).toNat) ∧
  (∀ (k0_h11 : k0_cond11 i v120 v121 = 1#1), ∀ a, (k0_off85 v182) a + S1x256.size a ≤ S1x2500.size a)
theorem k0_mult47_dvd : ∀ (i : grid0.Coords) (v120 : BitVec 32) (v121 : BitVec 32) (v182 : BitVec 32) (k0_hw76 : k0_chk76 i v120 v121 v182), ∀ (k0_h11 : k0_cond11 i v120 v121 = 1#1), 32 ∣ (k0_mult47 v182).toNat := fun i v120 v121 v182 k0_hw76 k0_h11 => k0_hw76.1 k0_h11
theorem k0_mult48_dvd : ∀ (i : grid0.Coords) (v120 : BitVec 32) (v121 : BitVec 32) (v182 : BitVec 32) (k0_hw76 : k0_chk76 i v120 v121 v182), ∀ (k0_h11 : k0_cond11 i v120 v121 = 1#1), 128 ∣ (k0_mult48 v182).toNat := fun i v120 v121 v182 k0_hw76 k0_h11 => k0_hw76.2.1 k0_h11
theorem k0_off85_inb : ∀ (i : grid0.Coords) (v120 : BitVec 32) (v121 : BitVec 32) (v182 : BitVec 32) (k0_hw76 : k0_chk76 i v120 v121 v182), ∀ (k0_h11 : k0_cond11 i v120 v121 = 1#1), ∀ a, (k0_off85 v182) a + S1x256.size a ≤ S1x2500.size a := fun i v120 v121 v182 k0_hw76 k0_h11 => k0_hw76.2.2 k0_h11

def k0_off86 (v180 : BitVec 32) : Fin 1 → Nat :=
  let v206 : Index := Scalar.indexCast v180
  ![v206.toNat]

def k0_chk75 (i : grid0.Coords) (v120 : BitVec 32) (v121 : BitVec 32) (v180 : BitVec 32) : Prop :=
  (∀ (k0_h11 : k0_cond11 i v120 v121 = 1#1), ∀ a, (k0_off84 v180) a + S1.size a ≤ S23.size a) ∧
  (∀ (k0_h11 : k0_cond11 i v120 v121 = 1#1), ∀ a, (k0_off86 v180) a + S1.size a ≤ S23.size a)
theorem k0_off84_inb : ∀ (i : grid0.Coords) (v120 : BitVec 32) (v121 : BitVec 32) (v180 : BitVec 32) (k0_hw75 : k0_chk75 i v120 v121 v180), ∀ (k0_h11 : k0_cond11 i v120 v121 = 1#1), ∀ a, (k0_off84 v180) a + S1.size a ≤ S23.size a := fun i v120 v121 v180 k0_hw75 k0_h11 => k0_hw75.1 k0_h11
theorem k0_off86_inb : ∀ (i : grid0.Coords) (v120 : BitVec 32) (v121 : BitVec 32) (v180 : BitVec 32) (k0_hw75 : k0_chk75 i v120 v121 v180), ∀ (k0_h11 : k0_cond11 i v120 v121 = 1#1), ∀ a, (k0_off86 v180) a + S1.size a ≤ S23.size a := fun i v120 v121 v180 k0_hw75 k0_h11 => k0_hw75.2 k0_h11

def k0_off87 (v180 : BitVec 32) : Fin 1 → Nat :=
  let v181 : Index := Scalar.indexCast v180
  ![v181.toNat]
def k0_cond12 (i : grid0.Coords) (v132 : BitVec 32) (v133 : BitVec 32) : BitVec 1 :=
  let arg0 : BitVec 32 := BitVec.ofNat 32 (i 0).val
  let c1_i32_55 : BitVec 32 := 1#32
  let v134 : BitVec 32 := Scalar.addi arg0 c1_i32_55
  let c128_i32_56 : BitVec 32 := 128#32
  let v135 : BitVec 32 := Scalar.muli v134 c128_i32_56
  let v136 : BitVec 1 := Scalar.cmpi .slt v132 v135
  let c128_i32_57 : BitVec 32 := 128#32
  let v137 : BitVec 32 := Scalar.muli arg0 c128_i32_57
  let v138 : BitVec 1 := Scalar.cmpi .sgt v133 v137
  let v139 : BitVec 1 := Scalar.andi v136 v138
  let v140 : BitVec 1 := Scalar.cmpi .sgt v133 v132
  let v141 : BitVec 1 := Scalar.andi v139 v140
  let v142 : BitVec 32 := Scalar.extui v141
  let c0_i32_58 : BitVec 32 := 0#32
  let v143 : BitVec 1 := Scalar.cmpi .ne v142 c0_i32_58
  v143

def k0_mult49 (v182 : BitVec 32) : BitVec 32 :=
  let c_m32_i32 : BitVec 32 := 4294967264#32
  let v183 : BitVec 32 := Scalar.andi v182 c_m32_i32
  v183

def k0_mult50 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off88 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk78 (i : grid0.Coords) (v132 : BitVec 32) (v133 : BitVec 32) (v182 : BitVec 32) : Prop :=
  (∀ (k0_h12 : k0_cond12 i v132 v133 = 1#1), 32 ∣ (k0_mult49 v182).toNat) ∧
  (∀ (k0_h12 : k0_cond12 i v132 v133 = 1#1), 128 ∣ (k0_mult50 v182).toNat) ∧
  (∀ (k0_h12 : k0_cond12 i v132 v133 = 1#1), ∀ a, (k0_off88 v182) a + S1x256.size a ≤ S1x2500.size a)
theorem k0_mult49_dvd : ∀ (i : grid0.Coords) (v132 : BitVec 32) (v133 : BitVec 32) (v182 : BitVec 32) (k0_hw78 : k0_chk78 i v132 v133 v182), ∀ (k0_h12 : k0_cond12 i v132 v133 = 1#1), 32 ∣ (k0_mult49 v182).toNat := fun i v132 v133 v182 k0_hw78 k0_h12 => k0_hw78.1 k0_h12
theorem k0_mult50_dvd : ∀ (i : grid0.Coords) (v132 : BitVec 32) (v133 : BitVec 32) (v182 : BitVec 32) (k0_hw78 : k0_chk78 i v132 v133 v182), ∀ (k0_h12 : k0_cond12 i v132 v133 = 1#1), 128 ∣ (k0_mult50 v182).toNat := fun i v132 v133 v182 k0_hw78 k0_h12 => k0_hw78.2.1 k0_h12
theorem k0_off88_inb : ∀ (i : grid0.Coords) (v132 : BitVec 32) (v133 : BitVec 32) (v182 : BitVec 32) (k0_hw78 : k0_chk78 i v132 v133 v182), ∀ (k0_h12 : k0_cond12 i v132 v133 = 1#1), ∀ a, (k0_off88 v182) a + S1x256.size a ≤ S1x2500.size a := fun i v132 v133 v182 k0_hw78 k0_h12 => k0_hw78.2.2 k0_h12

def k0_off89 (v180 : BitVec 32) : Fin 1 → Nat :=
  let v206 : Index := Scalar.indexCast v180
  ![v206.toNat]

def k0_chk77 (i : grid0.Coords) (v132 : BitVec 32) (v133 : BitVec 32) (v180 : BitVec 32) : Prop :=
  (∀ (k0_h12 : k0_cond12 i v132 v133 = 1#1), ∀ a, (k0_off87 v180) a + S1.size a ≤ S23.size a) ∧
  (∀ (k0_h12 : k0_cond12 i v132 v133 = 1#1), ∀ a, (k0_off89 v180) a + S1.size a ≤ S23.size a)
theorem k0_off87_inb : ∀ (i : grid0.Coords) (v132 : BitVec 32) (v133 : BitVec 32) (v180 : BitVec 32) (k0_hw77 : k0_chk77 i v132 v133 v180), ∀ (k0_h12 : k0_cond12 i v132 v133 = 1#1), ∀ a, (k0_off87 v180) a + S1.size a ≤ S23.size a := fun i v132 v133 v180 k0_hw77 k0_h12 => k0_hw77.1 k0_h12
theorem k0_off89_inb : ∀ (i : grid0.Coords) (v132 : BitVec 32) (v133 : BitVec 32) (v180 : BitVec 32) (k0_hw77 : k0_chk77 i v132 v133 v180), ∀ (k0_h12 : k0_cond12 i v132 v133 = 1#1), ∀ a, (k0_off89 v180) a + S1.size a ≤ S23.size a := fun i v132 v133 v180 k0_hw77 k0_h12 => k0_hw77.2 k0_h12

def k0_off90 (v180 : BitVec 32) : Fin 1 → Nat :=
  let v181 : Index := Scalar.indexCast v180
  ![v181.toNat]
def k0_cond13 (i : grid0.Coords) (v144 : BitVec 32) (v145 : BitVec 32) : BitVec 1 :=
  let arg0 : BitVec 32 := BitVec.ofNat 32 (i 0).val
  let c1_i32_60 : BitVec 32 := 1#32
  let v146 : BitVec 32 := Scalar.addi arg0 c1_i32_60
  let c128_i32_61 : BitVec 32 := 128#32
  let v147 : BitVec 32 := Scalar.muli v146 c128_i32_61
  let v148 : BitVec 1 := Scalar.cmpi .slt v144 v147
  let c128_i32_62 : BitVec 32 := 128#32
  let v149 : BitVec 32 := Scalar.muli arg0 c128_i32_62
  let v150 : BitVec 1 := Scalar.cmpi .sgt v145 v149
  let v151 : BitVec 1 := Scalar.andi v148 v150
  let v152 : BitVec 1 := Scalar.cmpi .sgt v145 v144
  let v153 : BitVec 1 := Scalar.andi v151 v152
  let v154 : BitVec 32 := Scalar.extui v153
  let c0_i32_63 : BitVec 32 := 0#32
  let v155 : BitVec 1 := Scalar.cmpi .ne v154 c0_i32_63
  v155

def k0_mult51 (v182 : BitVec 32) : BitVec 32 :=
  let c_m32_i32 : BitVec 32 := 4294967264#32
  let v183 : BitVec 32 := Scalar.andi v182 c_m32_i32
  v183

def k0_mult52 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off91 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk80 (i : grid0.Coords) (v144 : BitVec 32) (v145 : BitVec 32) (v182 : BitVec 32) : Prop :=
  (∀ (k0_h13 : k0_cond13 i v144 v145 = 1#1), 32 ∣ (k0_mult51 v182).toNat) ∧
  (∀ (k0_h13 : k0_cond13 i v144 v145 = 1#1), 128 ∣ (k0_mult52 v182).toNat) ∧
  (∀ (k0_h13 : k0_cond13 i v144 v145 = 1#1), ∀ a, (k0_off91 v182) a + S1x256.size a ≤ S1x2500.size a)
theorem k0_mult51_dvd : ∀ (i : grid0.Coords) (v144 : BitVec 32) (v145 : BitVec 32) (v182 : BitVec 32) (k0_hw80 : k0_chk80 i v144 v145 v182), ∀ (k0_h13 : k0_cond13 i v144 v145 = 1#1), 32 ∣ (k0_mult51 v182).toNat := fun i v144 v145 v182 k0_hw80 k0_h13 => k0_hw80.1 k0_h13
theorem k0_mult52_dvd : ∀ (i : grid0.Coords) (v144 : BitVec 32) (v145 : BitVec 32) (v182 : BitVec 32) (k0_hw80 : k0_chk80 i v144 v145 v182), ∀ (k0_h13 : k0_cond13 i v144 v145 = 1#1), 128 ∣ (k0_mult52 v182).toNat := fun i v144 v145 v182 k0_hw80 k0_h13 => k0_hw80.2.1 k0_h13
theorem k0_off91_inb : ∀ (i : grid0.Coords) (v144 : BitVec 32) (v145 : BitVec 32) (v182 : BitVec 32) (k0_hw80 : k0_chk80 i v144 v145 v182), ∀ (k0_h13 : k0_cond13 i v144 v145 = 1#1), ∀ a, (k0_off91 v182) a + S1x256.size a ≤ S1x2500.size a := fun i v144 v145 v182 k0_hw80 k0_h13 => k0_hw80.2.2 k0_h13

def k0_off92 (v180 : BitVec 32) : Fin 1 → Nat :=
  let v206 : Index := Scalar.indexCast v180
  ![v206.toNat]

def k0_chk79 (i : grid0.Coords) (v144 : BitVec 32) (v145 : BitVec 32) (v180 : BitVec 32) : Prop :=
  (∀ (k0_h13 : k0_cond13 i v144 v145 = 1#1), ∀ a, (k0_off90 v180) a + S1.size a ≤ S23.size a) ∧
  (∀ (k0_h13 : k0_cond13 i v144 v145 = 1#1), ∀ a, (k0_off92 v180) a + S1.size a ≤ S23.size a)
theorem k0_off90_inb : ∀ (i : grid0.Coords) (v144 : BitVec 32) (v145 : BitVec 32) (v180 : BitVec 32) (k0_hw79 : k0_chk79 i v144 v145 v180), ∀ (k0_h13 : k0_cond13 i v144 v145 = 1#1), ∀ a, (k0_off90 v180) a + S1.size a ≤ S23.size a := fun i v144 v145 v180 k0_hw79 k0_h13 => k0_hw79.1 k0_h13
theorem k0_off92_inb : ∀ (i : grid0.Coords) (v144 : BitVec 32) (v145 : BitVec 32) (v180 : BitVec 32) (k0_hw79 : k0_chk79 i v144 v145 v180), ∀ (k0_h13 : k0_cond13 i v144 v145 = 1#1), ∀ a, (k0_off92 v180) a + S1.size a ≤ S23.size a := fun i v144 v145 v180 k0_hw79 k0_h13 => k0_hw79.2 k0_h13

def k0_off93 (v180 : BitVec 32) : Fin 1 → Nat :=
  let v181 : Index := Scalar.indexCast v180
  ![v181.toNat]
def k0_cond14 (i : grid0.Coords) (v156 : BitVec 32) (v157 : BitVec 32) : BitVec 1 :=
  let arg0 : BitVec 32 := BitVec.ofNat 32 (i 0).val
  let c1_i32_65 : BitVec 32 := 1#32
  let v158 : BitVec 32 := Scalar.addi arg0 c1_i32_65
  let c128_i32_66 : BitVec 32 := 128#32
  let v159 : BitVec 32 := Scalar.muli v158 c128_i32_66
  let v160 : BitVec 1 := Scalar.cmpi .slt v156 v159
  let c128_i32_67 : BitVec 32 := 128#32
  let v161 : BitVec 32 := Scalar.muli arg0 c128_i32_67
  let v162 : BitVec 1 := Scalar.cmpi .sgt v157 v161
  let v163 : BitVec 1 := Scalar.andi v160 v162
  let v164 : BitVec 1 := Scalar.cmpi .sgt v157 v156
  let v165 : BitVec 1 := Scalar.andi v163 v164
  let v166 : BitVec 32 := Scalar.extui v165
  let c0_i32_68 : BitVec 32 := 0#32
  let v167 : BitVec 1 := Scalar.cmpi .ne v166 c0_i32_68
  v167

def k0_mult53 (v182 : BitVec 32) : BitVec 32 :=
  let c_m32_i32 : BitVec 32 := 4294967264#32
  let v183 : BitVec 32 := Scalar.andi v182 c_m32_i32
  v183

def k0_mult54 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off94 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk82 (i : grid0.Coords) (v156 : BitVec 32) (v157 : BitVec 32) (v182 : BitVec 32) : Prop :=
  (∀ (k0_h14 : k0_cond14 i v156 v157 = 1#1), 32 ∣ (k0_mult53 v182).toNat) ∧
  (∀ (k0_h14 : k0_cond14 i v156 v157 = 1#1), 128 ∣ (k0_mult54 v182).toNat) ∧
  (∀ (k0_h14 : k0_cond14 i v156 v157 = 1#1), ∀ a, (k0_off94 v182) a + S1x256.size a ≤ S1x2500.size a)
theorem k0_mult53_dvd : ∀ (i : grid0.Coords) (v156 : BitVec 32) (v157 : BitVec 32) (v182 : BitVec 32) (k0_hw82 : k0_chk82 i v156 v157 v182), ∀ (k0_h14 : k0_cond14 i v156 v157 = 1#1), 32 ∣ (k0_mult53 v182).toNat := fun i v156 v157 v182 k0_hw82 k0_h14 => k0_hw82.1 k0_h14
theorem k0_mult54_dvd : ∀ (i : grid0.Coords) (v156 : BitVec 32) (v157 : BitVec 32) (v182 : BitVec 32) (k0_hw82 : k0_chk82 i v156 v157 v182), ∀ (k0_h14 : k0_cond14 i v156 v157 = 1#1), 128 ∣ (k0_mult54 v182).toNat := fun i v156 v157 v182 k0_hw82 k0_h14 => k0_hw82.2.1 k0_h14
theorem k0_off94_inb : ∀ (i : grid0.Coords) (v156 : BitVec 32) (v157 : BitVec 32) (v182 : BitVec 32) (k0_hw82 : k0_chk82 i v156 v157 v182), ∀ (k0_h14 : k0_cond14 i v156 v157 = 1#1), ∀ a, (k0_off94 v182) a + S1x256.size a ≤ S1x2500.size a := fun i v156 v157 v182 k0_hw82 k0_h14 => k0_hw82.2.2 k0_h14

def k0_off95 (v180 : BitVec 32) : Fin 1 → Nat :=
  let v206 : Index := Scalar.indexCast v180
  ![v206.toNat]

def k0_chk81 (i : grid0.Coords) (v156 : BitVec 32) (v157 : BitVec 32) (v180 : BitVec 32) : Prop :=
  (∀ (k0_h14 : k0_cond14 i v156 v157 = 1#1), ∀ a, (k0_off93 v180) a + S1.size a ≤ S23.size a) ∧
  (∀ (k0_h14 : k0_cond14 i v156 v157 = 1#1), ∀ a, (k0_off95 v180) a + S1.size a ≤ S23.size a)
theorem k0_off93_inb : ∀ (i : grid0.Coords) (v156 : BitVec 32) (v157 : BitVec 32) (v180 : BitVec 32) (k0_hw81 : k0_chk81 i v156 v157 v180), ∀ (k0_h14 : k0_cond14 i v156 v157 = 1#1), ∀ a, (k0_off93 v180) a + S1.size a ≤ S23.size a := fun i v156 v157 v180 k0_hw81 k0_h14 => k0_hw81.1 k0_h14
theorem k0_off95_inb : ∀ (i : grid0.Coords) (v156 : BitVec 32) (v157 : BitVec 32) (v180 : BitVec 32) (k0_hw81 : k0_chk81 i v156 v157 v180), ∀ (k0_h14 : k0_cond14 i v156 v157 = 1#1), ∀ a, (k0_off95 v180) a + S1.size a ≤ S23.size a := fun i v156 v157 v180 k0_hw81 k0_h14 => k0_hw81.2 k0_h14

def k0_off96 (v180 : BitVec 32) : Fin 1 → Nat :=
  let v181 : Index := Scalar.indexCast v180
  ![v181.toNat]
def k0_cond15 (i : grid0.Coords) (v168 : BitVec 32) (v169 : BitVec 32) : BitVec 1 :=
  let arg0 : BitVec 32 := BitVec.ofNat 32 (i 0).val
  let c1_i32_70 : BitVec 32 := 1#32
  let v170 : BitVec 32 := Scalar.addi arg0 c1_i32_70
  let c128_i32_71 : BitVec 32 := 128#32
  let v171 : BitVec 32 := Scalar.muli v170 c128_i32_71
  let v172 : BitVec 1 := Scalar.cmpi .slt v168 v171
  let c128_i32_72 : BitVec 32 := 128#32
  let v173 : BitVec 32 := Scalar.muli arg0 c128_i32_72
  let v174 : BitVec 1 := Scalar.cmpi .sgt v169 v173
  let v175 : BitVec 1 := Scalar.andi v172 v174
  let v176 : BitVec 1 := Scalar.cmpi .sgt v169 v168
  let v177 : BitVec 1 := Scalar.andi v175 v176
  let v178 : BitVec 32 := Scalar.extui v177
  let c0_i32_73 : BitVec 32 := 0#32
  let v179 : BitVec 1 := Scalar.cmpi .ne v178 c0_i32_73
  v179

def k0_mult55 (v182 : BitVec 32) : BitVec 32 :=
  let c_m32_i32 : BitVec 32 := 4294967264#32
  let v183 : BitVec 32 := Scalar.andi v182 c_m32_i32
  v183

def k0_mult56 (v182 : BitVec 32) : BitVec 32 :=
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  v191
def k0_off97 (v182 : BitVec 32) : Fin 2 → Nat :=
  let c0_81 : Index := 0#32
  let c_m32_i32 : BitVec 32 := 4294967264#32
  let v183 : BitVec 32 := Scalar.andi v182 c_m32_i32
  let v184 : BitVec 32 := v183
  let c_m128_i32 : BitVec 32 := 4294967168#32
  let v191 : BitVec 32 := Scalar.andi v184 c_m128_i32
  let v192 : BitVec 32 := v191
  let v193 : Index := Scalar.indexCast v192
  ![0, v193.toNat]

def k0_chk84 (i : grid0.Coords) (v168 : BitVec 32) (v169 : BitVec 32) (v182 : BitVec 32) : Prop :=
  (∀ (k0_h15 : k0_cond15 i v168 v169 = 1#1), 32 ∣ (k0_mult55 v182).toNat) ∧
  (∀ (k0_h15 : k0_cond15 i v168 v169 = 1#1), 128 ∣ (k0_mult56 v182).toNat) ∧
  (∀ (k0_h15 : k0_cond15 i v168 v169 = 1#1), ∀ a, (k0_off97 v182) a + S1x256.size a ≤ S1x2500.size a)
theorem k0_mult55_dvd : ∀ (i : grid0.Coords) (v168 : BitVec 32) (v169 : BitVec 32) (v182 : BitVec 32) (k0_hw84 : k0_chk84 i v168 v169 v182), ∀ (k0_h15 : k0_cond15 i v168 v169 = 1#1), 32 ∣ (k0_mult55 v182).toNat := fun i v168 v169 v182 k0_hw84 k0_h15 => k0_hw84.1 k0_h15
theorem k0_mult56_dvd : ∀ (i : grid0.Coords) (v168 : BitVec 32) (v169 : BitVec 32) (v182 : BitVec 32) (k0_hw84 : k0_chk84 i v168 v169 v182), ∀ (k0_h15 : k0_cond15 i v168 v169 = 1#1), 128 ∣ (k0_mult56 v182).toNat := fun i v168 v169 v182 k0_hw84 k0_h15 => k0_hw84.2.1 k0_h15
theorem k0_off97_inb : ∀ (i : grid0.Coords) (v168 : BitVec 32) (v169 : BitVec 32) (v182 : BitVec 32) (k0_hw84 : k0_chk84 i v168 v169 v182), ∀ (k0_h15 : k0_cond15 i v168 v169 = 1#1), ∀ a, (k0_off97 v182) a + S1x256.size a ≤ S1x2500.size a := fun i v168 v169 v182 k0_hw84 k0_h15 => k0_hw84.2.2 k0_h15

def k0_off98 (v180 : BitVec 32) : Fin 1 → Nat :=
  let v206 : Index := Scalar.indexCast v180
  ![v206.toNat]

def k0_chk83 (i : grid0.Coords) (v168 : BitVec 32) (v169 : BitVec 32) (v180 : BitVec 32) : Prop :=
  (∀ (k0_h15 : k0_cond15 i v168 v169 = 1#1), ∀ a, (k0_off96 v180) a + S1.size a ≤ S23.size a) ∧
  (∀ (k0_h15 : k0_cond15 i v168 v169 = 1#1), ∀ a, (k0_off98 v180) a + S1.size a ≤ S23.size a)
theorem k0_off96_inb : ∀ (i : grid0.Coords) (v168 : BitVec 32) (v169 : BitVec 32) (v180 : BitVec 32) (k0_hw83 : k0_chk83 i v168 v169 v180), ∀ (k0_h15 : k0_cond15 i v168 v169 = 1#1), ∀ a, (k0_off96 v180) a + S1.size a ≤ S23.size a := fun i v168 v169 v180 k0_hw83 k0_h15 => k0_hw83.1 k0_h15
theorem k0_off98_inb : ∀ (i : grid0.Coords) (v168 : BitVec 32) (v169 : BitVec 32) (v180 : BitVec 32) (k0_hw83 : k0_chk83 i v168 v169 v180), ∀ (k0_h15 : k0_cond15 i v168 v169 = 1#1), ∀ a, (k0_off98 v180) a + S1.size a ≤ S23.size a := fun i v168 v169 v180 k0_hw83 k0_h15 => k0_hw83.2 k0_h15

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S23 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S23 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S23 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S15 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S14 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2500 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x96 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ShrinkReferenceIdeal.lean ====
abbrev S1280x7168 : Shape := ⟨2, ![1280, 7168]⟩
abbrev S2500x7168 : Shape := ⟨2, ![2500, 7168]⟩
abbrev S2500 : Shape := ⟨1, ![2500]⟩
abbrev S23 : Shape := ⟨1, ![23]⟩
abbrev S15 : Shape := ⟨1, ![15]⟩
abbrev S14 : Shape := ⟨1, ![14]⟩
abbrev S1280 : Shape := ⟨1, ![1280]⟩
abbrev S1280x1 : Shape := ⟨2, ![1280, 1]⟩
abbrev S1x14 : Shape := ⟨2, ![1, 14]⟩
abbrev S1280x14 : Shape := ⟨2, ![1280, 14]⟩
abbrev S_ : Shape := ⟨0, ![]⟩
abbrev S14x1 : Shape := ⟨2, ![14, 1]⟩
abbrev S96 : Shape := ⟨1, ![96]⟩
abbrev S1x96 : Shape := ⟨2, ![1, 96]⟩
abbrev S1280x96 : Shape := ⟨2, ![1280, 96]⟩
abbrev S14x96 : Shape := ⟨2, ![14, 96]⟩
abbrev S14x96x1 : Shape := ⟨3, ![14, 96, 1]⟩
abbrev S14x96x7168 : Shape := ⟨3, ![14, 96, 7168]⟩
abbrev S1280x96x7168 : Shape := ⟨3, ![1280, 96, 7168]⟩
abbrev S128 : Shape := ⟨1, ![128]⟩
abbrev S1x128 : Shape := ⟨2, ![1, 128]⟩
abbrev S1280x128 : Shape := ⟨2, ![1280, 128]⟩
abbrev S14x128 : Shape := ⟨2, ![14, 128]⟩
abbrev S14x128x1 : Shape := ⟨3, ![14, 128, 1]⟩
abbrev S14x128x7168 : Shape := ⟨3, ![14, 128, 7168]⟩
abbrev S1280x128x7168 : Shape := ⟨3, ![1280, 128, 7168]⟩

abbrev nBuf : Space → Nat
  | .hbm => 185
  | .vmem => 0
  | .smem => 0
  | _ => 0

abbrev hbmTy0_0 (i : Nat) : BufTy := match i % 128 with
  | 0 => ⟨S1280x7168, .bf16⟩
  | 1 => ⟨S2500x7168, .i8⟩
  | 2 => ⟨S2500, .f32⟩
  | 3 => ⟨S23, .i32⟩
  | 4 => ⟨S23, .i32⟩
  | 5 => ⟨S23, .f32⟩
  | 6 => ⟨S15, .i32⟩
  | 7 => ⟨S14, .i32⟩
  | 8 => ⟨S1280, .i32⟩
  | 9 => ⟨S1280x1, .i32⟩
  | 10 => ⟨S14, .i32⟩
  | 11 => ⟨S1x14, .i32⟩
  | 12 => ⟨S1280x14, .i32⟩
  | 13 => ⟨S1280x14, .i32⟩
  | 14 => ⟨S1280x14, .i1⟩
  | 15 => ⟨S1280x14, .i32⟩
  | 16 => ⟨S_, .i32⟩
  | 17 => ⟨S1280, .i32⟩
  | 18 => ⟨S_, .i32⟩
  | 19 => ⟨S1280, .i32⟩
  | 20 => ⟨S1280, .i1⟩
  | 21 => ⟨S_, .i32⟩
  | 22 => ⟨S1280, .i32⟩
  | 23 => ⟨S1280, .i32⟩
  | 24 => ⟨S1280, .i32⟩
  | 25 => ⟨S1280x1, .i32⟩
  | 26 => ⟨S1280, .i32⟩
  | 27 => ⟨S_, .i32⟩
  | 28 => ⟨S1280, .i32⟩
  | 29 => ⟨S1280, .i1⟩
  | 30 => ⟨S_, .i32⟩
  | 31 => ⟨S1280, .i32⟩
  | 32 => ⟨S1280, .i32⟩
  | 33 => ⟨S1280, .i32⟩
  | 34 => ⟨S1280x1, .i32⟩
  | 35 => ⟨S1280, .i32⟩
  | 36 => ⟨S1280x1, .i32⟩
  | 37 => ⟨S_, .i32⟩
  | 38 => ⟨S1280, .i32⟩
  | 39 => ⟨S1280, .i1⟩
  | 40 => ⟨S_, .i32⟩
  | 41 => ⟨S1280, .i32⟩
  | 42 => ⟨S1280, .i32⟩
  | 43 => ⟨S1280, .i32⟩
  | 44 => ⟨S1280x1, .i32⟩
  | 45 => ⟨S1280, .f32⟩
  | 46 => ⟨S1280x1, .f32⟩
  | 47 => ⟨S_, .i32⟩
  | 48 => ⟨S14, .i32⟩
  | 49 => ⟨S14, .i1⟩
  | 50 => ⟨S_, .i32⟩
  | 51 => ⟨S14, .i32⟩
  | 52 => ⟨S14, .i32⟩
  | 53 => ⟨S14, .i32⟩
  | 54 => ⟨S14x1, .i32⟩
  | 55 => ⟨S14, .i32⟩
  | 56 => ⟨S96, .i32⟩
  | 57 => ⟨S1x96, .i32⟩
  | 58 => ⟨S1280x96, .i32⟩
  | 59 => ⟨S1280x96, .i32⟩
  | 60 => ⟨S1280x96, .i1⟩
  | 61 => ⟨S14x1, .i32⟩
  | 62 => ⟨S14x96, .i32⟩
  | 63 => ⟨S14x96, .i32⟩
  | 64 => ⟨S14x96, .i32⟩
  | 65 => ⟨S_, .i32⟩
  | 66 => ⟨S14x96, .i32⟩
  | 67 => ⟨S14x96, .i1⟩
  | 68 => ⟨S_, .i32⟩
  | 69 => ⟨S14x96, .i32⟩
  | 70 => ⟨S14x96, .i32⟩
  | 71 => ⟨S14x96, .i32⟩
  | 72 => ⟨S14x96x1, .i32⟩
  | 73 => ⟨S14x96x7168, .i8⟩
  | 74 => ⟨S14x96x7168, .i32⟩
  | 75 => ⟨S14x96x7168, .bf16⟩
  | 76 => ⟨S_, .i32⟩
  | 77 => ⟨S1280, .i32⟩
  | 78 => ⟨S1280, .i1⟩
  | 79 => ⟨S_, .i32⟩
  | 80 => ⟨S1280, .i32⟩
  | 81 => ⟨S1280, .i32⟩
  | 82 => ⟨S1280, .i32⟩
  | 83 => ⟨S1280x1, .i32⟩
  | 84 => ⟨S1280x96x7168, .bf16⟩
  | 85 => ⟨S1280x96, .f32⟩
  | 86 => ⟨S_, .i32⟩
  | 87 => ⟨S14x96, .i32⟩
  | 88 => ⟨S14x96, .i1⟩
  | 89 => ⟨S_, .i32⟩
  | 90 => ⟨S14x96, .i32⟩
  | 91 => ⟨S14x96, .i32⟩
  | 92 => ⟨S14x96, .i32⟩
  | 93 => ⟨S14x96x1, .i32⟩
  | 94 => ⟨S14x96, .f32⟩
  | 95 => ⟨S_, .i32⟩
  | 96 => ⟨S1280, .i32⟩
  | 97 => ⟨S1280, .i1⟩
  | 98 => ⟨S_, .i32⟩
  | 99 => ⟨S1280, .i32⟩
  | 100 => ⟨S1280, .i32⟩
  | 101 => ⟨S1280, .i32⟩
  | 102 => ⟨S1280x1, .i32⟩
  | 103 => ⟨S1280x96, .f32⟩
  | 104 => ⟨S1280x96, .f32⟩
  | 105 => ⟨S1280x96, .f32⟩
  | 106 => ⟨S1280x96, .f32⟩
  | 107 => ⟨S1280x96, .bf16⟩
  | 108 => ⟨S_, .bf16⟩
  | 109 => ⟨S1280x96, .bf16⟩
  | 110 => ⟨S1280x96, .bf16⟩
  | 111 => ⟨S_, .i32⟩
  | 112 => ⟨S14, .i32⟩
  | 113 => ⟨S14, .i32⟩
  | 114 => ⟨S128, .i32⟩
  | 115 => ⟨S1x128, .i32⟩
  | 116 => ⟨S14, .i32⟩
  | 117 => ⟨S_, .i32⟩
  | 118 => ⟨S1280, .i32⟩
  | 119 => ⟨S1280, .i1⟩
  | 120 => ⟨S_, .i32⟩
  | 121 => ⟨S1280, .i32⟩
  | 122 => ⟨S1280, .i32⟩
  | 123 => ⟨S1280, .i32⟩
  | 124 => ⟨S1280x1, .i32⟩
  | 125 => ⟨S1280, .i32⟩
  | 126 => ⟨S1280x1, .i32⟩
  | 127 => ⟨S1280x128, .i32⟩
  | _ => ⟨S1280x7168, .bf16⟩

abbrev hbmTy0_1 (i : Nat) : BufTy := match i % 128 with
  | 0 => ⟨S1280x128, .i32⟩
  | 1 => ⟨S1280x128, .i1⟩
  | 2 => ⟨S1280x1, .i32⟩
  | 3 => ⟨S1280x128, .i32⟩
  | 4 => ⟨S1280x128, .i32⟩
  | 5 => ⟨S1280x128, .i1⟩
  | 6 => ⟨S1280x128, .i1⟩
  | 7 => ⟨S14x1, .i32⟩
  | 8 => ⟨S14x128, .i32⟩
  | 9 => ⟨S14x128, .i32⟩
  | 10 => ⟨S14x128, .i32⟩
  | 11 => ⟨S_, .i32⟩
  | 12 => ⟨S14x128, .i32⟩
  | 13 => ⟨S14x128, .i1⟩
  | 14 => ⟨S_, .i32⟩
  | 15 => ⟨S14x128, .i32⟩
  | 16 => ⟨S14x128, .i32⟩
  | 17 => ⟨S14x128, .i32⟩
  | 18 => ⟨S14x128x1, .i32⟩
  | 19 => ⟨S14x128x7168, .i8⟩
  | 20 => ⟨S14x128x7168, .i32⟩
  | 21 => ⟨S14x128x7168, .bf16⟩
  | 22 => ⟨S_, .i32⟩
  | 23 => ⟨S1280, .i32⟩
  | 24 => ⟨S1280, .i1⟩
  | 25 => ⟨S_, .i32⟩
  | 26 => ⟨S1280, .i32⟩
  | 27 => ⟨S1280, .i32⟩
  | 28 => ⟨S1280, .i32⟩
  | 29 => ⟨S1280x1, .i32⟩
  | 30 => ⟨S1280x128x7168, .bf16⟩
  | 31 => ⟨S1280x128, .f32⟩
  | 32 => ⟨S_, .i32⟩
  | 33 => ⟨S14x128, .i32⟩
  | 34 => ⟨S14x128, .i1⟩
  | 35 => ⟨S_, .i32⟩
  | 36 => ⟨S14x128, .i32⟩
  | 37 => ⟨S14x128, .i32⟩
  | 38 => ⟨S14x128, .i32⟩
  | 39 => ⟨S14x128x1, .i32⟩
  | 40 => ⟨S14x128, .f32⟩
  | 41 => ⟨S_, .i32⟩
  | 42 => ⟨S1280, .i32⟩
  | 43 => ⟨S1280, .i1⟩
  | 44 => ⟨S_, .i32⟩
  | 45 => ⟨S1280, .i32⟩
  | 46 => ⟨S1280, .i32⟩
  | 47 => ⟨S1280, .i32⟩
  | 48 => ⟨S1280x1, .i32⟩
  | 49 => ⟨S1280x128, .f32⟩
  | 50 => ⟨S1280x128, .f32⟩
  | 51 => ⟨S1280x128, .f32⟩
  | 52 => ⟨S1280x128, .f32⟩
  | 53 => ⟨S1280x128, .bf16⟩
  | 54 => ⟨S_, .bf16⟩
  | 55 => ⟨S1280x128, .bf16⟩
  | 56 => ⟨S1280x128, .bf16⟩
  | _ => ⟨S1280x7168, .bf16⟩

abbrev hbmTy (i : Nat) : BufTy := match i / 128 with
  | 0 => hbmTy0_0 i
  | 1 => hbmTy0_1 i
  | _ => ⟨S1280x7168, .bf16⟩

abbrev bufTy : (tb : Table) → Fin (tcTables nBuf tb) → BufTy
  | .hbm, ⟨i, _⟩ => hbmTy i
  | _, _ => ⟨S1280x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_8 : Ref sig .tc := ⟨.hbm, 65, rfl⟩
abbrev main_v48 : Ref sig .tc := ⟨.hbm, 66, rfl⟩
abbrev main_v49 : Ref sig .tc := ⟨.hbm, 67, rfl⟩
abbrev main_c_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_c_11 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_12 : Ref sig .tc := ⟨.hbm, 86, rfl⟩
abbrev main_v65 : Ref sig .tc := ⟨.hbm, 87, rfl⟩
abbrev main_v66 : Ref sig .tc := ⟨.hbm, 88, rfl⟩
abbrev main_c_13 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_14 : Ref sig .tc := ⟨.hbm, 95, rfl⟩
abbrev main_v72 : Ref sig .tc := ⟨.hbm, 96, rfl⟩
abbrev main_v73 : Ref sig .tc := ⟨.hbm, 97, rfl⟩
abbrev main_c_15 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst : Ref sig .tc := ⟨.hbm, 108, rfl⟩
abbrev main_call0_v0 : Ref sig .tc := ⟨.hbm, 109, rfl⟩
abbrev main_v83 : Ref sig .tc := ⟨.hbm, 110, rfl⟩
abbrev main_c_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_17 : Ref sig .tc := ⟨.hbm, 117, rfl⟩
abbrev main_v89 : Ref sig .tc := ⟨.hbm, 118, rfl⟩
abbrev main_v90 : Ref sig .tc := ⟨.hbm, 119, rfl⟩
abbrev main_c_18 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_c_19 : Ref sig .tc := ⟨.hbm, 139, rfl⟩
abbrev main_v109 : Ref sig .tc := ⟨.hbm, 140, rfl⟩
abbrev main_v110 : Ref sig .tc := ⟨.hbm, 141, rfl⟩
abbrev main_c_20 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_21 : Ref sig .tc := ⟨.hbm, 150, rfl⟩
abbrev main_v118 : Ref sig .tc := ⟨.hbm, 151, rfl⟩
abbrev main_v119 : Ref sig .tc := ⟨.hbm, 152, rfl⟩
abbrev main_c_22 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_23 : Ref sig .tc := ⟨.hbm, 160, rfl⟩
abbrev main_v126 : Ref sig .tc := ⟨.hbm, 161, rfl⟩
abbrev main_v127 : Ref sig .tc := ⟨.hbm, 162, rfl⟩
abbrev main_c_24 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_c_25 : Ref sig .tc := ⟨.hbm, 169, rfl⟩
abbrev main_v133 : Ref sig .tc := ⟨.hbm, 170, rfl⟩
abbrev main_v134 : Ref sig .tc := ⟨.hbm, 171, rfl⟩
abbrev main_c_26 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_cst_27 : Ref sig .tc := ⟨.hbm, 182, rfl⟩
abbrev main_call1_v0 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== Proof.Tables.lean ====
/- What the precondition says of the index tables, in plain terms: the predicate is one chain of conjunctions of
   reductions of comparisons, taken apart here once. Nothing here depends on the kernel or the reference. -/
module

public import proofs.«01_k».proof.Pre_tables_in_range
public import Idealize.ShloMosaic.Lib.ReduceAll
public import Idealize.ShloMosaic.Lib.Affine
public import Idealize.ShloMosaic.Lib.WordCmp
public import Idealize.ShloMosaic.Lib.Pipeline.Value
public import Idealize.ShloMosaic.Lib.ValueLayout

@[expose] public section

namespace Cert.Pre_tables_in_range

open Idealize.ShloMosaic Idealize.ShloMosaic.ValueIdx

/-- The tables are in range: every adapter starts where its window of rows is inside the pool, every segment names one
    of the 23 adapters, and the offsets cut the 1280 rows into fourteen consecutive segments. -/
structure Tables (st : S23.Idx → BitVec 32) (of : S15.Idx → BitVec 32) (sg : S14.Idx → BitVec 32) : Prop where
  st_lt : ∀ y, (st y).toNat < 2304
  sg_lt : ∀ y, (sg y).toNat < 23
  of_le : ∀ y, (of y).toNat ≤ 1280
  of_mono : ∀ n (h : n < 14), (of (ix1 (⟨n, by omega⟩ : Fin 15))).toNat ≤ (of (ix1 (⟨n + 1, by omega⟩ : Fin 15))).toNat
  of_first : of (ix1 (0 : Fin 15)) = 0#32
  of_last : of (ix1 (14 : Fin 15)) = 1280#32

instance : Subsingleton S_.Idx := ⟨fun a b => funext fun i => i.elim0⟩

/-- A word between 0 and a bound in the signed order is so in the unsigned order. -/
theorem toNat_lt_of (x : BitVec 32) (k : ℕ) (hk : k < 2 ^ 31) (h1 : (0#32).toInt ≤ x.toInt)
    (h2 : x.toInt < (BitVec.ofNat 32 k).toInt) : x.toNat < k := by
  simp only [BitVec.toInt, BitVec.toNat_ofNat] at h1 h2
  rw [Nat.mod_eq_of_lt (show k < 2 ^ 32 by omega)] at h2
  omega
/-- The same with the bound included. -/
theorem toNat_le_of (x : BitVec 32) (k : ℕ) (hk : k < 2 ^ 31) (h1 : (0#32).toInt ≤ x.toInt)
    (h2 : x.toInt ≤ (BitVec.ofNat 32 k).toInt) : x.toNat ≤ k := by
  simp only [BitVec.toInt, BitVec.toNat_ofNat] at h1 h2
  rw [Nat.mod_eq_of_lt (show k < 2 ^ 32 by omega)] at h2
  omega

/-- An index of an axis of length one is 0. -/
theorem at_one (o : ℕ) (j : Fin 1) : o + j.val = o := by omega

/-- A conjunction of two flags holds where both do. -/
theorem andi_one {s : Shape} (x y : IVec s 1) (i : s.Idx) : andi x y i = 1#1 ↔ x i = 1#1 ∧ y i = 1#1 := IntOp.andi_eq_one

/-- The precondition, all ones, says the tables are in range. -/
theorem tables_of_fn [Facts] {F : FTy → Type} [FloatOps F] (a0 : FVec F S1280x7168 .bf16) (a1 : IVec S896x2048 32)
    (a2 : FVec F S56x2048 .bf16) (a3 : FVec F S1280x128 .bf16) (a4 : IVec S2500x2048 8) (a5 : FVec F S2500 .f32)
    (st : IVec S23 32) (rk : IVec S23 32) (of : IVec S15 32) (sg : IVec S14 32)
    (h : fn (F := F) a0 a1 a2 a3 a4 a5 st rk of sg = fun _ => 1#1) : Tables st of sg := by
  have e := congrFun h (fun i => i.elim0)
  simp only [fn, fn_part1, andi_one] at e
  obtain ⟨⟨⟨⟨⟨e1, e2⟩, e3⟩, e4⟩, e5⟩, e6⟩ := e
  have d1 := fun y => Host.reduce_andi_all _ _ _ _ _ e1 y
  have d2 := fun y => Host.reduce_andi_all _ _ _ _ _ e2 y
  have d3 := fun y => Host.reduce_andi_all _ _ _ _ _ e3 y
  have d4 := fun y => Host.reduce_andi_all _ _ _ _ _ e4 y
  simp only [andi_one, cmpi, broadcastInDim, constantI, IntOp.cmpi_sge, IntOp.cmpi_slt, IntOp.cmpi_sle] at d1 d2 d3
  have ofle : ∀ y, (of y).toNat ≤ 1280 := fun y => toNat_le_of _ _ (by decide) (d3 y).1 (d3 y).2
  refine ⟨fun y => toNat_lt_of _ _ (by decide) (d2 y).1 (d2 y).2, fun y => toNat_lt_of _ _ (by decide) (d1 y).1 (d1 y).2, ofle, ?_, ?_, ?_⟩
  · intro n hn
    have e := d4 (ix1 (⟨n, hn⟩ : Fin 14))
    simp only [cmpi, IntOp.cmpi_sle] at e
    rw [extractStridedSlice_apply (![0]) of _ _ (ix1 (⟨n, by omega⟩ : Fin 15)) (fun a => by fin_cases a; exact (Nat.zero_add n).symm),
      extractStridedSlice_apply (![1]) of _ _ (ix1 (⟨n + 1, by omega⟩ : Fin 15)) (fun a => by fin_cases a; exact Nat.add_comm n 1)] at e
    have l1 := ofle (ix1 (⟨n, by omega⟩ : Fin 15)); have l2 := ofle (ix1 (⟨n + 1, by omega⟩ : Fin 15))
    simp only [BitVec.toInt] at e
    omega
  · simp only [cmpi, IntOp.cmpi_eq, shapeCast] at e5
    rw [extractStridedSlice_apply (![0]) of _ _ (ix1 (0 : Fin 15)) (fun a => by fin_cases a; exact (at_one 0 _).symm)] at e5
    exact e5
  · simp only [cmpi, IntOp.cmpi_eq, shapeCast] at e6
    rw [extractStridedSlice_apply (![14]) of _ _ (ix1 (14 : Fin 15)) (fun a => by fin_cases a; exact (at_one 14 _).symm)] at e6
    exact e6

end Cert.Pre_tables_in_range
-- ==== Proof.Checks.lean ====
/-
  Hand-written, untrusted. The word arithmetic of the kernel's tables and tile loops, and the side conditions the body assumes,
  each from the range of the word it speaks of: a segment's adapter below 23, an adapter's first pool slot below 2304, a
  segment's two row offsets at most 1280.
-/
module

public import proofs.«01_k».proof.Proof.Gen.Kernel

@[expose] public section

noncomputable section

namespace Cert.Kernel.Hand

open Cert.Kernel Cert.Kernel.Gen
open Idealize.ShloMosaic

/-! ## The word operations -/

/-- The kernel's `v // 128` on a word: the signed quotient, lowered by one where the signs differ and the remainder is not zero. -/
abbrev fdiv (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)

/-- On a word below 1408 it is the quotient of the numbers. -/
theorem fdiv_fin : ∀ n : Fin 1408, fdiv (BitVec.ofNat 32 n.val) = BitVec.ofNat 32 (n.val / 128) := by decide +kernel
theorem fdiv_of_lt (v : BitVec 32) (h : v.toNat < 1408) : fdiv v = BitVec.ofNat 32 (v.toNat / 128) := by
  have := fdiv_fin ⟨v.toNat, h⟩
  rwa [BitVec.ofNat_toNat, BitVec.setWidth_eq] at this

/-- The first tile of a segment's rows, and the tile after its last. -/
def tileA (lo : BitVec 32) : ℕ := lo.toNat / 128
def tileB (hi : BitVec 32) : ℕ := (hi.toNat + 127) / 128

theorem fdiv_lo (lo : BitVec 32) (h : lo.toNat ≤ 1280) : fdiv lo = BitVec.ofNat 32 (tileA lo) :=
  fdiv_of_lt lo (by omega)
theorem fdiv_hi (hi : BitVec 32) (h : hi.toNat ≤ 1280) :
    fdiv (Scalar.subi (Scalar.addi hi 128#32) 1#32) = BitVec.ofNat 32 (tileB hi) := by
  have e : (Scalar.subi (Scalar.addi hi 128#32) 1#32).toNat = hi.toNat + 127 := by
    show ((hi + 128#32) - 1#32).toNat = _
    rw [BitVec.toNat_sub, BitVec.toNat_add]; simp only [BitVec.toNat_ofNat]; omega
  rw [fdiv_of_lt _ (by omega), e]; rfl

theorem tileA_le (lo : BitVec 32) (h : lo.toNat ≤ 1280) : tileA lo ≤ 10 := by unfold tileA; omega
theorem tileB_le (hi : BitVec 32) (h : hi.toNat ≤ 1280) : tileB hi ≤ 10 := by unfold tileB; omega
theorem tileA_le_tileB (lo hi : BitVec 32) (h : lo.toNat ≤ hi.toNat) : tileA lo ≤ tileB hi := by unfold tileA tileB; omega

theorem ub_fin : ∀ a b : Fin 11, Scalar.addi (BitVec.ofNat 32 a.val)
    (Scalar.muli (Scalar.divsi (Scalar.subi (BitVec.ofNat 32 b.val) (BitVec.ofNat 32 a.val)) 1#32) 1#32) = BitVec.ofNat 32 b.val := by decide +kernel
theorem ub2_fin : ∀ a b : Fin 11, Scalar.addi (BitVec.ofNat 32 a.val)
    (Scalar.subi (BitVec.ofNat 32 b.val) (BitVec.ofNat 32 a.val)) = BitVec.ofNat 32 b.val := by decide +kernel
theorem trips_fin : ∀ a b : Fin 11, Scf.trips (BitVec.ofNat 32 a.val) (BitVec.ofNat 32 b.val) 1#32 = b.val - a.val := by decide +kernel
theorem ok_fin : ∀ a b : Fin 11, a ≤ b → Scf.OK (BitVec.ofNat 32 a.val) (BitVec.ofNat 32 b.val) 1#32 := by decide +kernel
theorem row_fin : ∀ a k : Fin 11, (Scalar.muli (Scf.iv (BitVec.ofNat 32 a.val) 1#32 k.val) 128#32).toNat = (a.val + k.val) * 128 := by decide +kernel

/-- The tile loop of a segment: from its first tile to the one after its last, by one. -/
theorem loop_eq (lo hi : BitVec 32) (hlo : lo.toNat ≤ 1280) (hhi : hi.toNat ≤ 1280) :
    k0_t27_loop lo hi = ⟨BitVec.ofNat 32 (tileA lo), BitVec.ofNat 32 (tileB hi), 1#32⟩ := by
  have e : k0_t27_loop lo hi = ⟨fdiv lo, Scalar.addi (fdiv lo) (Scalar.muli (Scalar.divsi (Scalar.subi
      (fdiv (Scalar.subi (Scalar.addi hi 128#32) 1#32)) (fdiv lo)) 1#32) 1#32), 1#32⟩ := rfl
  rw [e, fdiv_lo lo hlo, fdiv_hi hi hhi]
  rw [ub_fin ⟨tileA lo, by have := tileA_le lo hlo; omega⟩ ⟨tileB hi, by have := tileB_le hi hhi; omega⟩]
/-- The loop over what is left when the step does not divide the count: the step is one, so it is empty. -/
theorem loop2_eq (lo hi : BitVec 32) (hlo : lo.toNat ≤ 1280) (hhi : hi.toNat ≤ 1280) :
    k0_t28_loop lo hi = ⟨BitVec.ofNat 32 (tileB hi), BitVec.ofNat 32 (tileB hi), 1#32⟩ := by
  have e : k0_t28_loop lo hi = ⟨Scalar.addi (fdiv lo) (Scalar.muli (Scalar.divsi (Scalar.subi
      (fdiv (Scalar.subi (Scalar.addi hi 128#32) 1#32)) (fdiv lo)) 1#32) 1#32),
      Scalar.addi (fdiv lo) (Scalar.subi (fdiv (Scalar.subi (Scalar.addi hi 128#32) 1#32)) (fdiv lo)), 1#32⟩ := rfl
  rw [e, fdiv_lo lo hlo, fdiv_hi hi hhi]
  rw [ub_fin ⟨tileA lo, by have := tileA_le lo hlo; omega⟩ ⟨tileB hi, by have := tileB_le hi hhi; omega⟩,
    ub2_fin ⟨tileA lo, by have := tileA_le lo hlo; omega⟩ ⟨tileB hi, by have := tileB_le hi hhi; omega⟩]

theorem trips_eq (lo hi : BitVec 32) (hlo : lo.toNat ≤ 1280) (hhi : hi.toNat ≤ 1280) :
    (k0_t27_loop lo hi).trips = tileB hi - tileA lo := by
  rw [loop_eq lo hi hlo hhi]
  exact trips_fin ⟨tileA lo, by have := tileA_le lo hlo; omega⟩ ⟨tileB hi, by have := tileB_le hi hhi; omega⟩
theorem trips2_eq (lo hi : BitVec 32) (hlo : lo.toNat ≤ 1280) (hhi : hi.toNat ≤ 1280) :
    (k0_t28_loop lo hi).trips = 0 := by
  rw [loop2_eq lo hi hlo hhi]
  exact (trips_fin ⟨tileB hi, by have := tileB_le hi hhi; omega⟩ ⟨tileB hi, by have := tileB_le hi hhi; omega⟩).trans (Nat.sub_self _)

/-- The first row of the tile a trip works on. -/
theorem mult_eq (lo hi : BitVec 32) (hlo : lo.toNat ≤ 1280) (hhi : hi.toNat ≤ 1280) (k : Fin (k0_t27_loop lo hi).trips) :
    (k0_mult111 lo hi k).toNat = (tileA lo + k.val) * 128 := by
  have e : k0_mult111 lo hi k = Scalar.muli (Scf.iv (fdiv lo) 1#32 k.val) 128#32 := rfl
  have hk := k.isLt.trans_eq (trips_eq lo hi hlo hhi)
  have := tileB_le hi hhi
  rw [e, fdiv_lo lo hlo]
  exact row_fin ⟨tileA lo, by have := tileA_le lo hlo; omega⟩ ⟨k.val, by omega⟩
theorem off137_eq (lo hi : BitVec 32) (k : Fin (k0_t27_loop lo hi).trips) :
    k0_off137 lo hi k = ![(k0_mult111 lo hi k).toNat, 0] := rfl
theorem off138_eq (lo hi : BitVec 32) (k : Fin (k0_t27_loop lo hi).trips) :
    k0_off138 lo hi k = ![(k0_mult111 lo hi k).toNat, 0] := rfl

/-- Clearing a word's five low bits rounds the number down to a multiple of 32. -/
theorem and32_fin : ∀ n : Fin 2304, (Scalar.andi (BitVec.ofNat 32 n.val) 4294967264#32).toNat = n.val / 32 * 32 := by decide +kernel
theorem and32_of_lt (v : BitVec 32) (h : v.toNat < 2304) : (Scalar.andi v 4294967264#32).toNat = v.toNat / 32 * 32 := by
  have := and32_fin ⟨v.toNat, h⟩
  rwa [BitVec.ofNat_toNat, BitVec.setWidth_eq] at this
theorem and128_fin : ∀ n : Fin 2304, (Scalar.andi (Scalar.andi (BitVec.ofNat 32 n.val) 4294967264#32) 4294967168#32).toNat = n.val / 128 * 128 := by decide +kernel
theorem and128_of_lt (v : BitVec 32) (h : v.toNat < 2304) : (Scalar.andi (Scalar.andi v 4294967264#32) 4294967168#32).toNat = v.toNat / 128 * 128 := by
  have := and128_fin ⟨v.toNat, h⟩
  rwa [BitVec.ofNat_toNat, BitVec.setWidth_eq] at this
/-- The first column of the column block of grid point `i`. -/
theorem col_fin : ∀ n : Fin 8, (Scalar.muli (BitVec.ofNat 32 n.val) 256#32).toNat = n.val * 256 := by decide

/-! ## The side conditions -/

/-- An adapter's number is inside the table of first slots. -/
theorem chkSeg (v : BitVec 32) (h : v.toNat < 23) : k0_chk1 v := by
  intro a; fin_cases a; show v.toNat + 1 ≤ 23; omega

theorem off2_eq (i : grid0.Coords) (v : BitVec 32) (h : v.toNat < 2304) : k0_off2 i v = ![v.toNat / 32 * 32, (i 0).val * 256] := by
  show ![(Scalar.andi v 4294967264#32).toNat, (Scalar.muli (BitVec.ofNat 32 (i 0).val) 256#32).toNat] = _
  rw [and32_of_lt v h, col_fin (i 0)]

/-- An adapter's 128 pool rows from its rounded first slot, in the point's columns, are inside the pool and whole words. -/
theorem chkSlot (i : grid0.Coords) (v : BitVec 32) (h : v.toNat < 2304) : k0_chk2 i v := by
  have hi : (i 0).val < 8 := (i 0).isLt
  refine ⟨?_, ?_, ?_⟩
  · show 32 ∣ (Scalar.andi v 4294967264#32).toNat
    rw [and32_of_lt v h]; exact ⟨_, Nat.mul_comm _ _⟩
  · rw [off2_eq i v h]; intro a; fin_cases a
    · show v.toNat / 32 * 32 + 128 ≤ 2500; omega
    · show (i 0).val * 256 + 256 ≤ 2048; omega
  · intro hinb
    refine Rect.PackedRows.wholeWords (.inr ⟨by decide, rfl, .inl ⟨?_, ?_⟩⟩)
    · show 4 ∣ k0_off2 i v 0
      rw [off2_eq i v h]; show 4 ∣ v.toNat / 32 * 32; omega
    · show 4 ∣ 128; decide

/-- The tiles of a segment are inside the rows. -/
theorem chkRows (lo hi : BitVec 32) (hle : lo.toNat ≤ hi.toNat) (hhi : hi.toNat ≤ 1280) : k0_chk98 lo hi := by
  have hlo : lo.toNat ≤ 1280 := by omega
  have hA := tileA_le lo hlo; have hB := tileB_le hi hhi; have hAB := tileA_le_tileB lo hi hle
  have m (k : Fin (k0_t27_loop lo hi).trips) : (k0_mult111 lo hi k).toNat = (tileA lo + k.val) * 128 ∧ tileA lo + k.val < 10 := by
    have hk := k.isLt.trans_eq (trips_eq lo hi hlo hhi)
    exact ⟨mult_eq lo hi hlo hhi k, by omega⟩
  have no (k : Fin (k0_t28_loop lo hi).trips) : False := by
    have hk := k.isLt.trans_eq (trips2_eq lo hi hlo hhi); omega
  refine ⟨?_, ?_, ?_, ?_, ?_, fun k => (no k).elim, fun k => (no k).elim, fun k => (no k).elim⟩
  · intro _; rw [loop_eq lo hi hlo hhi]; exact ok_fin ⟨tileA lo, by omega⟩ ⟨tileB hi, by omega⟩ hAB
  · intro k _; rw [(m k).1]; exact ⟨_, Nat.mul_comm _ _⟩
  · intro k _; rw [off137_eq, (m k).1]; intro a; fin_cases a
    · show (tileA lo + k.val) * 128 + 128 ≤ 1280; have := (m k).2; omega
    · show 0 + 128 ≤ 128; decide
  · intro k _; rw [off138_eq, (m k).1]; intro a; fin_cases a
    · show (tileA lo + k.val) * 128 + 128 ≤ 1280; have := (m k).2; omega
    · show 0 + 256 ≤ 256; decide
  · intro _; rw [loop2_eq lo hi hlo hhi]; exact ok_fin ⟨tileB hi, by omega⟩ ⟨tileB hi, by omega⟩ le_rfl

theorem chkSeg' (lo hi v : BitVec 32) (h : v.toNat < 23) : k0_chk96 lo hi v := fun _ => chkSeg v h

theorem off136_eq (v : BitVec 32) (h : v.toNat < 2304) : k0_off136 v = ![0, v.toNat / 128 * 128] := by
  show ![0, (Scalar.andi (Scalar.andi v 4294967264#32) 4294967168#32).toNat] = _
  rw [and128_of_lt v h]
/-- The two lane tiles of scales an adapter's slots lie in are inside the scale row. -/
theorem chkScale (lo hi v : BitVec 32) (h : v.toNat < 2304) : k0_chk97 lo hi v := by
  refine ⟨fun _ => ?_, fun _ => ?_, fun _ => ?_⟩
  · show 32 ∣ (Scalar.andi v 4294967264#32).toNat
    rw [and32_of_lt v h]; exact ⟨_, Nat.mul_comm _ _⟩
  · show 128 ∣ (Scalar.andi (Scalar.andi v 4294967264#32) 4294967168#32).toNat
    rw [and128_of_lt v h]; exact ⟨_, Nat.mul_comm _ _⟩
  · rw [off136_eq v h]; intro a; fin_cases a
    · show 0 + 1 ≤ 1; decide
    · show v.toNat / 128 * 128 + 256 ≤ 2500; omega

/-- A segment with rows is one whose end exceeds its start. -/
theorem cond_iff (lo hi : BitVec 32) (hlo : lo.toNat ≤ 1280) (hhi : hi.toNat ≤ 1280) : k0_cond14 lo hi = 1#1 ↔ lo.toNat < hi.toNat := by
  have e : k0_cond14 lo hi = Scalar.cmpi .ne (Scalar.extui (Scalar.cmpi .sgt hi lo) : BitVec 32) 0#32 := rfl
  have ee : ∀ p : Bool, (Scalar.cmpi .ne (Scalar.extui (BitVec.ofBool p) : BitVec 32) 0#32 = 1#1) ↔ p = true := by decide
  rw [e]; refine (ee (lo.slt hi)).trans ?_
  rw [BitVec.slt, decide_eq_true_eq, BitVec.toInt_eq_toNat_of_lt (by omega), BitVec.toInt_eq_toNat_of_lt (by omega)]; omega

end Cert.Kernel.Hand
-- ==== Proof.Segment.lean ====
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers
public import Idealize.ShloMosaic.Lib.Exec
public import proofs.«01_k».proof.Proof.Checks

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The operands -/

/-- The scratch that receives the expanded weights, the float accumulator, the staged adapter rows, and the pool of
    adapter rows left in HBM. -/
abbrev scW : Memref sig .tc .vmem S7168x256 .bf16 := Memref.whole cc0_scratch0
abbrev scA : Memref sig .tc .vmem S1280x256 .f32 := Memref.whole cc0_scratch1
abbrev scB : Memref sig .tc .vmem S14x128x256 .i8 := Memref.whole cc0_scratch2
abbrev hbM : Memref sig .tc .hbm S2500x2048 .i8 := Memref.whole main_arg4
/-- A memref's buffer on core `c` held at share `q` with contents `f`. -/
abbrev hbPt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

/-! ## One segment of rows -/

/-- The numbers of slots: row `s` of the tables and of the staged rows. -/
theorem inbSeg (s : Fin 14) : ∀ a, (![s.val] : Fin 1 → ℕ) a + S1.size a ≤ S14.size a := by
  intro a; have := s.isLt; fin_cases a; show s.val + 1 ≤ 14; omega
theorem inbPiece (s : Fin 14) : ∀ a, (![s.val, 0, 0] : Fin 3 → ℕ) a + S1x128x256.size a ≤ S14x128x256.size a := by
  intro a; have := s.isLt; fin_cases a
  · show s.val + 1 ≤ 14; omega
  · show 0 + 128 ≤ 128; omega
  · show 0 + 256 ≤ 256; omega

/-- The adapter rows of segment `s`, scaled: the table lookups, the window of scales, the staged rows. -/
def partS (s : Fin 14) (arg1 : Memref sig .tc .smem S23 .i32) (arg4 : Memref sig .tc .smem S14 .i32)
    (arg9 : Memref sig .tc .vmem S1x2500 .f32) (v750 : IVec S128x128 1) (lo hi : Elt F .i32) (h : k0_cond14 lo hi = 1#1) :
    Prog (TpuEff nD τ sig (Elt F) Λ₀ .tc) (Σ' (v854 : FVec F S128x256 .bf16) (c128_i32 : BitVec 32) (v855 : BitVec 32) (v860 : BitVec 32), BitVec 32) := do
  let v825 : Elt F .i32 ← smemLoad arg4 (Rect.unit (s := S14) ![s.val] S1.size (inbSeg s)) numel1_S1 rfl
  have k0_hw96 : k0_chk96 lo hi v825 := (← Prog.lift (TpuEff.assume (k0_chk96 lo hi v825) (k0_chk96.dec lo hi v825))).down
  let v827 : Elt F .i32 ← smemLoad arg1 (Rect.unit (s := S23) (k0_off135 v825) S1.size (k0_off135_inb lo hi v825 k0_hw96 h)) numel1_S1 rfl
  have k0_hw97 : k0_chk97 lo hi v827 := (← Prog.lift (TpuEff.assume (k0_chk97 lo hi v827) (k0_chk97.dec lo hi v827))).down
  let v833 : Vec F S1x256 .f32 ← Prog.lift (.load arg9 (Rect.unit (s := S1x2500) (k0_off136 v827) S1x256.size (k0_off136_inb lo hi v827 k0_hw97 h)).toLoadRect (View.loadsAt_vmem h_S1x256))
  let v849 : Vec F S1x128x256 .i8 ← Prog.lift (.load scB (Rect.unit (s := S14x128x256) ![s.val, 0, 0] S1x128x256.size (inbPiece s)).toLoadRect (View.loadsAt_vmem h_S1x128x256))
  let v855 : BitVec 32 := Scalar.divsi lo 128#32
  let v856 : BitVec 1 := Scalar.cmpi .sgt lo 0#32
  let v857 : BitVec 32 := Scalar.extui v856
  let v858 : BitVec 1 := Scalar.cmpi .slt lo 0#32
  let v859 : BitVec 32 := Scalar.extui v858
  let v860 : BitVec 32 := Scalar.subi v857 v859
  let v861 : BitVec 1 := Scalar.cmpi .sgt 128#32 0#32
  let v862 : BitVec 32 := Scalar.extui v861
  let v863 : BitVec 1 := Scalar.cmpi .slt 128#32 0#32
  let v864 : BitVec 32 := Scalar.extui v863
  let v865 : BitVec 32 := Scalar.subi v862 v864
  pure ⟨k0_pay21 v750 v827 v833 v849, 128#32, v855, v860, v865⟩

/-- One trip over a tile of 128 rows: the tile's rows of the shrunk input against the segment's adapter rows, masked to the
    segment's rows, added to the accumulator. -/
def tripB (arg8 : Memref sig .tc .vmem S1280x128 .bf16) (v751 : IVec S128x128 32) (lo hi : Elt F .i32)
    (hw : k0_chk98 lo hi) (h : k0_cond14 lo hi = 1#1) (v854 : FVec F S128x256 .bf16) (c128_i32 v855 v860 v865 : BitVec 32) :
    Fin (k0_t27_loop lo hi).trips → BitVec 32 → Prog (TpuEff nD τ sig (Elt F) Λ₀ .tc) (BitVec 32) :=
  fun k arg17 => do
    let v910 : Vec F S128x128 .bf16 ← Prog.lift (.load arg8 (Rect.unit (s := S1280x128) (k0_off137 lo hi k) S128x128.size (k0_off137_inb lo hi hw k h)).toLoadRect (View.loadsAt_vmem h_S128x128))
    let v915 : Vec F S128x256 .f32 ← Prog.lift (.load scA (Rect.unit (s := S1280x256) (k0_off138 lo hi k) S128x256.size (k0_off138_inb lo hi hw k h)).toLoadRect (View.loadsAt_vmem h_S128x256))
    let v920 : Vec F S128x256 .f32 ← Prog.lift (.load scA (Rect.unit (s := S1280x256) (k0_off138 lo hi k) S128x256.size (k0_off138_inb lo hi hw k h)).toLoadRect (View.loadsAt_vmem h_S128x256))
    Prog.lift (.store scA (Rect.unit (s := S1280x256) (k0_off138 lo hi k) S128x256.size (k0_off138_inb lo hi hw k h)) (k0_pay5 v751 lo hi v854 c128_i32 v855 v860 v865 k v910 v915) Finset.univ (View.stores_vmem_bits_univ h_S128x256 rfl) (.inl rfl))
    pure 0#32

/-- The remainder loop's trip: the same, over the tiles the main loop leaves (none, as it steps by one). -/
def tripC (arg8 : Memref sig .tc .vmem S1280x128 .bf16) (v751 : IVec S128x128 32) (lo hi : Elt F .i32)
    (hw : k0_chk98 lo hi) (h : k0_cond14 lo hi = 1#1) (v854 : FVec F S128x256 .bf16) (c128_i32 v855 v860 v865 : BitVec 32) :
    Fin (k0_t28_loop lo hi).trips → BitVec 32 → Prog (TpuEff nD τ sig (Elt F) Λ₀ .tc) (BitVec 32) :=
  fun k arg17 => do
    let v910 : Vec F S128x128 .bf16 ← Prog.lift (.load arg8 (Rect.unit (s := S1280x128) (k0_off139 lo hi k) S128x128.size (k0_off139_inb lo hi hw k h)).toLoadRect (View.loadsAt_vmem h_S128x128))
    let v915 : Vec F S128x256 .f32 ← Prog.lift (.load scA (Rect.unit (s := S1280x256) (k0_off140 lo hi k) S128x256.size (k0_off140_inb lo hi hw k h)).toLoadRect (View.loadsAt_vmem h_S128x256))
    let v920 : Vec F S128x256 .f32 ← Prog.lift (.load scA (Rect.unit (s := S1280x256) (k0_off140 lo hi k) S128x256.size (k0_off140_inb lo hi hw k h)).toLoadRect (View.loadsAt_vmem h_S128x256))
    Prog.lift (.store scA (Rect.unit (s := S1280x256) (k0_off140 lo hi k) S128x256.size (k0_off140_inb lo hi hw k h)) (k0_pay6 v751 lo hi v854 c128_i32 v855 v860 v865 k v910 v915) Finset.univ (View.stores_vmem_bits_univ h_S128x256 rfl) (.inl rfl))
    pure 0#32

/-- A segment: nothing when it has no rows; else its scaled adapter rows and the loop over the tiles it touches; then `kk`. -/
def segA (s : Fin 14) (arg1 : Memref sig .tc .smem S23 .i32) (arg4 : Memref sig .tc .smem S14 .i32)
    (arg8 : Memref sig .tc .vmem S1280x128 .bf16) (arg9 : Memref sig .tc .vmem S1x2500 .f32)
    (v750 : IVec S128x128 1) (v751 : IVec S128x128 32) (lo hi : Elt F .i32) (hw : k0_chk98 lo hi)
    {α : Type} (kk : Prog (TpuEff nD τ sig (Elt F) Λ₀ .tc) α) : Prog (TpuEff nD τ sig (Elt F) Λ₀ .tc) α := do
  if h : k0_cond14 lo hi = 1#1 then do
    let ⟨v854, c128_i32, v855, v860, v865⟩ : Σ' (v854 : FVec F S128x256 .bf16) (c128_i32 : BitVec 32) (v855 : BitVec 32) (v860 : BitVec 32), BitVec 32 ← partS s arg1 arg4 arg9 v750 lo hi h
    let v896 : BitVec 32 ← Scf.Loop.for (k0_t27_loop lo hi) (k0_t27_ok lo hi hw h) 0#32 (tripB arg8 v751 lo hi hw h v854 c128_i32 v855 v860 v865)
    let v897 : BitVec 32 ← Scf.Loop.for (k0_t28_loop lo hi) (k0_t28_ok lo hi hw h) v896 (tripC arg8 v751 lo hi hw h v854 c128_i32 v855 v860 v865)
    pure ⟨⟩
  else do
    pure ⟨⟩
  kk

/-! ### What a segment leaves in the accumulator -/

/-- The adapter's number fits the table of first slots; the first slot's window fits the scale row. -/
theorem inbStart (v : BitVec 32) (h : v.toNat < 23) : ∀ a, k0_off135 v a + S1.size a ≤ S23.size a := chkSeg v h
theorem inbScale (v : BitVec 32) (h : v.toNat < 2304) : ∀ a, k0_off136 v a + S1x256.size a ≤ S1x2500.size a := by
  rw [off136_eq v h]; intro a; fin_cases a
  · show 0 + 1 ≤ 1; decide
  · show v.toNat / 128 * 128 + 256 ≤ 2500; omega

/-- The adapter of segment `s`, as the table holds it; -/
def adapterOf (c : Dev nD) (arg4 : Memref sig .tc .smem S14 .i32) (f4 : Buf (Elt F) (arg4.view.loc (c : Thread nD τ))) (s : Fin 14) : BitVec 32 :=
  arg4.view.readAt (Elt F) (Rect.unit (s := S14) ![s.val] S1.size (inbSeg s)).toLoadRect f4 (Shape.Idx.first (numel1_S1.symm ▸ Nat.one_pos))
/-- its first slot. -/
def startOf (c : Dev nD) (arg1 : Memref sig .tc .smem S23 .i32) (f1 : Buf (Elt F) (arg1.view.loc (c : Thread nD τ))) (v : BitVec 32) (h : v.toNat < 23) : BitVec 32 :=
  arg1.view.readAt (Elt F) (Rect.unit (s := S23) (k0_off135 v) S1.size (inbStart v h)).toLoadRect f1 (Shape.Idx.first (numel1_S1.symm ▸ Nat.one_pos))

/-- The accumulator after `k` trips of a segment whose scaled adapter rows are `v854`. -/
def accN (c : Dev nD) (arg8 : Memref sig .tc .vmem S1280x128 .bf16) (f8 : Buf (Elt F) (arg8.view.loc (c : Thread nD τ)))
    (v751 : IVec S128x128 32) (lo hi : Elt F .i32) (hw : k0_chk98 lo hi) (h : k0_cond14 lo hi = 1#1) (v854 : FVec F S128x256 .bf16)
    (c128_i32 v855 v860 v865 : BitVec 32) (a : Buf (Elt F) (scA.view.loc (c : Thread nD τ))) : ℕ → Buf (Elt F) (scA.view.loc (c : Thread nD τ))
  | 0 => a
  | k + 1 =>
    if hk : k < (k0_t27_loop lo hi).trips then
      scA.view.writes (Elt F) (accN c arg8 f8 v751 lo hi hw h v854 c128_i32 v855 v860 v865 a k)
        [⟨Rect.unit (s := S1280x256) (k0_off138 lo hi ⟨k, hk⟩) S128x256.size (k0_off138_inb lo hi hw ⟨k, hk⟩ h),
          k0_pay5 v751 lo hi v854 c128_i32 v855 v860 v865 ⟨k, hk⟩
            (arg8.view.readAt (Elt F) (Rect.unit (s := S1280x128) (k0_off137 lo hi ⟨k, hk⟩) S128x128.size (k0_off137_inb lo hi hw ⟨k, hk⟩ h)).toLoadRect f8)
            (scA.view.readAt (Elt F) (Rect.unit (s := S1280x256) (k0_off138 lo hi ⟨k, hk⟩) S128x256.size (k0_off138_inb lo hi hw ⟨k, hk⟩ h)).toLoadRect
              (accN c arg8 f8 v751 lo hi hw h v854 c128_i32 v855 v860 v865 a k))⟩]
    else accN c arg8 f8 v751 lo hi hw h v854 c128_i32 v855 v860 v865 a k

theorem tripB_sound (c : Dev nD) (arg8 : Memref sig .tc .vmem S1280x128 .bf16) (f8 : Buf (Elt F) (arg8.view.loc (c : Thread nD τ)))
    (v751 : IVec S128x128 32) (lo hi : Elt F .i32) (hw : k0_chk98 lo hi) (h : k0_cond14 lo hi = 1#1) (v854 : FVec F S128x256 .bf16)
    (c128_i32 v855 v860 v865 : BitVec 32) (a : Buf (Elt F) (scA.view.loc (c : Thread nD τ))) (k : Fin (k0_t27_loop lo hi).trips) (acc : BitVec 32) :
    (iprop(hbPt c arg8 fullShare f8 ∗ hbPt c scA fullShare (accN c arg8 f8 v751 lo hi hw h v854 c128_i32 v855 v860 v865 a k)) : sProp 𝕄)
      ⊢ wp frame (wpE (defs₀ (F := F)) Variants.none c none) Set.univ (tripB arg8 v751 lo hi hw h v854 c128_i32 v855 v860 v865 k acc)
          (fun _ => iprop(hbPt c arg8 fullShare f8 ∗ hbPt c scA fullShare (accN c arg8 f8 v751 lo hi hw h v854 c128_i32 v855 v860 v865 a (k.val + 1)))) := by
  rw [accN, dif_pos k.isLt]
  unfold tripB
  iintro ⟨H8, HA⟩
  sl_exec
  sl_step
  isplitl [H8]; · iexact H8
  iexact HA

/-- The scaled adapter rows of segment `s`. -/
def rowsOf (c : Dev nD) (arg1 : Memref sig .tc .smem S23 .i32) (arg4 : Memref sig .tc .smem S14 .i32) (arg9 : Memref sig .tc .vmem S1x2500 .f32)
    (f1 : Buf (Elt F) (arg1.view.loc (c : Thread nD τ))) (f4 : Buf (Elt F) (arg4.view.loc (c : Thread nD τ)))
    (f9 : Buf (Elt F) (arg9.view.loc (c : Thread nD τ))) (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (v750 : IVec S128x128 1) (s : Fin 14) : FVec F S128x256 .bf16 :=
  k0_pay21 v750 (startOf c arg1 f1 (adapterOf c arg4 f4 s) (hsg _ _))
    (arg9.view.readAt (Elt F) (Rect.unit (s := S1x2500) (k0_off136 (startOf c arg1 f1 (adapterOf c arg4 f4 s) (hsg _ _))) S1x256.size
      (inbScale _ (hst _ _))).toLoadRect f9)
    (scB.view.readAt (Elt F) (Rect.unit (s := S14x128x256) ![s.val, 0, 0] S1x128x256.size (inbPiece s)).toLoadRect g)

/-- The accumulator after segment `s`, whose rows run from `lo` to `hi`. -/
def segBuf (c : Dev nD) (arg1 : Memref sig .tc .smem S23 .i32) (arg4 : Memref sig .tc .smem S14 .i32)
    (arg8 : Memref sig .tc .vmem S1280x128 .bf16) (arg9 : Memref sig .tc .vmem S1x2500 .f32)
    (f1 : Buf (Elt F) (arg1.view.loc (c : Thread nD τ))) (f4 : Buf (Elt F) (arg4.view.loc (c : Thread nD τ)))
    (f8 : Buf (Elt F) (arg8.view.loc (c : Thread nD τ))) (f9 : Buf (Elt F) (arg9.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (v750 : IVec S128x128 1) (v751 : IVec S128x128 32) (s : Fin 14) (lo hi : Elt F .i32) (hw : k0_chk98 lo hi)
    (a : Buf (Elt F) (scA.view.loc (c : Thread nD τ))) : Buf (Elt F) (scA.view.loc (c : Thread nD τ)) :=
  if h : k0_cond14 lo hi = 1#1 then
    accN c arg8 f8 v751 lo hi hw h (rowsOf c arg1 arg4 arg9 f1 f4 f9 g hst hsg v750 s) 128#32 (Scalar.divsi lo 128#32)
      (Scalar.subi (Scalar.extui (Scalar.cmpi .sgt lo 0#32)) (Scalar.extui (Scalar.cmpi .slt lo 0#32))) 1#32 a (k0_t27_loop lo hi).trips
  else a

/-- A segment runs, leaving its tables, the shrunk rows, the scales and the staged rows as they were and the accumulator at
    `segBuf`; then what follows it. -/
theorem segA_sound (c : Dev nD) (s : Fin 14) (arg1 : Memref sig .tc .smem S23 .i32) (arg4 : Memref sig .tc .smem S14 .i32)
    (arg8 : Memref sig .tc .vmem S1280x128 .bf16) (arg9 : Memref sig .tc .vmem S1x2500 .f32)
    (f1 : Buf (Elt F) (arg1.view.loc (c : Thread nD τ))) (f4 : Buf (Elt F) (arg4.view.loc (c : Thread nD τ)))
    (f8 : Buf (Elt F) (arg8.view.loc (c : Thread nD τ))) (f9 : Buf (Elt F) (arg9.view.loc (c : Thread nD τ)))
    (g : Buf (Elt F) (scB.view.loc (c : Thread nD τ))) (a : Buf (Elt F) (scA.view.loc (c : Thread nD τ)))
    (v750 : IVec S128x128 1) (v751 : IVec S128x128 32) (lo hi : Elt F .i32) (hw : k0_chk98 lo hi)
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hlo : BitVec.toNat (w := 32) lo ≤ 1280) (hhi : BitVec.toNat (w := 32) hi ≤ 1280)
    {α : Type} (kk : Prog (TpuEff nD τ sig (Elt F) Λ₀ .tc) α) (K : α → sProp 𝕄) :
    iprop(hbPt c arg1 fullShare f1 ∗ hbPt c arg4 fullShare f4 ∗ hbPt c arg8 fullShare f8 ∗ hbPt c arg9 fullShare f9
        ∗ hbPt c scB fullShare g ∗ hbPt c scA fullShare a
        ∗ (iprop(hbPt c arg1 fullShare f1 ∗ hbPt c arg4 fullShare f4 ∗ hbPt c arg8 fullShare f8 ∗ hbPt c arg9 fullShare f9
            ∗ hbPt c scB fullShare g
            ∗ hbPt c scA fullShare (segBuf c arg1 arg4 arg8 arg9 f1 f4 f8 f9 g hst hsg v750 v751 s lo hi hw a))
          -∗ wp frame (wpE (defs₀ (F := F)) Variants.none c none) Set.univ kk K))
      ⊢ wp frame (wpE (defs₀ (F := F)) Variants.none c none) Set.univ
          (segA s arg1 arg4 arg8 arg9 v750 v751 lo hi hw kk) K := by
  unfold segA
  iintro ⟨H1, H4, H8, H9, HB, HA, Hk⟩
  split
  · next h =>
    rw [segBuf, dif_pos h]
    unfold partS
    sl_exec (disch := first | exact chkSeg' _ _ _ (hsg _ _) | exact chkScale _ _ _ (hst _ _))
    iapply (Scf.wp_for_bind frame (wpE (defs₀ (F := F)) Variants.none c none) Set.univ _ _ _ _ _ _
      (fun k _ => iprop(hbPt c arg8 fullShare f8 ∗ hbPt c scA fullShare (accN c arg8 f8 v751 lo hi hw h (rowsOf c arg1 arg4 arg9 f1 f4 f9 g hst hsg v750 s) 128#32 (Scalar.divsi lo 128#32)
          (Scalar.subi (Scalar.extui (Scalar.cmpi .sgt lo 0#32)) (Scalar.extui (Scalar.cmpi .slt lo 0#32))) 1#32 a k)))
      (tripB_sound c arg8 f8 v751 lo hi hw h _ _ _ _ _ a)) $$ [H8 HA]
    · isplitl [H8]; · iexact H8
      iexact HA
    iintro %v896 ⟨H8, HA⟩
    iapply (Scf.wp_for_bind frame (wpE (defs₀ (F := F)) Variants.none c none) Set.univ _ _ _ _ _ _
      (fun k _ => iprop(⌜True⌝)) (fun k _ => absurd (k.isLt.trans_eq (trips2_eq lo hi hlo hhi)) (Nat.not_lt_zero _))) $$ []
    · ipureintro; trivial
    iintro %v897 %_
    iapply Hk
    isplitl [H1]; · iexact H1
    isplitl [H4]; · iexact H4
    isplitl [H8]; · iexact H8
    isplitl [H9]; · iexact H9
    isplitl [HB]; · iexact HB
    iexact HA
  · next h =>
    rw [segBuf, dif_neg h]
    iapply Hk
    isplitl [H1]; · iexact H1
    isplitl [H4]; · iexact H4
    isplitl [H8]; · iexact H8
    isplitl [H9]; · iexact H9
    isplitl [HB]; · iexact HB
    iexact HA

end Cert.Kernel.Hand

end
-- ==== Proof.Staged.lean ====
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Segment

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx

/-! ## The staged rows, by segments -/

/-- Segment `k`'s 128 staged rows: the destination of its copy. -/
abbrev pc (k : ℕ) (h : ∀ a, (![k, 0, 0] : Fin 3 → ℕ) a + S1x128x256.size a ≤ S14x128x256.size a) : Memref sig .tc .vmem S128x256 .i8 :=
  (scB.slice (Rect.unit (s := S14x128x256) ![k, 0, 0] S1x128x256.size h) (fun _ => rfl)).squeeze S128x256 squeezes_S1x128x256_S128x256
abbrev pcPt (c : Dev nD) (k : ℕ) (h : ∀ a, (![k, 0, 0] : Fin 3 → ℕ) a + S1x128x256.size a ≤ S14x128x256.size a) (f : Buf (Elt F) (scB.view.loc (c : Thread nD τ))) : sProp 𝕄 :=
  (pc k h).view.loc (c : Thread nD τ) ↦[(pc k h).view.set]{fullShare} f

theorem mem_pc (k : ℕ) (h) (j : S14x128x256.Idx) : j ∈ (pc k h).view.set ↔ (j 0).val = k := by
  have e : (pc k h).view.set = (Rect.unit (s := S14x128x256) ![k, 0, 0] S1x128x256.size h).set := by
    rw [← View.set_slice_whole cc0_scratch2 (Rect.unit (s := S14x128x256) ![k, 0, 0] S1x128x256.size h)]
    exact View.set_reshape _ _
  rw [e, Rect.mem_set_unit]
  have h1 : (j 1).val < 128 := (j 1).isLt
  have h2 : (j 2).val < 256 := (j 2).isLt
  constructor
  · intro H; have := H 0; change k ≤ (j 0).val ∧ (j 0).val < k + 1 at this; omega
  · intro H a; fin_cases a
    · show k ≤ (j 0).val ∧ (j 0).val < k + 1; omega
    · show 0 ≤ (j 1).val ∧ (j 1).val < 0 + 128; omega
    · show 0 ≤ (j 2).val ∧ (j 2).val < 0 + 256; omega

/-- The staged rows held whole are the fourteen segments' rows held one by one. -/
theorem scB_pieces (c : Dev nD) (f : Buf (Elt F) (scB.view.loc (c : Thread nD τ))) :
    (hbPt c scB fullShare f : sProp 𝕄) = iprop(pcPt c 0 (inbPiece 0) f ∗ pcPt c 1 (inbPiece 1) f ∗ pcPt c 2 (inbPiece 2) f ∗ pcPt c 3 (inbPiece 3) f ∗ pcPt c 4 (inbPiece 4) f ∗ pcPt c 5 (inbPiece 5) f ∗ pcPt c 6 (inbPiece 6) f ∗ pcPt c 7 (inbPiece 7) f ∗ pcPt c 8 (inbPiece 8) f ∗ pcPt c 9 (inbPiece 9) f ∗ pcPt c 10 (inbPiece 10) f ∗ pcPt c 11 (inbPiece 11) f ∗ pcPt c 12 (inbPiece 12) f ∗ pcPt c 13 (inbPiece 13) f) := by
  have hu : (Finset.univ : Finset (Idx (scB.view.loc (c : Thread nD τ)))) = (Finset.univ : Finset (Fin 14)).biUnion fun k => (pc k.val (inbPiece k)).view.set := by
    ext j; simp only [Finset.mem_univ, true_iff, Finset.mem_biUnion, true_and]
    exact ⟨j 0, (mem_pc _ _ j).2 rfl⟩
  show (scB.view.loc (c : Thread nD τ) ↦[Finset.univ]{fullShare} f : sProp 𝕄) = _
  rw [hu, pointsTo_biUnion _ _ fun t _ t' _ hne => Finset.disjoint_left.mpr fun j hj hj' =>
    hne (Fin.ext (((mem_pc _ _ j).1 hj).symm.trans ((mem_pc _ _ j).1 hj'))),
    bigSep_univ_eq_bigSepL [0, 1, 2, 3, 4, 5, 6, 7, 8, 9, 10, 11, 12, 13] (by decide) (by decide)]
  rfl

/-- The pool rows of an adapter whose first slot is `v`, in the point's columns. -/
abbrev landRows (c : Dev nD) (i : grid0.Coords) (fp : Buf (Elt F) (hbM.view.loc (c : Thread nD τ))) (v : BitVec 32) (h : v.toNat < 2304) : S128x256.Idx → Elt F .i8 :=
  ReadAs.same.apply ((hbM.slice (Rect.unit (s := S2500x2048) (k0_off2 i v) S128x256.size (k0_off2_inb i v (chkSlot i v h))) (fun _ => rfl)).view.read (Elt F) fp)

/-- All the staged rows, from the fourteen first slots. -/
def stagedRows (c : Dev nD) (i : grid0.Coords) (fp : Buf (Elt F) (hbM.view.loc (c : Thread nD τ))) (st : Fin 14 → BitVec 32) (h : ∀ k, (st k).toNat < 2304) :
    Buf (Elt F) (scB.view.loc (c : Thread nD τ)) :=
  fun j : S14x128x256.Idx => landRows c i fp (st (j 0)) (h (j 0)) (ix2 (j 1) (j 2))

/-- A landed copy is the segment's part of the staged rows. -/
theorem landed_eq (c : Dev nD) (i : grid0.Coords) (fp : Buf (Elt F) (hbM.view.loc (c : Thread nD τ))) (st : Fin 14 → BitVec 32) (h : ∀ k, (st k).toNat < 2304)
    (fb : Buf (Elt F) (scB.view.loc (c : Thread nD τ))) (k : Fin 14) :
    (pcPt c k.val (inbPiece k) ((pc k.val (inbPiece k)).view.writes (Elt F) fb [⟨Rect.whole S128x256, landRows c i fp (st k) (h k)⟩]) : sProp 𝕄)
      = pcPt c k.val (inbPiece k) (stagedRows c i fp st h) := by
  refine pointsTo_congr fun j hj => ?_
  obtain ⟨y, -, rfl⟩ := Finset.mem_map.1 hj
  have e := View.read_writes_cons_emb (Val := Elt F) (pc k.val (inbPiece k)).view fb (Rect.whole S128x256) (landRows c i fp (st k) (h k)) [] y
  rw [Rect.emb_whole_apply] at e
  refine Eq.trans e ?_
  have hy : (pc k.val (inbPiece k)).view.emb y = (ix3 k (y 0) (y 1) : S14x128x256.Idx) := by
    have hr := reshapeEquiv_ix2_1ab (a := 128) (b := 256) squeezes_S1x128x256_S128x256.numel_eq (y 0) (y 1)
    have hr := (congrArg _ (eq_ix2 (n0 := 128) (n1 := 256) y)).trans hr
    show (Rect.unit (s := S14x128x256) ![k.val, 0, 0] S1x128x256.size (inbPiece k)).emb (Shape.reshapeEquiv _ y) = _
    rw [hr]
    funext a; refine Fin.ext ?_; fin_cases a
    · show k.val + 1 * 0 = k.val; omega
    · show 0 + 1 * (y 0).val = (y 0).val; omega
    · show 0 + 1 * (y 1).val = (y 1).val; omega
  rw [hy]
  exact congrArg (landRows c i fp (st k) (h k)) (eq_ix2 (n0 := 128) (n1 := 256) y)

/-! ## The expanded weights -/

theorem inbRow (j : Fin 56) : ∀ a, (![j.val, 0] : Fin 2 → ℕ) a + S1x256.size a ≤ S56x256.size a := by
  intro a; have := j.isLt; fin_cases a
  · show j.val + 1 ≤ 56; omega
  · show 0 + 256 ≤ 256; omega
theorem inbGroup (j : Fin 56) : ∀ a, (![128 * j.val, 0] : Fin 2 → ℕ) a + S128x256.size a ≤ S7168x256.size a := by
  intro a; have := j.isLt; fin_cases a
  · show 128 * j.val + 128 ≤ 7168; omega
  · show 0 + 256 ≤ 256; omega
theorem slicesGroup (j : Fin 56) : S7168x256.Slices ![128 * j.val, 0] S128x256 := ⟨rfl, inbGroup j⟩

/-- The words of the weight block and the scales, as the body reads them. -/
abbrev wordsOf (c : Dev nD) (arg6 : Memref sig .tc .vmem S896x256 .i32) (f6 : Buf (Elt F) (arg6.view.loc (c : Thread nD τ))) : Vec F S896x256 .i32 :=
  arg6.view.readAt (Elt F) (Rect.unit (s := S896x256) ![0, 0] S896x256.size inb_S896x256_S896x256_0_0).toLoadRect f6
abbrev scaleRow (c : Dev nD) (arg7 : Memref sig .tc .vmem S56x256 .bf16) (f7 : Buf (Elt F) (arg7.view.loc (c : Thread nD τ))) (j : Fin 56) : Vec F S1x256 .bf16 :=
  arg7.view.readAt (Elt F) (Rect.unit (s := S56x256) ![j.val, 0] S1x256.size (inbRow j)).toLoadRect f7

/-- What the body stores for group `j`. -/
def groupPay (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) (j : Fin 56) : FVec F S128x256 .bf16 :=
  shapeCast S128x256 (mulf (extractStridedSlice S128x256 ![128 * j.val, 0] (k0_pay22 (wordsOf c arg6 f6)) (slicesGroup j))
    (broadcastTo S128x256 (scaleRow c arg7 f7 j) broadcasts_S1x256_S128x256)) shapeCasts_S128x256_S128x256

/-- The fifty-six stores, the last first. -/
abbrev groupPieces (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) : List (View.Piece (Elt F) S7168x256 .bf16) :=
  ([55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 56)).map fun j => ⟨Rect.unit (s := S7168x256) ![128 * j.val, 0] S128x256.size (inbGroup j), groupPay c arg6 arg7 f6 f7 j⟩

/-- The expanded weights: each code times its group's scale. -/
def wvals (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) : FVec F S7168x256 .bf16 :=
  fun y => FloatOps.mulf (φ := .bf16) (k0_pay22 (wordsOf c arg6 f6) y)
    (scaleRow c arg7 f7 ⟨(y 0).val / 128, by have : (y 0).val < 7168 := (y 0).isLt; omega⟩ (ix2 (⟨0, Nat.one_pos⟩ : Fin 1) (y 1)))

theorem groupPay_at (C : FVec F S7168x256 .bf16) (R : Vec F S1x256 .bf16) (j : Fin 56) (x : S128x256.Idx) :
    shapeCast S128x256 (mulf (extractStridedSlice S128x256 ![128 * j.val, 0] C (slicesGroup j))
      (broadcastTo S128x256 R broadcasts_S1x256_S128x256 : FVec F S128x256 .bf16)) shapeCasts_S128x256_S128x256 x
      = FloatOps.mulf (φ := .bf16) (C ((Rect.unit (s := S7168x256) ![128 * j.val, 0] S128x256.size (inbGroup j)).emb x))
          (R (ix2 (⟨0, Nat.one_pos⟩ : Fin 1) ((Rect.unit (s := S7168x256) ![128 * j.val, 0] S128x256.size (inbGroup j)).emb x 1))) := by
  rw [shapeCast_self]
  have e1 : extractStridedSlice S128x256 ![128 * j.val, 0] C (slicesGroup j) x = C ((Rect.unit (s := S7168x256) ![128 * j.val, 0] S128x256.size (inbGroup j)).emb x) := by
    unfold extractStridedSlice
    refine congrArg C ?_
    funext a; refine Fin.ext ?_; fin_cases a
    · show 128 * j.val + (x 0).val = 128 * j.val + 1 * (x 0).val; omega
    · show 0 + (x 1).val = 0 + 1 * (x 1).val; omega
  have e2 : (broadcastTo S128x256 R broadcasts_S1x256_S128x256 : FVec F S128x256 .bf16) x
      = R (ix2 (⟨0, Nat.one_pos⟩ : Fin 1) ((Rect.unit (s := S7168x256) ![128 * j.val, 0] S128x256.size (inbGroup j)).emb x 1)) := by
    unfold broadcastTo
    refine congrArg R ?_
    funext a; refine Fin.ext ?_; fin_cases a
    · rfl
    · show (x 1).val = 0 + 1 * (x 1).val; omega
  unfold mulf
  rw [e1, e2]

theorem groupPay_eq (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) (j : Fin 56) (x : S128x256.Idx) :
    groupPay c arg6 arg7 f6 f7 j x = wvals c arg6 arg7 f6 f7 ((Rect.unit (s := S7168x256) ![128 * j.val, 0] S128x256.size (inbGroup j)).emb x) := by
  have h0 : (x 0).val < 128 := (x 0).isLt
  unfold groupPay wvals
  rw [groupPay_at]
  have hj : (⟨(((Rect.unit (s := S7168x256) ![128 * j.val, 0] S128x256.size (inbGroup j)).emb x) 0).val / 128, by
      have := ((Rect.unit (s := S7168x256) ![128 * j.val, 0] S128x256.size (inbGroup j)).emb x 0).isLt; change _ < 7168 at this; omega⟩ : Fin 56) = j :=
    Fin.ext (show (128 * j.val + 1 * (x 0).val) / 128 = j.val by omega)
  rw [hj]

/-- The expanded weights read back whole. -/
theorem wvals_eq (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) :
    scW.view.readCov (groupPieces c arg6 arg7 f6 f7) (Rect.unit (s := S7168x256) ![0, 0] S7168x256.size inb_S7168x256_S7168x256_0_0).toLoadRect
      = wvals c arg6 arg7 f6 f7 := by
  rw [View.readCov_eq_canon']
  funext y
  have hy : (Rect.unit (s := S7168x256) ![0, 0] S7168x256.size inb_S7168x256_S7168x256_0_0).toLoadRect.idx y = y := by
    funext a; refine Fin.ext ?_; fin_cases a
    · show 0 + 1 * (y 0).val = (y 0).val; omega
    · show 0 + 1 * (y 1).val = (y 1).val; omega
  rw [hy]
  refine View.canon_apply_of_pieces (S := S7168x256) (Val := Elt F) (e := .bf16) (wvals c arg6 arg7 f6 f7) _ (fun p hp x => ?_) y ?_
  · obtain ⟨j, -, rfl⟩ := List.mem_map.1 hp
    exact groupPay_eq c arg6 arg7 f6 f7 j x
  · have h0 : (y 0).val < 7168 := (y 0).isLt
    have h1 : (y 1).val < 256 := (y 1).isLt
    obtain ⟨q, hq⟩ : ∃ q : Fin 56, q.val = (y 0).val / 128 := ⟨⟨(y 0).val / 128, by omega⟩, rfl⟩
    have hmem : ∀ q : Fin 56, q ∈ ([55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 56)) := by decide
    refine ⟨_, List.mem_map.2 ⟨q, hmem q, rfl⟩, ?_⟩
    show y ∈ (Rect.unit (s := S7168x256) ![128 * q.val, 0] S128x256.size (inbGroup q)).set
    refine Rect.mem_set_unit.2 fun a => ?_
    fin_cases a
    · show 128 * q.val ≤ (y 0).val ∧ (y 0).val < 128 * q.val + 128; omega
    · show 0 ≤ (y 1).val ∧ (y 1).val < 0 + 256; omega

/-- The base product, as the accumulator first holds it. -/
def baseBuf (c : Dev nD) (arg5 : Memref sig .tc .vmem S1280x7168 .bf16) (arg6 : Memref sig .tc .vmem S896x256 .i32) (arg7 : Memref sig .tc .vmem S56x256 .bf16)
    (f5 : Buf (Elt F) (arg5.view.loc (c : Thread nD τ)))
    (f6 : Buf (Elt F) (arg6.view.loc (c : Thread nD τ))) (f7 : Buf (Elt F) (arg7.view.loc (c : Thread nD τ))) : Buf (Elt F) (scA.view.loc (c : Thread nD τ)) :=
  k0_pay90 (arg5.view.readAt (Elt F) (Rect.unit (s := S1280x7168) ![0, 0] S1280x7168.size inb_S1280x7168_S1280x7168_0_0).toLoadRect f5) (wvals c arg6 arg7 f6 f7)

theorem baseBuf_eq (c : Dev nD) (arg5 : Memref sig .tc .vmem S1280x7168 .bf16) (arg6 : Memref sig .tc .vmem S896x256 .i32) (arg7 : Memref sig .tc .vmem S56x256 .bf16)
    (f5 : Buf (Elt F) (arg5.view.loc (c : Thread nD τ)))
    (f6 : Buf (Elt F) (arg6.view.loc (c : Thread nD τ))) (f7 : Buf (Elt F) (arg7.view.loc (c : Thread nD τ)))
    (fa : Buf (Elt F) (scA.view.loc (c : Thread nD τ))) :
    scA.view.writes (Elt F) fa [⟨Rect.unit (s := S1280x256) ![0, 0] S1280x256.size inb_S1280x256_S1280x256_0_0,
        k0_pay90 (arg5.view.readAt (Elt F) (Rect.unit (s := S1280x7168) ![0, 0] S1280x7168.size inb_S1280x7168_S1280x7168_0_0).toLoadRect f5)
          (scW.view.readCov (groupPieces c arg6 arg7 f6 f7) (Rect.unit (s := S7168x256) ![0, 0] S7168x256.size inb_S7168x256_S7168x256_0_0).toLoadRect)⟩]
      = baseBuf c arg5 arg6 arg7 f5 f6 f7 := by
  rw [wvals_eq]
  exact Memref.write_access_unit_zero_univ (Elt F) cc0_scratch1 (off := (![0, 0] : Fin 2 → ℕ)) (funext fun a => by fin_cases a <;> rfl) inb_S1280x256_S1280x256_0_0 _ _

end Cert.Kernel.Hand

end
-- ==== Proof.Point.lean ====
/- What the body leaves at a point: the staged rows, the accumulator after each segment, the block stored; and one segment
   run in that state. -/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Staged

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx Idealize.ShloMosaic.Pipeline

/-- The pool held whole is a share of it for each of the copies (and some over). -/
theorem pool_toks (c : Dev nD) (f : Buf (Elt F) (hbM.view.loc (c : Thread nD τ))) :
    (hbPt c hbM fullShare f : sProp 𝕄) ⊣⊢ iprop(hbPt c hbM (Transfers.shareDrop fullShare 27) f ∗ hbPt c hbM (Transfers.shareTokN fullShare 0) f ∗ hbPt c hbM (Transfers.shareTokN fullShare 1) f ∗ hbPt c hbM (Transfers.shareTokN fullShare 2) f ∗ hbPt c hbM (Transfers.shareTokN fullShare 3) f ∗ hbPt c hbM (Transfers.shareTokN fullShare 4) f ∗ hbPt c hbM (Transfers.shareTokN fullShare 5) f ∗ hbPt c hbM (Transfers.shareTokN fullShare 6) f ∗ hbPt c hbM (Transfers.shareTokN fullShare 7) f ∗ hbPt c hbM (Transfers.shareTokN fullShare 8) f ∗ hbPt c hbM (Transfers.shareTokN fullShare 9) f ∗ hbPt c hbM (Transfers.shareTokN fullShare 10) f ∗ hbPt c hbM (Transfers.shareTokN fullShare 11) f ∗ hbPt c hbM (Transfers.shareTokN fullShare 12) f ∗ hbPt c hbM (Transfers.shareTokN fullShare 13) f ∗ hbPt c hbM (Transfers.shareTokN fullShare 14) f ∗ hbPt c hbM (Transfers.shareTokN fullShare 15) f ∗ hbPt c hbM (Transfers.shareTokN fullShare 16) f ∗ hbPt c hbM (Transfers.shareTokN fullShare 17) f ∗ hbPt c hbM (Transfers.shareTokN fullShare 18) f ∗ hbPt c hbM (Transfers.shareTokN fullShare 19) f ∗ hbPt c hbM (Transfers.shareTokN fullShare 20) f ∗ hbPt c hbM (Transfers.shareTokN fullShare 21) f ∗ hbPt c hbM (Transfers.shareTokN fullShare 22) f ∗ hbPt c hbM (Transfers.shareTokN fullShare 23) f ∗ hbPt c hbM (Transfers.shareTokN fullShare 24) f ∗ hbPt c hbM (Transfers.shareTokN fullShare 25) f ∗ hbPt c hbM (Transfers.shareTokN fullShare 26) f) := by
  refine (Transfers.pointsTo_toks_range fullShare 27).trans ?_
  rw [BI.bigSep_eq_bigSepL_of_eq [0, 1, 2, 3, 4, 5, 6, 7, 8, 9, 10, 11, 12, 13, 14, 15, 16, 17, 18, 19, 20, 21, 22, 23, 24, 25, 26] (by decide) (by decide)]
  exact .rfl

theorem inbOff (n : ℕ) (h : n < 15) : ∀ a, (![n] : Fin 1 → ℕ) a + S1.size a ≤ S15.size a := by
  intro a; fin_cases a; show n + 1 ≤ 15; omega
/-- Where segment `n` starts (and segment `n - 1` ends). -/
def offAt (c : Dev nD) (arg3 : Memref sig .tc .smem S15 .i32) (f3 : Buf (Elt F) (arg3.view.loc (c : Thread nD τ))) (n : ℕ) (h : n < 15) : Elt F .i32 :=
  arg3.view.readAt (Elt F) (Rect.unit (s := S15) ![n] S1.size (inbOff n h)).toLoadRect f3 (Shape.Idx.first (numel1_S1.symm ▸ Nat.one_pos))

/-- The staged rows at a point. -/
def stagedAt (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : Buf (Elt F) (scB.view.loc (c : Thread nD τ)) :=
  stagedRows c i fp (fun k => startOf c arg1 f1 (adapterOf c arg4 f4 k) (hsg _ _)) (fun k => hst _ _)

/-- The accumulator after `n` segments. -/
def accAt (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : (n : ℕ) → n ≤ 14 → Buf (Elt F) (scA.view.loc (c : Thread nD τ))
  | 0, _ => baseBuf c arg5 arg6 arg7 f5 f6 f7
  | n + 1, h => segBuf c arg1 arg4 arg8 arg9 f1 f4 f8 f9 (stagedAt c i arg1 arg3 arg4 arg5 arg6 arg7 arg8 arg9 f1 f3 f4 f5 f6 f7 f8 f9 fp hst hsg hof hw) hst hsg k0_pay91 (iota .tc S128x128 32 [0] iota_S128x128_d0_w32) ⟨n, h⟩
      (offAt c arg3 f3 n (by omega)) (offAt c arg3 f3 (n + 1) (by omega)) (hw n h) (accAt c i arg1 arg3 arg4 arg5 arg6 arg7 arg8 arg9 f1 f3 f4 f5 f6 f7 f8 f9 fp hst hsg hof hw n (by omega))

/-- What a point stores in the result's block. -/
def outVal (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : FVec F S1280x256 .bf16 :=
  k0_pay7 (scA.view.readAt (Elt F) (Rect.unit (s := S1280x256) ![0, 0] S1280x256.size inb_S1280x256_S1280x256_0_0).toLoadRect
    (accAt c i arg1 arg3 arg4 arg5 arg6 arg7 arg8 arg9 f1 f3 f4 f5 f6 f7 f8 f9 fp hst hsg hof hw 14 le_rfl))

/-- What every segment reads and leaves as it was. -/
def segCtx (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : sProp 𝕄 :=
  iprop(hbPt c arg1 fullShare f1 ∗ hbPt c arg4 fullShare f4 ∗ hbPt c arg8 fullShare f8 ∗ hbPt c arg9 fullShare f9
    ∗ hbPt c scB fullShare (stagedAt c i arg1 arg3 arg4 arg5 arg6 arg7 arg8 arg9 f1 f3 f4 f5 f6 f7 f8 f9 fp hst hsg hof hw))

/-- Segment `n` runs, then what follows it. -/
theorem segAt_sound (n : ℕ) (hn : n < 14) (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega)))
    {α : Type} (kk : Prog (TpuEff nD τ sig (Elt F) Λ₀ .tc) α) (K : α → sProp 𝕄) :
    iprop(segCtx c i arg1 arg3 arg4 arg5 arg6 arg7 arg8 arg9 f1 f3 f4 f5 f6 f7 f8 f9 fp hst hsg hof hw ∗ hbPt c scA fullShare (accAt c i arg1 arg3 arg4 arg5 arg6 arg7 arg8 arg9 f1 f3 f4 f5 f6 f7 f8 f9 fp hst hsg hof hw n (by omega))
        ∗ (iprop(segCtx c i arg1 arg3 arg4 arg5 arg6 arg7 arg8 arg9 f1 f3 f4 f5 f6 f7 f8 f9 fp hst hsg hof hw ∗ hbPt c scA fullShare (accAt c i arg1 arg3 arg4 arg5 arg6 arg7 arg8 arg9 f1 f3 f4 f5 f6 f7 f8 f9 fp hst hsg hof hw (n + 1) (by omega)))
          -∗ wp frame (wpE (defs₀ (F := F)) Variants.none c none) Set.univ kk K))
      ⊢ wp frame (wpE (defs₀ (F := F)) Variants.none c none) Set.univ
          (segA ⟨n, hn⟩ arg1 arg4 arg8 arg9 k0_pay91 (iota .tc S128x128 32 [0] iota_S128x128_d0_w32) (offAt c arg3 f3 n (by omega)) (offAt c arg3 f3 (n + 1) (by omega)) (hw n hn) kk) K := by
  unfold segCtx
  iintro ⟨⟨H1, H4, H8, H9, HB⟩, HA, Hk⟩
  iapply (segA_sound c ⟨n, hn⟩ arg1 arg4 arg8 arg9 f1 f4 f8 f9 _ _ _ _ _ _ _ hst hsg (hof _ _) (hof _ _))
  isplitl [H1]; · iexact H1
  isplitl [H4]; · iexact H4
  isplitl [H8]; · iexact H8
  isplitl [H9]; · iexact H9
  isplitl [HB]; · iexact HB
  isplitl [HA]; · iexact HA
  iintro ⟨H1, H4, H8, H9, HB, HA⟩
  iapply Hk
  isplitr [HA]
  · isplitl [H1]; · iexact H1
    isplitl [H4]; · iexact H4
    isplitl [H8]; · iexact H8
    isplitl [H9]; · iexact H9
    iexact HB
  iexact HA

end Cert.Kernel.Hand

end
-- ==== Proof.Run.lean ====
/- The kernel's body run once from its operands at any contents: the adapter rows copied in, the weights expanded, the base
   product, the fourteen segments, the store. -/
module

public import proofs.«01_k».proof.Proof.Gen.Kernel.Frame
public import proofs.«01_k».proof.Proof.Gen.Kernel.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Point

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx Idealize.ShloMosaic.Pipeline

set_option maxHeartbeats 8000000 in
/-- The body's run. -/
theorem kernelRun (c : Dev nD) (i : grid0.Coords)
    (arg1 : Memref sig .tc .smem S23 .i32) (harg1 : arg1.IsWhole) (arg2 : Memref sig .tc .smem S23 .i32) (harg2 : arg2.IsWhole)
    (arg3 : Memref sig .tc .smem S15 .i32) (harg3 : arg3.IsWhole) (arg4 : Memref sig .tc .smem S14 .i32) (harg4 : arg4.IsWhole)
    (arg5 : Memref sig .tc .vmem S1280x7168 .bf16) (harg5 : arg5.IsWhole) (arg6 : Memref sig .tc .vmem S896x256 .i32) (harg6 : arg6.IsWhole)
    (arg7 : Memref sig .tc .vmem S56x256 .bf16) (harg7 : arg7.IsWhole) (arg8 : Memref sig .tc .vmem S1280x128 .bf16) (harg8 : arg8.IsWhole)
    (arg9 : Memref sig .tc .vmem S1x2500 .f32) (harg9 : arg9.IsWhole)
    (arg11 : Memref sig .tc .vmem S1280x256 .bf16) (harg11 : arg11.IsWhole)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f11 : Buf (Elt F) (arg11.view.loc (c : Thread nD τ)))
    (fp : Buf (Elt F) (hbM.view.loc (c : Thread nD τ))) (fb : Buf (Elt F) (scB.view.loc (c : Thread nD τ)))
    (fw : Buf (Elt F) (scW.view.loc (c : Thread nD τ))) (fa : Buf (Elt F) (scA.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega)))
    (W : Waits sig Unit) (K : PUnit → sProp 𝕄) :
    iprop(hbPt c arg1 fullShare f1 ∗ hbPt c arg3 fullShare f3 ∗ hbPt c arg4 fullShare f4 ∗ hbPt c arg5 fullShare f5 ∗ hbPt c arg6 fullShare f6 ∗ hbPt c arg7 fullShare f7 ∗ hbPt c arg8 fullShare f8 ∗ hbPt c arg9 fullShare f9 ∗ hbPt c arg11 fullShare f11
        ∗ hbPt c scW fullShare fw ∗ hbPt c scA fullShare fa ∗ hbPt c scB fullShare fb
        ∗ hbPt c hbM fullShare fp
        ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
        ∗ owes (c : Thread nD τ) 0 W
        ∗ (iprop(hbPt c arg1 fullShare f1 ∗ hbPt c arg3 fullShare f3 ∗ hbPt c arg4 fullShare f4 ∗ hbPt c arg5 fullShare f5 ∗ hbPt c arg6 fullShare f6 ∗ hbPt c arg7 fullShare f7 ∗ hbPt c arg8 fullShare f8 ∗ hbPt c arg9 fullShare f9
            ∗ hbPt c arg11 fullShare (arg11.view.writes (Elt F) f11 [⟨Rect.unit (s := S1280x256) ![0, 0] S1280x256.size inb_S1280x256_S1280x256_0_0, outVal c i arg1 arg3 arg4 arg5 arg6 arg7 arg8 arg9 f1 f3 f4 f5 f6 f7 f8 f9 fp hst hsg hof hw⟩])
            ∗ (∃ fw', hbPt c scW fullShare fw') ∗ (∃ fa', hbPt c scA fullShare fa') ∗ (∃ fb', hbPt c scB fullShare fb')
            ∗ hbPt c hbM fullShare fp
            ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
            ∗ ∃ W', owes (c : Thread nD τ) 0 W') -∗ K ⟨⟩))
      ⊢ wp frame (wpE (defs₀ (F := F)) Variants.none c none) Set.univ
          (cc0_base i arg1 harg1 arg2 harg2 arg3 harg3 arg4 harg4 arg5 harg5 arg6 harg6 arg7 harg7 arg8 harg8 arg9 harg9 hbM (Memref.isWhole_whole _) arg11 harg11 scW (Memref.isWhole_whole _) scA (Memref.isWhole_whole _) scB (Memref.isWhole_whole _) cc0_scratch3) K := by
  rw [cc0_base_eq_skeleton]; unfold cc0_base_skel
  iintro ⟨H1, H3, H4, H5, H6, H7, H8, H9, HO, HW, HA, HB, HP, Hq0, Hq1, Hq2, Hq3, Hq4, Hq5, Hq6, Hq7, Hq8, Hq9, Hq10, Hq11, Hq12, Hq13, Hw, Hk⟩
  ihave HP' := (pool_toks c fp).1 $$ HP
  icases HP' with ⟨HPd, HT0, HT1, HT2, HT3, HT4, HT5, HT6, HT7, HT8, HT9, HT10, HT11, HT12, HT13, HT14, HT15, HT16, HT17, HT18, HT19, HT20, HT21, HT22, HT23, HT24, HT25, HT26⟩
  ihave HB' := (Entails.of_eq (scB_pieces c fb)) $$ HB
  icases HB' with ⟨HB0, HB1, HB2, HB3, HB4, HB5, HB6, HB7, HB8, HB9, HB10, HB11, HB12, HB13⟩
  set_option sl_exec.stopBefore "k0_cond1" in
  sl_exec (disch := first | exact chkSeg _ (hsg _ _) | exact chkSlot _ _ (hst _ _) | exact hw 0 (by decide))
  ihave HB := (Entails.of_eq (scB_pieces c (stagedAt c i arg1 arg3 arg4 arg5 arg6 arg7 arg8 arg9 f1 f3 f4 f5 f6 f7 f8 f9 fp hst hsg hof hw)).symm) $$ [HB0 HB1 HB2 HB3 HB4 HB5 HB6 HB7 HB8 HB9 HB10 HB11 HB12 HB13]
  · isplitl [HB0]; · iapply (Entails.of_eq (landed_eq c i fp _ _ fb 0)); iexact HB0
    isplitl [HB1]; · iapply (Entails.of_eq (landed_eq c i fp _ _ fb 1)); iexact HB1
    isplitl [HB2]; · iapply (Entails.of_eq (landed_eq c i fp _ _ fb 2)); iexact HB2
    isplitl [HB3]; · iapply (Entails.of_eq (landed_eq c i fp _ _ fb 3)); iexact HB3
    isplitl [HB4]; · iapply (Entails.of_eq (landed_eq c i fp _ _ fb 4)); iexact HB4
    isplitl [HB5]; · iapply (Entails.of_eq (landed_eq c i fp _ _ fb 5)); iexact HB5
    isplitl [HB6]; · iapply (Entails.of_eq (landed_eq c i fp _ _ fb 6)); iexact HB6
    isplitl [HB7]; · iapply (Entails.of_eq (landed_eq c i fp _ _ fb 7)); iexact HB7
    isplitl [HB8]; · iapply (Entails.of_eq (landed_eq c i fp _ _ fb 8)); iexact HB8
    isplitl [HB9]; · iapply (Entails.of_eq (landed_eq c i fp _ _ fb 9)); iexact HB9
    isplitl [HB10]; · iapply (Entails.of_eq (landed_eq c i fp _ _ fb 10)); iexact HB10
    isplitl [HB11]; · iapply (Entails.of_eq (landed_eq c i fp _ _ fb 11)); iexact HB11
    isplitl [HB12]; · iapply (Entails.of_eq (landed_eq c i fp _ _ fb 12)); iexact HB12
    iapply (Entails.of_eq (landed_eq c i fp _ _ fb 13)); iexact HB13
  ihave HA := (Entails.of_eq (congrArg (hbPt c scA fullShare) (baseBuf_eq c arg5 arg6 arg7 f5 f6 f7 fa))) $$ [HA]
  · iexact HA
  ihave HC : segCtx c i arg1 arg3 arg4 arg5 arg6 arg7 arg8 arg9 f1 f3 f4 f5 f6 f7 f8 f9 fp hst hsg hof hw $$ [H1 H4 H8 H9 HB]
  · unfold segCtx
    isplitl [H1]; · iexact H1
    isplitl [H4]; · iexact H4
    isplitl [H8]; · iexact H8
    isplitl [H9]; · iexact H9
    iexact HB
  -- segment 0
  iapply (segAt_sound 0 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond2" in
  sl_exec (disch := exact hw 1 (by decide))
  -- segment 1
  iapply (segAt_sound 1 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond3" in
  sl_exec (disch := exact hw 2 (by decide))
  -- segment 2
  iapply (segAt_sound 2 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond4" in
  sl_exec (disch := exact hw 3 (by decide))
  -- segment 3
  iapply (segAt_sound 3 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond5" in
  sl_exec (disch := exact hw 4 (by decide))
  -- segment 4
  iapply (segAt_sound 4 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond6" in
  sl_exec (disch := exact hw 5 (by decide))
  -- segment 5
  iapply (segAt_sound 5 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond7" in
  sl_exec (disch := exact hw 6 (by decide))
  -- segment 6
  iapply (segAt_sound 6 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond8" in
  sl_exec (disch := exact hw 7 (by decide))
  -- segment 7
  iapply (segAt_sound 7 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond9" in
  sl_exec (disch := exact hw 8 (by decide))
  -- segment 8
  iapply (segAt_sound 8 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond10" in
  sl_exec (disch := exact hw 9 (by decide))
  -- segment 9
  iapply (segAt_sound 9 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond11" in
  sl_exec (disch := exact hw 10 (by decide))
  -- segment 10
  iapply (segAt_sound 10 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond12" in
  sl_exec (disch := exact hw 11 (by decide))
  -- segment 11
  iapply (segAt_sound 11 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond13" in
  sl_exec (disch := exact hw 12 (by decide))
  -- segment 12
  iapply (segAt_sound 12 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond14" in
  sl_exec (disch := exact hw 13 (by decide))
  -- segment 13
  iapply (segAt_sound 13 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  unfold segCtx
  icases HC with ⟨H1, H4, H8, H9, HB⟩
  sl_exec
  sl_step
  iapply Hk
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexact HO
  isplitl [HW]; · iexists _; iexact HW
  isplitl [HA]; · iexists _; iexact HA
  isplitl [HB]; · iexists _; iexact HB
  isplitl [HPd HT0 HT1 HT2 HT3 HT4 HT5 HT6 HT7 HT8 HT9 HT10 HT11 HT12 HT13 HT14 HT15 HT16 HT17 HT18 HT19 HT20 HT21 HT22 HT23 HT24 HT25 HT26]
  · iapply (pool_toks c fp).2
    isplitl [HPd]; · iexact HPd
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    isplitl [HT19]; · iexact HT19
    isplitl [HT20]; · iexact HT20
    isplitl [HT21]; · iexact HT21
    isplitl [HT22]; · iexact HT22
    isplitl [HT23]; · iexact HT23
    isplitl [HT24]; · iexact HT24
    isplitl [HT25]; · iexact HT25
    iexact HT26
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  iexists _; iexact Hw

end Cert.Kernel.Hand

end
-- ==== Proof.Frame.lean ====
/- The launch: every point of the grid runs the kernel's body (`kernelRun`) on the blocks staged for it, so the program
   terminates, leaves its arguments alone, returns every semaphore to zero, and leaves in the result the blocks the body
   stored. The precondition on the index tables is what makes every row the body names a row of its array. -/
module

public import proofs.«01_k».proof.Proof.Gen.Kernel.Frame
public import proofs.«01_k».proof.Proof.Gen.Kernel.Points
public import Idealize.ShloMosaic.Lib.WholeRead
public import proofs.«01_k».proof.Proof.Tables
public import proofs.«01_k».proof.Proof.Run

@[expose] public section

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Pre_tables_in_range (Tables)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The operands the body is handed -/

/-- Window by window, the staging buffer the body is handed at a point, and its wholeness. -/
abbrev ms0 (t : Fin cfg0.N) : Memref sig .tc .smem S23 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S23 .i32 := win0_1.stage (cfg0.slots t 1)
abbrev hs1 (t : Fin cfg0.N) : (ms1 t).IsWhole := hstage0_1 ((cfg0.slots t 1).cast nbuf0_1)
abbrev ms2 (t : Fin cfg0.N) : Memref sig .tc .smem S15 .i32 := win0_2.stage (cfg0.slots t 2)
abbrev hs2 (t : Fin cfg0.N) : (ms2 t).IsWhole := hstage0_2 ((cfg0.slots t 2).cast nbuf0_2)
abbrev ms3 (t : Fin cfg0.N) : Memref sig .tc .smem S14 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1280x7168 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S896x256 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S56x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2500 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1280x256 .bf16 := win0_9.stage (cfg0.slots t 9)
abbrev hs9 (t : Fin cfg0.N) : (ms9 t).IsWhole := hstage0_9 ((cfg0.slots t 9).cast nbuf0_9)
/-- Input by input, its staging buffer's contents when it holds the block of a point. -/
abbrev bk0 (c : Dev nD) (t : Fin cfg0.N) : Buf (Elt F) ((ms0 t).view.loc (c : Thread nD τ)) := (hs0 t).unread (iblk m c 0 t)
abbrev bk1 (c : Dev nD) (t : Fin cfg0.N) : Buf (Elt F) ((ms1 t).view.loc (c : Thread nD τ)) := (hs1 t).unread (iblk m c 1 t)
abbrev bk2 (c : Dev nD) (t : Fin cfg0.N) : Buf (Elt F) ((ms2 t).view.loc (c : Thread nD τ)) := (hs2 t).unread (iblk m c 2 t)
abbrev bk3 (c : Dev nD) (t : Fin cfg0.N) : Buf (Elt F) ((ms3 t).view.loc (c : Thread nD τ)) := (hs3 t).unread (iblk m c 3 t)
abbrev bk4 (c : Dev nD) (t : Fin cfg0.N) : Buf (Elt F) ((ms4 t).view.loc (c : Thread nD τ)) := (hs4 t).unread (iblk m c 4 t)
abbrev bk5 (c : Dev nD) (t : Fin cfg0.N) : Buf (Elt F) ((ms5 t).view.loc (c : Thread nD τ)) := (hs5 t).unread (iblk m c 5 t)
abbrev bk6 (c : Dev nD) (t : Fin cfg0.N) : Buf (Elt F) ((ms6 t).view.loc (c : Thread nD τ)) := (hs6 t).unread (iblk m c 6 t)
abbrev bk7 (c : Dev nD) (t : Fin cfg0.N) : Buf (Elt F) ((ms7 t).view.loc (c : Thread nD τ)) := (hs7 t).unread (iblk m c 7 t)
abbrev bk8 (c : Dev nD) (t : Fin cfg0.N) : Buf (Elt F) ((ms8 t).view.loc (c : Thread nD τ)) := (hs8 t).unread (iblk m c 8 t)

/-! ## What the body assumes of the tables -/

/-- The index tables are in range on every core. -/
abbrev Hyps : Prop := ∀ c : Dev nD,
  Tables (m ((c : Thread nD τ).loc main_arg6)) (m ((c : Thread nD τ).loc main_arg8)) (m ((c : Thread nD τ).loc main_arg9))

/-- The block of table window 0 is its table. -/
theorem tab0 (c : Dev nD) (t : Fin cfg0.N) (y : S23.Idx) : iblk m c 0 t y = m ((c : Thread nD τ).loc main_arg6) y := by
  unfold iblk; rw [View.read_apply, cast_eq]
  refine (congrFun (V_main_arg6 m c) _).trans (congrArg _ (funext fun a => Fin.ext ?_))
  fin_cases a; show 0 + 1 * (y 0).val = (y 0).val; omega
/-- The block of table window 2 is its table. -/
theorem tab2 (c : Dev nD) (t : Fin cfg0.N) (y : S15.Idx) : iblk m c 2 t y = m ((c : Thread nD τ).loc main_arg8) y := by
  unfold iblk; rw [View.read_apply, cast_eq]
  refine (congrFun (V_main_arg8 m c) _).trans (congrArg _ (funext fun a => Fin.ext ?_))
  fin_cases a; show 0 + 1 * (y 0).val = (y 0).val; omega
/-- The block of table window 3 is its table. -/
theorem tab3 (c : Dev nD) (t : Fin cfg0.N) (y : S14.Idx) : iblk m c 3 t y = m ((c : Thread nD τ).loc main_arg9) y := by
  unfold iblk; rw [View.read_apply, cast_eq]
  refine (congrFun (V_main_arg9 m c) _).trans (congrArg _ (funext fun a => Fin.ext ?_))
  fin_cases a; show 0 + 1 * (y 0).val = (y 0).val; omega
variable {m} in
/-- A word loaded from the staged start rows is one of the table's, so in range. -/
theorem hst (hm : Hyps m) (c : Dev nD) (t : Fin cfg0.N) (r : LoadRect S23) (y) :
    BitVec.toNat (w := 32) ((ms0 t).view.readAt (Elt F) r (bk0 m c t) y) < 2304 := by
  rw [(hs0 t).readAt_unread]; rw [tab0]; exact (hm c).st_lt _
variable {m} in
/-- A word loaded from the staged adapter numbers is one of the table's, so in range. -/
theorem hsg (hm : Hyps m) (c : Dev nD) (t : Fin cfg0.N) (r : LoadRect S14) (y) :
    BitVec.toNat (w := 32) ((ms3 t).view.readAt (Elt F) r (bk3 m c t) y) < 23 := by
  rw [(hs3 t).readAt_unread]; rw [tab3]; exact (hm c).sg_lt _
variable {m} in
/-- A word loaded from the staged offsets is one of the table's, so in range. -/
theorem hof (hm : Hyps m) (c : Dev nD) (t : Fin cfg0.N) (r : LoadRect S15) (y) :
    BitVec.toNat (w := 32) ((ms2 t).view.readAt (Elt F) r (bk2 m c t) y) ≤ 1280 := by
  rw [(hs2 t).readAt_unread]; rw [tab2]; exact (hm c).of_le _
/-- The staged offsets are the table, word for word. -/
theorem offAt_eq (c : Dev nD) (t : Fin cfg0.N) (n : ℕ) (h : n < 15) :
    offAt c (ms2 t) (bk2 m c t) n h = m ((c : Thread nD τ).loc main_arg8) (ix1 (⟨n, h⟩ : Fin 15)) := by
  unfold offAt; rw [(hs2 t).readAt_unread, tab2]
  refine congrArg _ (funext fun a => Fin.ext ?_)
  fin_cases a; show n + 1 * 0 = n; omega
variable {m} in
/-- Every segment starts no later than it ends, inside the rows. -/
theorem hw (hm : Hyps m) (c : Dev nD) (t : Fin cfg0.N) (n : ℕ) (h : n < 14) :
    k0_chk98 (offAt c (ms2 t) (bk2 m c t) n (by omega)) (offAt c (ms2 t) (bk2 m c t) (n + 1) (by omega)) := by
  rw [offAt_eq, offAt_eq]
  exact chkRows _ _ ((hm c).of_mono n h) ((hm c).of_le _)

/-! ## The invariant between points -/

/-- The fourteen cells of the kernel's own semaphore array. -/
abbrev osem0 : Fin 14 → SemLoc sig := fun j => (![SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11, 12, 13] (by decide) (by decide)]; rfl
/-- The pool, left in HBM: no window's array. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM fullShare (V m c main_arg4)) := by
  rw [BI.bigSep_eq_bigSepL_of_eq [main_arg4] (by decide) (by decide)]; rfl

/-- Between points: the three scratches at some contents, the generator register at some state, the cells at zero, the pool
    at its launch contents. -/
theorem PhiD0_eq (c : Dev nD) :
    (Pipeline.ΦD osem0 spec0 H0 (V m) c : sProp 𝕄)
      = iprop(iprop((∃ f, hbPt c scW fullShare f) ∗ (∃ f, hbPt c scA fullShare f) ∗ (∃ f, hbPt c scB fullShare f)) ∗ (∃ r, prngReg c r)
          ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)
          ∗ iprop(hbPt c hbM fullShare (V m c main_arg4))) := by
  rw [Pipeline.ΦD_eq, scopedRest0_eq, ownSems00_eq, hbmPts0_eq]; try rfl

/-! ## The proof data -/

variable {m}

/-- The block of the result the body stores at a point. -/
def outBlk (hm : Hyps m) (c : Dev nD) (t : Fin cfg0.N) : Vec F S1280x256 .bf16 :=
  outVal c (grid0.coords t) (ms0 t) (ms2 t) (ms3 t) (ms4 t) (ms5 t) (ms6 t) (ms7 t) (ms8 t)
    (bk0 m c t) (bk2 m c t) (bk3 m c t) (bk4 m c t) (bk5 m c t) (bk6 m c t) (bk7 m c t) (bk8 m c t) (V m c main_arg4)
    (hst hm c t) (hsg hm c t) (hof hm c t) (hw hm c t)

/-- The arrays as the region finds them; each input's buffer left at its block, the result's at `outBlk`; full shares,
    nothing owed. -/
def dats (hm : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk hm c t
  Φ _ := Pipeline.ΦD osem0 spec0 H0 (V m) c
  q _ := fullShare
  owed _ := 0

theorem A_eq (hm : Hyps m) (c : Dev nD) (w : Fin cfg0.W) : (dats hm 0 c).A w = V m c (Pipeline.arrRef spec0 w) := by dsimp only [dats]

/-- What an input's staging buffer holds before the body, input by input: its block. -/
theorem before0 (hm : Hyps m) (c : Dev nD) (t : Fin cfg0.N) (d) : (dats hm 0 c).before 0 t d = iblk m c 0 t :=
  ((dats hm 0 c).before_in_eq_fetched 0 rfl (fun _ => rfl) (fun _ _ _ => rfl) (fun _ => rfl) t d).trans rfl
theorem before1 (hm : Hyps m) (c : Dev nD) (t : Fin cfg0.N) (d) : (dats hm 0 c).before 1 t d = iblk m c 1 t :=
  ((dats hm 0 c).before_in_eq_fetched 1 rfl (fun _ => rfl) (fun _ _ _ => rfl) (fun _ => rfl) t d).trans rfl
theorem before2 (hm : Hyps m) (c : Dev nD) (t : Fin cfg0.N) (d) : (dats hm 0 c).before 2 t d = iblk m c 2 t :=
  ((dats hm 0 c).before_in_eq_fetched 2 rfl (fun _ => rfl) (fun _ _ _ => rfl) (fun _ => rfl) t d).trans rfl
theorem before3 (hm : Hyps m) (c : Dev nD) (t : Fin cfg0.N) (d) : (dats hm 0 c).before 3 t d = iblk m c 3 t :=
  ((dats hm 0 c).before_in_eq_fetched 3 rfl (fun _ => rfl) (fun _ _ _ => rfl) (fun _ => rfl) t d).trans rfl
theorem before4 (hm : Hyps m) (c : Dev nD) (t : Fin cfg0.N) (d) : (dats hm 0 c).before 4 t d = iblk m c 4 t :=
  ((dats hm 0 c).before_in_eq_fetched 4 rfl (fun _ => rfl) (fun _ _ _ => rfl) (fun _ => rfl) t d).trans rfl
theorem before5 (hm : Hyps m) (c : Dev nD) (t : Fin cfg0.N) (d) : (dats hm 0 c).before 5 t d = iblk m c 5 t :=
  ((dats hm 0 c).before_in_eq_fetched 5 rfl (fun _ => rfl) (fun _ _ _ => rfl) (fun _ => rfl) t d).trans rfl
theorem before6 (hm : Hyps m) (c : Dev nD) (t : Fin cfg0.N) (d) : (dats hm 0 c).before 6 t d = iblk m c 6 t :=
  ((dats hm 0 c).before_in_eq_fetched 6 rfl (fun _ => rfl) (fun _ _ _ => rfl) (fun _ => rfl) t d).trans rfl
theorem before7 (hm : Hyps m) (c : Dev nD) (t : Fin cfg0.N) (d) : (dats hm 0 c).before 7 t d = iblk m c 7 t :=
  ((dats hm 0 c).before_in_eq_fetched 7 rfl (fun _ => rfl) (fun _ _ _ => rfl) (fun _ => rfl) t d).trans rfl
theorem before8 (hm : Hyps m) (c : Dev nD) (t : Fin cfg0.N) (d) : (dats hm 0 c).before 8 t d = iblk m c 8 t :=
  ((dats hm 0 c).before_in_eq_fetched 8 rfl (fun _ => rfl) (fun _ _ _ => rfl) (fun _ => rfl) t d).trans rfl

/-- A whole memref owned at what reads as `X` is its buffer at the contents that read as `X`. -/
theorem hb_of_owns (c : Dev nD) {sp : Space} {S : Shape} {e : EltTy} {M : Memref sig .tc sp S e} (hM : M.IsWhole) (X : S.Idx → Elt F e) :
    (owns (c : Thread nD τ) M fullShare X : sProp 𝕄) ⊢ hbPt c M fullShare (hM.unread X) := by
  unfold owns
  rw [hM.set_eq_univ]
  iintro ⟨%f, %hf, H⟩
  rw [hM.eq_unread hf]
  iexact H
theorem owns_of_hb (c : Dev nD) {sp : Space} {S : Shape} {e : EltTy} {M : Memref sig .tc sp S e} (hM : M.IsWhole) (X : S.Idx → Elt F e)
    {f : Buf (Elt F) (M.view.loc (c : Thread nD τ))} (hf : M.view.read (Elt F) f = X) :
    hbPt c M fullShare f ⊢ (owns (c : Thread nD τ) M fullShare X : sProp 𝕄) := by
  unfold owns
  rw [hM.set_eq_univ]
  iintro H
  iexists f
  isplitr; · ipureintro; exact hf
  iexact H

/-- A block stored whole reads back as stored. -/
theorem read_stored {M : Memref sig .tc .vmem S1280x256 .bf16} (f : M.view.ty.Contents (Elt F)) (w : Vec F S1280x256 .bf16) :
    M.view.read (Elt F) (M.view.writes (Elt F) f [⟨Rect.unit (s := S1280x256) ![0, 0] S1280x256.size inb_S1280x256_S1280x256_0_0, w⟩]) = w := by
  funext y
  have hy : (Rect.unit (s := S1280x256) ![0, 0] S1280x256.size inb_S1280x256_S1280x256_0_0).emb y = y := by
    funext a; apply Fin.ext; show (![0, 0] : Fin 2 → ℕ) a + 1 * (y a).val = (y a).val; fin_cases a <;> simp
  have e := View.read_writes_cons_emb (Val := Elt F) M.view f (Rect.unit (s := S1280x256) ![0, 0] S1280x256.size inb_S1280x256_S1280x256_0_0) w [] y
  rw [hy] at e
  exact e

/-! ## The body at a point -/

/-- What the body is called with at point `t`. -/
def bodyPre (hm : Hyps m) (c : Dev nD) (t : Fin cfg0.N) : sProp 𝕄 :=
  iprop((dats hm 0 c).Φ t.castSucc ∗ (dats hm 0 c).owesAt () t.castSucc
    ∗ (∃ d, owns (c : Thread nD τ) (ms0 t) fullShare ((dats hm 0 c).before 0 t d))
    ∗ (∃ d, owns (c : Thread nD τ) (ms1 t) fullShare ((dats hm 0 c).before 1 t d))
    ∗ (∃ d, owns (c : Thread nD τ) (ms2 t) fullShare ((dats hm 0 c).before 2 t d))
    ∗ (∃ d, owns (c : Thread nD τ) (ms3 t) fullShare ((dats hm 0 c).before 3 t d))
    ∗ (∃ d, owns (c : Thread nD τ) (ms4 t) fullShare ((dats hm 0 c).before 4 t d))
    ∗ (∃ d, owns (c : Thread nD τ) (ms5 t) fullShare ((dats hm 0 c).before 5 t d))
    ∗ (∃ d, owns (c : Thread nD τ) (ms6 t) fullShare ((dats hm 0 c).before 6 t d))
    ∗ (∃ d, owns (c : Thread nD τ) (ms7 t) fullShare ((dats hm 0 c).before 7 t d))
    ∗ (∃ d, owns (c : Thread nD τ) (ms8 t) fullShare ((dats hm 0 c).before 8 t d))
    ∗ (∃ d, owns (c : Thread nD τ) (ms9 t) fullShare ((dats hm 0 c).before 9 t d)))
/-- What it returns. -/
def bodyPost (hm : Hyps m) (c : Dev nD) (t : Fin cfg0.N) : sProp 𝕄 :=
  iprop((dats hm 0 c).Φ t.succ ∗ (dats hm 0 c).owesAt () t.succ
    ∗ owns (c : Thread nD τ) (ms0 t) fullShare ((dats hm 0 c).after 0 t)
    ∗ owns (c : Thread nD τ) (ms1 t) fullShare ((dats hm 0 c).after 1 t)
    ∗ owns (c : Thread nD τ) (ms2 t) fullShare ((dats hm 0 c).after 2 t)
    ∗ owns (c : Thread nD τ) (ms3 t) fullShare ((dats hm 0 c).after 3 t)
    ∗ owns (c : Thread nD τ) (ms4 t) fullShare ((dats hm 0 c).after 4 t)
    ∗ owns (c : Thread nD τ) (ms5 t) fullShare ((dats hm 0 c).after 5 t)
    ∗ owns (c : Thread nD τ) (ms6 t) fullShare ((dats hm 0 c).after 6 t)
    ∗ owns (c : Thread nD τ) (ms7 t) fullShare ((dats hm 0 c).after 7 t)
    ∗ owns (c : Thread nD τ) (ms8 t) fullShare ((dats hm 0 c).after 8 t)
    ∗ owns (c : Thread nD τ) (ms9 t) fullShare ((dats hm 0 c).after 9 t))

set_option maxHeartbeats 1000000 in
/-- The body at the point: the invariant opened, `kernelRun` on the blocks, the invariant closed. -/
theorem sound_body (hm : Hyps m) (c : Dev nD) (t : Fin cfg0.N) :
    bodyPre hm c t ⊢ wp frame (wpE (defs₀ (F := F)) Variants.none c none) Set.univ (bodyAt0 t) (fun _ => bodyPost hm c t) := by
  unfold bodyPre bodyPost bodyAt0
  rw [show (dats hm 0 c).Φ t.succ = (dats hm 0 c).Φ t.castSucc from rfl,
    show (dats hm 0 c).owesAt () t.succ = (dats hm 0 c).owesAt () t.castSucc from rfl,
    show (dats hm 0 c).Φ t.castSucc = Pipeline.ΦD osem0 spec0 H0 (V m) c from rfl, PhiD0_eq]
  unfold Dat.owesAt Pipeline.owesWithin
  rw [show (dats hm 0 c).owed t.castSucc = 0 from rfl]
  iintro ⟨⟨⟨⟨%fw, HW⟩, ⟨%fa, HA⟩, ⟨%fb, HB⟩⟩, Hg, ⟨Hq0, Hq1, Hq2, Hq3, Hq4, Hq5, Hq6, Hq7, Hq8, Hq9, Hq10, Hq11, Hq12, Hq13⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0 hm c t d0]
  rw [before1 hm c t d1]
  rw [before2 hm c t d2]
  rw [before3 hm c t d3]
  rw [before4 hm c t d4]
  rw [before5 hm c t d5]
  rw [before6 hm c t d6]
  rw [before7 hm c t d7]
  rw [before8 hm c t d8]
  ihave H0 := (hb_of_owns c (hs0 t) _) $$ H0
  ihave H2 := (hb_of_owns c (hs2 t) _) $$ H2
  ihave H3 := (hb_of_owns c (hs3 t) _) $$ H3
  ihave H4 := (hb_of_owns c (hs4 t) _) $$ H4
  ihave H5 := (hb_of_owns c (hs5 t) _) $$ H5
  ihave H6 := (hb_of_owns c (hs6 t) _) $$ H6
  ihave H7 := (hb_of_owns c (hs7 t) _) $$ H7
  ihave H8 := (hb_of_owns c (hs8 t) _) $$ H8
  ihave H9 := (hb_of_owns c (hs9 t) _) $$ H9
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (bk0 m c t) (bk2 m c t) (bk3 m c t) (bk4 m c t) (bk5 m c t) (bk6 m c t) (bk7 m c t) (bk8 m c t) _ (V m c main_arg4) fb fw fa
    (hst hm c t) (hsg hm c t) (hof hm c t) (hw hm c t) W _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HW]; · iexact HW
  isplitl [HA]; · iexact HA
  isplitl [HB]; · iexact HB
  isplitl [Hh]; · iexact Hh
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [HO]; · iexact HO
  iintro ⟨H0, H2, H3, H4, H5, H6, H7, H8, H9, HW, HA, HB, Hh, Hq0, Hq1, Hq2, Hq3, Hq4, Hq5, Hq6, Hq7, Hq8, Hq9, Hq10, Hq11, Hq12, Hq13, ⟨%W', HO⟩⟩
  isplitl [HW HA HB Hg Hq0 Hq1 Hq2 Hq3 Hq4 Hq5 Hq6 Hq7 Hq8 Hq9 Hq10 Hq11 Hq12 Hq13 Hh]
  · isplitl [HW HA HB]
    · isplitl [HW]; · iexact HW
      isplitl [HA]; · iexact HA
      iexact HB
    isplitl [Hg]; · iexact Hg
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexact Hh
  isplitl [HO]
  · iexists W'; isplitr; · ipureintro; exact fun _ _ => Or.inl trivial
    iexact HO
  isplitl [H0]; · iapply (owns_of_hb c (hs0 t) (iblk m c 0 t) ((hs0 t).read_unread _)); iexact H0
  isplitl [H1]; · iexact H1
  isplitl [H2]; · iapply (owns_of_hb c (hs2 t) (iblk m c 2 t) ((hs2 t).read_unread _)); iexact H2
  isplitl [H3]; · iapply (owns_of_hb c (hs3 t) (iblk m c 3 t) ((hs3 t).read_unread _)); iexact H3
  isplitl [H4]; · iapply (owns_of_hb c (hs4 t) (iblk m c 4 t) ((hs4 t).read_unread _)); iexact H4
  isplitl [H5]; · iapply (owns_of_hb c (hs5 t) (iblk m c 5 t) ((hs5 t).read_unread _)); iexact H5
  isplitl [H6]; · iapply (owns_of_hb c (hs6 t) (iblk m c 6 t) ((hs6 t).read_unread _)); iexact H6
  isplitl [H7]; · iapply (owns_of_hb c (hs7 t) (iblk m c 7 t) ((hs7 t).read_unread _)); iexact H7
  isplitl [H8]; · iapply (owns_of_hb c (hs8 t) (iblk m c 8 t) ((hs8 t).read_unread _)); iexact H8
  iapply (owns_of_hb c (hs9 t) (outBlk hm c t) (read_stored _ _)); iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the launch asks of the body. -/
theorem body_obligation (hm : Hyps m) (c : Dev nD) : BodyObligation (dats (F := F) hm 0 c) (defs₀ (F := F)) Variants.none () Set.univ := fun t => by
  rw [bigSep_W0, bigSep_W0, defs₀_row]
  exact triple_restated (sound_body hm c t) rfl .rfl fun _ => .rfl

/-! ## The launch -/

/-- @main up to the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every fair execution terminates with every array at its folded write-backs, every other buffer as the region
    found it, and every counter at zero. -/
theorem run_main (hm : Hyps m) :
    θ_run defs (onTc (τ := τ) (main (F := F))) (s₀ m ρ)
      (fun r => Pipeline.FramePost cfgs (dats hm) 0 (V m) r ∧ r.2.sem = fun _ => 0) :=
  Pipeline.θ_run_frame_dma (Q' := _) cfgs (dats hm) (0 : Fin 1) launch0 osem0 defs₀ Variants.none ownSemFacts0 H0 H0_sub m ρ main
    (hbody := fun c => (body_obligation hm c).loose) (hshare := fun c => (dats hm 0 c).share_full fun _ => rfl)
    (howed := fun _ _ => rfl) (V := V m) (hmain := hmainD Variants.none) (hA := A_eq hm)
    (hin := fun _ => .rfl) (hout := fun _ => .rfl)

/-- The arguments end as they began. -/
theorem args_kept (hm : Hyps m) {r : PUnit × MemSt nD τ sig (Elt F)} (h : Pipeline.FramePost cfgs (dats hm) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := ⟨((h c).1 4).trans (((dats hm 0 c).arrAt_in 4 rfl _).trans ((A_eq hm c 4).trans (V_main_arg0 m c))),
      ((h c).1 5).trans (((dats hm 0 c).arrAt_in 5 rfl _).trans ((A_eq hm c 5).trans (V_main_arg1 m c))),
      ((h c).1 6).trans (((dats hm 0 c).arrAt_in 6 rfl _).trans ((A_eq hm c 6).trans (V_main_arg2 m c))),
      ((h c).1 7).trans (((dats hm 0 c).arrAt_in 7 rfl _).trans ((A_eq hm c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 0).trans (((dats hm 0 c).arrAt_in 0 rfl _).trans ((A_eq hm c 0).trans (V_main_arg6 m c))),
      ((h c).1 1).trans (((dats hm 0 c).arrAt_in 1 rfl _).trans ((A_eq hm c 1).trans (V_main_arg7 m c))),
      ((h c).1 2).trans (((dats hm 0 c).arrAt_in 2 rfl _).trans ((A_eq hm c 2).trans (V_main_arg8 m c))),
      ((h c).1 3).trans (((dats hm 0 c).arrAt_in 3 rfl _).trans ((A_eq hm c 3).trans (V_main_arg9 m c)))⟩

/-- The program terminates, leaves its arguments unchanged and returns every counter to zero. -/
theorem quiescent (hm : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => args_kept hm h.1 c, h.2⟩) (run_main ρ hm)

end Cert.Kernel.Hand

end
-- ==== Proof.Ideal.Checks.lean ====
/-
  Hand-written, untrusted. The word arithmetic of the kernel's tables and tile loops, and the side conditions the body assumes,
  each from the range of the word it speaks of: a segment's adapter below 23, an adapter's first pool slot below 2304, a
  segment's two row offsets at most 1280.
-/
module

public import proofs.«01_k».proof.Proof.Gen.KernelIdeal

@[expose] public section

noncomputable section

namespace Cert.KernelIdeal.Hand

open Cert.KernelIdeal Cert.KernelIdeal.Gen
open Idealize.ShloMosaic

/-! ## The word operations -/

/-- The kernel's `v // 128` on a word: the signed quotient, lowered by one where the signs differ and the remainder is not zero. -/
abbrev fdiv (v : BitVec 32) : BitVec 32 :=
  Scalar.select
    (Scalar.andi
      (Scalar.cmpi .ne (Scalar.subi (Scalar.extui (Scalar.cmpi .sgt v 0#32)) (Scalar.extui (Scalar.cmpi .slt v 0#32)))
        (Scalar.subi (Scalar.extui (Scalar.cmpi .sgt 128#32 0#32)) (Scalar.extui (Scalar.cmpi .slt 128#32 0#32))))
      (Scalar.cmpi .ne (Scalar.remsi v 128#32) 0#32))
    (Scalar.subi (Scalar.divsi v 128#32) 1#32) (Scalar.divsi v 128#32)

/-- On a word below 1408 it is the quotient of the numbers. -/
theorem fdiv_fin : ∀ n : Fin 1408, fdiv (BitVec.ofNat 32 n.val) = BitVec.ofNat 32 (n.val / 128) := by decide +kernel
theorem fdiv_of_lt (v : BitVec 32) (h : v.toNat < 1408) : fdiv v = BitVec.ofNat 32 (v.toNat / 128) := by
  have := fdiv_fin ⟨v.toNat, h⟩
  rwa [BitVec.ofNat_toNat, BitVec.setWidth_eq] at this

/-- The first tile of a segment's rows, and the tile after its last. -/
def tileA (lo : BitVec 32) : ℕ := lo.toNat / 128
def tileB (hi : BitVec 32) : ℕ := (hi.toNat + 127) / 128

theorem fdiv_lo (lo : BitVec 32) (h : lo.toNat ≤ 1280) : fdiv lo = BitVec.ofNat 32 (tileA lo) :=
  fdiv_of_lt lo (by omega)
theorem fdiv_hi (hi : BitVec 32) (h : hi.toNat ≤ 1280) :
    fdiv (Scalar.subi (Scalar.addi hi 128#32) 1#32) = BitVec.ofNat 32 (tileB hi) := by
  have e : (Scalar.subi (Scalar.addi hi 128#32) 1#32).toNat = hi.toNat + 127 := by
    show ((hi + 128#32) - 1#32).toNat = _
    rw [BitVec.toNat_sub, BitVec.toNat_add]; simp only [BitVec.toNat_ofNat]; omega
  rw [fdiv_of_lt _ (by omega), e]; rfl

theorem tileA_le (lo : BitVec 32) (h : lo.toNat ≤ 1280) : tileA lo ≤ 10 := by unfold tileA; omega
theorem tileB_le (hi : BitVec 32) (h : hi.toNat ≤ 1280) : tileB hi ≤ 10 := by unfold tileB; omega
theorem tileA_le_tileB (lo hi : BitVec 32) (h : lo.toNat ≤ hi.toNat) : tileA lo ≤ tileB hi := by unfold tileA tileB; omega

theorem ub_fin : ∀ a b : Fin 11, Scalar.addi (BitVec.ofNat 32 a.val)
    (Scalar.muli (Scalar.divsi (Scalar.subi (BitVec.ofNat 32 b.val) (BitVec.ofNat 32 a.val)) 1#32) 1#32) = BitVec.ofNat 32 b.val := by decide +kernel
theorem ub2_fin : ∀ a b : Fin 11, Scalar.addi (BitVec.ofNat 32 a.val)
    (Scalar.subi (BitVec.ofNat 32 b.val) (BitVec.ofNat 32 a.val)) = BitVec.ofNat 32 b.val := by decide +kernel
theorem trips_fin : ∀ a b : Fin 11, Scf.trips (BitVec.ofNat 32 a.val) (BitVec.ofNat 32 b.val) 1#32 = b.val - a.val := by decide +kernel
theorem ok_fin : ∀ a b : Fin 11, a ≤ b → Scf.OK (BitVec.ofNat 32 a.val) (BitVec.ofNat 32 b.val) 1#32 := by decide +kernel
theorem row_fin : ∀ a k : Fin 11, (Scalar.muli (Scf.iv (BitVec.ofNat 32 a.val) 1#32 k.val) 128#32).toNat = (a.val + k.val) * 128 := by decide +kernel

/-- The tile loop of a segment: from its first tile to the one after its last, by one. -/
theorem loop_eq (lo hi : BitVec 32) (hlo : lo.toNat ≤ 1280) (hhi : hi.toNat ≤ 1280) :
    k0_t27_loop lo hi = ⟨BitVec.ofNat 32 (tileA lo), BitVec.ofNat 32 (tileB hi), 1#32⟩ := by
  have e : k0_t27_loop lo hi = ⟨fdiv lo, Scalar.addi (fdiv lo) (Scalar.muli (Scalar.divsi (Scalar.subi
      (fdiv (Scalar.subi (Scalar.addi hi 128#32) 1#32)) (fdiv lo)) 1#32) 1#32), 1#32⟩ := rfl
  rw [e, fdiv_lo lo hlo, fdiv_hi hi hhi]
  rw [ub_fin ⟨tileA lo, by have := tileA_le lo hlo; omega⟩ ⟨tileB hi, by have := tileB_le hi hhi; omega⟩]
/-- The loop over what is left when the step does not divide the count: the step is one, so it is empty. -/
theorem loop2_eq (lo hi : BitVec 32) (hlo : lo.toNat ≤ 1280) (hhi : hi.toNat ≤ 1280) :
    k0_t28_loop lo hi = ⟨BitVec.ofNat 32 (tileB hi), BitVec.ofNat 32 (tileB hi), 1#32⟩ := by
  have e : k0_t28_loop lo hi = ⟨Scalar.addi (fdiv lo) (Scalar.muli (Scalar.divsi (Scalar.subi
      (fdiv (Scalar.subi (Scalar.addi hi 128#32) 1#32)) (fdiv lo)) 1#32) 1#32),
      Scalar.addi (fdiv lo) (Scalar.subi (fdiv (Scalar.subi (Scalar.addi hi 128#32) 1#32)) (fdiv lo)), 1#32⟩ := rfl
  rw [e, fdiv_lo lo hlo, fdiv_hi hi hhi]
  rw [ub_fin ⟨tileA lo, by have := tileA_le lo hlo; omega⟩ ⟨tileB hi, by have := tileB_le hi hhi; omega⟩,
    ub2_fin ⟨tileA lo, by have := tileA_le lo hlo; omega⟩ ⟨tileB hi, by have := tileB_le hi hhi; omega⟩]

theorem trips_eq (lo hi : BitVec 32) (hlo : lo.toNat ≤ 1280) (hhi : hi.toNat ≤ 1280) :
    (k0_t27_loop lo hi).trips = tileB hi - tileA lo := by
  rw [loop_eq lo hi hlo hhi]
  exact trips_fin ⟨tileA lo, by have := tileA_le lo hlo; omega⟩ ⟨tileB hi, by have := tileB_le hi hhi; omega⟩
theorem trips2_eq (lo hi : BitVec 32) (hlo : lo.toNat ≤ 1280) (hhi : hi.toNat ≤ 1280) :
    (k0_t28_loop lo hi).trips = 0 := by
  rw [loop2_eq lo hi hlo hhi]
  exact (trips_fin ⟨tileB hi, by have := tileB_le hi hhi; omega⟩ ⟨tileB hi, by have := tileB_le hi hhi; omega⟩).trans (Nat.sub_self _)

/-- The first row of the tile a trip works on. -/
theorem mult_eq (lo hi : BitVec 32) (hlo : lo.toNat ≤ 1280) (hhi : hi.toNat ≤ 1280) (k : Fin (k0_t27_loop lo hi).trips) :
    (k0_mult111 lo hi k).toNat = (tileA lo + k.val) * 128 := by
  have e : k0_mult111 lo hi k = Scalar.muli (Scf.iv (fdiv lo) 1#32 k.val) 128#32 := rfl
  have hk := k.isLt.trans_eq (trips_eq lo hi hlo hhi)
  have := tileB_le hi hhi
  rw [e, fdiv_lo lo hlo]
  exact row_fin ⟨tileA lo, by have := tileA_le lo hlo; omega⟩ ⟨k.val, by omega⟩
theorem off137_eq (lo hi : BitVec 32) (k : Fin (k0_t27_loop lo hi).trips) :
    k0_off137 lo hi k = ![(k0_mult111 lo hi k).toNat, 0] := rfl
theorem off138_eq (lo hi : BitVec 32) (k : Fin (k0_t27_loop lo hi).trips) :
    k0_off138 lo hi k = ![(k0_mult111 lo hi k).toNat, 0] := rfl

/-- Clearing a word's five low bits rounds the number down to a multiple of 32. -/
theorem and32_fin : ∀ n : Fin 2304, (Scalar.andi (BitVec.ofNat 32 n.val) 4294967264#32).toNat = n.val / 32 * 32 := by decide +kernel
theorem and32_of_lt (v : BitVec 32) (h : v.toNat < 2304) : (Scalar.andi v 4294967264#32).toNat = v.toNat / 32 * 32 := by
  have := and32_fin ⟨v.toNat, h⟩
  rwa [BitVec.ofNat_toNat, BitVec.setWidth_eq] at this
theorem and128_fin : ∀ n : Fin 2304, (Scalar.andi (Scalar.andi (BitVec.ofNat 32 n.val) 4294967264#32) 4294967168#32).toNat = n.val / 128 * 128 := by decide +kernel
theorem and128_of_lt (v : BitVec 32) (h : v.toNat < 2304) : (Scalar.andi (Scalar.andi v 4294967264#32) 4294967168#32).toNat = v.toNat / 128 * 128 := by
  have := and128_fin ⟨v.toNat, h⟩
  rwa [BitVec.ofNat_toNat, BitVec.setWidth_eq] at this
/-- The first column of the column block of grid point `i`. -/
theorem col_fin : ∀ n : Fin 8, (Scalar.muli (BitVec.ofNat 32 n.val) 256#32).toNat = n.val * 256 := by decide

/-! ## The side conditions -/

/-- An adapter's number is inside the table of first slots. -/
theorem chkSeg (v : BitVec 32) (h : v.toNat < 23) : k0_chk1 v := by
  intro a; fin_cases a; show v.toNat + 1 ≤ 23; omega

theorem off2_eq (i : grid0.Coords) (v : BitVec 32) (h : v.toNat < 2304) : k0_off2 i v = ![v.toNat / 32 * 32, (i 0).val * 256] := by
  show ![(Scalar.andi v 4294967264#32).toNat, (Scalar.muli (BitVec.ofNat 32 (i 0).val) 256#32).toNat] = _
  rw [and32_of_lt v h, col_fin (i 0)]

/-- An adapter's 128 pool rows from its rounded first slot, in the point's columns, are inside the pool and whole words. -/
theorem chkSlot (i : grid0.Coords) (v : BitVec 32) (h : v.toNat < 2304) : k0_chk2 i v := by
  have hi : (i 0).val < 8 := (i 0).isLt
  refine ⟨?_, ?_, ?_⟩
  · show 32 ∣ (Scalar.andi v 4294967264#32).toNat
    rw [and32_of_lt v h]; exact ⟨_, Nat.mul_comm _ _⟩
  · rw [off2_eq i v h]; intro a; fin_cases a
    · show v.toNat / 32 * 32 + 128 ≤ 2500; omega
    · show (i 0).val * 256 + 256 ≤ 2048; omega
  · intro hinb
    refine Rect.PackedRows.wholeWords (.inr ⟨by decide, rfl, .inl ⟨?_, ?_⟩⟩)
    · show 4 ∣ k0_off2 i v 0
      rw [off2_eq i v h]; show 4 ∣ v.toNat / 32 * 32; omega
    · show 4 ∣ 128; decide

/-- The tiles of a segment are inside the rows. -/
theorem chkRows (lo hi : BitVec 32) (hle : lo.toNat ≤ hi.toNat) (hhi : hi.toNat ≤ 1280) : k0_chk98 lo hi := by
  have hlo : lo.toNat ≤ 1280 := by omega
  have hA := tileA_le lo hlo; have hB := tileB_le hi hhi; have hAB := tileA_le_tileB lo hi hle
  have m (k : Fin (k0_t27_loop lo hi).trips) : (k0_mult111 lo hi k).toNat = (tileA lo + k.val) * 128 ∧ tileA lo + k.val < 10 := by
    have hk := k.isLt.trans_eq (trips_eq lo hi hlo hhi)
    exact ⟨mult_eq lo hi hlo hhi k, by omega⟩
  have no (k : Fin (k0_t28_loop lo hi).trips) : False := by
    have hk := k.isLt.trans_eq (trips2_eq lo hi hlo hhi); omega
  refine ⟨?_, ?_, ?_, ?_, ?_, fun k => (no k).elim, fun k => (no k).elim, fun k => (no k).elim⟩
  · intro _; rw [loop_eq lo hi hlo hhi]; exact ok_fin ⟨tileA lo, by omega⟩ ⟨tileB hi, by omega⟩ hAB
  · intro k _; rw [(m k).1]; exact ⟨_, Nat.mul_comm _ _⟩
  · intro k _; rw [off137_eq, (m k).1]; intro a; fin_cases a
    · show (tileA lo + k.val) * 128 + 128 ≤ 1280; have := (m k).2; omega
    · show 0 + 128 ≤ 128; decide
  · intro k _; rw [off138_eq, (m k).1]; intro a; fin_cases a
    · show (tileA lo + k.val) * 128 + 128 ≤ 1280; have := (m k).2; omega
    · show 0 + 256 ≤ 256; decide
  · intro _; rw [loop2_eq lo hi hlo hhi]; exact ok_fin ⟨tileB hi, by omega⟩ ⟨tileB hi, by omega⟩ le_rfl

theorem chkSeg' (lo hi v : BitVec 32) (h : v.toNat < 23) : k0_chk96 lo hi v := fun _ => chkSeg v h

theorem off136_eq (v : BitVec 32) (h : v.toNat < 2304) : k0_off136 v = ![0, v.toNat / 128 * 128] := by
  show ![0, (Scalar.andi (Scalar.andi v 4294967264#32) 4294967168#32).toNat] = _
  rw [and128_of_lt v h]
/-- The two lane tiles of scales an adapter's slots lie in are inside the scale row. -/
theorem chkScale (lo hi v : BitVec 32) (h : v.toNat < 2304) : k0_chk97 lo hi v := by
  refine ⟨fun _ => ?_, fun _ => ?_, fun _ => ?_⟩
  · show 32 ∣ (Scalar.andi v 4294967264#32).toNat
    rw [and32_of_lt v h]; exact ⟨_, Nat.mul_comm _ _⟩
  · show 128 ∣ (Scalar.andi (Scalar.andi v 4294967264#32) 4294967168#32).toNat
    rw [and128_of_lt v h]; exact ⟨_, Nat.mul_comm _ _⟩
  · rw [off136_eq v h]; intro a; fin_cases a
    · show 0 + 1 ≤ 1; decide
    · show v.toNat / 128 * 128 + 256 ≤ 2500; omega

/-- A segment with rows is one whose end exceeds its start. -/
theorem cond_iff (lo hi : BitVec 32) (hlo : lo.toNat ≤ 1280) (hhi : hi.toNat ≤ 1280) : k0_cond14 lo hi = 1#1 ↔ lo.toNat < hi.toNat := by
  have e : k0_cond14 lo hi = Scalar.cmpi .ne (Scalar.extui (Scalar.cmpi .sgt hi lo) : BitVec 32) 0#32 := rfl
  have ee : ∀ p : Bool, (Scalar.cmpi .ne (Scalar.extui (BitVec.ofBool p) : BitVec 32) 0#32 = 1#1) ↔ p = true := by decide
  rw [e]; refine (ee (lo.slt hi)).trans ?_
  rw [BitVec.slt, decide_eq_true_eq, BitVec.toInt_eq_toNat_of_lt (by omega), BitVec.toInt_eq_toNat_of_lt (by omega)]; omega

end Cert.KernelIdeal.Hand
-- ==== Proof.Ideal.Segment.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.Exec
public import proofs.«01_k».proof.Proof.Ideal.Checks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

/-! ## The operands -/

/-- The scratch that receives the expanded weights, the float accumulator, the staged adapter rows, and the pool of
    adapter rows left in HBM. -/
abbrev scW : Memref sig .tc .vmem S7168x256 .bf16 := Memref.whole cc0_scratch0
abbrev scA : Memref sig .tc .vmem S1280x256 .f32 := Memref.whole cc0_scratch1
abbrev scB : Memref sig .tc .vmem S14x128x256 .i8 := Memref.whole cc0_scratch2
abbrev hbM : Memref sig .tc .hbm S2500x2048 .i8 := Memref.whole main_arg4
/-- A memref's buffer on core `c` held at share `q` with contents `f`. -/
abbrev hbPt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

/-! ## One segment of rows -/

/-- The numbers of slots: row `s` of the tables and of the staged rows. -/
theorem inbSeg (s : Fin 14) : ∀ a, (![s.val] : Fin 1 → ℕ) a + S1.size a ≤ S14.size a := by
  intro a; have := s.isLt; fin_cases a; show s.val + 1 ≤ 14; omega
theorem inbPiece (s : Fin 14) : ∀ a, (![s.val, 0, 0] : Fin 3 → ℕ) a + S1x128x256.size a ≤ S14x128x256.size a := by
  intro a; have := s.isLt; fin_cases a
  · show s.val + 1 ≤ 14; omega
  · show 0 + 128 ≤ 128; omega
  · show 0 + 256 ≤ 256; omega

/-- The adapter rows of segment `s`, scaled: the table lookups, the window of scales, the staged rows. -/
def partS (s : Fin 14) (arg1 : Memref sig .tc .smem S23 .i32) (arg4 : Memref sig .tc .smem S14 .i32)
    (arg9 : Memref sig .tc .vmem S1x2500 .f32) (v750 : IVec S128x128 1) (lo hi : Elt F .i32) (h : k0_cond14 lo hi = 1#1) :
    Prog (TpuEff nD τ sig (Elt F) Λ₀ .tc) (Σ' (v854 : FVec F S128x256 .bf16) (c128_i32 : BitVec 32) (v855 : BitVec 32) (v860 : BitVec 32), BitVec 32) := do
  let v825 : Elt F .i32 ← smemLoad arg4 (Rect.unit (s := S14) ![s.val] S1.size (inbSeg s)) numel1_S1 rfl
  have k0_hw96 : k0_chk96 lo hi v825 := (← Prog.lift (TpuEff.assume (k0_chk96 lo hi v825) (k0_chk96.dec lo hi v825))).down
  let v827 : Elt F .i32 ← smemLoad arg1 (Rect.unit (s := S23) (k0_off135 v825) S1.size (k0_off135_inb lo hi v825 k0_hw96 h)) numel1_S1 rfl
  have k0_hw97 : k0_chk97 lo hi v827 := (← Prog.lift (TpuEff.assume (k0_chk97 lo hi v827) (k0_chk97.dec lo hi v827))).down
  let v833 : Vec F S1x256 .f32 ← Prog.lift (.load arg9 (Rect.unit (s := S1x2500) (k0_off136 v827) S1x256.size (k0_off136_inb lo hi v827 k0_hw97 h)).toLoadRect (View.loadsAt_vmem h_S1x256))
  let v849 : Vec F S1x128x256 .i8 ← Prog.lift (.load scB (Rect.unit (s := S14x128x256) ![s.val, 0, 0] S1x128x256.size (inbPiece s)).toLoadRect (View.loadsAt_vmem h_S1x128x256))
  let v855 : BitVec 32 := Scalar.divsi lo 128#32
  let v856 : BitVec 1 := Scalar.cmpi .sgt lo 0#32
  let v857 : BitVec 32 := Scalar.extui v856
  let v858 : BitVec 1 := Scalar.cmpi .slt lo 0#32
  let v859 : BitVec 32 := Scalar.extui v858
  let v860 : BitVec 32 := Scalar.subi v857 v859
  let v861 : BitVec 1 := Scalar.cmpi .sgt 128#32 0#32
  let v862 : BitVec 32 := Scalar.extui v861
  let v863 : BitVec 1 := Scalar.cmpi .slt 128#32 0#32
  let v864 : BitVec 32 := Scalar.extui v863
  let v865 : BitVec 32 := Scalar.subi v862 v864
  pure ⟨k0_pay21 v750 v827 v833 v849, 128#32, v855, v860, v865⟩

/-- One trip over a tile of 128 rows: the tile's rows of the shrunk input against the segment's adapter rows, masked to the
    segment's rows, added to the accumulator. -/
def tripB (arg8 : Memref sig .tc .vmem S1280x128 .bf16) (v751 : IVec S128x128 32) (lo hi : Elt F .i32)
    (hw : k0_chk98 lo hi) (h : k0_cond14 lo hi = 1#1) (v854 : FVec F S128x256 .bf16) (c128_i32 v855 v860 v865 : BitVec 32) :
    Fin (k0_t27_loop lo hi).trips → BitVec 32 → Prog (TpuEff nD τ sig (Elt F) Λ₀ .tc) (BitVec 32) :=
  fun k arg17 => do
    let v910 : Vec F S128x128 .bf16 ← Prog.lift (.load arg8 (Rect.unit (s := S1280x128) (k0_off137 lo hi k) S128x128.size (k0_off137_inb lo hi hw k h)).toLoadRect (View.loadsAt_vmem h_S128x128))
    let v915 : Vec F S128x256 .f32 ← Prog.lift (.load scA (Rect.unit (s := S1280x256) (k0_off138 lo hi k) S128x256.size (k0_off138_inb lo hi hw k h)).toLoadRect (View.loadsAt_vmem h_S128x256))
    let v920 : Vec F S128x256 .f32 ← Prog.lift (.load scA (Rect.unit (s := S1280x256) (k0_off138 lo hi k) S128x256.size (k0_off138_inb lo hi hw k h)).toLoadRect (View.loadsAt_vmem h_S128x256))
    Prog.lift (.store scA (Rect.unit (s := S1280x256) (k0_off138 lo hi k) S128x256.size (k0_off138_inb lo hi hw k h)) (k0_pay5 v751 lo hi v854 c128_i32 v855 v860 v865 k v910 v915) Finset.univ (View.stores_vmem_bits_univ h_S128x256 rfl) (.inl rfl))
    pure 0#32

/-- The remainder loop's trip: the same, over the tiles the main loop leaves (none, as it steps by one). -/
def tripC (arg8 : Memref sig .tc .vmem S1280x128 .bf16) (v751 : IVec S128x128 32) (lo hi : Elt F .i32)
    (hw : k0_chk98 lo hi) (h : k0_cond14 lo hi = 1#1) (v854 : FVec F S128x256 .bf16) (c128_i32 v855 v860 v865 : BitVec 32) :
    Fin (k0_t28_loop lo hi).trips → BitVec 32 → Prog (TpuEff nD τ sig (Elt F) Λ₀ .tc) (BitVec 32) :=
  fun k arg17 => do
    let v910 : Vec F S128x128 .bf16 ← Prog.lift (.load arg8 (Rect.unit (s := S1280x128) (k0_off139 lo hi k) S128x128.size (k0_off139_inb lo hi hw k h)).toLoadRect (View.loadsAt_vmem h_S128x128))
    let v915 : Vec F S128x256 .f32 ← Prog.lift (.load scA (Rect.unit (s := S1280x256) (k0_off140 lo hi k) S128x256.size (k0_off140_inb lo hi hw k h)).toLoadRect (View.loadsAt_vmem h_S128x256))
    let v920 : Vec F S128x256 .f32 ← Prog.lift (.load scA (Rect.unit (s := S1280x256) (k0_off140 lo hi k) S128x256.size (k0_off140_inb lo hi hw k h)).toLoadRect (View.loadsAt_vmem h_S128x256))
    Prog.lift (.store scA (Rect.unit (s := S1280x256) (k0_off140 lo hi k) S128x256.size (k0_off140_inb lo hi hw k h)) (k0_pay6 v751 lo hi v854 c128_i32 v855 v860 v865 k v910 v915) Finset.univ (View.stores_vmem_bits_univ h_S128x256 rfl) (.inl rfl))
    pure 0#32

/-- A segment: nothing when it has no rows; else its scaled adapter rows and the loop over the tiles it touches; then `kk`. -/
def segA (s : Fin 14) (arg1 : Memref sig .tc .smem S23 .i32) (arg4 : Memref sig .tc .smem S14 .i32)
    (arg8 : Memref sig .tc .vmem S1280x128 .bf16) (arg9 : Memref sig .tc .vmem S1x2500 .f32)
    (v750 : IVec S128x128 1) (v751 : IVec S128x128 32) (lo hi : Elt F .i32) (hw : k0_chk98 lo hi)
    {α : Type} (kk : Prog (TpuEff nD τ sig (Elt F) Λ₀ .tc) α) : Prog (TpuEff nD τ sig (Elt F) Λ₀ .tc) α := do
  if h : k0_cond14 lo hi = 1#1 then do
    let ⟨v854, c128_i32, v855, v860, v865⟩ : Σ' (v854 : FVec F S128x256 .bf16) (c128_i32 : BitVec 32) (v855 : BitVec 32) (v860 : BitVec 32), BitVec 32 ← partS s arg1 arg4 arg9 v750 lo hi h
    let v896 : BitVec 32 ← Scf.Loop.for (k0_t27_loop lo hi) (k0_t27_ok lo hi hw h) 0#32 (tripB arg8 v751 lo hi hw h v854 c128_i32 v855 v860 v865)
    let v897 : BitVec 32 ← Scf.Loop.for (k0_t28_loop lo hi) (k0_t28_ok lo hi hw h) v896 (tripC arg8 v751 lo hi hw h v854 c128_i32 v855 v860 v865)
    pure ⟨⟩
  else do
    pure ⟨⟩
  kk

/-! ### What a segment leaves in the accumulator -/

/-- The adapter's number fits the table of first slots; the first slot's window fits the scale row. -/
theorem inbStart (v : BitVec 32) (h : v.toNat < 23) : ∀ a, k0_off135 v a + S1.size a ≤ S23.size a := chkSeg v h
theorem inbScale (v : BitVec 32) (h : v.toNat < 2304) : ∀ a, k0_off136 v a + S1x256.size a ≤ S1x2500.size a := by
  rw [off136_eq v h]; intro a; fin_cases a
  · show 0 + 1 ≤ 1; decide
  · show v.toNat / 128 * 128 + 256 ≤ 2500; omega

/-- The adapter of segment `s`, as the table holds it; -/
def adapterOf (c : Dev nD) (arg4 : Memref sig .tc .smem S14 .i32) (f4 : Buf (Elt F) (arg4.view.loc (c : Thread nD τ))) (s : Fin 14) : BitVec 32 :=
  arg4.view.readAt (Elt F) (Rect.unit (s := S14) ![s.val] S1.size (inbSeg s)).toLoadRect f4 (Shape.Idx.first (numel1_S1.symm ▸ Nat.one_pos))
/-- its first slot. -/
def startOf (c : Dev nD) (arg1 : Memref sig .tc .smem S23 .i32) (f1 : Buf (Elt F) (arg1.view.loc (c : Thread nD τ))) (v : BitVec 32) (h : v.toNat < 23) : BitVec 32 :=
  arg1.view.readAt (Elt F) (Rect.unit (s := S23) (k0_off135 v) S1.size (inbStart v h)).toLoadRect f1 (Shape.Idx.first (numel1_S1.symm ▸ Nat.one_pos))

/-- The accumulator after `k` trips of a segment whose scaled adapter rows are `v854`. -/
def accN (c : Dev nD) (arg8 : Memref sig .tc .vmem S1280x128 .bf16) (f8 : Buf (Elt F) (arg8.view.loc (c : Thread nD τ)))
    (v751 : IVec S128x128 32) (lo hi : Elt F .i32) (hw : k0_chk98 lo hi) (h : k0_cond14 lo hi = 1#1) (v854 : FVec F S128x256 .bf16)
    (c128_i32 v855 v860 v865 : BitVec 32) (a : Buf (Elt F) (scA.view.loc (c : Thread nD τ))) : ℕ → Buf (Elt F) (scA.view.loc (c : Thread nD τ))
  | 0 => a
  | k + 1 =>
    if hk : k < (k0_t27_loop lo hi).trips then
      scA.view.writes (Elt F) (accN c arg8 f8 v751 lo hi hw h v854 c128_i32 v855 v860 v865 a k)
        [⟨Rect.unit (s := S1280x256) (k0_off138 lo hi ⟨k, hk⟩) S128x256.size (k0_off138_inb lo hi hw ⟨k, hk⟩ h),
          k0_pay5 v751 lo hi v854 c128_i32 v855 v860 v865 ⟨k, hk⟩
            (arg8.view.readAt (Elt F) (Rect.unit (s := S1280x128) (k0_off137 lo hi ⟨k, hk⟩) S128x128.size (k0_off137_inb lo hi hw ⟨k, hk⟩ h)).toLoadRect f8)
            (scA.view.readAt (Elt F) (Rect.unit (s := S1280x256) (k0_off138 lo hi ⟨k, hk⟩) S128x256.size (k0_off138_inb lo hi hw ⟨k, hk⟩ h)).toLoadRect
              (accN c arg8 f8 v751 lo hi hw h v854 c128_i32 v855 v860 v865 a k))⟩]
    else accN c arg8 f8 v751 lo hi hw h v854 c128_i32 v855 v860 v865 a k

theorem tripB_sound (c : Dev nD) (arg8 : Memref sig .tc .vmem S1280x128 .bf16) (f8 : Buf (Elt F) (arg8.view.loc (c : Thread nD τ)))
    (v751 : IVec S128x128 32) (lo hi : Elt F .i32) (hw : k0_chk98 lo hi) (h : k0_cond14 lo hi = 1#1) (v854 : FVec F S128x256 .bf16)
    (c128_i32 v855 v860 v865 : BitVec 32) (a : Buf (Elt F) (scA.view.loc (c : Thread nD τ))) (k : Fin (k0_t27_loop lo hi).trips) (acc : BitVec 32) :
    (iprop(hbPt c arg8 fullShare f8 ∗ hbPt c scA fullShare (accN c arg8 f8 v751 lo hi hw h v854 c128_i32 v855 v860 v865 a k)) : sProp 𝕄)
      ⊢ wp frame (wpE (defs₀ (F := F)) Variants.none c none) Set.univ (tripB arg8 v751 lo hi hw h v854 c128_i32 v855 v860 v865 k acc)
          (fun _ => iprop(hbPt c arg8 fullShare f8 ∗ hbPt c scA fullShare (accN c arg8 f8 v751 lo hi hw h v854 c128_i32 v855 v860 v865 a (k.val + 1)))) := by
  rw [accN, dif_pos k.isLt]
  unfold tripB
  iintro ⟨H8, HA⟩
  sl_exec
  sl_step
  isplitl [H8]; · iexact H8
  iexact HA

/-- The scaled adapter rows of segment `s`. -/
def rowsOf (c : Dev nD) (arg1 : Memref sig .tc .smem S23 .i32) (arg4 : Memref sig .tc .smem S14 .i32) (arg9 : Memref sig .tc .vmem S1x2500 .f32)
    (f1 : Buf (Elt F) (arg1.view.loc (c : Thread nD τ))) (f4 : Buf (Elt F) (arg4.view.loc (c : Thread nD τ)))
    (f9 : Buf (Elt F) (arg9.view.loc (c : Thread nD τ))) (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (v750 : IVec S128x128 1) (s : Fin 14) : FVec F S128x256 .bf16 :=
  k0_pay21 v750 (startOf c arg1 f1 (adapterOf c arg4 f4 s) (hsg _ _))
    (arg9.view.readAt (Elt F) (Rect.unit (s := S1x2500) (k0_off136 (startOf c arg1 f1 (adapterOf c arg4 f4 s) (hsg _ _))) S1x256.size
      (inbScale _ (hst _ _))).toLoadRect f9)
    (scB.view.readAt (Elt F) (Rect.unit (s := S14x128x256) ![s.val, 0, 0] S1x128x256.size (inbPiece s)).toLoadRect g)

/-- The accumulator after segment `s`, whose rows run from `lo` to `hi`. -/
def segBuf (c : Dev nD) (arg1 : Memref sig .tc .smem S23 .i32) (arg4 : Memref sig .tc .smem S14 .i32)
    (arg8 : Memref sig .tc .vmem S1280x128 .bf16) (arg9 : Memref sig .tc .vmem S1x2500 .f32)
    (f1 : Buf (Elt F) (arg1.view.loc (c : Thread nD τ))) (f4 : Buf (Elt F) (arg4.view.loc (c : Thread nD τ)))
    (f8 : Buf (Elt F) (arg8.view.loc (c : Thread nD τ))) (f9 : Buf (Elt F) (arg9.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (v750 : IVec S128x128 1) (v751 : IVec S128x128 32) (s : Fin 14) (lo hi : Elt F .i32) (hw : k0_chk98 lo hi)
    (a : Buf (Elt F) (scA.view.loc (c : Thread nD τ))) : Buf (Elt F) (scA.view.loc (c : Thread nD τ)) :=
  if h : k0_cond14 lo hi = 1#1 then
    accN c arg8 f8 v751 lo hi hw h (rowsOf c arg1 arg4 arg9 f1 f4 f9 g hst hsg v750 s) 128#32 (Scalar.divsi lo 128#32)
      (Scalar.subi (Scalar.extui (Scalar.cmpi .sgt lo 0#32)) (Scalar.extui (Scalar.cmpi .slt lo 0#32))) 1#32 a (k0_t27_loop lo hi).trips
  else a

/-- A segment runs, leaving its tables, the shrunk rows, the scales and the staged rows as they were and the accumulator at
    `segBuf`; then what follows it. -/
theorem segA_sound (c : Dev nD) (s : Fin 14) (arg1 : Memref sig .tc .smem S23 .i32) (arg4 : Memref sig .tc .smem S14 .i32)
    (arg8 : Memref sig .tc .vmem S1280x128 .bf16) (arg9 : Memref sig .tc .vmem S1x2500 .f32)
    (f1 : Buf (Elt F) (arg1.view.loc (c : Thread nD τ))) (f4 : Buf (Elt F) (arg4.view.loc (c : Thread nD τ)))
    (f8 : Buf (Elt F) (arg8.view.loc (c : Thread nD τ))) (f9 : Buf (Elt F) (arg9.view.loc (c : Thread nD τ)))
    (g : Buf (Elt F) (scB.view.loc (c : Thread nD τ))) (a : Buf (Elt F) (scA.view.loc (c : Thread nD τ)))
    (v750 : IVec S128x128 1) (v751 : IVec S128x128 32) (lo hi : Elt F .i32) (hw : k0_chk98 lo hi)
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hlo : BitVec.toNat (w := 32) lo ≤ 1280) (hhi : BitVec.toNat (w := 32) hi ≤ 1280)
    {α : Type} (kk : Prog (TpuEff nD τ sig (Elt F) Λ₀ .tc) α) (K : α → sProp 𝕄) :
    iprop(hbPt c arg1 fullShare f1 ∗ hbPt c arg4 fullShare f4 ∗ hbPt c arg8 fullShare f8 ∗ hbPt c arg9 fullShare f9
        ∗ hbPt c scB fullShare g ∗ hbPt c scA fullShare a
        ∗ (iprop(hbPt c arg1 fullShare f1 ∗ hbPt c arg4 fullShare f4 ∗ hbPt c arg8 fullShare f8 ∗ hbPt c arg9 fullShare f9
            ∗ hbPt c scB fullShare g
            ∗ hbPt c scA fullShare (segBuf c arg1 arg4 arg8 arg9 f1 f4 f8 f9 g hst hsg v750 v751 s lo hi hw a))
          -∗ wp frame (wpE (defs₀ (F := F)) Variants.none c none) Set.univ kk K))
      ⊢ wp frame (wpE (defs₀ (F := F)) Variants.none c none) Set.univ
          (segA s arg1 arg4 arg8 arg9 v750 v751 lo hi hw kk) K := by
  unfold segA
  iintro ⟨H1, H4, H8, H9, HB, HA, Hk⟩
  split
  · next h =>
    rw [segBuf, dif_pos h]
    unfold partS
    sl_exec (disch := first | exact chkSeg' _ _ _ (hsg _ _) | exact chkScale _ _ _ (hst _ _))
    iapply (Scf.wp_for_bind frame (wpE (defs₀ (F := F)) Variants.none c none) Set.univ _ _ _ _ _ _
      (fun k _ => iprop(hbPt c arg8 fullShare f8 ∗ hbPt c scA fullShare (accN c arg8 f8 v751 lo hi hw h (rowsOf c arg1 arg4 arg9 f1 f4 f9 g hst hsg v750 s) 128#32 (Scalar.divsi lo 128#32)
          (Scalar.subi (Scalar.extui (Scalar.cmpi .sgt lo 0#32)) (Scalar.extui (Scalar.cmpi .slt lo 0#32))) 1#32 a k)))
      (tripB_sound c arg8 f8 v751 lo hi hw h _ _ _ _ _ a)) $$ [H8 HA]
    · isplitl [H8]; · iexact H8
      iexact HA
    iintro %v896 ⟨H8, HA⟩
    iapply (Scf.wp_for_bind frame (wpE (defs₀ (F := F)) Variants.none c none) Set.univ _ _ _ _ _ _
      (fun k _ => iprop(⌜True⌝)) (fun k _ => absurd (k.isLt.trans_eq (trips2_eq lo hi hlo hhi)) (Nat.not_lt_zero _))) $$ []
    · ipureintro; trivial
    iintro %v897 %_
    iapply Hk
    isplitl [H1]; · iexact H1
    isplitl [H4]; · iexact H4
    isplitl [H8]; · iexact H8
    isplitl [H9]; · iexact H9
    isplitl [HB]; · iexact HB
    iexact HA
  · next h =>
    rw [segBuf, dif_neg h]
    iapply Hk
    isplitl [H1]; · iexact H1
    isplitl [H4]; · iexact H4
    isplitl [H8]; · iexact H8
    isplitl [H9]; · iexact H9
    isplitl [HB]; · iexact HB
    iexact HA

end Cert.KernelIdeal.Hand

end
-- ==== Proof.Ideal.Staged.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Ideal.Segment

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx

/-! ## The staged rows, by segments -/

/-- Segment `k`'s 128 staged rows: the destination of its copy. -/
abbrev pc (k : ℕ) (h : ∀ a, (![k, 0, 0] : Fin 3 → ℕ) a + S1x128x256.size a ≤ S14x128x256.size a) : Memref sig .tc .vmem S128x256 .i8 :=
  (scB.slice (Rect.unit (s := S14x128x256) ![k, 0, 0] S1x128x256.size h) (fun _ => rfl)).squeeze S128x256 squeezes_S1x128x256_S128x256
abbrev pcPt (c : Dev nD) (k : ℕ) (h : ∀ a, (![k, 0, 0] : Fin 3 → ℕ) a + S1x128x256.size a ≤ S14x128x256.size a) (f : Buf (Elt F) (scB.view.loc (c : Thread nD τ))) : sProp 𝕄 :=
  (pc k h).view.loc (c : Thread nD τ) ↦[(pc k h).view.set]{fullShare} f

theorem mem_pc (k : ℕ) (h) (j : S14x128x256.Idx) : j ∈ (pc k h).view.set ↔ (j 0).val = k := by
  have e : (pc k h).view.set = (Rect.unit (s := S14x128x256) ![k, 0, 0] S1x128x256.size h).set := by
    rw [← View.set_slice_whole cc0_scratch2 (Rect.unit (s := S14x128x256) ![k, 0, 0] S1x128x256.size h)]
    exact View.set_reshape _ _
  rw [e, Rect.mem_set_unit]
  have h1 : (j 1).val < 128 := (j 1).isLt
  have h2 : (j 2).val < 256 := (j 2).isLt
  constructor
  · intro H; have := H 0; change k ≤ (j 0).val ∧ (j 0).val < k + 1 at this; omega
  · intro H a; fin_cases a
    · show k ≤ (j 0).val ∧ (j 0).val < k + 1; omega
    · show 0 ≤ (j 1).val ∧ (j 1).val < 0 + 128; omega
    · show 0 ≤ (j 2).val ∧ (j 2).val < 0 + 256; omega

/-- The staged rows held whole are the fourteen segments' rows held one by one. -/
theorem scB_pieces (c : Dev nD) (f : Buf (Elt F) (scB.view.loc (c : Thread nD τ))) :
    (hbPt c scB fullShare f : sProp 𝕄) = iprop(pcPt c 0 (inbPiece 0) f ∗ pcPt c 1 (inbPiece 1) f ∗ pcPt c 2 (inbPiece 2) f ∗ pcPt c 3 (inbPiece 3) f ∗ pcPt c 4 (inbPiece 4) f ∗ pcPt c 5 (inbPiece 5) f ∗ pcPt c 6 (inbPiece 6) f ∗ pcPt c 7 (inbPiece 7) f ∗ pcPt c 8 (inbPiece 8) f ∗ pcPt c 9 (inbPiece 9) f ∗ pcPt c 10 (inbPiece 10) f ∗ pcPt c 11 (inbPiece 11) f ∗ pcPt c 12 (inbPiece 12) f ∗ pcPt c 13 (inbPiece 13) f) := by
  have hu : (Finset.univ : Finset (Idx (scB.view.loc (c : Thread nD τ)))) = (Finset.univ : Finset (Fin 14)).biUnion fun k => (pc k.val (inbPiece k)).view.set := by
    ext j; simp only [Finset.mem_univ, true_iff, Finset.mem_biUnion, true_and]
    exact ⟨j 0, (mem_pc _ _ j).2 rfl⟩
  show (scB.view.loc (c : Thread nD τ) ↦[Finset.univ]{fullShare} f : sProp 𝕄) = _
  rw [hu, pointsTo_biUnion _ _ fun t _ t' _ hne => Finset.disjoint_left.mpr fun j hj hj' =>
    hne (Fin.ext (((mem_pc _ _ j).1 hj).symm.trans ((mem_pc _ _ j).1 hj'))),
    bigSep_univ_eq_bigSepL [0, 1, 2, 3, 4, 5, 6, 7, 8, 9, 10, 11, 12, 13] (by decide) (by decide)]
  rfl

/-- The pool rows of an adapter whose first slot is `v`, in the point's columns. -/
abbrev landRows (c : Dev nD) (i : grid0.Coords) (fp : Buf (Elt F) (hbM.view.loc (c : Thread nD τ))) (v : BitVec 32) (h : v.toNat < 2304) : S128x256.Idx → Elt F .i8 :=
  ReadAs.same.apply ((hbM.slice (Rect.unit (s := S2500x2048) (k0_off2 i v) S128x256.size (k0_off2_inb i v (chkSlot i v h))) (fun _ => rfl)).view.read (Elt F) fp)

/-- All the staged rows, from the fourteen first slots. -/
def stagedRows (c : Dev nD) (i : grid0.Coords) (fp : Buf (Elt F) (hbM.view.loc (c : Thread nD τ))) (st : Fin 14 → BitVec 32) (h : ∀ k, (st k).toNat < 2304) :
    Buf (Elt F) (scB.view.loc (c : Thread nD τ)) :=
  fun j : S14x128x256.Idx => landRows c i fp (st (j 0)) (h (j 0)) (ix2 (j 1) (j 2))

/-- A landed copy is the segment's part of the staged rows. -/
theorem landed_eq (c : Dev nD) (i : grid0.Coords) (fp : Buf (Elt F) (hbM.view.loc (c : Thread nD τ))) (st : Fin 14 → BitVec 32) (h : ∀ k, (st k).toNat < 2304)
    (fb : Buf (Elt F) (scB.view.loc (c : Thread nD τ))) (k : Fin 14) :
    (pcPt c k.val (inbPiece k) ((pc k.val (inbPiece k)).view.writes (Elt F) fb [⟨Rect.whole S128x256, landRows c i fp (st k) (h k)⟩]) : sProp 𝕄)
      = pcPt c k.val (inbPiece k) (stagedRows c i fp st h) := by
  refine pointsTo_congr fun j hj => ?_
  obtain ⟨y, -, rfl⟩ := Finset.mem_map.1 hj
  have e := View.read_writes_cons_emb (Val := Elt F) (pc k.val (inbPiece k)).view fb (Rect.whole S128x256) (landRows c i fp (st k) (h k)) [] y
  rw [Rect.emb_whole_apply] at e
  refine Eq.trans e ?_
  have hy : (pc k.val (inbPiece k)).view.emb y = (ix3 k (y 0) (y 1) : S14x128x256.Idx) := by
    have hr := reshapeEquiv_ix2_1ab (a := 128) (b := 256) squeezes_S1x128x256_S128x256.numel_eq (y 0) (y 1)
    have hr := (congrArg _ (eq_ix2 (n0 := 128) (n1 := 256) y)).trans hr
    show (Rect.unit (s := S14x128x256) ![k.val, 0, 0] S1x128x256.size (inbPiece k)).emb (Shape.reshapeEquiv _ y) = _
    rw [hr]
    funext a; refine Fin.ext ?_; fin_cases a
    · show k.val + 1 * 0 = k.val; omega
    · show 0 + 1 * (y 0).val = (y 0).val; omega
    · show 0 + 1 * (y 1).val = (y 1).val; omega
  rw [hy]
  exact congrArg (landRows c i fp (st k) (h k)) (eq_ix2 (n0 := 128) (n1 := 256) y)

/-! ## The expanded weights -/

theorem inbRow (j : Fin 56) : ∀ a, (![j.val, 0] : Fin 2 → ℕ) a + S1x256.size a ≤ S56x256.size a := by
  intro a; have := j.isLt; fin_cases a
  · show j.val + 1 ≤ 56; omega
  · show 0 + 256 ≤ 256; omega
theorem inbGroup (j : Fin 56) : ∀ a, (![128 * j.val, 0] : Fin 2 → ℕ) a + S128x256.size a ≤ S7168x256.size a := by
  intro a; have := j.isLt; fin_cases a
  · show 128 * j.val + 128 ≤ 7168; omega
  · show 0 + 256 ≤ 256; omega
theorem slicesGroup (j : Fin 56) : S7168x256.Slices ![128 * j.val, 0] S128x256 := ⟨rfl, inbGroup j⟩

/-- The words of the weight block and the scales, as the body reads them. -/
abbrev wordsOf (c : Dev nD) (arg6 : Memref sig .tc .vmem S896x256 .i32) (f6 : Buf (Elt F) (arg6.view.loc (c : Thread nD τ))) : Vec F S896x256 .i32 :=
  arg6.view.readAt (Elt F) (Rect.unit (s := S896x256) ![0, 0] S896x256.size inb_S896x256_S896x256_0_0).toLoadRect f6
abbrev scaleRow (c : Dev nD) (arg7 : Memref sig .tc .vmem S56x256 .bf16) (f7 : Buf (Elt F) (arg7.view.loc (c : Thread nD τ))) (j : Fin 56) : Vec F S1x256 .bf16 :=
  arg7.view.readAt (Elt F) (Rect.unit (s := S56x256) ![j.val, 0] S1x256.size (inbRow j)).toLoadRect f7

/-- What the body stores for group `j`. -/
def groupPay (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) (j : Fin 56) : FVec F S128x256 .bf16 :=
  shapeCast S128x256 (mulf (extractStridedSlice S128x256 ![128 * j.val, 0] (k0_pay22 (wordsOf c arg6 f6)) (slicesGroup j))
    (broadcastTo S128x256 (scaleRow c arg7 f7 j) broadcasts_S1x256_S128x256)) shapeCasts_S128x256_S128x256

/-- The fifty-six stores, the last first. -/
abbrev groupPieces (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) : List (View.Piece (Elt F) S7168x256 .bf16) :=
  ([55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 56)).map fun j => ⟨Rect.unit (s := S7168x256) ![128 * j.val, 0] S128x256.size (inbGroup j), groupPay c arg6 arg7 f6 f7 j⟩

/-- The expanded weights: each code times its group's scale. -/
def wvals (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) : FVec F S7168x256 .bf16 :=
  fun y => FloatOps.mulf (φ := .bf16) (k0_pay22 (wordsOf c arg6 f6) y)
    (scaleRow c arg7 f7 ⟨(y 0).val / 128, by have : (y 0).val < 7168 := (y 0).isLt; omega⟩ (ix2 (⟨0, Nat.one_pos⟩ : Fin 1) (y 1)))

theorem groupPay_at (C : FVec F S7168x256 .bf16) (R : Vec F S1x256 .bf16) (j : Fin 56) (x : S128x256.Idx) :
    shapeCast S128x256 (mulf (extractStridedSlice S128x256 ![128 * j.val, 0] C (slicesGroup j))
      (broadcastTo S128x256 R broadcasts_S1x256_S128x256 : FVec F S128x256 .bf16)) shapeCasts_S128x256_S128x256 x
      = FloatOps.mulf (φ := .bf16) (C ((Rect.unit (s := S7168x256) ![128 * j.val, 0] S128x256.size (inbGroup j)).emb x))
          (R (ix2 (⟨0, Nat.one_pos⟩ : Fin 1) ((Rect.unit (s := S7168x256) ![128 * j.val, 0] S128x256.size (inbGroup j)).emb x 1))) := by
  rw [shapeCast_self]
  have e1 : extractStridedSlice S128x256 ![128 * j.val, 0] C (slicesGroup j) x = C ((Rect.unit (s := S7168x256) ![128 * j.val, 0] S128x256.size (inbGroup j)).emb x) := by
    unfold extractStridedSlice
    refine congrArg C ?_
    funext a; refine Fin.ext ?_; fin_cases a
    · show 128 * j.val + (x 0).val = 128 * j.val + 1 * (x 0).val; omega
    · show 0 + (x 1).val = 0 + 1 * (x 1).val; omega
  have e2 : (broadcastTo S128x256 R broadcasts_S1x256_S128x256 : FVec F S128x256 .bf16) x
      = R (ix2 (⟨0, Nat.one_pos⟩ : Fin 1) ((Rect.unit (s := S7168x256) ![128 * j.val, 0] S128x256.size (inbGroup j)).emb x 1)) := by
    unfold broadcastTo
    refine congrArg R ?_
    funext a; refine Fin.ext ?_; fin_cases a
    · rfl
    · show (x 1).val = 0 + 1 * (x 1).val; omega
  unfold mulf
  rw [e1, e2]

theorem groupPay_eq (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) (j : Fin 56) (x : S128x256.Idx) :
    groupPay c arg6 arg7 f6 f7 j x = wvals c arg6 arg7 f6 f7 ((Rect.unit (s := S7168x256) ![128 * j.val, 0] S128x256.size (inbGroup j)).emb x) := by
  have h0 : (x 0).val < 128 := (x 0).isLt
  unfold groupPay wvals
  rw [groupPay_at]
  have hj : (⟨(((Rect.unit (s := S7168x256) ![128 * j.val, 0] S128x256.size (inbGroup j)).emb x) 0).val / 128, by
      have := ((Rect.unit (s := S7168x256) ![128 * j.val, 0] S128x256.size (inbGroup j)).emb x 0).isLt; change _ < 7168 at this; omega⟩ : Fin 56) = j :=
    Fin.ext (show (128 * j.val + 1 * (x 0).val) / 128 = j.val by omega)
  rw [hj]

/-- The expanded weights read back whole. -/
theorem wvals_eq (c : Dev nD) (arg6 : Memref sig .tc .vmem S896x256 .i32) (arg7 : Memref sig .tc .vmem S56x256 .bf16)
    (f6 : Buf (Elt F) (arg6.view.loc (c : Thread nD τ))) (f7 : Buf (Elt F) (arg7.view.loc (c : Thread nD τ))) :
    scW.view.readCov (groupPieces c arg6 arg7 f6 f7) (Rect.unit (s := S7168x256) ![0, 0] S7168x256.size inb_S7168x256_S7168x256_0_0).toLoadRect
      = wvals c arg6 arg7 f6 f7 := by
  rw [View.readCov_eq_canon']
  funext y
  have hy : (Rect.unit (s := S7168x256) ![0, 0] S7168x256.size inb_S7168x256_S7168x256_0_0).toLoadRect.idx y = y := by
    funext a; refine Fin.ext ?_; fin_cases a
    · show 0 + 1 * (y 0).val = (y 0).val; omega
    · show 0 + 1 * (y 1).val = (y 1).val; omega
  rw [hy]
  refine View.canon_apply_of_pieces (S := S7168x256) (Val := Elt F) (e := .bf16) (wvals c arg6 arg7 f6 f7) _ (fun p hp x => ?_) y ?_
  · obtain ⟨j, -, rfl⟩ := List.mem_map.1 hp
    exact groupPay_eq c arg6 arg7 f6 f7 j x
  · have h0 : (y 0).val < 7168 := (y 0).isLt
    have h1 : (y 1).val < 256 := (y 1).isLt
    obtain ⟨q, hq⟩ : ∃ q : Fin 56, q.val = (y 0).val / 128 := ⟨⟨(y 0).val / 128, by omega⟩, rfl⟩
    have hmem : ∀ q : Fin 56, q ∈ ([55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0] : List (Fin 56)) := by decide
    refine ⟨_, List.mem_map.2 ⟨q, hmem q, rfl⟩, ?_⟩
    show y ∈ (Rect.unit (s := S7168x256) ![128 * q.val, 0] S128x256.size (inbGroup q)).set
    refine Rect.mem_set_unit.2 fun a => ?_
    fin_cases a
    · show 128 * q.val ≤ (y 0).val ∧ (y 0).val < 128 * q.val + 128; omega
    · show 0 ≤ (y 1).val ∧ (y 1).val < 0 + 256; omega

/-- The base product, as the accumulator first holds it. -/
def baseBuf (c : Dev nD) (arg5 : Memref sig .tc .vmem S1280x7168 .bf16) (arg6 : Memref sig .tc .vmem S896x256 .i32) (arg7 : Memref sig .tc .vmem S56x256 .bf16)
    (f5 : Buf (Elt F) (arg5.view.loc (c : Thread nD τ)))
    (f6 : Buf (Elt F) (arg6.view.loc (c : Thread nD τ))) (f7 : Buf (Elt F) (arg7.view.loc (c : Thread nD τ))) : Buf (Elt F) (scA.view.loc (c : Thread nD τ)) :=
  k0_pay90 (arg5.view.readAt (Elt F) (Rect.unit (s := S1280x7168) ![0, 0] S1280x7168.size inb_S1280x7168_S1280x7168_0_0).toLoadRect f5) (wvals c arg6 arg7 f6 f7)

theorem baseBuf_eq (c : Dev nD) (arg5 : Memref sig .tc .vmem S1280x7168 .bf16) (arg6 : Memref sig .tc .vmem S896x256 .i32) (arg7 : Memref sig .tc .vmem S56x256 .bf16)
    (f5 : Buf (Elt F) (arg5.view.loc (c : Thread nD τ)))
    (f6 : Buf (Elt F) (arg6.view.loc (c : Thread nD τ))) (f7 : Buf (Elt F) (arg7.view.loc (c : Thread nD τ)))
    (fa : Buf (Elt F) (scA.view.loc (c : Thread nD τ))) :
    scA.view.writes (Elt F) fa [⟨Rect.unit (s := S1280x256) ![0, 0] S1280x256.size inb_S1280x256_S1280x256_0_0,
        k0_pay90 (arg5.view.readAt (Elt F) (Rect.unit (s := S1280x7168) ![0, 0] S1280x7168.size inb_S1280x7168_S1280x7168_0_0).toLoadRect f5)
          (scW.view.readCov (groupPieces c arg6 arg7 f6 f7) (Rect.unit (s := S7168x256) ![0, 0] S7168x256.size inb_S7168x256_S7168x256_0_0).toLoadRect)⟩]
      = baseBuf c arg5 arg6 arg7 f5 f6 f7 := by
  rw [wvals_eq]
  exact Memref.write_access_unit_zero_univ (Elt F) cc0_scratch1 (off := (![0, 0] : Fin 2 → ℕ)) (funext fun a => by fin_cases a <;> rfl) inb_S1280x256_S1280x256_0_0 _ _

end Cert.KernelIdeal.Hand

end
-- ==== Proof.Ideal.Point.lean ====
/- What the body leaves at a point: the staged rows, the accumulator after each segment, the block stored; and one segment
   run in that state. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Ideal.Staged

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx Idealize.ShloMosaic.Pipeline

/-- The pool held whole is a share of it for each of the copies (and some over). -/
theorem pool_toks (c : Dev nD) (f : Buf (Elt F) (hbM.view.loc (c : Thread nD τ))) :
    (hbPt c hbM fullShare f : sProp 𝕄) ⊣⊢ iprop(hbPt c hbM (Transfers.shareDrop fullShare 27) f ∗ hbPt c hbM (Transfers.shareTokN fullShare 0) f ∗ hbPt c hbM (Transfers.shareTokN fullShare 1) f ∗ hbPt c hbM (Transfers.shareTokN fullShare 2) f ∗ hbPt c hbM (Transfers.shareTokN fullShare 3) f ∗ hbPt c hbM (Transfers.shareTokN fullShare 4) f ∗ hbPt c hbM (Transfers.shareTokN fullShare 5) f ∗ hbPt c hbM (Transfers.shareTokN fullShare 6) f ∗ hbPt c hbM (Transfers.shareTokN fullShare 7) f ∗ hbPt c hbM (Transfers.shareTokN fullShare 8) f ∗ hbPt c hbM (Transfers.shareTokN fullShare 9) f ∗ hbPt c hbM (Transfers.shareTokN fullShare 10) f ∗ hbPt c hbM (Transfers.shareTokN fullShare 11) f ∗ hbPt c hbM (Transfers.shareTokN fullShare 12) f ∗ hbPt c hbM (Transfers.shareTokN fullShare 13) f ∗ hbPt c hbM (Transfers.shareTokN fullShare 14) f ∗ hbPt c hbM (Transfers.shareTokN fullShare 15) f ∗ hbPt c hbM (Transfers.shareTokN fullShare 16) f ∗ hbPt c hbM (Transfers.shareTokN fullShare 17) f ∗ hbPt c hbM (Transfers.shareTokN fullShare 18) f ∗ hbPt c hbM (Transfers.shareTokN fullShare 19) f ∗ hbPt c hbM (Transfers.shareTokN fullShare 20) f ∗ hbPt c hbM (Transfers.shareTokN fullShare 21) f ∗ hbPt c hbM (Transfers.shareTokN fullShare 22) f ∗ hbPt c hbM (Transfers.shareTokN fullShare 23) f ∗ hbPt c hbM (Transfers.shareTokN fullShare 24) f ∗ hbPt c hbM (Transfers.shareTokN fullShare 25) f ∗ hbPt c hbM (Transfers.shareTokN fullShare 26) f) := by
  refine (Transfers.pointsTo_toks_range fullShare 27).trans ?_
  rw [BI.bigSep_eq_bigSepL_of_eq [0, 1, 2, 3, 4, 5, 6, 7, 8, 9, 10, 11, 12, 13, 14, 15, 16, 17, 18, 19, 20, 21, 22, 23, 24, 25, 26] (by decide) (by decide)]
  exact .rfl

theorem inbOff (n : ℕ) (h : n < 15) : ∀ a, (![n] : Fin 1 → ℕ) a + S1.size a ≤ S15.size a := by
  intro a; fin_cases a; show n + 1 ≤ 15; omega
/-- Where segment `n` starts (and segment `n - 1` ends). -/
def offAt (c : Dev nD) (arg3 : Memref sig .tc .smem S15 .i32) (f3 : Buf (Elt F) (arg3.view.loc (c : Thread nD τ))) (n : ℕ) (h : n < 15) : Elt F .i32 :=
  arg3.view.readAt (Elt F) (Rect.unit (s := S15) ![n] S1.size (inbOff n h)).toLoadRect f3 (Shape.Idx.first (numel1_S1.symm ▸ Nat.one_pos))

/-- The staged rows at a point. -/
def stagedAt (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : Buf (Elt F) (scB.view.loc (c : Thread nD τ)) :=
  stagedRows c i fp (fun k => startOf c arg1 f1 (adapterOf c arg4 f4 k) (hsg _ _)) (fun k => hst _ _)

/-- The accumulator after `n` segments. -/
def accAt (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : (n : ℕ) → n ≤ 14 → Buf (Elt F) (scA.view.loc (c : Thread nD τ))
  | 0, _ => baseBuf c arg5 arg6 arg7 f5 f6 f7
  | n + 1, h => segBuf c arg1 arg4 arg8 arg9 f1 f4 f8 f9 (stagedAt c i arg1 arg3 arg4 arg5 arg6 arg7 arg8 arg9 f1 f3 f4 f5 f6 f7 f8 f9 fp hst hsg hof hw) hst hsg k0_pay91 (iota .tc S128x128 32 [0] iota_S128x128_d0_w32) ⟨n, h⟩
      (offAt c arg3 f3 n (by omega)) (offAt c arg3 f3 (n + 1) (by omega)) (hw n h) (accAt c i arg1 arg3 arg4 arg5 arg6 arg7 arg8 arg9 f1 f3 f4 f5 f6 f7 f8 f9 fp hst hsg hof hw n (by omega))

/-- What a point stores in the result's block. -/
def outVal (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : FVec F S1280x256 .bf16 :=
  k0_pay7 (scA.view.readAt (Elt F) (Rect.unit (s := S1280x256) ![0, 0] S1280x256.size inb_S1280x256_S1280x256_0_0).toLoadRect
    (accAt c i arg1 arg3 arg4 arg5 arg6 arg7 arg8 arg9 f1 f3 f4 f5 f6 f7 f8 f9 fp hst hsg hof hw 14 le_rfl))

/-- What every segment reads and leaves as it was. -/
def segCtx (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega))) : sProp 𝕄 :=
  iprop(hbPt c arg1 fullShare f1 ∗ hbPt c arg4 fullShare f4 ∗ hbPt c arg8 fullShare f8 ∗ hbPt c arg9 fullShare f9
    ∗ hbPt c scB fullShare (stagedAt c i arg1 arg3 arg4 arg5 arg6 arg7 arg8 arg9 f1 f3 f4 f5 f6 f7 f8 f9 fp hst hsg hof hw))

/-- Segment `n` runs, then what follows it. -/
theorem segAt_sound (n : ℕ) (hn : n < 14) (c : Dev nD) (i : grid0.Coords) (arg1 : Memref sig .tc .smem S23 .i32) (arg3 : Memref sig .tc .smem S15 .i32) (arg4 : Memref sig .tc .smem S14 .i32)
    (arg5 : Memref sig .tc .vmem S1280x7168 .bf16) (arg6 : Memref sig .tc .vmem S896x256 .i32) (arg7 : Memref sig .tc .vmem S56x256 .bf16)
    (arg8 : Memref sig .tc .vmem S1280x128 .bf16) (arg9 : Memref sig .tc .vmem S1x2500 .f32)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega)))
    {α : Type} (kk : Prog (TpuEff nD τ sig (Elt F) Λ₀ .tc) α) (K : α → sProp 𝕄) :
    iprop(segCtx c i arg1 arg3 arg4 arg5 arg6 arg7 arg8 arg9 f1 f3 f4 f5 f6 f7 f8 f9 fp hst hsg hof hw ∗ hbPt c scA fullShare (accAt c i arg1 arg3 arg4 arg5 arg6 arg7 arg8 arg9 f1 f3 f4 f5 f6 f7 f8 f9 fp hst hsg hof hw n (by omega))
        ∗ (iprop(segCtx c i arg1 arg3 arg4 arg5 arg6 arg7 arg8 arg9 f1 f3 f4 f5 f6 f7 f8 f9 fp hst hsg hof hw ∗ hbPt c scA fullShare (accAt c i arg1 arg3 arg4 arg5 arg6 arg7 arg8 arg9 f1 f3 f4 f5 f6 f7 f8 f9 fp hst hsg hof hw (n + 1) (by omega)))
          -∗ wp frame (wpE (defs₀ (F := F)) Variants.none c none) Set.univ kk K))
      ⊢ wp frame (wpE (defs₀ (F := F)) Variants.none c none) Set.univ
          (segA ⟨n, hn⟩ arg1 arg4 arg8 arg9 k0_pay91 (iota .tc S128x128 32 [0] iota_S128x128_d0_w32) (offAt c arg3 f3 n (by omega)) (offAt c arg3 f3 (n + 1) (by omega)) (hw n hn) kk) K := by
  unfold segCtx
  iintro ⟨⟨H1, H4, H8, H9, HB⟩, HA, Hk⟩
  iapply (segA_sound c ⟨n, hn⟩ arg1 arg4 arg8 arg9 f1 f4 f8 f9 _ _ _ _ _ _ _ hst hsg (hof _ _) (hof _ _))
  isplitl [H1]; · iexact H1
  isplitl [H4]; · iexact H4
  isplitl [H8]; · iexact H8
  isplitl [H9]; · iexact H9
  isplitl [HB]; · iexact HB
  isplitl [HA]; · iexact HA
  iintro ⟨H1, H4, H8, H9, HB, HA⟩
  iapply Hk
  isplitr [HA]
  · isplitl [H1]; · iexact H1
    isplitl [H4]; · iexact H4
    isplitl [H8]; · iexact H8
    isplitl [H9]; · iexact H9
    iexact HB
  iexact HA

end Cert.KernelIdeal.Hand

end
-- ==== Proof.Ideal.Run.lean ====
/- The kernel's body run once from its operands at any contents: the adapter rows copied in, the weights expanded, the base
   product, the fourteen segments, the store. -/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.Exec
public import proofs.«01_k».proof.Proof.Ideal.Point

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

open Idealize.ShloMosaic.ValueIdx Idealize.ShloMosaic.Pipeline

set_option maxHeartbeats 8000000 in
/-- The body's run. -/
theorem kernelRun (c : Dev nD) (i : grid0.Coords)
    (arg1 : Memref sig .tc .smem S23 .i32) (harg1 : arg1.IsWhole) (arg2 : Memref sig .tc .smem S23 .i32) (harg2 : arg2.IsWhole)
    (arg3 : Memref sig .tc .smem S15 .i32) (harg3 : arg3.IsWhole) (arg4 : Memref sig .tc .smem S14 .i32) (harg4 : arg4.IsWhole)
    (arg5 : Memref sig .tc .vmem S1280x7168 .bf16) (harg5 : arg5.IsWhole) (arg6 : Memref sig .tc .vmem S896x256 .i32) (harg6 : arg6.IsWhole)
    (arg7 : Memref sig .tc .vmem S56x256 .bf16) (harg7 : arg7.IsWhole) (arg8 : Memref sig .tc .vmem S1280x128 .bf16) (harg8 : arg8.IsWhole)
    (arg9 : Memref sig .tc .vmem S1x2500 .f32) (harg9 : arg9.IsWhole)
    (arg11 : Memref sig .tc .vmem S1280x256 .bf16) (harg11 : arg11.IsWhole)
    (f1 : Buf (Elt F) (arg1.view.loc (c : Thread nD τ)))
    (f3 : Buf (Elt F) (arg3.view.loc (c : Thread nD τ)))
    (f4 : Buf (Elt F) (arg4.view.loc (c : Thread nD τ)))
    (f5 : Buf (Elt F) (arg5.view.loc (c : Thread nD τ)))
    (f6 : Buf (Elt F) (arg6.view.loc (c : Thread nD τ)))
    (f7 : Buf (Elt F) (arg7.view.loc (c : Thread nD τ)))
    (f8 : Buf (Elt F) (arg8.view.loc (c : Thread nD τ)))
    (f9 : Buf (Elt F) (arg9.view.loc (c : Thread nD τ)))
    (f11 : Buf (Elt F) (arg11.view.loc (c : Thread nD τ)))
    (fp : Buf (Elt F) (hbM.view.loc (c : Thread nD τ))) (fb : Buf (Elt F) (scB.view.loc (c : Thread nD τ)))
    (fw : Buf (Elt F) (scW.view.loc (c : Thread nD τ))) (fa : Buf (Elt F) (scA.view.loc (c : Thread nD τ)))
    (hst : ∀ (r : LoadRect S23) y, BitVec.toNat (w := 32) (arg1.view.readAt (Elt F) r f1 y) < 2304)
    (hsg : ∀ (r : LoadRect S14) y, BitVec.toNat (w := 32) (arg4.view.readAt (Elt F) r f4 y) < 23)
    (hof : ∀ (r : LoadRect S15) y, BitVec.toNat (w := 32) (arg3.view.readAt (Elt F) r f3 y) ≤ 1280)
    (hw : ∀ n (h : n < 14), k0_chk98 (offAt c arg3 f3 n (by omega)) (offAt c arg3 f3 (n + 1) (by omega)))
    (W : Waits sig Unit) (K : PUnit → sProp 𝕄) :
    iprop(hbPt c arg1 fullShare f1 ∗ hbPt c arg3 fullShare f3 ∗ hbPt c arg4 fullShare f4 ∗ hbPt c arg5 fullShare f5 ∗ hbPt c arg6 fullShare f6 ∗ hbPt c arg7 fullShare f7 ∗ hbPt c arg8 fullShare f8 ∗ hbPt c arg9 fullShare f9 ∗ hbPt c arg11 fullShare f11
        ∗ hbPt c scW fullShare fw ∗ hbPt c scA fullShare fa ∗ hbPt c scB fullShare fb
        ∗ hbPt c hbM fullShare fp
        ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
        ∗ owes (c : Thread nD τ) 0 W
        ∗ (iprop(hbPt c arg1 fullShare f1 ∗ hbPt c arg3 fullShare f3 ∗ hbPt c arg4 fullShare f4 ∗ hbPt c arg5 fullShare f5 ∗ hbPt c arg6 fullShare f6 ∗ hbPt c arg7 fullShare f7 ∗ hbPt c arg8 fullShare f8 ∗ hbPt c arg9 fullShare f9
            ∗ hbPt c arg11 fullShare (arg11.view.writes (Elt F) f11 [⟨Rect.unit (s := S1280x256) ![0, 0] S1280x256.size inb_S1280x256_S1280x256_0_0, outVal c i arg1 arg3 arg4 arg5 arg6 arg7 arg8 arg9 f1 f3 f4 f5 f6 f7 f8 f9 fp hst hsg hof hw⟩])
            ∗ (∃ fw', hbPt c scW fullShare fw') ∗ (∃ fa', hbPt c scA fullShare fa') ∗ (∃ fb', hbPt c scB fullShare fb')
            ∗ hbPt c hbM fullShare fp
            ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0
            ∗ ∃ W', owes (c : Thread nD τ) 0 W') -∗ K ⟨⟩))
      ⊢ wp frame (wpE (defs₀ (F := F)) Variants.none c none) Set.univ
          (cc0_base i arg1 harg1 arg2 harg2 arg3 harg3 arg4 harg4 arg5 harg5 arg6 harg6 arg7 harg7 arg8 harg8 arg9 harg9 hbM (Memref.isWhole_whole _) arg11 harg11 scW (Memref.isWhole_whole _) scA (Memref.isWhole_whole _) scB (Memref.isWhole_whole _) cc0_scratch3) K := by
  rw [cc0_base_eq_skeleton]; unfold cc0_base_skel
  iintro ⟨H1, H3, H4, H5, H6, H7, H8, H9, HO, HW, HA, HB, HP, Hq0, Hq1, Hq2, Hq3, Hq4, Hq5, Hq6, Hq7, Hq8, Hq9, Hq10, Hq11, Hq12, Hq13, Hw, Hk⟩
  ihave HP' := (pool_toks c fp).1 $$ HP
  icases HP' with ⟨HPd, HT0, HT1, HT2, HT3, HT4, HT5, HT6, HT7, HT8, HT9, HT10, HT11, HT12, HT13, HT14, HT15, HT16, HT17, HT18, HT19, HT20, HT21, HT22, HT23, HT24, HT25, HT26⟩
  ihave HB' := (Entails.of_eq (scB_pieces c fb)) $$ HB
  icases HB' with ⟨HB0, HB1, HB2, HB3, HB4, HB5, HB6, HB7, HB8, HB9, HB10, HB11, HB12, HB13⟩
  set_option sl_exec.stopBefore "k0_cond1" in
  sl_exec (disch := first | exact chkSeg _ (hsg _ _) | exact chkSlot _ _ (hst _ _) | exact hw 0 (by decide))
  ihave HB := (Entails.of_eq (scB_pieces c (stagedAt c i arg1 arg3 arg4 arg5 arg6 arg7 arg8 arg9 f1 f3 f4 f5 f6 f7 f8 f9 fp hst hsg hof hw)).symm) $$ [HB0 HB1 HB2 HB3 HB4 HB5 HB6 HB7 HB8 HB9 HB10 HB11 HB12 HB13]
  · isplitl [HB0]; · iapply (Entails.of_eq (landed_eq c i fp _ _ fb 0)); iexact HB0
    isplitl [HB1]; · iapply (Entails.of_eq (landed_eq c i fp _ _ fb 1)); iexact HB1
    isplitl [HB2]; · iapply (Entails.of_eq (landed_eq c i fp _ _ fb 2)); iexact HB2
    isplitl [HB3]; · iapply (Entails.of_eq (landed_eq c i fp _ _ fb 3)); iexact HB3
    isplitl [HB4]; · iapply (Entails.of_eq (landed_eq c i fp _ _ fb 4)); iexact HB4
    isplitl [HB5]; · iapply (Entails.of_eq (landed_eq c i fp _ _ fb 5)); iexact HB5
    isplitl [HB6]; · iapply (Entails.of_eq (landed_eq c i fp _ _ fb 6)); iexact HB6
    isplitl [HB7]; · iapply (Entails.of_eq (landed_eq c i fp _ _ fb 7)); iexact HB7
    isplitl [HB8]; · iapply (Entails.of_eq (landed_eq c i fp _ _ fb 8)); iexact HB8
    isplitl [HB9]; · iapply (Entails.of_eq (landed_eq c i fp _ _ fb 9)); iexact HB9
    isplitl [HB10]; · iapply (Entails.of_eq (landed_eq c i fp _ _ fb 10)); iexact HB10
    isplitl [HB11]; · iapply (Entails.of_eq (landed_eq c i fp _ _ fb 11)); iexact HB11
    isplitl [HB12]; · iapply (Entails.of_eq (landed_eq c i fp _ _ fb 12)); iexact HB12
    iapply (Entails.of_eq (landed_eq c i fp _ _ fb 13)); iexact HB13
  ihave HA := (Entails.of_eq (congrArg (hbPt c scA fullShare) (baseBuf_eq c arg5 arg6 arg7 f5 f6 f7 fa))) $$ [HA]
  · iexact HA
  ihave HC : segCtx c i arg1 arg3 arg4 arg5 arg6 arg7 arg8 arg9 f1 f3 f4 f5 f6 f7 f8 f9 fp hst hsg hof hw $$ [H1 H4 H8 H9 HB]
  · unfold segCtx
    isplitl [H1]; · iexact H1
    isplitl [H4]; · iexact H4
    isplitl [H8]; · iexact H8
    isplitl [H9]; · iexact H9
    iexact HB
  -- segment 0
  iapply (segAt_sound 0 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond2" in
  sl_exec (disch := exact hw 1 (by decide))
  -- segment 1
  iapply (segAt_sound 1 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond3" in
  sl_exec (disch := exact hw 2 (by decide))
  -- segment 2
  iapply (segAt_sound 2 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond4" in
  sl_exec (disch := exact hw 3 (by decide))
  -- segment 3
  iapply (segAt_sound 3 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond5" in
  sl_exec (disch := exact hw 4 (by decide))
  -- segment 4
  iapply (segAt_sound 4 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond6" in
  sl_exec (disch := exact hw 5 (by decide))
  -- segment 5
  iapply (segAt_sound 5 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond7" in
  sl_exec (disch := exact hw 6 (by decide))
  -- segment 6
  iapply (segAt_sound 6 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond8" in
  sl_exec (disch := exact hw 7 (by decide))
  -- segment 7
  iapply (segAt_sound 7 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond9" in
  sl_exec (disch := exact hw 8 (by decide))
  -- segment 8
  iapply (segAt_sound 8 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond10" in
  sl_exec (disch := exact hw 9 (by decide))
  -- segment 9
  iapply (segAt_sound 9 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond11" in
  sl_exec (disch := exact hw 10 (by decide))
  -- segment 10
  iapply (segAt_sound 10 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond12" in
  sl_exec (disch := exact hw 11 (by decide))
  -- segment 11
  iapply (segAt_sound 11 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond13" in
  sl_exec (disch := exact hw 12 (by decide))
  -- segment 12
  iapply (segAt_sound 12 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  set_option sl_exec.stopBefore "k0_cond14" in
  sl_exec (disch := exact hw 13 (by decide))
  -- segment 13
  iapply (segAt_sound 13 (by decide) c i arg1 arg3 arg4 arg5 arg6 arg7 arg8 arg9 f1 f3 f4 f5 f6 f7 f8 f9 fp hst hsg hof hw)
  isplitl [HC]; · iexact HC
  isplitl [HA]; · iexact HA
  iintro ⟨HC, HA⟩
  unfold segCtx
  icases HC with ⟨H1, H4, H8, H9, HB⟩
  sl_exec
  sl_step
  iapply Hk
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HO]; · iexact HO
  isplitl [HW]; · iexists _; iexact HW
  isplitl [HA]; · iexists _; iexact HA
  isplitl [HB]; · iexists _; iexact HB
  isplitl [HPd HT0 HT1 HT2 HT3 HT4 HT5 HT6 HT7 HT8 HT9 HT10 HT11 HT12 HT13 HT14 HT15 HT16 HT17 HT18 HT19 HT20 HT21 HT22 HT23 HT24 HT25 HT26]
  · iapply (pool_toks c fp).2
    isplitl [HPd]; · iexact HPd
    isplitl [HT0]; · iexact HT0
    isplitl [HT1]; · iexact HT1
    isplitl [HT2]; · iexact HT2
    isplitl [HT3]; · iexact HT3
    isplitl [HT4]; · iexact HT4
    isplitl [HT5]; · iexact HT5
    isplitl [HT6]; · iexact HT6
    isplitl [HT7]; · iexact HT7
    isplitl [HT8]; · iexact HT8
    isplitl [HT9]; · iexact HT9
    isplitl [HT10]; · iexact HT10
    isplitl [HT11]; · iexact HT11
    isplitl [HT12]; · iexact HT12
    isplitl [HT13]; · iexact HT13
    isplitl [HT14]; · iexact HT14
    isplitl [HT15]; · iexact HT15
    isplitl [HT16]; · iexact HT16
    isplitl [HT17]; · iexact HT17
    isplitl [HT18]; · iexact HT18
    isplitl [HT19]; · iexact HT19
    isplitl [HT20]; · iexact HT20
    isplitl [HT21]; · iexact HT21
    isplitl [HT22]; · iexact HT22
    isplitl [HT23]; · iexact HT23
    isplitl [HT24]; · iexact HT24
    isplitl [HT25]; · iexact HT25
    iexact HT26
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  iexists _; iexact Hw

end Cert.KernelIdeal.Hand

end
-- ==== Proof.Ideal.Frame.lean ====
/- The launch: every point of the grid runs the kernel's body (`kernelRun`) on the blocks staged for it, so the program
   terminates, leaves its arguments alone, returns every semaphore to zero, and leaves in the result the blocks the body
   stored. The precondition on the index tables is what makes every row the body names a row of its array. -/
module

public import proofs.«01_k».proof.Proof.Gen.KernelIdeal.Frame
public import proofs.«01_k».proof.Proof.Gen.KernelIdeal.Points
public import Idealize.ShloMosaic.Lib.WholeRead
public import proofs.«01_k».proof.Proof.Tables
public import proofs.«01_k».proof.Proof.Ideal.Run

@[expose] public section

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Pre_tables_in_range (Tables)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The operands the body is handed -/

/-- Window by window, the staging buffer the body is handed at a point, and its wholeness. -/
abbrev ms0 (t : Fin cfg0.N) : Memref sig .tc .smem S23 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S23 .i32 := win0_1.stage (cfg0.slots t 1)
abbrev hs1 (t : Fin cfg0.N) : (ms1 t).IsWhole := hstage0_1 ((cfg0.slots t 1).cast nbuf0_1)
abbrev ms2 (t : Fin cfg0.N) : Memref sig .tc .smem S15 .i32 := win0_2.stage (cfg0.slots t 2)
abbrev hs2 (t : Fin cfg0.N) : (ms2 t).IsWhole := hstage0_2 ((cfg0.slots t 2).cast nbuf0_2)
abbrev ms3 (t : Fin cfg0.N) : Memref sig .tc .smem S14 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1280x7168 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S896x256 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S56x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1280x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2500 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1280x256 .bf16 := win0_9.stage (cfg0.slots t 9)
abbrev hs9 (t : Fin cfg0.N) : (ms9 t).IsWhole := hstage0_9 ((cfg0.slots t 9).cast nbuf0_9)
/-- Input by input, its staging buffer's contents when it holds the block of a point. -/
abbrev bk0 (c : Dev nD) (t : Fin cfg0.N) : Buf (Elt F) ((ms0 t).view.loc (c : Thread nD τ)) := (hs0 t).unread (iblk m c 0 t)
abbrev bk1 (c : Dev nD) (t : Fin cfg0.N) : Buf (Elt F) ((ms1 t).view.loc (c : Thread nD τ)) := (hs1 t).unread (iblk m c 1 t)
abbrev bk2 (c : Dev nD) (t : Fin cfg0.N) : Buf (Elt F) ((ms2 t).view.loc (c : Thread nD τ)) := (hs2 t).unread (iblk m c 2 t)
abbrev bk3 (c : Dev nD) (t : Fin cfg0.N) : Buf (Elt F) ((ms3 t).view.loc (c : Thread nD τ)) := (hs3 t).unread (iblk m c 3 t)
abbrev bk4 (c : Dev nD) (t : Fin cfg0.N) : Buf (Elt F) ((ms4 t).view.loc (c : Thread nD τ)) := (hs4 t).unread (iblk m c 4 t)
abbrev bk5 (c : Dev nD) (t : Fin cfg0.N) : Buf (Elt F) ((ms5 t).view.loc (c : Thread nD τ)) := (hs5 t).unread (iblk m c 5 t)
abbrev bk6 (c : Dev nD) (t : Fin cfg0.N) : Buf (Elt F) ((ms6 t).view.loc (c : Thread nD τ)) := (hs6 t).unread (iblk m c 6 t)
abbrev bk7 (c : Dev nD) (t : Fin cfg0.N) : Buf (Elt F) ((ms7 t).view.loc (c : Thread nD τ)) := (hs7 t).unread (iblk m c 7 t)
abbrev bk8 (c : Dev nD) (t : Fin cfg0.N) : Buf (Elt F) ((ms8 t).view.loc (c : Thread nD τ)) := (hs8 t).unread (iblk m c 8 t)

/-! ## What the body assumes of the tables -/

/-- The index tables are in range on every core. -/
abbrev Hyps : Prop := ∀ c : Dev nD,
  Tables (m ((c : Thread nD τ).loc main_arg6)) (m ((c : Thread nD τ).loc main_arg8)) (m ((c : Thread nD τ).loc main_arg9))

/-- The block of table window 0 is its table. -/
theorem tab0 (c : Dev nD) (t : Fin cfg0.N) (y : S23.Idx) : iblk m c 0 t y = m ((c : Thread nD τ).loc main_arg6) y := by
  unfold iblk; rw [View.read_apply, cast_eq]
  refine (congrFun (V_main_arg6 m c) _).trans (congrArg _ (funext fun a => Fin.ext ?_))
  fin_cases a; show 0 + 1 * (y 0).val = (y 0).val; omega
/-- The block of table window 2 is its table. -/
theorem tab2 (c : Dev nD) (t : Fin cfg0.N) (y : S15.Idx) : iblk m c 2 t y = m ((c : Thread nD τ).loc main_arg8) y := by
  unfold iblk; rw [View.read_apply, cast_eq]
  refine (congrFun (V_main_arg8 m c) _).trans (congrArg _ (funext fun a => Fin.ext ?_))
  fin_cases a; show 0 + 1 * (y 0).val = (y 0).val; omega
/-- The block of table window 3 is its table. -/
theorem tab3 (c : Dev nD) (t : Fin cfg0.N) (y : S14.Idx) : iblk m c 3 t y = m ((c : Thread nD τ).loc main_arg9) y := by
  unfold iblk; rw [View.read_apply, cast_eq]
  refine (congrFun (V_main_arg9 m c) _).trans (congrArg _ (funext fun a => Fin.ext ?_))
  fin_cases a; show 0 + 1 * (y 0).val = (y 0).val; omega
variable {m} in
/-- A word loaded from the staged start rows is one of the table's, so in range. -/
theorem hst (hm : Hyps m) (c : Dev nD) (t : Fin cfg0.N) (r : LoadRect S23) (y) :
    BitVec.toNat (w := 32) ((ms0 t).view.readAt (Elt F) r (bk0 m c t) y) < 2304 := by
  rw [(hs0 t).readAt_unread]; rw [tab0]; exact (hm c).st_lt _
variable {m} in
/-- A word loaded from the staged adapter numbers is one of the table's, so in range. -/
theorem hsg (hm : Hyps m) (c : Dev nD) (t : Fin cfg0.N) (r : LoadRect S14) (y) :
    BitVec.toNat (w := 32) ((ms3 t).view.readAt (Elt F) r (bk3 m c t) y) < 23 := by
  rw [(hs3 t).readAt_unread]; rw [tab3]; exact (hm c).sg_lt _
variable {m} in
/-- A word loaded from the staged offsets is one of the table's, so in range. -/
theorem hof (hm : Hyps m) (c : Dev nD) (t : Fin cfg0.N) (r : LoadRect S15) (y) :
    BitVec.toNat (w := 32) ((ms2 t).view.readAt (Elt F) r (bk2 m c t) y) ≤ 1280 := by
  rw [(hs2 t).readAt_unread]; rw [tab2]; exact (hm c).of_le _
/-- The staged offsets are the table, word for word. -/
theorem offAt_eq (c : Dev nD) (t : Fin cfg0.N) (n : ℕ) (h : n < 15) :
    offAt c (ms2 t) (bk2 m c t) n h = m ((c : Thread nD τ).loc main_arg8) (ix1 (⟨n, h⟩ : Fin 15)) := by
  unfold offAt; rw [(hs2 t).readAt_unread, tab2]
  refine congrArg _ (funext fun a => Fin.ext ?_)
  fin_cases a; show n + 1 * 0 = n; omega
variable {m} in
/-- Every segment starts no later than it ends, inside the rows. -/
theorem hw (hm : Hyps m) (c : Dev nD) (t : Fin cfg0.N) (n : ℕ) (h : n < 14) :
    k0_chk98 (offAt c (ms2 t) (bk2 m c t) n (by omega)) (offAt c (ms2 t) (bk2 m c t) (n + 1) (by omega)) := by
  rw [offAt_eq, offAt_eq]
  exact chkRows _ _ ((hm c).of_mono n h) ((hm c).of_le _)

/-! ## The invariant between points -/

/-- The fourteen cells of the kernel's own semaphore array. -/
abbrev osem0 : Fin 14 → SemLoc sig := fun j => (![SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0) := by
  rw [Pipeline.ownSems0_eq_of_list c osem0 [0, 1, 2, 3, 4, 5, 6, 7, 8, 9, 10, 11, 12, 13] (by decide) (by decide)]; rfl
/-- The pool, left in HBM: no window's array. -/
def H0 : Finset (Ref sig .tc) := {main_arg4}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM fullShare (V m c main_arg4)) := by
  rw [BI.bigSep_eq_bigSepL_of_eq [main_arg4] (by decide) (by decide)]; rfl

/-- Between points: the three scratches at some contents, the generator register at some state, the cells at zero, the pool
    at its launch contents. -/
theorem PhiD0_eq (c : Dev nD) :
    (Pipeline.ΦD osem0 spec0 H0 (V m) c : sProp 𝕄)
      = iprop(iprop((∃ f, hbPt c scW fullShare f) ∗ (∃ f, hbPt c scA fullShare f) ∗ (∃ f, hbPt c scB fullShare f)) ∗ (∃ r, prngReg c r)
          ∗ iprop(semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0)
          ∗ iprop(hbPt c hbM fullShare (V m c main_arg4))) := by
  rw [Pipeline.ΦD_eq, scopedRest0_eq, ownSems00_eq, hbmPts0_eq]; try rfl

/-! ## The proof data -/

variable {m}

/-- The block of the result the body stores at a point. -/
def outBlk (hm : Hyps m) (c : Dev nD) (t : Fin cfg0.N) : Vec F S1280x256 .bf16 :=
  outVal c (grid0.coords t) (ms0 t) (ms2 t) (ms3 t) (ms4 t) (ms5 t) (ms6 t) (ms7 t) (ms8 t)
    (bk0 m c t) (bk2 m c t) (bk3 m c t) (bk4 m c t) (bk5 m c t) (bk6 m c t) (bk7 m c t) (bk8 m c t) (V m c main_arg4)
    (hst hm c t) (hsg hm c t) (hof hm c t) (hw hm c t)

/-- The arrays as the region finds them; each input's buffer left at its block, the result's at `outBlk`; full shares,
    nothing owed. -/
def dats (hm : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk hm c t
  Φ _ := Pipeline.ΦD osem0 spec0 H0 (V m) c
  q _ := fullShare
  owed _ := 0

theorem A_eq (hm : Hyps m) (c : Dev nD) (w : Fin cfg0.W) : (dats hm 0 c).A w = V m c (Pipeline.arrRef spec0 w) := by dsimp only [dats]

/-- What an input's staging buffer holds before the body, input by input: its block. -/
theorem before0 (hm : Hyps m) (c : Dev nD) (t : Fin cfg0.N) (d) : (dats hm 0 c).before 0 t d = iblk m c 0 t :=
  ((dats hm 0 c).before_in_eq_fetched 0 rfl (fun _ => rfl) (fun _ _ _ => rfl) (fun _ => rfl) t d).trans rfl
theorem before1 (hm : Hyps m) (c : Dev nD) (t : Fin cfg0.N) (d) : (dats hm 0 c).before 1 t d = iblk m c 1 t :=
  ((dats hm 0 c).before_in_eq_fetched 1 rfl (fun _ => rfl) (fun _ _ _ => rfl) (fun _ => rfl) t d).trans rfl
theorem before2 (hm : Hyps m) (c : Dev nD) (t : Fin cfg0.N) (d) : (dats hm 0 c).before 2 t d = iblk m c 2 t :=
  ((dats hm 0 c).before_in_eq_fetched 2 rfl (fun _ => rfl) (fun _ _ _ => rfl) (fun _ => rfl) t d).trans rfl
theorem before3 (hm : Hyps m) (c : Dev nD) (t : Fin cfg0.N) (d) : (dats hm 0 c).before 3 t d = iblk m c 3 t :=
  ((dats hm 0 c).before_in_eq_fetched 3 rfl (fun _ => rfl) (fun _ _ _ => rfl) (fun _ => rfl) t d).trans rfl
theorem before4 (hm : Hyps m) (c : Dev nD) (t : Fin cfg0.N) (d) : (dats hm 0 c).before 4 t d = iblk m c 4 t :=
  ((dats hm 0 c).before_in_eq_fetched 4 rfl (fun _ => rfl) (fun _ _ _ => rfl) (fun _ => rfl) t d).trans rfl
theorem before5 (hm : Hyps m) (c : Dev nD) (t : Fin cfg0.N) (d) : (dats hm 0 c).before 5 t d = iblk m c 5 t :=
  ((dats hm 0 c).before_in_eq_fetched 5 rfl (fun _ => rfl) (fun _ _ _ => rfl) (fun _ => rfl) t d).trans rfl
theorem before6 (hm : Hyps m) (c : Dev nD) (t : Fin cfg0.N) (d) : (dats hm 0 c).before 6 t d = iblk m c 6 t :=
  ((dats hm 0 c).before_in_eq_fetched 6 rfl (fun _ => rfl) (fun _ _ _ => rfl) (fun _ => rfl) t d).trans rfl
theorem before7 (hm : Hyps m) (c : Dev nD) (t : Fin cfg0.N) (d) : (dats hm 0 c).before 7 t d = iblk m c 7 t :=
  ((dats hm 0 c).before_in_eq_fetched 7 rfl (fun _ => rfl) (fun _ _ _ => rfl) (fun _ => rfl) t d).trans rfl
theorem before8 (hm : Hyps m) (c : Dev nD) (t : Fin cfg0.N) (d) : (dats hm 0 c).before 8 t d = iblk m c 8 t :=
  ((dats hm 0 c).before_in_eq_fetched 8 rfl (fun _ => rfl) (fun _ _ _ => rfl) (fun _ => rfl) t d).trans rfl

/-- A whole memref owned at what reads as `X` is its buffer at the contents that read as `X`. -/
theorem hb_of_owns (c : Dev nD) {sp : Space} {S : Shape} {e : EltTy} {M : Memref sig .tc sp S e} (hM : M.IsWhole) (X : S.Idx → Elt F e) :
    (owns (c : Thread nD τ) M fullShare X : sProp 𝕄) ⊢ hbPt c M fullShare (hM.unread X) := by
  unfold owns
  rw [hM.set_eq_univ]
  iintro ⟨%f, %hf, H⟩
  rw [hM.eq_unread hf]
  iexact H
theorem owns_of_hb (c : Dev nD) {sp : Space} {S : Shape} {e : EltTy} {M : Memref sig .tc sp S e} (hM : M.IsWhole) (X : S.Idx → Elt F e)
    {f : Buf (Elt F) (M.view.loc (c : Thread nD τ))} (hf : M.view.read (Elt F) f = X) :
    hbPt c M fullShare f ⊢ (owns (c : Thread nD τ) M fullShare X : sProp 𝕄) := by
  unfold owns
  rw [hM.set_eq_univ]
  iintro H
  iexists f
  isplitr; · ipureintro; exact hf
  iexact H

/-- A block stored whole reads back as stored. -/
theorem read_stored {M : Memref sig .tc .vmem S1280x256 .bf16} (f : M.view.ty.Contents (Elt F)) (w : Vec F S1280x256 .bf16) :
    M.view.read (Elt F) (M.view.writes (Elt F) f [⟨Rect.unit (s := S1280x256) ![0, 0] S1280x256.size inb_S1280x256_S1280x256_0_0, w⟩]) = w := by
  funext y
  have hy : (Rect.unit (s := S1280x256) ![0, 0] S1280x256.size inb_S1280x256_S1280x256_0_0).emb y = y := by
    funext a; apply Fin.ext; show (![0, 0] : Fin 2 → ℕ) a + 1 * (y a).val = (y a).val; fin_cases a <;> simp
  have e := View.read_writes_cons_emb (Val := Elt F) M.view f (Rect.unit (s := S1280x256) ![0, 0] S1280x256.size inb_S1280x256_S1280x256_0_0) w [] y
  rw [hy] at e
  exact e

/-! ## The body at a point -/

/-- What the body is called with at point `t`. -/
def bodyPre (hm : Hyps m) (c : Dev nD) (t : Fin cfg0.N) : sProp 𝕄 :=
  iprop((dats hm 0 c).Φ t.castSucc ∗ (dats hm 0 c).owesAt () t.castSucc
    ∗ (∃ d, owns (c : Thread nD τ) (ms0 t) fullShare ((dats hm 0 c).before 0 t d))
    ∗ (∃ d, owns (c : Thread nD τ) (ms1 t) fullShare ((dats hm 0 c).before 1 t d))
    ∗ (∃ d, owns (c : Thread nD τ) (ms2 t) fullShare ((dats hm 0 c).before 2 t d))
    ∗ (∃ d, owns (c : Thread nD τ) (ms3 t) fullShare ((dats hm 0 c).before 3 t d))
    ∗ (∃ d, owns (c : Thread nD τ) (ms4 t) fullShare ((dats hm 0 c).before 4 t d))
    ∗ (∃ d, owns (c : Thread nD τ) (ms5 t) fullShare ((dats hm 0 c).before 5 t d))
    ∗ (∃ d, owns (c : Thread nD τ) (ms6 t) fullShare ((dats hm 0 c).before 6 t d))
    ∗ (∃ d, owns (c : Thread nD τ) (ms7 t) fullShare ((dats hm 0 c).before 7 t d))
    ∗ (∃ d, owns (c : Thread nD τ) (ms8 t) fullShare ((dats hm 0 c).before 8 t d))
    ∗ (∃ d, owns (c : Thread nD τ) (ms9 t) fullShare ((dats hm 0 c).before 9 t d)))
/-- What it returns. -/
def bodyPost (hm : Hyps m) (c : Dev nD) (t : Fin cfg0.N) : sProp 𝕄 :=
  iprop((dats hm 0 c).Φ t.succ ∗ (dats hm 0 c).owesAt () t.succ
    ∗ owns (c : Thread nD τ) (ms0 t) fullShare ((dats hm 0 c).after 0 t)
    ∗ owns (c : Thread nD τ) (ms1 t) fullShare ((dats hm 0 c).after 1 t)
    ∗ owns (c : Thread nD τ) (ms2 t) fullShare ((dats hm 0 c).after 2 t)
    ∗ owns (c : Thread nD τ) (ms3 t) fullShare ((dats hm 0 c).after 3 t)
    ∗ owns (c : Thread nD τ) (ms4 t) fullShare ((dats hm 0 c).after 4 t)
    ∗ owns (c : Thread nD τ) (ms5 t) fullShare ((dats hm 0 c).after 5 t)
    ∗ owns (c : Thread nD τ) (ms6 t) fullShare ((dats hm 0 c).after 6 t)
    ∗ owns (c : Thread nD τ) (ms7 t) fullShare ((dats hm 0 c).after 7 t)
    ∗ owns (c : Thread nD τ) (ms8 t) fullShare ((dats hm 0 c).after 8 t)
    ∗ owns (c : Thread nD τ) (ms9 t) fullShare ((dats hm 0 c).after 9 t))

set_option maxHeartbeats 1000000 in
/-- The body at the point: the invariant opened, `kernelRun` on the blocks, the invariant closed. -/
theorem sound_body (hm : Hyps m) (c : Dev nD) (t : Fin cfg0.N) :
    bodyPre hm c t ⊢ wp frame (wpE (defs₀ (F := F)) Variants.none c none) Set.univ (bodyAt0 t) (fun _ => bodyPost hm c t) := by
  unfold bodyPre bodyPost bodyAt0
  rw [show (dats hm 0 c).Φ t.succ = (dats hm 0 c).Φ t.castSucc from rfl,
    show (dats hm 0 c).owesAt () t.succ = (dats hm 0 c).owesAt () t.castSucc from rfl,
    show (dats hm 0 c).Φ t.castSucc = Pipeline.ΦD osem0 spec0 H0 (V m) c from rfl, PhiD0_eq]
  unfold Dat.owesAt Pipeline.owesWithin
  rw [show (dats hm 0 c).owed t.castSucc = 0 from rfl]
  iintro ⟨⟨⟨⟨%fw, HW⟩, ⟨%fa, HA⟩, ⟨%fb, HB⟩⟩, Hg, ⟨Hq0, Hq1, Hq2, Hq3, Hq4, Hq5, Hq6, Hq7, Hq8, Hq9, Hq10, Hq11, Hq12, Hq13⟩, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0 hm c t d0]
  rw [before1 hm c t d1]
  rw [before2 hm c t d2]
  rw [before3 hm c t d3]
  rw [before4 hm c t d4]
  rw [before5 hm c t d5]
  rw [before6 hm c t d6]
  rw [before7 hm c t d7]
  rw [before8 hm c t d8]
  ihave H0 := (hb_of_owns c (hs0 t) _) $$ H0
  ihave H2 := (hb_of_owns c (hs2 t) _) $$ H2
  ihave H3 := (hb_of_owns c (hs3 t) _) $$ H3
  ihave H4 := (hb_of_owns c (hs4 t) _) $$ H4
  ihave H5 := (hb_of_owns c (hs5 t) _) $$ H5
  ihave H6 := (hb_of_owns c (hs6 t) _) $$ H6
  ihave H7 := (hb_of_owns c (hs7 t) _) $$ H7
  ihave H8 := (hb_of_owns c (hs8 t) _) $$ H8
  ihave H9 := (hb_of_owns c (hs9 t) _) $$ H9
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (bk0 m c t) (bk2 m c t) (bk3 m c t) (bk4 m c t) (bk5 m c t) (bk6 m c t) (bk7 m c t) (bk8 m c t) _ (V m c main_arg4) fb fw fa
    (hst hm c t) (hsg hm c t) (hof hm c t) (hw hm c t) W _)
  isplitl [H0]; · iexact H0
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HW]; · iexact HW
  isplitl [HA]; · iexact HA
  isplitl [HB]; · iexact HB
  isplitl [Hh]; · iexact Hh
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [HO]; · iexact HO
  iintro ⟨H0, H2, H3, H4, H5, H6, H7, H8, H9, HW, HA, HB, Hh, Hq0, Hq1, Hq2, Hq3, Hq4, Hq5, Hq6, Hq7, Hq8, Hq9, Hq10, Hq11, Hq12, Hq13, ⟨%W', HO⟩⟩
  isplitl [HW HA HB Hg Hq0 Hq1 Hq2 Hq3 Hq4 Hq5 Hq6 Hq7 Hq8 Hq9 Hq10 Hq11 Hq12 Hq13 Hh]
  · isplitl [HW HA HB]
    · isplitl [HW]; · iexact HW
      isplitl [HA]; · iexact HA
      iexact HB
    isplitl [Hg]; · iexact Hg
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexact Hh
  isplitl [HO]
  · iexists W'; isplitr; · ipureintro; exact fun _ _ => Or.inl trivial
    iexact HO
  isplitl [H0]; · iapply (owns_of_hb c (hs0 t) (iblk m c 0 t) ((hs0 t).read_unread _)); iexact H0
  isplitl [H1]; · iexact H1
  isplitl [H2]; · iapply (owns_of_hb c (hs2 t) (iblk m c 2 t) ((hs2 t).read_unread _)); iexact H2
  isplitl [H3]; · iapply (owns_of_hb c (hs3 t) (iblk m c 3 t) ((hs3 t).read_unread _)); iexact H3
  isplitl [H4]; · iapply (owns_of_hb c (hs4 t) (iblk m c 4 t) ((hs4 t).read_unread _)); iexact H4
  isplitl [H5]; · iapply (owns_of_hb c (hs5 t) (iblk m c 5 t) ((hs5 t).read_unread _)); iexact H5
  isplitl [H6]; · iapply (owns_of_hb c (hs6 t) (iblk m c 6 t) ((hs6 t).read_unread _)); iexact H6
  isplitl [H7]; · iapply (owns_of_hb c (hs7 t) (iblk m c 7 t) ((hs7 t).read_unread _)); iexact H7
  isplitl [H8]; · iapply (owns_of_hb c (hs8 t) (iblk m c 8 t) ((hs8 t).read_unread _)); iexact H8
  iapply (owns_of_hb c (hs9 t) (outBlk hm c t) (read_stored _ _)); iexact H9

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the launch asks of the body. -/
theorem body_obligation (hm : Hyps m) (c : Dev nD) : BodyObligation (dats (F := F) hm 0 c) (defs₀ (F := F)) Variants.none () Set.univ := fun t => by
  rw [bigSep_W0, bigSep_W0, defs₀_row]
  exact triple_restated (sound_body hm c t) rfl .rfl fun _ => .rfl

/-! ## The launch -/

/-- @main up to the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every fair execution terminates with every array at its folded write-backs, every other buffer as the region
    found it, and every counter at zero. -/
theorem run_main (hm : Hyps m) :
    θ_run defs (onTc (τ := τ) (main (F := F))) (s₀ m ρ)
      (fun r => Pipeline.FramePost cfgs (dats hm) 0 (V m) r ∧ r.2.sem = fun _ => 0) :=
  Pipeline.θ_run_frame_dma (Q' := _) cfgs (dats hm) (0 : Fin 1) launch0 osem0 defs₀ Variants.none ownSemFacts0 H0 H0_sub m ρ main
    (hbody := fun c => (body_obligation hm c).loose) (hshare := fun c => (dats hm 0 c).share_full fun _ => rfl)
    (howed := fun _ _ => rfl) (V := V m) (hmain := hmainD Variants.none) (hA := A_eq hm)
    (hin := fun _ => .rfl) (hout := fun _ => .rfl)

/-- The arguments end as they began. -/
theorem args_kept (hm : Hyps m) {r : PUnit × MemSt nD τ sig (Elt F)} (h : Pipeline.FramePost cfgs (dats hm) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := ⟨((h c).1 4).trans (((dats hm 0 c).arrAt_in 4 rfl _).trans ((A_eq hm c 4).trans (V_main_arg0 m c))),
      ((h c).1 5).trans (((dats hm 0 c).arrAt_in 5 rfl _).trans ((A_eq hm c 5).trans (V_main_arg1 m c))),
      ((h c).1 6).trans (((dats hm 0 c).arrAt_in 6 rfl _).trans ((A_eq hm c 6).trans (V_main_arg2 m c))),
      ((h c).1 7).trans (((dats hm 0 c).arrAt_in 7 rfl _).trans ((A_eq hm c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 0).trans (((dats hm 0 c).arrAt_in 0 rfl _).trans ((A_eq hm c 0).trans (V_main_arg6 m c))),
      ((h c).1 1).trans (((dats hm 0 c).arrAt_in 1 rfl _).trans ((A_eq hm c 1).trans (V_main_arg7 m c))),
      ((h c).1 2).trans (((dats hm 0 c).arrAt_in 2 rfl _).trans ((A_eq hm c 2).trans (V_main_arg8 m c))),
      ((h c).1 3).trans (((dats hm 0 c).arrAt_in 3 rfl _).trans ((A_eq hm c 3).trans (V_main_arg9 m c)))⟩

/-- The program terminates, leaves its arguments unchanged and returns every counter to zero. -/
theorem quiescent (hm : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => args_kept hm h.1 c, h.2⟩) (run_main ρ hm)

end Cert.KernelIdeal.Hand

end
-- ==== Proof.Ideal.Payloads.lean ====
/- The body's vector expressions over the extended reals, read at one element each. -/
module

public import proofs.«01_k».proof.Proof.Gen.KernelIdeal.Skeleton
public import proofs.«01_k».proof.Proof.Gen.KernelIdeal
public import proofs.«01_k».proof.Proof.Ideal.Checks
public import Idealize.ShloMosaic.Lib.Pointwise
public import Idealize.ShloMosaic.Lib.Affine
public import Idealize.ShloMosaic.Lib.WordCmp

@[expose] public section

set_option maxRecDepth 16384

noncomputable section

namespace Cert.KernelIdeal.Hand

open Cert.KernelIdeal Cert.KernelIdeal.Gen
open Idealize.ShloMosaic

/-- Code `j` of a packed word: its nibble `j`, read signed. -/
def codeOf (w : BitVec 32) (j : ℕ) : EReal :=
  FloatOps.sitofp (F := Ideal) .bf16 (IntOp.shrsi .vector (IntOp.shli .vector w
    (IntOp.subi 28#32 (IntOp.muli 4#32 (BitVec.ofNat 32 j)))) 28#32)

/-- The last store's rounding is the identity over the extended reals. -/
theorem pay7_at (v : Vec Ideal S1280x256 .f32) (y : S1280x256.Idx) : k0_pay7 v y = v y := by
  pointwise [k0_pay7]

/-- Row `k` of the unpacked codes is nibble `k % 8` of word row `k / 8`. -/
theorem pay22_at (w : Vec Ideal S896x256 .i32) (k : Fin 7168) (n : Fin 256) :
    k0_pay22 (F := Ideal) w (ix2 k n) = codeOf (w (ix2 (⟨k.val / 8, by omega⟩ : Fin 896) n)) (k.val % 8) := by
  pointwise [k0_pay22]
  rfl

/-- The base product's element. -/
theorem pay90_at (x : Vec Ideal S1280x7168 .bf16) (w : Vec Ideal S7168x256 .bf16) (r : Fin 1280) (n : Fin 256) :
    k0_pay90 (F := Ideal) x w (ix2 r n) = ∑ k : Fin 7168, x (ix2 r k) * w (ix2 k n) := by
  pointwise [k0_pay90]

/-- A select on a flag that says `p`. -/
theorem select_of_iff {α : Type} (c : BitVec 1) (p : Prop) [Decidable p] (h : c = 1#1 ↔ p) (a b : α) :
    Scalar.select c a b = if p then a else b := by
  unfold Scalar.select
  exact if_congr h rfl rfl

/-- The identity mask: set on the diagonal. -/
theorem pay91_iff (a b : Fin 128) : k0_pay91 (ix2 a b) = 1#1 ↔ a = b := by
  pointwise [k0_pay91]
  rw [IntOp.cmpi_eq]
  constructor
  · intro h
    have := congrArg BitVec.toNat h
    simp only [BitVec.toNat_ofNat] at this
    exact Fin.ext (by omega)
  · rintro rfl; rfl

/-- How far the pair of lane rows is rolled. -/
abbrev rollOf (st : BitVec 32) : BitVec 32 :=
  Scalar.select (Scalar.cmpi CmpIPredicate.eq (Scalar.subi (Scalar.andi st 4294967264#32)
      (Scalar.andi (Scalar.andi st 4294967264#32) 4294967168#32)) 0#32) (0#32)
    (Scalar.subi (256#32) (Scalar.subi (Scalar.andi st 4294967264#32)
      (Scalar.andi (Scalar.andi st 4294967264#32) 4294967168#32)))
theorem roll_fin : ∀ s : Fin 72, (rollOf (BitVec.ofNat 32 (32 * s.val))).toNat = (256 - s.val % 4 * 32) % 256 := by decide +kernel
theorem and32_again : ∀ s : Fin 2304, Scalar.andi (BitVec.ofNat 32 s.val) 4294967264#32 = BitVec.ofNat 32 (32 * (s.val / 32)) := by decide +kernel
theorem and32_self : ∀ s : Fin 72, Scalar.andi (BitVec.ofNat 32 (32 * s.val)) 4294967264#32 = BitVec.ofNat 32 (32 * s.val) := by decide +kernel
/-- The window starts `st / 32 * 32 - st / 128 * 128` lanes into the pair of lane rows, and is rolled to its front. -/
theorem rollOf_toNat (st : BitVec 32) (h : st.toNat < 2304) : (rollOf st).toNat = (256 - st.toNat / 32 % 4 * 32) % 256 := by
  have e1 := and32_again ⟨st.toNat, h⟩
  have e2 := and32_self ⟨st.toNat / 32, by omega⟩
  have e3 := roll_fin ⟨st.toNat / 32, by omega⟩
  simp only [BitVec.ofNat_toNat, BitVec.setWidth_eq] at e1
  rw [← e1] at e2 e3
  unfold rollOf at e3 ⊢
  rw [e2] at e3
  exact e3

/-- The scaled adapter rows: row `a` of the staged rows times scale `st / 32 * 32 - st / 128 * 128 + a` of the two lane
    rows read. -/
theorem pay21_at (st : BitVec 32) (hst : st.toNat < 2304) (sc : Vec Ideal S1x256 .f32) (rows : Vec Ideal S1x128x256 .i8) (a : Fin 128) (n : Fin 256) :
    k0_pay21 (F := Ideal) k0_pay91 st sc rows (ix2 a n)
      = FloatOps.sitofp (F := Ideal) .bf16 (rows (ix3 (0 : Fin 1) a n) : BitVec 8)
        * sc (ix2 (0 : Fin 1) (⟨st.toNat / 32 % 4 * 32 + a.val, by omega⟩ : Fin 256)) := by
  pointwise [k0_pay21]
  refine congrArg _ ?_
  rw [Finset.sum_congr rfl (fun x _ => select_of_iff _ (a = x) (pay91_iff a x) _ _), Finset.sum_ite_eq, if_pos (Finset.mem_univ _)]
  refine congrArg sc (congrArg _ (Fin.ext ?_))
  show (a.val + 256 - (rollOf st).toNat % 256) % 256 = _
  rw [rollOf_toNat st hst]
  have := a.isLt
  show _ = st.toNat / 32 % 4 * 32 + a.val
  omega

/-- A row counter added to a tile's first row. -/
theorem rowWord (a : ℕ) (ha : a < 128) (w : BitVec 32) (hw : w.toNat ≤ 1280) : (IntOp.addi (BitVec.ofNat 32 a) w).toNat = w.toNat + a := by
  show (BitVec.ofNat 32 a + w).toNat = _
  rw [BitVec.toNat_add, BitVec.toNat_ofNat]; omega
theorem toInt_small (v : BitVec 32) (h : v.toNat < 2 ^ 31) : v.toInt = v.toNat := by
  simp only [BitVec.toInt]; omega
/-- The row mask: set on the rows of the segment. -/
theorem keep_iff (a : ℕ) (ha : a < 128) (w lo hi : BitVec 32) (hw : w.toNat ≤ 1280) (hlo : lo.toNat ≤ 1280) (hhi : hi.toNat ≤ 1280) :
    IntOp.andi (IntOp.cmpi .sge (IntOp.addi (BitVec.ofNat 32 a) w) lo) (IntOp.cmpi .slt (IntOp.addi (BitVec.ofNat 32 a) w) hi) = 1#1
      ↔ lo.toNat ≤ w.toNat + a ∧ w.toNat + a < hi.toNat := by
  have e := rowWord a ha w hw
  rw [IntOp.andi_eq_one, IntOp.cmpi_sge, IntOp.cmpi_slt, toInt_small (IntOp.addi (BitVec.ofNat 32 a) w) (by rw [e]; omega), toInt_small lo (by omega), toInt_small hi (by omega), e]
  omega

/-- One trip's store: on the rows of the segment, the accumulator plus the tile's product; elsewhere the accumulator. -/
theorem pay5_at (lo hi : BitVec 32) (hlo : lo.toNat ≤ 1280) (hhi : hi.toNat ≤ 1280) (b : FVec Ideal S128x256 .bf16)
    (k : Fin (k0_t27_loop lo hi).trips) (h : Vec Ideal S128x128 .bf16) (acc : Vec Ideal S128x256 .f32) (a : Fin 128) (n : Fin 256) :
    k0_pay5 (F := Ideal) (iota .tc S128x128 32 [0] iota_S128x128_d0_w32) lo hi b 128#32 (Scalar.divsi lo 128#32)
        (Scalar.subi (Scalar.extui (Scalar.cmpi .sgt lo 0#32)) (Scalar.extui (Scalar.cmpi .slt lo 0#32))) 1#32 k h acc (ix2 a n)
      = acc (ix2 a n) + if lo.toNat ≤ (tileA lo + k.val) * 128 + a.val ∧ (tileA lo + k.val) * 128 + a.val < hi.toNat then
          ∑ x : Fin 128, h (ix2 a x) * b (ix2 x n) else 0 := by
  have e := mult_eq lo hi hlo hhi k
  have hk := k.isLt.trans_eq (trips_eq lo hi hlo hhi)
  have := tileB_le hi hhi
  pointwise [k0_pay5]
  refine congrArg _ ?_
  refine (Finset.sum_congr rfl (fun x _ => select_of_iff _ _ (keep_iff a.val a.isLt (k0_mult111 lo hi k) lo hi (by rw [e]; omega) hlo hhi) _ _)).trans ?_
  rw [e]
  split
  · rfl
  · exact Finset.sum_const_zero

end Cert.KernelIdeal.Hand

end
-- ==== Proof.Ideal.SegValue.lean ====
/- What the accumulator holds, element by element, over the extended reals: after a trip, after a segment, after all of them. -/
module

public import proofs.«01_k».proof.Proof.Ideal.Point
public import proofs.«01_k».proof.Proof.Ideal.Payloads
public import Idealize.ShloMosaic.Lib.WritesUnit
public import Idealize.ShloMosaic.Lib.Pointwise.IndexBridge

@[expose] public section

set_option maxRecDepth 16384

noncomputable section

namespace Cert.KernelIdeal.Hand

open Cert.KernelIdeal Cert.KernelIdeal.Gen
open Idealize.ShloMosaic Idealize.ShloMosaic.TcCoe Idealize.SL.Sem

/-- The accumulator's contents as a function of row and column. -/
abbrev accFn {c : Dev nD} (a : Buf (Elt Ideal) (scA.view.loc (c : Thread nD τ))) (r : Fin 1280) (n : Fin 256) : EReal :=
  (a : S1280x256.Idx → EReal) (ix2 r n)

/-- The index a unit-stride window of a matrix gives its element. -/
theorem unit_idx2 {A B C D : ℕ} (off : Fin 2 → ℕ) (o0 o1 : ℕ) (h : off = ![o0, o1])
    (inb : ∀ a, off a + (![C, D] : Fin 2 → ℕ) a ≤ (⟨2, ![A, B]⟩ : Shape).size a) (x : Fin C) (y : Fin D) (r : Fin A) (n : Fin B)
    (hr : r.val = o0 + x.val) (hn : n.val = o1 + y.val) :
    (Rect.unit (s := ⟨2, ![A, B]⟩) off ![C, D] inb).toLoadRect.idx (ix2 x y) = (ix2 r n : (⟨2, ![A, B]⟩ : Shape).Idx) := by
  subst h
  funext d; refine Fin.ext ?_
  fin_cases d
  · show o0 + 1 * x.val = r.val; omega
  · show o1 + 1 * y.val = n.val; omega

/-- One trip: the segment's rows of the trip's tile have the product added, and the others are as they were. -/
theorem trip_at (c : Dev nD) (arg8 : Memref sig .tc .vmem S1280x128 .bf16) (f8 : Buf (Elt Ideal) (arg8.view.loc (c : Thread nD τ)))
    (H : S1280x128.Idx → EReal) (hH : ∀ (R : LoadRect S1280x128) y, arg8.view.readAt (Elt Ideal) R f8 y = H (R.idx y))
    (lo hi : BitVec 32) (hw : k0_chk98 lo hi) (h : k0_cond14 lo hi = 1#1) (hlo : lo.toNat ≤ 1280) (hhi : hi.toNat ≤ 1280)
    (b : FVec Ideal S128x256 .bf16) (k : Fin (k0_t27_loop lo hi).trips) (g : Buf (Elt Ideal) (scA.view.loc (c : Thread nD τ))) (r : Fin 1280) (n : Fin 256) :
    accFn (c := c) (scA.view.writes (Elt Ideal) g
        [⟨Rect.unit (s := S1280x256) (k0_off138 lo hi k) S128x256.size (k0_off138_inb lo hi hw k h),
          k0_pay5 (F := Ideal) (iota .tc S128x128 32 [0] iota_S128x128_d0_w32) lo hi b 128#32 (Scalar.divsi lo 128#32)
            (Scalar.subi (Scalar.extui (Scalar.cmpi .sgt lo 0#32)) (Scalar.extui (Scalar.cmpi .slt lo 0#32))) 1#32 k
            (arg8.view.readAt (Elt Ideal) (Rect.unit (s := S1280x128) (k0_off137 lo hi k) S128x128.size (k0_off137_inb lo hi hw k h)).toLoadRect f8)
            (scA.view.readAt (Elt Ideal) (Rect.unit (s := S1280x256) (k0_off138 lo hi k) S128x256.size (k0_off138_inb lo hi hw k h)).toLoadRect g)⟩]) r n
      = if (tileA lo + k.val) * 128 ≤ r.val ∧ r.val < (tileA lo + k.val) * 128 + 128 then
          accFn g r n + (if lo.toNat ≤ r.val ∧ r.val < hi.toNat then ∑ x : Fin 128, H (ix2 r x) * b (ix2 x n) else 0)
        else accFn g r n := by
  have em := mult_eq lo hi hlo hhi k
  have eo : k0_off138 lo hi k = ![(tileA lo + k.val) * 128, 0] := by rw [off138_eq, em]
  have eo7 : k0_off137 lo hi k = ![(tileA lo + k.val) * 128, 0] := by rw [off137_eq, em]
  split
  · next ht =>
    obtain ⟨a, ha⟩ : ∃ a : Fin 128, r.val = (tileA lo + k.val) * 128 + a.val := ⟨⟨r.val - (tileA lo + k.val) * 128, by omega⟩, by show _ = _ + (r.val - _); omega⟩
    refine Eq.trans (View.read_writes_cons_unit_of_mem (Val := Elt Ideal) scA.view g (k0_off138_inb lo hi hw k h) _ [] (ix2 r n) (ix2 a n) eo (fun d => by
          fin_cases d
          · show r.val = (tileA lo + k.val) * 128 + a.val; omega
          · show n.val = 0 + n.val; omega)) ?_
    rw [pay5_at lo hi hlo hhi]
    have eacc : scA.view.readAt (Elt Ideal) (Rect.unit (s := S1280x256) (k0_off138 lo hi k) S128x256.size (k0_off138_inb lo hi hw k h)).toLoadRect g
            (ix2 a n) = accFn g r n :=
      congrArg (g : S1280x256.Idx → EReal) (unit_idx2 (A := 1280) (B := 256) (C := 128) (D := 256) _ _ _ eo _ a n r n ha (Nat.zero_add _).symm)
    have eh : ∀ x : Fin 128, arg8.view.readAt (Elt Ideal) (Rect.unit (s := S1280x128) (k0_off137 lo hi k) S128x128.size (k0_off137_inb lo hi hw k h)).toLoadRect f8
          (ix2 a x) = H (ix2 r x) := fun x =>
      (hH (Rect.unit (s := S1280x128) (k0_off137 lo hi k) S128x128.size (k0_off137_inb lo hi hw k h)).toLoadRect (ix2 a x)).trans (congrArg H (unit_idx2 (A := 1280) (B := 128) (C := 128) (D := 128) _ _ _ eo7 _ a x r x ha (Nat.zero_add _).symm))
    rw [eacc, ← ha, Finset.sum_congr rfl fun x _ => congrArg (· * b (ix2 x n)) (eh x)]
  · next ht =>
    have hr : ((ix2 r n : S1280x256.Idx) (0 : Fin 2)).val < (![(tileA lo + k.val) * 128, 0] : Fin 2 → ℕ) 0
        ∨ (![(tileA lo + k.val) * 128, 0] : Fin 2 → ℕ) 0 + S128x256.size (0 : Fin 2) ≤ ((ix2 r n : S1280x256.Idx) (0 : Fin 2)).val := by
      have e0 : ((ix2 r n : S1280x256.Idx) (0 : Fin 2)).val = r.val := rfl
      have e1 : (![(tileA lo + k.val) * 128, 0] : Fin 2 → ℕ) 0 = (tileA lo + k.val) * 128 := rfl
      have e2 : S128x256.size (0 : Fin 2) = 128 := rfl
      rw [e0, e1, e2]
      omega
    have gen : ∀ w, scA.view.read (Elt Ideal) (scA.view.writes (Elt Ideal) g
        [⟨Rect.unit (s := S1280x256) (k0_off138 lo hi k) S128x256.size (k0_off138_inb lo hi hw k h), w⟩]) (ix2 r n)
          = scA.view.read (Elt Ideal) (scA.view.writes (Elt Ideal) g []) (ix2 r n) := fun w =>
      View.read_writes_cons_unit_of_not_mem (Val := Elt Ideal) (s := S1280x256) scA.view g (off := k0_off138 lo hi k) (size := S128x256.size) (k0_off138_inb lo hi hw k h) w [] (ix2 r n) eo (0 : Fin 2) hr
    have rd : ∀ f : Buf (Elt Ideal) (scA.view.loc (c : Thread nD τ)), accFn f r n = scA.view.read (Elt Ideal) f (ix2 r n) := fun _ => rfl
    rw [rd, rd, gen, View.writes_nil]

/-- After `k` trips of a segment, the rows of its first `k` tiles that are the segment's have its product added. -/
theorem accN_at (c : Dev nD) (arg8 : Memref sig .tc .vmem S1280x128 .bf16) (f8 : Buf (Elt Ideal) (arg8.view.loc (c : Thread nD τ)))
    (H : S1280x128.Idx → EReal) (hH : ∀ (R : LoadRect S1280x128) y, arg8.view.readAt (Elt Ideal) R f8 y = H (R.idx y))
    (lo hi : BitVec 32) (hw : k0_chk98 lo hi) (h : k0_cond14 lo hi = 1#1) (hlo : lo.toNat ≤ 1280) (hhi : hi.toNat ≤ 1280)
    (b : FVec Ideal S128x256 .bf16) (a : Buf (Elt Ideal) (scA.view.loc (c : Thread nD τ))) (r : Fin 1280) (n : Fin 256) :
    ∀ k, k ≤ tileB hi - tileA lo →
      accFn (accN (F := Ideal) c arg8 f8 (iota .tc S128x128 32 [0] iota_S128x128_d0_w32) lo hi hw h b 128#32 (Scalar.divsi lo 128#32)
        (Scalar.subi (Scalar.extui (Scalar.cmpi .sgt lo 0#32)) (Scalar.extui (Scalar.cmpi .slt lo 0#32))) 1#32 a k) r n
      = if (tileA lo * 128 ≤ r.val ∧ r.val < (tileA lo + k) * 128) then
          accFn a r n + (if lo.toNat ≤ r.val ∧ r.val < hi.toNat then ∑ x : Fin 128, H (ix2 r x) * b (ix2 x n) else 0)
        else accFn a r n
  | 0, _ => by
    rw [if_neg (by rintro ⟨h1, h2⟩; rw [Nat.add_zero] at h2; omega)]; rfl
  | k + 1, hk => by
    have ih := accN_at c arg8 f8 H hH lo hi hw h hlo hhi b a r n k (by omega)
    have hk' : k < (k0_t27_loop lo hi).trips := by rw [trips_eq lo hi hlo hhi]; omega
    rw [accN, dif_pos hk']
    refine (trip_at c arg8 f8 H hH lo hi hw h hlo hhi b ⟨k, hk'⟩ _ r n).trans ?_
    rw [ih]
    by_cases ht : (tileA lo + k) * 128 ≤ r.val ∧ r.val < (tileA lo + k) * 128 + 128
    · rw [if_pos ht, if_neg (show ¬(tileA lo * 128 ≤ r.val ∧ r.val < (tileA lo + k) * 128) by omega),
        if_pos (show tileA lo * 128 ≤ r.val ∧ r.val < (tileA lo + (k + 1)) * 128 by omega)]
    · rw [if_neg ht]
      exact if_congr (by omega) rfl rfl

/-- After a segment, its rows have its product added and the others are as they were. -/
theorem segBuf_at (c : Dev nD) (arg1 : Memref sig .tc .smem S23 .i32) (arg4 : Memref sig .tc .smem S14 .i32)
    (arg8 : Memref sig .tc .vmem S1280x128 .bf16) (arg9 : Memref sig .tc .vmem S1x2500 .f32)
    (f1 : Buf (Elt Ideal) (arg1.view.loc (c : Thread nD τ))) (f4 : Buf (Elt Ideal) (arg4.view.loc (c : Thread nD τ)))
    (f8 : Buf (Elt Ideal) (arg8.view.loc (c : Thread nD τ))) (f9 : Buf (Elt Ideal) (arg9.view.loc (c : Thread nD τ)))
    (g : Buf (Elt Ideal) (scB.view.loc (c : Thread nD τ)))
    (H : S1280x128.Idx → EReal) (hH : ∀ (R : LoadRect S1280x128) y, arg8.view.readAt (Elt Ideal) R f8 y = H (R.idx y))
    (hst : ∀ (r : LoadRect S23) y, BitVec.toNat (w := 32) (arg1.view.readAt (Elt Ideal) r f1 y) < 2304)
    (hsg : ∀ (r : LoadRect S14) y, BitVec.toNat (w := 32) (arg4.view.readAt (Elt Ideal) r f4 y) < 23)
    (s : Fin 14) (lo hi : BitVec 32) (hw : k0_chk98 lo hi) (hlo : lo.toNat ≤ 1280) (hhi : hi.toNat ≤ 1280)
    (a : Buf (Elt Ideal) (scA.view.loc (c : Thread nD τ))) (r : Fin 1280) (n : Fin 256) :
    accFn (segBuf (F := Ideal) c arg1 arg4 arg8 arg9 f1 f4 f8 f9 g hst hsg k0_pay91 (iota .tc S128x128 32 [0] iota_S128x128_d0_w32) s lo hi hw a) r n
      = accFn a r n + if lo.toNat ≤ r.val ∧ r.val < hi.toNat then
          ∑ x : Fin 128, H (ix2 r x) * rowsOf (F := Ideal) c arg1 arg4 arg9 f1 f4 f9 g hst hsg k0_pay91 s (ix2 x n) else 0 := by
  rw [segBuf]
  split
  · next h =>
    have hlt := (cond_iff lo hi hlo hhi).1 h
    rw [trips_eq lo hi hlo hhi, accN_at c arg8 f8 H hH lo hi hw h hlo hhi _ a r n _ le_rfl]
    by_cases hr : lo.toNat ≤ r.val ∧ r.val < hi.toNat
    · rw [if_pos (by unfold tileA tileB; omega)]
    · rw [if_neg hr, add_zero, ite_self]
  · next h =>
    have hlt := mt (cond_iff lo hi hlo hhi).2 h
    rw [if_neg (by omega), add_zero]

/-- Adapter rows whose window starts at slot `v`: pool rows from there, each times its scale. -/
theorem scaled_at (c : Dev nD) (i : grid0.Coords) (arg9 : Memref sig .tc .vmem S1x2500 .f32)
    (f9 : Buf (Elt Ideal) (arg9.view.loc (c : Thread nD τ))) (fp : Buf (Elt Ideal) (hbM.view.loc (c : Thread nD τ)))
    (SC : S1x2500.Idx → EReal) (hSC : ∀ (R : LoadRect S1x2500) y, arg9.view.readAt (Elt Ideal) R f9 y = SC (R.idx y))
    (x : Fin 128) (n : Fin 256) (h2 : (i 0).val * 256 + n.val < 2048) (v : BitVec 32) (hv : v.toNat < 2304)
    (h1 : v.toNat / 32 * 32 + x.val < 2500) (R : Vec Ideal S1x128x256 .i8) (hR : R (ix3 (0 : Fin 1) x n) = landRows c i fp v hv (ix2 x n)) :
      k0_pay21 (F := Ideal) k0_pay91 v (arg9.view.readAt (Elt Ideal) (Rect.unit (s := S1x2500) (k0_off136 v) S1x256.size (inbScale v hv)).toLoadRect f9)
        R (ix2 x n)
      = FloatOps.sitofp (F := Ideal) .bf16 ((fp : S2500x2048.Idx → BitVec 8) (ix2 (⟨v.toNat / 32 * 32 + x.val, h1⟩ : Fin 2500) (⟨(i 0).val * 256 + n.val, h2⟩ : Fin 2048)))
        * SC (ix2 (0 : Fin 1) (⟨v.toNat / 32 * 32 + x.val, h1⟩ : Fin 2500)) := by
  have e1 : landRows c i fp v hv (ix2 x n) = (fp : S2500x2048.Idx → BitVec 8) (ix2 (⟨v.toNat / 32 * 32 + x.val, h1⟩ : Fin 2500) (⟨(i 0).val * 256 + n.val, h2⟩ : Fin 2048)) :=
    congrArg (fp : S2500x2048.Idx → BitVec 8) (unit_idx2 (A := 2500) (B := 2048) (C := 128) (D := 256) _ _ _ (off2_eq i v hv) (k0_off2_inb i v (chkSlot i v hv)) x n _ _ rfl rfl)
  have e2 := unit_idx2 (A := 1) (B := 2500) (C := 1) (D := 256) _ _ _ (off136_eq v hv) (inbScale v hv) (0 : Fin 1) (⟨v.toNat / 32 % 4 * 32 + x.val, by omega⟩ : Fin 256)
    (0 : Fin 1) (⟨v.toNat / 32 * 32 + x.val, h1⟩ : Fin 2500) rfl (by show v.toNat / 32 * 32 + x.val = v.toNat / 128 * 128 + (v.toNat / 32 % 4 * 32 + x.val); omega)
  rw [pay21_at v hv, hR, e1, hSC]
  exact congrArg (_ * SC ·) e2

/-- The contents of a segment's scaled adapter rows: pool rows from the window's first slot, each times its scale. -/
theorem rowsOf_at (c : Dev nD) (i : grid0.Coords) (arg1 : Memref sig .tc .smem S23 .i32) (arg4 : Memref sig .tc .smem S14 .i32) (arg9 : Memref sig .tc .vmem S1x2500 .f32)
    (f1 : Buf (Elt Ideal) (arg1.view.loc (c : Thread nD τ))) (f4 : Buf (Elt Ideal) (arg4.view.loc (c : Thread nD τ)))
    (f9 : Buf (Elt Ideal) (arg9.view.loc (c : Thread nD τ))) (fp : Buf (Elt Ideal) (hbM.view.loc (c : Thread nD τ)))
    (SC : S1x2500.Idx → EReal) (hSC : ∀ (R : LoadRect S1x2500) y, arg9.view.readAt (Elt Ideal) R f9 y = SC (R.idx y))
    (hst : ∀ (r : LoadRect S23) y, BitVec.toNat (w := 32) (arg1.view.readAt (Elt Ideal) r f1 y) < 2304)
    (hsg : ∀ (r : LoadRect S14) y, BitVec.toNat (w := 32) (arg4.view.readAt (Elt Ideal) r f4 y) < 23)
    (s : Fin 14) (st : BitVec 32) (est : startOf c arg1 f1 (adapterOf c arg4 f4 s) (hsg _ _) = st) (x : Fin 128) (n : Fin 256)
    (h1 : st.toNat / 32 * 32 + x.val < 2500) (h2 : (i 0).val * 256 + n.val < 2048) :
    rowsOf (F := Ideal) c arg1 arg4 arg9 f1 f4 f9
        (stagedRows c i fp (fun k => startOf c arg1 f1 (adapterOf c arg4 f4 k) (hsg _ _)) (fun k => hst _ _)) hst hsg k0_pay91 s (ix2 x n)
      = FloatOps.sitofp (F := Ideal) .bf16 ((fp : S2500x2048.Idx → BitVec 8) (ix2 (⟨st.toNat / 32 * 32 + x.val, h1⟩ : Fin 2500) (⟨(i 0).val * 256 + n.val, h2⟩ : Fin 2048)))
        * SC (ix2 (0 : Fin 1) (⟨st.toNat / 32 * 32 + x.val, h1⟩ : Fin 2500)) := by
  subst est
  rw [rowsOf]
  refine scaled_at c i arg9 f9 fp SC hSC x n h2 _ (hst _ _) h1 _ ?_
  have e2 : (Rect.unit (s := S14x128x256) ![s.val, 0, 0] S1x128x256.size (inbPiece s)).toLoadRect.idx (ix3 (0 : Fin 1) x n) = (ix3 s x n : S14x128x256.Idx) := by
    funext d; refine Fin.ext ?_
    fin_cases d
    · show s.val + 1 * 0 = s.val; omega
    · show 0 + 1 * x.val = x.val; omega
    · show 0 + 1 * n.val = n.val; omega
  refine (congrArg (stagedRows c i fp (fun k => startOf c arg1 f1 (adapterOf c arg4 f4 k) (hsg _ _)) (fun k => hst _ _)) e2).trans ?_
  exact congrArg (landRows c i fp _ _) (ix2_eq_valueIdx x n).symm

end Cert.KernelIdeal.Hand

end
-- ==== Proof.Ideal.Spec.lean ====
/- The result's element, in plain terms, which the kernel and the reference are both shown to compute. -/
module

public import proofs.«01_k».proof.Proof.Ideal.Payloads

@[expose] public section

noncomputable section

namespace Cert.KernelIdeal.Hand

open Idealize.ShloMosaic

/-- The product with the packed weights: word `k / 8` of a column holds its code `k` as nibble `k % 8`, and 128 codes share a
    scale. -/
def baseAt (x : (⟨2, ![1280, 7168]⟩ : Shape).Idx → EReal) (w : (⟨2, ![896, 2048]⟩ : Shape).Idx → BitVec 32)
    (ws : (⟨2, ![56, 2048]⟩ : Shape).Idx → EReal) (r : Fin 1280) (N : Fin 2048) : EReal :=
  ∑ k : Fin 7168, x (ix2 r k) * (codeOf (w (ix2 (⟨k.val / 8, by omega⟩ : Fin 896) N)) (k.val % 8) * ws (ix2 (⟨k.val / 128, by omega⟩ : Fin 56) N))

/-- The product with the adapter rows in the window of pool slots from `q`, each row times its scale. -/
def deltaAt (h : (⟨2, ![1280, 128]⟩ : Shape).Idx → EReal) (pool : (⟨2, ![2500, 2048]⟩ : Shape).Idx → BitVec 8)
    (sc : (⟨1, ![2500]⟩ : Shape).Idx → EReal) (q : ℕ) (hq : q + 128 ≤ 2500) (r : Fin 1280) (N : Fin 2048) : EReal :=
  ∑ x : Fin 128, h (ix2 r x) * (FloatOps.sitofp (F := Ideal) .bf16 (pool (ix2 (⟨q + x.val, by omega⟩ : Fin 2500) N))
    * sc (ix1 (⟨q + x.val, by omega⟩ : Fin 2500)))

end Cert.KernelIdeal.Hand

end
-- ==== Proof.Ideal.Output.lean ====
/- What the kernel leaves in its result, element by element, over the extended reals. -/
module

public import proofs.«01_k».proof.Proof.Ideal.Frame
public import proofs.«01_k».proof.Proof.Ideal.SegValue
public import proofs.«01_k».proof.Proof.Ideal.Spec
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Pre_tables_in_range (Tables)

variable (m : (ℓ : Loc nD τ sig) → Buf (Elt Ideal) ℓ)

/-! ## The blocks, read at coordinates -/

/-- The grid's coordinate at point `t` is `t`. -/
theorem coord_eq : ∀ t : Fin cfg0.N, (grid0.coords t 0).val = t.val :=
  (by decide +kernel : ∀ t : Fin grid0.N, (grid0.coords t 0).val = t.val)

/-- Column `n` of block `t` is column `256 t + n` of the array. -/
abbrev col (t : Fin cfg0.N) (n : Fin 256) : Fin 2048 := ⟨t.val * 256 + n.val, by have : t.val < 8 := t.isLt; omega⟩

theorem index4 : ∀ t : Fin cfg0.N, win0_4.index t = ![0, 0] := (by decide +kernel : ∀ t : Fin grid0.N, win0_4.index t = ![0, 0])
theorem index5 : ∀ t : Fin cfg0.N, win0_5.index t = ![0, t.val] := (by decide +kernel : ∀ t : Fin grid0.N, win0_5.index t = ![0, t.val])
theorem index6 : ∀ t : Fin cfg0.N, win0_6.index t = ![0, t.val] := (by decide +kernel : ∀ t : Fin grid0.N, win0_6.index t = ![0, t.val])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, t.val] := (by decide +kernel : ∀ t : Fin grid0.N, win0_9.index t = ![0, t.val])

theorem blk4 (c : Dev nD) (t : Fin cfg0.N) (r : Fin 1280) (k : Fin 7168) :
    (iblk m c 4 t : S1280x7168.Idx → EReal) (ix2 r k) = (m ((c : Thread nD τ).loc main_arg0) : S1280x7168.Idx → EReal) (ix2 r k) := by
  blk_simp [iblk]
  refine (congrFun (V_main_arg0 m c) _).trans (congrArg _ (funext fun a => Fin.ext ?_))
  fin_cases a <;> blk_simp [index4] <;> simp

theorem blk5 (c : Dev nD) (t : Fin cfg0.N) (k : Fin 896) (n : Fin 256) :
    (iblk m c 5 t : S896x256.Idx → BitVec 32) (ix2 k n) = (m ((c : Thread nD τ).loc main_arg1) : S896x2048.Idx → BitVec 32) (ix2 k (col t n)) := by
  blk_simp [iblk]
  refine (congrFun (V_main_arg1 m c) _).trans (congrArg _ (funext fun a => Fin.ext ?_))
  fin_cases a <;> blk_simp [index5] <;> simp

theorem blk6 (c : Dev nD) (t : Fin cfg0.N) (k : Fin 56) (n : Fin 256) :
    (iblk m c 6 t : S56x256.Idx → EReal) (ix2 k n) = (m ((c : Thread nD τ).loc main_arg2) : S56x2048.Idx → EReal) (ix2 k (col t n)) := by
  blk_simp [iblk]
  refine (congrFun (V_main_arg2 m c) _).trans (congrArg _ (funext fun a => Fin.ext ?_))
  fin_cases a <;> blk_simp [index6] <;> simp

theorem blk7 (c : Dev nD) (t : Fin cfg0.N) (r : Fin 1280) (k : Fin 128) :
    (iblk m c 7 t : S1280x128.Idx → EReal) (ix2 r k) = (m ((c : Thread nD τ).loc main_arg3) : S1280x128.Idx → EReal) (ix2 r k) := by
  blk_simp [iblk]
  refine (congrFun (V_main_arg3 m c) _).trans (congrArg _ (funext fun a => Fin.ext ?_))
  fin_cases a <;> blk_simp [index7] <;> simp

/-- The scale row is the scale vector laid out as one row. -/
theorem V_scales (c : Dev nD) : V m c main_v0 = shapeCast S1x2500 (m ((c : Thread nD τ).loc main_arg5) : S2500.Idx → EReal) shapeCasts_S2500_S1x2500 := by
  rfl

theorem blk8 (c : Dev nD) (t : Fin cfg0.N) (k : Fin 2500) :
    (iblk m c 8 t : S1x2500.Idx → EReal) (ix2 (0 : Fin 1) k) = (m ((c : Thread nD τ).loc main_arg5) : S2500.Idx → EReal) (ix1 k) := by
  blk_simp [iblk]
  have e : ((win0_8.blk t).view.emb (ix2 (0 : Fin 1) k) : S1x2500.Idx) = ix2 (0 : Fin 1) k := funext fun a => Fin.ext (by
    fin_cases a <;> blk_simp [index8] <;> simp)
  refine (congrArg (V m c main_v0 : S1x2500.Idx → EReal) e).trans ?_
  refine (congrFun (V_scales m c) _).trans ?_
  pointwise

/-! ## The accumulator -/

variable {m}

/-- The tables, by name: where segment `n` starts, and the first slot of segment `s`'s window of adapter rows. -/
abbrev offs (m : (ℓ : Loc nD τ sig) → Buf (Elt Ideal) ℓ) (c : Dev nD) (n : ℕ) (h : n < 15) : ℕ :=
  ((m ((c : Thread nD τ).loc main_arg8) : S15.Idx → BitVec 32) (ix1 (⟨n, h⟩ : Fin 15))).toNat
abbrev slot (hm : Hyps m) (c : Dev nD) (s : Fin 14) : BitVec 32 :=
  (m ((c : Thread nD τ).loc main_arg6) : S23.Idx → BitVec 32)
    (ix1 (⟨((m ((c : Thread nD τ).loc main_arg9) : S14.Idx → BitVec 32) (ix1 s)).toNat, (hm c).sg_lt _⟩ : Fin 23))
theorem slot_lt (hm : Hyps m) (c : Dev nD) (s : Fin 14) : (slot hm c s).toNat < 2304 := (hm c).st_lt _
theorem slot_fits (hm : Hyps m) (c : Dev nD) (s : Fin 14) : (slot hm c s).toNat / 32 * 32 + 128 ≤ 2500 := by
  have := slot_lt hm c s; omega

theorem ix1_eq {n : ℕ} (i : Fin n) : (ValueIdx.ix1 i : (⟨1, ![n]⟩ : Shape).Idx) = ix1 i := by
  funext a; fin_cases a; rfl

/-- An offset read by the body is the table's. -/
theorem offAt_toNat (c : Dev nD) (t : Fin cfg0.N) (n : ℕ) (h : n < 15) :
    (offAt c (ms2 t) (bk2 m c t) n h : BitVec 32).toNat = offs m c n h := by
  rw [offAt_eq, ix1_eq]

/-- The offsets ascend. -/
theorem offs_mono (hm : Hyps m) (c : Dev nD) (a : ℕ) : ∀ b (ha : a ≤ b) (hb : b < 15), offs m c a (by omega) ≤ offs m c b hb
  | 0, ha, hb => by obtain rfl : a = 0 := by omega
                    exact le_rfl
  | b + 1, ha, hb => by
    rcases Nat.lt_or_ge b a with h | h
    · obtain rfl : a = b + 1 := by omega
      exact le_rfl
    · refine (offs_mono hm c a b h (by omega)).trans ?_
      have := (hm c).of_mono b (by omega)
      rwa [ix1_eq, ix1_eq] at this

/-- Every row is in one segment. -/
theorem seg_exists (hm : Hyps m) (c : Dev nD) (r : Fin 1280) :
    ∃ s : Fin 14, offs m c s.val (by omega) ≤ r.val ∧ r.val < offs m c (s.val + 1) (by omega) := by
  have h0 : offs m c 0 (by omega) = 0 := by
    have := congrArg BitVec.toNat (hm c).of_first
    rw [ix1_eq] at this; exact this
  have h14 : offs m c 14 (by omega) = 1280 := by
    have := congrArg BitVec.toNat (hm c).of_last
    rw [ix1_eq] at this; exact this
  by_contra hne
  push Not at hne
  have key : ∀ n (h : n < 15), offs m c n h ≤ r.val := by
    intro n; induction n with
    | zero => intro h; rw [h0]; exact Nat.zero_le _
    | succ n ih => intro h; exact hne ⟨n, by omega⟩ (ih (by omega))
  have := key 14 (by omega)
  rw [h14] at this; omega

/-- The slot the body looks up for segment `s`. -/
theorem startOf_eq (hm : Hyps m) (c : Dev nD) (t : Fin cfg0.N) (s : Fin 14) :
    startOf c (ms0 t) (bk0 m c t) (adapterOf c (ms3 t) (bk3 m c t) s) (hsg hm c t _ _) = slot hm c s := by
  have ea : adapterOf c (ms3 t) (bk3 m c t) s = (m ((c : Thread nD τ).loc main_arg9) : S14.Idx → BitVec 32) (ix1 s) := by
    unfold adapterOf; rw [(hs3 t).readAt_unread, tab3]
    refine congrArg _ (funext fun a => Fin.ext ?_)
    fin_cases a; show s.val + 1 * 0 = s.val; omega
  unfold startOf; rw [(hs0 t).readAt_unread, tab0]
  refine congrArg _ (funext fun a => Fin.ext ?_)
  fin_cases a
  show k0_off135 _ 0 + 1 * 0 = _
  rw [ea]
  exact Nat.add_zero _

/-- The accumulator before the segments: the base product. -/
theorem base_at (c : Dev nD) (t : Fin cfg0.N) (r : Fin 1280) (n : Fin 256) :
    accFn (baseBuf c (ms4 t) (ms5 t) (ms6 t) (bk4 m c t) (bk5 m c t) (bk6 m c t)) r n
      = baseAt (m ((c : Thread nD τ).loc main_arg0)) (m ((c : Thread nD τ).loc main_arg1)) (m ((c : Thread nD τ).loc main_arg2)) r (col t n) := by
  refine (pay90_at _ _ r n).trans ?_
  unfold baseAt
  refine Finset.sum_congr rfl fun k _ => congrArg₂ _ ?_ ?_
  · rw [(hs4 t).readAt_unread, unit_idx2 (A := 1280) (B := 7168) (C := 1280) (D := 7168) _ 0 0 rfl _ r k r k (by omega) (by omega)]
    exact blk4 m c t r k
  · unfold wvals
    refine congrArg₂ _ ?_ ?_
    · rw [pay22_at]
      unfold wordsOf
      rw [(hs5 t).readAt_unread, unit_idx2 (A := 896) (B := 256) (C := 896) (D := 256) _ 0 0 rfl _ _ n _ n (Nat.zero_add _).symm (Nat.zero_add _).symm]
      exact congrArg (codeOf · _) (blk5 m c t _ n)
    · unfold scaleRow
      rw [(hs6 t).readAt_unread]
      refine Eq.trans (congrArg (iblk m c 6 t : S56x256.Idx → EReal) ?_) (blk6 m c t _ n)
      exact unit_idx2 (A := 56) (B := 256) (C := 1) (D := 256) _ (k.val / 128) 0 rfl _ (0 : Fin 1) n _ n rfl (Nat.zero_add _).symm

/-- After `n` segments a row has its segment's product added, if its segment is among them. -/
theorem acc_at (hm : Hyps m) (c : Dev nD) (t : Fin cfg0.N) (s : Fin 14) (r : Fin 1280) (y : Fin 256)
    (hr : offs m c s.val (by omega) ≤ r.val ∧ r.val < offs m c (s.val + 1) (by omega)) : ∀ n (hn : n ≤ 14),
    accFn (accAt c (grid0.coords t) (ms0 t) (ms2 t) (ms3 t) (ms4 t) (ms5 t) (ms6 t) (ms7 t) (ms8 t)
        (bk0 m c t) (bk2 m c t) (bk3 m c t) (bk4 m c t) (bk5 m c t) (bk6 m c t) (bk7 m c t) (bk8 m c t) (V m c main_arg4)
        (hst hm c t) (hsg hm c t) (hof hm c t) (hw hm c t) n hn) r y
      = baseAt (m ((c : Thread nD τ).loc main_arg0)) (m ((c : Thread nD τ).loc main_arg1)) (m ((c : Thread nD τ).loc main_arg2)) r (col t y)
        + if s.val < n then deltaAt (m ((c : Thread nD τ).loc main_arg3)) (m ((c : Thread nD τ).loc main_arg4)) (m ((c : Thread nD τ).loc main_arg5))
            ((slot hm c s).toNat / 32 * 32) (slot_fits hm c s) r (col t y) else 0
  | 0, _ => by
    rw [if_neg (Nat.not_lt_zero _), add_zero]
    exact base_at c t r y
  | n + 1, hn => by
    have ih := acc_at hm c t s r y hr n (by omega)
    have e1 := offAt_toNat (m := m) c t n (by omega)
    have e2 := offAt_toNat (m := m) c t (n + 1) (by omega)
    rw [accAt]
    refine (segBuf_at c (ms0 t) (ms3 t) (ms7 t) (ms8 t) _ _ _ _ _ (iblk m c 7 t : S1280x128.Idx → EReal)
      (fun R y => by rw [(hs7 t).readAt_unread]) _ _ ⟨n, by omega⟩
      (offAt c (ms2 t) (bk2 m c t) n (by omega)) (offAt c (ms2 t) (bk2 m c t) (n + 1) (by omega)) _ (hof hm c t _ _) (hof hm c t _ _) _ r y).trans ?_
    rw [ih, e1, e2]
    by_cases hs : s.val = n
    · subst hs
      rw [if_neg (lt_irrefl _), if_pos hr, if_pos (Nat.lt_succ_self _), add_zero]
      refine congrArg _ ?_
      unfold deltaAt
      refine Finset.sum_congr rfl fun x _ => congrArg₂ _ (blk7 m c t r x) ?_
      have hf := slot_fits hm c s
      have hc := coord_eq t
      have ht : t.val < 8 := t.isLt
      refine (rowsOf_at c (grid0.coords t) (ms0 t) (ms3 t) (ms8 t) _ _ _ (V m c main_arg4) (iblk m c 8 t : S1x2500.Idx → EReal)
        (fun R y => by rw [(hs8 t).readAt_unread]) (hst hm c t) (hsg hm c t) s _ (startOf_eq hm c t _) x y (by omega) (by omega)).trans ?_
      refine congrArg₂ _ (congrArg _ ?_) (blk8 m c t _)
      refine (congrFun (V_main_arg4 m c) _).trans (congrArg _ (congrArg _ (Fin.ext ?_)))
      show (grid0.coords t 0).val * 256 + y.val = t.val * 256 + y.val
      rw [hc]
    · rw [if_neg (c := _ ∧ _), add_zero]
      · exact congrArg _ (if_congr (by omega) rfl rfl)
      · rintro ⟨h1, h2⟩
        rcases Nat.lt_or_gt_of_ne hs with h | h
        · have := offs_mono hm c (s.val + 1) n (by omega) (by omega); omega
        · have := offs_mono hm c (n + 1) s.val (by omega) (by omega); omega

/-- The accumulator loaded whole. -/
theorem accWhole (c : Dev nD) (a : Buf (Elt Ideal) (scA.view.loc (c : Thread nD τ))) (r : Fin 1280) (n : Fin 256) :
    scA.view.readAt (Elt Ideal) (Rect.unit (s := S1280x256) ![0, 0] S1280x256.size inb_S1280x256_S1280x256_0_0).toLoadRect a (ix2 r n) = accFn a r n :=
  congrArg (a : S1280x256.Idx → EReal) (unit_idx2 (A := 1280) (B := 256) (C := 1280) (D := 256) _ 0 0 rfl _ r n r n (Nat.zero_add _).symm (Nat.zero_add _).symm)

/-- The block stored at a point. -/
theorem outBlk_at (hm : Hyps m) (c : Dev nD) (t : Fin cfg0.N) (s : Fin 14) (r : Fin 1280) (y : Fin 256)
    (hr : offs m c s.val (by omega) ≤ r.val ∧ r.val < offs m c (s.val + 1) (by omega)) :
    outBlk hm c t (ix2 r y)
      = baseAt (m ((c : Thread nD τ).loc main_arg0)) (m ((c : Thread nD τ).loc main_arg1)) (m ((c : Thread nD τ).loc main_arg2)) r (col t y)
        + deltaAt (m ((c : Thread nD τ).loc main_arg3)) (m ((c : Thread nD τ).loc main_arg4)) (m ((c : Thread nD τ).loc main_arg5))
            ((slot hm c s).toNat / 32 * 32) (slot_fits hm c s) r (col t y) := by
  have h := acc_at hm c t s r y hr 14 le_rfl
  rw [if_pos s.isLt] at h
  unfold outBlk outVal
  rw [pay7_at]
  exact (accWhole c _ r y).trans h

/-- The result: each column from the block it is in. -/
theorem arr_eq (hm : Hyps m) (c : Dev nD) :
    (dats hm 0 c).arrAt 9 cfg0.N = fun i : S1280x2048.Idx =>
      outBlk hm c (⟨(i 1).val / 256, by have : (i 1).val < 2048 := (i 1).isLt; show _ < 8; omega⟩ : Fin cfg0.N)
        (ix2 (i 0 : Fin 1280) (⟨(i 1).val % 256, by omega⟩ : Fin 256)) := by
  refine (dats hm 0 c).arrAt_eq_of_covers 9 _ (by decide +kernel) fun t hf y => ?_
  have h1 : (y 1).val < 256 := (y 1).isLt
  have e0 : (((win0_9.blk t).view.emb y : S1280x2048.Idx) 0).val = (y 0).val := by blk_simp [index9]
  have e1 : (((win0_9.blk t).view.emb y : S1280x2048.Idx) 1).val = t.val * 256 + (y 1).val := by blk_simp [index9]
  have et : (⟨(((win0_9.blk t).view.emb y : S1280x2048.Idx) 1).val / 256, by rw [e1]; have : t.val < 8 := t.isLt; show _ < 8; omega⟩ : Fin cfg0.N) = t :=
    Fin.ext (by show (((win0_9.blk t).view.emb y : S1280x2048.Idx) 1).val / 256 = t.val; rw [e1]; omega)
  have ey : (ix2 (((win0_9.blk t).view.emb y : S1280x2048.Idx) 0 : Fin 1280)
      (⟨(((win0_9.blk t).view.emb y : S1280x2048.Idx) 1).val % 256, by omega⟩ : Fin 256) : S1280x256.Idx) = y := by
    funext a; refine Fin.ext ?_
    fin_cases a
    · exact e0
    · show (((win0_9.blk t).view.emb y : S1280x2048.Idx) 1).val % 256 = (y 1).val
      rw [e1]; omega
  exact (cast_eq _ _).trans (congrArg₂ (outBlk hm c) et ey).symm

/-- The result's element: the row's product with the packed weights and with its segment's adapter rows. -/
theorem kernel_at (hm : Hyps m) (c : Dev nD) (s : Fin 14) (r : Fin 1280) (N : Fin 2048)
    (hr : offs m c s.val (by omega) ≤ r.val ∧ r.val < offs m c (s.val + 1) (by omega)) :
    ((dats hm 0 c).arrAt 9 cfg0.N : S1280x2048.Idx → EReal) (ix2 r N)
      = baseAt (m ((c : Thread nD τ).loc main_arg0)) (m ((c : Thread nD τ).loc main_arg1)) (m ((c : Thread nD τ).loc main_arg2)) r N
        + deltaAt (m ((c : Thread nD τ).loc main_arg3)) (m ((c : Thread nD τ).loc main_arg4)) (m ((c : Thread nD τ).loc main_arg5))
            ((slot hm c s).toNat / 32 * 32) (slot_fits hm c s) r N := by
  have hc : col (⟨N.val / 256, by show _ < 8; omega⟩ : Fin cfg0.N) (⟨N.val % 256, by omega⟩ : Fin 256) = N :=
    Fin.ext (by show N.val / 256 * 256 + N.val % 256 = N.val; omega)
  rw [arr_eq]
  refine (outBlk_at hm c _ s r _ hr).trans ?_
  exact congrArg₂ _ (congrArg _ hc) (congrArg _ hc)

end Cert.KernelIdeal.Hand

end
-- ==== Proof.Ideal.RefValue.lean ====
/- What the reference computes, element by element, over the extended reals. -/
module

public import proofs.«01_k».proof.Proof.Gen.ReferenceIdeal.Read
public import proofs.«01_k».proof.Proof.Ideal.Spec
public import Idealize.ShloMosaic.Lib.Pointwise.IndexBridge
public import Idealize.ShloMosaic.Lib.StableHlo.Predicate

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.SL.Sem
open Cert.KernelIdeal.Hand (codeOf baseAt deltaAt)

/-! ## The base product -/

/-- The host's two shifts by less than a word read the same code as the vector unit's. -/
theorem host_code (v : BitVec 32) (j : ℕ) (sh : BitVec 32) (e : sh = IntOp.subi 28#32 (IntOp.muli 4#32 (BitVec.ofNat 32 j))) (hl : sh.toNat < 32) :
    FloatOps.sitofp (F := Ideal) .bf16 (IntOp.shrsi ArithUnit.host (IntOp.shli ArithUnit.host v sh) 28#32) = codeOf v j := by
  unfold codeOf
  rw [← e]
  unfold IntOp.shrsi IntOp.shli
  simp only [if_pos hl, if_pos (show (28#32).toNat < 32 by decide)]

/-- The product over the input columns congruent to `j` modulo eight. -/
def part (x : S1280x7168.Idx → EReal) (w : S896x2048.Idx → BitVec 32) (ws : S56x2048.Idx → EReal) (r : Fin 1280) (N : Fin 2048) (j : Fin 8) : EReal :=
  ∑ i : Fin 896, x (ix2 r (⟨j.val + 8 * i.val, by omega⟩ : Fin 7168)) *
    (codeOf (w (ix2 i N)) j.val * ws (ix2 (⟨i.val / 16, by omega⟩ : Fin 56) N))

/-- A sum over 7168 columns, by the remainder modulo eight. -/
theorem sum_by_eight (f : Fin 7168 → EReal) :
    ∑ k : Fin 7168, f k = ∑ j : Fin 8, ∑ i : Fin 896, f (⟨j.val + 8 * i.val, by omega⟩ : Fin 7168) := by
  rw [Finset.sum_comm, ← Fintype.sum_prod_type']
  exact ((finProdFinEquiv (m := 896) (n := 8)).sum_comp f).symm

/-- The base product is the sum of the eight parts. -/
theorem base_split (x : S1280x7168.Idx → EReal) (w : S896x2048.Idx → BitVec 32) (ws : S56x2048.Idx → EReal) (r : Fin 1280) (N : Fin 2048) :
    baseAt x w ws r N = ∑ j : Fin 8, part x w ws r N j := by
  unfold baseAt
  rw [sum_by_eight]
  refine Finset.sum_congr rfl fun j _ => Finset.sum_congr rfl fun i _ => ?_
  have e1 : (j.val + 8 * i.val) / 8 = i.val := by omega
  have e2 : (j.val + 8 * i.val) % 8 = j.val := by omega
  have e3 : (j.val + 8 * i.val) / 128 = i.val / 16 := by omega
  simp only [e1, e2, e3]

/-- The reference's eight products add up to the base product. -/
theorem base_at (x : S1280x7168.Idx → EReal) (w : S896x2048.Idx → BitVec 32) (ws : S56x2048.Idx → EReal) (r : Fin 1280) (N : Fin 2048) :
    val_main_v73 (F := Ideal) x w ws (ix2 r N) = baseAt x w ws r N := by
  rw [base_split, Fin.sum_univ_eight]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_c, val_main_c_0, val_main_c_1, val_main_c_2, val_main_c_3, val_main_c_4, val_main_c_5, val_main_c_6, val_main_c_7, val_main_c_8, val_main_c_9, val_main_c_10, val_main_c_11, val_main_c_12, val_main_c_13, val_main_c_14]
  simp only [host_code _ 0 28#32 (by decide) (by decide), host_code _ 1 24#32 (by decide) (by decide),
    host_code _ 2 20#32 (by decide) (by decide), host_code _ 3 16#32 (by decide) (by decide),
    host_code _ 4 12#32 (by decide) (by decide), host_code _ 5 8#32 (by decide) (by decide),
    host_code _ 6 4#32 (by decide) (by decide), host_code _ 7 0#32 (by decide) (by decide)]
  simp [part]

/-! ## The rows the reference gathers -/

/-- A word below 2³¹ is not wrapped by the index normalisation. -/
theorem wrap_id (v k : BitVec 32) (h : v.toNat < 2 ^ 31) :
    Scalar.select (IntOp.cmpi .slt v 0#32) (IntOp.addi v k) v = v := by
  unfold Scalar.select
  refine if_neg ?_
  show ¬ (IntOp.cmpi .slt v 0#32 = 1#1)
  rw [IntOp.cmpi_slt, Cert.KernelIdeal.Hand.toInt_small v h]
  simp

/-- A word below the size reads itself after the clamp. -/
theorem clamp_id (v : BitVec 32) (n : ℕ) (hn : n < 2 ^ 31) (h : v.toNat < n) : min v.toInt.toNat (n - 1) = v.toNat := by
  rw [Cert.KernelIdeal.Hand.toInt_small v (by omega), Int.toNat_natCast]
  omega

/-- The pool's rows, gathered by one row number per segment and slot. -/
theorem gather_pool {α : Type} (x : S2500x2048.Idx → α) (idx : IVec S14x128x1 32) (s : Fin 14) (k : Fin 128) (N : Fin 2048) :
    Host.gather gather_S2500x2048_S14x128x1_S14x128x2048_2_0_n_n_0_2_12048 x idx (ix3 s k N)
      = x (ix2 (⟨min (idx (ix3 s k (0 : Fin 1))).toInt.toNat (2500 - 1), by omega⟩ : Fin 2500) N) := by
  unfold Host.gather
  congr 1
  funext a
  refine Fin.ext ?_
  match a with
  | ⟨0, _⟩ =>
    show GatherDims.start _ (ix3 s k N) idx 0 + GatherDims.batchCoord _ (ix3 s k N) 0 + GatherDims.offCoord _ (ix3 s k N) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2500x2048_S14x128x1_S14x128x2048_2_0_n_n_0_2_12048.startIndexMap from List.mem_singleton.mpr rfl)]
    have hsi : gather_S2500x2048_S14x128x1_S14x128x2048_2_0_n_n_0_2_12048.siIdx (ix3 s k N) ⟨List.idxOf (0 : Fin 2) [0],
        List.idxOf_lt_length_iff.2 (List.mem_singleton.mpr rfl)⟩ = ix3 s k (0 : Fin 1) := by
      funext b; refine Fin.ext ?_
      match b with
      | ⟨0, _⟩ => rfl
      | ⟨1, _⟩ => rfl
      | ⟨2, _⟩ => rfl
    exact congrArg (fun z => min (idx z).toInt.toNat (2500 - 1)) hsi
  | ⟨1, _⟩ =>
    show GatherDims.start _ (ix3 s k N) idx 1 + GatherDims.batchCoord _ (ix3 s k N) 1 + GatherDims.offCoord _ (ix3 s k N) 1 = _
    rw [GatherDims.batchCoord_eq_zero _ _ _ List.not_mem_nil]
    unfold GatherDims.start
    rw [dif_neg (show ((1 : Fin 2) ∈ gather_S2500x2048_S14x128x1_S14x128x2048_2_0_n_n_0_2_12048.startIndexMap) → False from fun h => absurd (List.mem_singleton.mp h) (by decide))]
    simp only [Nat.add_zero, Nat.zero_add]
    rfl

/-- A stack of matrices, gathered by one matrix number per row. -/
theorem gather_stack {α : Type} (x : S14x128x2048.Idx → α) (idx : IVec S1280x1 32) (r : Fin 1280) (k : Fin 128) (N : Fin 2048) :
    Host.gather gather_S14x128x2048_S1280x1_S1280x128x2048_12_0_n_n_0_1_11282048 x idx (ix3 r k N)
      = x (ix3 (⟨min (idx (ix2 r (0 : Fin 1))).toInt.toNat (14 - 1), by omega⟩ : Fin 14) k N) := by
  unfold Host.gather
  congr 1
  funext a
  refine Fin.ext ?_
  match a with
  | ⟨0, _⟩ =>
    show GatherDims.start _ (ix3 r k N) idx 0 + GatherDims.batchCoord _ (ix3 r k N) 0 + GatherDims.offCoord _ (ix3 r k N) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S14x128x2048_S1280x1_S1280x128x2048_12_0_n_n_0_1_11282048.startIndexMap from List.mem_singleton.mpr rfl)]
    have hsi : gather_S14x128x2048_S1280x1_S1280x128x2048_12_0_n_n_0_1_11282048.siIdx (ix3 r k N) ⟨List.idxOf (0 : Fin 3) [0],
        List.idxOf_lt_length_iff.2 (List.mem_singleton.mpr rfl)⟩ = ix2 r (0 : Fin 1) := by
      funext b; refine Fin.ext ?_
      match b with
      | ⟨0, _⟩ => rfl
      | ⟨1, _⟩ => rfl
    exact congrArg (fun z => min (idx z).toInt.toNat (14 - 1)) hsi
  | ⟨1, _⟩ =>
    show GatherDims.start _ (ix3 r k N) idx 1 + GatherDims.batchCoord _ (ix3 r k N) 1 + GatherDims.offCoord _ (ix3 r k N) 1 = _
    rw [GatherDims.batchCoord_eq_zero _ _ _ List.not_mem_nil]
    unfold GatherDims.start
    rw [dif_neg (show ((1 : Fin 3) ∈ gather_S14x128x2048_S1280x1_S1280x128x2048_12_0_n_n_0_1_11282048.startIndexMap) → False from fun h => absurd (List.mem_singleton.mp h) (by decide))]
    simp only [Nat.add_zero, Nat.zero_add]
    rfl
  | ⟨2, _⟩ =>
    show GatherDims.start _ (ix3 r k N) idx 2 + GatherDims.batchCoord _ (ix3 r k N) 2 + GatherDims.offCoord _ (ix3 r k N) 2 = _
    rw [GatherDims.batchCoord_eq_zero _ _ _ List.not_mem_nil]
    unfold GatherDims.start
    rw [dif_neg (show ((2 : Fin 3) ∈ gather_S14x128x2048_S1280x1_S1280x128x2048_12_0_n_n_0_1_11282048.startIndexMap) → False from fun h => absurd (List.mem_singleton.mp h) (by decide))]
    simp only [Nat.add_zero, Nat.zero_add]
    rfl

/-- The pool's scales, gathered likewise. -/
theorem gather_scale {α : Type} (x : S2500.Idx → α) (idx : IVec S14x128x1 32) (s : Fin 14) (k : Fin 128) :
    Host.gather gather_S2500_S14x128x1_S14x128_n_0_n_n_0_2_1 x idx (ix2 s k)
      = x (ix1 (⟨min (idx (ix3 s k (0 : Fin 1))).toInt.toNat (2500 - 1), by omega⟩ : Fin 2500)) := by
  refine (ValueIdx.gather_take_apply (N := 2500) (R := 14) (C := 128) (by decide) _ x idx (ix2 s k)).trans ?_
  have e : (ValueIdx.takeIdx (ix2 s k) : S14x128x1.Idx) = ix3 s k (0 : Fin 1) := by
    funext b; fin_cases b <;> rfl
  exact congrArg x (funext fun b => by
    fin_cases b; exact Fin.ext (congrArg (fun z => min (idx z).toInt.toNat (2500 - 1)) e))

/-- The adapters' first slots, gathered by one adapter per segment. -/
theorem gather_start {α : Type} (x : S23.Idx → α) (idx : IVec S14x1 32) (s : Fin 14) :
    Host.gather gather_S23_S14x1_S14_n_0_n_n_0_1_1 x idx (ix1 s)
      = x (ix1 (⟨min (idx (ix2 s (0 : Fin 1))).toInt.toNat (23 - 1), by omega⟩ : Fin 23)) := by
  have e0 : (ix1 s : S14.Idx) = Shape.Idx.ofFin s := by funext b; fin_cases b; rfl
  rw [e0]
  refine (StableHlo.Predicate.gather_take _ rfl rfl rfl rfl x idx s (by decide)).trans ?_
  have e : (StableHlo.Predicate.ixP s : S14x1.Idx) = ix2 s (0 : Fin 1) := by
    funext b; fin_cases b <;> rfl
  exact congrArg x (funext fun b => by
    fin_cases b; exact Fin.ext (congrArg (fun z => min (idx z).toInt.toNat (23 - 1)) e))

/-! ## The adapter rows of one segment -/

/-- The first slot of segment `s`'s adapter. -/
abbrev slotOf (st : S23.Idx → BitVec 32) (sg : S14.Idx → BitVec 32) (hsg : ∀ i, (sg i).toNat < 23) (s : Fin 14) : BitVec 32 :=
  st (ix1 (⟨(sg (ix1 s)).toNat, hsg _⟩ : Fin 23))

section
variable (st : S23.Idx → BitVec 32) (sg : S14.Idx → BitVec 32) (hsg : ∀ i, (sg i).toNat < 23) (hst : ∀ i, (st i).toNat < 2304)
include hsg hst

/-- The window's first row, rounded down to a multiple of 32. -/
theorem first_at (s : Fin 14) : (val_main_v82 (F := Ideal) st sg (ix1 s)).toNat = (slotOf st sg hsg s).toNat / 32 * 32 := by
  have e79 : val_main_v79 (F := Ideal) sg (ix2 s (0 : Fin 1)) = sg (ix1 s) := by
    pointwise [val_main_v79, val_main_v78, val_main_v77, val_main_v76, val_main_v75, val_main_v74, val_main_c_15, val_main_c_16]
    exact wrap_id _ _ (by have := hsg (ix1 s); omega)
  have e80 : val_main_v80 (F := Ideal) st sg (ix1 s) = slotOf st sg hsg s := by
    refine (gather_start st _ s).trans (congrArg st (funext fun b => ?_))
    fin_cases b
    refine Fin.ext ((congrArg (fun z : BitVec 32 => min z.toInt.toNat (23 - 1)) e79).trans ?_)
    exact clamp_id _ 23 (by decide) (hsg _)
  show (IntOp.andi (val_main_v80 (F := Ideal) st sg (ix1 s)) (val_main_v81 (F := Ideal) (ix1 s))).toNat = _
  rw [e80]
  exact Cert.KernelIdeal.Hand.and32_of_lt _ (hst _)

/-- Row `k` of the window. -/
theorem row_at (s : Fin 14) (k : Fin 128) :
    (val_main_v88 (F := Ideal) st sg (ix2 s k)).toNat = (slotOf st sg hsg s).toNat / 32 * 32 + k.val := by
  have e : val_main_v88 (F := Ideal) st sg (ix2 s k) = IntOp.addi (val_main_v82 (F := Ideal) st sg (ix1 s)) (BitVec.ofNat 32 k.val) := by
    pointwise [val_main_v88, val_main_v87, val_main_v86, val_main_v85, val_main_v84, val_main_v83]
  have h := first_at st sg hsg hst s
  have hl : (slotOf st sg hsg s).toNat < 2304 := hst _
  rw [e]
  simp only [IntOp.addi, BitVec.toNat_add, BitVec.toNat_ofNat, h]
  omega

/-- The expanded adapter's element. -/
theorem adapter_at (pool : S2500x2048.Idx → BitVec 8) (sc : S2500.Idx → EReal) (s : Fin 14) (k : Fin 128) (N : Fin 2048)
    (hq : (slotOf st sg hsg s).toNat / 32 * 32 + 128 ≤ 2500) :
    val_main_v108 (F := Ideal) pool sc st sg (ix3 s k N)
      = FloatOps.sitofp (F := Ideal) .bf16 (pool (ix2 (⟨(slotOf st sg hsg s).toNat / 32 * 32 + k.val, by omega⟩ : Fin 2500) N))
        * sc (ix1 (⟨(slotOf st sg hsg s).toNat / 32 * 32 + k.val, by omega⟩ : Fin 2500)) := by
  have hr := row_at st sg hsg hst s k
  have hw : (val_main_v88 (F := Ideal) st sg (ix2 s k)).toNat < 2500 := by omega
  have e94 : val_main_v94 (F := Ideal) st sg (ix3 s k (0 : Fin 1)) = val_main_v88 (F := Ideal) st sg (ix2 s k) := by
    pointwise [val_main_v94, val_main_v93, val_main_v92, val_main_v91, val_main_v90, val_main_v89, val_main_c_18, val_main_c_19]
    exact wrap_id _ _ (by omega)
  have e103 : val_main_v103 (F := Ideal) st sg (ix3 s k (0 : Fin 1)) = val_main_v88 (F := Ideal) st sg (ix2 s k) := by
    pointwise [val_main_v103, val_main_v102, val_main_v101, val_main_v100, val_main_v99, val_main_v98, val_main_c_20, val_main_c_21]
    exact wrap_id _ _ (by omega)
  have e95 : val_main_v95 (F := Ideal) pool st sg (ix3 s k N) = pool (ix2 (⟨(slotOf st sg hsg s).toNat / 32 * 32 + k.val, by omega⟩ : Fin 2500) N) := by
    refine (gather_pool pool _ s k N).trans (congrArg (fun z => pool (ix2 z N)) (Fin.ext ?_))
    show min (val_main_v94 (F := Ideal) st sg (ix3 s k (0 : Fin 1))).toInt.toNat (2500 - 1) = _
    rw [e94, clamp_id _ 2500 (by decide) hw, hr]
  have e104 : val_main_v104 (F := Ideal) sc st sg (ix2 s k) = sc (ix1 (⟨(slotOf st sg hsg s).toNat / 32 * 32 + k.val, by omega⟩ : Fin 2500)) := by
    refine (gather_scale sc _ s k).trans (congrArg (fun z => sc (ix1 z)) (Fin.ext ?_))
    show min (val_main_v103 (F := Ideal) st sg (ix3 s k (0 : Fin 1))).toInt.toNat (2500 - 1) = _
    rw [e103, clamp_id _ 2500 (by decide) hw, hr]
  have e : val_main_v108 (F := Ideal) pool sc st sg (ix3 s k N)
      = FloatOps.sitofp (F := Ideal) .bf16 ((val_main_v95 (F := Ideal) pool st sg (ix3 s k N)).signExtend 32) * val_main_v104 (F := Ideal) sc st sg (ix2 s k) := by
    pointwise [val_main_v108, val_main_v107, val_main_v106, val_main_v105, val_main_v97, val_main_v96]
  rw [e, e95, e104]
  congr 1
  show (((BitVec.signExtend 32 _).toInt : ℝ) : EReal) = ((BitVec.toInt _ : ℝ) : EReal)
  rw [BitVec.toInt_signExtend_of_le (by decide)]

end

/-! ## The segment of a row -/

/-- The number of offsets after the first at or below a row in segment `s` is `s`. -/
theorem count_eq (o : ℕ → ℕ) (s : Fin 14) (r : ℕ) (mono : ∀ a b, a ≤ b → b < 15 → o a ≤ o b) (h1 : o s.val ≤ r) (h2 : r < o (s.val + 1)) :
    (Finset.univ.filter (fun q : Fin 14 => o (q.val + 1) ≤ r)).card = s.val := by
  have e : (Finset.univ.filter (fun q : Fin 14 => o (q.val + 1) ≤ r)) = Finset.Iio s := by
    ext q
    simp only [Finset.mem_filter, Finset.mem_univ, true_and, Finset.mem_Iio]
    constructor
    · intro h
      by_contra hn
      have hsq : s.val ≤ q.val := not_lt.mp hn
      have := mono (s.val + 1) (q.val + 1) (by omega) (by omega)
      omega
    · intro h
      have hsq : q.val < s.val := h
      exact (mono (q.val + 1) s.val (by omega) (by omega)).trans h1
  rw [e, Fin.card_Iio]

section
variable (of : S15.Idx → BitVec 32) (hof : ∀ i, (of i).toNat ≤ 1280)
  (mono : ∀ a b (ha : a ≤ b) (hb : b < 15), (of (ix1 (⟨a, lt_of_le_of_lt ha hb⟩ : Fin 15))).toNat ≤ (of (ix1 (⟨b, hb⟩ : Fin 15))).toNat)
include hof mono

/-- The reference finds the segment of a row. -/
theorem seg_at (s : Fin 14) (r : Fin 1280) (h1 : (of (ix1 (⟨s.val, Nat.lt_succ_of_lt s.isLt⟩ : Fin 15))).toNat ≤ r.val)
    (h2 : r.val < (of (ix1 (⟨s.val + 1, Nat.succ_lt_succ s.isLt⟩ : Fin 15))).toNat) :
    (val_main_v117 (F := Ideal) of (ix1 r)).toNat = s.val := by
  refine (StableHlo.Predicate.toNat_reduce_count_cols (by decide) (val_main_v115 (F := Ideal) of) _ _ _ (ix1 r)).trans ?_
  have key : ∀ q : Fin 14, val_main_v115 (F := Ideal) of (StableHlo.Predicate.ij r q) = 1#1
      ↔ (of (ix1 (⟨q.val + 1, by omega⟩ : Fin 15))).toNat ≤ r.val := by
    intro q
    have e : (StableHlo.Predicate.ij r q : S1280x14.Idx) = ix2 r q := by funext b; fin_cases b <;> rfl
    have e115 : val_main_v115 (F := Ideal) of (ix2 r q)
        = IntOp.cmpi .sge (BitVec.ofNat 32 r.val) (of (ix1 (⟨1 + q.val, by omega⟩ : Fin 15))) := by
      pointwise [val_main_v115, val_main_v114, val_main_v113, val_main_v112, val_main_v111, val_main_v110, val_main_v109]
    have hq := hof (ix1 (⟨1 + q.val, by omega⟩ : Fin 15))
    have hr : (BitVec.ofNat 32 r.val).toNat = r.val := by rw [BitVec.toNat_ofNat]; omega
    rw [e, e115, IntOp.cmpi_sge, Cert.KernelIdeal.Hand.toInt_small _ (by omega), Cert.KernelIdeal.Hand.toInt_small _ (by omega), hr]
    simp only [Nat.add_comm 1 q.val, Int.ofNat_le, Nat.cast_le]
  show (Finset.univ.filter (fun q : Fin 14 => val_main_v115 (F := Ideal) of (StableHlo.Predicate.ij r q) = 1#1)).card = _
  rw [Finset.filter_congr (fun q _ => key q)]
  refine Eq.trans ?_ (count_eq (fun n => if h : n < 15 then (of (ix1 (⟨n, h⟩ : Fin 15))).toNat else 0) s r.val ?_ ?_ ?_)
  · congr 1
  · intro a b ha hb
    simp only [dif_pos hb, dif_pos (show a < 15 by omega)]
    exact mono a b ha hb
  · simpa only [dif_pos (show s.val < 15 by omega)] using h1
  · simpa only [dif_pos (show s.val + 1 < 15 by omega)] using h2

end

/-! ## The reference's element -/

/-- The reference at one element, for a row of segment `s`. -/
theorem ref_at (x : S1280x7168.Idx → EReal) (w : S896x2048.Idx → BitVec 32) (ws : S56x2048.Idx → EReal) (h : S1280x128.Idx → EReal)
    (pool : S2500x2048.Idx → BitVec 8) (sc : S2500.Idx → EReal)
    (st : S23.Idx → BitVec 32) (of : S15.Idx → BitVec 32) (sg : S14.Idx → BitVec 32) (hsg : ∀ i, (sg i).toNat < 23) (hst : ∀ i, (st i).toNat < 2304)
    (hof : ∀ i, (of i).toNat ≤ 1280)
    (mono : ∀ a b (ha : a ≤ b) (hb : b < 15), (of (ix1 (⟨a, lt_of_le_of_lt ha hb⟩ : Fin 15))).toNat ≤ (of (ix1 (⟨b, hb⟩ : Fin 15))).toNat)
    (s : Fin 14) (r : Fin 1280) (N : Fin 2048) (h1 : (of (ix1 (⟨s.val, Nat.lt_succ_of_lt s.isLt⟩ : Fin 15))).toNat ≤ r.val)
    (h2 : r.val < (of (ix1 (⟨s.val + 1, Nat.succ_lt_succ s.isLt⟩ : Fin 15))).toNat) (hq : (slotOf st sg hsg s).toNat / 32 * 32 + 128 ≤ 2500) :
    val_main_v127 (F := Ideal) x w ws h pool sc st of sg (ix2 r N)
      = baseAt x w ws r N + deltaAt h pool sc ((slotOf st sg hsg s).toNat / 32 * 32) hq r N := by
  have hs := seg_at of hof mono s r h1 h2
  have e123 : val_main_v123 (F := Ideal) of (ix2 r (0 : Fin 1)) = val_main_v117 (F := Ideal) of (ix1 r) := by
    pointwise [val_main_v123, val_main_v122, val_main_v121, val_main_v120, val_main_v119, val_main_v118, val_main_c_23, val_main_c_24]
    exact wrap_id _ _ (by omega)
  have e124 : ∀ k : Fin 128, val_main_v124 (F := Ideal) pool sc st of sg (ix3 r k N) = val_main_v108 (F := Ideal) pool sc st sg (ix3 s k N) := by
    intro k
    refine (gather_stack (val_main_v108 (F := Ideal) pool sc st sg) _ r k N).trans
      (congrArg (fun z => val_main_v108 (F := Ideal) pool sc st sg (ix3 z k N)) (Fin.ext ?_))
    show min (val_main_v123 (F := Ideal) of (ix2 r (0 : Fin 1))).toInt.toNat (14 - 1) = _
    rw [e123, clamp_id _ 14 (by decide) (by omega), hs]
  have e125 : val_main_v125 (F := Ideal) h pool sc st of sg (ix2 r N)
      = ∑ k : Fin 128, h (ix2 r k) * val_main_v124 (F := Ideal) pool sc st of sg (ix3 r k N) := by
    pointwise [val_main_v125]
  have e : val_main_v127 (F := Ideal) x w ws h pool sc st of sg (ix2 r N)
      = val_main_v73 (F := Ideal) x w ws (ix2 r N) + val_main_v125 (F := Ideal) h pool sc st of sg (ix2 r N) := by
    pointwise [val_main_v127, val_main_v126]
  rw [e, base_at, e125]
  refine congrArg (baseAt x w ws r N + ·) ?_
  unfold deltaAt
  refine Finset.sum_congr rfl fun k _ => ?_
  rw [e124, adapter_at st sg hsg hst pool sc s k N hq]

end Cert.ReferenceIdeal.Hand

end
-- ==== Proof.Ideal.Value.lean ====
/- The kernel and the reference end with the same result. -/
module

public import proofs.«01_k».proof.Proof.Ideal.Output
public import proofs.«01_k».proof.Proof.Ideal.RefValue

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- The reference at one element, on the kernel's arguments. -/
theorem reference_at (hm : Hyps m) (c : Dev nD) (s : Fin 14) (r : Fin 1280) (N : Fin 2048)
    (hr : offs m c s.val (by omega) ≤ r.val ∧ r.val < offs m c (s.val + 1) (by omega)) :
    (Cert.ReferenceIdeal.Read.val_main_v127 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg8))
      (m ((c : Thread nD τ).loc main_arg9)) : S1280x2048.Idx → EReal) (ix2 r N)
    = ((dats hm 0 c).arrAt 9 cfg0.N : S1280x2048.Idx → EReal) (ix2 r N) :=
  (Cert.ReferenceIdeal.Hand.ref_at _ _ _ _ _ _ _ _ _ (hm c).sg_lt (hm c).st_lt (hm c).of_le
    (fun a b ha hb => offs_mono hm c a b ha hb) s r N hr.1 hr.2 (slot_fits hm c s)).trans (kernel_at hm c s r N hr).symm

/-- The two results are equal, where the arguments agree and the tables are in range. -/
theorem result_eq (hm : Hyps m) (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)) :
    Cert.ReferenceIdeal.Value.res_main_v127 m' c = (dats hm 0 c).arrAt 9 cfg0.N := by
  obtain ⟨h0, h1, h2, h3, h4, h5, h6, _, h8, h9⟩ := h
  refine (Cert.ReferenceIdeal.Read.val_main_v127_eq m' c).trans ?_
  refine Eq.trans (by rw [h0, h1, h2, h3, h4, h5, h6, h8, h9]) (funext fun i => ?_ :
    (Cert.ReferenceIdeal.Read.val_main_v127 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg8))
      (m ((c : Thread nD τ).loc main_arg9)) : S1280x2048.Idx → EReal) = ((dats hm 0 c).arrAt 9 cfg0.N : S1280x2048.Idx → EReal))
  obtain ⟨s, hs⟩ := seg_exists hm c (i 0)
  have e : i = ix2 (i 0) (i 1) := by funext a; fin_cases a <;> rfl
  rw [e]
  exact reference_at m hm c s (i 0) (i 1) hs

end Cert.KernelIdeal.Hand

end
-- ==== Proof.Shrink.Tables.lean ====
/- What the precondition says of the index tables, in plain terms: the predicate is one chain of conjunctions of
   reductions of comparisons, taken apart here once. Nothing here depends on the kernel or the reference. -/
module

public import proofs.«01_k».proof.Pre_shrink_tables_in_range
public import Idealize.ShloMosaic.Lib.ReduceAll
public import Idealize.ShloMosaic.Lib.Affine
public import Idealize.ShloMosaic.Lib.WordCmp
public import Idealize.ShloMosaic.Lib.Pipeline.Value
public import Idealize.ShloMosaic.Lib.ValueLayout

@[expose] public section

namespace Cert.Pre_shrink_tables_in_range

open Idealize.ShloMosaic Idealize.ShloMosaic.ValueIdx

/-- The tables are in range: every adapter starts where its window of rows is inside the pool and
    has no more slots than can be added to a place in a window without leaving a word, every segment names one of the 23 adapters, and the offsets cut the 1280 rows into fourteen consecutive segments. -/
structure Tables (st rk : S23.Idx → BitVec 32) (of : S15.Idx → BitVec 32) (sg : S14.Idx → BitVec 32) : Prop where
  st_lt : ∀ y, (st y).toNat < 2304
  rk_le : ∀ y, (rk y).toInt ≤ 2147483616
  sg_lt : ∀ y, (sg y).toNat < 23
  of_le : ∀ y, (of y).toNat ≤ 1280
  of_mono : ∀ n (h : n < 14), (of (ix1 (⟨n, by omega⟩ : Fin 15))).toNat ≤ (of (ix1 (⟨n + 1, by omega⟩ : Fin 15))).toNat
  of_first : of (ix1 (0 : Fin 15)) = 0#32
  of_last : of (ix1 (14 : Fin 15)) = 1280#32

instance : Subsingleton S_.Idx := ⟨fun a b => funext fun i => i.elim0⟩

/-- A word between 0 and a bound in the signed order is so in the unsigned order. -/
theorem toNat_lt_of (x : BitVec 32) (k : ℕ) (hk : k < 2 ^ 31) (h1 : (0#32).toInt ≤ x.toInt)
    (h2 : x.toInt < (BitVec.ofNat 32 k).toInt) : x.toNat < k := by
  simp only [BitVec.toInt, BitVec.toNat_ofNat] at h1 h2
  rw [Nat.mod_eq_of_lt (show k < 2 ^ 32 by omega)] at h2
  omega
/-- The same with the bound included. -/
theorem toNat_le_of (x : BitVec 32) (k : ℕ) (hk : k < 2 ^ 31) (h1 : (0#32).toInt ≤ x.toInt)
    (h2 : x.toInt ≤ (BitVec.ofNat 32 k).toInt) : x.toNat ≤ k := by
  simp only [BitVec.toInt, BitVec.toNat_ofNat] at h1 h2
  rw [Nat.mod_eq_of_lt (show k < 2 ^ 32 by omega)] at h2
  omega

/-- An index of an axis of length one is 0. -/
theorem at_one (o : ℕ) (j : Fin 1) : o + j.val = o := by omega

/-- A conjunction of two flags holds where both do. -/
theorem andi_one {s : Shape} (x y : IVec s 1) (i : s.Idx) : andi x y i = 1#1 ↔ x i = 1#1 ∧ y i = 1#1 := IntOp.andi_eq_one

/-- The precondition, all ones, says the tables are in range. -/
theorem tables_of_fn [Facts] {F : FTy → Type} [FloatOps F] (a0 : FVec F S1280x7168 .bf16) (a1 : IVec S2500x7168 8)
    (a2 : FVec F S2500 .f32) (st : IVec S23 32) (rk : IVec S23 32) (a5 : FVec F S23 .f32) (of : IVec S15 32) (sg : IVec S14 32)
    (h : fn (F := F) a0 a1 a2 st rk a5 of sg = fun _ => 1#1) : Tables st rk of sg := by
  have e := congrFun h (fun i => i.elim0)
  simp only [fn, fn_part1, fn_part2, andi_one] at e
  obtain ⟨⟨⟨⟨⟨⟨e1, e2⟩, er⟩, e3⟩, e4⟩, e5⟩, e6⟩ := e
  have d1 := fun y => Host.reduce_andi_all _ _ _ _ _ e1 y
  have d2 := fun y => Host.reduce_andi_all _ _ _ _ _ e2 y
  have d_r := fun y => Host.reduce_andi_all _ _ _ _ _ er y
  have d3 := fun y => Host.reduce_andi_all _ _ _ _ _ e3 y
  have d4 := fun y => Host.reduce_andi_all _ _ _ _ _ e4 y
  simp only [andi_one, cmpi, broadcastInDim, constantI, IntOp.cmpi_sge, IntOp.cmpi_slt, IntOp.cmpi_sle] at d1 d2 d_r d3
  have dr : ∀ y, (rk y).toInt ≤ 2147483616 := fun y => d_r y
  have ofle : ∀ y, (of y).toNat ≤ 1280 := fun y => toNat_le_of _ _ (by decide) (d3 y).1 (d3 y).2
  refine ⟨fun y => toNat_lt_of _ _ (by decide) (d2 y).1 (d2 y).2, dr, fun y => toNat_lt_of _ _ (by decide) (d1 y).1 (d1 y).2, ofle, ?_, ?_, ?_⟩
  · intro n hn
    have e := d4 (ix1 (⟨n, hn⟩ : Fin 14))
    simp only [cmpi, IntOp.cmpi_sle] at e
    rw [extractStridedSlice_apply (![0]) of _ _ (ix1 (⟨n, by omega⟩ : Fin 15)) (fun a => by fin_cases a; exact (Nat.zero_add n).symm),
      extractStridedSlice_apply (![1]) of _ _ (ix1 (⟨n + 1, by omega⟩ : Fin 15)) (fun a => by fin_cases a; exact Nat.add_comm n 1)] at e
    have l1 := ofle (ix1 (⟨n, by omega⟩ : Fin 15)); have l2 := ofle (ix1 (⟨n + 1, by omega⟩ : Fin 15))
    simp only [BitVec.toInt] at e
    omega
  · simp only [cmpi, IntOp.cmpi_eq, shapeCast] at e5
    rw [extractStridedSlice_apply (![0]) of _ _ (ix1 (0 : Fin 15)) (fun a => by fin_cases a; exact (at_one 0 _).symm)] at e5
    exact e5
  · simp only [cmpi, IntOp.cmpi_eq, shapeCast] at e6
    rw [extractStridedSlice_apply (![14]) of _ _ (ix1 (14 : Fin 15)) (fun a => by fin_cases a; exact (at_one 14 _).symm)] at e6
    exact e6

end Cert.Pre_shrink_tables_in_range
-- ==== Proof.Shrink.Checks.lean ====
/-
  The word arithmetic of the tables and the side conditions the shrink body assumes, each from the range of the word it speaks
  of: a segment's adapter below 23, an adapter's first pool slot below 2304.
-/
module

public import proofs.«01_k».proof.Proof.Gen.Shrink

@[expose] public section

noncomputable section

namespace Cert.Shrink.Hand

open Cert.Shrink Cert.Shrink.Gen
open Idealize.ShloMosaic

/-- Clearing a word's five low bits rounds the number down to a multiple of 32. -/
theorem and32_fin : ∀ n : Fin 2304, (Scalar.andi (BitVec.ofNat 32 n.val) 4294967264#32).toNat = n.val / 32 * 32 := by decide +kernel
theorem and32_of_lt (v : BitVec 32) (h : v.toNat < 2304) : (Scalar.andi v 4294967264#32).toNat = v.toNat / 32 * 32 := by
  have := and32_fin ⟨v.toNat, h⟩
  rwa [BitVec.ofNat_toNat, BitVec.setWidth_eq] at this
theorem and128_fin : ∀ n : Fin 2304, (Scalar.andi (Scalar.andi (BitVec.ofNat 32 n.val) 4294967264#32) 4294967168#32).toNat = n.val / 128 * 128 := by decide +kernel
theorem and128_of_lt (v : BitVec 32) (h : v.toNat < 2304) : (Scalar.andi (Scalar.andi v 4294967264#32) 4294967168#32).toNat = v.toNat / 128 * 128 := by
  have := and128_fin ⟨v.toNat, h⟩
  rwa [BitVec.ofNat_toNat, BitVec.setWidth_eq] at this

/-- An adapter's number is inside the tables of adapters. -/
theorem inbTab (v : BitVec 32) (h : v.toNat < 23) : ∀ a, k0_off57 v a + S1.size a ≤ S23.size a := by
  intro a; fin_cases a; show v.toNat + 1 ≤ 23; omega
theorem inbTab' (v : BitVec 32) (h : v.toNat < 23) : ∀ a, k0_off59 v a + S1.size a ≤ S23.size a := inbTab v h
theorem chkSeg (i : grid0.Coords) (v : BitVec 32) (h : v.toNat < 23) : k0_chk1 i v := fun _ => inbTab v h
theorem chkSeg' (i : grid0.Coords) (lo hi v : BitVec 32) (h : v.toNat < 23) : k0_chk57 i lo hi v := ⟨fun _ => inbTab v h, fun _ => inbTab v h⟩

theorem off2_eq (v : BitVec 32) (h : v.toNat < 2304) : k0_off2 v = ![v.toNat / 32 * 32, 0] := by
  show ![(Scalar.andi v 4294967264#32).toNat, 0] = _
  rw [and32_of_lt v h]
/-- The 128 pool rows from an adapter's rounded first slot are inside the pool. -/
theorem inbPool (v : BitVec 32) (h : v.toNat < 2304) : ∀ a, k0_off2 v a + S128x7168.size a ≤ S2500x7168.size a := by
  rw [off2_eq v h]; intro a; fin_cases a
  · show v.toNat / 32 * 32 + 128 ≤ 2500; omega
  · show 0 + 7168 ≤ 7168; decide
theorem chkSlot (i : grid0.Coords) (v : BitVec 32) (h : v.toNat < 2304) : k0_chk2 i v := by
  refine ⟨fun _ => ?_, fun _ => inbPool v h, fun _ hinb => ?_⟩
  · show 32 ∣ (Scalar.andi v 4294967264#32).toNat
    rw [and32_of_lt v h]; exact ⟨_, Nat.mul_comm _ _⟩
  · refine Rect.PackedRows.wholeWords (.inr ⟨by decide, rfl, .inl ⟨?_, ?_⟩⟩)
    · show 4 ∣ k0_off2 v 0
      rw [off2_eq v h]; show 4 ∣ v.toNat / 32 * 32; omega
    · show 4 ∣ 128; decide

theorem off58_eq (v : BitVec 32) (h : v.toNat < 2304) : k0_off58 v = ![0, v.toNat / 128 * 128] := by
  show ![0, (Scalar.andi (Scalar.andi v 4294967264#32) 4294967168#32).toNat] = _
  rw [and128_of_lt v h]
/-- The two lane tiles of scales an adapter's slots lie in are inside the scale row. -/
theorem inbScale (v : BitVec 32) (h : v.toNat < 2304) : ∀ a, k0_off58 v a + S1x256.size a ≤ S1x2500.size a := by
  rw [off58_eq v h]; intro a; fin_cases a
  · show 0 + 1 ≤ 1; decide
  · show v.toNat / 128 * 128 + 256 ≤ 2500; omega
theorem chkScale (i : grid0.Coords) (lo hi v : BitVec 32) (h : v.toNat < 2304) : k0_chk58 i lo hi v := by
  refine ⟨fun _ => ?_, fun _ => ?_, fun _ => inbScale v h⟩
  · show 32 ∣ (Scalar.andi v 4294967264#32).toNat
    rw [and32_of_lt v h]; exact ⟨_, Nat.mul_comm _ _⟩
  · show 128 ∣ (Scalar.andi (Scalar.andi v 4294967264#32) 4294967168#32).toNat
    rw [and128_of_lt v h]; exact ⟨_, Nat.mul_comm _ _⟩

/-- The copies of adapter rows are made at the first grid point only. -/
theorem cond1_of_zero (i : grid0.Coords) (h : (i 0).val = 0) : k0_cond1 i = 1#1 := by
  have e : k0_cond1 i = Scalar.cmpi .ne (Scalar.extui (Scalar.cmpi .eq (BitVec.ofNat 32 (i 0).val) 0#32) : BitVec 32) 0#32 := rfl
  rw [e, h]; decide

/-- A segment is worked on where it has rows and they reach into the point's 128 rows. -/
theorem cond_iff (i : grid0.Coords) (lo hi : BitVec 32) (hlo : lo.toNat ≤ 1280) (hhi : hi.toNat ≤ 1280) :
    k0_cond2 i lo hi = 1#1 ↔ lo.toNat < (i 0).val * 128 + 128 ∧ (i 0).val * 128 < hi.toNat ∧ lo.toNat < hi.toNat := by
  have hi10 : (i 0).val < 10 := (i 0).isLt
  have e : k0_cond2 i lo hi = Scalar.cmpi .ne (Scalar.extui (Scalar.andi (Scalar.andi
      (Scalar.cmpi .slt lo (Scalar.muli (Scalar.addi (BitVec.ofNat 32 (i 0).val) 1#32) 128#32))
      (Scalar.cmpi .sgt hi (Scalar.muli (BitVec.ofNat 32 (i 0).val) 128#32))) (Scalar.cmpi .sgt hi lo)) : BitVec 32) 0#32 := rfl
  have ee : ∀ p q r : Bool, (Scalar.cmpi .ne (Scalar.extui (Scalar.andi (Scalar.andi (BitVec.ofBool p) (BitVec.ofBool q)) (BitVec.ofBool r)) : BitVec 32) 0#32 = 1#1) ↔ p = true ∧ q = true ∧ r = true := by decide
  have m1 : ∀ n : Fin 10, (Scalar.muli (Scalar.addi (BitVec.ofNat 32 n.val) 1#32) 128#32).toNat = n.val * 128 + 128 := by decide
  have m2 : ∀ n : Fin 10, (Scalar.muli (BitVec.ofNat 32 n.val) 128#32).toNat = n.val * 128 := by decide
  have n1 := m1 ⟨(i 0).val, hi10⟩
  have n2 := m2 ⟨(i 0).val, hi10⟩
  simp only at n1 n2
  rw [e]
  refine (ee (lo.slt _) ((Scalar.muli (BitVec.ofNat 32 (i 0).val) 128#32).slt hi) (lo.slt hi)).trans ?_
  simp only [BitVec.slt, decide_eq_true_eq]
  rw [BitVec.toInt_eq_toNat_of_lt (by omega), BitVec.toInt_eq_toNat_of_lt (by omega), BitVec.toInt_eq_toNat_of_lt (by omega), BitVec.toInt_eq_toNat_of_lt (by omega), n1, n2]
  omega

end Cert.Shrink.Hand
-- ==== Proof.Shrink.Segment.lean ====
/- One segment of rows in the shrink body: the program of the segment, what it leaves in the two result blocks, and its run. -/
module

public import proofs.«01_k».proof.Proof.Gen.Shrink.Frame
public import proofs.«01_k».proof.Proof.Gen.Shrink.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.Shrink.Checks

@[expose] public section

noncomputable section

namespace Cert.Shrink.Hand

open Cert.Shrink Cert.Shrink.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-! ## The operands -/

/-- The scratch of staged adapter rows, and the pool of adapter rows left in HBM. -/
abbrev scB : Memref sig .tc .vmem S14x128x7168 .i8 := Memref.whole cc0_scratch0
abbrev hbM : Memref sig .tc .hbm S2500x7168 .i8 := Memref.whole main_arg1
/-- A memref's buffer on core `c` held at share `q` with contents `f`. -/
abbrev hbPt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

/-- The numbers of slots: row `s` of the tables and of the staged rows. -/
theorem inbSeg (s : Fin 14) : ∀ a, (![s.val] : Fin 1 → ℕ) a + S1.size a ≤ S14.size a := by
  intro a; have := s.isLt; fin_cases a; show s.val + 1 ≤ 14; omega
theorem inbPiece (s : Fin 14) : ∀ a, (![s.val, 0, 0] : Fin 3 → ℕ) a + S1x128x7168.size a ≤ S14x128x7168.size a := by
  intro a; have := s.isLt; fin_cases a
  · show s.val + 1 ≤ 14; omega
  · show 0 + 128 ≤ 128; omega
  · show 0 + 7168 ≤ 7168; omega

/-! ## The program of a segment -/

/-- The table lookups of segment `s`, its staged rows against the tile's rows, scaled, and the mask of the entries it owns. -/
def partS (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (v10 v11 : IVec S128x128 32) (lo hi : Elt F .i32) (h : k0_cond2 i lo hi = 1#1) :
    Prog (TpuEff nD τ sig (Elt F) Λ₀ .tc) (Σ' (v185 : BitVec 32) (v209 : FVec F S128x128 .f32) (v223 : IVec S128x128 1), F .f32) := do
  let v180 : Elt F .i32 ← smemLoad arg5 (Rect.unit (s := S14) ![s.val] S1.size (inbSeg s)) numel1_S1 rfl
  have k0_hw57 : k0_chk57 i lo hi v180 := (← Prog.lift (TpuEff.assume (k0_chk57 i lo hi v180) (k0_chk57.dec i lo hi v180))).down
  let v182 : Elt F .i32 ← smemLoad arg1 (Rect.unit (s := S23) (k0_off57 v180) S1.size (k0_off57_inb i lo hi v180 k0_hw57 h)) numel1_S1 rfl
  have k0_hw58 : k0_chk58 i lo hi v182 := (← Prog.lift (TpuEff.assume (k0_chk58 i lo hi v182) (k0_chk58.dec i lo hi v182))).down
  let v183 : BitVec 32 := Scalar.andi v182 4294967264#32
  let v184 : BitVec 32 := v183
  let v185 : BitVec 32 := Scalar.subi v182 v184
  let v186 : Vec F S1x128x7168 .i8 ← Prog.lift (.load scB (Rect.unit (s := S14x128x7168) ![s.val, 0, 0] S1x128x7168.size (inbPiece s)).toLoadRect (View.loadsAt_vmem h_S1x128x7168))
  let v189 : Vec F S128x7168 .bf16 ← Prog.lift (.load arg6 (Rect.unit (s := S128x7168) ![0, 0] S128x7168.size inb_S128x7168_S128x7168_0_0).toLoadRect (View.loadsAt_vmem h_S128x7168))
  let v194 : Vec F S1x256 .f32 ← Prog.lift (.load arg7 (Rect.unit (s := S1x2500) (k0_off58 v182) S1x256.size (k0_off58_inb i lo hi v182 k0_hw58 h)).toLoadRect (View.loadsAt_vmem h_S1x256))
  let v207 : Elt F .f32 ← smemLoad arg3 (Rect.unit (s := S23) (k0_off59 v180) S1.size (k0_off59_inb i lo hi v180 k0_hw57 h)) numel1_S1 rfl
  let v219 : Elt F .i32 ← smemLoad arg2 (Rect.unit (s := S23) (k0_off59 v180) S1.size (k0_off59_inb i lo hi v180 k0_hw57 h)) numel1_S1 rfl
  have cst_84 : F .f32 := Scalar.ofBits .f32 0x00000000#32
  pure ⟨v185, k0_pay10 v182 v186 v189 v194 v207, k0_pay11 v10 v11 lo hi v182 v219, cst_84⟩

/-- A segment: nothing when it has no rows in the point's tile; else its entries over the two result blocks; then `kk`. -/
def segA (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (arg9 : Memref sig .tc .vmem S128x128 .bf16) (harg9 : arg9.IsWhole) (arg10 : Memref sig .tc .vmem S128x96 .bf16) (harg10 : arg10.IsWhole)
    (v10 v11 : IVec S128x128 32) (lo hi : Elt F .i32)
    {α : Type} (kk : Prog (TpuEff nD τ sig (Elt F) Λ₀ .tc) α) : Prog (TpuEff nD τ sig (Elt F) Λ₀ .tc) α := do
  if h : k0_cond2 i lo hi = 1#1 then do
    let ⟨v185, v209, v223, cst_84⟩ : Σ' (v185 : BitVec 32) (v209 : FVec F S128x128 .f32) (v223 : IVec S128x128 1), F .f32 ← partS s i arg1 arg2 arg3 arg5 arg6 arg7 v10 v11 lo hi h
    let v226 : Vec F S128x128 .bf16 ← Prog.lift (.load arg9 (Rect.unit (s := S128x128) ![0, 0] S128x128.size inb_S128x128_S128x128_0_0).toLoadRect (View.loadsAt_vmem h_S128x128))
    let v231 : Vec F S128x128 .bf16 ← Prog.lift (.load arg9 (Rect.unit (s := S128x128) ![0, 0] S128x128.size inb_S128x128_S128x128_0_0).toLoadRect (View.loadsAt_vmem h_S128x128))
    Prog.lift (.store arg9 (Rect.unit (s := S128x128) ![0, 0] S128x128.size inb_S128x128_S128x128_0_0) (k0_pay45 v209 v223 cst_84 v226) Finset.univ (View.stores_vmem h_S128x128 (harg9.storeExact_slice rfl _ packedbf16_S128x128_S128x128_0_0) (fun _ => rfl)) (.inl rfl))
    let v243 : Vec F S128x96 .bf16 ← Prog.lift (.load arg10 (Rect.unit (s := S128x96) ![0, 0] S128x96.size inb_S128x96_S128x96_0_0).toLoadRect (View.loadsAt_vmem h_S128x96))
    let v248 : Vec F S128x96 .bf16 ← Prog.lift (.load arg10 (Rect.unit (s := S128x96) ![0, 0] S128x96.size inb_S128x96_S128x96_0_0).toLoadRect (View.loadsAt_vmem h_S128x96))
    Prog.lift (.store arg10 (Rect.unit (s := S128x96) ![0, 0] S128x96.size inb_S128x96_S128x96_0_0) (k0_pay46 v10 lo hi v185 v209 v223 cst_84 v243) Finset.univ (View.stores_vmem h_S128x96 (harg10.storeExact_slice rfl _ packedbf16_S128x96_S128x96_0_0) (fun _ => rfl)) (.inl rfl))
    pure ⟨⟩
  else do
    pure ⟨⟩
  kk

/-! ## What a segment leaves -/

/-- The adapter of segment `s`, as the table holds it; -/
def adapterOf (c : Dev nD) (arg5 : Memref sig .tc .smem S14 .i32) (f5 : Buf (Elt F) (arg5.view.loc (c : Thread nD τ))) (s : Fin 14) : BitVec 32 :=
  arg5.view.readAt (Elt F) (Rect.unit (s := S14) ![s.val] S1.size (inbSeg s)).toLoadRect f5 (Shape.Idx.first (numel1_S1.symm ▸ Nat.one_pos))
/-- its first slot, its number of slots and its scaling. -/
def startOf (c : Dev nD) (arg1 : Memref sig .tc .smem S23 .i32) (f1 : Buf (Elt F) (arg1.view.loc (c : Thread nD τ))) (v : BitVec 32) (h : v.toNat < 23) : BitVec 32 :=
  arg1.view.readAt (Elt F) (Rect.unit (s := S23) (k0_off57 v) S1.size (inbTab v h)).toLoadRect f1 (Shape.Idx.first (numel1_S1.symm ▸ Nat.one_pos))
def rankOf (c : Dev nD) (arg2 : Memref sig .tc .smem S23 .i32) (f2 : Buf (Elt F) (arg2.view.loc (c : Thread nD τ))) (v : BitVec 32) (h : v.toNat < 23) : BitVec 32 :=
  arg2.view.readAt (Elt F) (Rect.unit (s := S23) (k0_off59 v) S1.size (inbTab' v h)).toLoadRect f2 (Shape.Idx.first (numel1_S1.symm ▸ Nat.one_pos))
def scalOf (c : Dev nD) (arg3 : Memref sig .tc .smem S23 .f32) (f3 : Buf (Elt F) (arg3.view.loc (c : Thread nD τ))) (v : BitVec 32) (h : v.toNat < 23) : F .f32 :=
  arg3.view.readAt (Elt F) (Rect.unit (s := S23) (k0_off59 v) S1.size (inbTab' v h)).toLoadRect f3 (Shape.Idx.first (numel1_S1.symm ▸ Nat.one_pos))

/-- The tile's rows against segment `s`'s staged rows, scaled. -/
def tileVal (c : Dev nD) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) : FVec F S128x128 .f32 :=
  k0_pay10 (startOf c arg1 f1 (adapterOf c arg5 f5 s) (hsg _ _))
    (scB.view.readAt (Elt F) (Rect.unit (s := S14x128x7168) ![s.val, 0, 0] S1x128x7168.size (inbPiece s)).toLoadRect g)
    (arg6.view.readAt (Elt F) (Rect.unit (s := S128x7168) ![0, 0] S128x7168.size inb_S128x7168_S128x7168_0_0).toLoadRect f6)
    (arg7.view.readAt (Elt F) (Rect.unit (s := S1x2500) (k0_off58 (startOf c arg1 f1 (adapterOf c arg5 f5 s) (hsg _ _))) S1x256.size (inbScale _ (hst _ _))).toLoadRect f7)
    (scalOf c arg3 f3 (adapterOf c arg5 f5 s) (hsg _ _))
/-- The entries segment `s` owns in the tile of point `i`. -/
def tileMask (c : Dev nD) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) (lo hi : BitVec 32) : IVec S128x128 1 :=
  k0_pay11 (F := F) (k0_pay40 i) (iota .tc S128x128 32 [1] iota_S128x128_d1_w32) lo hi (startOf c arg1 f1 (adapterOf c arg5 f5 s) (hsg _ _)) (rankOf c arg2 f2 (adapterOf c arg5 f5 s) (hsg _ _))

/-- How far an adapter's first slot is from the start of its window. -/
abbrev winOff (v : BitVec 32) : BitVec 32 := Scalar.subi v (Scalar.andi v 4294967264#32)

/-- The two result blocks after segment `s`, whose rows run from `lo` to `hi`. -/
def segSt (c : Dev nD) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) (lo hi : Elt F .i32) (X : FVec F S128x128 .bf16 × FVec F S128x96 .bf16) : FVec F S128x128 .bf16 × FVec F S128x96 .bf16 :=
  if k0_cond2 i lo hi = 1#1 then
    (k0_pay45 (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) X.1,
      k0_pay46 (k0_pay40 i) lo hi (winOff (startOf c arg1 f1 (adapterOf c arg5 f5 s) (hsg _ _)))
        (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) X.2)
  else X

/-- A block stored whole holds what was stored. -/
theorem init9 (M : Memref sig .tc .vmem S128x128 .bf16) (hM : M.IsWhole) (f : M.view.ty.Contents (Elt F)) (w : FVec F S128x128 .bf16) :
    M.view.writes (Elt F) f [⟨(Rect.unit (s := S128x128) ![0, 0] S128x128.size inb_S128x128_S128x128_0_0), w⟩] = hM.unread w := by
  refine hM.eq_unread (funext fun y => ?_)
  have hy : (Rect.unit (s := S128x128) ![0, 0] S128x128.size inb_S128x128_S128x128_0_0).emb y = y := by
    funext a; refine Fin.ext ?_; fin_cases a
    · show 0 + 1 * (y 0).val = (y 0).val; omega
    · show 0 + 1 * (y 1).val = (y 1).val; omega
  have e := View.read_writes_cons_emb (Val := Elt F) M.view f (Rect.unit (s := S128x128) ![0, 0] S128x128.size inb_S128x128_S128x128_0_0) w [] y
  rw [hy] at e
  exact e

/-- A block stored whole over a function of what it held. -/
theorem stored9 (M : Memref sig .tc .vmem S128x128 .bf16) (hM : M.IsWhole) (X : FVec F S128x128 .bf16) (p : FVec F S128x128 .bf16 → FVec F S128x128 .bf16) :
    M.view.writes (Elt F) (hM.unread X) [⟨(Rect.unit (s := S128x128) ![0, 0] S128x128.size inb_S128x128_S128x128_0_0), p (M.view.readAt (Elt F) (Rect.unit (s := S128x128) ![0, 0] S128x128.size inb_S128x128_S128x128_0_0).toLoadRect (hM.unread X))⟩] = hM.unread (p X) := by
  have e : M.view.readAt (Elt F) (Rect.unit (s := S128x128) ![0, 0] S128x128.size inb_S128x128_S128x128_0_0).toLoadRect (hM.unread X) = X := by
    funext y; rw [hM.readAt_unread]; refine congrArg X (funext fun a => Fin.ext ?_)
    fin_cases a
    · show 0 + 1 * (y 0).val = (y 0).val; omega
    · show 0 + 1 * (y 1).val = (y 1).val; omega
  rw [e]; exact init9 M hM _ _

/-- A block stored whole holds what was stored. -/
theorem init10 (M : Memref sig .tc .vmem S128x96 .bf16) (hM : M.IsWhole) (f : M.view.ty.Contents (Elt F)) (w : FVec F S128x96 .bf16) :
    M.view.writes (Elt F) f [⟨(Rect.unit (s := S128x96) ![0, 0] S128x96.size inb_S128x96_S128x96_0_0), w⟩] = hM.unread w := by
  refine hM.eq_unread (funext fun y => ?_)
  have hy : (Rect.unit (s := S128x96) ![0, 0] S128x96.size inb_S128x96_S128x96_0_0).emb y = y := by
    funext a; refine Fin.ext ?_; fin_cases a
    · show 0 + 1 * (y 0).val = (y 0).val; omega
    · show 0 + 1 * (y 1).val = (y 1).val; omega
  have e := View.read_writes_cons_emb (Val := Elt F) M.view f (Rect.unit (s := S128x96) ![0, 0] S128x96.size inb_S128x96_S128x96_0_0) w [] y
  rw [hy] at e
  exact e

/-- A block stored whole over a function of what it held. -/
theorem stored10 (M : Memref sig .tc .vmem S128x96 .bf16) (hM : M.IsWhole) (X : FVec F S128x96 .bf16) (p : FVec F S128x96 .bf16 → FVec F S128x96 .bf16) :
    M.view.writes (Elt F) (hM.unread X) [⟨(Rect.unit (s := S128x96) ![0, 0] S128x96.size inb_S128x96_S128x96_0_0), p (M.view.readAt (Elt F) (Rect.unit (s := S128x96) ![0, 0] S128x96.size inb_S128x96_S128x96_0_0).toLoadRect (hM.unread X))⟩] = hM.unread (p X) := by
  have e : M.view.readAt (Elt F) (Rect.unit (s := S128x96) ![0, 0] S128x96.size inb_S128x96_S128x96_0_0).toLoadRect (hM.unread X) = X := by
    funext y; rw [hM.readAt_unread]; refine congrArg X (funext fun a => Fin.ext ?_)
    fin_cases a
    · show 0 + 1 * (y 0).val = (y 0).val; omega
    · show 0 + 1 * (y 1).val = (y 1).val; omega
  rw [e]; exact init10 M hM _ _

set_option maxHeartbeats 1000000 in
/-- A segment runs, leaving what it reads as it was and the two result blocks at `segSt`; then what follows it. -/
theorem segA_sound (c : Dev nD) (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (lo hi : Elt F .i32) (X : FVec F S128x128 .bf16 × FVec F S128x96 .bf16)
    {α : Type} (kk : Prog (TpuEff nD τ sig (Elt F) Λ₀ .tc) α) (K : α → sProp 𝕄) :
    iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare g ∗ hbPt c arg9 fullShare (harg9.unread X.1) ∗ hbPt c arg10 fullShare (harg10.unread X.2)
        ∗ (iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare g
            ∗ hbPt c arg9 fullShare (harg9.unread (segSt c i arg1 arg2 arg3 arg5 arg6 arg7 f1 f2 f3 f5 f6 f7 g hst hsg s lo hi X).1)
            ∗ hbPt c arg10 fullShare (harg10.unread (segSt c i arg1 arg2 arg3 arg5 arg6 arg7 f1 f2 f3 f5 f6 f7 g hst hsg s lo hi X).2))
          -∗ wp frame (wpE (defs₀ (F := F)) Variants.none c none) Set.univ kk K))
      ⊢ wp frame (wpE (defs₀ (F := F)) Variants.none c none) Set.univ
          (segA s i arg1 arg2 arg3 arg5 arg6 arg7 arg9 harg9 arg10 harg10 (k0_pay40 i) (iota .tc S128x128 32 [1] iota_S128x128_d1_w32) lo hi kk) K := by
  unfold segA
  iintro ⟨H1, H2, H3, H5, H6, H7, HB, H9, H10, Hk⟩
  split
  · next h =>
    rw [segSt, if_pos h]
    unfold partS
    sl_exec (disch := first | exact chkSeg' _ _ _ _ (hsg _ _) | exact chkScale _ _ _ _ (hst _ _))
    iapply Hk
    isplitl [H1]; · iexact H1
    isplitl [H2]; · iexact H2
    isplitl [H3]; · iexact H3
    isplitl [H5]; · iexact H5
    isplitl [H6]; · iexact H6
    isplitl [H7]; · iexact H7
    isplitl [HB]; · iexact HB
    isplitl [H9]
    · iapply (Entails.of_eq (congrArg (hbPt c arg9 fullShare) (stored9 arg9 harg9 X.1 (fun v => k0_pay45 (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) v)))); iexact H9
    iapply (Entails.of_eq (congrArg (hbPt c arg10 fullShare) (stored10 arg10 harg10 X.2 (fun v => k0_pay46 (k0_pay40 i) lo hi (winOff (startOf c arg1 f1 (adapterOf c arg5 f5 s) (hsg _ _))) (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) v)))); iexact H10
  · next h =>
    rw [segSt, if_neg h]
    iapply Hk
    isplitl [H1]; · iexact H1
    isplitl [H2]; · iexact H2
    isplitl [H3]; · iexact H3
    isplitl [H5]; · iexact H5
    isplitl [H6]; · iexact H6
    isplitl [H7]; · iexact H7
    isplitl [HB]; · iexact HB
    isplitl [H9]; · iexact H9
    iexact H10

end Cert.Shrink.Hand

end
-- ==== Proof.Shrink.Staged.lean ====
/- The adapter rows copied into the scratch at the first grid point: the fourteen pieces of the scratch, what each copy
   lands, and the run of the copies. -/
module

public import proofs.«01_k».proof.Proof.Gen.Shrink.Frame
public import proofs.«01_k».proof.Proof.Gen.Shrink.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.Shrink.Segment

@[expose] public section

noncomputable section

namespace Cert.Shrink.Hand

open Cert.Shrink Cert.Shrink.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-! ## The staged rows, by segments -/

/-- Segment `k`'s 128 staged rows: the destination of its copy. -/
abbrev pc (k : ℕ) (h : ∀ a, (![k, 0, 0] : Fin 3 → ℕ) a + S1x128x7168.size a ≤ S14x128x7168.size a) : Memref sig .tc .vmem S128x7168 .i8 :=
  (scB.slice (Rect.unit (s := S14x128x7168) ![k, 0, 0] S1x128x7168.size h) (fun _ => rfl)).squeeze S128x7168 squeezes_S1x128x7168_S128x7168
abbrev pcPt (c : Dev nD) (k : ℕ) (h : ∀ a, (![k, 0, 0] : Fin 3 → ℕ) a + S1x128x7168.size a ≤ S14x128x7168.size a) (f : Buf (Elt F) (scB.view.loc (c : Thread nD τ))) : sProp 𝕄 :=
  (pc k h).view.loc (c : Thread nD τ) ↦[(pc k h).view.set]{fullShare} f

theorem mem_pc (k : ℕ) (h) (j : S14x128x7168.Idx) : j ∈ (pc k h).view.set ↔ (j 0).val = k := by
  have e : (pc k h).view.set = (Rect.unit (s := S14x128x7168) ![k, 0, 0] S1x128x7168.size h).set := by
    rw [← View.set_slice_whole cc0_scratch0 (Rect.unit (s := S14x128x7168) ![k, 0, 0] S1x128x7168.size h)]
    exact View.set_reshape _ _
  rw [e, Rect.mem_set_unit]
  have h1 : (j 1).val < 128 := (j 1).isLt
  have h2 : (j 2).val < 7168 := (j 2).isLt
  constructor
  · intro H; have := H 0; change k ≤ (j 0).val ∧ (j 0).val < k + 1 at this; omega
  · intro H a; fin_cases a
    · show k ≤ (j 0).val ∧ (j 0).val < k + 1; omega
    · show 0 ≤ (j 1).val ∧ (j 1).val < 0 + 128; omega
    · show 0 ≤ (j 2).val ∧ (j 2).val < 0 + 7168; omega

/-- The staged rows held whole are the fourteen segments' rows held one by one. -/
theorem scB_pieces (c : Dev nD) (f : Buf (Elt F) (scB.view.loc (c : Thread nD τ))) :
    (hbPt c scB fullShare f : sProp 𝕄) = iprop(pcPt c 0 (inbPiece 0) f ∗ pcPt c 1 (inbPiece 1) f ∗ pcPt c 2 (inbPiece 2) f ∗ pcPt c 3 (inbPiece 3) f ∗ pcPt c 4 (inbPiece 4) f ∗ pcPt c 5 (inbPiece 5) f ∗ pcPt c 6 (inbPiece 6) f ∗ pcPt c 7 (inbPiece 7) f ∗ pcPt c 8 (inbPiece 8) f ∗ pcPt c 9 (inbPiece 9) f ∗ pcPt c 10 (inbPiece 10) f ∗ pcPt c 11 (inbPiece 11) f ∗ pcPt c 12 (inbPiece 12) f ∗ pcPt c 13 (inbPiece 13) f) := by
  have hu : (Finset.univ : Finset (Idx (scB.view.loc (c : Thread nD τ)))) = (Finset.univ : Finset (Fin 14)).biUnion fun k => (pc k.val (inbPiece k)).view.set := by
    ext j; simp only [Finset.mem_univ, true_iff, Finset.mem_biUnion, true_and]
    exact ⟨j 0, (mem_pc _ _ j).2 rfl⟩
  show (scB.view.loc (c : Thread nD τ) ↦[Finset.univ]{fullShare} f : sProp 𝕄) = _
  rw [hu, pointsTo_biUnion _ _ fun t _ t' _ hne => Finset.disjoint_left.mpr fun j hj hj' =>
    hne (Fin.ext (((mem_pc _ _ j).1 hj).symm.trans ((mem_pc _ _ j).1 hj'))),
    bigSep_univ_eq_bigSepL [0, 1, 2, 3, 4, 5, 6, 7, 8, 9, 10, 11, 12, 13] (by decide) (by decide)]
  rfl

/-- The pool rows of an adapter whose first slot is `v`. -/
abbrev landRows (c : Dev nD) (fp : Buf (Elt F) (hbM.view.loc (c : Thread nD τ))) (v : BitVec 32) (h : v.toNat < 2304) : S128x7168.Idx → Elt F .i8 :=
  ReadAs.same.apply ((hbM.slice (Rect.unit (s := S2500x7168) (k0_off2 v) S128x7168.size (inbPool v h)) (fun _ => rfl)).view.read (Elt F) fp)

/-- All the staged rows, from the fourteen first slots. -/
def stagedRows (c : Dev nD) (fp : Buf (Elt F) (hbM.view.loc (c : Thread nD τ))) (st : Fin 14 → BitVec 32) (h : ∀ k, (st k).toNat < 2304) :
    Buf (Elt F) (scB.view.loc (c : Thread nD τ)) :=
  fun j : S14x128x7168.Idx => landRows c fp (st (j 0)) (h (j 0)) (ix2 (j 1) (j 2))

/-- A landed copy is the segment's part of the staged rows. -/
theorem landed_eq (c : Dev nD) (fp : Buf (Elt F) (hbM.view.loc (c : Thread nD τ))) (st : Fin 14 → BitVec 32) (h : ∀ k, (st k).toNat < 2304)
    (fb : Buf (Elt F) (scB.view.loc (c : Thread nD τ))) (k : Fin 14) :
    (pcPt c k.val (inbPiece k) ((pc k.val (inbPiece k)).view.writes (Elt F) fb [⟨Rect.whole S128x7168, landRows c fp (st k) (h k)⟩]) : sProp 𝕄)
      = pcPt c k.val (inbPiece k) (stagedRows c fp st h) := by
  refine pointsTo_congr fun j hj => ?_
  obtain ⟨y, -, rfl⟩ := Finset.mem_map.1 hj
  have e := View.read_writes_cons_emb (Val := Elt F) (pc k.val (inbPiece k)).view fb (Rect.whole S128x7168) (landRows c fp (st k) (h k)) [] y
  rw [Rect.emb_whole_apply, View.read_apply] at e
  refine Eq.trans ((cast_eq _ _).symm.trans e) ?_
  have hy : (pc k.val (inbPiece k)).view.emb y = (ix3 k (y 0) (y 1) : S14x128x7168.Idx) := by
    have hr := reshapeEquiv_ix2_1ab (a := 128) (b := 7168) squeezes_S1x128x7168_S128x7168.numel_eq (y 0) (y 1)
    have hr := (congrArg _ (eq_ix2 (n0 := 128) (n1 := 7168) y)).trans hr
    show (Rect.unit (s := S14x128x7168) ![k.val, 0, 0] S1x128x7168.size (inbPiece k)).emb (Shape.reshapeEquiv _ y) = _
    rw [hr]
    funext a; refine Fin.ext ?_; fin_cases a
    · show k.val + 1 * 0 = k.val; omega
    · show 0 + 1 * (y 0).val = (y 0).val; omega
    · show 0 + 1 * (y 1).val = (y 1).val; omega
  rw [hy]
  exact congrArg (landRows c fp (st k) (h k)) (eq_ix2 (n0 := 128) (n1 := 7168) y)

/-- The pool held whole is a share of it for each of the copies (and some over). -/
theorem pool_toks (c : Dev nD) (f : Buf (Elt F) (hbM.view.loc (c : Thread nD τ))) :
    (hbPt c hbM fullShare f : sProp 𝕄) ⊣⊢ iprop(hbPt c hbM (Transfers.shareDrop fullShare 26) f ∗ hbPt c hbM (Transfers.shareTokN fullShare 0) f ∗ hbPt c hbM (Transfers.shareTokN fullShare 1) f ∗ hbPt c hbM (Transfers.shareTokN fullShare 2) f ∗ hbPt c hbM (Transfers.shareTokN fullShare 3) f ∗ hbPt c hbM (Transfers.shareTokN fullShare 4) f ∗ hbPt c hbM (Transfers.shareTokN fullShare 5) f ∗ hbPt c hbM (Transfers.shareTokN fullShare 6) f ∗ hbPt c hbM (Transfers.shareTokN fullShare 7) f ∗ hbPt c hbM (Transfers.shareTokN fullShare 8) f ∗ hbPt c hbM (Transfers.shareTokN fullShare 9) f ∗ hbPt c hbM (Transfers.shareTokN fullShare 10) f ∗ hbPt c hbM (Transfers.shareTokN fullShare 11) f ∗ hbPt c hbM (Transfers.shareTokN fullShare 12) f ∗ hbPt c hbM (Transfers.shareTokN fullShare 13) f ∗ hbPt c hbM (Transfers.shareTokN fullShare 14) f ∗ hbPt c hbM (Transfers.shareTokN fullShare 15) f ∗ hbPt c hbM (Transfers.shareTokN fullShare 16) f ∗ hbPt c hbM (Transfers.shareTokN fullShare 17) f ∗ hbPt c hbM (Transfers.shareTokN fullShare 18) f ∗ hbPt c hbM (Transfers.shareTokN fullShare 19) f ∗ hbPt c hbM (Transfers.shareTokN fullShare 20) f ∗ hbPt c hbM (Transfers.shareTokN fullShare 21) f ∗ hbPt c hbM (Transfers.shareTokN fullShare 22) f ∗ hbPt c hbM (Transfers.shareTokN fullShare 23) f ∗ hbPt c hbM (Transfers.shareTokN fullShare 24) f ∗ hbPt c hbM (Transfers.shareTokN fullShare 25) f) := by
  refine (Transfers.pointsTo_toks_range fullShare 26).trans ?_
  rw [BI.bigSep_eq_bigSepL_of_eq [0, 1, 2, 3, 4, 5, 6, 7, 8, 9, 10, 11, 12, 13, 14, 15, 16, 17, 18, 19, 20, 21, 22, 23, 24, 25] (by decide) (by decide)]
  exact .rfl

/-- The cells of the kernel's own semaphore array, all at zero. -/
abbrev semsZero (c : Dev nD) : sProp 𝕄 := iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)

/-! ## The copies -/

/-- The copies at the first grid point (nothing at the others); then `kk`. -/
def stageA (i : grid0.Coords) (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    {α : Type} (kk : Prog (TpuEff nD τ sig (Elt F) Λ₀ .tc) α) : Prog (TpuEff nD τ sig (Elt F) Λ₀ .tc) α := do
  if k0_h1 : k0_cond1 i = 1#1 then do
    k0_part1 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part2 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part3 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part4 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part5 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part6 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part7 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part8 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part9 i arg1 harg1 arg2 harg2 arg3 harg3 arg4 harg4 arg5 harg5 arg6 harg6 arg7 harg7 hbM (Memref.isWhole_whole _) arg9 harg9 arg10 harg10 scB (Memref.isWhole_whole _) cc0_scratch1 k0_h1
    let v450 : Elt F .i32 ← smemLoad arg5 (Rect.unit (s := S14) ![13] S1.size inb_S14_S1_13) numel1_S1 rfl
    have k0_hw55 : k0_chk55 i v450 := (← Prog.lift (TpuEff.assume (k0_chk55 i v450) (k0_chk55.dec i v450))).down
    let v452 : Elt F .i32 ← smemLoad arg1 (Rect.unit (s := S23) (k0_off55 v450) S1.size (k0_off55_inb i v450 k0_hw55 k0_h1)) numel1_S1 rfl
    have k0_hw56 : k0_chk56 i v452 := (← Prog.lift (TpuEff.assume (k0_chk56 i v452) (k0_chk56.dec i v452))).down
    let v455 : DmaSems sig S1 := cc0_scratch1.slice (Rect.unit (s := S14) ![13] S1.size inb_S14_S1_13)
    let v456 : DmaSems sig S_ := v455.squeeze S_ squeezes_S1_S_
    let v457 : Memref sig .tc .vmem S1x128x7168 .i8 := scB.slice (Rect.unit (s := S14x128x7168) ![13, 0, 0] S1x128x7168.size inb_S14x128x7168_S1x128x7168_13_0_0) (fun _ => rfl)
    let v458 : Memref sig .tc .vmem S128x7168 .i8 := v457.squeeze S128x7168 squeezes_S1x128x7168_S128x7168
    let v459 : Memref sig .tc .hbm S128x7168 .i8 := hbM.slice (Rect.unit (s := S2500x7168) (k0_off56 v452) S128x7168.size (k0_off56_inb i v452 k0_hw56 k0_h1)) (fun _ => rfl)
    Prog.lift (.waitDma2 v456.sem v459 v458 ((Memref.isWhole_whole main_arg1).wordExact_slice rfl _ (k0_off56_wordsi8 i v452 k0_hw56 k0_h1)) (((Memref.isWhole_whole cc0_scratch0).wordExact_slice rfl _ wordsi8_S14x128x7168_S1x128x7168_13_0_0).reshape _ _))
    pure ⟨⟩
  else do
    pure ⟨⟩
  kk

/-- The staged rows, from the tables the body reads. -/
def stagedOf (c : Dev nD) (arg1 : Memref sig .tc .smem S23 .i32) (arg5 : Memref sig .tc .smem S14 .i32) (f1 : Buf (Elt F) (arg1.view.loc (c : Thread nD τ))) (f5 : Buf (Elt F) (arg5.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : Buf (Elt F) (scB.view.loc (c : Thread nD τ)) :=
  stagedRows c fp (fun k => startOf c arg1 f1 (adapterOf c arg5 f5 k) (hsg _ _)) (fun k => hst _ _)

set_option maxHeartbeats 8000000 in
/-- The copies run at the first point, or the rows are staged already: either way they end staged. -/
theorem stageA_sound (c : Dev nD) (i : grid0.Coords) (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f5 : Buf (Elt F) (arg5.view.loc (c : Thread nD τ))) (fp : Buf (Elt F) (hbM.view.loc (c : Thread nD τ))) (fb : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (hb : k0_cond1 i = 1#1 ∨ fb = stagedOf c arg1 arg5 f1 f5 fp hst hsg)
    (W : Waits sig Unit) {α : Type} (kk : Prog (TpuEff nD τ sig (Elt F) Λ₀ .tc) α) (K : α → sProp 𝕄) :
    iprop(hbPt c arg1 fullShare f1 ∗ hbPt c arg5 fullShare f5 ∗ hbPt c scB fullShare fb ∗ hbPt c hbM fullShare fp
        ∗ semsZero c ∗ owes (c : Thread nD τ) 0 W
        ∗ (iprop(hbPt c arg1 fullShare f1 ∗ hbPt c arg5 fullShare f5 ∗ hbPt c scB fullShare (stagedOf c arg1 arg5 f1 f5 fp hst hsg) ∗ hbPt c hbM fullShare fp
            ∗ semsZero c ∗ ∃ W', owes (c : Thread nD τ) 0 W')
          -∗ wp frame (wpE (defs₀ (F := F)) Variants.none c none) Set.univ kk K))
      ⊢ wp frame (wpE (defs₀ (F := F)) Variants.none c none) Set.univ
          (stageA i arg1 harg1 arg2 harg2 arg3 harg3 arg4 harg4 arg5 harg5 arg6 harg6 arg7 harg7 arg9 harg9 arg10 harg10 kk) K := by
  unfold stageA
  iintro ⟨H1, H5, HB, HP, ⟨Hq0, Hq1, Hq2, Hq3, Hq4, Hq5, Hq6, Hq7, Hq8, Hq9, Hq10, Hq11, Hq12, Hq13⟩, Hw, Hk⟩
  split
  · next h =>
    ihave HP' := (pool_toks c fp).1 $$ HP
    icases HP' with ⟨HPd, HT0, HT1, HT2, HT3, HT4, HT5, HT6, HT7, HT8, HT9, HT10, HT11, HT12, HT13, HT14, HT15, HT16, HT17, HT18, HT19, HT20, HT21, HT22, HT23, HT24, HT25⟩
    ihave HB' := (Entails.of_eq (scB_pieces c fb)) $$ HB
    icases HB' with ⟨HB0, HB1, HB2, HB3, HB4, HB5, HB6, HB7, HB8, HB9, HB10, HB11, HB12, HB13⟩
    sl_exec (disch := first | exact chkSeg _ _ (hsg _ _) | exact chkSlot _ _ (hst _ _))
    iapply Hk
    isplitl [H1]; · iexact H1
    isplitl [H5]; · iexact H5
    isplitl [HB0 HB1 HB2 HB3 HB4 HB5 HB6 HB7 HB8 HB9 HB10 HB11 HB12 HB13]
    · iapply (Entails.of_eq (scB_pieces c (stagedOf c arg1 arg5 f1 f5 fp hst hsg)).symm)
      isplitl [HB0]; · iapply (Entails.of_eq (landed_eq c fp _ _ fb 0)); iexact HB0
      isplitl [HB1]; · iapply (Entails.of_eq (landed_eq c fp _ _ fb 1)); iexact HB1
      isplitl [HB2]; · iapply (Entails.of_eq (landed_eq c fp _ _ fb 2)); iexact HB2
      isplitl [HB3]; · iapply (Entails.of_eq (landed_eq c fp _ _ fb 3)); iexact HB3
      isplitl [HB4]; · iapply (Entails.of_eq (landed_eq c fp _ _ fb 4)); iexact HB4
      isplitl [HB5]; · iapply (Entails.of_eq (landed_eq c fp _ _ fb 5)); iexact HB5
      isplitl [HB6]; · iapply (Entails.of_eq (landed_eq c fp _ _ fb 6)); iexact HB6
      isplitl [HB7]; · iapply (Entails.of_eq (landed_eq c fp _ _ fb 7)); iexact HB7
      isplitl [HB8]; · iapply (Entails.of_eq (landed_eq c fp _ _ fb 8)); iexact HB8
      isplitl [HB9]; · iapply (Entails.of_eq (landed_eq c fp _ _ fb 9)); iexact HB9
      isplitl [HB10]; · iapply (Entails.of_eq (landed_eq c fp _ _ fb 10)); iexact HB10
      isplitl [HB11]; · iapply (Entails.of_eq (landed_eq c fp _ _ fb 11)); iexact HB11
      isplitl [HB12]; · iapply (Entails.of_eq (landed_eq c fp _ _ fb 12)); iexact HB12
      iapply (Entails.of_eq (landed_eq c fp _ _ fb 13)); iexact HB13
    isplitl [HPd HT0 HT1 HT2 HT3 HT4 HT5 HT6 HT7 HT8 HT9 HT10 HT11 HT12 HT13 HT14 HT15 HT16 HT17 HT18 HT19 HT20 HT21 HT22 HT23 HT24 HT25]
    · iapply (pool_toks c fp).2
      isplitl [HPd]; · iexact HPd
      isplitl [HT0]; · iexact HT0
      isplitl [HT1]; · iexact HT1
      isplitl [HT2]; · iexact HT2
      isplitl [HT3]; · iexact HT3
      isplitl [HT4]; · iexact HT4
      isplitl [HT5]; · iexact HT5
      isplitl [HT6]; · iexact HT6
      isplitl [HT7]; · iexact HT7
      isplitl [HT8]; · iexact HT8
      isplitl [HT9]; · iexact HT9
      isplitl [HT10]; · iexact HT10
      isplitl [HT11]; · iexact HT11
      isplitl [HT12]; · iexact HT12
      isplitl [HT13]; · iexact HT13
      isplitl [HT14]; · iexact HT14
      isplitl [HT15]; · iexact HT15
      isplitl [HT16]; · iexact HT16
      isplitl [HT17]; · iexact HT17
      isplitl [HT18]; · iexact HT18
      isplitl [HT19]; · iexact HT19
      isplitl [HT20]; · iexact HT20
      isplitl [HT21]; · iexact HT21
      isplitl [HT22]; · iexact HT22
      isplitl [HT23]; · iexact HT23
      isplitl [HT24]; · iexact HT24
      iexact HT25
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexists _; iexact Hw
  · next h =>
    rw [hb.resolve_left h]
    iapply Hk
    isplitl [H1]; · iexact H1
    isplitl [H5]; · iexact H5
    isplitl [HB]; · iexact HB
    isplitl [HP]; · iexact HP
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexists _; iexact Hw

end Cert.Shrink.Hand

end
-- ==== Proof.Shrink.Run.lean ====
/- The shrink body run once from its operands at any contents: the copies at the first point, the two blocks cleared, the
   fourteen segments. -/
module

public import proofs.«01_k».proof.Proof.Gen.Shrink.Frame
public import proofs.«01_k».proof.Proof.Gen.Shrink.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.Shrink.Staged

@[expose] public section

noncomputable section

namespace Cert.Shrink.Hand

open Cert.Shrink Cert.Shrink.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

theorem inbOff (n : ℕ) (h : n < 15) : ∀ a, (![n] : Fin 1 → ℕ) a + S1.size a ≤ S15.size a := by
  intro a; fin_cases a; show n + 1 ≤ 15; omega
/-- Where segment `n` starts (and segment `n - 1` ends). -/
def offAt (c : Dev nD) (arg4 : Memref sig .tc .smem S15 .i32) (f4 : Buf (Elt F) (arg4.view.loc (c : Thread nD τ))) (n : ℕ) (h : n < 15) : Elt F .i32 :=
  arg4.view.readAt (Elt F) (Rect.unit (s := S15) ![n] S1.size (inbOff n h)).toLoadRect f4 (Shape.Idx.first (numel1_S1.symm ▸ Nat.one_pos))

/-- The two result blocks after `n` segments. -/
def stAt (c : Dev nD) (i : grid0.Coords) (arg1 : Memref sig .tc .smem S23 .i32) (arg2 : Memref sig .tc .smem S23 .i32) (arg3 : Memref sig .tc .smem S23 .f32) (arg4 : Memref sig .tc .smem S15 .i32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : (n : ℕ) → n ≤ 14 → FVec F S128x128 .bf16 × FVec F S128x96 .bf16
  | 0, _ => (k0_pay38, k0_pay39)
  | n + 1, h => segSt c i arg1 arg2 arg3 arg5 arg6 arg7 f1 f2 f3 f5 f6 f7 (stagedOf c arg1 arg5 f1 f5 fp hst hsg) hst hsg ⟨n, h⟩ (offAt c arg4 f4 n (by omega)) (offAt c arg4 f4 (n + 1) (by omega))
      (stAt c i arg1 arg2 arg3 arg4 arg5 arg6 arg7 f1 f2 f3 f4 f5 f6 f7 fp hst hsg n (by omega))

/-- What every segment reads and leaves as it was. -/
def segCtx (c : Dev nD) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32) (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : sProp 𝕄 :=
  iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare (stagedOf c arg1 arg5 f1 f5 fp hst hsg))

/-- Segment `n` runs, then what follows it. -/
theorem segAt_sound (n : ℕ) (hn : n < 14) (c : Dev nD) (i : grid0.Coords) (arg1 : Memref sig .tc .smem S23 .i32) (arg2 : Memref sig .tc .smem S23 .i32) (arg3 : Memref sig .tc .smem S23 .f32) (arg4 : Memref sig .tc .smem S15 .i32) (arg5 : Memref sig .tc .smem S14 .i32) (arg6 : Memref sig .tc .vmem S128x7168 .bf16) (arg7 : Memref sig .tc .vmem S1x2500 .f32) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    {α : Type} (kk : Prog (TpuEff nD τ sig (Elt F) Λ₀ .tc) α) (K : α → sProp 𝕄) :
    iprop(segCtx c arg1 arg2 arg3 arg5 arg6 arg7 f1 f2 f3 f5 f6 f7 fp hst hsg ∗ hbPt c arg9 fullShare (harg9.unread (stAt c i arg1 arg2 arg3 arg4 arg5 arg6 arg7 f1 f2 f3 f4 f5 f6 f7 fp hst hsg n (by omega)).1) ∗ hbPt c arg10 fullShare (harg10.unread (stAt c i arg1 arg2 arg3 arg4 arg5 arg6 arg7 f1 f2 f3 f4 f5 f6 f7 fp hst hsg n (by omega)).2)
        ∗ (iprop(segCtx c arg1 arg2 arg3 arg5 arg6 arg7 f1 f2 f3 f5 f6 f7 fp hst hsg ∗ hbPt c arg9 fullShare (harg9.unread (stAt c i arg1 arg2 arg3 arg4 arg5 arg6 arg7 f1 f2 f3 f4 f5 f6 f7 fp hst hsg (n + 1) (by omega)).1) ∗ hbPt c arg10 fullShare (harg10.unread (stAt c i arg1 arg2 arg3 arg4 arg5 arg6 arg7 f1 f2 f3 f4 f5 f6 f7 fp hst hsg (n + 1) (by omega)).2))
          -∗ wp frame (wpE (defs₀ (F := F)) Variants.none c none) Set.univ kk K))
      ⊢ wp frame (wpE (defs₀ (F := F)) Variants.none c none) Set.univ
          (segA ⟨n, hn⟩ i arg1 arg2 arg3 arg5 arg6 arg7 arg9 harg9 arg10 harg10 (k0_pay40 i) (iota .tc S128x128 32 [1] iota_S128x128_d1_w32) (offAt c arg4 f4 n (by omega)) (offAt c arg4 f4 (n + 1) (by omega)) kk) K := by
  unfold segCtx
  iintro ⟨⟨H1, H2, H3, H5, H6, H7, HB⟩, H9, H10, Hk⟩
  iapply (segA_sound c ⟨n, hn⟩ i arg1 arg2 arg3 arg5 arg6 arg7 arg9 harg9 arg10 harg10 f1 f2 f3 f5 f6 f7 _ hst hsg _ _ _)
  isplitl [H1]; · iexact H1
  isplitl [H2]; · iexact H2
  isplitl [H3]; · iexact H3
  isplitl [H5]; · iexact H5
  isplitl [H6]; · iexact H6
  isplitl [H7]; · iexact H7
  isplitl [HB]; · iexact HB
  isplitl [H9]; · iexact H9
  isplitl [H10]; · iexact H10
  iintro ⟨H1, H2, H3, H5, H6, H7, HB, H9, H10⟩
  iapply Hk
  isplitr [H9 H10]
  · isplitl [H1]; · iexact H1
    isplitl [H2]; · iexact H2
    isplitl [H3]; · iexact H3
    isplitl [H5]; · iexact H5
    isplitl [H6]; · iexact H6
    isplitl [H7]; · iexact H7
    iexact HB
  isplitl [H9]; · iexact H9
  iexact H10

set_option maxHeartbeats 8000000 in
/-- The body's run. -/
theorem kernelRun (c : Dev nD) (i : grid0.Coords)
    (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (f9 : Buf (Elt F) (arg9.view.loc (c : Thread nD τ))) (f10 : Buf (Elt F) (arg10.view.loc (c : Thread nD τ))) (fp : Buf (Elt F) (hbM.view.loc (c : Thread nD τ))) (fb : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (hb : k0_cond1 i = 1#1 ∨ fb = (stagedOf c arg1 arg5 f1 f5 fp hst hsg))
    (W : Waits sig Unit) (K : PUnit → sProp 𝕄) :
    iprop(hbPt c arg1 fullShare f1 ∗ hbPt c arg2 fullShare f2 ∗ hbPt c arg3 fullShare f3 ∗ hbPt c arg4 fullShare f4 ∗ hbPt c arg5 fullShare f5 ∗ hbPt c arg6 fullShare f6 ∗ hbPt c arg7 fullShare f7 ∗ hbPt c arg9 fullShare f9 ∗ hbPt c arg10 fullShare f10
        ∗ hbPt c scB fullShare fb ∗ hbPt c hbM fullShare fp ∗ semsZero c ∗ owes (c : Thread nD τ) 0 W
        ∗ (iprop(hbPt c arg1 fullShare f1 ∗ hbPt c arg2 fullShare f2 ∗ hbPt c arg3 fullShare f3 ∗ hbPt c arg4 fullShare f4 ∗ hbPt c arg5 fullShare f5 ∗ hbPt c arg6 fullShare f6 ∗ hbPt c arg7 fullShare f7
            ∗ hbPt c arg9 fullShare (harg9.unread (stAt c i arg1 arg2 arg3 arg4 arg5 arg6 arg7 f1 f2 f3 f4 f5 f6 f7 fp hst hsg 14 le_rfl).1) ∗ hbPt c arg10 fullShare (harg10.unread (stAt c i arg1 arg2 arg3 arg4 arg5 arg6 arg7 f1 f2 f3 f4 f5 f6 f7 fp hst hsg 14 le_rfl).2)
            ∗ hbPt c scB fullShare (stagedOf c arg1 arg5 f1 f5 fp hst hsg) ∗ hbPt c hbM fullShare fp ∗ semsZero c ∗ ∃ W', owes (c : Thread nD τ) 0 W') -∗ K ⟨⟩))
      ⊢ wp frame (wpE (defs₀ (F := F)) Variants.none c none) Set.univ
          (cc0_shrink i arg1 harg1 arg2 harg2 arg3 harg3 arg4 harg4 arg5 harg5 arg6 harg6 arg7 harg7 hbM (Memref.isWhole_whole _) arg9 harg9 arg10 harg10 scB (Memref.isWhole_whole _) cc0_scratch1) K := by
  rw [cc0_shrink_eq_skeleton]; unfold cc0_shrink_skel
  iintro ⟨H1, H2, H3, H4, H5, H6, H7, H9, H10, HB, HP, Hq, Hw, Hk⟩
  set_option sl_exec.stopBefore "k0_cond1" in
  sl_exec
  iapply (stageA_sound c i arg1 harg1 arg2 harg2 arg3 harg3 arg4 harg4 arg5 harg5 arg6 harg6 arg7 harg7 arg9 harg9 arg10 harg10 f1 f5 fp fb hst hsg hb W)
  isplitl [H1]; · iexact H1
  isplitl [H5]; · iexact H5
  isplitl [HB]; · iexact HB
  isplitl [HP]; · iexact HP
  isplitl [Hq]; · iexact Hq
  isplitl [Hw]; · iexact Hw
  iintro ⟨H1, H5, HB, HP, Hq, Hw⟩
  set_option sl_exec.stopBefore "k0_cond2" in
  sl_exec
  ihave H9 := (Entails.of_eq (congrArg (hbPt c arg9 fullShare) (init9 arg9 harg9 f9 k0_pay38))) $$ [H9]
  · iexact H9
  ihave H10 := (Entails.of_eq (congrArg (hbPt c arg10 fullShare) (init10 arg10 harg10 f10 k0_pay39))) $$ [H10]
  · iexact H10
  ihave HC : segCtx c arg1 arg2 arg3 arg5 arg6 arg7 f1 f2 f3 f5 f6 f7 fp hst hsg $$ [H1 H2 H3 H5 H6 H7 HB]
  · unfold segCtx
    isplitl [H1]; · iexact H1
    isplitl [H2]; · iexact H2
    isplitl [H3]; · iexact H3
    isplitl [H5]; · iexact H5
    isplitl [H6]; · iexact H6
    isplitl [H7]; · iexact H7
    iexact HB
  -- segment 0
  iapply (segAt_sound 0 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond3" in
  sl_exec
  -- segment 1
  iapply (segAt_sound 1 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond4" in
  sl_exec
  -- segment 2
  iapply (segAt_sound 2 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond5" in
  sl_exec
  -- segment 3
  iapply (segAt_sound 3 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond6" in
  sl_exec
  -- segment 4
  iapply (segAt_sound 4 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond7" in
  sl_exec
  -- segment 5
  iapply (segAt_sound 5 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond8" in
  sl_exec
  -- segment 6
  iapply (segAt_sound 6 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond9" in
  sl_exec
  -- segment 7
  iapply (segAt_sound 7 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond10" in
  sl_exec
  -- segment 8
  iapply (segAt_sound 8 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond11" in
  sl_exec
  -- segment 9
  iapply (segAt_sound 9 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond12" in
  sl_exec
  -- segment 10
  iapply (segAt_sound 10 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond13" in
  sl_exec
  -- segment 11
  iapply (segAt_sound 11 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond14" in
  sl_exec
  -- segment 12
  iapply (segAt_sound 12 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond15" in
  sl_exec
  -- segment 13
  iapply (segAt_sound 13 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  unfold segCtx
  icases HC with ⟨H1, H2, H3, H5, H6, H7, HB⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [HB]; · iexact HB
  isplitl [HP]; · iexact HP
  isplitl [Hq]; · iexact Hq
  iexact Hw

end Cert.Shrink.Hand

end
-- ==== Proof.Shrink.Frame.lean ====
/- The launch: every point of the grid runs the shrink body (`kernelRun`) on the blocks staged for it. The rows copied at the
   first point stay in the scratch for the others, which is the invariant between points. -/
module

public import proofs.«01_k».proof.Proof.Gen.Shrink.Frame
public import proofs.«01_k».proof.Proof.Gen.Shrink.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.Gen.Shrink.Points
public import proofs.«01_k».proof.Proof.Shrink.Tables
public import proofs.«01_k».proof.Proof.Shrink.Run

@[expose] public section

noncomputable section

namespace Cert.Shrink.Hand

open Cert.Shrink Cert.Shrink.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

open Cert.Pre_shrink_tables_in_range (Tables)

variable (m : (ℓ : Loc nD τ sig) → Buf (Elt F) ℓ) (ρ : Dev nD → PrngReg)

/-! ## The operands the body is handed -/

/-- Window by window, the staging buffer the body is handed at a point, and its wholeness. -/
abbrev ms0 (t : Fin cfg0.N) : Memref sig .tc .smem S23 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S23 .i32 := win0_1.stage (cfg0.slots t 1)
abbrev hs1 (t : Fin cfg0.N) : (ms1 t).IsWhole := hstage0_1 ((cfg0.slots t 1).cast nbuf0_1)
abbrev ms2 (t : Fin cfg0.N) : Memref sig .tc .smem S23 .f32 := win0_2.stage (cfg0.slots t 2)
abbrev hs2 (t : Fin cfg0.N) : (ms2 t).IsWhole := hstage0_2 ((cfg0.slots t 2).cast nbuf0_2)
abbrev ms3 (t : Fin cfg0.N) : Memref sig .tc .smem S15 .i32 := win0_3.stage (cfg0.slots t 3)
abbrev hs3 (t : Fin cfg0.N) : (ms3 t).IsWhole := hstage0_3 ((cfg0.slots t 3).cast nbuf0_3)
abbrev ms4 (t : Fin cfg0.N) : Memref sig .tc .smem S14 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x7168 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2500 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x96 .bf16 := win0_8.stage (cfg0.slots t 8)
abbrev hs8 (t : Fin cfg0.N) : (ms8 t).IsWhole := hstage0_8 ((cfg0.slots t 8).cast nbuf0_8)
/-- Input by input, its staging buffer's contents when it holds the block of a point. -/
abbrev bk0 (c : Dev nD) (t : Fin cfg0.N) : Buf (Elt F) ((ms0 t).view.loc (c : Thread nD τ)) := (hs0 t).unread (iblk m c 0 t)
abbrev bk1 (c : Dev nD) (t : Fin cfg0.N) : Buf (Elt F) ((ms1 t).view.loc (c : Thread nD τ)) := (hs1 t).unread (iblk m c 1 t)
abbrev bk2 (c : Dev nD) (t : Fin cfg0.N) : Buf (Elt F) ((ms2 t).view.loc (c : Thread nD τ)) := (hs2 t).unread (iblk m c 2 t)
abbrev bk3 (c : Dev nD) (t : Fin cfg0.N) : Buf (Elt F) ((ms3 t).view.loc (c : Thread nD τ)) := (hs3 t).unread (iblk m c 3 t)
abbrev bk4 (c : Dev nD) (t : Fin cfg0.N) : Buf (Elt F) ((ms4 t).view.loc (c : Thread nD τ)) := (hs4 t).unread (iblk m c 4 t)
abbrev bk5 (c : Dev nD) (t : Fin cfg0.N) : Buf (Elt F) ((ms5 t).view.loc (c : Thread nD τ)) := (hs5 t).unread (iblk m c 5 t)
abbrev bk6 (c : Dev nD) (t : Fin cfg0.N) : Buf (Elt F) ((ms6 t).view.loc (c : Thread nD τ)) := (hs6 t).unread (iblk m c 6 t)

/-! ## What the body assumes of the tables -/

/-- The index tables are in range on every core. -/
abbrev Hyps : Prop := ∀ c : Dev nD,
  Tables (m ((c : Thread nD τ).loc main_arg3)) (m ((c : Thread nD τ).loc main_arg4)) (m ((c : Thread nD τ).loc main_arg6)) (m ((c : Thread nD τ).loc main_arg7))

/-- The block of table window 0 is its table. -/
theorem tab0 (c : Dev nD) (t : Fin cfg0.N) (y : S23.Idx) : iblk m c 0 t y = m ((c : Thread nD τ).loc main_arg3) y := by
  unfold iblk; rw [View.read_apply, cast_eq]
  refine (congrFun (V_main_arg3 m c) _).trans (congrArg _ (funext fun a => Fin.ext ?_))
  fin_cases a; show 0 + 1 * (y 0).val = (y 0).val; omega
/-- The block of table window 1 is its table. -/
theorem tab1 (c : Dev nD) (t : Fin cfg0.N) (y : S23.Idx) : iblk m c 1 t y = m ((c : Thread nD τ).loc main_arg4) y := by
  unfold iblk; rw [View.read_apply, cast_eq]
  refine (congrFun (V_main_arg4 m c) _).trans (congrArg _ (funext fun a => Fin.ext ?_))
  fin_cases a; show 0 + 1 * (y 0).val = (y 0).val; omega
/-- The block of table window 2 is its table. -/
theorem tab2 (c : Dev nD) (t : Fin cfg0.N) (y : S23.Idx) : iblk m c 2 t y = m ((c : Thread nD τ).loc main_arg5) y := by
  unfold iblk; rw [View.read_apply, cast_eq]
  refine (congrFun (V_main_arg5 m c) _).trans (congrArg _ (funext fun a => Fin.ext ?_))
  fin_cases a; show 0 + 1 * (y 0).val = (y 0).val; omega
/-- The block of table window 3 is its table. -/
theorem tab3 (c : Dev nD) (t : Fin cfg0.N) (y : S15.Idx) : iblk m c 3 t y = m ((c : Thread nD τ).loc main_arg6) y := by
  unfold iblk; rw [View.read_apply, cast_eq]
  refine (congrFun (V_main_arg6 m c) _).trans (congrArg _ (funext fun a => Fin.ext ?_))
  fin_cases a; show 0 + 1 * (y 0).val = (y 0).val; omega
/-- The block of table window 4 is its table. -/
theorem tab4 (c : Dev nD) (t : Fin cfg0.N) (y : S14.Idx) : iblk m c 4 t y = m ((c : Thread nD τ).loc main_arg7) y := by
  unfold iblk; rw [View.read_apply, cast_eq]
  refine (congrFun (V_main_arg7 m c) _).trans (congrArg _ (funext fun a => Fin.ext ?_))
  fin_cases a; show 0 + 1 * (y 0).val = (y 0).val; omega
variable {m} in
/-- A word loaded from the staged first slots is one of the table's, so in range; -/
theorem hst (hm : Hyps m) (c : Dev nD) (t : Fin cfg0.N) (r : LoadRect S23) (y) :
    BitVec.toNat (w := 32) ((ms0 t).view.readAt (Elt F) r (bk0 m c t) y) < 2304 := by
  rw [(hs0 t).readAt_unread]; rw [tab0]; exact (hm c).st_lt _
variable {m} in
/-- and so is one loaded from the staged adapter numbers. -/
theorem hsg (hm : Hyps m) (c : Dev nD) (t : Fin cfg0.N) (r : LoadRect S14) (y) :
    BitVec.toNat (w := 32) ((ms4 t).view.readAt (Elt F) r (bk4 m c t) y) < 23 := by
  rw [(hs4 t).readAt_unread]; rw [tab4]; exact (hm c).sg_lt _
/-- The staged offsets, adapters and first slots are the tables, word for word. -/
theorem offAt_eq (c : Dev nD) (t : Fin cfg0.N) (n : ℕ) (h : n < 15) :
    offAt c (ms3 t) (bk3 m c t) n h = m ((c : Thread nD τ).loc main_arg6) (ix1 (⟨n, h⟩ : Fin 15)) := by
  unfold offAt; rw [(hs3 t).readAt_unread, tab3]
  refine congrArg _ (funext fun a => Fin.ext ?_)
  fin_cases a; show n + 1 * 0 = n; omega
theorem adapter_eq (c : Dev nD) (t : Fin cfg0.N) (k : Fin 14) :
    adapterOf c (ms4 t) (bk4 m c t) k = m ((c : Thread nD τ).loc main_arg7) (ix1 k) := by
  unfold adapterOf; rw [(hs4 t).readAt_unread, tab4]
  refine congrArg _ (funext fun a => Fin.ext ?_)
  fin_cases a; show k.val + 1 * 0 = k.val; omega
theorem start_eq (c : Dev nD) (t : Fin cfg0.N) (v : BitVec 32) (h : v.toNat < 23) :
    startOf c (ms0 t) (bk0 m c t) v h = m ((c : Thread nD τ).loc main_arg3) (ix1 (⟨v.toNat, h⟩ : Fin 23)) := by
  unfold startOf; rw [(hs0 t).readAt_unread, tab0]
  refine congrArg _ (funext fun a => Fin.ext ?_)
  fin_cases a; show v.toNat + 1 * 0 = v.toNat; omega
theorem rank_eq (c : Dev nD) (t : Fin cfg0.N) (v : BitVec 32) (h : v.toNat < 23) :
    rankOf c (ms1 t) (bk1 m c t) v h = m ((c : Thread nD τ).loc main_arg4) (ix1 (⟨v.toNat, h⟩ : Fin 23)) := by
  unfold rankOf; rw [(hs1 t).readAt_unread, tab1]
  refine congrArg _ (funext fun a => Fin.ext ?_)
  fin_cases a; show v.toNat + 1 * 0 = v.toNat; omega
theorem scal_eq (c : Dev nD) (t : Fin cfg0.N) (v : BitVec 32) (h : v.toNat < 23) :
    scalOf c (ms2 t) (bk2 m c t) v h = m ((c : Thread nD τ).loc main_arg5) (ix1 (⟨v.toNat, h⟩ : Fin 23)) := by
  unfold scalOf; rw [(hs2 t).readAt_unread, tab2]
  refine congrArg _ (funext fun a => Fin.ext ?_)
  fin_cases a; show v.toNat + 1 * 0 = v.toNat; omega

variable {m}

/-- Segment `k`'s adapter, its first slot, its number of slots and its scaling, from the tables. -/
def adT (hm : Hyps m) (c : Dev nD) (k : Fin 14) : Fin 23 := ⟨BitVec.toNat (w := 32) (m ((c : Thread nD τ).loc main_arg7) (ix1 k)), (hm c).sg_lt _⟩
def stT (hm : Hyps m) (c : Dev nD) (k : Fin 14) : BitVec 32 := m ((c : Thread nD τ).loc main_arg3) (ix1 (adT hm c k))
def rkT (hm : Hyps m) (c : Dev nD) (k : Fin 14) : BitVec 32 := m ((c : Thread nD τ).loc main_arg4) (ix1 (adT hm c k))
def scT (hm : Hyps m) (c : Dev nD) (k : Fin 14) : F .f32 := m ((c : Thread nD τ).loc main_arg5) (ix1 (adT hm c k))
theorem stT_lt (hm : Hyps m) (c : Dev nD) (k : Fin 14) : (stT hm c k).toNat < 2304 := (hm c).st_lt _
theorem start_tab (hm : Hyps m) (c : Dev nD) (t : Fin cfg0.N) (k : Fin 14) :
    startOf c (ms0 t) (bk0 m c t) (adapterOf c (ms4 t) (bk4 m c t) k) (hsg hm c t _ _) = stT hm c k := by
  refine (start_eq m c t (adapterOf c (ms4 t) (bk4 m c t) k) (hsg hm c t _ _)).trans ?_
  unfold stT adT
  exact congrArg _ (congrArg ix1 (Fin.ext (congrArg BitVec.toNat (adapter_eq m c t k))))
theorem rank_tab (hm : Hyps m) (c : Dev nD) (t : Fin cfg0.N) (k : Fin 14) :
    rankOf c (ms1 t) (bk1 m c t) (adapterOf c (ms4 t) (bk4 m c t) k) (hsg hm c t _ _) = rkT hm c k := by
  refine (rank_eq m c t (adapterOf c (ms4 t) (bk4 m c t) k) (hsg hm c t _ _)).trans ?_
  unfold rkT adT
  exact congrArg _ (congrArg ix1 (Fin.ext (congrArg BitVec.toNat (adapter_eq m c t k))))
theorem scal_tab (hm : Hyps m) (c : Dev nD) (t : Fin cfg0.N) (k : Fin 14) :
    scalOf c (ms2 t) (bk2 m c t) (adapterOf c (ms4 t) (bk4 m c t) k) (hsg hm c t _ _) = scT hm c k := by
  refine (scal_eq m c t (adapterOf c (ms4 t) (bk4 m c t) k) (hsg hm c t _ _)).trans ?_
  unfold scT adT
  exact congrArg _ (congrArg ix1 (Fin.ext (congrArg BitVec.toNat (adapter_eq m c t k))))
/-- The staged rows: the same whichever point's blocks they are read from. -/
def staged (hm : Hyps m) (c : Dev nD) : Buf (Elt F) (scB.view.loc (c : Thread nD τ)) :=
  stagedRows c (V m c main_arg1) (stT hm c) (stT_lt hm c)
theorem stagedRows_congr (c : Dev nD) (fp : Buf (Elt F) (hbM.view.loc (c : Thread nD τ))) (st st' : Fin 14 → BitVec 32) (h : ∀ k, (st k).toNat < 2304)
    (h' : ∀ k, (st' k).toNat < 2304) (e : st = st') : stagedRows c fp st h = stagedRows c fp st' h' := by subst e; rfl
theorem staged_eq (hm : Hyps m) (c : Dev nD) (t : Fin cfg0.N) :
    stagedOf c (ms0 t) (ms4 t) (bk0 m c t) (bk4 m c t) (V m c main_arg1) (hst hm c t) (hsg hm c t) = staged hm c :=
  stagedRows_congr c _ _ _ _ _ (funext fun k => start_tab hm c t k)

/-! ## The invariant between points -/

/-- The fourteen cells of the kernel's own semaphore array. -/
abbrev osem0 : Fin 14 → SemLoc sig := fun j => (![SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semsZero c := by
  rw [Pipeline.ownSems0_eq_of_list c osem0 [0, 1, 2, 3, 4, 5, 6, 7, 8, 9, 10, 11, 12, 13] (by decide) (by decide)]; rfl
/-- The pool, left in HBM: no window's array. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM fullShare (V m c main_arg1)) := by
  rw [BI.bigSep_eq_bigSepL_of_eq [main_arg1] (by decide) (by decide)]; rfl
theorem PhiD0_eq (c : Dev nD) :
    (Pipeline.ΦD osem0 spec0 H0 (V m) c : sProp 𝕄)
      = iprop((∃ f, hbPt c scB fullShare f) ∗ (∃ r, prngReg c r) ∗ semsZero c ∗ hbPt c hbM fullShare (V m c main_arg1)) := by
  rw [Pipeline.ΦD_eq, scopedRest0_eq, ownSems00_eq, hbmPts0_eq]; try rfl

/-- Before point `n`: the scratch holding the staged rows unless `n` is the first, the generator register at some state, the
    cells at zero, the pool at its launch contents. -/
def Phi (hm : Hyps m) (c : Dev nD) (n : ℕ) : sProp 𝕄 :=
  iprop((∃ f, ⌜n = 0 ∨ f = staged hm c⌝ ∗ hbPt c scB fullShare f) ∗ (∃ r, prngReg c r) ∗ semsZero c ∗ hbPt c hbM fullShare (V m c main_arg1))
theorem Phi_in (hm : Hyps m) (c : Dev nD) : (Pipeline.ΦD osem0 spec0 H0 (V m) c : sProp 𝕄) ⊢ Phi hm c 0 := by
  rw [PhiD0_eq]; unfold Phi
  iintro ⟨⟨%f, HB⟩, Hr⟩
  isplitl [HB]
  · iexists f; isplitr; · ipureintro; exact Or.inl rfl
    iexact HB
  iexact Hr
theorem Phi_out (hm : Hyps m) (c : Dev nD) (n : ℕ) : Phi hm c n ⊢ (Pipeline.ΦD osem0 spec0 H0 (V m) c : sProp 𝕄) := by
  rw [PhiD0_eq]; unfold Phi
  iintro ⟨⟨%f, %hf, HB⟩, Hr⟩
  isplitl [HB]
  · iexists f; iexact HB
  iexact Hr

/-! ## The proof data -/

/-- The blocks of the two results the body leaves at a point. -/
def outSt (hm : Hyps m) (c : Dev nD) (t : Fin cfg0.N) : FVec F S128x128 .bf16 × FVec F S128x96 .bf16 :=
  stAt c (grid0.coords t) (ms0 t) (ms1 t) (ms2 t) (ms3 t) (ms4 t) (ms5 t) (ms6 t)
    (bk0 m c t) (bk1 m c t) (bk2 m c t) (bk3 m c t) (bk4 m c t) (bk5 m c t) (bk6 m c t) (V m c main_arg1) (hst hm c t) (hsg hm c t) 14 le_rfl

/-- The arrays as the region finds them; each input's buffer left at its block, the results' at `outSt`; full shares,
    nothing owed. -/
def dats (hm : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outSt hm c t).1
    | ⟨8, _⟩ => (outSt hm c t).2
  Φ t := Phi hm c t.val
  q _ := fullShare
  owed _ := 0

theorem A_eq (hm : Hyps m) (c : Dev nD) (w : Fin cfg0.W) : (dats hm 0 c).A w = V m c (Pipeline.arrRef spec0 w) := by dsimp only [dats]

/-- What an input's staging buffer holds before the body, input by input: its block. -/
theorem before0 (hm : Hyps m) (c : Dev nD) (t : Fin cfg0.N) (d) : (dats hm 0 c).before 0 t d = iblk m c 0 t :=
  ((dats hm 0 c).before_in_eq_fetched 0 rfl (fun _ => rfl) (fun _ _ _ => rfl) (fun _ => rfl) t d).trans rfl
theorem before1 (hm : Hyps m) (c : Dev nD) (t : Fin cfg0.N) (d) : (dats hm 0 c).before 1 t d = iblk m c 1 t :=
  ((dats hm 0 c).before_in_eq_fetched 1 rfl (fun _ => rfl) (fun _ _ _ => rfl) (fun _ => rfl) t d).trans rfl
theorem before2 (hm : Hyps m) (c : Dev nD) (t : Fin cfg0.N) (d) : (dats hm 0 c).before 2 t d = iblk m c 2 t :=
  ((dats hm 0 c).before_in_eq_fetched 2 rfl (fun _ => rfl) (fun _ _ _ => rfl) (fun _ => rfl) t d).trans rfl
theorem before3 (hm : Hyps m) (c : Dev nD) (t : Fin cfg0.N) (d) : (dats hm 0 c).before 3 t d = iblk m c 3 t :=
  ((dats hm 0 c).before_in_eq_fetched 3 rfl (fun _ => rfl) (fun _ _ _ => rfl) (fun _ => rfl) t d).trans rfl
theorem before4 (hm : Hyps m) (c : Dev nD) (t : Fin cfg0.N) (d) : (dats hm 0 c).before 4 t d = iblk m c 4 t :=
  ((dats hm 0 c).before_in_eq_fetched 4 rfl (fun _ => rfl) (fun _ _ _ => rfl) (fun _ => rfl) t d).trans rfl
theorem before5 (hm : Hyps m) (c : Dev nD) (t : Fin cfg0.N) (d) : (dats hm 0 c).before 5 t d = iblk m c 5 t :=
  ((dats hm 0 c).before_in_eq_fetched 5 rfl (fun _ => rfl) (fun _ _ _ => rfl) (fun _ => rfl) t d).trans rfl
theorem before6 (hm : Hyps m) (c : Dev nD) (t : Fin cfg0.N) (d) : (dats hm 0 c).before 6 t d = iblk m c 6 t :=
  ((dats hm 0 c).before_in_eq_fetched 6 rfl (fun _ => rfl) (fun _ _ _ => rfl) (fun _ => rfl) t d).trans rfl

/-- A whole memref owned at what reads as `X` is its buffer at the contents that read as `X`. -/
theorem hb_of_owns (c : Dev nD) {sp : Space} {S : Shape} {e : EltTy} {M : Memref sig .tc sp S e} (hM : M.IsWhole) (X : S.Idx → Elt F e) :
    (owns (c : Thread nD τ) M fullShare X : sProp 𝕄) ⊢ hbPt c M fullShare (hM.unread X) := by
  unfold owns
  rw [hM.set_eq_univ]
  iintro ⟨%f, %hf, H⟩
  rw [hM.eq_unread hf]
  iexact H
theorem owns_of_hb (c : Dev nD) {sp : Space} {S : Shape} {e : EltTy} {M : Memref sig .tc sp S e} (hM : M.IsWhole) (X : S.Idx → Elt F e) :
    hbPt c M fullShare (hM.unread X) ⊢ (owns (c : Thread nD τ) M fullShare X : sProp 𝕄) := by
  unfold owns
  rw [hM.set_eq_univ]
  iintro H
  iexists (hM.unread X)
  isplitr; · ipureintro; exact hM.read_unread _
  iexact H

/-! ## The body at a point -/

/-- The first point is the one the copies are made at. -/
theorem first_point (t : Fin cfg0.N) (h : t.val = 0) : k0_cond1 (grid0.coords t) = 1#1 := by
  have e : t = ⟨0, by decide⟩ := Fin.ext h
  rw [e]; exact cond1_of_zero _ (by decide)

/-- What the body is called with at point `t`. -/
def bodyPre (hm : Hyps m) (c : Dev nD) (t : Fin cfg0.N) : sProp 𝕄 :=
  iprop((dats hm 0 c).Φ t.castSucc ∗ (dats hm 0 c).owesAt () t.castSucc
    ∗ (∃ d, owns (c : Thread nD τ) (ms0 t) fullShare ((dats hm 0 c).before 0 t d))
    ∗ (∃ d, owns (c : Thread nD τ) (ms1 t) fullShare ((dats hm 0 c).before 1 t d))
    ∗ (∃ d, owns (c : Thread nD τ) (ms2 t) fullShare ((dats hm 0 c).before 2 t d))
    ∗ (∃ d, owns (c : Thread nD τ) (ms3 t) fullShare ((dats hm 0 c).before 3 t d))
    ∗ (∃ d, owns (c : Thread nD τ) (ms4 t) fullShare ((dats hm 0 c).before 4 t d))
    ∗ (∃ d, owns (c : Thread nD τ) (ms5 t) fullShare ((dats hm 0 c).before 5 t d))
    ∗ (∃ d, owns (c : Thread nD τ) (ms6 t) fullShare ((dats hm 0 c).before 6 t d))
    ∗ (∃ d, owns (c : Thread nD τ) (ms7 t) fullShare ((dats hm 0 c).before 7 t d))
    ∗ (∃ d, owns (c : Thread nD τ) (ms8 t) fullShare ((dats hm 0 c).before 8 t d)))
/-- What it returns. -/
def bodyPost (hm : Hyps m) (c : Dev nD) (t : Fin cfg0.N) : sProp 𝕄 :=
  iprop((dats hm 0 c).Φ t.succ ∗ (dats hm 0 c).owesAt () t.succ
    ∗ owns (c : Thread nD τ) (ms0 t) fullShare ((dats hm 0 c).after 0 t)
    ∗ owns (c : Thread nD τ) (ms1 t) fullShare ((dats hm 0 c).after 1 t)
    ∗ owns (c : Thread nD τ) (ms2 t) fullShare ((dats hm 0 c).after 2 t)
    ∗ owns (c : Thread nD τ) (ms3 t) fullShare ((dats hm 0 c).after 3 t)
    ∗ owns (c : Thread nD τ) (ms4 t) fullShare ((dats hm 0 c).after 4 t)
    ∗ owns (c : Thread nD τ) (ms5 t) fullShare ((dats hm 0 c).after 5 t)
    ∗ owns (c : Thread nD τ) (ms6 t) fullShare ((dats hm 0 c).after 6 t)
    ∗ owns (c : Thread nD τ) (ms7 t) fullShare ((dats hm 0 c).after 7 t)
    ∗ owns (c : Thread nD τ) (ms8 t) fullShare ((dats hm 0 c).after 8 t))

set_option maxHeartbeats 1000000 in
/-- The body at the point: the invariant opened, `kernelRun` on the blocks, the invariant closed. -/
theorem sound_body (hm : Hyps m) (c : Dev nD) (t : Fin cfg0.N) :
    bodyPre hm c t ⊢ wp frame (wpE (defs₀ (F := F)) Variants.none c none) Set.univ (bodyAt0 t) (fun _ => bodyPost hm c t) := by
  unfold bodyPre bodyPost bodyAt0
  rw [show (dats hm 0 c).owesAt () t.succ = (dats hm 0 c).owesAt () t.castSucc from rfl,
    show (dats hm 0 c).Φ t.castSucc = Phi hm c t.val from rfl, show (dats hm 0 c).Φ t.succ = Phi hm c (t.val + 1) from rfl]
  unfold Dat.owesAt Pipeline.owesWithin Phi
  rw [show (dats hm 0 c).owed t.castSucc = 0 from rfl]
  iintro ⟨⟨⟨%fb, %hfb, HB⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 hm c t d0]
  rw [before1 hm c t d1]
  rw [before2 hm c t d2]
  rw [before3 hm c t d3]
  rw [before4 hm c t d4]
  rw [before5 hm c t d5]
  rw [before6 hm c t d6]
  ihave H0 := (hb_of_owns c (hs0 t) _) $$ H0
  ihave H1 := (hb_of_owns c (hs1 t) _) $$ H1
  ihave H2 := (hb_of_owns c (hs2 t) _) $$ H2
  ihave H3 := (hb_of_owns c (hs3 t) _) $$ H3
  ihave H4 := (hb_of_owns c (hs4 t) _) $$ H4
  ihave H5 := (hb_of_owns c (hs5 t) _) $$ H5
  ihave H6 := (hb_of_owns c (hs6 t) _) $$ H6
  ihave H7 := (hb_of_owns c (hs7 t) _) $$ H7
  ihave H8 := (hb_of_owns c (hs8 t) _) $$ H8
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (bk0 m c t) (bk1 m c t) (bk2 m c t) (bk3 m c t) (bk4 m c t) (bk5 m c t) (bk6 m c t) _ _ (V m c main_arg1) fb
    (hst hm c t) (hsg hm c t) (hfb.imp (first_point t) fun e => e.trans (staged_eq hm c t).symm) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HB]; · iexact HB
  isplitl [Hh]; · iexact Hh
  isplitl [Hq]; · iexact Hq
  isplitl [HO]; · iexact HO
  iintro ⟨H0, H1, H2, H3, H4, H5, H6, H7, H8, HB, Hh, Hq, ⟨%W', HO⟩⟩
  isplitl [HB Hg Hq Hh]
  · isplitl [HB]
    · iexists _; isplitr; · ipureintro; exact Or.inr (staged_eq hm c t)
      iexact HB
    isplitl [Hg]; · iexact Hg
    isplitl [Hq]; · iexact Hq
    iexact Hh
  isplitl [HO]
  · iexists W'; isplitr; · ipureintro; exact fun _ _ => Or.inl trivial
    iexact HO
  isplitl [H0]; · iapply (owns_of_hb c (hs0 t) (iblk m c 0 t)); iexact H0
  isplitl [H1]; · iapply (owns_of_hb c (hs1 t) (iblk m c 1 t)); iexact H1
  isplitl [H2]; · iapply (owns_of_hb c (hs2 t) (iblk m c 2 t)); iexact H2
  isplitl [H3]; · iapply (owns_of_hb c (hs3 t) (iblk m c 3 t)); iexact H3
  isplitl [H4]; · iapply (owns_of_hb c (hs4 t) (iblk m c 4 t)); iexact H4
  isplitl [H5]; · iapply (owns_of_hb c (hs5 t) (iblk m c 5 t)); iexact H5
  isplitl [H6]; · iapply (owns_of_hb c (hs6 t) (iblk m c 6 t)); iexact H6
  isplitl [H7]; · iapply (owns_of_hb c (hs7 t) (outSt hm c t).1); iexact H7
  iapply (owns_of_hb c (hs8 t) (outSt hm c t).2); iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the launch asks of the body. -/
theorem body_obligation (hm : Hyps m) (c : Dev nD) : BodyObligation (dats (F := F) hm 0 c) (defs₀ (F := F)) Variants.none () Set.univ := fun t => by
  rw [bigSep_W0, bigSep_W0, defs₀_row]
  exact triple_restated (sound_body hm c t) rfl .rfl fun _ => .rfl

/-! ## The launch -/

/-- @main up to the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every fair execution terminates with every array at its folded write-backs, every other buffer as the region
    found it, and every counter at zero. -/
theorem run_main (hm : Hyps m) :
    θ_run defs (onTc (τ := τ) (main (F := F))) (s₀ m ρ)
      (fun r => Pipeline.FramePost cfgs (dats hm) 0 (V m) r ∧ r.2.sem = fun _ => 0) :=
  Pipeline.θ_run_frame_dma (Q' := _) cfgs (dats hm) (0 : Fin 1) launch0 osem0 defs₀ Variants.none ownSemFacts0 H0 H0_sub m ρ main
    (hbody := fun c => (body_obligation hm c).loose) (hshare := fun c => (dats hm 0 c).share_full fun _ => rfl)
    (howed := fun _ _ => rfl) (V := V m) (hmain := hmainD Variants.none) (hA := A_eq hm)
    (hin := fun c => Phi_in hm c) (hout := fun c => Phi_out hm c _)

/-- The arguments end as they began. -/
theorem args_kept (hm : Hyps m) {r : PUnit × MemSt nD τ sig (Elt F)} (h : Pipeline.FramePost cfgs (dats hm) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).1 5).trans (((dats hm 0 c).arrAt_in 5 rfl _).trans ((A_eq hm c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats hm 0 c).arrAt_in 0 rfl _).trans ((A_eq hm c 0).trans (V_main_arg3 m c))),
      ((h c).1 1).trans (((dats hm 0 c).arrAt_in 1 rfl _).trans ((A_eq hm c 1).trans (V_main_arg4 m c))),
      ((h c).1 2).trans (((dats hm 0 c).arrAt_in 2 rfl _).trans ((A_eq hm c 2).trans (V_main_arg5 m c))),
      ((h c).1 3).trans (((dats hm 0 c).arrAt_in 3 rfl _).trans ((A_eq hm c 3).trans (V_main_arg6 m c))),
      ((h c).1 4).trans (((dats hm 0 c).arrAt_in 4 rfl _).trans ((A_eq hm c 4).trans (V_main_arg7 m c)))⟩

/-- The program terminates, leaves its arguments unchanged and returns every counter to zero. -/
theorem quiescent (hm : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept hm h.1 c, h.2⟩) (run_main ρ hm)

end Cert.Shrink.Hand

end
-- ==== Proof.ShrinkIdeal.Checks.lean ====
/-
  The word arithmetic of the tables and the side conditions the shrink body assumes, each from the range of the word it speaks
  of: a segment's adapter below 23, an adapter's first pool slot below 2304.
-/
module

public import proofs.«01_k».proof.Proof.Gen.ShrinkIdeal

@[expose] public section

noncomputable section

namespace Cert.ShrinkIdeal.Hand

open Cert.ShrinkIdeal Cert.ShrinkIdeal.Gen
open Idealize.ShloMosaic

/-- Clearing a word's five low bits rounds the number down to a multiple of 32. -/
theorem and32_fin : ∀ n : Fin 2304, (Scalar.andi (BitVec.ofNat 32 n.val) 4294967264#32).toNat = n.val / 32 * 32 := by decide +kernel
theorem and32_of_lt (v : BitVec 32) (h : v.toNat < 2304) : (Scalar.andi v 4294967264#32).toNat = v.toNat / 32 * 32 := by
  have := and32_fin ⟨v.toNat, h⟩
  rwa [BitVec.ofNat_toNat, BitVec.setWidth_eq] at this
theorem and128_fin : ∀ n : Fin 2304, (Scalar.andi (Scalar.andi (BitVec.ofNat 32 n.val) 4294967264#32) 4294967168#32).toNat = n.val / 128 * 128 := by decide +kernel
theorem and128_of_lt (v : BitVec 32) (h : v.toNat < 2304) : (Scalar.andi (Scalar.andi v 4294967264#32) 4294967168#32).toNat = v.toNat / 128 * 128 := by
  have := and128_fin ⟨v.toNat, h⟩
  rwa [BitVec.ofNat_toNat, BitVec.setWidth_eq] at this

/-- An adapter's number is inside the tables of adapters. -/
theorem inbTab (v : BitVec 32) (h : v.toNat < 23) : ∀ a, k0_off57 v a + S1.size a ≤ S23.size a := by
  intro a; fin_cases a; show v.toNat + 1 ≤ 23; omega
theorem inbTab' (v : BitVec 32) (h : v.toNat < 23) : ∀ a, k0_off59 v a + S1.size a ≤ S23.size a := inbTab v h
theorem chkSeg (i : grid0.Coords) (v : BitVec 32) (h : v.toNat < 23) : k0_chk1 i v := fun _ => inbTab v h
theorem chkSeg' (i : grid0.Coords) (lo hi v : BitVec 32) (h : v.toNat < 23) : k0_chk57 i lo hi v := ⟨fun _ => inbTab v h, fun _ => inbTab v h⟩

theorem off2_eq (v : BitVec 32) (h : v.toNat < 2304) : k0_off2 v = ![v.toNat / 32 * 32, 0] := by
  show ![(Scalar.andi v 4294967264#32).toNat, 0] = _
  rw [and32_of_lt v h]
/-- The 128 pool rows from an adapter's rounded first slot are inside the pool. -/
theorem inbPool (v : BitVec 32) (h : v.toNat < 2304) : ∀ a, k0_off2 v a + S128x7168.size a ≤ S2500x7168.size a := by
  rw [off2_eq v h]; intro a; fin_cases a
  · show v.toNat / 32 * 32 + 128 ≤ 2500; omega
  · show 0 + 7168 ≤ 7168; decide
theorem chkSlot (i : grid0.Coords) (v : BitVec 32) (h : v.toNat < 2304) : k0_chk2 i v := by
  refine ⟨fun _ => ?_, fun _ => inbPool v h, fun _ hinb => ?_⟩
  · show 32 ∣ (Scalar.andi v 4294967264#32).toNat
    rw [and32_of_lt v h]; exact ⟨_, Nat.mul_comm _ _⟩
  · refine Rect.PackedRows.wholeWords (.inr ⟨by decide, rfl, .inl ⟨?_, ?_⟩⟩)
    · show 4 ∣ k0_off2 v 0
      rw [off2_eq v h]; show 4 ∣ v.toNat / 32 * 32; omega
    · show 4 ∣ 128; decide

theorem off58_eq (v : BitVec 32) (h : v.toNat < 2304) : k0_off58 v = ![0, v.toNat / 128 * 128] := by
  show ![0, (Scalar.andi (Scalar.andi v 4294967264#32) 4294967168#32).toNat] = _
  rw [and128_of_lt v h]
/-- The two lane tiles of scales an adapter's slots lie in are inside the scale row. -/
theorem inbScale (v : BitVec 32) (h : v.toNat < 2304) : ∀ a, k0_off58 v a + S1x256.size a ≤ S1x2500.size a := by
  rw [off58_eq v h]; intro a; fin_cases a
  · show 0 + 1 ≤ 1; decide
  · show v.toNat / 128 * 128 + 256 ≤ 2500; omega
theorem chkScale (i : grid0.Coords) (lo hi v : BitVec 32) (h : v.toNat < 2304) : k0_chk58 i lo hi v := by
  refine ⟨fun _ => ?_, fun _ => ?_, fun _ => inbScale v h⟩
  · show 32 ∣ (Scalar.andi v 4294967264#32).toNat
    rw [and32_of_lt v h]; exact ⟨_, Nat.mul_comm _ _⟩
  · show 128 ∣ (Scalar.andi (Scalar.andi v 4294967264#32) 4294967168#32).toNat
    rw [and128_of_lt v h]; exact ⟨_, Nat.mul_comm _ _⟩

/-- The copies of adapter rows are made at the first grid point only. -/
theorem cond1_of_zero (i : grid0.Coords) (h : (i 0).val = 0) : k0_cond1 i = 1#1 := by
  have e : k0_cond1 i = Scalar.cmpi .ne (Scalar.extui (Scalar.cmpi .eq (BitVec.ofNat 32 (i 0).val) 0#32) : BitVec 32) 0#32 := rfl
  rw [e, h]; decide

/-- A segment is worked on where it has rows and they reach into the point's 128 rows. -/
theorem cond_iff (i : grid0.Coords) (lo hi : BitVec 32) (hlo : lo.toNat ≤ 1280) (hhi : hi.toNat ≤ 1280) :
    k0_cond2 i lo hi = 1#1 ↔ lo.toNat < (i 0).val * 128 + 128 ∧ (i 0).val * 128 < hi.toNat ∧ lo.toNat < hi.toNat := by
  have hi10 : (i 0).val < 10 := (i 0).isLt
  have e : k0_cond2 i lo hi = Scalar.cmpi .ne (Scalar.extui (Scalar.andi (Scalar.andi
      (Scalar.cmpi .slt lo (Scalar.muli (Scalar.addi (BitVec.ofNat 32 (i 0).val) 1#32) 128#32))
      (Scalar.cmpi .sgt hi (Scalar.muli (BitVec.ofNat 32 (i 0).val) 128#32))) (Scalar.cmpi .sgt hi lo)) : BitVec 32) 0#32 := rfl
  have ee : ∀ p q r : Bool, (Scalar.cmpi .ne (Scalar.extui (Scalar.andi (Scalar.andi (BitVec.ofBool p) (BitVec.ofBool q)) (BitVec.ofBool r)) : BitVec 32) 0#32 = 1#1) ↔ p = true ∧ q = true ∧ r = true := by decide
  have m1 : ∀ n : Fin 10, (Scalar.muli (Scalar.addi (BitVec.ofNat 32 n.val) 1#32) 128#32).toNat = n.val * 128 + 128 := by decide
  have m2 : ∀ n : Fin 10, (Scalar.muli (BitVec.ofNat 32 n.val) 128#32).toNat = n.val * 128 := by decide
  have n1 := m1 ⟨(i 0).val, hi10⟩
  have n2 := m2 ⟨(i 0).val, hi10⟩
  simp only at n1 n2
  rw [e]
  refine (ee (lo.slt _) ((Scalar.muli (BitVec.ofNat 32 (i 0).val) 128#32).slt hi) (lo.slt hi)).trans ?_
  simp only [BitVec.slt, decide_eq_true_eq]
  rw [BitVec.toInt_eq_toNat_of_lt (by omega), BitVec.toInt_eq_toNat_of_lt (by omega), BitVec.toInt_eq_toNat_of_lt (by omega), BitVec.toInt_eq_toNat_of_lt (by omega), n1, n2]
  omega

end Cert.ShrinkIdeal.Hand
-- ==== Proof.ShrinkIdeal.Segment.lean ====
/- One segment of rows in the shrink body: the program of the segment, what it leaves in the two result blocks, and its run. -/
module

public import proofs.«01_k».proof.Proof.Gen.ShrinkIdeal.Frame
public import proofs.«01_k».proof.Proof.Gen.ShrinkIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.ShrinkIdeal.Checks

@[expose] public section

noncomputable section

namespace Cert.ShrinkIdeal.Hand

open Cert.ShrinkIdeal Cert.ShrinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-! ## The operands -/

/-- The scratch of staged adapter rows, and the pool of adapter rows left in HBM. -/
abbrev scB : Memref sig .tc .vmem S14x128x7168 .i8 := Memref.whole cc0_scratch0
abbrev hbM : Memref sig .tc .hbm S2500x7168 .i8 := Memref.whole main_arg1
/-- A memref's buffer on core `c` held at share `q` with contents `f`. -/
abbrev hbPt (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

/-- The numbers of slots: row `s` of the tables and of the staged rows. -/
theorem inbSeg (s : Fin 14) : ∀ a, (![s.val] : Fin 1 → ℕ) a + S1.size a ≤ S14.size a := by
  intro a; have := s.isLt; fin_cases a; show s.val + 1 ≤ 14; omega
theorem inbPiece (s : Fin 14) : ∀ a, (![s.val, 0, 0] : Fin 3 → ℕ) a + S1x128x7168.size a ≤ S14x128x7168.size a := by
  intro a; have := s.isLt; fin_cases a
  · show s.val + 1 ≤ 14; omega
  · show 0 + 128 ≤ 128; omega
  · show 0 + 7168 ≤ 7168; omega

/-! ## The program of a segment -/

/-- The table lookups of segment `s`, its staged rows against the tile's rows, scaled, and the mask of the entries it owns. -/
def partS (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (v10 v11 : IVec S128x128 32) (lo hi : Elt F .i32) (h : k0_cond2 i lo hi = 1#1) :
    Prog (TpuEff nD τ sig (Elt F) Λ₀ .tc) (Σ' (v185 : BitVec 32) (v209 : FVec F S128x128 .f32) (v223 : IVec S128x128 1), F .f32) := do
  let v180 : Elt F .i32 ← smemLoad arg5 (Rect.unit (s := S14) ![s.val] S1.size (inbSeg s)) numel1_S1 rfl
  have k0_hw57 : k0_chk57 i lo hi v180 := (← Prog.lift (TpuEff.assume (k0_chk57 i lo hi v180) (k0_chk57.dec i lo hi v180))).down
  let v182 : Elt F .i32 ← smemLoad arg1 (Rect.unit (s := S23) (k0_off57 v180) S1.size (k0_off57_inb i lo hi v180 k0_hw57 h)) numel1_S1 rfl
  have k0_hw58 : k0_chk58 i lo hi v182 := (← Prog.lift (TpuEff.assume (k0_chk58 i lo hi v182) (k0_chk58.dec i lo hi v182))).down
  let v183 : BitVec 32 := Scalar.andi v182 4294967264#32
  let v184 : BitVec 32 := v183
  let v185 : BitVec 32 := Scalar.subi v182 v184
  let v186 : Vec F S1x128x7168 .i8 ← Prog.lift (.load scB (Rect.unit (s := S14x128x7168) ![s.val, 0, 0] S1x128x7168.size (inbPiece s)).toLoadRect (View.loadsAt_vmem h_S1x128x7168))
  let v189 : Vec F S128x7168 .bf16 ← Prog.lift (.load arg6 (Rect.unit (s := S128x7168) ![0, 0] S128x7168.size inb_S128x7168_S128x7168_0_0).toLoadRect (View.loadsAt_vmem h_S128x7168))
  let v194 : Vec F S1x256 .f32 ← Prog.lift (.load arg7 (Rect.unit (s := S1x2500) (k0_off58 v182) S1x256.size (k0_off58_inb i lo hi v182 k0_hw58 h)).toLoadRect (View.loadsAt_vmem h_S1x256))
  let v207 : Elt F .f32 ← smemLoad arg3 (Rect.unit (s := S23) (k0_off59 v180) S1.size (k0_off59_inb i lo hi v180 k0_hw57 h)) numel1_S1 rfl
  let v219 : Elt F .i32 ← smemLoad arg2 (Rect.unit (s := S23) (k0_off59 v180) S1.size (k0_off59_inb i lo hi v180 k0_hw57 h)) numel1_S1 rfl
  have cst_84 : F .f32 := Scalar.ofBits .f32 0x00000000#32
  pure ⟨v185, k0_pay10 v182 v186 v189 v194 v207, k0_pay11 v10 v11 lo hi v182 v219, cst_84⟩

/-- A segment: nothing when it has no rows in the point's tile; else its entries over the two result blocks; then `kk`. -/
def segA (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (arg9 : Memref sig .tc .vmem S128x128 .bf16) (harg9 : arg9.IsWhole) (arg10 : Memref sig .tc .vmem S128x96 .bf16) (harg10 : arg10.IsWhole)
    (v10 v11 : IVec S128x128 32) (lo hi : Elt F .i32)
    {α : Type} (kk : Prog (TpuEff nD τ sig (Elt F) Λ₀ .tc) α) : Prog (TpuEff nD τ sig (Elt F) Λ₀ .tc) α := do
  if h : k0_cond2 i lo hi = 1#1 then do
    let ⟨v185, v209, v223, cst_84⟩ : Σ' (v185 : BitVec 32) (v209 : FVec F S128x128 .f32) (v223 : IVec S128x128 1), F .f32 ← partS s i arg1 arg2 arg3 arg5 arg6 arg7 v10 v11 lo hi h
    let v226 : Vec F S128x128 .bf16 ← Prog.lift (.load arg9 (Rect.unit (s := S128x128) ![0, 0] S128x128.size inb_S128x128_S128x128_0_0).toLoadRect (View.loadsAt_vmem h_S128x128))
    let v231 : Vec F S128x128 .bf16 ← Prog.lift (.load arg9 (Rect.unit (s := S128x128) ![0, 0] S128x128.size inb_S128x128_S128x128_0_0).toLoadRect (View.loadsAt_vmem h_S128x128))
    Prog.lift (.store arg9 (Rect.unit (s := S128x128) ![0, 0] S128x128.size inb_S128x128_S128x128_0_0) (k0_pay45 v209 v223 cst_84 v226) Finset.univ (View.stores_vmem h_S128x128 (harg9.storeExact_slice rfl _ packedbf16_S128x128_S128x128_0_0) (fun _ => rfl)) (.inl rfl))
    let v243 : Vec F S128x96 .bf16 ← Prog.lift (.load arg10 (Rect.unit (s := S128x96) ![0, 0] S128x96.size inb_S128x96_S128x96_0_0).toLoadRect (View.loadsAt_vmem h_S128x96))
    let v248 : Vec F S128x96 .bf16 ← Prog.lift (.load arg10 (Rect.unit (s := S128x96) ![0, 0] S128x96.size inb_S128x96_S128x96_0_0).toLoadRect (View.loadsAt_vmem h_S128x96))
    Prog.lift (.store arg10 (Rect.unit (s := S128x96) ![0, 0] S128x96.size inb_S128x96_S128x96_0_0) (k0_pay46 v10 lo hi v185 v209 v223 cst_84 v243) Finset.univ (View.stores_vmem h_S128x96 (harg10.storeExact_slice rfl _ packedbf16_S128x96_S128x96_0_0) (fun _ => rfl)) (.inl rfl))
    pure ⟨⟩
  else do
    pure ⟨⟩
  kk

/-! ## What a segment leaves -/

/-- The adapter of segment `s`, as the table holds it; -/
def adapterOf (c : Dev nD) (arg5 : Memref sig .tc .smem S14 .i32) (f5 : Buf (Elt F) (arg5.view.loc (c : Thread nD τ))) (s : Fin 14) : BitVec 32 :=
  arg5.view.readAt (Elt F) (Rect.unit (s := S14) ![s.val] S1.size (inbSeg s)).toLoadRect f5 (Shape.Idx.first (numel1_S1.symm ▸ Nat.one_pos))
/-- its first slot, its number of slots and its scaling. -/
def startOf (c : Dev nD) (arg1 : Memref sig .tc .smem S23 .i32) (f1 : Buf (Elt F) (arg1.view.loc (c : Thread nD τ))) (v : BitVec 32) (h : v.toNat < 23) : BitVec 32 :=
  arg1.view.readAt (Elt F) (Rect.unit (s := S23) (k0_off57 v) S1.size (inbTab v h)).toLoadRect f1 (Shape.Idx.first (numel1_S1.symm ▸ Nat.one_pos))
def rankOf (c : Dev nD) (arg2 : Memref sig .tc .smem S23 .i32) (f2 : Buf (Elt F) (arg2.view.loc (c : Thread nD τ))) (v : BitVec 32) (h : v.toNat < 23) : BitVec 32 :=
  arg2.view.readAt (Elt F) (Rect.unit (s := S23) (k0_off59 v) S1.size (inbTab' v h)).toLoadRect f2 (Shape.Idx.first (numel1_S1.symm ▸ Nat.one_pos))
def scalOf (c : Dev nD) (arg3 : Memref sig .tc .smem S23 .f32) (f3 : Buf (Elt F) (arg3.view.loc (c : Thread nD τ))) (v : BitVec 32) (h : v.toNat < 23) : F .f32 :=
  arg3.view.readAt (Elt F) (Rect.unit (s := S23) (k0_off59 v) S1.size (inbTab' v h)).toLoadRect f3 (Shape.Idx.first (numel1_S1.symm ▸ Nat.one_pos))

/-- The tile's rows against segment `s`'s staged rows, scaled. -/
def tileVal (c : Dev nD) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) : FVec F S128x128 .f32 :=
  k0_pay10 (startOf c arg1 f1 (adapterOf c arg5 f5 s) (hsg _ _))
    (scB.view.readAt (Elt F) (Rect.unit (s := S14x128x7168) ![s.val, 0, 0] S1x128x7168.size (inbPiece s)).toLoadRect g)
    (arg6.view.readAt (Elt F) (Rect.unit (s := S128x7168) ![0, 0] S128x7168.size inb_S128x7168_S128x7168_0_0).toLoadRect f6)
    (arg7.view.readAt (Elt F) (Rect.unit (s := S1x2500) (k0_off58 (startOf c arg1 f1 (adapterOf c arg5 f5 s) (hsg _ _))) S1x256.size (inbScale _ (hst _ _))).toLoadRect f7)
    (scalOf c arg3 f3 (adapterOf c arg5 f5 s) (hsg _ _))
/-- The entries segment `s` owns in the tile of point `i`. -/
def tileMask (c : Dev nD) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) (lo hi : BitVec 32) : IVec S128x128 1 :=
  k0_pay11 (F := F) (k0_pay40 i) (iota .tc S128x128 32 [1] iota_S128x128_d1_w32) lo hi (startOf c arg1 f1 (adapterOf c arg5 f5 s) (hsg _ _)) (rankOf c arg2 f2 (adapterOf c arg5 f5 s) (hsg _ _))

/-- How far an adapter's first slot is from the start of its window. -/
abbrev winOff (v : BitVec 32) : BitVec 32 := Scalar.subi v (Scalar.andi v 4294967264#32)

/-- The two result blocks after segment `s`, whose rows run from `lo` to `hi`. -/
def segSt (c : Dev nD) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (s : Fin 14) (lo hi : Elt F .i32) (X : FVec F S128x128 .bf16 × FVec F S128x96 .bf16) : FVec F S128x128 .bf16 × FVec F S128x96 .bf16 :=
  if k0_cond2 i lo hi = 1#1 then
    (k0_pay45 (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) X.1,
      k0_pay46 (k0_pay40 i) lo hi (winOff (startOf c arg1 f1 (adapterOf c arg5 f5 s) (hsg _ _)))
        (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) X.2)
  else X

/-- A block stored whole holds what was stored. -/
theorem init9 (M : Memref sig .tc .vmem S128x128 .bf16) (hM : M.IsWhole) (f : M.view.ty.Contents (Elt F)) (w : FVec F S128x128 .bf16) :
    M.view.writes (Elt F) f [⟨(Rect.unit (s := S128x128) ![0, 0] S128x128.size inb_S128x128_S128x128_0_0), w⟩] = hM.unread w := by
  refine hM.eq_unread (funext fun y => ?_)
  have hy : (Rect.unit (s := S128x128) ![0, 0] S128x128.size inb_S128x128_S128x128_0_0).emb y = y := by
    funext a; refine Fin.ext ?_; fin_cases a
    · show 0 + 1 * (y 0).val = (y 0).val; omega
    · show 0 + 1 * (y 1).val = (y 1).val; omega
  have e := View.read_writes_cons_emb (Val := Elt F) M.view f (Rect.unit (s := S128x128) ![0, 0] S128x128.size inb_S128x128_S128x128_0_0) w [] y
  rw [hy] at e
  exact e

/-- A block stored whole over a function of what it held. -/
theorem stored9 (M : Memref sig .tc .vmem S128x128 .bf16) (hM : M.IsWhole) (X : FVec F S128x128 .bf16) (p : FVec F S128x128 .bf16 → FVec F S128x128 .bf16) :
    M.view.writes (Elt F) (hM.unread X) [⟨(Rect.unit (s := S128x128) ![0, 0] S128x128.size inb_S128x128_S128x128_0_0), p (M.view.readAt (Elt F) (Rect.unit (s := S128x128) ![0, 0] S128x128.size inb_S128x128_S128x128_0_0).toLoadRect (hM.unread X))⟩] = hM.unread (p X) := by
  have e : M.view.readAt (Elt F) (Rect.unit (s := S128x128) ![0, 0] S128x128.size inb_S128x128_S128x128_0_0).toLoadRect (hM.unread X) = X := by
    funext y; rw [hM.readAt_unread]; refine congrArg X (funext fun a => Fin.ext ?_)
    fin_cases a
    · show 0 + 1 * (y 0).val = (y 0).val; omega
    · show 0 + 1 * (y 1).val = (y 1).val; omega
  rw [e]; exact init9 M hM _ _

/-- A block stored whole holds what was stored. -/
theorem init10 (M : Memref sig .tc .vmem S128x96 .bf16) (hM : M.IsWhole) (f : M.view.ty.Contents (Elt F)) (w : FVec F S128x96 .bf16) :
    M.view.writes (Elt F) f [⟨(Rect.unit (s := S128x96) ![0, 0] S128x96.size inb_S128x96_S128x96_0_0), w⟩] = hM.unread w := by
  refine hM.eq_unread (funext fun y => ?_)
  have hy : (Rect.unit (s := S128x96) ![0, 0] S128x96.size inb_S128x96_S128x96_0_0).emb y = y := by
    funext a; refine Fin.ext ?_; fin_cases a
    · show 0 + 1 * (y 0).val = (y 0).val; omega
    · show 0 + 1 * (y 1).val = (y 1).val; omega
  have e := View.read_writes_cons_emb (Val := Elt F) M.view f (Rect.unit (s := S128x96) ![0, 0] S128x96.size inb_S128x96_S128x96_0_0) w [] y
  rw [hy] at e
  exact e

/-- A block stored whole over a function of what it held. -/
theorem stored10 (M : Memref sig .tc .vmem S128x96 .bf16) (hM : M.IsWhole) (X : FVec F S128x96 .bf16) (p : FVec F S128x96 .bf16 → FVec F S128x96 .bf16) :
    M.view.writes (Elt F) (hM.unread X) [⟨(Rect.unit (s := S128x96) ![0, 0] S128x96.size inb_S128x96_S128x96_0_0), p (M.view.readAt (Elt F) (Rect.unit (s := S128x96) ![0, 0] S128x96.size inb_S128x96_S128x96_0_0).toLoadRect (hM.unread X))⟩] = hM.unread (p X) := by
  have e : M.view.readAt (Elt F) (Rect.unit (s := S128x96) ![0, 0] S128x96.size inb_S128x96_S128x96_0_0).toLoadRect (hM.unread X) = X := by
    funext y; rw [hM.readAt_unread]; refine congrArg X (funext fun a => Fin.ext ?_)
    fin_cases a
    · show 0 + 1 * (y 0).val = (y 0).val; omega
    · show 0 + 1 * (y 1).val = (y 1).val; omega
  rw [e]; exact init10 M hM _ _

set_option maxHeartbeats 1000000 in
/-- A segment runs, leaving what it reads as it was and the two result blocks at `segSt`; then what follows it. -/
theorem segA_sound (c : Dev nD) (s : Fin 14) (i : grid0.Coords) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32)
    (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (g : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (lo hi : Elt F .i32) (X : FVec F S128x128 .bf16 × FVec F S128x96 .bf16)
    {α : Type} (kk : Prog (TpuEff nD τ sig (Elt F) Λ₀ .tc) α) (K : α → sProp 𝕄) :
    iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare g ∗ hbPt c arg9 fullShare (harg9.unread X.1) ∗ hbPt c arg10 fullShare (harg10.unread X.2)
        ∗ (iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare g
            ∗ hbPt c arg9 fullShare (harg9.unread (segSt c i arg1 arg2 arg3 arg5 arg6 arg7 f1 f2 f3 f5 f6 f7 g hst hsg s lo hi X).1)
            ∗ hbPt c arg10 fullShare (harg10.unread (segSt c i arg1 arg2 arg3 arg5 arg6 arg7 f1 f2 f3 f5 f6 f7 g hst hsg s lo hi X).2))
          -∗ wp frame (wpE (defs₀ (F := F)) Variants.none c none) Set.univ kk K))
      ⊢ wp frame (wpE (defs₀ (F := F)) Variants.none c none) Set.univ
          (segA s i arg1 arg2 arg3 arg5 arg6 arg7 arg9 harg9 arg10 harg10 (k0_pay40 i) (iota .tc S128x128 32 [1] iota_S128x128_d1_w32) lo hi kk) K := by
  unfold segA
  iintro ⟨H1, H2, H3, H5, H6, H7, HB, H9, H10, Hk⟩
  split
  · next h =>
    rw [segSt, if_pos h]
    unfold partS
    sl_exec (disch := first | exact chkSeg' _ _ _ _ (hsg _ _) | exact chkScale _ _ _ _ (hst _ _))
    iapply Hk
    isplitl [H1]; · iexact H1
    isplitl [H2]; · iexact H2
    isplitl [H3]; · iexact H3
    isplitl [H5]; · iexact H5
    isplitl [H6]; · iexact H6
    isplitl [H7]; · iexact H7
    isplitl [HB]; · iexact HB
    isplitl [H9]
    · iapply (Entails.of_eq (congrArg (hbPt c arg9 fullShare) (stored9 arg9 harg9 X.1 (fun v => k0_pay45 (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) v)))); iexact H9
    iapply (Entails.of_eq (congrArg (hbPt c arg10 fullShare) (stored10 arg10 harg10 X.2 (fun v => k0_pay46 (k0_pay40 i) lo hi (winOff (startOf c arg1 f1 (adapterOf c arg5 f5 s) (hsg _ _))) (tileVal c arg1 arg2 arg3 arg5 arg6 arg7 f1 f2 f3 f5 f6 f7 g hst hsg s) (tileMask c i arg1 arg2 arg3 arg5 arg6 arg7 f1 f2 f3 f5 f6 f7 hst hsg s lo hi) (Scalar.ofBits .f32 0x00000000#32) v)))); iexact H10
  · next h =>
    rw [segSt, if_neg h]
    iapply Hk
    isplitl [H1]; · iexact H1
    isplitl [H2]; · iexact H2
    isplitl [H3]; · iexact H3
    isplitl [H5]; · iexact H5
    isplitl [H6]; · iexact H6
    isplitl [H7]; · iexact H7
    isplitl [HB]; · iexact HB
    isplitl [H9]; · iexact H9
    iexact H10

end Cert.ShrinkIdeal.Hand

end
-- ==== Proof.ShrinkIdeal.Staged.lean ====
/- The adapter rows copied into the scratch at the first grid point: the fourteen pieces of the scratch, what each copy
   lands, and the run of the copies. -/
module

public import proofs.«01_k».proof.Proof.Gen.ShrinkIdeal.Frame
public import proofs.«01_k».proof.Proof.Gen.ShrinkIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.ShrinkIdeal.Segment

@[expose] public section

noncomputable section

namespace Cert.ShrinkIdeal.Hand

open Cert.ShrinkIdeal Cert.ShrinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

/-! ## The staged rows, by segments -/

/-- Segment `k`'s 128 staged rows: the destination of its copy. -/
abbrev pc (k : ℕ) (h : ∀ a, (![k, 0, 0] : Fin 3 → ℕ) a + S1x128x7168.size a ≤ S14x128x7168.size a) : Memref sig .tc .vmem S128x7168 .i8 :=
  (scB.slice (Rect.unit (s := S14x128x7168) ![k, 0, 0] S1x128x7168.size h) (fun _ => rfl)).squeeze S128x7168 squeezes_S1x128x7168_S128x7168
abbrev pcPt (c : Dev nD) (k : ℕ) (h : ∀ a, (![k, 0, 0] : Fin 3 → ℕ) a + S1x128x7168.size a ≤ S14x128x7168.size a) (f : Buf (Elt F) (scB.view.loc (c : Thread nD τ))) : sProp 𝕄 :=
  (pc k h).view.loc (c : Thread nD τ) ↦[(pc k h).view.set]{fullShare} f

theorem mem_pc (k : ℕ) (h) (j : S14x128x7168.Idx) : j ∈ (pc k h).view.set ↔ (j 0).val = k := by
  have e : (pc k h).view.set = (Rect.unit (s := S14x128x7168) ![k, 0, 0] S1x128x7168.size h).set := by
    rw [← View.set_slice_whole cc0_scratch0 (Rect.unit (s := S14x128x7168) ![k, 0, 0] S1x128x7168.size h)]
    exact View.set_reshape _ _
  rw [e, Rect.mem_set_unit]
  have h1 : (j 1).val < 128 := (j 1).isLt
  have h2 : (j 2).val < 7168 := (j 2).isLt
  constructor
  · intro H; have := H 0; change k ≤ (j 0).val ∧ (j 0).val < k + 1 at this; omega
  · intro H a; fin_cases a
    · show k ≤ (j 0).val ∧ (j 0).val < k + 1; omega
    · show 0 ≤ (j 1).val ∧ (j 1).val < 0 + 128; omega
    · show 0 ≤ (j 2).val ∧ (j 2).val < 0 + 7168; omega

/-- The staged rows held whole are the fourteen segments' rows held one by one. -/
theorem scB_pieces (c : Dev nD) (f : Buf (Elt F) (scB.view.loc (c : Thread nD τ))) :
    (hbPt c scB fullShare f : sProp 𝕄) = iprop(pcPt c 0 (inbPiece 0) f ∗ pcPt c 1 (inbPiece 1) f ∗ pcPt c 2 (inbPiece 2) f ∗ pcPt c 3 (inbPiece 3) f ∗ pcPt c 4 (inbPiece 4) f ∗ pcPt c 5 (inbPiece 5) f ∗ pcPt c 6 (inbPiece 6) f ∗ pcPt c 7 (inbPiece 7) f ∗ pcPt c 8 (inbPiece 8) f ∗ pcPt c 9 (inbPiece 9) f ∗ pcPt c 10 (inbPiece 10) f ∗ pcPt c 11 (inbPiece 11) f ∗ pcPt c 12 (inbPiece 12) f ∗ pcPt c 13 (inbPiece 13) f) := by
  have hu : (Finset.univ : Finset (Idx (scB.view.loc (c : Thread nD τ)))) = (Finset.univ : Finset (Fin 14)).biUnion fun k => (pc k.val (inbPiece k)).view.set := by
    ext j; simp only [Finset.mem_univ, true_iff, Finset.mem_biUnion, true_and]
    exact ⟨j 0, (mem_pc _ _ j).2 rfl⟩
  show (scB.view.loc (c : Thread nD τ) ↦[Finset.univ]{fullShare} f : sProp 𝕄) = _
  rw [hu, pointsTo_biUnion _ _ fun t _ t' _ hne => Finset.disjoint_left.mpr fun j hj hj' =>
    hne (Fin.ext (((mem_pc _ _ j).1 hj).symm.trans ((mem_pc _ _ j).1 hj'))),
    bigSep_univ_eq_bigSepL [0, 1, 2, 3, 4, 5, 6, 7, 8, 9, 10, 11, 12, 13] (by decide) (by decide)]
  rfl

/-- The pool rows of an adapter whose first slot is `v`. -/
abbrev landRows (c : Dev nD) (fp : Buf (Elt F) (hbM.view.loc (c : Thread nD τ))) (v : BitVec 32) (h : v.toNat < 2304) : S128x7168.Idx → Elt F .i8 :=
  ReadAs.same.apply ((hbM.slice (Rect.unit (s := S2500x7168) (k0_off2 v) S128x7168.size (inbPool v h)) (fun _ => rfl)).view.read (Elt F) fp)

/-- All the staged rows, from the fourteen first slots. -/
def stagedRows (c : Dev nD) (fp : Buf (Elt F) (hbM.view.loc (c : Thread nD τ))) (st : Fin 14 → BitVec 32) (h : ∀ k, (st k).toNat < 2304) :
    Buf (Elt F) (scB.view.loc (c : Thread nD τ)) :=
  fun j : S14x128x7168.Idx => landRows c fp (st (j 0)) (h (j 0)) (ix2 (j 1) (j 2))

/-- A landed copy is the segment's part of the staged rows. -/
theorem landed_eq (c : Dev nD) (fp : Buf (Elt F) (hbM.view.loc (c : Thread nD τ))) (st : Fin 14 → BitVec 32) (h : ∀ k, (st k).toNat < 2304)
    (fb : Buf (Elt F) (scB.view.loc (c : Thread nD τ))) (k : Fin 14) :
    (pcPt c k.val (inbPiece k) ((pc k.val (inbPiece k)).view.writes (Elt F) fb [⟨Rect.whole S128x7168, landRows c fp (st k) (h k)⟩]) : sProp 𝕄)
      = pcPt c k.val (inbPiece k) (stagedRows c fp st h) := by
  refine pointsTo_congr fun j hj => ?_
  obtain ⟨y, -, rfl⟩ := Finset.mem_map.1 hj
  have e := View.read_writes_cons_emb (Val := Elt F) (pc k.val (inbPiece k)).view fb (Rect.whole S128x7168) (landRows c fp (st k) (h k)) [] y
  rw [Rect.emb_whole_apply, View.read_apply] at e
  refine Eq.trans ((cast_eq _ _).symm.trans e) ?_
  have hy : (pc k.val (inbPiece k)).view.emb y = (ix3 k (y 0) (y 1) : S14x128x7168.Idx) := by
    have hr := reshapeEquiv_ix2_1ab (a := 128) (b := 7168) squeezes_S1x128x7168_S128x7168.numel_eq (y 0) (y 1)
    have hr := (congrArg _ (eq_ix2 (n0 := 128) (n1 := 7168) y)).trans hr
    show (Rect.unit (s := S14x128x7168) ![k.val, 0, 0] S1x128x7168.size (inbPiece k)).emb (Shape.reshapeEquiv _ y) = _
    rw [hr]
    funext a; refine Fin.ext ?_; fin_cases a
    · show k.val + 1 * 0 = k.val; omega
    · show 0 + 1 * (y 0).val = (y 0).val; omega
    · show 0 + 1 * (y 1).val = (y 1).val; omega
  rw [hy]
  exact congrArg (landRows c fp (st k) (h k)) (eq_ix2 (n0 := 128) (n1 := 7168) y)

/-- The pool held whole is a share of it for each of the copies (and some over). -/
theorem pool_toks (c : Dev nD) (f : Buf (Elt F) (hbM.view.loc (c : Thread nD τ))) :
    (hbPt c hbM fullShare f : sProp 𝕄) ⊣⊢ iprop(hbPt c hbM (Transfers.shareDrop fullShare 26) f ∗ hbPt c hbM (Transfers.shareTokN fullShare 0) f ∗ hbPt c hbM (Transfers.shareTokN fullShare 1) f ∗ hbPt c hbM (Transfers.shareTokN fullShare 2) f ∗ hbPt c hbM (Transfers.shareTokN fullShare 3) f ∗ hbPt c hbM (Transfers.shareTokN fullShare 4) f ∗ hbPt c hbM (Transfers.shareTokN fullShare 5) f ∗ hbPt c hbM (Transfers.shareTokN fullShare 6) f ∗ hbPt c hbM (Transfers.shareTokN fullShare 7) f ∗ hbPt c hbM (Transfers.shareTokN fullShare 8) f ∗ hbPt c hbM (Transfers.shareTokN fullShare 9) f ∗ hbPt c hbM (Transfers.shareTokN fullShare 10) f ∗ hbPt c hbM (Transfers.shareTokN fullShare 11) f ∗ hbPt c hbM (Transfers.shareTokN fullShare 12) f ∗ hbPt c hbM (Transfers.shareTokN fullShare 13) f ∗ hbPt c hbM (Transfers.shareTokN fullShare 14) f ∗ hbPt c hbM (Transfers.shareTokN fullShare 15) f ∗ hbPt c hbM (Transfers.shareTokN fullShare 16) f ∗ hbPt c hbM (Transfers.shareTokN fullShare 17) f ∗ hbPt c hbM (Transfers.shareTokN fullShare 18) f ∗ hbPt c hbM (Transfers.shareTokN fullShare 19) f ∗ hbPt c hbM (Transfers.shareTokN fullShare 20) f ∗ hbPt c hbM (Transfers.shareTokN fullShare 21) f ∗ hbPt c hbM (Transfers.shareTokN fullShare 22) f ∗ hbPt c hbM (Transfers.shareTokN fullShare 23) f ∗ hbPt c hbM (Transfers.shareTokN fullShare 24) f ∗ hbPt c hbM (Transfers.shareTokN fullShare 25) f) := by
  refine (Transfers.pointsTo_toks_range fullShare 26).trans ?_
  rw [BI.bigSep_eq_bigSepL_of_eq [0, 1, 2, 3, 4, 5, 6, 7, 8, 9, 10, 11, 12, 13, 14, 15, 16, 17, 18, 19, 20, 21, 22, 23, 24, 25] (by decide) (by decide)]
  exact .rfl

/-- The cells of the kernel's own semaphore array, all at zero. -/
abbrev semsZero (c : Dev nD) : sProp 𝕄 := iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0)

/-! ## The copies -/

/-- The copies at the first grid point (nothing at the others); then `kk`. -/
def stageA (i : grid0.Coords) (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    {α : Type} (kk : Prog (TpuEff nD τ sig (Elt F) Λ₀ .tc) α) : Prog (TpuEff nD τ sig (Elt F) Λ₀ .tc) α := do
  if k0_h1 : k0_cond1 i = 1#1 then do
    k0_part1 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part2 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part3 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part4 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part5 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part6 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part7 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part8 i arg1 harg1 arg2 harg2 arg3 harg3 arg4 harg4 arg5 harg5 arg6 harg6 arg7 harg7 hbM (Memref.isWhole_whole _) arg9 harg9 arg10 harg10 scB (Memref.isWhole_whole _) cc0_scratch1 k0_h1
    k0_part9 i arg1 harg1 arg2 harg2 arg3 harg3 arg4 harg4 arg5 harg5 arg6 harg6 arg7 harg7 hbM (Memref.isWhole_whole _) arg9 harg9 arg10 harg10 scB (Memref.isWhole_whole _) cc0_scratch1 k0_h1
    let v450 : Elt F .i32 ← smemLoad arg5 (Rect.unit (s := S14) ![13] S1.size inb_S14_S1_13) numel1_S1 rfl
    have k0_hw55 : k0_chk55 i v450 := (← Prog.lift (TpuEff.assume (k0_chk55 i v450) (k0_chk55.dec i v450))).down
    let v452 : Elt F .i32 ← smemLoad arg1 (Rect.unit (s := S23) (k0_off55 v450) S1.size (k0_off55_inb i v450 k0_hw55 k0_h1)) numel1_S1 rfl
    have k0_hw56 : k0_chk56 i v452 := (← Prog.lift (TpuEff.assume (k0_chk56 i v452) (k0_chk56.dec i v452))).down
    let v455 : DmaSems sig S1 := cc0_scratch1.slice (Rect.unit (s := S14) ![13] S1.size inb_S14_S1_13)
    let v456 : DmaSems sig S_ := v455.squeeze S_ squeezes_S1_S_
    let v457 : Memref sig .tc .vmem S1x128x7168 .i8 := scB.slice (Rect.unit (s := S14x128x7168) ![13, 0, 0] S1x128x7168.size inb_S14x128x7168_S1x128x7168_13_0_0) (fun _ => rfl)
    let v458 : Memref sig .tc .vmem S128x7168 .i8 := v457.squeeze S128x7168 squeezes_S1x128x7168_S128x7168
    let v459 : Memref sig .tc .hbm S128x7168 .i8 := hbM.slice (Rect.unit (s := S2500x7168) (k0_off56 v452) S128x7168.size (k0_off56_inb i v452 k0_hw56 k0_h1)) (fun _ => rfl)
    Prog.lift (.waitDma2 v456.sem v459 v458 ((Memref.isWhole_whole main_arg1).wordExact_slice rfl _ (k0_off56_wordsi8 i v452 k0_hw56 k0_h1)) (((Memref.isWhole_whole cc0_scratch0).wordExact_slice rfl _ wordsi8_S14x128x7168_S1x128x7168_13_0_0).reshape _ _))
    pure ⟨⟩
  else do
    pure ⟨⟩
  kk

/-- The staged rows, from the tables the body reads. -/
def stagedOf (c : Dev nD) (arg1 : Memref sig .tc .smem S23 .i32) (arg5 : Memref sig .tc .smem S14 .i32) (f1 : Buf (Elt F) (arg1.view.loc (c : Thread nD τ))) (f5 : Buf (Elt F) (arg5.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : Buf (Elt F) (scB.view.loc (c : Thread nD τ)) :=
  stagedRows c fp (fun k => startOf c arg1 f1 (adapterOf c arg5 f5 k) (hsg _ _)) (fun k => hst _ _)

set_option maxHeartbeats 8000000 in
/-- The copies run at the first point, or the rows are staged already: either way they end staged. -/
theorem stageA_sound (c : Dev nD) (i : grid0.Coords) (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f5 : Buf (Elt F) (arg5.view.loc (c : Thread nD τ))) (fp : Buf (Elt F) (hbM.view.loc (c : Thread nD τ))) (fb : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (hb : k0_cond1 i = 1#1 ∨ fb = stagedOf c arg1 arg5 f1 f5 fp hst hsg)
    (W : Waits sig Unit) {α : Type} (kk : Prog (TpuEff nD τ sig (Elt F) Λ₀ .tc) α) (K : α → sProp 𝕄) :
    iprop(hbPt c arg1 fullShare f1 ∗ hbPt c arg5 fullShare f5 ∗ hbPt c scB fullShare fb ∗ hbPt c hbM fullShare fp
        ∗ semsZero c ∗ owes (c : Thread nD τ) 0 W
        ∗ (iprop(hbPt c arg1 fullShare f1 ∗ hbPt c arg5 fullShare f5 ∗ hbPt c scB fullShare (stagedOf c arg1 arg5 f1 f5 fp hst hsg) ∗ hbPt c hbM fullShare fp
            ∗ semsZero c ∗ ∃ W', owes (c : Thread nD τ) 0 W')
          -∗ wp frame (wpE (defs₀ (F := F)) Variants.none c none) Set.univ kk K))
      ⊢ wp frame (wpE (defs₀ (F := F)) Variants.none c none) Set.univ
          (stageA i arg1 harg1 arg2 harg2 arg3 harg3 arg4 harg4 arg5 harg5 arg6 harg6 arg7 harg7 arg9 harg9 arg10 harg10 kk) K := by
  unfold stageA
  iintro ⟨H1, H5, HB, HP, ⟨Hq0, Hq1, Hq2, Hq3, Hq4, Hq5, Hq6, Hq7, Hq8, Hq9, Hq10, Hq11, Hq12, Hq13⟩, Hw, Hk⟩
  split
  · next h =>
    ihave HP' := (pool_toks c fp).1 $$ HP
    icases HP' with ⟨HPd, HT0, HT1, HT2, HT3, HT4, HT5, HT6, HT7, HT8, HT9, HT10, HT11, HT12, HT13, HT14, HT15, HT16, HT17, HT18, HT19, HT20, HT21, HT22, HT23, HT24, HT25⟩
    ihave HB' := (Entails.of_eq (scB_pieces c fb)) $$ HB
    icases HB' with ⟨HB0, HB1, HB2, HB3, HB4, HB5, HB6, HB7, HB8, HB9, HB10, HB11, HB12, HB13⟩
    sl_exec (disch := first | exact chkSeg _ _ (hsg _ _) | exact chkSlot _ _ (hst _ _))
    iapply Hk
    isplitl [H1]; · iexact H1
    isplitl [H5]; · iexact H5
    isplitl [HB0 HB1 HB2 HB3 HB4 HB5 HB6 HB7 HB8 HB9 HB10 HB11 HB12 HB13]
    · iapply (Entails.of_eq (scB_pieces c (stagedOf c arg1 arg5 f1 f5 fp hst hsg)).symm)
      isplitl [HB0]; · iapply (Entails.of_eq (landed_eq c fp _ _ fb 0)); iexact HB0
      isplitl [HB1]; · iapply (Entails.of_eq (landed_eq c fp _ _ fb 1)); iexact HB1
      isplitl [HB2]; · iapply (Entails.of_eq (landed_eq c fp _ _ fb 2)); iexact HB2
      isplitl [HB3]; · iapply (Entails.of_eq (landed_eq c fp _ _ fb 3)); iexact HB3
      isplitl [HB4]; · iapply (Entails.of_eq (landed_eq c fp _ _ fb 4)); iexact HB4
      isplitl [HB5]; · iapply (Entails.of_eq (landed_eq c fp _ _ fb 5)); iexact HB5
      isplitl [HB6]; · iapply (Entails.of_eq (landed_eq c fp _ _ fb 6)); iexact HB6
      isplitl [HB7]; · iapply (Entails.of_eq (landed_eq c fp _ _ fb 7)); iexact HB7
      isplitl [HB8]; · iapply (Entails.of_eq (landed_eq c fp _ _ fb 8)); iexact HB8
      isplitl [HB9]; · iapply (Entails.of_eq (landed_eq c fp _ _ fb 9)); iexact HB9
      isplitl [HB10]; · iapply (Entails.of_eq (landed_eq c fp _ _ fb 10)); iexact HB10
      isplitl [HB11]; · iapply (Entails.of_eq (landed_eq c fp _ _ fb 11)); iexact HB11
      isplitl [HB12]; · iapply (Entails.of_eq (landed_eq c fp _ _ fb 12)); iexact HB12
      iapply (Entails.of_eq (landed_eq c fp _ _ fb 13)); iexact HB13
    isplitl [HPd HT0 HT1 HT2 HT3 HT4 HT5 HT6 HT7 HT8 HT9 HT10 HT11 HT12 HT13 HT14 HT15 HT16 HT17 HT18 HT19 HT20 HT21 HT22 HT23 HT24 HT25]
    · iapply (pool_toks c fp).2
      isplitl [HPd]; · iexact HPd
      isplitl [HT0]; · iexact HT0
      isplitl [HT1]; · iexact HT1
      isplitl [HT2]; · iexact HT2
      isplitl [HT3]; · iexact HT3
      isplitl [HT4]; · iexact HT4
      isplitl [HT5]; · iexact HT5
      isplitl [HT6]; · iexact HT6
      isplitl [HT7]; · iexact HT7
      isplitl [HT8]; · iexact HT8
      isplitl [HT9]; · iexact HT9
      isplitl [HT10]; · iexact HT10
      isplitl [HT11]; · iexact HT11
      isplitl [HT12]; · iexact HT12
      isplitl [HT13]; · iexact HT13
      isplitl [HT14]; · iexact HT14
      isplitl [HT15]; · iexact HT15
      isplitl [HT16]; · iexact HT16
      isplitl [HT17]; · iexact HT17
      isplitl [HT18]; · iexact HT18
      isplitl [HT19]; · iexact HT19
      isplitl [HT20]; · iexact HT20
      isplitl [HT21]; · iexact HT21
      isplitl [HT22]; · iexact HT22
      isplitl [HT23]; · iexact HT23
      isplitl [HT24]; · iexact HT24
      iexact HT25
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexists _; iexact Hw
  · next h =>
    rw [hb.resolve_left h]
    iapply Hk
    isplitl [H1]; · iexact H1
    isplitl [H5]; · iexact H5
    isplitl [HB]; · iexact HB
    isplitl [HP]; · iexact HP
    isplitl [Hq0 Hq1 Hq2 Hq3 Hq4 Hq5 Hq6 Hq7 Hq8 Hq9 Hq10 Hq11 Hq12 Hq13]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      iexact Hq13
    iexists _; iexact Hw

end Cert.ShrinkIdeal.Hand

end
-- ==== Proof.ShrinkIdeal.Run.lean ====
/- The shrink body run once from its operands at any contents: the copies at the first point, the two blocks cleared, the
   fourteen segments. -/
module

public import proofs.«01_k».proof.Proof.Gen.ShrinkIdeal.Frame
public import proofs.«01_k».proof.Proof.Gen.ShrinkIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.ShrinkIdeal.Staged

@[expose] public section

noncomputable section

namespace Cert.ShrinkIdeal.Hand

open Cert.ShrinkIdeal Cert.ShrinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

theorem inbOff (n : ℕ) (h : n < 15) : ∀ a, (![n] : Fin 1 → ℕ) a + S1.size a ≤ S15.size a := by
  intro a; fin_cases a; show n + 1 ≤ 15; omega
/-- Where segment `n` starts (and segment `n - 1` ends). -/
def offAt (c : Dev nD) (arg4 : Memref sig .tc .smem S15 .i32) (f4 : Buf (Elt F) (arg4.view.loc (c : Thread nD τ))) (n : ℕ) (h : n < 15) : Elt F .i32 :=
  arg4.view.readAt (Elt F) (Rect.unit (s := S15) ![n] S1.size (inbOff n h)).toLoadRect f4 (Shape.Idx.first (numel1_S1.symm ▸ Nat.one_pos))

/-- The two result blocks after `n` segments. -/
def stAt (c : Dev nD) (i : grid0.Coords) (arg1 : Memref sig .tc .smem S23 .i32) (arg2 : Memref sig .tc .smem S23 .i32) (arg3 : Memref sig .tc .smem S23 .f32) (arg4 : Memref sig .tc .smem S15 .i32) (arg5 : Memref sig .tc .smem S14 .i32) (arg6 : Memref sig .tc .vmem S128x7168 .bf16) (arg7 : Memref sig .tc .vmem S1x2500 .f32)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : (n : ℕ) → n ≤ 14 → FVec F S128x128 .bf16 × FVec F S128x96 .bf16
  | 0, _ => (k0_pay38, k0_pay39)
  | n + 1, h => segSt c i arg1 arg2 arg3 arg5 arg6 arg7 f1 f2 f3 f5 f6 f7 (stagedOf c arg1 arg5 f1 f5 fp hst hsg) hst hsg ⟨n, h⟩ (offAt c arg4 f4 n (by omega)) (offAt c arg4 f4 (n + 1) (by omega))
      (stAt c i arg1 arg2 arg3 arg4 arg5 arg6 arg7 f1 f2 f3 f4 f5 f6 f7 fp hst hsg n (by omega))

/-- What every segment reads and leaves as it was. -/
def segCtx (c : Dev nD) (arg1 : Memref sig .tc .smem S23 .i32) (arg2 : Memref sig .tc .smem S23 .i32) (arg3 : Memref sig .tc .smem S23 .f32) (arg5 : Memref sig .tc .smem S14 .i32) (arg6 : Memref sig .tc .vmem S128x7168 .bf16) (arg7 : Memref sig .tc .vmem S1x2500 .f32) (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23) : sProp 𝕄 :=
  iprop(hbPt c arg1 fullShare f1 ∗ hbPt c arg2 fullShare f2 ∗ hbPt c arg3 fullShare f3 ∗ hbPt c arg5 fullShare f5 ∗ hbPt c arg6 fullShare f6 ∗ hbPt c arg7 fullShare f7 ∗ hbPt c scB fullShare (stagedOf c arg1 arg5 f1 f5 fp hst hsg))

/-- Segment `n` runs, then what follows it. -/
theorem segAt_sound (n : ℕ) (hn : n < 14) (c : Dev nD) (i : grid0.Coords) (arg1 : Memref sig .tc .smem S23 .i32) (arg2 : Memref sig .tc .smem S23 .i32) (arg3 : Memref sig .tc .smem S23 .f32) (arg4 : Memref sig .tc .smem S15 .i32) (arg5 : Memref sig .tc .smem S14 .i32) (arg6 : Memref sig .tc .vmem S128x7168 .bf16) (arg7 : Memref sig .tc .vmem S1x2500 .f32) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (fp : Buf (Elt F) (hbM.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    {α : Type} (kk : Prog (TpuEff nD τ sig (Elt F) Λ₀ .tc) α) (K : α → sProp 𝕄) :
    iprop(segCtx c arg1 arg2 arg3 arg5 arg6 arg7 f1 f2 f3 f5 f6 f7 fp hst hsg ∗ hbPt c arg9 fullShare (harg9.unread (stAt c i arg1 arg2 arg3 arg4 arg5 arg6 arg7 f1 f2 f3 f4 f5 f6 f7 fp hst hsg n (by omega)).1) ∗ hbPt c arg10 fullShare (harg10.unread (stAt c i arg1 arg2 arg3 arg4 arg5 arg6 arg7 f1 f2 f3 f4 f5 f6 f7 fp hst hsg n (by omega)).2)
        ∗ (iprop(segCtx c arg1 arg2 arg3 arg5 arg6 arg7 f1 f2 f3 f5 f6 f7 fp hst hsg ∗ hbPt c arg9 fullShare (harg9.unread (stAt c i arg1 arg2 arg3 arg4 arg5 arg6 arg7 f1 f2 f3 f4 f5 f6 f7 fp hst hsg (n + 1) (by omega)).1) ∗ hbPt c arg10 fullShare (harg10.unread (stAt c i arg1 arg2 arg3 arg4 arg5 arg6 arg7 f1 f2 f3 f4 f5 f6 f7 fp hst hsg (n + 1) (by omega)).2))
          -∗ wp frame (wpE (defs₀ (F := F)) Variants.none c none) Set.univ kk K))
      ⊢ wp frame (wpE (defs₀ (F := F)) Variants.none c none) Set.univ
          (segA ⟨n, hn⟩ i arg1 arg2 arg3 arg5 arg6 arg7 arg9 harg9 arg10 harg10 (k0_pay40 i) (iota .tc S128x128 32 [1] iota_S128x128_d1_w32) (offAt c arg4 f4 n (by omega)) (offAt c arg4 f4 (n + 1) (by omega)) kk) K := by
  unfold segCtx
  iintro ⟨⟨H1, H2, H3, H5, H6, H7, HB⟩, H9, H10, Hk⟩
  iapply (segA_sound c ⟨n, hn⟩ i arg1 arg2 arg3 arg5 arg6 arg7 arg9 harg9 arg10 harg10 f1 f2 f3 f5 f6 f7 _ hst hsg _ _ _)
  isplitl [H1]; · iexact H1
  isplitl [H2]; · iexact H2
  isplitl [H3]; · iexact H3
  isplitl [H5]; · iexact H5
  isplitl [H6]; · iexact H6
  isplitl [H7]; · iexact H7
  isplitl [HB]; · iexact HB
  isplitl [H9]; · iexact H9
  isplitl [H10]; · iexact H10
  iintro ⟨H1, H2, H3, H5, H6, H7, HB, H9, H10⟩
  iapply Hk
  isplitr [H9 H10]
  · isplitl [H1]; · iexact H1
    isplitl [H2]; · iexact H2
    isplitl [H3]; · iexact H3
    isplitl [H5]; · iexact H5
    isplitl [H6]; · iexact H6
    isplitl [H7]; · iexact H7
    iexact HB
  isplitl [H9]; · iexact H9
  iexact H10

set_option maxHeartbeats 8000000 in
/-- The body's run. -/
theorem kernelRun (c : Dev nD) (i : grid0.Coords)
    (arg1 : Memref sig .tc .smem S23 .i32) (harg1 : arg1.IsWhole) (arg2 : Memref sig .tc .smem S23 .i32) (harg2 : arg2.IsWhole) (arg3 : Memref sig .tc .smem S23 .f32) (harg3 : arg3.IsWhole) (arg4 : Memref sig .tc .smem S15 .i32) (harg4 : arg4.IsWhole) (arg5 : Memref sig .tc .smem S14 .i32) (harg5 : arg5.IsWhole) (arg6 : Memref sig .tc .vmem S128x7168 .bf16) (harg6 : arg6.IsWhole) (arg7 : Memref sig .tc .vmem S1x2500 .f32) (harg7 : arg7.IsWhole) (arg9 : Memref sig .tc .vmem S128x128 .bf16) (harg9 : arg9.IsWhole) (arg10 : Memref sig .tc .vmem S128x96 .bf16) (harg10 : arg10.IsWhole)
    (f1 : Buf (Elt F) (arg1.view.loc (c : Thread nD τ))) (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
    (f9 : Buf (Elt F) (arg9.view.loc (c : Thread nD τ))) (f10 : Buf (Elt F) (arg10.view.loc (c : Thread nD τ))) (fp : Buf (Elt F) (hbM.view.loc (c : Thread nD τ))) (fb : Buf (Elt F) (scB.view.loc (c : Thread nD τ)))
    (hst : ∀ (r : LoadRect S23) y, BitVec.toNat (w := 32) (arg1.view.readAt (Elt F) r f1 y) < 2304)
    (hsg : ∀ (r : LoadRect S14) y, BitVec.toNat (w := 32) (arg5.view.readAt (Elt F) r f5 y) < 23)
    (hb : k0_cond1 i = 1#1 ∨ fb = (stagedOf c arg1 arg5 f1 f5 fp hst hsg))
    (W : Waits sig Unit) (K : PUnit → sProp 𝕄) :
    iprop(hbPt c arg1 fullShare f1 ∗ hbPt c arg2 fullShare f2 ∗ hbPt c arg3 fullShare f3 ∗ hbPt c arg4 fullShare f4 ∗ hbPt c arg5 fullShare f5 ∗ hbPt c arg6 fullShare f6 ∗ hbPt c arg7 fullShare f7 ∗ hbPt c arg9 fullShare f9 ∗ hbPt c arg10 fullShare f10
        ∗ hbPt c scB fullShare fb ∗ hbPt c hbM fullShare fp ∗ semsZero c ∗ owes (c : Thread nD τ) 0 W
        ∗ (iprop(hbPt c arg1 fullShare f1 ∗ hbPt c arg2 fullShare f2 ∗ hbPt c arg3 fullShare f3 ∗ hbPt c arg4 fullShare f4 ∗ hbPt c arg5 fullShare f5 ∗ hbPt c arg6 fullShare f6 ∗ hbPt c arg7 fullShare f7
            ∗ hbPt c arg9 fullShare (harg9.unread (stAt c i arg1 arg2 arg3 arg4 arg5 arg6 arg7 f1 f2 f3 f4 f5 f6 f7 fp hst hsg 14 le_rfl).1) ∗ hbPt c arg10 fullShare (harg10.unread (stAt c i arg1 arg2 arg3 arg4 arg5 arg6 arg7 f1 f2 f3 f4 f5 f6 f7 fp hst hsg 14 le_rfl).2)
            ∗ hbPt c scB fullShare (stagedOf c arg1 arg5 f1 f5 fp hst hsg) ∗ hbPt c hbM fullShare fp ∗ semsZero c ∗ ∃ W', owes (c : Thread nD τ) 0 W') -∗ K ⟨⟩))
      ⊢ wp frame (wpE (defs₀ (F := F)) Variants.none c none) Set.univ
          (cc0_shrink i arg1 harg1 arg2 harg2 arg3 harg3 arg4 harg4 arg5 harg5 arg6 harg6 arg7 harg7 hbM (Memref.isWhole_whole _) arg9 harg9 arg10 harg10 scB (Memref.isWhole_whole _) cc0_scratch1) K := by
  rw [cc0_shrink_eq_skeleton]; unfold cc0_shrink_skel
  iintro ⟨H1, H2, H3, H4, H5, H6, H7, H9, H10, HB, HP, Hq, Hw, Hk⟩
  set_option sl_exec.stopBefore "k0_cond1" in
  sl_exec
  iapply (stageA_sound c i arg1 harg1 arg2 harg2 arg3 harg3 arg4 harg4 arg5 harg5 arg6 harg6 arg7 harg7 arg9 harg9 arg10 harg10 f1 f5 fp fb hst hsg hb W)
  isplitl [H1]; · iexact H1
  isplitl [H5]; · iexact H5
  isplitl [HB]; · iexact HB
  isplitl [HP]; · iexact HP
  isplitl [Hq]; · iexact Hq
  isplitl [Hw]; · iexact Hw
  iintro ⟨H1, H5, HB, HP, Hq, Hw⟩
  set_option sl_exec.stopBefore "k0_cond2" in
  sl_exec
  ihave H9 := (Entails.of_eq (congrArg (hbPt c arg9 fullShare) (init9 arg9 harg9 f9 k0_pay38))) $$ [H9]
  · iexact H9
  ihave H10 := (Entails.of_eq (congrArg (hbPt c arg10 fullShare) (init10 arg10 harg10 f10 k0_pay39))) $$ [H10]
  · iexact H10
  ihave HC : segCtx c arg1 arg2 arg3 arg5 arg6 arg7 f1 f2 f3 f5 f6 f7 fp hst hsg $$ [H1 H2 H3 H5 H6 H7 HB]
  · unfold segCtx
    isplitl [H1]; · iexact H1
    isplitl [H2]; · iexact H2
    isplitl [H3]; · iexact H3
    isplitl [H5]; · iexact H5
    isplitl [H6]; · iexact H6
    isplitl [H7]; · iexact H7
    iexact HB
  -- segment 0
  iapply (segAt_sound 0 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond3" in
  sl_exec
  -- segment 1
  iapply (segAt_sound 1 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond4" in
  sl_exec
  -- segment 2
  iapply (segAt_sound 2 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond5" in
  sl_exec
  -- segment 3
  iapply (segAt_sound 3 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond6" in
  sl_exec
  -- segment 4
  iapply (segAt_sound 4 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond7" in
  sl_exec
  -- segment 5
  iapply (segAt_sound 5 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond8" in
  sl_exec
  -- segment 6
  iapply (segAt_sound 6 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond9" in
  sl_exec
  -- segment 7
  iapply (segAt_sound 7 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond10" in
  sl_exec
  -- segment 8
  iapply (segAt_sound 8 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond11" in
  sl_exec
  -- segment 9
  iapply (segAt_sound 9 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond12" in
  sl_exec
  -- segment 10
  iapply (segAt_sound 10 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond13" in
  sl_exec
  -- segment 11
  iapply (segAt_sound 11 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond14" in
  sl_exec
  -- segment 12
  iapply (segAt_sound 12 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  set_option sl_exec.stopBefore "k0_cond15" in
  sl_exec
  -- segment 13
  iapply (segAt_sound 13 (by decide) c i arg1 arg2 arg3 arg4 arg5 arg6 arg7 arg9 harg9 arg10 harg10 f1 f2 f3 f4 f5 f6 f7 fp hst hsg)
  isplitl [HC]; · iexact HC
  isplitl [H9]; · iexact H9
  isplitl [H10]; · iexact H10
  iintro ⟨HC, H9, H10⟩
  unfold segCtx
  icases HC with ⟨H1, H2, H3, H5, H6, H7, HB⟩
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [HB]; · iexact HB
  isplitl [HP]; · iexact HP
  isplitl [Hq]; · iexact Hq
  iexact Hw

end Cert.ShrinkIdeal.Hand

end
-- ==== Proof.ShrinkIdeal.Frame.lean ====
/- The launch: every point of the grid runs the shrink body (`kernelRun`) on the blocks staged for it. The rows copied at the
   first point stay in the scratch for the others, which is the invariant between points. -/
module

public import proofs.«01_k».proof.Proof.Gen.ShrinkIdeal.Frame
public import proofs.«01_k».proof.Proof.Gen.ShrinkIdeal.Skeleton
public import Idealize.ShloMosaic.Lib.Pipeline.Frame
public import Idealize.ShloMosaic.Lib.Tactic
public import Idealize.ShloMosaic.Lib.Transfers
public import Idealize.ShloMosaic.Lib.ValueLayout
public import Idealize.ShloMosaic.Lib.WholeRead
public import Idealize.ShloMosaic.Lib.Exec
public import proofs.«01_k».proof.Proof.Gen.ShrinkIdeal.Points
public import proofs.«01_k».proof.Proof.Shrink.Tables
public import proofs.«01_k».proof.Proof.ShrinkIdeal.Run

@[expose] public section

noncomputable section

namespace Cert.ShrinkIdeal.Hand

open Cert.ShrinkIdeal Cert.ShrinkIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.ValueIdx

variable {F : FTy → Type} [FloatOps F] [∀ e, Nonempty (Elt F e)]

local notation "𝕄" => MT nD τ sig Unit (Elt F) ℕ (Pipeline.UD sig nD τ) ℕ

open Cert.Pre_shrink_tables_in_range (Tables)

variable (m : (ℓ : Loc nD τ sig) → Buf (Elt F) ℓ) (ρ : Dev nD → PrngReg)

/-! ## The operands the body is handed -/

/-- Window by window, the staging buffer the body is handed at a point, and its wholeness. -/
abbrev ms0 (t : Fin cfg0.N) : Memref sig .tc .smem S23 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S23 .i32 := win0_1.stage (cfg0.slots t 1)
abbrev hs1 (t : Fin cfg0.N) : (ms1 t).IsWhole := hstage0_1 ((cfg0.slots t 1).cast nbuf0_1)
abbrev ms2 (t : Fin cfg0.N) : Memref sig .tc .smem S23 .f32 := win0_2.stage (cfg0.slots t 2)
abbrev hs2 (t : Fin cfg0.N) : (ms2 t).IsWhole := hstage0_2 ((cfg0.slots t 2).cast nbuf0_2)
abbrev ms3 (t : Fin cfg0.N) : Memref sig .tc .smem S15 .i32 := win0_3.stage (cfg0.slots t 3)
abbrev hs3 (t : Fin cfg0.N) : (ms3 t).IsWhole := hstage0_3 ((cfg0.slots t 3).cast nbuf0_3)
abbrev ms4 (t : Fin cfg0.N) : Memref sig .tc .smem S14 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x7168 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2500 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x96 .bf16 := win0_8.stage (cfg0.slots t 8)
abbrev hs8 (t : Fin cfg0.N) : (ms8 t).IsWhole := hstage0_8 ((cfg0.slots t 8).cast nbuf0_8)
/-- Input by input, its staging buffer's contents when it holds the block of a point. -/
abbrev bk0 (c : Dev nD) (t : Fin cfg0.N) : Buf (Elt F) ((ms0 t).view.loc (c : Thread nD τ)) := (hs0 t).unread (iblk m c 0 t)
abbrev bk1 (c : Dev nD) (t : Fin cfg0.N) : Buf (Elt F) ((ms1 t).view.loc (c : Thread nD τ)) := (hs1 t).unread (iblk m c 1 t)
abbrev bk2 (c : Dev nD) (t : Fin cfg0.N) : Buf (Elt F) ((ms2 t).view.loc (c : Thread nD τ)) := (hs2 t).unread (iblk m c 2 t)
abbrev bk3 (c : Dev nD) (t : Fin cfg0.N) : Buf (Elt F) ((ms3 t).view.loc (c : Thread nD τ)) := (hs3 t).unread (iblk m c 3 t)
abbrev bk4 (c : Dev nD) (t : Fin cfg0.N) : Buf (Elt F) ((ms4 t).view.loc (c : Thread nD τ)) := (hs4 t).unread (iblk m c 4 t)
abbrev bk5 (c : Dev nD) (t : Fin cfg0.N) : Buf (Elt F) ((ms5 t).view.loc (c : Thread nD τ)) := (hs5 t).unread (iblk m c 5 t)
abbrev bk6 (c : Dev nD) (t : Fin cfg0.N) : Buf (Elt F) ((ms6 t).view.loc (c : Thread nD τ)) := (hs6 t).unread (iblk m c 6 t)

/-! ## What the body assumes of the tables -/

/-- The index tables are in range on every core. -/
abbrev Hyps : Prop := ∀ c : Dev nD,
  Tables (m ((c : Thread nD τ).loc main_arg3)) (m ((c : Thread nD τ).loc main_arg4)) (m ((c : Thread nD τ).loc main_arg6)) (m ((c : Thread nD τ).loc main_arg7))

/-- The block of table window 0 is its table. -/
theorem tab0 (c : Dev nD) (t : Fin cfg0.N) (y : S23.Idx) : iblk m c 0 t y = m ((c : Thread nD τ).loc main_arg3) y := by
  unfold iblk; rw [View.read_apply, cast_eq]
  refine (congrFun (V_main_arg3 m c) _).trans (congrArg _ (funext fun a => Fin.ext ?_))
  fin_cases a; show 0 + 1 * (y 0).val = (y 0).val; omega
/-- The block of table window 1 is its table. -/
theorem tab1 (c : Dev nD) (t : Fin cfg0.N) (y : S23.Idx) : iblk m c 1 t y = m ((c : Thread nD τ).loc main_arg4) y := by
  unfold iblk; rw [View.read_apply, cast_eq]
  refine (congrFun (V_main_arg4 m c) _).trans (congrArg _ (funext fun a => Fin.ext ?_))
  fin_cases a; show 0 + 1 * (y 0).val = (y 0).val; omega
/-- The block of table window 2 is its table. -/
theorem tab2 (c : Dev nD) (t : Fin cfg0.N) (y : S23.Idx) : iblk m c 2 t y = m ((c : Thread nD τ).loc main_arg5) y := by
  unfold iblk; rw [View.read_apply, cast_eq]
  refine (congrFun (V_main_arg5 m c) _).trans (congrArg _ (funext fun a => Fin.ext ?_))
  fin_cases a; show 0 + 1 * (y 0).val = (y 0).val; omega
/-- The block of table window 3 is its table. -/
theorem tab3 (c : Dev nD) (t : Fin cfg0.N) (y : S15.Idx) : iblk m c 3 t y = m ((c : Thread nD τ).loc main_arg6) y := by
  unfold iblk; rw [View.read_apply, cast_eq]
  refine (congrFun (V_main_arg6 m c) _).trans (congrArg _ (funext fun a => Fin.ext ?_))
  fin_cases a; show 0 + 1 * (y 0).val = (y 0).val; omega
/-- The block of table window 4 is its table. -/
theorem tab4 (c : Dev nD) (t : Fin cfg0.N) (y : S14.Idx) : iblk m c 4 t y = m ((c : Thread nD τ).loc main_arg7) y := by
  unfold iblk; rw [View.read_apply, cast_eq]
  refine (congrFun (V_main_arg7 m c) _).trans (congrArg _ (funext fun a => Fin.ext ?_))
  fin_cases a; show 0 + 1 * (y 0).val = (y 0).val; omega
variable {m} in
/-- A word loaded from the staged first slots is one of the table's, so in range; -/
theorem hst (hm : Hyps m) (c : Dev nD) (t : Fin cfg0.N) (r : LoadRect S23) (y) :
    BitVec.toNat (w := 32) ((ms0 t).view.readAt (Elt F) r (bk0 m c t) y) < 2304 := by
  rw [(hs0 t).readAt_unread]; rw [tab0]; exact (hm c).st_lt _
variable {m} in
/-- and so is one loaded from the staged adapter numbers. -/
theorem hsg (hm : Hyps m) (c : Dev nD) (t : Fin cfg0.N) (r : LoadRect S14) (y) :
    BitVec.toNat (w := 32) ((ms4 t).view.readAt (Elt F) r (bk4 m c t) y) < 23 := by
  rw [(hs4 t).readAt_unread]; rw [tab4]; exact (hm c).sg_lt _
/-- The staged offsets, adapters and first slots are the tables, word for word. -/
theorem offAt_eq (c : Dev nD) (t : Fin cfg0.N) (n : ℕ) (h : n < 15) :
    offAt c (ms3 t) (bk3 m c t) n h = m ((c : Thread nD τ).loc main_arg6) (ix1 (⟨n, h⟩ : Fin 15)) := by
  unfold offAt; rw [(hs3 t).readAt_unread, tab3]
  refine congrArg _ (funext fun a => Fin.ext ?_)
  fin_cases a; show n + 1 * 0 = n; omega
theorem adapter_eq (c : Dev nD) (t : Fin cfg0.N) (k : Fin 14) :
    adapterOf c (ms4 t) (bk4 m c t) k = m ((c : Thread nD τ).loc main_arg7) (ix1 k) := by
  unfold adapterOf; rw [(hs4 t).readAt_unread, tab4]
  refine congrArg _ (funext fun a => Fin.ext ?_)
  fin_cases a; show k.val + 1 * 0 = k.val; omega
theorem start_eq (c : Dev nD) (t : Fin cfg0.N) (v : BitVec 32) (h : v.toNat < 23) :
    startOf c (ms0 t) (bk0 m c t) v h = m ((c : Thread nD τ).loc main_arg3) (ix1 (⟨v.toNat, h⟩ : Fin 23)) := by
  unfold startOf; rw [(hs0 t).readAt_unread, tab0]
  refine congrArg _ (funext fun a => Fin.ext ?_)
  fin_cases a; show v.toNat + 1 * 0 = v.toNat; omega
theorem rank_eq (c : Dev nD) (t : Fin cfg0.N) (v : BitVec 32) (h : v.toNat < 23) :
    rankOf c (ms1 t) (bk1 m c t) v h = m ((c : Thread nD τ).loc main_arg4) (ix1 (⟨v.toNat, h⟩ : Fin 23)) := by
  unfold rankOf; rw [(hs1 t).readAt_unread, tab1]
  refine congrArg _ (funext fun a => Fin.ext ?_)
  fin_cases a; show v.toNat + 1 * 0 = v.toNat; omega
theorem scal_eq (c : Dev nD) (t : Fin cfg0.N) (v : BitVec 32) (h : v.toNat < 23) :
    scalOf c (ms2 t) (bk2 m c t) v h = m ((c : Thread nD τ).loc main_arg5) (ix1 (⟨v.toNat, h⟩ : Fin 23)) := by
  unfold scalOf; rw [(hs2 t).readAt_unread, tab2]
  refine congrArg _ (funext fun a => Fin.ext ?_)
  fin_cases a; show v.toNat + 1 * 0 = v.toNat; omega

variable {m}

/-- Segment `k`'s adapter, its first slot, its number of slots and its scaling, from the tables. -/
def adT (hm : Hyps m) (c : Dev nD) (k : Fin 14) : Fin 23 := ⟨BitVec.toNat (w := 32) (m ((c : Thread nD τ).loc main_arg7) (ix1 k)), (hm c).sg_lt _⟩
def stT (hm : Hyps m) (c : Dev nD) (k : Fin 14) : BitVec 32 := m ((c : Thread nD τ).loc main_arg3) (ix1 (adT hm c k))
def rkT (hm : Hyps m) (c : Dev nD) (k : Fin 14) : BitVec 32 := m ((c : Thread nD τ).loc main_arg4) (ix1 (adT hm c k))
def scT (hm : Hyps m) (c : Dev nD) (k : Fin 14) : F .f32 := m ((c : Thread nD τ).loc main_arg5) (ix1 (adT hm c k))
theorem stT_lt (hm : Hyps m) (c : Dev nD) (k : Fin 14) : (stT hm c k).toNat < 2304 := (hm c).st_lt _
theorem start_tab (hm : Hyps m) (c : Dev nD) (t : Fin cfg0.N) (k : Fin 14) :
    startOf c (ms0 t) (bk0 m c t) (adapterOf c (ms4 t) (bk4 m c t) k) (hsg hm c t _ _) = stT hm c k := by
  refine (start_eq m c t (adapterOf c (ms4 t) (bk4 m c t) k) (hsg hm c t _ _)).trans ?_
  unfold stT adT
  exact congrArg _ (congrArg ix1 (Fin.ext (congrArg BitVec.toNat (adapter_eq m c t k))))
theorem rank_tab (hm : Hyps m) (c : Dev nD) (t : Fin cfg0.N) (k : Fin 14) :
    rankOf c (ms1 t) (bk1 m c t) (adapterOf c (ms4 t) (bk4 m c t) k) (hsg hm c t _ _) = rkT hm c k := by
  refine (rank_eq m c t (adapterOf c (ms4 t) (bk4 m c t) k) (hsg hm c t _ _)).trans ?_
  unfold rkT adT
  exact congrArg _ (congrArg ix1 (Fin.ext (congrArg BitVec.toNat (adapter_eq m c t k))))
theorem scal_tab (hm : Hyps m) (c : Dev nD) (t : Fin cfg0.N) (k : Fin 14) :
    scalOf c (ms2 t) (bk2 m c t) (adapterOf c (ms4 t) (bk4 m c t) k) (hsg hm c t _ _) = scT hm c k := by
  refine (scal_eq m c t (adapterOf c (ms4 t) (bk4 m c t) k) (hsg hm c t _ _)).trans ?_
  unfold scT adT
  exact congrArg _ (congrArg ix1 (Fin.ext (congrArg BitVec.toNat (adapter_eq m c t k))))
/-- The staged rows: the same whichever point's blocks they are read from. -/
def staged (hm : Hyps m) (c : Dev nD) : Buf (Elt F) (scB.view.loc (c : Thread nD τ)) :=
  stagedRows c (V m c main_arg1) (stT hm c) (stT_lt hm c)
theorem stagedRows_congr (c : Dev nD) (fp : Buf (Elt F) (hbM.view.loc (c : Thread nD τ))) (st st' : Fin 14 → BitVec 32) (h : ∀ k, (st k).toNat < 2304)
    (h' : ∀ k, (st' k).toNat < 2304) (e : st = st') : stagedRows c fp st h = stagedRows c fp st' h' := by subst e; rfl
theorem staged_eq (hm : Hyps m) (c : Dev nD) (t : Fin cfg0.N) :
    stagedOf c (ms0 t) (ms4 t) (bk0 m c t) (bk4 m c t) (V m c main_arg1) (hst hm c t) (hsg hm c t) = staged hm c :=
  stagedRows_congr c _ _ _ _ _ (funext fun k => start_tab hm c t k)

/-! ## The invariant between points -/

/-- The fourteen cells of the kernel's own semaphore array. -/
abbrev osem0 : Fin 14 → SemLoc sig := fun j => (![SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25] : Fin 14 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semsZero c := by
  rw [Pipeline.ownSems0_eq_of_list c osem0 [0, 1, 2, 3, 4, 5, 6, 7, 8, 9, 10, 11, 12, 13] (by decide) (by decide)]; rfl
/-- The pool, left in HBM: no window's array. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM fullShare (V m c main_arg1)) := by
  rw [BI.bigSep_eq_bigSepL_of_eq [main_arg1] (by decide) (by decide)]; rfl
theorem PhiD0_eq (c : Dev nD) :
    (Pipeline.ΦD osem0 spec0 H0 (V m) c : sProp 𝕄)
      = iprop((∃ f, hbPt c scB fullShare f) ∗ (∃ r, prngReg c r) ∗ semsZero c ∗ hbPt c hbM fullShare (V m c main_arg1)) := by
  rw [Pipeline.ΦD_eq, scopedRest0_eq, ownSems00_eq, hbmPts0_eq]; try rfl

/-- Before point `n`: the scratch holding the staged rows unless `n` is the first, the generator register at some state, the
    cells at zero, the pool at its launch contents. -/
def Phi (hm : Hyps m) (c : Dev nD) (n : ℕ) : sProp 𝕄 :=
  iprop((∃ f, ⌜n = 0 ∨ f = staged hm c⌝ ∗ hbPt c scB fullShare f) ∗ (∃ r, prngReg c r) ∗ semsZero c ∗ hbPt c hbM fullShare (V m c main_arg1))
theorem Phi_in (hm : Hyps m) (c : Dev nD) : (Pipeline.ΦD osem0 spec0 H0 (V m) c : sProp 𝕄) ⊢ Phi hm c 0 := by
  rw [PhiD0_eq]; unfold Phi
  iintro ⟨⟨%f, HB⟩, Hr⟩
  isplitl [HB]
  · iexists f; isplitr; · ipureintro; exact Or.inl rfl
    iexact HB
  iexact Hr
theorem Phi_out (hm : Hyps m) (c : Dev nD) (n : ℕ) : Phi hm c n ⊢ (Pipeline.ΦD osem0 spec0 H0 (V m) c : sProp 𝕄) := by
  rw [PhiD0_eq]; unfold Phi
  iintro ⟨⟨%f, %hf, HB⟩, Hr⟩
  isplitl [HB]
  · iexists f; iexact HB
  iexact Hr

/-! ## The proof data -/

/-- The blocks of the two results the body leaves at a point. -/
def outSt (hm : Hyps m) (c : Dev nD) (t : Fin cfg0.N) : FVec F S128x128 .bf16 × FVec F S128x96 .bf16 :=
  stAt c (grid0.coords t) (ms0 t) (ms1 t) (ms2 t) (ms3 t) (ms4 t) (ms5 t) (ms6 t)
    (bk0 m c t) (bk1 m c t) (bk2 m c t) (bk3 m c t) (bk4 m c t) (bk5 m c t) (bk6 m c t) (V m c main_arg1) (hst hm c t) (hsg hm c t) 14 le_rfl

/-- The arrays as the region finds them; each input's buffer left at its block, the results' at `outSt`; full shares,
    nothing owed. -/
def dats (hm : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outSt hm c t).1
    | ⟨8, _⟩ => (outSt hm c t).2
  Φ t := Phi hm c t.val
  q _ := fullShare
  owed _ := 0

theorem A_eq (hm : Hyps m) (c : Dev nD) (w : Fin cfg0.W) : (dats hm 0 c).A w = V m c (Pipeline.arrRef spec0 w) := by dsimp only [dats]

/-- What an input's staging buffer holds before the body, input by input: its block. -/
theorem before0 (hm : Hyps m) (c : Dev nD) (t : Fin cfg0.N) (d) : (dats hm 0 c).before 0 t d = iblk m c 0 t :=
  ((dats hm 0 c).before_in_eq_fetched 0 rfl (fun _ => rfl) (fun _ _ _ => rfl) (fun _ => rfl) t d).trans rfl
theorem before1 (hm : Hyps m) (c : Dev nD) (t : Fin cfg0.N) (d) : (dats hm 0 c).before 1 t d = iblk m c 1 t :=
  ((dats hm 0 c).before_in_eq_fetched 1 rfl (fun _ => rfl) (fun _ _ _ => rfl) (fun _ => rfl) t d).trans rfl
theorem before2 (hm : Hyps m) (c : Dev nD) (t : Fin cfg0.N) (d) : (dats hm 0 c).before 2 t d = iblk m c 2 t :=
  ((dats hm 0 c).before_in_eq_fetched 2 rfl (fun _ => rfl) (fun _ _ _ => rfl) (fun _ => rfl) t d).trans rfl
theorem before3 (hm : Hyps m) (c : Dev nD) (t : Fin cfg0.N) (d) : (dats hm 0 c).before 3 t d = iblk m c 3 t :=
  ((dats hm 0 c).before_in_eq_fetched 3 rfl (fun _ => rfl) (fun _ _ _ => rfl) (fun _ => rfl) t d).trans rfl
theorem before4 (hm : Hyps m) (c : Dev nD) (t : Fin cfg0.N) (d) : (dats hm 0 c).before 4 t d = iblk m c 4 t :=
  ((dats hm 0 c).before_in_eq_fetched 4 rfl (fun _ => rfl) (fun _ _ _ => rfl) (fun _ => rfl) t d).trans rfl
theorem before5 (hm : Hyps m) (c : Dev nD) (t : Fin cfg0.N) (d) : (dats hm 0 c).before 5 t d = iblk m c 5 t :=
  ((dats hm 0 c).before_in_eq_fetched 5 rfl (fun _ => rfl) (fun _ _ _ => rfl) (fun _ => rfl) t d).trans rfl
theorem before6 (hm : Hyps m) (c : Dev nD) (t : Fin cfg0.N) (d) : (dats hm 0 c).before 6 t d = iblk m c 6 t :=
  ((dats hm 0 c).before_in_eq_fetched 6 rfl (fun _ => rfl) (fun _ _ _ => rfl) (fun _ => rfl) t d).trans rfl

/-- A whole memref owned at what reads as `X` is its buffer at the contents that read as `X`. -/
theorem hb_of_owns (c : Dev nD) {sp : Space} {S : Shape} {e : EltTy} {M : Memref sig .tc sp S e} (hM : M.IsWhole) (X : S.Idx → Elt F e) :
    (owns (c : Thread nD τ) M fullShare X : sProp 𝕄) ⊢ hbPt c M fullShare (hM.unread X) := by
  unfold owns
  rw [hM.set_eq_univ]
  iintro ⟨%f, %hf, H⟩
  rw [hM.eq_unread hf]
  iexact H
theorem owns_of_hb (c : Dev nD) {sp : Space} {S : Shape} {e : EltTy} {M : Memref sig .tc sp S e} (hM : M.IsWhole) (X : S.Idx → Elt F e) :
    hbPt c M fullShare (hM.unread X) ⊢ (owns (c : Thread nD τ) M fullShare X : sProp 𝕄) := by
  unfold owns
  rw [hM.set_eq_univ]
  iintro H
  iexists (hM.unread X)
  isplitr; · ipureintro; exact hM.read_unread _
  iexact H

/-! ## The body at a point -/

/-- The first point is the one the copies are made at. -/
theorem first_point (t : Fin cfg0.N) (h : t.val = 0) : k0_cond1 (grid0.coords t) = 1#1 := by
  have e : t = ⟨0, by decide⟩ := Fin.ext h
  rw [e]; exact cond1_of_zero _ (by decide)

/-- What the body is called with at point `t`. -/
def bodyPre (hm : Hyps m) (c : Dev nD) (t : Fin cfg0.N) : sProp 𝕄 :=
  iprop((dats hm 0 c).Φ t.castSucc ∗ (dats hm 0 c).owesAt () t.castSucc
    ∗ (∃ d, owns (c : Thread nD τ) (ms0 t) fullShare ((dats hm 0 c).before 0 t d))
    ∗ (∃ d, owns (c : Thread nD τ) (ms1 t) fullShare ((dats hm 0 c).before 1 t d))
    ∗ (∃ d, owns (c : Thread nD τ) (ms2 t) fullShare ((dats hm 0 c).before 2 t d))
    ∗ (∃ d, owns (c : Thread nD τ) (ms3 t) fullShare ((dats hm 0 c).before 3 t d))
    ∗ (∃ d, owns (c : Thread nD τ) (ms4 t) fullShare ((dats hm 0 c).before 4 t d))
    ∗ (∃ d, owns (c : Thread nD τ) (ms5 t) fullShare ((dats hm 0 c).before 5 t d))
    ∗ (∃ d, owns (c : Thread nD τ) (ms6 t) fullShare ((dats hm 0 c).before 6 t d))
    ∗ (∃ d, owns (c : Thread nD τ) (ms7 t) fullShare ((dats hm 0 c).before 7 t d))
    ∗ (∃ d, owns (c : Thread nD τ) (ms8 t) fullShare ((dats hm 0 c).before 8 t d)))
/-- What it returns. -/
def bodyPost (hm : Hyps m) (c : Dev nD) (t : Fin cfg0.N) : sProp 𝕄 :=
  iprop((dats hm 0 c).Φ t.succ ∗ (dats hm 0 c).owesAt () t.succ
    ∗ owns (c : Thread nD τ) (ms0 t) fullShare ((dats hm 0 c).after 0 t)
    ∗ owns (c : Thread nD τ) (ms1 t) fullShare ((dats hm 0 c).after 1 t)
    ∗ owns (c : Thread nD τ) (ms2 t) fullShare ((dats hm 0 c).after 2 t)
    ∗ owns (c : Thread nD τ) (ms3 t) fullShare ((dats hm 0 c).after 3 t)
    ∗ owns (c : Thread nD τ) (ms4 t) fullShare ((dats hm 0 c).after 4 t)
    ∗ owns (c : Thread nD τ) (ms5 t) fullShare ((dats hm 0 c).after 5 t)
    ∗ owns (c : Thread nD τ) (ms6 t) fullShare ((dats hm 0 c).after 6 t)
    ∗ owns (c : Thread nD τ) (ms7 t) fullShare ((dats hm 0 c).after 7 t)
    ∗ owns (c : Thread nD τ) (ms8 t) fullShare ((dats hm 0 c).after 8 t))

set_option maxHeartbeats 1000000 in
/-- The body at the point: the invariant opened, `kernelRun` on the blocks, the invariant closed. -/
theorem sound_body (hm : Hyps m) (c : Dev nD) (t : Fin cfg0.N) :
    bodyPre hm c t ⊢ wp frame (wpE (defs₀ (F := F)) Variants.none c none) Set.univ (bodyAt0 t) (fun _ => bodyPost hm c t) := by
  unfold bodyPre bodyPost bodyAt0
  rw [show (dats hm 0 c).owesAt () t.succ = (dats hm 0 c).owesAt () t.castSucc from rfl,
    show (dats hm 0 c).Φ t.castSucc = Phi hm c t.val from rfl, show (dats hm 0 c).Φ t.succ = Phi hm c (t.val + 1) from rfl]
  unfold Dat.owesAt Pipeline.owesWithin Phi
  rw [show (dats hm 0 c).owed t.castSucc = 0 from rfl]
  iintro ⟨⟨⟨%fb, %hfb, HB⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0 hm c t d0]
  rw [before1 hm c t d1]
  rw [before2 hm c t d2]
  rw [before3 hm c t d3]
  rw [before4 hm c t d4]
  rw [before5 hm c t d5]
  rw [before6 hm c t d6]
  ihave H0 := (hb_of_owns c (hs0 t) _) $$ H0
  ihave H1 := (hb_of_owns c (hs1 t) _) $$ H1
  ihave H2 := (hb_of_owns c (hs2 t) _) $$ H2
  ihave H3 := (hb_of_owns c (hs3 t) _) $$ H3
  ihave H4 := (hb_of_owns c (hs4 t) _) $$ H4
  ihave H5 := (hb_of_owns c (hs5 t) _) $$ H5
  ihave H6 := (hb_of_owns c (hs6 t) _) $$ H6
  ihave H7 := (hb_of_owns c (hs7 t) _) $$ H7
  ihave H8 := (hb_of_owns c (hs8 t) _) $$ H8
  iapply (kernelRun c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (bk0 m c t) (bk1 m c t) (bk2 m c t) (bk3 m c t) (bk4 m c t) (bk5 m c t) (bk6 m c t) _ _ (V m c main_arg1) fb
    (hst hm c t) (hsg hm c t) (hfb.imp (first_point t) fun e => e.trans (staged_eq hm c t).symm) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HB]; · iexact HB
  isplitl [Hh]; · iexact Hh
  isplitl [Hq]; · iexact Hq
  isplitl [HO]; · iexact HO
  iintro ⟨H0, H1, H2, H3, H4, H5, H6, H7, H8, HB, Hh, Hq, ⟨%W', HO⟩⟩
  isplitl [HB Hg Hq Hh]
  · isplitl [HB]
    · iexists _; isplitr; · ipureintro; exact Or.inr (staged_eq hm c t)
      iexact HB
    isplitl [Hg]; · iexact Hg
    isplitl [Hq]; · iexact Hq
    iexact Hh
  isplitl [HO]
  · iexists W'; isplitr; · ipureintro; exact fun _ _ => Or.inl trivial
    iexact HO
  isplitl [H0]; · iapply (owns_of_hb c (hs0 t) (iblk m c 0 t)); iexact H0
  isplitl [H1]; · iapply (owns_of_hb c (hs1 t) (iblk m c 1 t)); iexact H1
  isplitl [H2]; · iapply (owns_of_hb c (hs2 t) (iblk m c 2 t)); iexact H2
  isplitl [H3]; · iapply (owns_of_hb c (hs3 t) (iblk m c 3 t)); iexact H3
  isplitl [H4]; · iapply (owns_of_hb c (hs4 t) (iblk m c 4 t)); iexact H4
  isplitl [H5]; · iapply (owns_of_hb c (hs5 t) (iblk m c 5 t)); iexact H5
  isplitl [H6]; · iapply (owns_of_hb c (hs6 t) (iblk m c 6 t)); iexact H6
  isplitl [H7]; · iapply (owns_of_hb c (hs7 t) (outSt hm c t).1); iexact H7
  iapply (owns_of_hb c (hs8 t) (outSt hm c t).2); iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The obligation the launch asks of the body. -/
theorem body_obligation (hm : Hyps m) (c : Dev nD) : BodyObligation (dats (F := F) hm 0 c) (defs₀ (F := F)) Variants.none () Set.univ := fun t => by
  rw [bigSep_W0, bigSep_W0, defs₀_row]
  exact triple_restated (sound_body hm c t) rfl .rfl fun _ => .rfl

/-! ## The launch -/

/-- @main up to the region, at the algebra the transfers run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run: every fair execution terminates with every array at its folded write-backs, every other buffer as the region
    found it, and every counter at zero. -/
theorem run_main (hm : Hyps m) :
    θ_run defs (onTc (τ := τ) (main (F := F))) (s₀ m ρ)
      (fun r => Pipeline.FramePost cfgs (dats hm) 0 (V m) r ∧ r.2.sem = fun _ => 0) :=
  Pipeline.θ_run_frame_dma (Q' := _) cfgs (dats hm) (0 : Fin 1) launch0 osem0 defs₀ Variants.none ownSemFacts0 H0 H0_sub m ρ main
    (hbody := fun c => (body_obligation hm c).loose) (hshare := fun c => (dats hm 0 c).share_full fun _ => rfl)
    (howed := fun _ _ => rfl) (V := V m) (hmain := hmainD Variants.none) (hA := A_eq hm)
    (hin := fun c => Phi_in hm c) (hout := fun c => Phi_out hm c _)

/-- The arguments end as they began. -/
theorem args_kept (hm : Hyps m) {r : PUnit × MemSt nD τ sig (Elt F)} (h : Pipeline.FramePost cfgs (dats hm) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
    ⟨((h c).1 5).trans (((dats hm 0 c).arrAt_in 5 rfl _).trans ((A_eq hm c 5).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 0).trans (((dats hm 0 c).arrAt_in 0 rfl _).trans ((A_eq hm c 0).trans (V_main_arg3 m c))),
      ((h c).1 1).trans (((dats hm 0 c).arrAt_in 1 rfl _).trans ((A_eq hm c 1).trans (V_main_arg4 m c))),
      ((h c).1 2).trans (((dats hm 0 c).arrAt_in 2 rfl _).trans ((A_eq hm c 2).trans (V_main_arg5 m c))),
      ((h c).1 3).trans (((dats hm 0 c).arrAt_in 3 rfl _).trans ((A_eq hm c 3).trans (V_main_arg6 m c))),
      ((h c).1 4).trans (((dats hm 0 c).arrAt_in 4 rfl _).trans ((A_eq hm c 4).trans (V_main_arg7 m c)))⟩

/-- The program terminates, leaves its arguments unchanged and returns every counter to zero. -/
theorem quiescent (hm : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept hm h.1 c, h.2⟩) (run_main ρ hm)

end Cert.ShrinkIdeal.Hand

end
-- ==== Proof.ShrinkIdeal.Spec.lean ====
/- The two results' elements, in plain terms, which the kernel and the reference are both shown to compute, and the words both
   compare. -/
module

public import proofs.«01_k».proof.Proof.ShrinkIdeal.Checks
public import Idealize.ShloMosaic.Lib.Pointwise
public import Idealize.ShloMosaic.Lib.Affine
public import Idealize.ShloMosaic.Lib.WordCmp

@[expose] public section

noncomputable section

namespace Cert.ShrinkIdeal.Hand

open Idealize.ShloMosaic

/-- A row's product with pool row `q`, times that row's scale and the adapter's scaling. -/
def actAt (x : (⟨2, ![1280, 7168]⟩ : Shape).Idx → EReal) (pool : (⟨2, ![2500, 7168]⟩ : Shape).Idx → BitVec 8)
    (sc : (⟨1, ![2500]⟩ : Shape).Idx → EReal) (u : EReal) (r : Fin 1280) (q : Fin 2500) : EReal :=
  (∑ d : Fin 7168, x (ix2 r d) * FloatOps.sitofp (F := Ideal) .bf16 (pool (ix2 q d))) * sc (ix1 q) * u

/-- The first result: the window of 128 pool rows from the last multiple of 32 at or below the adapter's first slot `v`, zero
    outside its `rk` slots. -/
def hwinAt (x : (⟨2, ![1280, 7168]⟩ : Shape).Idx → EReal) (pool : (⟨2, ![2500, 7168]⟩ : Shape).Idx → BitVec 8)
    (sc : (⟨1, ![2500]⟩ : Shape).Idx → EReal) (v rk : BitVec 32) (u : EReal) (hv : v.toNat < 2304) (r : Fin 1280) (k : Fin 128) : EReal :=
  if v.toNat % 32 ≤ k.val ∧ (k.val : ℤ) < (v.toNat % 32 : ℕ) + rk.toInt then
    actAt x pool sc u r ⟨v.toNat / 32 * 32 + k.val, by omega⟩ else 0

/-- The second result: the adapter's slots from its first. -/
def loraAt (x : (⟨2, ![1280, 7168]⟩ : Shape).Idx → EReal) (pool : (⟨2, ![2500, 7168]⟩ : Shape).Idx → BitVec 8)
    (sc : (⟨1, ![2500]⟩ : Shape).Idx → EReal) (v rk : BitVec 32) (u : EReal) (hv : v.toNat < 2304) (r : Fin 1280) (j : Fin 96) : EReal :=
  if (j.val : ℤ) < rk.toInt then actAt x pool sc u r ⟨v.toNat + j.val, by omega⟩ else 0

/-- A select on a flag that says `p`. -/
theorem select_of_iff {α : Type} (c : BitVec 1) (p : Prop) [Decidable p] (h : c = 1#1 ↔ p) (a b : α) :
    Scalar.select c a b = if p then a else b := by
  unfold Scalar.select
  exact if_congr h rfl rfl

theorem toInt_small (v : BitVec 32) (h : v.toNat < 2 ^ 31) : v.toInt = v.toNat := by
  simp only [BitVec.toInt]; omega

theorem ofNat_toInt (n : ℕ) (h : n < 2 ^ 31) : (BitVec.ofNat 32 n).toInt = n := by
  rw [toInt_small _ (by rw [BitVec.toNat_ofNat]; omega), BitVec.toNat_ofNat, Nat.mod_eq_of_lt (by omega)]

/-- How far an adapter's first slot is into its window. -/
theorem off_toNat (v : BitVec 32) (h : v.toNat < 2304) : (IntOp.subi v (IntOp.andi v 4294967264#32)).toNat = v.toNat % 32 := by
  have e : (IntOp.andi v 4294967264#32).toNat = v.toNat / 32 * 32 := and32_of_lt v h
  show (v - IntOp.andi v 4294967264#32).toNat = _
  rw [BitVec.toNat_sub, e]
  omega

/-- A lane below the number of slots. -/
theorem lane_iff (j : ℕ) (hj : j < 128) (rk : BitVec 32) : IntOp.cmpi .slt (BitVec.ofNat 32 j) rk = 1#1 ↔ (j : ℤ) < rk.toInt := by
  rw [IntOp.cmpi_slt, ofNat_toInt j (by omega)]

/-- A lane of the window below the end of the slots. -/
theorem end_iff (k : ℕ) (hk : k < 128) (o rk : BitVec 32) (ho : o.toNat < 32) (hrk : rk.toInt ≤ 2147483616) :
    IntOp.cmpi .slt (BitVec.ofNat 32 k) (IntOp.addi o rk) = 1#1 ↔ (k : ℤ) < (o.toNat : ℕ) + rk.toInt := by
  have e : (IntOp.addi o rk).toInt = o.toNat + rk.toInt := by
    show (o + rk).toInt = _
    have h := rk.isLt
    simp only [BitVec.toInt, BitVec.toNat_add] at hrk ⊢
    omega
  rw [lane_iff k hk, e]

/-- A lane of the window at or after the first slot. -/
theorem begin_iff (k : ℕ) (hk : k < 128) (o : BitVec 32) (ho : o.toNat < 32) :
    IntOp.cmpi .sge (BitVec.ofNat 32 k) o = 1#1 ↔ o.toNat ≤ k := by
  rw [IntOp.cmpi_sge, ofNat_toInt k (by omega), toInt_small o (by omega)]
  omega

/-- A lane of the window among the slots. -/
theorem win_iff (k : ℕ) (hk : k < 128) (o rk : BitVec 32) (ho : o.toNat < 32) (hrk : rk.toInt ≤ 2147483616) :
    IntOp.andi (IntOp.cmpi .sge (BitVec.ofNat 32 k) o) (IntOp.cmpi .slt (BitVec.ofNat 32 k) (IntOp.addi o rk)) = 1#1
      ↔ o.toNat ≤ k ∧ (k : ℤ) < (o.toNat : ℕ) + rk.toInt := by
  rw [IntOp.andi_eq_one, begin_iff k hk o ho, end_iff k hk o rk ho hrk]

end Cert.ShrinkIdeal.Hand

end
-- ==== Proof.ShrinkIdeal.Payloads.lean ====
/- The body's vector expressions over the extended reals, read at one element each. -/
module

public import proofs.«01_k».proof.Proof.Gen.ShrinkIdeal.Skeleton
public import proofs.«01_k».proof.Proof.Gen.ShrinkIdeal
public import proofs.«01_k».proof.Proof.ShrinkIdeal.Spec

@[expose] public section

set_option maxRecDepth 16384

noncomputable section

namespace Cert.ShrinkIdeal.Hand

open Cert.ShrinkIdeal Cert.ShrinkIdeal.Gen
open Idealize.ShloMosaic

/-- The blocks start at zero. -/
theorem pay38_at (y : S128x128.Idx) : (k0_pay38 (F := Ideal) y : EReal) = 0 := by
  pointwise [k0_pay38]
theorem pay39_at (y : S128x96.Idx) : (k0_pay39 (F := Ideal) y : EReal) = 0 := by
  pointwise [k0_pay39]

/-- How far the pair of lane rows is rolled. -/
abbrev rollOf (st : BitVec 32) : BitVec 32 :=
  Scalar.select (Scalar.cmpi CmpIPredicate.eq (Scalar.subi (Scalar.andi st 4294967264#32)
      (Scalar.andi (Scalar.andi st 4294967264#32) 4294967168#32)) 0#32) (0#32)
    (Scalar.subi (256#32) (Scalar.subi (Scalar.andi st 4294967264#32)
      (Scalar.andi (Scalar.andi st 4294967264#32) 4294967168#32)))
theorem roll_fin : ∀ s : Fin 72, (rollOf (BitVec.ofNat 32 (32 * s.val))).toNat = (256 - s.val % 4 * 32) % 256 := by decide +kernel
theorem and32_again : ∀ s : Fin 2304, Scalar.andi (BitVec.ofNat 32 s.val) 4294967264#32 = BitVec.ofNat 32 (32 * (s.val / 32)) := by decide +kernel
theorem and32_self : ∀ s : Fin 72, Scalar.andi (BitVec.ofNat 32 (32 * s.val)) 4294967264#32 = BitVec.ofNat 32 (32 * s.val) := by decide +kernel
/-- The window starts `st / 32 * 32 - st / 128 * 128` lanes into the pair of lane rows, and is rolled to its front. -/
theorem rollOf_toNat (st : BitVec 32) (h : st.toNat < 2304) : (rollOf st).toNat = (256 - st.toNat / 32 % 4 * 32) % 256 := by
  have e1 := and32_again ⟨st.toNat, h⟩
  have e2 := and32_self ⟨st.toNat / 32, by omega⟩
  have e3 := roll_fin ⟨st.toNat / 32, by omega⟩
  simp only [BitVec.ofNat_toNat, BitVec.setWidth_eq] at e1
  rw [← e1] at e2 e3
  unfold rollOf at e3 ⊢
  rw [e2] at e3
  exact e3

/-- The scaled products: a row of the tile with staged row `k`, times scale `st / 32 * 32 - st / 128 * 128 + k` of the two lane
    rows read, times the scaling. -/
theorem pay10_at (st : BitVec 32) (hst : st.toNat < 2304) (rows : Vec Ideal S1x128x7168 .i8) (x : Vec Ideal S128x7168 .bf16) (sc : Vec Ideal S1x256 .f32)
    (u : Elt Ideal .f32) (a k : Fin 128) :
    k0_pay10 (F := Ideal) st rows x sc u (ix2 a k)
      = (∑ d : Fin 7168, x (ix2 a d) * FloatOps.sitofp (F := Ideal) .bf16 (rows (ix3 (0 : Fin 1) k d) : BitVec 8))
        * sc (ix2 (0 : Fin 1) (⟨st.toNat / 32 % 4 * 32 + k.val, by omega⟩ : Fin 256)) * (u : EReal) := by
  pointwise [k0_pay10]
  refine congrArg (fun z : EReal => _ * z * (u : EReal)) ?_
  refine congrArg sc (congrArg _ (Fin.ext ?_))
  show (k.val + 256 - (rollOf st).toNat % 256) % 256 = _
  rw [rollOf_toNat st hst]
  have := k.isLt
  show _ = st.toNat / 32 % 4 * 32 + k.val
  omega

/-- The tile's row counter. -/
theorem pay40_toNat (i : grid0.Coords) (a k : Fin 128) : (k0_pay40 i (ix2 a k)).toNat = (i 0).val * 128 + a.val := by
  have hi : (i 0).val < 10 := (i 0).isLt
  have e : k0_pay40 i (ix2 a k) = BitVec.ofNat 32 a.val + BitVec.ofNat 32 (i 0).val * 128#32 := by
    pointwise [k0_pay40]
    rfl
  rw [e]
  simp only [BitVec.toNat_add, BitVec.toNat_mul, BitVec.toNat_ofNat]
  omega

/-- The row mask: set on the rows of the segment. -/
theorem row_iff (w lo hi : BitVec 32) (hw : w.toNat < 1280) (hlo : lo.toNat ≤ 1280) (hhi : hi.toNat ≤ 1280) :
    IntOp.andi (IntOp.cmpi .sge w lo) (IntOp.cmpi .slt w hi) = 1#1 ↔ lo.toNat ≤ w.toNat ∧ w.toNat < hi.toNat := by
  rw [IntOp.andi_eq_one, IntOp.cmpi_sge, IntOp.cmpi_slt, toInt_small w (by omega), toInt_small lo (by omega), toInt_small hi (by omega)]
  omega

/-- The entries a segment owns: its rows, at the lanes of its adapter's slots. -/
theorem pay11_iff (i : grid0.Coords) (lo hi st rk : BitVec 32) (hlo : lo.toNat ≤ 1280) (hhi : hi.toNat ≤ 1280) (hst : st.toNat < 2304) (hrk : rk.toInt ≤ 2147483616)
    (a k : Fin 128) :
    k0_pay11 (F := Ideal) (k0_pay40 i) (iota .tc S128x128 32 [1] iota_S128x128_d1_w32) lo hi st rk (ix2 a k) = 1#1
      ↔ (lo.toNat ≤ (i 0).val * 128 + a.val ∧ (i 0).val * 128 + a.val < hi.toNat)
        ∧ st.toNat % 32 ≤ k.val ∧ (k.val : ℤ) < (st.toNat % 32 : ℕ) + rk.toInt := by
  have hi' : (i 0).val < 10 := (i 0).isLt
  have ew := pay40_toNat i a k
  have eo := off_toNat st hst
  have e : k0_pay11 (F := Ideal) (k0_pay40 i) (iota .tc S128x128 32 [1] iota_S128x128_d1_w32) lo hi st rk (ix2 a k)
      = IntOp.andi (IntOp.andi (IntOp.andi (IntOp.cmpi .sge (k0_pay40 i (ix2 a k)) lo) (IntOp.cmpi .slt (k0_pay40 i (ix2 a k)) hi))
          (IntOp.cmpi .sge (BitVec.ofNat 32 k.val) (IntOp.subi st (IntOp.andi st 4294967264#32))))
        (IntOp.cmpi .slt (BitVec.ofNat 32 k.val) (IntOp.addi (IntOp.subi st (IntOp.andi st 4294967264#32)) rk)) := by
    pointwise [k0_pay11]
    rfl
  rw [e, IntOp.andi_eq_one, IntOp.andi_eq_one, row_iff _ lo hi (by rw [ew]; omega) hlo hhi,
    begin_iff k.val k.isLt _ (by rw [eo]; omega), end_iff k.val k.isLt _ rk (by rw [eo]; omega) hrk, ew, eo, and_assoc]

/-- The first block's store: the segment's entries, elsewhere what it held. -/
theorem pay45_at (V : FVec Ideal S128x128 .f32) (M : IVec S128x128 1) (z : Ideal .f32) (X : Vec Ideal S128x128 .bf16) (y : S128x128.Idx) :
    (k0_pay45 (F := Ideal) V M z X y : EReal) = if M y = 1#1 then (V y : EReal) else X y := by
  have e : (k0_pay45 (F := Ideal) V M z X y : EReal) = Scalar.select (M y) (Scalar.select (M y) (V y : EReal) z) (X y) := by
    pointwise [k0_pay45, k0_pay44]
  rw [e, select_of_iff _ _ Iff.rfl, select_of_iff _ _ Iff.rfl]
  split <;> rfl

/-- How far the second block's lanes are rolled. -/
abbrev rollBack (o : BitVec 32) : BitVec 32 := Scalar.select (Scalar.cmpi CmpIPredicate.eq o 0#32) (0#32) (Scalar.subi (128#32) o)
theorem rollBack_fin : ∀ s : Fin 32, (rollBack (BitVec.ofNat 32 s.val)).toNat = (128 - s.val) % 128 := by decide +kernel
theorem rollBack_toNat (o : BitVec 32) (h : o.toNat < 32) : (rollBack o).toNat = (128 - o.toNat) % 128 := by
  have e := rollBack_fin ⟨o.toNat, h⟩
  simp only [BitVec.ofNat_toNat, BitVec.setWidth_eq] at e
  exact e

/-- The second block's store: on the segment's rows its entries, rolled to the front, with `z` where it owns none; elsewhere
    what it held. -/
theorem pay46_at (i : grid0.Coords) (lo hi o : BitVec 32) (hlo : lo.toNat ≤ 1280) (hhi : hi.toNat ≤ 1280) (ho : o.toNat < 32)
    (V : FVec Ideal S128x128 .f32) (M : IVec S128x128 1) (z : Ideal .f32) (X : Vec Ideal S128x96 .bf16) (a : Fin 128) (j : Fin 96) :
    (k0_pay46 (F := Ideal) (k0_pay40 i) lo hi o V M z X (ix2 a j) : EReal)
      = if lo.toNat ≤ (i 0).val * 128 + a.val ∧ (i 0).val * 128 + a.val < hi.toNat then
          (if M (ix2 a (⟨j.val + o.toNat, by omega⟩ : Fin 128)) = 1#1 then (V (ix2 a (⟨j.val + o.toNat, by omega⟩ : Fin 128)) : EReal) else z)
        else X (ix2 a j) := by
  have hi' : (i 0).val < 10 := (i 0).isLt
  have hj := j.isLt
  have ew := pay40_toNat i a (⟨j.val, by omega⟩ : Fin 128)
  have el : (⟨(j.val + 128 - (rollBack o).toNat % 128) % 128, by omega⟩ : Fin 128) = ⟨j.val + o.toNat, by omega⟩ := by
    refine Fin.ext ?_
    show (j.val + 128 - (rollBack o).toNat % 128) % 128 = j.val + o.toNat
    rw [rollBack_toNat o ho]; omega
  have e : (k0_pay46 (F := Ideal) (k0_pay40 i) lo hi o V M z X (ix2 a j) : EReal)
      = Scalar.select (IntOp.andi (IntOp.cmpi .sge (k0_pay40 i (ix2 a (⟨j.val, by omega⟩ : Fin 128))) lo) (IntOp.cmpi .slt (k0_pay40 i (ix2 a (⟨j.val, by omega⟩ : Fin 128))) hi))
          (Scalar.select (M (ix2 a (⟨(j.val + 128 - (rollBack o).toNat % 128) % 128, by omega⟩ : Fin 128)))
            (V (ix2 a (⟨(j.val + 128 - (rollBack o).toNat % 128) % 128, by omega⟩ : Fin 128)) : EReal) z) (X (ix2 a j)) := by
    pointwise [k0_pay46, k0_pay44]
  rw [e, el, select_of_iff _ _ (row_iff _ lo hi (by rw [ew]; omega) hlo hhi), ew, select_of_iff _ _ Iff.rfl]

end Cert.ShrinkIdeal.Hand

end
-- ==== Proof.ShrinkIdeal.Output.lean ====
/- What the kernel leaves in its two results, element by element, over the extended reals. -/
module

public import proofs.«01_k».proof.Proof.ShrinkIdeal.Frame
public import proofs.«01_k».proof.Proof.ShrinkIdeal.Payloads
public import Idealize.ShloMosaic.Lib.WritesUnit
public import Idealize.ShloMosaic.Lib.Pointwise.IndexBridge
public import Idealize.ShloMosaic.Lib.Pipeline.ValueKit.Geometry

@[expose] public section

set_option maxRecDepth 16384

noncomputable section

namespace Cert.ShrinkIdeal.Hand

open Cert.ShrinkIdeal Cert.ShrinkIdeal.Gen
open Idealize.ShloMosaic Idealize.ShloMosaic.TcCoe Idealize.SL.Sem
open Cert.Pre_shrink_tables_in_range (Tables)

variable (m : (ℓ : Loc nD τ sig) → Buf (Elt Ideal) ℓ)

/-! ## The blocks, read at coordinates -/

/-- The index a unit-stride window of a matrix gives its element. -/
theorem unit_idx2 {A B C D : ℕ} (off : Fin 2 → ℕ) (o0 o1 : ℕ) (h : off = ![o0, o1])
    (inb : ∀ a, off a + (![C, D] : Fin 2 → ℕ) a ≤ (⟨2, ![A, B]⟩ : Shape).size a) (x : Fin C) (y : Fin D) (r : Fin A) (n : Fin B)
    (hr : r.val = o0 + x.val) (hn : n.val = o1 + y.val) :
    (Rect.unit (s := ⟨2, ![A, B]⟩) off ![C, D] inb).toLoadRect.idx (ix2 x y) = (ix2 r n : (⟨2, ![A, B]⟩ : Shape).Idx) := by
  subst h
  funext d; refine Fin.ext ?_
  fin_cases d
  · show o0 + 1 * x.val = r.val; omega
  · show o1 + 1 * y.val = n.val; omega

/-- The grid's coordinate at point `t` is `t`. -/
theorem coord_eq : ∀ t : Fin cfg0.N, (grid0.coords t 0).val = t.val :=
  (by decide +kernel : ∀ t : Fin grid0.N, (grid0.coords t 0).val = t.val)

/-- Row `a` of point `t`'s tile. -/
abbrev row (t : Fin cfg0.N) (a : Fin 128) : Fin 1280 := ⟨t.val * 128 + a.val, by have : t.val < 10 := t.isLt; omega⟩

theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])

theorem blk5 (c : Dev nD) (t : Fin cfg0.N) (a : Fin 128) (d : Fin 7168) :
    (iblk m c 5 t : S128x7168.Idx → EReal) (ix2 a d) = (m ((c : Thread nD τ).loc main_arg0) : S1280x7168.Idx → EReal) (ix2 (row t a) d) := by
  blk_simp [iblk]
  refine (congrFun (V_main_arg0 m c) _).trans (congrArg _ (funext fun a => Fin.ext ?_))
  fin_cases a <;> blk_simp [index5] <;> simp

/-- The scale row is the scale vector laid out as one row. -/
theorem V_scales (c : Dev nD) : V m c main_v0 = shapeCast S1x2500 (m ((c : Thread nD τ).loc main_arg2) : S2500.Idx → EReal) shapeCasts_S2500_S1x2500 := by
  rfl

theorem blk6 (c : Dev nD) (t : Fin cfg0.N) (k : Fin 2500) :
    (iblk m c 6 t : S1x2500.Idx → EReal) (ix2 (0 : Fin 1) k) = (m ((c : Thread nD τ).loc main_arg2) : S2500.Idx → EReal) (ix1 k) := by
  blk_simp [iblk]
  have e : ((win0_6.blk t).view.emb (ix2 (0 : Fin 1) k) : S1x2500.Idx) = ix2 (0 : Fin 1) k := funext fun a => Fin.ext (by
    fin_cases a <;> blk_simp [index6] <;> simp)
  refine (congrArg (V m c main_v0 : S1x2500.Idx → EReal) e).trans ?_
  refine (congrFun (V_scales m c) _).trans ?_
  pointwise

variable {m}

/-! ## The offsets -/

/-- Where segment `n` starts. -/
abbrev offs (m : (ℓ : Loc nD τ sig) → Buf (Elt Ideal) ℓ) (c : Dev nD) (n : ℕ) (h : n < 15) : ℕ :=
  ((m ((c : Thread nD τ).loc main_arg6) : S15.Idx → BitVec 32) (ix1 (⟨n, h⟩ : Fin 15))).toNat

/-- An offset read by the body is the table's. -/
theorem offAt_toNat (c : Dev nD) (t : Fin cfg0.N) (n : ℕ) (h : n < 15) :
    (offAt c (ms3 t) (bk3 m c t) n h : BitVec 32).toNat = offs m c n h := by
  rw [offAt_eq, ← ix1_eq_valueIdx]

/-- The offsets ascend. -/
theorem offs_mono (hm : Hyps m) (c : Dev nD) (a : ℕ) : ∀ b (ha : a ≤ b) (hb : b < 15), offs m c a (by omega) ≤ offs m c b hb
  | 0, ha, hb => by obtain rfl : a = 0 := by omega
                    exact le_rfl
  | b + 1, ha, hb => by
    rcases Nat.lt_or_ge b a with h | h
    · obtain rfl : a = b + 1 := by omega
      exact le_rfl
    · refine (offs_mono hm c a b h (by omega)).trans ?_
      have := (hm c).of_mono b (by omega)
      rwa [← ix1_eq_valueIdx, ← ix1_eq_valueIdx] at this

/-- Every row is in one segment. -/
theorem seg_exists (hm : Hyps m) (c : Dev nD) (r : Fin 1280) :
    ∃ s : Fin 14, offs m c s.val (by omega) ≤ r.val ∧ r.val < offs m c (s.val + 1) (by omega) := by
  have h0 : offs m c 0 (by omega) = 0 := by
    have := congrArg BitVec.toNat (hm c).of_first
    rw [← ix1_eq_valueIdx] at this; exact this
  have h14 : offs m c 14 (by omega) = 1280 := by
    have := congrArg BitVec.toNat (hm c).of_last
    rw [← ix1_eq_valueIdx] at this; exact this
  by_contra hne
  push Not at hne
  have key : ∀ n (h : n < 15), offs m c n h ≤ r.val := by
    intro n; induction n with
    | zero => intro h; rw [h0]; exact Nat.zero_le _
    | succ n ih => intro h; exact hne ⟨n, by omega⟩ (ih (by omega))
  have := key 14 (by omega)
  rw [h14] at this; omega

/-! ## One segment's scaled products and its entries -/

/-- The staged row `k` of segment `s` is pool row `k` of its adapter's window. -/
theorem staged_at (hm : Hyps m) (c : Dev nD) (t : Fin cfg0.N) (s : Fin 14) (k : Fin 128) (d : Fin 7168)
    (hq : (stT hm c s).toNat / 32 * 32 + k.val < 2500) :
    ((stagedOf c (ms0 t) (ms4 t) (bk0 m c t) (bk4 m c t) (V m c main_arg1) (hst hm c t) (hsg hm c t)) : S14x128x7168.Idx → BitVec 8) (ix3 s k d)
      = (m ((c : Thread nD τ).loc main_arg1) : S2500x7168.Idx → BitVec 8) (ix2 (⟨(stT hm c s).toNat / 32 * 32 + k.val, hq⟩ : Fin 2500) d) := by
  have hv := stT_lt hm c s
  rw [staged_eq hm c t]
  refine (congrArg (landRows c (V m c main_arg1) (stT hm c s) hv) (ix2_eq_valueIdx k d).symm).trans ?_
  refine (congrFun (V_main_arg1 m c) _).trans (congrArg _ ?_)
  exact unit_idx2 (A := 2500) (B := 7168) (C := 128) (D := 7168) _ _ _ (off2_eq _ hv) (inbPool _ hv) k d _ _ rfl (Nat.zero_add _).symm

/-- The scale read for staged row `k`, where the first slot is `v`. -/
theorem scale_at (c : Dev nD) (t : Fin cfg0.N) (v : BitVec 32) (hv : v.toNat < 2304) (k : Fin 128) (h1 : v.toNat / 32 % 4 * 32 + k.val < 256)
    (h2 : v.toNat / 32 * 32 + k.val < 2500) :
    ((ms6 t).view.readAt (Elt Ideal) (Rect.unit (s := S1x2500) (k0_off58 v) S1x256.size (inbScale v hv)).toLoadRect (bk6 m c t) (ix2 (0 : Fin 1) (⟨v.toNat / 32 % 4 * 32 + k.val, h1⟩ : Fin 256)) : EReal)
      = (m ((c : Thread nD τ).loc main_arg2) : S2500.Idx → EReal) (ix1 (⟨v.toNat / 32 * 32 + k.val, h2⟩ : Fin 2500)) := by
  rw [(hs6 t).readAt_unread]
  refine (congrArg (iblk m c 6 t : S1x2500.Idx → EReal) ?_).trans (blk6 m c t _)
  exact unit_idx2 (A := 1) (B := 2500) (C := 1) (D := 256) _ _ _ (off58_eq v hv) (inbScale v hv) (0 : Fin 1) _ (0 : Fin 1) _ rfl
    (by show v.toNat / 32 * 32 + k.val = v.toNat / 128 * 128 + (v.toNat / 32 % 4 * 32 + k.val); omega)

/-- A scaled product of the tile. -/
theorem tile_at (hm : Hyps m) (c : Dev nD) (t : Fin cfg0.N) (s : Fin 14) (a k : Fin 128) (hq : (stT hm c s).toNat / 32 * 32 + k.val < 2500) :
    (tileVal c (ms0 t) (ms1 t) (ms2 t) (ms4 t) (ms5 t) (ms6 t) (bk0 m c t) (bk1 m c t) (bk2 m c t) (bk4 m c t) (bk5 m c t) (bk6 m c t)
        (stagedOf c (ms0 t) (ms4 t) (bk0 m c t) (bk4 m c t) (V m c main_arg1) (hst hm c t) (hsg hm c t)) (hst hm c t) (hsg hm c t) s (ix2 a k) : EReal)
      = actAt (m ((c : Thread nD τ).loc main_arg0)) (m ((c : Thread nD τ).loc main_arg1)) (m ((c : Thread nD τ).loc main_arg2)) (scT hm c s) (row t a) ⟨(stT hm c s).toNat / 32 * 32 + k.val, hq⟩ := by
  have es := start_tab hm c t s
  unfold tileVal
  refine (pay10_at _ (hst hm c t _ _) _ _ _ _ a k).trans ?_
  unfold actAt
  refine congrArg₂ (fun y z : EReal => y * z) (congrArg₂ (fun y z : EReal => y * z) (Finset.sum_congr rfl fun d _ => congrArg₂ (fun y z : EReal => y * z) ?_ (congrArg _ ?_)) ?_) (scal_tab hm c t s)
  · rw [(hs5 t).readAt_unread, unit_idx2 (A := 128) (B := 7168) (C := 128) (D := 7168) _ 0 0 rfl _ a d a d (Nat.zero_add _).symm (Nat.zero_add _).symm]
    exact blk5 m c t a d
  · refine Eq.trans (congrArg ((stagedOf c (ms0 t) (ms4 t) (bk0 m c t) (bk4 m c t) (V m c main_arg1) (hst hm c t) (hsg hm c t)) : S14x128x7168.Idx → BitVec 8) ?_) (staged_at hm c t s k d hq)
    funext e; refine Fin.ext ?_
    fin_cases e
    · show s.val + 1 * 0 = s.val; omega
    · show 0 + 1 * k.val = k.val; omega
    · show 0 + 1 * d.val = d.val; omega
  · refine (scale_at c t _ (hst hm c t _ _) k _ ?_).trans (congrArg _ (congrArg ix1 (Fin.ext ?_)))
    · exact (congrArg (fun z : BitVec 32 => z.toNat / 32 * 32 + k.val) es).trans_lt hq
    · exact congrArg (fun z : BitVec 32 => z.toNat / 32 * 32 + k.val) es

/-- The entries a segment owns, where its first slot and number of slots are known. -/
theorem mask_gen (t : Fin cfg0.N) (lo hi v rk v' rk' : BitVec 32) (ev : v = v') (er : rk = rk') (hlo : lo.toNat ≤ 1280) (hhi : hi.toNat ≤ 1280)
    (hv : v'.toNat < 2304) (hrk : rk'.toInt ≤ 2147483616) (a k : Fin 128) :
    k0_pay11 (F := Ideal) (k0_pay40 (grid0.coords t)) (iota .tc S128x128 32 [1] iota_S128x128_d1_w32) lo hi v rk (ix2 a k) = 1#1
      ↔ (lo.toNat ≤ (row t a).val ∧ (row t a).val < hi.toNat) ∧ v'.toNat % 32 ≤ k.val ∧ (k.val : ℤ) < (v'.toNat % 32 : ℕ) + rk'.toInt := by
  subst ev er
  refine (pay11_iff (grid0.coords t) lo hi v rk hlo hhi hv hrk a k).trans ?_
  rw [coord_eq t]
theorem rkT_le (hm : Hyps m) (c : Dev nD) (s : Fin 14) : (rkT hm c s).toInt ≤ 2147483616 := (hm c).rk_le _
theorem mask_at (hm : Hyps m) (c : Dev nD) (t : Fin cfg0.N) (s : Fin 14) (lo hi : BitVec 32) (hlo : lo.toNat ≤ 1280) (hhi : hi.toNat ≤ 1280) (a k : Fin 128) :
    tileMask (F := Ideal) c (grid0.coords t) (ms0 t) (ms1 t) (ms2 t) (ms4 t) (ms5 t) (ms6 t) (bk0 m c t) (bk1 m c t) (bk2 m c t) (bk4 m c t) (bk5 m c t) (bk6 m c t)
        (hst hm c t) (hsg hm c t) s lo hi (ix2 a k) = 1#1
      ↔ (lo.toNat ≤ (row t a).val ∧ (row t a).val < hi.toNat) ∧ (stT hm c s).toNat % 32 ≤ k.val ∧ (k.val : ℤ) < ((stT hm c s).toNat % 32 : ℕ) + (rkT hm c s).toInt :=
  mask_gen t lo hi _ _ _ _ (start_tab hm c t s) (rank_tab hm c t s) hlo hhi (stT_lt hm c s) (rkT_le hm c s) a k

section
variable (hm : Hyps m) (c : Dev nD) (t : Fin cfg0.N) (s : Fin 14) (lo hi : BitVec 32) (hlo : lo.toNat ≤ 1280) (hhi : hi.toNat ≤ 1280)
  (X : FVec Ideal S128x128 .bf16 × FVec Ideal S128x96 .bf16) (a : Fin 128)
include hlo hhi

/-- A segment without a row in the tile has none of its rows. -/
theorem cond_row (h : ¬ k0_cond2 (grid0.coords t) lo hi = 1#1) : ¬ (lo.toNat ≤ (row t a).val ∧ (row t a).val < hi.toNat) := by
  rw [cond_iff _ lo hi hlo hhi, coord_eq t] at h
  have ha := a.isLt
  show ¬ (lo.toNat ≤ t.val * 128 + a.val ∧ t.val * 128 + a.val < hi.toNat)
  omega

/-- The first block after a segment. -/
theorem seg_fst (k : Fin 128) :
    ((segSt c (grid0.coords t) (ms0 t) (ms1 t) (ms2 t) (ms4 t) (ms5 t) (ms6 t) (bk0 m c t) (bk1 m c t) (bk2 m c t) (bk4 m c t) (bk5 m c t) (bk6 m c t)
        (stagedOf c (ms0 t) (ms4 t) (bk0 m c t) (bk4 m c t) (V m c main_arg1) (hst hm c t) (hsg hm c t)) (hst hm c t) (hsg hm c t) s lo hi X).1 (ix2 a k) : EReal)
      = if (lo.toNat ≤ (row t a).val ∧ (row t a).val < hi.toNat) ∧ (stT hm c s).toNat % 32 ≤ k.val ∧ (k.val : ℤ) < ((stT hm c s).toNat % 32 : ℕ) + (rkT hm c s).toInt then
          hwinAt (m ((c : Thread nD τ).loc main_arg0)) (m ((c : Thread nD τ).loc main_arg1)) (m ((c : Thread nD τ).loc main_arg2)) (stT hm c s) (rkT hm c s) (scT hm c s) (stT_lt hm c s) (row t a) k
        else X.1 (ix2 a k) := by
  have hv := stT_lt hm c s
  have hk := k.isLt
  unfold segSt
  split
  · refine (pay45_at _ _ _ _ _).trans ?_
    refine (if_congr (mask_at hm c t s lo hi hlo hhi a k) rfl rfl).trans ?_
    split
    · next h => rw [tile_at hm c t s a k (by omega), hwinAt, if_pos h.2]
    · rfl
  · next h => rw [if_neg (fun h' => cond_row t lo hi hlo hhi a h h'.1)]

/-- The second. -/
theorem seg_snd (j : Fin 96) :
    ((segSt c (grid0.coords t) (ms0 t) (ms1 t) (ms2 t) (ms4 t) (ms5 t) (ms6 t) (bk0 m c t) (bk1 m c t) (bk2 m c t) (bk4 m c t) (bk5 m c t) (bk6 m c t)
        (stagedOf c (ms0 t) (ms4 t) (bk0 m c t) (bk4 m c t) (V m c main_arg1) (hst hm c t) (hsg hm c t)) (hst hm c t) (hsg hm c t) s lo hi X).2 (ix2 a j) : EReal)
      = if (lo.toNat ≤ (row t a).val ∧ (row t a).val < hi.toNat) then
          loraAt (m ((c : Thread nD τ).loc main_arg0)) (m ((c : Thread nD τ).loc main_arg1)) (m ((c : Thread nD τ).loc main_arg2)) (stT hm c s) (rkT hm c s) (scT hm c s) (stT_lt hm c s) (row t a) j
        else X.2 (ix2 a j) := by
  have hv := stT_lt hm c s
  have hj := j.isLt
  have eo : (winOff (startOf c (ms0 t) (bk0 m c t) (adapterOf c (ms4 t) (bk4 m c t) s) (hsg hm c t _ _))).toNat = (stT hm c s).toNat % 32 :=
    (off_toNat _ (hst hm c t _ _)).trans (congrArg (fun z : BitVec 32 => z.toNat % 32) (start_tab hm c t s))
  unfold segSt
  split
  · refine (pay46_at (grid0.coords t) lo hi _ hlo hhi (by rw [eo]; omega) _ _ _ _ a j).trans ?_
    rw [coord_eq t]
    refine if_ctx_congr Iff.rfl (fun hr => ?_) (fun _ => rfl)
    refine (if_congr (mask_at hm c t s lo hi hlo hhi a _) (tile_at hm c t s a _ (by show _ / 32 * 32 + (j.val + _) < 2500; rw [eo]; omega)) Ideal.ofBits_zero_f32).trans ?_
    unfold loraAt
    refine if_ctx_congr ?_ (fun _ => congrArg _ (Fin.ext ?_)) (fun _ => rfl)
    · rw [and_iff_right (show (lo.toNat ≤ (row t a).val ∧ (row t a).val < hi.toNat) from hr)]
      show (_ ≤ j.val + _ ∧ ((j.val + _ : ℕ) : ℤ) < _) ↔ _
      rw [eo]
      push_cast
      omega
    · show _ / 32 * 32 + (j.val + _) = (stT hm c s).toNat + j.val
      rw [eo]; omega
  · next h => rw [if_neg (cond_row t lo hi hlo hhi a h)]

end

/-! ## The blocks stored at a point -/

/-- The two blocks after `n` segments. -/
abbrev stN (hm : Hyps m) (c : Dev nD) (t : Fin cfg0.N) (n : ℕ) (hn : n ≤ 14) : FVec Ideal S128x128 .bf16 × FVec Ideal S128x96 .bf16 :=
  stAt c (grid0.coords t) (ms0 t) (ms1 t) (ms2 t) (ms3 t) (ms4 t) (ms5 t) (ms6 t)
    (bk0 m c t) (bk1 m c t) (bk2 m c t) (bk3 m c t) (bk4 m c t) (bk5 m c t) (bk6 m c t) (V m c main_arg1) (hst hm c t) (hsg hm c t) n hn

theorem offAt_le (hm : Hyps m) (c : Dev nD) (t : Fin cfg0.N) (n : ℕ) (h : n < 15) : (offAt c (ms3 t) (bk3 m c t) n h : BitVec 32).toNat ≤ 1280 := by
  rw [offAt_toNat]; exact (hm c).of_le _

/-- A row of another segment is not among a segment's. -/
theorem other_seg (hm : Hyps m) (c : Dev nD) (s : Fin 14) (r : Fin 1280) (n : ℕ) (hn : n < 14) (hs : s.val ≠ n)
    (hr : offs m c s.val (by omega) ≤ r.val ∧ r.val < offs m c (s.val + 1) (by omega)) :
    ¬ (offs m c n (by omega) ≤ r.val ∧ r.val < offs m c (n + 1) (by omega)) := by
  rintro ⟨h1, h2⟩
  rcases Nat.lt_or_gt_of_ne hs with h | h
  · have := offs_mono hm c (s.val + 1) n (by omega) (by omega); omega
  · have := offs_mono hm c (n + 1) s.val (by omega) (by omega); omega

/-- After `n` segments a row of the first block has its segment's entries, if its segment is among them. -/
theorem fst_at (hm : Hyps m) (c : Dev nD) (t : Fin cfg0.N) (s : Fin 14) (a k : Fin 128)
    (hr : offs m c s.val (by omega) ≤ (row t a).val ∧ (row t a).val < offs m c (s.val + 1) (by omega)) : ∀ n (hn : n ≤ 14),
    ((stN hm c t n hn).1 (ix2 a k) : EReal)
      = if s.val < n then hwinAt (m ((c : Thread nD τ).loc main_arg0)) (m ((c : Thread nD τ).loc main_arg1)) (m ((c : Thread nD τ).loc main_arg2)) (stT hm c s) (rkT hm c s) (scT hm c s) (stT_lt hm c s) (row t a) k else 0
  | 0, _ => by
    rw [if_neg (Nat.not_lt_zero _)]
    exact pay38_at (ix2 a k)
  | n + 1, hn => by
    have ih := fst_at hm c t s a k hr n (by omega)
    refine (seg_fst hm c t ⟨n, by omega⟩ (offAt c (ms3 t) (bk3 m c t) n (by omega)) (offAt c (ms3 t) (bk3 m c t) (n + 1) (by omega))
      (offAt_le hm c t n _) (offAt_le hm c t (n + 1) _) (stN hm c t n (by omega)) a k).trans ?_
    rw [ih, offAt_toNat, offAt_toNat]
    by_cases hs : s.val = n
    · subst hs
      rw [if_neg (lt_irrefl _), if_pos (Nat.lt_succ_self _)]
      unfold hwinAt
      split
      · rfl
      · next h => rw [if_neg (fun h' => h ⟨hr, h'⟩)]
    · rw [if_neg (fun h => other_seg hm c s _ n (by omega) hs hr h.1)]
      exact if_congr (by omega) rfl rfl

/-- And of the second. -/
theorem snd_at (hm : Hyps m) (c : Dev nD) (t : Fin cfg0.N) (s : Fin 14) (a : Fin 128) (j : Fin 96)
    (hr : offs m c s.val (by omega) ≤ (row t a).val ∧ (row t a).val < offs m c (s.val + 1) (by omega)) : ∀ n (hn : n ≤ 14),
    ((stN hm c t n hn).2 (ix2 a j) : EReal)
      = if s.val < n then loraAt (m ((c : Thread nD τ).loc main_arg0)) (m ((c : Thread nD τ).loc main_arg1)) (m ((c : Thread nD τ).loc main_arg2)) (stT hm c s) (rkT hm c s) (scT hm c s) (stT_lt hm c s) (row t a) j else 0
  | 0, _ => by
    rw [if_neg (Nat.not_lt_zero _)]
    exact pay39_at (ix2 a j)
  | n + 1, hn => by
    have ih := snd_at hm c t s a j hr n (by omega)
    refine (seg_snd hm c t ⟨n, by omega⟩ (offAt c (ms3 t) (bk3 m c t) n (by omega)) (offAt c (ms3 t) (bk3 m c t) (n + 1) (by omega))
      (offAt_le hm c t n _) (offAt_le hm c t (n + 1) _) (stN hm c t n (by omega)) a j).trans ?_
    rw [ih, offAt_toNat, offAt_toNat]
    by_cases hs : s.val = n
    · subst hs
      rw [if_pos hr, if_pos (Nat.lt_succ_self _)]
    · rw [if_neg (other_seg hm c s _ n (by omega) hs hr)]
      exact if_congr (by omega) rfl rfl

/-! ## The two results -/

/-- The first result: each row from the block it is in. -/
theorem hwin_arr (hm : Hyps m) (c : Dev nD) :
    (dats hm 0 c).arrAt 7 cfg0.N = fun i : S1280x128.Idx =>
      (outSt hm c (⟨(i 0).val / 128, by have : (i 0).val < 1280 := (i 0).isLt; show _ < 10; omega⟩ : Fin cfg0.N)).1
        (ix2 (⟨(i 0).val % 128, by omega⟩ : Fin 128) (i 1 : Fin 128)) := by
  refine (dats hm 0 c).arrAt_eq_of_covers 7 _ (by decide +kernel) fun t hf y => ?_
  have h0 : (y 0).val < 128 := (y 0).isLt
  have e0 : (((win0_7.blk t).view.emb y : S1280x128.Idx) 0).val = t.val * 128 + (y 0).val := by blk_simp [index7]
  have e1 : (((win0_7.blk t).view.emb y : S1280x128.Idx) 1).val = (y 1).val := by blk_simp [index7]
  have et : (⟨(((win0_7.blk t).view.emb y : S1280x128.Idx) 0).val / 128, by rw [e0]; have : t.val < 10 := t.isLt; show _ < 10; omega⟩ : Fin cfg0.N) = t :=
    Fin.ext (by show (((win0_7.blk t).view.emb y : S1280x128.Idx) 0).val / 128 = t.val; rw [e0]; omega)
  have ey : (ix2 (⟨(((win0_7.blk t).view.emb y : S1280x128.Idx) 0).val % 128, by omega⟩ : Fin 128)
      (((win0_7.blk t).view.emb y : S1280x128.Idx) 1 : Fin 128) : S128x128.Idx) = y := by
    funext a; refine Fin.ext ?_
    fin_cases a
    · show (((win0_7.blk t).view.emb y : S1280x128.Idx) 0).val % 128 = (y 0).val
      rw [e0]; omega
    · exact e1
  exact (cast_eq _ _).trans (congrArg₂ (fun (t : Fin cfg0.N) (y : S128x128.Idx) => (outSt hm c t).1 y) et ey).symm

/-- Its element, for a row of segment `s`. -/
theorem hwin_kernel (hm : Hyps m) (c : Dev nD) (s : Fin 14) (r : Fin 1280) (k : Fin 128)
    (hr : offs m c s.val (by omega) ≤ r.val ∧ r.val < offs m c (s.val + 1) (by omega)) :
    ((dats hm 0 c).arrAt 7 cfg0.N : S1280x128.Idx → EReal) (ix2 r k)
      = hwinAt (m ((c : Thread nD τ).loc main_arg0)) (m ((c : Thread nD τ).loc main_arg1)) (m ((c : Thread nD τ).loc main_arg2)) (stT hm c s) (rkT hm c s) (scT hm c s) (stT_lt hm c s) r k := by
  have hc : row (⟨r.val / 128, by show _ < 10; omega⟩ : Fin cfg0.N) (⟨r.val % 128, by omega⟩ : Fin 128) = r :=
    Fin.ext (by show r.val / 128 * 128 + r.val % 128 = r.val; omega)
  rw [hwin_arr]
  refine (fst_at hm c (⟨r.val / 128, by show _ < 10; omega⟩ : Fin cfg0.N) s (⟨r.val % 128, by omega⟩ : Fin 128) k (by rw [hc]; exact hr) 14 le_rfl).trans ?_
  rw [if_pos s.isLt, hc]

/-- The second result: each row from the block it is in. -/
theorem lora_arr (hm : Hyps m) (c : Dev nD) :
    (dats hm 0 c).arrAt 8 cfg0.N = fun i : S1280x96.Idx =>
      (outSt hm c (⟨(i 0).val / 128, by have : (i 0).val < 1280 := (i 0).isLt; show _ < 10; omega⟩ : Fin cfg0.N)).2
        (ix2 (⟨(i 0).val % 128, by omega⟩ : Fin 128) (i 1 : Fin 96)) := by
  refine (dats hm 0 c).arrAt_eq_of_covers 8 _ (by decide +kernel) fun t hf y => ?_
  have h0 : (y 0).val < 128 := (y 0).isLt
  have e0 : (((win0_8.blk t).view.emb y : S1280x96.Idx) 0).val = t.val * 128 + (y 0).val := by blk_simp [index8]
  have e1 : (((win0_8.blk t).view.emb y : S1280x96.Idx) 1).val = (y 1).val := by blk_simp [index8]
  have et : (⟨(((win0_8.blk t).view.emb y : S1280x96.Idx) 0).val / 128, by rw [e0]; have : t.val < 10 := t.isLt; show _ < 10; omega⟩ : Fin cfg0.N) = t :=
    Fin.ext (by show (((win0_8.blk t).view.emb y : S1280x96.Idx) 0).val / 128 = t.val; rw [e0]; omega)
  have ey : (ix2 (⟨(((win0_8.blk t).view.emb y : S1280x96.Idx) 0).val % 128, by omega⟩ : Fin 128)
      (((win0_8.blk t).view.emb y : S1280x96.Idx) 1 : Fin 96) : S128x96.Idx) = y := by
    funext a; refine Fin.ext ?_
    fin_cases a
    · show (((win0_8.blk t).view.emb y : S1280x96.Idx) 0).val % 128 = (y 0).val
      rw [e0]; omega
    · exact e1
  exact (cast_eq _ _).trans (congrArg₂ (fun (t : Fin cfg0.N) (y : S128x96.Idx) => (outSt hm c t).2 y) et ey).symm

/-- Its element, for a row of segment `s`. -/
theorem lora_kernel (hm : Hyps m) (c : Dev nD) (s : Fin 14) (r : Fin 1280) (k : Fin 96)
    (hr : offs m c s.val (by omega) ≤ r.val ∧ r.val < offs m c (s.val + 1) (by omega)) :
    ((dats hm 0 c).arrAt 8 cfg0.N : S1280x96.Idx → EReal) (ix2 r k)
      = loraAt (m ((c : Thread nD τ).loc main_arg0)) (m ((c : Thread nD τ).loc main_arg1)) (m ((c : Thread nD τ).loc main_arg2)) (stT hm c s) (rkT hm c s) (scT hm c s) (stT_lt hm c s) r k := by
  have hc : row (⟨r.val / 128, by show _ < 10; omega⟩ : Fin cfg0.N) (⟨r.val % 128, by omega⟩ : Fin 128) = r :=
    Fin.ext (by show r.val / 128 * 128 + r.val % 128 = r.val; omega)
  rw [lora_arr]
  refine (snd_at hm c (⟨r.val / 128, by show _ < 10; omega⟩ : Fin cfg0.N) s (⟨r.val % 128, by omega⟩ : Fin 128) k (by rw [hc]; exact hr) 14 le_rfl).trans ?_
  rw [if_pos s.isLt, hc]

end Cert.ShrinkIdeal.Hand

end
-- ==== Proof.ShrinkIdeal.RefValue.lean ====
/- What the reference computes, element by element, over the extended reals. -/
module

public import proofs.«01_k».proof.Proof.Gen.ShrinkReferenceIdeal.Read
public import proofs.«01_k».proof.Proof.ShrinkIdeal.Spec
public import Idealize.ShloMosaic.Lib.Pointwise.IndexBridge
public import Idealize.ShloMosaic.Lib.StableHlo.Predicate

@[expose] public section

set_option maxRecDepth 16384

noncomputable section

namespace Cert.ShrinkReferenceIdeal.Hand

open Cert.ShrinkReferenceIdeal Cert.ShrinkReferenceIdeal.Gen Cert.ShrinkReferenceIdeal.Read
open Idealize.ShloMosaic Idealize.ShloMosaic.TcCoe Idealize.SL.Sem
open Cert.ShrinkIdeal.Hand (actAt hwinAt loraAt)

/-! ## The gathers -/

/-- A word below 2³¹ is not wrapped by the index normalisation. -/
theorem wrap_id (v k : BitVec 32) (h : v.toNat < 2 ^ 31) :
    Scalar.select (IntOp.cmpi .slt v 0#32) (IntOp.addi v k) v = v := by
  unfold Scalar.select
  refine if_neg ?_
  show ¬ (IntOp.cmpi .slt v 0#32 = 1#1)
  rw [IntOp.cmpi_slt, Cert.ShrinkIdeal.Hand.toInt_small v h]
  simp

/-- A word below the size reads itself after the clamp. -/
theorem clamp_id (v : BitVec 32) (n : ℕ) (hn : n < 2 ^ 31) (h : v.toNat < n) : min v.toInt.toNat (n - 1) = v.toNat := by
  rw [Cert.ShrinkIdeal.Hand.toInt_small v (by omega), Int.toNat_natCast]
  omega

/-- A table over segments, gathered by one segment per row. -/
theorem take_seg {α : Type} (x : S14.Idx → α) (idx : IVec S1280x1 32) (s : Fin 1280) :
    Host.gather gather_S14_S1280x1_S1280_n_0_n_n_0_1_1 x idx (ix1 s)
      = x (ix1 (⟨min (idx (ix2 s (0 : Fin 1))).toInt.toNat (14 - 1), by omega⟩ : Fin 14)) := by
  have e0 : (ix1 s : S1280.Idx) = Shape.Idx.ofFin s := by funext b; fin_cases b; rfl
  rw [e0]
  refine (StableHlo.Predicate.gather_take _ rfl rfl rfl rfl x idx s (by decide)).trans ?_
  have e : (StableHlo.Predicate.ixP s : S1280x1.Idx) = ix2 s (0 : Fin 1) := by
    funext b; fin_cases b <;> rfl
  exact congrArg x (funext fun b => by
    fin_cases b; exact Fin.ext (congrArg (fun z => min (idx z).toInt.toNat (14 - 1)) e))

/-- A table over adapters, gathered by one adapter per row. -/
theorem take_row {α : Type} (x : S23.Idx → α) (idx : IVec S1280x1 32) (s : Fin 1280) :
    Host.gather gather_S23_S1280x1_S1280_n_0_n_n_0_1_1 x idx (ix1 s)
      = x (ix1 (⟨min (idx (ix2 s (0 : Fin 1))).toInt.toNat (23 - 1), by omega⟩ : Fin 23)) := by
  have e0 : (ix1 s : S1280.Idx) = Shape.Idx.ofFin s := by funext b; fin_cases b; rfl
  rw [e0]
  refine (StableHlo.Predicate.gather_take _ rfl rfl rfl rfl x idx s (by decide)).trans ?_
  have e : (StableHlo.Predicate.ixP s : S1280x1.Idx) = ix2 s (0 : Fin 1) := by
    funext b; fin_cases b <;> rfl
  exact congrArg x (funext fun b => by
    fin_cases b; exact Fin.ext (congrArg (fun z => min (idx z).toInt.toNat (23 - 1)) e))

/-- A table over adapters, gathered by one adapter per segment. -/
theorem take_ad {α : Type} (x : S23.Idx → α) (idx : IVec S14x1 32) (s : Fin 14) :
    Host.gather gather_S23_S14x1_S14_n_0_n_n_0_1_1 x idx (ix1 s)
      = x (ix1 (⟨min (idx (ix2 s (0 : Fin 1))).toInt.toNat (23 - 1), by omega⟩ : Fin 23)) := by
  have e0 : (ix1 s : S14.Idx) = Shape.Idx.ofFin s := by funext b; fin_cases b; rfl
  rw [e0]
  refine (StableHlo.Predicate.gather_take _ rfl rfl rfl rfl x idx s (by decide)).trans ?_
  have e : (StableHlo.Predicate.ixP s : S14x1.Idx) = ix2 s (0 : Fin 1) := by
    funext b; fin_cases b <;> rfl
  exact congrArg x (funext fun b => by
    fin_cases b; exact Fin.ext (congrArg (fun z => min (idx z).toInt.toNat (23 - 1)) e))

/-- The pool, gathered by one pool row per segment and slot. -/
theorem gather_pool96 {α : Type} (x : S2500x7168.Idx → α) (idx : IVec S14x96x1 32) (s : Fin 14) (k : Fin 96) (d : Fin 7168) :
    Host.gather gather_S2500x7168_S14x96x1_S14x96x7168_2_0_n_n_0_2_17168 x idx (ix3 s k d)
      = x (ix2 (⟨min (idx (ix3 s k (0 : Fin 1))).toInt.toNat (2500 - 1), by omega⟩ : Fin 2500) d) := by
  unfold Host.gather
  congr 1
  funext a
  refine Fin.ext ?_
  match a with
  | ⟨0, _⟩ =>
    show GatherDims.start _ (ix3 s k d) idx 0 + GatherDims.batchCoord _ (ix3 s k d) 0 + GatherDims.offCoord _ (ix3 s k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2500x7168_S14x96x1_S14x96x7168_2_0_n_n_0_2_17168.startIndexMap from List.mem_singleton.mpr rfl)]
    have hsi : gather_S2500x7168_S14x96x1_S14x96x7168_2_0_n_n_0_2_17168.siIdx (ix3 s k d) ⟨List.idxOf (0 : Fin 2) [0],
        List.idxOf_lt_length_iff.2 (List.mem_singleton.mpr rfl)⟩ = ix3 s k (0 : Fin 1) := by
      funext b; refine Fin.ext ?_
      match b with
      | ⟨0, _⟩ => rfl
      | ⟨1, _⟩ => rfl
      | ⟨2, _⟩ => rfl
    exact congrArg (fun z => min (idx z).toInt.toNat (2500 - 1)) hsi
  | ⟨1, _⟩ =>
    show GatherDims.start _ (ix3 s k d) idx 1 + GatherDims.batchCoord _ (ix3 s k d) 1 + GatherDims.offCoord _ (ix3 s k d) 1 = _
    rw [GatherDims.batchCoord_eq_zero _ _ _ List.not_mem_nil]
    unfold GatherDims.start
    rw [dif_neg (show ((1 : Fin 2) ∈ gather_S2500x7168_S14x96x1_S14x96x7168_2_0_n_n_0_2_17168.startIndexMap) → False from fun h => absurd (List.mem_singleton.mp h) (by decide))]
    simp only [Nat.add_zero, Nat.zero_add]
    rfl

/-- A stack of matrices, gathered by one matrix per row. -/
theorem gather_stack96 {α : Type} (x : S14x96x7168.Idx → α) (idx : IVec S1280x1 32) (r : Fin 1280) (k : Fin 96) (d : Fin 7168) :
    Host.gather gather_S14x96x7168_S1280x1_S1280x96x7168_12_0_n_n_0_1_1967168 x idx (ix3 r k d)
      = x (ix3 (⟨min (idx (ix2 r (0 : Fin 1))).toInt.toNat (14 - 1), by omega⟩ : Fin 14) k d) := by
  unfold Host.gather
  congr 1
  funext a
  refine Fin.ext ?_
  match a with
  | ⟨0, _⟩ =>
    show GatherDims.start _ (ix3 r k d) idx 0 + GatherDims.batchCoord _ (ix3 r k d) 0 + GatherDims.offCoord _ (ix3 r k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S14x96x7168_S1280x1_S1280x96x7168_12_0_n_n_0_1_1967168.startIndexMap from List.mem_singleton.mpr rfl)]
    have hsi : gather_S14x96x7168_S1280x1_S1280x96x7168_12_0_n_n_0_1_1967168.siIdx (ix3 r k d) ⟨List.idxOf (0 : Fin 3) [0],
        List.idxOf_lt_length_iff.2 (List.mem_singleton.mpr rfl)⟩ = ix2 r (0 : Fin 1) := by
      funext b; refine Fin.ext ?_
      match b with
      | ⟨0, _⟩ => rfl
      | ⟨1, _⟩ => rfl
    exact congrArg (fun z => min (idx z).toInt.toNat (14 - 1)) hsi
  | ⟨1, _⟩ =>
    show GatherDims.start _ (ix3 r k d) idx 1 + GatherDims.batchCoord _ (ix3 r k d) 1 + GatherDims.offCoord _ (ix3 r k d) 1 = _
    rw [GatherDims.batchCoord_eq_zero _ _ _ List.not_mem_nil]
    unfold GatherDims.start
    rw [dif_neg (show ((1 : Fin 3) ∈ gather_S14x96x7168_S1280x1_S1280x96x7168_12_0_n_n_0_1_1967168.startIndexMap) → False from fun h => absurd (List.mem_singleton.mp h) (by decide))]
    simp only [Nat.add_zero, Nat.zero_add]
    rfl
  | ⟨2, _⟩ =>
    show GatherDims.start _ (ix3 r k d) idx 2 + GatherDims.batchCoord _ (ix3 r k d) 2 + GatherDims.offCoord _ (ix3 r k d) 2 = _
    rw [GatherDims.batchCoord_eq_zero _ _ _ List.not_mem_nil]
    unfold GatherDims.start
    rw [dif_neg (show ((2 : Fin 3) ∈ gather_S14x96x7168_S1280x1_S1280x96x7168_12_0_n_n_0_1_1967168.startIndexMap) → False from fun h => absurd (List.mem_singleton.mp h) (by decide))]
    simp only [Nat.add_zero, Nat.zero_add]
    rfl

/-- A matrix, gathered by one of its rows per row. -/
theorem gather_lanes96 {α : Type} (x : S14x96.Idx → α) (idx : IVec S1280x1 32) (r : Fin 1280) (k : Fin 96) :
    Host.gather gather_S14x96_S1280x1_S1280x96_1_0_n_n_0_1_196 x idx (ix2 r k)
      = x (ix2 (⟨min (idx (ix2 r (0 : Fin 1))).toInt.toNat (14 - 1), by omega⟩ : Fin 14) k) := by
  unfold Host.gather
  congr 1
  funext a
  refine Fin.ext ?_
  match a with
  | ⟨0, _⟩ =>
    show GatherDims.start _ (ix2 r k) idx 0 + GatherDims.batchCoord _ (ix2 r k) 0 + GatherDims.offCoord _ (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S14x96_S1280x1_S1280x96_1_0_n_n_0_1_196.startIndexMap from List.mem_singleton.mpr rfl)]
    have hsi : gather_S14x96_S1280x1_S1280x96_1_0_n_n_0_1_196.siIdx (ix2 r k) ⟨List.idxOf (0 : Fin 2) [0],
        List.idxOf_lt_length_iff.2 (List.mem_singleton.mpr rfl)⟩ = ix2 r (0 : Fin 1) := by
      funext b; refine Fin.ext ?_
      match b with
      | ⟨0, _⟩ => rfl
      | ⟨1, _⟩ => rfl
    exact congrArg (fun z => min (idx z).toInt.toNat (14 - 1)) hsi
  | ⟨1, _⟩ =>
    show GatherDims.start _ (ix2 r k) idx 1 + GatherDims.batchCoord _ (ix2 r k) 1 + GatherDims.offCoord _ (ix2 r k) 1 = _
    rw [GatherDims.batchCoord_eq_zero _ _ _ List.not_mem_nil]
    unfold GatherDims.start
    rw [dif_neg (show ((1 : Fin 2) ∈ gather_S14x96_S1280x1_S1280x96_1_0_n_n_0_1_196.startIndexMap) → False from fun h => absurd (List.mem_singleton.mp h) (by decide))]
    simp only [Nat.add_zero, Nat.zero_add]
    rfl

/-- The pool's scales, gathered by one pool row per segment and slot. -/
theorem gather_scale96 {α : Type} (x : S2500.Idx → α) (idx : IVec S14x96x1 32) (s : Fin 14) (k : Fin 96) :
    Host.gather gather_S2500_S14x96x1_S14x96_n_0_n_n_0_2_1 x idx (ix2 s k)
      = x (ix1 (⟨min (idx (ix3 s k (0 : Fin 1))).toInt.toNat (2500 - 1), by omega⟩ : Fin 2500)) := by
  refine (ValueIdx.gather_take_apply (N := 2500) (R := 14) (C := 96) (by decide) _ x idx (ix2 s k)).trans ?_
  have e : (ValueIdx.takeIdx (ix2 s k) : S14x96x1.Idx) = ix3 s k (0 : Fin 1) := by
    funext b; fin_cases b <;> rfl
  exact congrArg x (funext fun b => by
    fin_cases b; exact Fin.ext (congrArg (fun z => min (idx z).toInt.toNat (2500 - 1)) e))

/-- The pool, gathered by one pool row per segment and slot. -/
theorem gather_pool128 {α : Type} (x : S2500x7168.Idx → α) (idx : IVec S14x128x1 32) (s : Fin 14) (k : Fin 128) (d : Fin 7168) :
    Host.gather gather_S2500x7168_S14x128x1_S14x128x7168_2_0_n_n_0_2_17168 x idx (ix3 s k d)
      = x (ix2 (⟨min (idx (ix3 s k (0 : Fin 1))).toInt.toNat (2500 - 1), by omega⟩ : Fin 2500) d) := by
  unfold Host.gather
  congr 1
  funext a
  refine Fin.ext ?_
  match a with
  | ⟨0, _⟩ =>
    show GatherDims.start _ (ix3 s k d) idx 0 + GatherDims.batchCoord _ (ix3 s k d) 0 + GatherDims.offCoord _ (ix3 s k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2500x7168_S14x128x1_S14x128x7168_2_0_n_n_0_2_17168.startIndexMap from List.mem_singleton.mpr rfl)]
    have hsi : gather_S2500x7168_S14x128x1_S14x128x7168_2_0_n_n_0_2_17168.siIdx (ix3 s k d) ⟨List.idxOf (0 : Fin 2) [0],
        List.idxOf_lt_length_iff.2 (List.mem_singleton.mpr rfl)⟩ = ix3 s k (0 : Fin 1) := by
      funext b; refine Fin.ext ?_
      match b with
      | ⟨0, _⟩ => rfl
      | ⟨1, _⟩ => rfl
      | ⟨2, _⟩ => rfl
    exact congrArg (fun z => min (idx z).toInt.toNat (2500 - 1)) hsi
  | ⟨1, _⟩ =>
    show GatherDims.start _ (ix3 s k d) idx 1 + GatherDims.batchCoord _ (ix3 s k d) 1 + GatherDims.offCoord _ (ix3 s k d) 1 = _
    rw [GatherDims.batchCoord_eq_zero _ _ _ List.not_mem_nil]
    unfold GatherDims.start
    rw [dif_neg (show ((1 : Fin 2) ∈ gather_S2500x7168_S14x128x1_S14x128x7168_2_0_n_n_0_2_17168.startIndexMap) → False from fun h => absurd (List.mem_singleton.mp h) (by decide))]
    simp only [Nat.add_zero, Nat.zero_add]
    rfl

/-- A stack of matrices, gathered by one matrix per row. -/
theorem gather_stack128 {α : Type} (x : S14x128x7168.Idx → α) (idx : IVec S1280x1 32) (r : Fin 1280) (k : Fin 128) (d : Fin 7168) :
    Host.gather gather_S14x128x7168_S1280x1_S1280x128x7168_12_0_n_n_0_1_11287168 x idx (ix3 r k d)
      = x (ix3 (⟨min (idx (ix2 r (0 : Fin 1))).toInt.toNat (14 - 1), by omega⟩ : Fin 14) k d) := by
  unfold Host.gather
  congr 1
  funext a
  refine Fin.ext ?_
  match a with
  | ⟨0, _⟩ =>
    show GatherDims.start _ (ix3 r k d) idx 0 + GatherDims.batchCoord _ (ix3 r k d) 0 + GatherDims.offCoord _ (ix3 r k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S14x128x7168_S1280x1_S1280x128x7168_12_0_n_n_0_1_11287168.startIndexMap from List.mem_singleton.mpr rfl)]
    have hsi : gather_S14x128x7168_S1280x1_S1280x128x7168_12_0_n_n_0_1_11287168.siIdx (ix3 r k d) ⟨List.idxOf (0 : Fin 3) [0],
        List.idxOf_lt_length_iff.2 (List.mem_singleton.mpr rfl)⟩ = ix2 r (0 : Fin 1) := by
      funext b; refine Fin.ext ?_
      match b with
      | ⟨0, _⟩ => rfl
      | ⟨1, _⟩ => rfl
    exact congrArg (fun z => min (idx z).toInt.toNat (14 - 1)) hsi
  | ⟨1, _⟩ =>
    show GatherDims.start _ (ix3 r k d) idx 1 + GatherDims.batchCoord _ (ix3 r k d) 1 + GatherDims.offCoord _ (ix3 r k d) 1 = _
    rw [GatherDims.batchCoord_eq_zero _ _ _ List.not_mem_nil]
    unfold GatherDims.start
    rw [dif_neg (show ((1 : Fin 3) ∈ gather_S14x128x7168_S1280x1_S1280x128x7168_12_0_n_n_0_1_11287168.startIndexMap) → False from fun h => absurd (List.mem_singleton.mp h) (by decide))]
    simp only [Nat.add_zero, Nat.zero_add]
    rfl
  | ⟨2, _⟩ =>
    show GatherDims.start _ (ix3 r k d) idx 2 + GatherDims.batchCoord _ (ix3 r k d) 2 + GatherDims.offCoord _ (ix3 r k d) 2 = _
    rw [GatherDims.batchCoord_eq_zero _ _ _ List.not_mem_nil]
    unfold GatherDims.start
    rw [dif_neg (show ((2 : Fin 3) ∈ gather_S14x128x7168_S1280x1_S1280x128x7168_12_0_n_n_0_1_11287168.startIndexMap) → False from fun h => absurd (List.mem_singleton.mp h) (by decide))]
    simp only [Nat.add_zero, Nat.zero_add]
    rfl

/-- A matrix, gathered by one of its rows per row. -/
theorem gather_lanes128 {α : Type} (x : S14x128.Idx → α) (idx : IVec S1280x1 32) (r : Fin 1280) (k : Fin 128) :
    Host.gather gather_S14x128_S1280x1_S1280x128_1_0_n_n_0_1_1128 x idx (ix2 r k)
      = x (ix2 (⟨min (idx (ix2 r (0 : Fin 1))).toInt.toNat (14 - 1), by omega⟩ : Fin 14) k) := by
  unfold Host.gather
  congr 1
  funext a
  refine Fin.ext ?_
  match a with
  | ⟨0, _⟩ =>
    show GatherDims.start _ (ix2 r k) idx 0 + GatherDims.batchCoord _ (ix2 r k) 0 + GatherDims.offCoord _ (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S14x128_S1280x1_S1280x128_1_0_n_n_0_1_1128.startIndexMap from List.mem_singleton.mpr rfl)]
    have hsi : gather_S14x128_S1280x1_S1280x128_1_0_n_n_0_1_1128.siIdx (ix2 r k) ⟨List.idxOf (0 : Fin 2) [0],
        List.idxOf_lt_length_iff.2 (List.mem_singleton.mpr rfl)⟩ = ix2 r (0 : Fin 1) := by
      funext b; refine Fin.ext ?_
      match b with
      | ⟨0, _⟩ => rfl
      | ⟨1, _⟩ => rfl
    exact congrArg (fun z => min (idx z).toInt.toNat (14 - 1)) hsi
  | ⟨1, _⟩ =>
    show GatherDims.start _ (ix2 r k) idx 1 + GatherDims.batchCoord _ (ix2 r k) 1 + GatherDims.offCoord _ (ix2 r k) 1 = _
    rw [GatherDims.batchCoord_eq_zero _ _ _ List.not_mem_nil]
    unfold GatherDims.start
    rw [dif_neg (show ((1 : Fin 2) ∈ gather_S14x128_S1280x1_S1280x128_1_0_n_n_0_1_1128.startIndexMap) → False from fun h => absurd (List.mem_singleton.mp h) (by decide))]
    simp only [Nat.add_zero, Nat.zero_add]
    rfl

/-- The pool's scales, gathered by one pool row per segment and slot. -/
theorem gather_scale128 {α : Type} (x : S2500.Idx → α) (idx : IVec S14x128x1 32) (s : Fin 14) (k : Fin 128) :
    Host.gather gather_S2500_S14x128x1_S14x128_n_0_n_n_0_2_1 x idx (ix2 s k)
      = x (ix1 (⟨min (idx (ix3 s k (0 : Fin 1))).toInt.toNat (2500 - 1), by omega⟩ : Fin 2500)) := by
  refine (ValueIdx.gather_take_apply (N := 2500) (R := 14) (C := 128) (by decide) _ x idx (ix2 s k)).trans ?_
  have e : (ValueIdx.takeIdx (ix2 s k) : S14x128x1.Idx) = ix3 s k (0 : Fin 1) := by
    funext b; fin_cases b <;> rfl
  exact congrArg x (funext fun b => by
    fin_cases b; exact Fin.ext (congrArg (fun z => min (idx z).toInt.toNat (2500 - 1)) e))

/-! ## The segment of a row -/

/-- The number of offsets after the first at or below a row in segment `s` is `s`. -/
theorem count_eq (o : ℕ → ℕ) (s : Fin 14) (r : ℕ) (mono : ∀ a b, a ≤ b → b < 15 → o a ≤ o b) (h1 : o s.val ≤ r) (h2 : r < o (s.val + 1)) :
    (Finset.univ.filter (fun q : Fin 14 => o (q.val + 1) ≤ r)).card = s.val := by
  have e : (Finset.univ.filter (fun q : Fin 14 => o (q.val + 1) ≤ r)) = Finset.Iio s := by
    ext q
    simp only [Finset.mem_filter, Finset.mem_univ, true_and, Finset.mem_Iio]
    constructor
    · intro h
      by_contra hn
      have hsq : s.val ≤ q.val := not_lt.mp hn
      have := mono (s.val + 1) (q.val + 1) (by omega) (by omega)
      omega
    · intro h
      have hsq : q.val < s.val := h
      exact (mono (q.val + 1) s.val (by omega) (by omega)).trans h1
  rw [e, Fin.card_Iio]

section
variable (x6 : S15.Idx → BitVec 32) (hof : ∀ i, (x6 i).toNat ≤ 1280)
  (mono : ∀ a b (ha : a ≤ b) (hb : b < 15), (x6 (ix1 (⟨a, lt_of_le_of_lt ha hb⟩ : Fin 15))).toNat ≤ (x6 (ix1 (⟨b, hb⟩ : Fin 15))).toNat)
include hof mono

/-- The reference finds the segment of a row. -/
theorem seg_at (s : Fin 14) (r : Fin 1280) (h1 : (x6 (ix1 (⟨s.val, Nat.lt_succ_of_lt s.isLt⟩ : Fin 15))).toNat ≤ r.val)
    (h2 : r.val < (x6 (ix1 (⟨s.val + 1, Nat.succ_lt_succ s.isLt⟩ : Fin 15))).toNat) :
    (val_main_v8 (F := Ideal) x6 (ix1 r)).toNat = s.val := by
  refine (StableHlo.Predicate.toNat_reduce_count_cols (by decide) (val_main_v6 (F := Ideal) x6) _ _ _ (ix1 r)).trans ?_
  have key : ∀ q : Fin 14, val_main_v6 (F := Ideal) x6 (StableHlo.Predicate.ij r q) = 1#1
      ↔ (x6 (ix1 (⟨q.val + 1, by omega⟩ : Fin 15))).toNat ≤ r.val := by
    intro q
    have e : (StableHlo.Predicate.ij r q : S1280x14.Idx) = ix2 r q := by funext b; fin_cases b <;> rfl
    have e6 : val_main_v6 (F := Ideal) x6 (ix2 r q)
        = IntOp.cmpi .sge (BitVec.ofNat 32 r.val) (x6 (ix1 (⟨1 + q.val, by omega⟩ : Fin 15))) := by
      pointwise [val_main_v0, val_main_v1, val_main_v2, val_main_v3, val_main_v4, val_main_v5, val_main_v6]
    have hq := hof (ix1 (⟨1 + q.val, by omega⟩ : Fin 15))
    have hr : (BitVec.ofNat 32 r.val).toNat = r.val := by rw [BitVec.toNat_ofNat]; omega
    rw [e, e6, IntOp.cmpi_sge, Cert.ShrinkIdeal.Hand.toInt_small _ (by omega), Cert.ShrinkIdeal.Hand.toInt_small _ (by omega), hr]
    simp only [Nat.add_comm 1 q.val, Int.ofNat_le, Nat.cast_le]
  show (Finset.univ.filter (fun q : Fin 14 => val_main_v6 (F := Ideal) x6 (StableHlo.Predicate.ij r q) = 1#1)).card = _
  rw [Finset.filter_congr (fun q _ => key q)]
  refine Eq.trans ?_ (count_eq (fun n => if h : n < 15 then (x6 (ix1 (⟨n, h⟩ : Fin 15))).toNat else 0) s r.val ?_ ?_ ?_)
  · congr 1
  · intro a b ha hb
    simp only [dif_pos hb, dif_pos (show a < 15 by omega)]
    exact mono a b ha hb
  · simpa only [dif_pos (show s.val < 15 by omega)] using h1
  · simpa only [dif_pos (show s.val + 1 < 15 by omega)] using h2

end

/-! ## The tables, by rows and segments -/

section
variable (x0 : S1280x7168.Idx → EReal) (x1 : S2500x7168.Idx → BitVec 8) (x2 : S2500.Idx → EReal) (x3 x4 : S23.Idx → BitVec 32)
  (x5 : S23.Idx → EReal) (x6 : S15.Idx → BitVec 32) (x7 : S14.Idx → BitVec 32)
  (hsg : ∀ i, (x7 i).toNat < 23) (hst : ∀ i, (x3 i).toNat < 2304) (hrk : ∀ i, (x4 i).toInt ≤ 2147483616)
  (s : Fin 14) (r : Fin 1280)

/-- Segment `s`'s adapter. -/
abbrev adOf (x7 : S14.Idx → BitVec 32) (hsg : ∀ i, (x7 i).toNat < 23) (s : Fin 14) : S23.Idx := ix1 (⟨(x7 (ix1 s)).toNat, hsg _⟩ : Fin 23)

/-- A table over adapters at a word that is segment `s`'s adapter. -/
theorem ad_eq (v : BitVec 32) (e : v = x7 (ix1 s)) : (ix1 (⟨min v.toInt.toNat (23 - 1), by omega⟩ : Fin 23) : S23.Idx) = adOf x7 hsg s := by
  subst e
  exact congrArg ix1 (Fin.ext (clamp_id _ 23 (by decide) (hsg _)))
/-- A table over segments at a word that is `s`. -/
theorem seg_eq (v : BitVec 32) (e : v.toNat = s.val) : (⟨min v.toInt.toNat (14 - 1), by omega⟩ : Fin 14) = s :=
  Fin.ext ((clamp_id _ 14 (by decide) (by omega)).trans e)

/-- The adapter of a row. -/
theorem ad_row (hs : (val_main_v8 (F := Ideal) x6 (ix1 r)).toNat = s.val) : val_main_v15 (F := Ideal) x6 x7 (ix1 r) = x7 (ix1 s) := by
  have e : val_main_v14 (F := Ideal) x6 (ix2 r (0 : Fin 1)) = val_main_v8 (F := Ideal) x6 (ix1 r) := by
    pointwise [val_main_v9, val_main_v10, val_main_v11, val_main_v12, val_main_v13, val_main_v14, val_main_c_1, val_main_c_0]
    exact wrap_id _ _ (by omega)
  refine (take_seg x7 _ r).trans (congrArg x7 (congrArg ix1 (seg_eq s _ ?_)))
  rw [e]; exact hs
/-- The number of slots of a row's adapter. -/
theorem rank_row (hs : (val_main_v8 (F := Ideal) x6 (ix1 r)).toNat = s.val) : val_main_v22 (F := Ideal) x4 x6 x7 (ix1 r) = x4 (adOf x7 hsg s) := by
  have ea := ad_row x6 x7 s r hs
  have e : val_main_v21 (F := Ideal) x6 x7 (ix2 r (0 : Fin 1)) = val_main_v15 (F := Ideal) x6 x7 (ix1 r) := by
    pointwise [val_main_v16, val_main_v17, val_main_v18, val_main_v19, val_main_v20, val_main_v21, val_main_c_3, val_main_c_2]
    exact wrap_id _ _ (by rw [ea]; have := hsg (ix1 s); omega)
  exact (take_row x4 _ r).trans (congrArg x4 (ad_eq x7 hsg s _ (e.trans ea)))
/-- The scaling of a row's adapter. -/
theorem scal_row (hs : (val_main_v8 (F := Ideal) x6 (ix1 r)).toNat = s.val) : val_main_v30 (F := Ideal) x5 x6 x7 (ix1 r) = x5 (adOf x7 hsg s) := by
  have ea := ad_row x6 x7 s r hs
  have e : val_main_v29 (F := Ideal) x6 x7 (ix2 r (0 : Fin 1)) = val_main_v15 (F := Ideal) x6 x7 (ix1 r) := by
    pointwise [val_main_v24, val_main_v25, val_main_v26, val_main_v27, val_main_v28, val_main_v29, val_main_c_5, val_main_c_4]
    exact wrap_id _ _ (by rw [ea]; have := hsg (ix1 s); omega)
  exact (take_row x5 _ r).trans (congrArg x5 (ad_eq x7 hsg s _ (e.trans ea)))
/-- The first slot of a segment's adapter. -/
theorem first_at : val_main_v38 (F := Ideal) x3 x7 (ix1 s) = x3 (adOf x7 hsg s) := by
  have e : val_main_v37 (F := Ideal) x7 (ix2 s (0 : Fin 1)) = x7 (ix1 s) := by
    pointwise [val_main_v32, val_main_v33, val_main_v34, val_main_v35, val_main_v36, val_main_v37, val_main_c_7, val_main_c_6]
    exact wrap_id _ _ (by have := hsg (ix1 s); omega)
  exact (take_ad x3 _ s).trans (congrArg x3 (ad_eq x7 hsg s _ e))

include hst in
/-- The start of its window. -/
theorem window_at : (val_main_v85 (F := Ideal) x3 x7 (ix1 s)).toNat = (x3 (adOf x7 hsg s)).toNat / 32 * 32 := by
  have e : val_main_v85 (F := Ideal) x3 x7 (ix1 s) = IntOp.andi (val_main_v38 (F := Ideal) x3 x7 (ix1 s)) 4294967264#32 := by
    pointwise [val_main_v84, val_main_v85, val_main_c_16]
  rw [e, first_at x3 x7 hsg s]
  exact Cert.ShrinkIdeal.Hand.and32_of_lt _ (hst _)

include hst in
/-- How far into the window the first slot is, by segment and by row. -/
theorem off_at : (val_main_v88 (F := Ideal) x3 x7 (ix1 s)).toNat = (x3 (adOf x7 hsg s)).toNat % 32 := by
  have e : val_main_v88 (F := Ideal) x3 x7 (ix1 s) = IntOp.subi (val_main_v38 (F := Ideal) x3 x7 (ix1 s)) (IntOp.andi (val_main_v38 (F := Ideal) x3 x7 (ix1 s)) 4294967264#32) := by
    pointwise [val_main_v84, val_main_v85, val_main_v88, val_main_c_16]
  rw [e, first_at x3 x7 hsg s]
  exact Cert.ShrinkIdeal.Hand.off_toNat _ (hst _)
theorem off_row (hs : (val_main_v8 (F := Ideal) x6 (ix1 r)).toNat = s.val) : val_main_v95 (F := Ideal) x3 x6 x7 (ix1 r) = val_main_v88 (F := Ideal) x3 x7 (ix1 s) := by
  have e : val_main_v94 (F := Ideal) x6 (ix2 r (0 : Fin 1)) = val_main_v8 (F := Ideal) x6 (ix1 r) := by
    pointwise [val_main_v89, val_main_v90, val_main_v91, val_main_v92, val_main_v93, val_main_v94, val_main_c_18, val_main_c_17]
    exact wrap_id _ _ (by omega)
  refine (take_seg (val_main_v88 (F := Ideal) x3 x7) _ r).trans (congrArg (val_main_v88 (F := Ideal) x3 x7) (congrArg ix1 (seg_eq s _ ?_)))
  rw [e]; exact hs

/-! ## The 96 pool rows of a segment from its first slot -/

section
variable (k : Fin 96) (hq : (x3 (adOf x7 hsg s)).toNat + k.val < 2500)
include hst

/-- Row `k`'s number. -/
theorem lora_num : (val_main_v47 (F := Ideal) x3 x7 (ix2 s k)).toNat = (x3 (adOf x7 hsg s)).toNat + k.val := by
  have e : val_main_v47 (F := Ideal) x3 x7 (ix2 s k) = IntOp.addi (val_main_v38 (F := Ideal) x3 x7 (ix1 s)) (BitVec.ofNat 32 k.val) := by
    pointwise [val_main_v39, val_main_v40, val_main_v44, val_main_v45, val_main_v46, val_main_v47]
  have hl : (x3 (adOf x7 hsg s)).toNat < 2304 := hst _
  have h : (val_main_v38 (F := Ideal) x3 x7 (ix1 s)).toNat = (x3 (adOf x7 hsg s)).toNat := congrArg BitVec.toNat (first_at x3 x7 hsg s)
  have hk := k.isLt
  rw [e]
  simp only [IntOp.addi, BitVec.toNat_add, BitVec.toNat_ofNat, h]
  omega

/-- Row `k`, its codes read signed. -/
theorem lora_pool (d : Fin 7168) :
    val_main_v56 (F := Ideal) x1 x3 x7 (ix3 s k d) = FloatOps.sitofp (F := Ideal) .bf16 (x1 (ix2 (⟨(x3 (adOf x7 hsg s)).toNat + k.val, hq⟩ : Fin 2500) d)) := by
  have hr := lora_num x3 x7 hsg hst s k
  have ei : val_main_v53 (F := Ideal) x3 x7 (ix3 s k (0 : Fin 1)) = val_main_v47 (F := Ideal) x3 x7 (ix2 s k) := by
    pointwise [val_main_v48, val_main_v49, val_main_v50, val_main_v51, val_main_v52, val_main_v53, val_main_c_9, val_main_c_8]
    exact wrap_id _ _ (by omega)
  have eg : val_main_v54 (F := Ideal) x1 x3 x7 (ix3 s k d) = x1 (ix2 (⟨(x3 (adOf x7 hsg s)).toNat + k.val, hq⟩ : Fin 2500) d) := by
    refine (gather_pool96 x1 _ s k d).trans (congrArg (fun z => x1 (ix2 z d)) (Fin.ext ?_))
    show min (val_main_v53 (F := Ideal) x3 x7 (ix3 s k (0 : Fin 1))).toInt.toNat (2500 - 1) = _
    rw [ei, clamp_id _ 2500 (by decide) (by omega), hr]
  have e : val_main_v56 (F := Ideal) x1 x3 x7 (ix3 s k d) = FloatOps.sitofp (F := Ideal) .bf16 ((val_main_v54 (F := Ideal) x1 x3 x7 (ix3 s k d)).signExtend 32) := by
    pointwise [val_main_v55, val_main_v56]
  rw [e, eg]
  show (((BitVec.signExtend 32 _).toInt : ℝ) : EReal) = ((BitVec.toInt _ : ℝ) : EReal)
  rw [BitVec.toInt_signExtend_of_le (by decide)]

/-- Row `k`'s scale. -/
theorem lora_scale : val_main_v71 (F := Ideal) x2 x3 x7 (ix2 s k) = x2 (ix1 (⟨(x3 (adOf x7 hsg s)).toNat + k.val, hq⟩ : Fin 2500)) := by
  have hr := lora_num x3 x7 hsg hst s k
  have ei : val_main_v70 (F := Ideal) x3 x7 (ix3 s k (0 : Fin 1)) = val_main_v47 (F := Ideal) x3 x7 (ix2 s k) := by
    pointwise [val_main_v65, val_main_v66, val_main_v67, val_main_v68, val_main_v69, val_main_v70, val_main_c_13, val_main_c_12]
    exact wrap_id _ _ (by omega)
  refine (gather_scale96 x2 _ s k).trans (congrArg (fun z => x2 (ix1 z)) (Fin.ext ?_))
  show min (val_main_v70 (F := Ideal) x3 x7 (ix3 s k (0 : Fin 1))).toInt.toNat (2500 - 1) = _
  rw [ei, clamp_id _ 2500 (by decide) (by omega), hr]

/-- A row's product with row `k`, -/
theorem lora_dot (hs : (val_main_v8 (F := Ideal) x6 (ix1 r)).toNat = s.val) :
    val_main_v64 (F := Ideal) x0 x1 x3 x6 x7 (ix2 r k) = ∑ d : Fin 7168, x0 (ix2 r d) * FloatOps.sitofp (F := Ideal) .bf16 (x1 (ix2 (⟨(x3 (adOf x7 hsg s)).toNat + k.val, hq⟩ : Fin 2500) d)) := by
  have ei : val_main_v62 (F := Ideal) x6 (ix2 r (0 : Fin 1)) = val_main_v8 (F := Ideal) x6 (ix1 r) := by
    pointwise [val_main_v57, val_main_v58, val_main_v59, val_main_v60, val_main_v61, val_main_v62, val_main_c_11, val_main_c_10]
    exact wrap_id _ _ (by omega)
  have e : val_main_v64 (F := Ideal) x0 x1 x3 x6 x7 (ix2 r k) = ∑ d : Fin 7168, x0 (ix2 r d) * val_main_v63 (F := Ideal) x1 x3 x6 x7 (ix3 r k d) := by
    pointwise [val_main_v64]
  rw [e]
  refine Finset.sum_congr rfl fun d _ => congrArg (x0 (ix2 r d) * ·) ?_
  refine Eq.trans ?_ (lora_pool x1 x3 x7 hsg hst s k hq d)
  refine (gather_stack96 (val_main_v56 (F := Ideal) x1 x3 x7) _ r k d).trans (congrArg (fun z => val_main_v56 (F := Ideal) x1 x3 x7 (ix3 z k d)) (seg_eq s _ ?_))
  rw [ei]; exact hs

/-- and the scale it is multiplied by. -/
theorem lora_lane (hs : (val_main_v8 (F := Ideal) x6 (ix1 r)).toNat = s.val) : val_main_v78 (F := Ideal) x2 x3 x6 x7 (ix2 r k) = x2 (ix1 (⟨(x3 (adOf x7 hsg s)).toNat + k.val, hq⟩ : Fin 2500)) := by
  have ei : val_main_v77 (F := Ideal) x6 (ix2 r (0 : Fin 1)) = val_main_v8 (F := Ideal) x6 (ix1 r) := by
    pointwise [val_main_v72, val_main_v73, val_main_v74, val_main_v75, val_main_v76, val_main_v77, val_main_c_15, val_main_c_14]
    exact wrap_id _ _ (by omega)
  refine Eq.trans ?_ (lora_scale x2 x3 x7 hsg hst s k hq)
  refine (gather_lanes96 (val_main_v71 (F := Ideal) x2 x3 x7) _ r k).trans (congrArg (fun z => val_main_v71 (F := Ideal) x2 x3 x7 (ix2 z k)) (seg_eq s _ ?_))
  rw [ei]; exact hs

end

/-! ## The 128 pool rows of a segment's window -/

section
variable (k : Fin 128) (hq : (x3 (adOf x7 hsg s)).toNat / 32 * 32 + k.val < 2500)
include hst

/-- Row `k`'s number. -/
theorem hwin_num : (val_main_v108 (F := Ideal) x3 x7 (ix2 s k)).toNat = (x3 (adOf x7 hsg s)).toNat / 32 * 32 + k.val := by
  have e : val_main_v108 (F := Ideal) x3 x7 (ix2 s k) = IntOp.addi (val_main_v85 (F := Ideal) x3 x7 (ix1 s)) (BitVec.ofNat 32 k.val) := by
    pointwise [val_main_v86, val_main_v87, val_main_v105, val_main_v106, val_main_v107, val_main_v108]
  have hl : (x3 (adOf x7 hsg s)).toNat < 2304 := hst _
  have h : (val_main_v85 (F := Ideal) x3 x7 (ix1 s)).toNat = (x3 (adOf x7 hsg s)).toNat / 32 * 32 := window_at x3 x7 hsg hst s
  have hk := k.isLt
  rw [e]
  simp only [IntOp.addi, BitVec.toNat_add, BitVec.toNat_ofNat, h]
  omega

/-- Row `k`, its codes read signed. -/
theorem hwin_pool (d : Fin 7168) :
    val_main_v117 (F := Ideal) x1 x3 x7 (ix3 s k d) = FloatOps.sitofp (F := Ideal) .bf16 (x1 (ix2 (⟨(x3 (adOf x7 hsg s)).toNat / 32 * 32 + k.val, hq⟩ : Fin 2500) d)) := by
  have hr := hwin_num x3 x7 hsg hst s k
  have ei : val_main_v114 (F := Ideal) x3 x7 (ix3 s k (0 : Fin 1)) = val_main_v108 (F := Ideal) x3 x7 (ix2 s k) := by
    pointwise [val_main_v109, val_main_v110, val_main_v111, val_main_v112, val_main_v113, val_main_v114, val_main_c_20, val_main_c_19]
    exact wrap_id _ _ (by omega)
  have eg : val_main_v115 (F := Ideal) x1 x3 x7 (ix3 s k d) = x1 (ix2 (⟨(x3 (adOf x7 hsg s)).toNat / 32 * 32 + k.val, hq⟩ : Fin 2500) d) := by
    refine (gather_pool128 x1 _ s k d).trans (congrArg (fun z => x1 (ix2 z d)) (Fin.ext ?_))
    show min (val_main_v114 (F := Ideal) x3 x7 (ix3 s k (0 : Fin 1))).toInt.toNat (2500 - 1) = _
    rw [ei, clamp_id _ 2500 (by decide) (by omega), hr]
  have e : val_main_v117 (F := Ideal) x1 x3 x7 (ix3 s k d) = FloatOps.sitofp (F := Ideal) .bf16 ((val_main_v115 (F := Ideal) x1 x3 x7 (ix3 s k d)).signExtend 32) := by
    pointwise [val_main_v116, val_main_v117]
  rw [e, eg]
  show (((BitVec.signExtend 32 _).toInt : ℝ) : EReal) = ((BitVec.toInt _ : ℝ) : EReal)
  rw [BitVec.toInt_signExtend_of_le (by decide)]

/-- Row `k`'s scale. -/
theorem hwin_scale : val_main_v132 (F := Ideal) x2 x3 x7 (ix2 s k) = x2 (ix1 (⟨(x3 (adOf x7 hsg s)).toNat / 32 * 32 + k.val, hq⟩ : Fin 2500)) := by
  have hr := hwin_num x3 x7 hsg hst s k
  have ei : val_main_v131 (F := Ideal) x3 x7 (ix3 s k (0 : Fin 1)) = val_main_v108 (F := Ideal) x3 x7 (ix2 s k) := by
    pointwise [val_main_v126, val_main_v127, val_main_v128, val_main_v129, val_main_v130, val_main_v131, val_main_c_24, val_main_c_23]
    exact wrap_id _ _ (by omega)
  refine (gather_scale128 x2 _ s k).trans (congrArg (fun z => x2 (ix1 z)) (Fin.ext ?_))
  show min (val_main_v131 (F := Ideal) x3 x7 (ix3 s k (0 : Fin 1))).toInt.toNat (2500 - 1) = _
  rw [ei, clamp_id _ 2500 (by decide) (by omega), hr]

/-- A row's product with row `k`, -/
theorem hwin_dot (hs : (val_main_v8 (F := Ideal) x6 (ix1 r)).toNat = s.val) :
    val_main_v125 (F := Ideal) x0 x1 x3 x6 x7 (ix2 r k) = ∑ d : Fin 7168, x0 (ix2 r d) * FloatOps.sitofp (F := Ideal) .bf16 (x1 (ix2 (⟨(x3 (adOf x7 hsg s)).toNat / 32 * 32 + k.val, hq⟩ : Fin 2500) d)) := by
  have ei : val_main_v123 (F := Ideal) x6 (ix2 r (0 : Fin 1)) = val_main_v8 (F := Ideal) x6 (ix1 r) := by
    pointwise [val_main_v118, val_main_v119, val_main_v120, val_main_v121, val_main_v122, val_main_v123, val_main_c_22, val_main_c_21]
    exact wrap_id _ _ (by omega)
  have e : val_main_v125 (F := Ideal) x0 x1 x3 x6 x7 (ix2 r k) = ∑ d : Fin 7168, x0 (ix2 r d) * val_main_v124 (F := Ideal) x1 x3 x6 x7 (ix3 r k d) := by
    pointwise [val_main_v125]
  rw [e]
  refine Finset.sum_congr rfl fun d _ => congrArg (x0 (ix2 r d) * ·) ?_
  refine Eq.trans ?_ (hwin_pool x1 x3 x7 hsg hst s k hq d)
  refine (gather_stack128 (val_main_v117 (F := Ideal) x1 x3 x7) _ r k d).trans (congrArg (fun z => val_main_v117 (F := Ideal) x1 x3 x7 (ix3 z k d)) (seg_eq s _ ?_))
  rw [ei]; exact hs

/-- and the scale it is multiplied by. -/
theorem hwin_lane (hs : (val_main_v8 (F := Ideal) x6 (ix1 r)).toNat = s.val) : val_main_v139 (F := Ideal) x2 x3 x6 x7 (ix2 r k) = x2 (ix1 (⟨(x3 (adOf x7 hsg s)).toNat / 32 * 32 + k.val, hq⟩ : Fin 2500)) := by
  have ei : val_main_v138 (F := Ideal) x6 (ix2 r (0 : Fin 1)) = val_main_v8 (F := Ideal) x6 (ix1 r) := by
    pointwise [val_main_v133, val_main_v134, val_main_v135, val_main_v136, val_main_v137, val_main_v138, val_main_c_26, val_main_c_25]
    exact wrap_id _ _ (by omega)
  refine Eq.trans ?_ (hwin_scale x2 x3 x7 hsg hst s k hq)
  refine (gather_lanes128 (val_main_v132 (F := Ideal) x2 x3 x7) _ r k).trans (congrArg (fun z => val_main_v132 (F := Ideal) x2 x3 x7 (ix2 z k)) (seg_eq s _ ?_))
  rw [ei]; exact hs

end

/-! ## The two results -/

include hst hrk in
/-- The first result at one element, for a row of segment `s`. -/
theorem hwin_at (hs : (val_main_v8 (F := Ideal) x6 (ix1 r)).toNat = s.val) (k : Fin 128) :
    val_main_v144 (F := Ideal) x0 x1 x2 x3 x4 x5 x6 x7 (ix2 r k) = hwinAt x0 x1 x2 (x3 (adOf x7 hsg s)) (x4 (adOf x7 hsg s)) (x5 (adOf x7 hsg s)) (hst _) r k := by
  have hl : (x3 (adOf x7 hsg s)).toNat < 2304 := hst _
  have hk := k.isLt
  have e : val_main_v144 (F := Ideal) x0 x1 x2 x3 x4 x5 x6 x7 (ix2 r k) = Scalar.select (IntOp.andi (IntOp.cmpi .sge (BitVec.ofNat 32 k.val) (val_main_v95 (F := Ideal) x3 x6 x7 (ix1 r)))
      (IntOp.cmpi .slt (BitVec.ofNat 32 k.val) (IntOp.addi (val_main_v95 (F := Ideal) x3 x6 x7 (ix1 r)) (val_main_v22 (F := Ideal) x4 x6 x7 (ix1 r)))))
      (val_main_v125 (F := Ideal) x0 x1 x3 x6 x7 (ix2 r k) * val_main_v139 (F := Ideal) x2 x3 x6 x7 (ix2 r k) * val_main_v30 (F := Ideal) x5 x6 x7 (ix1 r)) 0 := by
    pointwise [val_main_v23, val_main_v31, val_main_v86, val_main_v87, val_main_v96, val_main_v97, val_main_v98, val_main_v99, val_main_v100, val_main_v101, val_main_v102, val_main_v103, val_main_v104, val_main_v140, val_main_v141, val_main_v142, val_main_v143, val_main_v144, val_main_call1_v0, val_main_cst_27]
  have eo := off_at x3 x7 hsg hst s
  rw [e, off_row x3 x6 x7 s r hs, rank_row x4 x6 x7 hsg s r hs, scal_row x5 x6 x7 hsg s r hs,
    hwin_dot x0 x1 x3 x6 x7 hsg hst s r k (by omega) hs, hwin_lane x2 x3 x6 x7 hsg hst s r k (by omega) hs]
  refine (Cert.ShrinkIdeal.Hand.select_of_iff _ _ (Cert.ShrinkIdeal.Hand.win_iff k.val k.isLt _ _ (by omega) (hrk _)) _ _).trans ?_
  rw [eo]
  rfl

include hst in
/-- The second. -/
theorem lora_at (hs : (val_main_v8 (F := Ideal) x6 (ix1 r)).toNat = s.val) (j : Fin 96) :
    val_main_v83 (F := Ideal) x0 x1 x2 x3 x4 x5 x6 x7 (ix2 r j) = loraAt x0 x1 x2 (x3 (adOf x7 hsg s)) (x4 (adOf x7 hsg s)) (x5 (adOf x7 hsg s)) (hst _) r j := by
  have hl : (x3 (adOf x7 hsg s)).toNat < 2304 := hst _
  have hj := j.isLt
  have e : val_main_v83 (F := Ideal) x0 x1 x2 x3 x4 x5 x6 x7 (ix2 r j) = Scalar.select (IntOp.cmpi .slt (BitVec.ofNat 32 j.val) (val_main_v22 (F := Ideal) x4 x6 x7 (ix1 r)))
      (val_main_v64 (F := Ideal) x0 x1 x3 x6 x7 (ix2 r j) * val_main_v78 (F := Ideal) x2 x3 x6 x7 (ix2 r j) * val_main_v30 (F := Ideal) x5 x6 x7 (ix1 r)) 0 := by
    pointwise [val_main_v23, val_main_v31, val_main_v39, val_main_v40, val_main_v41, val_main_v42, val_main_v43, val_main_v79, val_main_v80, val_main_v81, val_main_v82, val_main_v83, val_main_call0_v0, val_main_cst]
  rw [e, rank_row x4 x6 x7 hsg s r hs, scal_row x5 x6 x7 hsg s r hs,
    lora_dot x0 x1 x3 x6 x7 hsg hst s r j (by omega) hs, lora_lane x2 x3 x6 x7 hsg hst s r j (by omega) hs]
  exact Cert.ShrinkIdeal.Hand.select_of_iff _ _ (Cert.ShrinkIdeal.Hand.lane_iff j.val (by omega) _) _ _

end

end Cert.ShrinkReferenceIdeal.Hand

end
-- ==== Proof.ShrinkIdeal.Value.lean ====
/- The kernel and the reference end with the same results. -/
module

public import proofs.«01_k».proof.Proof.ShrinkIdeal.Output
public import proofs.«01_k».proof.Proof.ShrinkIdeal.RefValue

@[expose] public section

set_option maxRecDepth 16384

noncomputable section

namespace Cert.ShrinkIdeal.Hand

open Cert.ShrinkIdeal Cert.ShrinkIdeal.Gen
open Idealize.ShloMosaic Idealize.ShloMosaic.TcCoe Idealize.SL.Sem

variable (m : (ℓ : Loc nD τ sig) → Buf (Elt Ideal) ℓ)

/-- A segment's adapter, as the reference looks it up. -/
theorem ad_eq (hm : Hyps m) (c : Dev nD) (s : Fin 14) :
    (ValueIdx.ix1 (adT hm c s) : S23.Idx) = Cert.ShrinkReferenceIdeal.Hand.adOf (m ((c : Thread nD τ).loc main_arg7)) (hm c).sg_lt s := by
  rw [← ix1_eq_valueIdx]
  refine congrArg ix1 (Fin.ext ?_)
  show ((m ((c : Thread nD τ).loc main_arg7) : S14.Idx → BitVec 32) (ValueIdx.ix1 s)).toNat = _
  rw [← ix1_eq_valueIdx]

/-- The reference's first result at one element, on the kernel's arguments. -/
theorem hwin_reference (hm : Hyps m) (c : Dev nD) (s : Fin 14) (r : Fin 1280) (k : Fin 128)
    (hr : offs m c s.val (by omega) ≤ r.val ∧ r.val < offs m c (s.val + 1) (by omega)) :
    (Cert.ShrinkReferenceIdeal.Read.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S1280x128.Idx → EReal) (ix2 r k)
    = ((dats hm 0 c).arrAt 7 cfg0.N : S1280x128.Idx → EReal) (ix2 r k) := by
  have hs := Cert.ShrinkReferenceIdeal.Hand.seg_at (m ((c : Thread nD τ).loc main_arg6)) (hm c).of_le (fun a b ha hb => offs_mono hm c a b ha hb) s r hr.1 hr.2
  rw [hwin_kernel hm c s r k hr]
  refine (Cert.ShrinkReferenceIdeal.Hand.hwin_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (hm c).sg_lt (hm c).st_lt (hm c).rk_le s r hs k).trans ?_
  have e := ad_eq m hm c s
  have e3 : (m ((c : Thread nD τ).loc main_arg3) : S23.Idx → BitVec 32) (Cert.ShrinkReferenceIdeal.Hand.adOf (m ((c : Thread nD τ).loc main_arg7)) (hm c).sg_lt s) = stT hm c s := congrArg _ e.symm
  have e4 : (m ((c : Thread nD τ).loc main_arg4) : S23.Idx → BitVec 32) (Cert.ShrinkReferenceIdeal.Hand.adOf (m ((c : Thread nD τ).loc main_arg7)) (hm c).sg_lt s) = rkT hm c s := congrArg _ e.symm
  have e5 : (m ((c : Thread nD τ).loc main_arg5) : S23.Idx → EReal) (Cert.ShrinkReferenceIdeal.Hand.adOf (m ((c : Thread nD τ).loc main_arg7)) (hm c).sg_lt s) = scT hm c s := congrArg _ e.symm
  congr 1

/-- The first results are equal, where the arguments agree and the tables are in range. -/
theorem hwin_eq (hm : Hyps m) (m' : (ℓ : Loc Cert.ShrinkReferenceIdeal.nD Cert.ShrinkReferenceIdeal.τ Cert.ShrinkReferenceIdeal.sig) → Buf (Elt Ideal) ℓ) (c : Dev nD)
    (h : m' ((c.tc : Thread Cert.ShrinkReferenceIdeal.nD Cert.ShrinkReferenceIdeal.τ).loc Cert.ShrinkReferenceIdeal.main_arg0) = m ((c.tc : Thread nD τ).loc main_arg0)
      ∧ m' ((c.tc : Thread Cert.ShrinkReferenceIdeal.nD Cert.ShrinkReferenceIdeal.τ).loc Cert.ShrinkReferenceIdeal.main_arg1) = m ((c.tc : Thread nD τ).loc main_arg1)
      ∧ m' ((c.tc : Thread Cert.ShrinkReferenceIdeal.nD Cert.ShrinkReferenceIdeal.τ).loc Cert.ShrinkReferenceIdeal.main_arg2) = m ((c.tc : Thread nD τ).loc main_arg2)
      ∧ m' ((c.tc : Thread Cert.ShrinkReferenceIdeal.nD Cert.ShrinkReferenceIdeal.τ).loc Cert.ShrinkReferenceIdeal.main_arg3) = m ((c.tc : Thread nD τ).loc main_arg3)
      ∧ m' ((c.tc : Thread Cert.ShrinkReferenceIdeal.nD Cert.ShrinkReferenceIdeal.τ).loc Cert.ShrinkReferenceIdeal.main_arg4) = m ((c.tc : Thread nD τ).loc main_arg4)
      ∧ m' ((c.tc : Thread Cert.ShrinkReferenceIdeal.nD Cert.ShrinkReferenceIdeal.τ).loc Cert.ShrinkReferenceIdeal.main_arg5) = m ((c.tc : Thread nD τ).loc main_arg5)
      ∧ m' ((c.tc : Thread Cert.ShrinkReferenceIdeal.nD Cert.ShrinkReferenceIdeal.τ).loc Cert.ShrinkReferenceIdeal.main_arg6) = m ((c.tc : Thread nD τ).loc main_arg6)
      ∧ m' ((c.tc : Thread Cert.ShrinkReferenceIdeal.nD Cert.ShrinkReferenceIdeal.τ).loc Cert.ShrinkReferenceIdeal.main_arg7) = m ((c.tc : Thread nD τ).loc main_arg7)) :
    Cert.ShrinkReferenceIdeal.Value.res_main_v144 m' c = (dats hm 0 c).arrAt 7 cfg0.N := by
  obtain ⟨h0, h1, h2, h3, h4, h5, h6, h7⟩ := h
  refine (Cert.ShrinkReferenceIdeal.Read.val_main_v144_eq m' c).trans ?_
  refine Eq.trans (by rw [h0, h1, h2, h3, h4, h5, h6, h7]) (funext fun i => ?_ :
    (Cert.ShrinkReferenceIdeal.Read.val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S1280x128.Idx → EReal) = ((dats hm 0 c).arrAt 7 cfg0.N : S1280x128.Idx → EReal))
  obtain ⟨s, hs⟩ := seg_exists hm c (i 0)
  have e : i = ix2 (i 0) (i 1) := by funext a; fin_cases a <;> rfl
  rw [e]
  exact hwin_reference m hm c s (i 0) (i 1) hs

/-- The reference's second result at one element, on the kernel's arguments. -/
theorem lora_reference (hm : Hyps m) (c : Dev nD) (s : Fin 14) (r : Fin 1280) (k : Fin 96)
    (hr : offs m c s.val (by omega) ≤ r.val ∧ r.val < offs m c (s.val + 1) (by omega)) :
    (Cert.ShrinkReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S1280x96.Idx → EReal) (ix2 r k)
    = ((dats hm 0 c).arrAt 8 cfg0.N : S1280x96.Idx → EReal) (ix2 r k) := by
  have hs := Cert.ShrinkReferenceIdeal.Hand.seg_at (m ((c : Thread nD τ).loc main_arg6)) (hm c).of_le (fun a b ha hb => offs_mono hm c a b ha hb) s r hr.1 hr.2
  rw [lora_kernel hm c s r k hr]
  refine (Cert.ShrinkReferenceIdeal.Hand.lora_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (hm c).sg_lt (hm c).st_lt s r hs k).trans ?_
  have e := ad_eq m hm c s
  have e3 : (m ((c : Thread nD τ).loc main_arg3) : S23.Idx → BitVec 32) (Cert.ShrinkReferenceIdeal.Hand.adOf (m ((c : Thread nD τ).loc main_arg7)) (hm c).sg_lt s) = stT hm c s := congrArg _ e.symm
  have e4 : (m ((c : Thread nD τ).loc main_arg4) : S23.Idx → BitVec 32) (Cert.ShrinkReferenceIdeal.Hand.adOf (m ((c : Thread nD τ).loc main_arg7)) (hm c).sg_lt s) = rkT hm c s := congrArg _ e.symm
  have e5 : (m ((c : Thread nD τ).loc main_arg5) : S23.Idx → EReal) (Cert.ShrinkReferenceIdeal.Hand.adOf (m ((c : Thread nD τ).loc main_arg7)) (hm c).sg_lt s) = scT hm c s := congrArg _ e.symm
  congr 1

/-- The second results are equal, where the arguments agree and the tables are in range. -/
theorem lora_eq (hm : Hyps m) (m' : (ℓ : Loc Cert.ShrinkReferenceIdeal.nD Cert.ShrinkReferenceIdeal.τ Cert.ShrinkReferenceIdeal.sig) → Buf (Elt Ideal) ℓ) (c : Dev nD)
    (h : m' ((c.tc : Thread Cert.ShrinkReferenceIdeal.nD Cert.ShrinkReferenceIdeal.τ).loc Cert.ShrinkReferenceIdeal.main_arg0) = m ((c.tc : Thread nD τ).loc main_arg0)
      ∧ m' ((c.tc : Thread Cert.ShrinkReferenceIdeal.nD Cert.ShrinkReferenceIdeal.τ).loc Cert.ShrinkReferenceIdeal.main_arg1) = m ((c.tc : Thread nD τ).loc main_arg1)
      ∧ m' ((c.tc : Thread Cert.ShrinkReferenceIdeal.nD Cert.ShrinkReferenceIdeal.τ).loc Cert.ShrinkReferenceIdeal.main_arg2) = m ((c.tc : Thread nD τ).loc main_arg2)
      ∧ m' ((c.tc : Thread Cert.ShrinkReferenceIdeal.nD Cert.ShrinkReferenceIdeal.τ).loc Cert.ShrinkReferenceIdeal.main_arg3) = m ((c.tc : Thread nD τ).loc main_arg3)
      ∧ m' ((c.tc : Thread Cert.ShrinkReferenceIdeal.nD Cert.ShrinkReferenceIdeal.τ).loc Cert.ShrinkReferenceIdeal.main_arg4) = m ((c.tc : Thread nD τ).loc main_arg4)
      ∧ m' ((c.tc : Thread Cert.ShrinkReferenceIdeal.nD Cert.ShrinkReferenceIdeal.τ).loc Cert.ShrinkReferenceIdeal.main_arg5) = m ((c.tc : Thread nD τ).loc main_arg5)
      ∧ m' ((c.tc : Thread Cert.ShrinkReferenceIdeal.nD Cert.ShrinkReferenceIdeal.τ).loc Cert.ShrinkReferenceIdeal.main_arg6) = m ((c.tc : Thread nD τ).loc main_arg6)
      ∧ m' ((c.tc : Thread Cert.ShrinkReferenceIdeal.nD Cert.ShrinkReferenceIdeal.τ).loc Cert.ShrinkReferenceIdeal.main_arg7) = m ((c.tc : Thread nD τ).loc main_arg7)) :
    Cert.ShrinkReferenceIdeal.Value.res_main_v83 m' c = (dats hm 0 c).arrAt 8 cfg0.N := by
  obtain ⟨h0, h1, h2, h3, h4, h5, h6, h7⟩ := h
  refine (Cert.ShrinkReferenceIdeal.Read.val_main_v83_eq m' c).trans ?_
  refine Eq.trans (by rw [h0, h1, h2, h3, h4, h5, h6, h7]) (funext fun i => ?_ :
    (Cert.ShrinkReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S1280x96.Idx → EReal) = ((dats hm 0 c).arrAt 8 cfg0.N : S1280x96.Idx → EReal))
  obtain ⟨s, hs⟩ := seg_exists hm c (i 0)
  have e : i = ix2 (i 0) (i 1) := by funext a; fin_cases a <;> rfl
  rw [e]
  exact lora_reference m hm c s (i 0) (i 1) hs

end Cert.ShrinkIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_tables_in_range
public import proofs.«01_k».proof.Proof.Gen.ReferenceIdeal.Run
public import proofs.«01_k».proof.Proof.Gen.ReferenceIdeal.Read
public import proofs.«01_k».proof.Proof.Gen.Shrink
public import proofs.«01_k».proof.Proof.Gen.Shrink.Skeleton
public import proofs.«01_k».proof.Proof.Gen.Shrink.Launch
public import proofs.«01_k».proof.Proof.Gen.Shrink.Points
public import proofs.«01_k».proof.Proof.Gen.Shrink.Frame
public import proofs.«01_k».proof.Proof.Gen.ShrinkIdeal
public import proofs.«01_k».proof.Proof.Gen.ShrinkIdeal.Skeleton
public import proofs.«01_k».proof.Proof.Gen.ShrinkIdeal.Launch
public import proofs.«01_k».proof.Proof.Gen.ShrinkIdeal.Points
public import proofs.«01_k».proof.Proof.Gen.ShrinkIdeal.Frame
public import proofs.«01_k».proof.Proof.Gen.ShrinkReferenceIdeal
public import proofs.«01_k».proof.Proof.Gen.Pre_shrink_tables_in_range
public import proofs.«01_k».proof.Proof.Gen.ShrinkReferenceIdeal.Run
public import proofs.«01_k».proof.Proof.Gen.ShrinkReferenceIdeal.Read
public import proofs.«01_k».proof.Proof.Frame
public import proofs.«01_k».proof.Proof.Ideal.Frame
public import proofs.«01_k».proof.Proof.Ideal.Value
public import proofs.«01_k».proof.Proof.Shrink.Frame
public import proofs.«01_k».proof.Proof.ShrinkIdeal.Frame
public import proofs.«01_k».proof.Proof.ShrinkIdeal.Value
public import Idealize.ShloMosaic.Adequacy
public import Idealize.ShloMosaic.Init

@[expose] public section

noncomputable section

namespace Cert.Proof

open Idealize.ShloMosaic Idealize.SL.Sem

/-- The kernel terminates, keeps its arguments and returns its counters to zero. -/
theorem frame_kernel : Cert.quiescent_Kernel (hKernel := Cert.Kernel.Gen.facts) (hPre_tables_in_range := Cert.Pre_tables_in_range.Gen.facts) :=
  fun _ g h => Cert.Kernel.Hand.quiescent g fun c => Cert.Pre_tables_in_range.tables_of_fn _ _ _ _ _ _ _ _ _ _ (h c)

/-- So does its idealization. -/
theorem frame_ideal : Cert.quiescent_KernelIdeal (hKernelIdeal := Cert.KernelIdeal.Gen.facts) (hPre_tables_in_range := Cert.Pre_tables_in_range.Gen.facts) :=
  fun _ g h => Cert.KernelIdeal.Hand.quiescent g fun c => Cert.Pre_tables_in_range.tables_of_fn _ _ _ _ _ _ _ _ _ _ (h c)

/-- So does the reference, from any memory; -/
theorem frame_reference : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- in particular from one whose tables are in range. -/
theorem frame_reference_pre : Cert.quiescent_ReferenceIdeal_pre_tables_in_range (hReferenceIdeal := Cert.ReferenceIdeal.Gen.facts) (hPre_tables_in_range := Cert.Pre_tables_in_range.Gen.facts) :=
  fun m g _ => frame_reference m g trivial

/-- Over the extended reals the kernel and the reference end with the same result. -/
theorem algebraic : Cert.algebraic_KernelIdeal_ReferenceIdeal (hKernelIdeal := Cert.KernelIdeal.Gen.facts) (hReferenceIdeal := Cert.ReferenceIdeal.Gen.facts) (hPre_tables_in_range := Cert.Pre_tables_in_range.Gen.facts) := by
  intro m g m' g' hpre hargs
  have hm : Cert.KernelIdeal.Hand.Hyps m := fun c => Cert.Pre_tables_in_range.tables_of_fn _ _ _ _ _ _ _ _ _ _ (hpre c)
  refine ⟨fun c => (Cert.KernelIdeal.Hand.dats hm 0 c).arrAt 9 Cert.KernelIdeal.cfg0.N, ?_, ?_⟩
  · exact (θ_run Cert.KernelIdeal.defs _ _).mono (fun r h c => ⟨(h.1 c).1 9, Cert.KernelIdeal.Hand.args_kept hm h.1 c⟩)
      (Cert.KernelIdeal.Hand.run_main g hm)
  · exact (θ_run Cert.ReferenceIdeal.defs _ _).mono
      (fun r h c => ⟨(h c).1.trans (Cert.KernelIdeal.Hand.result_eq m hm m' c (hargs c)), (h c).2⟩) (Cert.ReferenceIdeal.Value.run (F := Ideal) m' g')

/-- The `shrink` call terminates, keeps its arguments and returns its counters to zero. -/
theorem frame_shrink : Cert.quiescent_Shrink (hShrink := Cert.Shrink.Gen.facts) (hPre_shrink_tables_in_range := Cert.Pre_shrink_tables_in_range.Gen.facts) :=
  fun _ g h => Cert.Shrink.Hand.quiescent g fun c => Cert.Pre_shrink_tables_in_range.tables_of_fn _ _ _ _ _ _ _ _ (h c)

/-- So does its idealization. -/
theorem frame_shrink_ideal : Cert.quiescent_ShrinkIdeal (hShrinkIdeal := Cert.ShrinkIdeal.Gen.facts) (hPre_shrink_tables_in_range := Cert.Pre_shrink_tables_in_range.Gen.facts) :=
  fun _ g h => Cert.ShrinkIdeal.Hand.quiescent g fun c => Cert.Pre_shrink_tables_in_range.tables_of_fn _ _ _ _ _ _ _ _ (h c)

/-- So does its reference, from any memory; -/
theorem frame_shrink_reference : Cert.quiescent_ShrinkReferenceIdeal (hShrinkReferenceIdeal := Cert.ShrinkReferenceIdeal.Gen.facts) :=
  fun m g _ => (θ_run Cert.ShrinkReferenceIdeal.defs _ _).mono
    (fun r h => ⟨fun c => (h c).2.2, sem_eq_zero_of_no_sems (by decide) r.2⟩) (Cert.ShrinkReferenceIdeal.Value.run (F := Ideal) m g)

/-- in particular from one whose tables are in range. -/
theorem frame_shrink_reference_pre : Cert.quiescent_ShrinkReferenceIdeal_pre_shrink_tables_in_range (hShrinkReferenceIdeal := Cert.ShrinkReferenceIdeal.Gen.facts) (hPre_shrink_tables_in_range := Cert.Pre_shrink_tables_in_range.Gen.facts) :=
  fun m g _ => frame_shrink_reference m g trivial

/-- Over the extended reals the `shrink` call and its reference end with the same two results. -/
theorem algebraic_shrink : Cert.algebraic_ShrinkIdeal_ShrinkReferenceIdeal (hShrinkIdeal := Cert.ShrinkIdeal.Gen.facts) (hShrinkReferenceIdeal := Cert.ShrinkReferenceIdeal.Gen.facts) (hPre_shrink_tables_in_range := Cert.Pre_shrink_tables_in_range.Gen.facts) := by
  intro m g m' g' hpre hargs
  have hm : Cert.ShrinkIdeal.Hand.Hyps m := fun c => Cert.Pre_shrink_tables_in_range.tables_of_fn _ _ _ _ _ _ _ _ (hpre c)
  refine ⟨fun c => (Cert.ShrinkIdeal.Hand.dats hm 0 c).arrAt 7 Cert.ShrinkIdeal.cfg0.N,
    fun c => (Cert.ShrinkIdeal.Hand.dats hm 0 c).arrAt 8 Cert.ShrinkIdeal.cfg0.N, ?_, ?_⟩
  · exact (θ_run Cert.ShrinkIdeal.defs _ _).mono (fun r h c => ⟨(h.1 c).1 7, (h.1 c).1 8, Cert.ShrinkIdeal.Hand.args_kept hm h.1 c⟩)
      (Cert.ShrinkIdeal.Hand.run_main g hm)
  · exact (θ_run Cert.ShrinkReferenceIdeal.defs _ _).mono
      (fun r h c => ⟨(h c).1.trans (Cert.ShrinkIdeal.Hand.hwin_eq m hm m' c (hargs c)),
        (h c).2.1.trans (Cert.ShrinkIdeal.Hand.lora_eq m hm m' c (hargs c)), (h c).2.2⟩) (Cert.ShrinkReferenceIdeal.Value.run (F := Ideal) m' g')

theorem claim : Cert.Claim := ⟨Cert.Kernel.Gen.facts, Cert.KernelIdeal.Gen.facts, Cert.ReferenceIdeal.Gen.facts,
  Cert.Shrink.Gen.facts, Cert.ShrinkIdeal.Gen.facts, Cert.ShrinkReferenceIdeal.Gen.facts,
  Cert.Pre_tables_in_range.Gen.facts, Cert.Pre_shrink_tables_in_range.Gen.facts,
  frame_kernel, frame_ideal, frame_reference, frame_reference_pre,
  frame_shrink, frame_shrink_ideal, frame_shrink_reference, frame_shrink_reference_pre,
  trivial, algebraic, trivial, algebraic_shrink⟩

end Cert.Proof

end
